-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_WholeIdeal (m : (ℓ : Loc Cert.WholeIdeal.nD Cert.WholeIdeal.τ Cert.WholeIdeal.sig) → Buf (Elt Ideal) ℓ) : Prop :=
  True

def Pre_Whole (m : (ℓ : Loc Cert.Whole.nD Cert.Whole.τ Cert.Whole.sig) → Buf (Elt Bits) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpWholeIdeal (m : (ℓ : Loc Cert.UpWholeIdeal.nD Cert.UpWholeIdeal.τ Cert.UpWholeIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownWholeIdeal (m : (ℓ : Loc Cert.DownWholeIdeal.nD Cert.DownWholeIdeal.τ Cert.DownWholeIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixWholeIdeal (m : (ℓ : Loc Cert.MixWholeIdeal.nD Cert.MixWholeIdeal.τ Cert.MixWholeIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutWholeIdeal (m : (ℓ : Loc Cert.OutWholeIdeal.nD Cert.OutWholeIdeal.τ Cert.OutWholeIdeal.sig) → Buf (Elt Ideal) ℓ) : Prop :=
  True

def Pre_Pair (m : (ℓ : Loc Cert.Pair.nD Cert.Pair.τ Cert.Pair.sig) → Buf (Elt Bits) ℓ) : Prop :=
  True

def Pre_PairIdeal (m : (ℓ : Loc Cert.PairIdeal.nD Cert.PairIdeal.τ Cert.PairIdeal.sig) → Buf (Elt Ideal) ℓ) : Prop :=
  True

def Pre_PairWholeIdeal (m : (ℓ : Loc Cert.PairWholeIdeal.nD Cert.PairWholeIdeal.τ Cert.PairWholeIdeal.sig) → Buf (Elt Ideal) ℓ) : Prop :=
  True

def Pre_Back (m : (ℓ : Loc Cert.Back.nD Cert.Back.τ Cert.Back.sig) → Buf (Elt Bits) ℓ) : Prop :=
  True

def Pre_BackIdeal (m : (ℓ : Loc Cert.BackIdeal.nD Cert.BackIdeal.τ Cert.BackIdeal.sig) → Buf (Elt Ideal) ℓ) : Prop :=
  True

def Pre_BackWholeIdeal (m : (ℓ : Loc Cert.BackWholeIdeal.nD Cert.BackWholeIdeal.τ Cert.BackWholeIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossWholeIdeal (m : (ℓ : Loc Cert.LossWholeIdeal.nD Cert.LossWholeIdeal.τ Cert.LossWholeIdeal.sig) → Buf (Elt Ideal) ℓ) : Prop :=
  True

def Pre_GradUp (m : (ℓ : Loc Cert.GradUp.nD Cert.GradUp.τ Cert.GradUp.sig) → Buf (Elt Bits) ℓ) : Prop :=
  True

def Pre_GradUpIdeal (m : (ℓ : Loc Cert.GradUpIdeal.nD Cert.GradUpIdeal.τ Cert.GradUpIdeal.sig) → Buf (Elt Ideal) ℓ) : Prop :=
  True

def Pre_GradUpWholeIdeal (m : (ℓ : Loc Cert.GradUpWholeIdeal.nD Cert.GradUpWholeIdeal.τ Cert.GradUpWholeIdeal.sig) → Buf (Elt Ideal) ℓ) : Prop :=
  True

def Pre_GradDown (m : (ℓ : Loc Cert.GradDown.nD Cert.GradDown.τ Cert.GradDown.sig) → Buf (Elt Bits) ℓ) : Prop :=
  True

def Pre_GradDownIdeal (m : (ℓ : Loc Cert.GradDownIdeal.nD Cert.GradDownIdeal.τ Cert.GradDownIdeal.sig) → Buf (Elt Ideal) ℓ) : Prop :=
  True

def Pre_GradDownWholeIdeal (m : (ℓ : Loc Cert.GradDownWholeIdeal.nD Cert.GradDownWholeIdeal.τ Cert.GradDownWholeIdeal.sig) → Buf (Elt Ideal) ℓ) : Prop :=
  True

def Pre_Forth (m : (ℓ : Loc Cert.Forth.nD Cert.Forth.τ Cert.Forth.sig) → Buf (Elt Bits) ℓ) : Prop :=
  True

def Pre_ForthIdeal (m : (ℓ : Loc Cert.ForthIdeal.nD Cert.ForthIdeal.τ Cert.ForthIdeal.sig) → Buf (Elt Ideal) ℓ) : Prop :=
  True

def Pre_ForthWholeIdeal (m : (ℓ : Loc Cert.ForthWholeIdeal.nD Cert.ForthWholeIdeal.τ Cert.ForthWholeIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjWholeIdeal (m : (ℓ : Loc Cert.ProjWholeIdeal.nD Cert.ProjWholeIdeal.τ Cert.ProjWholeIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActWholeIdeal (m : (ℓ : Loc Cert.ActWholeIdeal.nD Cert.ActWholeIdeal.τ Cert.ActWholeIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeWholeIdeal (m : (ℓ : Loc Cert.MergeWholeIdeal.nD Cert.MergeWholeIdeal.τ Cert.MergeWholeIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailWholeIdeal (m : (ℓ : Loc Cert.TailWholeIdeal.nD Cert.TailWholeIdeal.τ Cert.TailWholeIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7)
      ∧ r.2.mem ((c.tc : Thread Cert.Reference.nD Cert.Reference.τ).loc Cert.Reference.main_arg8) = m ((c.tc : Thread Cert.Reference.nD Cert.Reference.τ).loc Cert.Reference.main_arg8))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2)
      ∧ r.2.mem ((c.tc : Thread Cert.Gather.nD Cert.Gather.τ).loc Cert.Gather.main_arg3) = m ((c.tc : Thread Cert.Gather.nD Cert.Gather.τ).loc Cert.Gather.main_arg3)
      ∧ r.2.mem ((c.tc : Thread Cert.Gather.nD Cert.Gather.τ).loc Cert.Gather.main_arg4) = m ((c.tc : Thread Cert.Gather.nD Cert.Gather.τ).loc Cert.Gather.main_arg4)
      ∧ r.2.mem ((c.tc : Thread Cert.Gather.nD Cert.Gather.τ).loc Cert.Gather.main_arg5) = m ((c.tc : Thread Cert.Gather.nD Cert.Gather.τ).loc Cert.Gather.main_arg5)
      ∧ r.2.mem ((c.tc : Thread Cert.Gather.nD Cert.Gather.τ).loc Cert.Gather.main_arg6) = m ((c.tc : Thread Cert.Gather.nD Cert.Gather.τ).loc Cert.Gather.main_arg6)
      ∧ r.2.mem ((c.tc : Thread Cert.Gather.nD Cert.Gather.τ).loc Cert.Gather.main_arg7) = m ((c.tc : Thread Cert.Gather.nD Cert.Gather.τ).loc Cert.Gather.main_arg7)
      ∧ r.2.mem ((c.tc : Thread Cert.Gather.nD Cert.Gather.τ).loc Cert.Gather.main_arg8) = m ((c.tc : Thread Cert.Gather.nD Cert.Gather.τ).loc Cert.Gather.main_arg8))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
      ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
      ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4)
      ∧ r.2.mem ((c.tc : Thread Cert.GatherIdeal.nD Cert.GatherIdeal.τ).loc Cert.GatherIdeal.main_arg5) = m ((c.tc : Thread Cert.GatherIdeal.nD Cert.GatherIdeal.τ).loc Cert.GatherIdeal.main_arg5)
      ∧ r.2.mem ((c.tc : Thread Cert.GatherIdeal.nD Cert.GatherIdeal.τ).loc Cert.GatherIdeal.main_arg6) = m ((c.tc : Thread Cert.GatherIdeal.nD Cert.GatherIdeal.τ).loc Cert.GatherIdeal.main_arg6)
      ∧ r.2.mem ((c.tc : Thread Cert.GatherIdeal.nD Cert.GatherIdeal.τ).loc Cert.GatherIdeal.main_arg7) = m ((c.tc : Thread Cert.GatherIdeal.nD Cert.GatherIdeal.τ).loc Cert.GatherIdeal.main_arg7)
      ∧ r.2.mem ((c.tc : Thread Cert.GatherIdeal.nD Cert.GatherIdeal.τ).loc Cert.GatherIdeal.main_arg8) = m ((c.tc : Thread Cert.GatherIdeal.nD Cert.GatherIdeal.τ).loc Cert.GatherIdeal.main_arg8))
      ∧ r.2.sem = fun _ => 0)

def quiescent_WholeIdeal [hWholeIdeal : Cert.WholeIdeal.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal m →
    θ_run (Cert.WholeIdeal.defs (F := Ideal)) (onTc (τ := Cert.WholeIdeal.τ) (Cert.WholeIdeal.main (F := Ideal))) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
      ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
      ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4)
      ∧ r.2.mem ((c.tc : Thread Cert.WholeIdeal.nD Cert.WholeIdeal.τ).loc Cert.WholeIdeal.main_arg5) = m ((c.tc : Thread Cert.WholeIdeal.nD Cert.WholeIdeal.τ).loc Cert.WholeIdeal.main_arg5)
      ∧ r.2.mem ((c.tc : Thread Cert.WholeIdeal.nD Cert.WholeIdeal.τ).loc Cert.WholeIdeal.main_arg6) = m ((c.tc : Thread Cert.WholeIdeal.nD Cert.WholeIdeal.τ).loc Cert.WholeIdeal.main_arg6)
      ∧ r.2.mem ((c.tc : Thread Cert.WholeIdeal.nD Cert.WholeIdeal.τ).loc Cert.WholeIdeal.main_arg7) = m ((c.tc : Thread Cert.WholeIdeal.nD Cert.WholeIdeal.τ).loc Cert.WholeIdeal.main_arg7)
      ∧ r.2.mem ((c.tc : Thread Cert.WholeIdeal.nD Cert.WholeIdeal.τ).loc Cert.WholeIdeal.main_arg8) = m ((c.tc : Thread Cert.WholeIdeal.nD Cert.WholeIdeal.τ).loc Cert.WholeIdeal.main_arg8))
      ∧ r.2.sem = fun _ => 0)

def quiescent_Whole [hWhole : Cert.Whole.Facts] : Prop :=
  ∀ (m : (ℓ : Loc Cert.Whole.nD Cert.Whole.τ Cert.Whole.sig) → Buf (Elt Bits) ℓ) (g : Dev Cert.Whole.nD → PrngReg), Pre_Whole m →
    θ_run (Cert.Whole.defs (F := Bits)) (onTc (τ := Cert.Whole.τ) (Cert.Whole.main (F := Bits))) ⟨m, fun _ => 0, g⟩ (fun r => (∀ c : Dev Cert.Whole.nD,
      r.2.mem ((c.tc : Thread Cert.Whole.nD Cert.Whole.τ).loc Cert.Whole.main_arg0) = m ((c.tc : Thread Cert.Whole.nD Cert.Whole.τ).loc Cert.Whole.main_arg0)
      ∧ r.2.mem ((c.tc : Thread Cert.Whole.nD Cert.Whole.τ).loc Cert.Whole.main_arg1) = m ((c.tc : Thread Cert.Whole.nD Cert.Whole.τ).loc Cert.Whole.main_arg1)
      ∧ r.2.mem ((c.tc : Thread Cert.Whole.nD Cert.Whole.τ).loc Cert.Whole.main_arg2) = m ((c.tc : Thread Cert.Whole.nD Cert.Whole.τ).loc Cert.Whole.main_arg2)
      ∧ r.2.mem ((c.tc : Thread Cert.Whole.nD Cert.Whole.τ).loc Cert.Whole.main_arg3) = m ((c.tc : Thread Cert.Whole.nD Cert.Whole.τ).loc Cert.Whole.main_arg3)
      ∧ r.2.mem ((c.tc : Thread Cert.Whole.nD Cert.Whole.τ).loc Cert.Whole.main_arg4) = m ((c.tc : Thread Cert.Whole.nD Cert.Whole.τ).loc Cert.Whole.main_arg4)
      ∧ r.2.mem ((c.tc : Thread Cert.Whole.nD Cert.Whole.τ).loc Cert.Whole.main_arg5) = m ((c.tc : Thread Cert.Whole.nD Cert.Whole.τ).loc Cert.Whole.main_arg5)
      ∧ r.2.mem ((c.tc : Thread Cert.Whole.nD Cert.Whole.τ).loc Cert.Whole.main_arg6) = m ((c.tc : Thread Cert.Whole.nD Cert.Whole.τ).loc Cert.Whole.main_arg6)
      ∧ r.2.mem ((c.tc : Thread Cert.Whole.nD Cert.Whole.τ).loc Cert.Whole.main_arg7) = m ((c.tc : Thread Cert.Whole.nD Cert.Whole.τ).loc Cert.Whole.main_arg7)
      ∧ r.2.mem ((c.tc : Thread Cert.Whole.nD Cert.Whole.τ).loc Cert.Whole.main_arg8) = m ((c.tc : Thread Cert.Whole.nD Cert.Whole.τ).loc Cert.Whole.main_arg8))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpWholeIdeal [hUpWholeIdeal : Cert.UpWholeIdeal.Facts] : Prop :=
  ∀ (m : (ℓ : Loc Cert.UpWholeIdeal.nD Cert.UpWholeIdeal.τ Cert.UpWholeIdeal.sig) → Buf (Elt Ideal) ℓ) (g : Dev Cert.UpWholeIdeal.nD → PrngReg), Pre_UpWholeIdeal m →
    θ_run (Cert.UpWholeIdeal.defs (F := Ideal)) (onTc (τ := Cert.UpWholeIdeal.τ) (Cert.UpWholeIdeal.main (F := Ideal))) ⟨m, fun _ => 0, g⟩ (fun r => (∀ c : Dev Cert.UpWholeIdeal.nD,
      r.2.mem ((c.tc : Thread Cert.UpWholeIdeal.nD Cert.UpWholeIdeal.τ).loc Cert.UpWholeIdeal.main_arg0) = m ((c.tc : Thread Cert.UpWholeIdeal.nD Cert.UpWholeIdeal.τ).loc Cert.UpWholeIdeal.main_arg0)
      ∧ r.2.mem ((c.tc : Thread Cert.UpWholeIdeal.nD Cert.UpWholeIdeal.τ).loc Cert.UpWholeIdeal.main_arg1) = m ((c.tc : Thread Cert.UpWholeIdeal.nD Cert.UpWholeIdeal.τ).loc Cert.UpWholeIdeal.main_arg1)
      ∧ r.2.mem ((c.tc : Thread Cert.UpWholeIdeal.nD Cert.UpWholeIdeal.τ).loc Cert.UpWholeIdeal.main_arg2) = m ((c.tc : Thread Cert.UpWholeIdeal.nD Cert.UpWholeIdeal.τ).loc Cert.UpWholeIdeal.main_arg2)
      ∧ r.2.mem ((c.tc : Thread Cert.UpWholeIdeal.nD Cert.UpWholeIdeal.τ).loc Cert.UpWholeIdeal.main_arg3) = m ((c.tc : Thread Cert.UpWholeIdeal.nD Cert.UpWholeIdeal.τ).loc Cert.UpWholeIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownWholeIdeal [hDownWholeIdeal : Cert.DownWholeIdeal.Facts] : Prop :=
  ∀ (m : (ℓ : Loc Cert.DownWholeIdeal.nD Cert.DownWholeIdeal.τ Cert.DownWholeIdeal.sig) → Buf (Elt Ideal) ℓ) (g : Dev Cert.DownWholeIdeal.nD → PrngReg), Pre_DownWholeIdeal m →
    θ_run (Cert.DownWholeIdeal.defs (F := Ideal)) (onTc (τ := Cert.DownWholeIdeal.τ) (Cert.DownWholeIdeal.main (F := Ideal))) ⟨m, fun _ => 0, g⟩ (fun r => (∀ c : Dev Cert.DownWholeIdeal.nD,
      r.2.mem ((c.tc : Thread Cert.DownWholeIdeal.nD Cert.DownWholeIdeal.τ).loc Cert.DownWholeIdeal.main_arg0) = m ((c.tc : Thread Cert.DownWholeIdeal.nD Cert.DownWholeIdeal.τ).loc Cert.DownWholeIdeal.main_arg0)
      ∧ r.2.mem ((c.tc : Thread Cert.DownWholeIdeal.nD Cert.DownWholeIdeal.τ).loc Cert.DownWholeIdeal.main_arg1) = m ((c.tc : Thread Cert.DownWholeIdeal.nD Cert.DownWholeIdeal.τ).loc Cert.DownWholeIdeal.main_arg1)
      ∧ r.2.mem ((c.tc : Thread Cert.DownWholeIdeal.nD Cert.DownWholeIdeal.τ).loc Cert.DownWholeIdeal.main_arg2) = m ((c.tc : Thread Cert.DownWholeIdeal.nD Cert.DownWholeIdeal.τ).loc Cert.DownWholeIdeal.main_arg2)
      ∧ r.2.mem ((c.tc : Thread Cert.DownWholeIdeal.nD Cert.DownWholeIdeal.τ).loc Cert.DownWholeIdeal.main_arg3) = m ((c.tc : Thread Cert.DownWholeIdeal.nD Cert.DownWholeIdeal.τ).loc Cert.DownWholeIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3))
      ∧ r.2.sem = fun _ => 0)

def quiescent_MixWholeIdeal [hMixWholeIdeal : Cert.MixWholeIdeal.Facts] : Prop :=
  ∀ (m : (ℓ : Loc Cert.MixWholeIdeal.nD Cert.MixWholeIdeal.τ Cert.MixWholeIdeal.sig) → Buf (Elt Ideal) ℓ) (g : Dev Cert.MixWholeIdeal.nD → PrngReg), Pre_MixWholeIdeal m →
    θ_run (Cert.MixWholeIdeal.defs (F := Ideal)) (onTc (τ := Cert.MixWholeIdeal.τ) (Cert.MixWholeIdeal.main (F := Ideal))) ⟨m, fun _ => 0, g⟩ (fun r => (∀ c : Dev Cert.MixWholeIdeal.nD,
      r.2.mem ((c.tc : Thread Cert.MixWholeIdeal.nD Cert.MixWholeIdeal.τ).loc Cert.MixWholeIdeal.main_arg0) = m ((c.tc : Thread Cert.MixWholeIdeal.nD Cert.MixWholeIdeal.τ).loc Cert.MixWholeIdeal.main_arg0)
      ∧ r.2.mem ((c.tc : Thread Cert.MixWholeIdeal.nD Cert.MixWholeIdeal.τ).loc Cert.MixWholeIdeal.main_arg1) = m ((c.tc : Thread Cert.MixWholeIdeal.nD Cert.MixWholeIdeal.τ).loc Cert.MixWholeIdeal.main_arg1)
      ∧ r.2.mem ((c.tc : Thread Cert.MixWholeIdeal.nD Cert.MixWholeIdeal.τ).loc Cert.MixWholeIdeal.main_arg2) = m ((c.tc : Thread Cert.MixWholeIdeal.nD Cert.MixWholeIdeal.τ).loc Cert.MixWholeIdeal.main_arg2)
      ∧ r.2.mem ((c.tc : Thread Cert.MixWholeIdeal.nD Cert.MixWholeIdeal.τ).loc Cert.MixWholeIdeal.main_arg3) = m ((c.tc : Thread Cert.MixWholeIdeal.nD Cert.MixWholeIdeal.τ).loc Cert.MixWholeIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutWholeIdeal [hOutWholeIdeal : Cert.OutWholeIdeal.Facts] : Prop :=
  ∀ (m : (ℓ : Loc Cert.OutWholeIdeal.nD Cert.OutWholeIdeal.τ Cert.OutWholeIdeal.sig) → Buf (Elt Ideal) ℓ) (g : Dev Cert.OutWholeIdeal.nD → PrngReg), Pre_OutWholeIdeal m →
    θ_run (Cert.OutWholeIdeal.defs (F := Ideal)) (onTc (τ := Cert.OutWholeIdeal.τ) (Cert.OutWholeIdeal.main (F := Ideal))) ⟨m, fun _ => 0, g⟩ (fun r => (∀ c : Dev Cert.OutWholeIdeal.nD,
      r.2.mem ((c.tc : Thread Cert.OutWholeIdeal.nD Cert.OutWholeIdeal.τ).loc Cert.OutWholeIdeal.main_arg0) = m ((c.tc : Thread Cert.OutWholeIdeal.nD Cert.OutWholeIdeal.τ).loc Cert.OutWholeIdeal.main_arg0)
      ∧ r.2.mem ((c.tc : Thread Cert.OutWholeIdeal.nD Cert.OutWholeIdeal.τ).loc Cert.OutWholeIdeal.main_arg1) = m ((c.tc : Thread Cert.OutWholeIdeal.nD Cert.OutWholeIdeal.τ).loc Cert.OutWholeIdeal.main_arg1)
      ∧ r.2.mem ((c.tc : Thread Cert.OutWholeIdeal.nD Cert.OutWholeIdeal.τ).loc Cert.OutWholeIdeal.main_arg2) = m ((c.tc : Thread Cert.OutWholeIdeal.nD Cert.OutWholeIdeal.τ).loc Cert.OutWholeIdeal.main_arg2)
      ∧ r.2.mem ((c.tc : Thread Cert.OutWholeIdeal.nD Cert.OutWholeIdeal.τ).loc Cert.OutWholeIdeal.main_arg3) = m ((c.tc : Thread Cert.OutWholeIdeal.nD Cert.OutWholeIdeal.τ).loc Cert.OutWholeIdeal.main_arg3))
      ∧ r.2.sem = fun _ => 0)

def quiescent_Pair [hPair : Cert.Pair.Facts] : Prop :=
  ∀ (m : (ℓ : Loc Cert.Pair.nD Cert.Pair.τ Cert.Pair.sig) → Buf (Elt Bits) ℓ) (g : Dev Cert.Pair.nD → PrngReg), Pre_Pair m →
    θ_run (Cert.Pair.defs (F := Bits)) (onTc (τ := Cert.Pair.τ) (Cert.Pair.main (F := Bits))) ⟨m, fun _ => 0, g⟩ (fun r => (∀ c : Dev Cert.Pair.nD,
      r.2.mem ((c.tc : Thread Cert.Pair.nD Cert.Pair.τ).loc Cert.Pair.main_arg0) = m ((c.tc : Thread Cert.Pair.nD Cert.Pair.τ).loc Cert.Pair.main_arg0)
      ∧ r.2.mem ((c.tc : Thread Cert.Pair.nD Cert.Pair.τ).loc Cert.Pair.main_arg1) = m ((c.tc : Thread Cert.Pair.nD Cert.Pair.τ).loc Cert.Pair.main_arg1)
      ∧ r.2.mem ((c.tc : Thread Cert.Pair.nD Cert.Pair.τ).loc Cert.Pair.main_arg2) = m ((c.tc : Thread Cert.Pair.nD Cert.Pair.τ).loc Cert.Pair.main_arg2)
      ∧ r.2.mem ((c.tc : Thread Cert.Pair.nD Cert.Pair.τ).loc Cert.Pair.main_arg3) = m ((c.tc : Thread Cert.Pair.nD Cert.Pair.τ).loc Cert.Pair.main_arg3))
      ∧ r.2.sem = fun _ => 0)

def quiescent_PairIdeal [hPairIdeal : Cert.PairIdeal.Facts] : Prop :=
  ∀ (m : (ℓ : Loc Cert.PairIdeal.nD Cert.PairIdeal.τ Cert.PairIdeal.sig) → Buf (Elt Ideal) ℓ) (g : Dev Cert.PairIdeal.nD → PrngReg), Pre_PairIdeal m →
    θ_run (Cert.PairIdeal.defs (F := Ideal)) (onTc (τ := Cert.PairIdeal.τ) (Cert.PairIdeal.main (F := Ideal))) ⟨m, fun _ => 0, g⟩ (fun r => (∀ c : Dev Cert.PairIdeal.nD,
      r.2.mem ((c.tc : Thread Cert.PairIdeal.nD Cert.PairIdeal.τ).loc Cert.PairIdeal.main_arg0) = m ((c.tc : Thread Cert.PairIdeal.nD Cert.PairIdeal.τ).loc Cert.PairIdeal.main_arg0)
      ∧ r.2.mem ((c.tc : Thread Cert.PairIdeal.nD Cert.PairIdeal.τ).loc Cert.PairIdeal.main_arg1) = m ((c.tc : Thread Cert.PairIdeal.nD Cert.PairIdeal.τ).loc Cert.PairIdeal.main_arg1)
      ∧ r.2.mem ((c.tc : Thread Cert.PairIdeal.nD Cert.PairIdeal.τ).loc Cert.PairIdeal.main_arg2) = m ((c.tc : Thread Cert.PairIdeal.nD Cert.PairIdeal.τ).loc Cert.PairIdeal.main_arg2)
      ∧ r.2.mem ((c.tc : Thread Cert.PairIdeal.nD Cert.PairIdeal.τ).loc Cert.PairIdeal.main_arg3) = m ((c.tc : Thread Cert.PairIdeal.nD Cert.PairIdeal.τ).loc Cert.PairIdeal.main_arg3))
      ∧ r.2.sem = fun _ => 0)

def quiescent_PairWholeIdeal [hPairWholeIdeal : Cert.PairWholeIdeal.Facts] : Prop :=
  ∀ (m : (ℓ : Loc Cert.PairWholeIdeal.nD Cert.PairWholeIdeal.τ Cert.PairWholeIdeal.sig) → Buf (Elt Ideal) ℓ) (g : Dev Cert.PairWholeIdeal.nD → PrngReg), Pre_PairWholeIdeal m →
    θ_run (Cert.PairWholeIdeal.defs (F := Ideal)) (onTc (τ := Cert.PairWholeIdeal.τ) (Cert.PairWholeIdeal.main (F := Ideal))) ⟨m, fun _ => 0, g⟩ (fun r => (∀ c : Dev Cert.PairWholeIdeal.nD,
      r.2.mem ((c.tc : Thread Cert.PairWholeIdeal.nD Cert.PairWholeIdeal.τ).loc Cert.PairWholeIdeal.main_arg0) = m ((c.tc : Thread Cert.PairWholeIdeal.nD Cert.PairWholeIdeal.τ).loc Cert.PairWholeIdeal.main_arg0)
      ∧ r.2.mem ((c.tc : Thread Cert.PairWholeIdeal.nD Cert.PairWholeIdeal.τ).loc Cert.PairWholeIdeal.main_arg1) = m ((c.tc : Thread Cert.PairWholeIdeal.nD Cert.PairWholeIdeal.τ).loc Cert.PairWholeIdeal.main_arg1)
      ∧ r.2.mem ((c.tc : Thread Cert.PairWholeIdeal.nD Cert.PairWholeIdeal.τ).loc Cert.PairWholeIdeal.main_arg2) = m ((c.tc : Thread Cert.PairWholeIdeal.nD Cert.PairWholeIdeal.τ).loc Cert.PairWholeIdeal.main_arg2)
      ∧ r.2.mem ((c.tc : Thread Cert.PairWholeIdeal.nD Cert.PairWholeIdeal.τ).loc Cert.PairWholeIdeal.main_arg3) = m ((c.tc : Thread Cert.PairWholeIdeal.nD Cert.PairWholeIdeal.τ).loc Cert.PairWholeIdeal.main_arg3))
      ∧ r.2.sem = fun _ => 0)

def quiescent_Back [hBack : Cert.Back.Facts] : Prop :=
  ∀ (m : (ℓ : Loc Cert.Back.nD Cert.Back.τ Cert.Back.sig) → Buf (Elt Bits) ℓ) (g : Dev Cert.Back.nD → PrngReg), Pre_Back m →
    θ_run (Cert.Back.defs (F := Bits)) (onTc (τ := Cert.Back.τ) (Cert.Back.main (F := Bits))) ⟨m, fun _ => 0, g⟩ (fun r => (∀ c : Dev Cert.Back.nD,
      r.2.mem ((c.tc : Thread Cert.Back.nD Cert.Back.τ).loc Cert.Back.main_arg0) = m ((c.tc : Thread Cert.Back.nD Cert.Back.τ).loc Cert.Back.main_arg0)
      ∧ r.2.mem ((c.tc : Thread Cert.Back.nD Cert.Back.τ).loc Cert.Back.main_arg1) = m ((c.tc : Thread Cert.Back.nD Cert.Back.τ).loc Cert.Back.main_arg1)
      ∧ r.2.mem ((c.tc : Thread Cert.Back.nD Cert.Back.τ).loc Cert.Back.main_arg2) = m ((c.tc : Thread Cert.Back.nD Cert.Back.τ).loc Cert.Back.main_arg2)
      ∧ r.2.mem ((c.tc : Thread Cert.Back.nD Cert.Back.τ).loc Cert.Back.main_arg3) = m ((c.tc : Thread Cert.Back.nD Cert.Back.τ).loc Cert.Back.main_arg3)
      ∧ r.2.mem ((c.tc : Thread Cert.Back.nD Cert.Back.τ).loc Cert.Back.main_arg4) = m ((c.tc : Thread Cert.Back.nD Cert.Back.τ).loc Cert.Back.main_arg4))
      ∧ r.2.sem = fun _ => 0)

def quiescent_BackIdeal [hBackIdeal : Cert.BackIdeal.Facts] : Prop :=
  ∀ (m : (ℓ : Loc Cert.BackIdeal.nD Cert.BackIdeal.τ Cert.BackIdeal.sig) → Buf (Elt Ideal) ℓ) (g : Dev Cert.BackIdeal.nD → PrngReg), Pre_BackIdeal m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
      ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
      ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
      ∧ r.2.mem ((c.tc : Thread Cert.BackIdeal.nD Cert.BackIdeal.τ).loc Cert.BackIdeal.main_arg4) = m ((c.tc : Thread Cert.BackIdeal.nD Cert.BackIdeal.τ).loc Cert.BackIdeal.main_arg4))
      ∧ r.2.sem = fun _ => 0)

def quiescent_BackWholeIdeal [hBackWholeIdeal : Cert.BackWholeIdeal.Facts] : Prop :=
  ∀ (m : (ℓ : Loc Cert.BackWholeIdeal.nD Cert.BackWholeIdeal.τ Cert.BackWholeIdeal.sig) → Buf (Elt Ideal) ℓ) (g : Dev Cert.BackWholeIdeal.nD → PrngReg), Pre_BackWholeIdeal m →
    θ_run (Cert.BackWholeIdeal.defs (F := Ideal)) (onTc (τ := Cert.BackWholeIdeal.τ) (Cert.BackWholeIdeal.main (F := Ideal))) ⟨m, fun _ => 0, g⟩ (fun r => (∀ c : Dev Cert.BackWholeIdeal.nD,
      r.2.mem ((c.tc : Thread Cert.BackWholeIdeal.nD Cert.BackWholeIdeal.τ).loc Cert.BackWholeIdeal.main_arg0) = m ((c.tc : Thread Cert.BackWholeIdeal.nD Cert.BackWholeIdeal.τ).loc Cert.BackWholeIdeal.main_arg0)
      ∧ r.2.mem ((c.tc : Thread Cert.BackWholeIdeal.nD Cert.BackWholeIdeal.τ).loc Cert.BackWholeIdeal.main_arg1) = m ((c.tc : Thread Cert.BackWholeIdeal.nD Cert.BackWholeIdeal.τ).loc Cert.BackWholeIdeal.main_arg1)
      ∧ r.2.mem ((c.tc : Thread Cert.BackWholeIdeal.nD Cert.BackWholeIdeal.τ).loc Cert.BackWholeIdeal.main_arg2) = m ((c.tc : Thread Cert.BackWholeIdeal.nD Cert.BackWholeIdeal.τ).loc Cert.BackWholeIdeal.main_arg2)
      ∧ r.2.mem ((c.tc : Thread Cert.BackWholeIdeal.nD Cert.BackWholeIdeal.τ).loc Cert.BackWholeIdeal.main_arg3) = m ((c.tc : Thread Cert.BackWholeIdeal.nD Cert.BackWholeIdeal.τ).loc Cert.BackWholeIdeal.main_arg3)
      ∧ r.2.mem ((c.tc : Thread Cert.BackWholeIdeal.nD Cert.BackWholeIdeal.τ).loc Cert.BackWholeIdeal.main_arg4) = m ((c.tc : Thread Cert.BackWholeIdeal.nD Cert.BackWholeIdeal.τ).loc Cert.BackWholeIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossWholeIdeal [hLossWholeIdeal : Cert.LossWholeIdeal.Facts] : Prop :=
  ∀ (m : (ℓ : Loc Cert.LossWholeIdeal.nD Cert.LossWholeIdeal.τ Cert.LossWholeIdeal.sig) → Buf (Elt Ideal) ℓ) (g : Dev Cert.LossWholeIdeal.nD → PrngReg), Pre_LossWholeIdeal m →
    θ_run (Cert.LossWholeIdeal.defs (F := Ideal)) (onTc (τ := Cert.LossWholeIdeal.τ) (Cert.LossWholeIdeal.main (F := Ideal))) ⟨m, fun _ => 0, g⟩ (fun r => (∀ c : Dev Cert.LossWholeIdeal.nD,
      r.2.mem ((c.tc : Thread Cert.LossWholeIdeal.nD Cert.LossWholeIdeal.τ).loc Cert.LossWholeIdeal.main_arg0) = m ((c.tc : Thread Cert.LossWholeIdeal.nD Cert.LossWholeIdeal.τ).loc Cert.LossWholeIdeal.main_arg0)
      ∧ r.2.mem ((c.tc : Thread Cert.LossWholeIdeal.nD Cert.LossWholeIdeal.τ).loc Cert.LossWholeIdeal.main_arg1) = m ((c.tc : Thread Cert.LossWholeIdeal.nD Cert.LossWholeIdeal.τ).loc Cert.LossWholeIdeal.main_arg1)
      ∧ r.2.mem ((c.tc : Thread Cert.LossWholeIdeal.nD Cert.LossWholeIdeal.τ).loc Cert.LossWholeIdeal.main_arg2) = m ((c.tc : Thread Cert.LossWholeIdeal.nD Cert.LossWholeIdeal.τ).loc Cert.LossWholeIdeal.main_arg2)
      ∧ r.2.mem ((c.tc : Thread Cert.LossWholeIdeal.nD Cert.LossWholeIdeal.τ).loc Cert.LossWholeIdeal.main_arg3) = m ((c.tc : Thread Cert.LossWholeIdeal.nD Cert.LossWholeIdeal.τ).loc Cert.LossWholeIdeal.main_arg3))
      ∧ r.2.sem = fun _ => 0)

def quiescent_GradUp [hGradUp : Cert.GradUp.Facts] : Prop :=
  ∀ (m : (ℓ : Loc Cert.GradUp.nD Cert.GradUp.τ Cert.GradUp.sig) → Buf (Elt Bits) ℓ) (g : Dev Cert.GradUp.nD → PrngReg), Pre_GradUp m →
    θ_run (Cert.GradUp.defs (F := Bits)) (onTc (τ := Cert.GradUp.τ) (Cert.GradUp.main (F := Bits))) ⟨m, fun _ => 0, g⟩ (fun r => (∀ c : Dev Cert.GradUp.nD,
      r.2.mem ((c.tc : Thread Cert.GradUp.nD Cert.GradUp.τ).loc Cert.GradUp.main_arg0) = m ((c.tc : Thread Cert.GradUp.nD Cert.GradUp.τ).loc Cert.GradUp.main_arg0)
      ∧ r.2.mem ((c.tc : Thread Cert.GradUp.nD Cert.GradUp.τ).loc Cert.GradUp.main_arg1) = m ((c.tc : Thread Cert.GradUp.nD Cert.GradUp.τ).loc Cert.GradUp.main_arg1))
      ∧ r.2.sem = fun _ => 0)

def quiescent_GradUpIdeal [hGradUpIdeal : Cert.GradUpIdeal.Facts] : Prop :=
  ∀ (m : (ℓ : Loc Cert.GradUpIdeal.nD Cert.GradUpIdeal.τ Cert.GradUpIdeal.sig) → Buf (Elt Ideal) ℓ) (g : Dev Cert.GradUpIdeal.nD → PrngReg), Pre_GradUpIdeal m →
    θ_run (Cert.GradUpIdeal.defs (F := Ideal)) (onTc (τ := Cert.GradUpIdeal.τ) (Cert.GradUpIdeal.main (F := Ideal))) ⟨m, fun _ => 0, g⟩ (fun r => (∀ c : Dev Cert.GradUpIdeal.nD,
      r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
      ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ r.2.sem = fun _ => 0)

def quiescent_GradUpWholeIdeal [hGradUpWholeIdeal : Cert.GradUpWholeIdeal.Facts] : Prop :=
  ∀ (m : (ℓ : Loc Cert.GradUpWholeIdeal.nD Cert.GradUpWholeIdeal.τ Cert.GradUpWholeIdeal.sig) → Buf (Elt Ideal) ℓ) (g : Dev Cert.GradUpWholeIdeal.nD → PrngReg), Pre_GradUpWholeIdeal m →
    θ_run (Cert.GradUpWholeIdeal.defs (F := Ideal)) (onTc (τ := Cert.GradUpWholeIdeal.τ) (Cert.GradUpWholeIdeal.main (F := Ideal))) ⟨m, fun _ => 0, g⟩ (fun r => (∀ c : Dev Cert.GradUpWholeIdeal.nD,
      r.2.mem ((c.tc : Thread Cert.GradUpWholeIdeal.nD Cert.GradUpWholeIdeal.τ).loc Cert.GradUpWholeIdeal.main_arg0) = m ((c.tc : Thread Cert.GradUpWholeIdeal.nD Cert.GradUpWholeIdeal.τ).loc Cert.GradUpWholeIdeal.main_arg0)
      ∧ r.2.mem ((c.tc : Thread Cert.GradUpWholeIdeal.nD Cert.GradUpWholeIdeal.τ).loc Cert.GradUpWholeIdeal.main_arg1) = m ((c.tc : Thread Cert.GradUpWholeIdeal.nD Cert.GradUpWholeIdeal.τ).loc Cert.GradUpWholeIdeal.main_arg1))
      ∧ r.2.sem = fun _ => 0)

def quiescent_GradDown [hGradDown : Cert.GradDown.Facts] : Prop :=
  ∀ (m : (ℓ : Loc Cert.GradDown.nD Cert.GradDown.τ Cert.GradDown.sig) → Buf (Elt Bits) ℓ) (g : Dev Cert.GradDown.nD → PrngReg), Pre_GradDown m →
    θ_run (Cert.GradDown.defs (F := Bits)) (onTc (τ := Cert.GradDown.τ) (Cert.GradDown.main (F := Bits))) ⟨m, fun _ => 0, g⟩ (fun r => (∀ c : Dev Cert.GradDown.nD,
      r.2.mem ((c.tc : Thread Cert.GradDown.nD Cert.GradDown.τ).loc Cert.GradDown.main_arg0) = m ((c.tc : Thread Cert.GradDown.nD Cert.GradDown.τ).loc Cert.GradDown.main_arg0)
      ∧ r.2.mem ((c.tc : Thread Cert.GradDown.nD Cert.GradDown.τ).loc Cert.GradDown.main_arg1) = m ((c.tc : Thread Cert.GradDown.nD Cert.GradDown.τ).loc Cert.GradDown.main_arg1))
      ∧ r.2.sem = fun _ => 0)

def quiescent_GradDownIdeal [hGradDownIdeal : Cert.GradDownIdeal.Facts] : Prop :=
  ∀ (m : (ℓ : Loc Cert.GradDownIdeal.nD Cert.GradDownIdeal.τ Cert.GradDownIdeal.sig) → Buf (Elt Ideal) ℓ) (g : Dev Cert.GradDownIdeal.nD → PrngReg), Pre_GradDownIdeal m →
    θ_run (Cert.GradDownIdeal.defs (F := Ideal)) (onTc (τ := Cert.GradDownIdeal.τ) (Cert.GradDownIdeal.main (F := Ideal))) ⟨m, fun _ => 0, g⟩ (fun r => (∀ c : Dev Cert.GradDownIdeal.nD,
      r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
      ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ r.2.sem = fun _ => 0)

def quiescent_GradDownWholeIdeal [hGradDownWholeIdeal : Cert.GradDownWholeIdeal.Facts] : Prop :=
  ∀ (m : (ℓ : Loc Cert.GradDownWholeIdeal.nD Cert.GradDownWholeIdeal.τ Cert.GradDownWholeIdeal.sig) → Buf (Elt Ideal) ℓ) (g : Dev Cert.GradDownWholeIdeal.nD → PrngReg), Pre_GradDownWholeIdeal m →
    θ_run (Cert.GradDownWholeIdeal.defs (F := Ideal)) (onTc (τ := Cert.GradDownWholeIdeal.τ) (Cert.GradDownWholeIdeal.main (F := Ideal))) ⟨m, fun _ => 0, g⟩ (fun r => (∀ c : Dev Cert.GradDownWholeIdeal.nD,
      r.2.mem ((c.tc : Thread Cert.GradDownWholeIdeal.nD Cert.GradDownWholeIdeal.τ).loc Cert.GradDownWholeIdeal.main_arg0) = m ((c.tc : Thread Cert.GradDownWholeIdeal.nD Cert.GradDownWholeIdeal.τ).loc Cert.GradDownWholeIdeal.main_arg0)
      ∧ r.2.mem ((c.tc : Thread Cert.GradDownWholeIdeal.nD Cert.GradDownWholeIdeal.τ).loc Cert.GradDownWholeIdeal.main_arg1) = m ((c.tc : Thread Cert.GradDownWholeIdeal.nD Cert.GradDownWholeIdeal.τ).loc Cert.GradDownWholeIdeal.main_arg1))
      ∧ r.2.sem = fun _ => 0)

def quiescent_Forth [hForth : Cert.Forth.Facts] : Prop :=
  ∀ (m : (ℓ : Loc Cert.Forth.nD Cert.Forth.τ Cert.Forth.sig) → Buf (Elt Bits) ℓ) (g : Dev Cert.Forth.nD → PrngReg), Pre_Forth m →
    θ_run (Cert.Forth.defs (F := Bits)) (onTc (τ := Cert.Forth.τ) (Cert.Forth.main (F := Bits))) ⟨m, fun _ => 0, g⟩ (fun r => (∀ c : Dev Cert.Forth.nD,
      r.2.mem ((c.tc : Thread Cert.Forth.nD Cert.Forth.τ).loc Cert.Forth.main_arg0) = m ((c.tc : Thread Cert.Forth.nD Cert.Forth.τ).loc Cert.Forth.main_arg0)
      ∧ r.2.mem ((c.tc : Thread Cert.Forth.nD Cert.Forth.τ).loc Cert.Forth.main_arg1) = m ((c.tc : Thread Cert.Forth.nD Cert.Forth.τ).loc Cert.Forth.main_arg1)
      ∧ r.2.mem ((c.tc : Thread Cert.Forth.nD Cert.Forth.τ).loc Cert.Forth.main_arg2) = m ((c.tc : Thread Cert.Forth.nD Cert.Forth.τ).loc Cert.Forth.main_arg2))
      ∧ r.2.sem = fun _ => 0)

def quiescent_ForthIdeal [hForthIdeal : Cert.ForthIdeal.Facts] : Prop :=
  ∀ (m : (ℓ : Loc Cert.ForthIdeal.nD Cert.ForthIdeal.τ Cert.ForthIdeal.sig) → Buf (Elt Ideal) ℓ) (g : Dev Cert.ForthIdeal.nD → PrngReg), Pre_ForthIdeal m →
    θ_run (Cert.ForthIdeal.defs (F := Ideal)) (onTc (τ := Cert.ForthIdeal.τ) (Cert.ForthIdeal.main (F := Ideal))) ⟨m, fun _ => 0, g⟩ (fun r => (∀ c : Dev Cert.ForthIdeal.nD,
      r.2.mem ((c.tc : Thread Cert.ForthIdeal.nD Cert.ForthIdeal.τ).loc Cert.ForthIdeal.main_arg0) = m ((c.tc : Thread Cert.ForthIdeal.nD Cert.ForthIdeal.τ).loc Cert.ForthIdeal.main_arg0)
      ∧ r.2.mem ((c.tc : Thread Cert.ForthIdeal.nD Cert.ForthIdeal.τ).loc Cert.ForthIdeal.main_arg1) = m ((c.tc : Thread Cert.ForthIdeal.nD Cert.ForthIdeal.τ).loc Cert.ForthIdeal.main_arg1)
      ∧ r.2.mem ((c.tc : Thread Cert.ForthIdeal.nD Cert.ForthIdeal.τ).loc Cert.ForthIdeal.main_arg2) = m ((c.tc : Thread Cert.ForthIdeal.nD Cert.ForthIdeal.τ).loc Cert.ForthIdeal.main_arg2))
      ∧ r.2.sem = fun _ => 0)

def quiescent_ForthWholeIdeal [hForthWholeIdeal : Cert.ForthWholeIdeal.Facts] : Prop :=
  ∀ (m : (ℓ : Loc Cert.ForthWholeIdeal.nD Cert.ForthWholeIdeal.τ Cert.ForthWholeIdeal.sig) → Buf (Elt Ideal) ℓ) (g : Dev Cert.ForthWholeIdeal.nD → PrngReg), Pre_ForthWholeIdeal m →
    θ_run (Cert.ForthWholeIdeal.defs (F := Ideal)) (onTc (τ := Cert.ForthWholeIdeal.τ) (Cert.ForthWholeIdeal.main (F := Ideal))) ⟨m, fun _ => 0, g⟩ (fun r => (∀ c : Dev Cert.ForthWholeIdeal.nD,
      r.2.mem ((c.tc : Thread Cert.ForthWholeIdeal.nD Cert.ForthWholeIdeal.τ).loc Cert.ForthWholeIdeal.main_arg0) = m ((c.tc : Thread Cert.ForthWholeIdeal.nD Cert.ForthWholeIdeal.τ).loc Cert.ForthWholeIdeal.main_arg0)
      ∧ r.2.mem ((c.tc : Thread Cert.ForthWholeIdeal.nD Cert.ForthWholeIdeal.τ).loc Cert.ForthWholeIdeal.main_arg1) = m ((c.tc : Thread Cert.ForthWholeIdeal.nD Cert.ForthWholeIdeal.τ).loc Cert.ForthWholeIdeal.main_arg1)
      ∧ r.2.mem ((c.tc : Thread Cert.ForthWholeIdeal.nD Cert.ForthWholeIdeal.τ).loc Cert.ForthWholeIdeal.main_arg2) = m ((c.tc : Thread Cert.ForthWholeIdeal.nD Cert.ForthWholeIdeal.τ).loc Cert.ForthWholeIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjWholeIdeal [hProjWholeIdeal : Cert.ProjWholeIdeal.Facts] : Prop :=
  ∀ (m : (ℓ : Loc Cert.ProjWholeIdeal.nD Cert.ProjWholeIdeal.τ Cert.ProjWholeIdeal.sig) → Buf (Elt Ideal) ℓ) (g : Dev Cert.ProjWholeIdeal.nD → PrngReg), Pre_ProjWholeIdeal m →
    θ_run (Cert.ProjWholeIdeal.defs (F := Ideal)) (onTc (τ := Cert.ProjWholeIdeal.τ) (Cert.ProjWholeIdeal.main (F := Ideal))) ⟨m, fun _ => 0, g⟩ (fun r => (∀ c : Dev Cert.ProjWholeIdeal.nD,
      r.2.mem ((c.tc : Thread Cert.ProjWholeIdeal.nD Cert.ProjWholeIdeal.τ).loc Cert.ProjWholeIdeal.main_arg0) = m ((c.tc : Thread Cert.ProjWholeIdeal.nD Cert.ProjWholeIdeal.τ).loc Cert.ProjWholeIdeal.main_arg0)
      ∧ r.2.mem ((c.tc : Thread Cert.ProjWholeIdeal.nD Cert.ProjWholeIdeal.τ).loc Cert.ProjWholeIdeal.main_arg1) = m ((c.tc : Thread Cert.ProjWholeIdeal.nD Cert.ProjWholeIdeal.τ).loc Cert.ProjWholeIdeal.main_arg1)
      ∧ r.2.mem ((c.tc : Thread Cert.ProjWholeIdeal.nD Cert.ProjWholeIdeal.τ).loc Cert.ProjWholeIdeal.main_arg2) = m ((c.tc : Thread Cert.ProjWholeIdeal.nD Cert.ProjWholeIdeal.τ).loc Cert.ProjWholeIdeal.main_arg2))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2)
      ∧ r.2.mem ((c.tc : Thread Cert.Act.nD Cert.Act.τ).loc Cert.Act.main_arg3) = m ((c.tc : Thread Cert.Act.nD Cert.Act.τ).loc Cert.Act.main_arg3))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActWholeIdeal [hActWholeIdeal : Cert.ActWholeIdeal.Facts] : Prop :=
  ∀ (m : (ℓ : Loc Cert.ActWholeIdeal.nD Cert.ActWholeIdeal.τ Cert.ActWholeIdeal.sig) → Buf (Elt Ideal) ℓ) (g : Dev Cert.ActWholeIdeal.nD → PrngReg), Pre_ActWholeIdeal m →
    θ_run (Cert.ActWholeIdeal.defs (F := Ideal)) (onTc (τ := Cert.ActWholeIdeal.τ) (Cert.ActWholeIdeal.main (F := Ideal))) ⟨m, fun _ => 0, g⟩ (fun r => (∀ c : Dev Cert.ActWholeIdeal.nD,
      r.2.mem ((c.tc : Thread Cert.ActWholeIdeal.nD Cert.ActWholeIdeal.τ).loc Cert.ActWholeIdeal.main_arg0) = m ((c.tc : Thread Cert.ActWholeIdeal.nD Cert.ActWholeIdeal.τ).loc Cert.ActWholeIdeal.main_arg0)
      ∧ r.2.mem ((c.tc : Thread Cert.ActWholeIdeal.nD Cert.ActWholeIdeal.τ).loc Cert.ActWholeIdeal.main_arg1) = m ((c.tc : Thread Cert.ActWholeIdeal.nD Cert.ActWholeIdeal.τ).loc Cert.ActWholeIdeal.main_arg1)
      ∧ r.2.mem ((c.tc : Thread Cert.ActWholeIdeal.nD Cert.ActWholeIdeal.τ).loc Cert.ActWholeIdeal.main_arg2) = m ((c.tc : Thread Cert.ActWholeIdeal.nD Cert.ActWholeIdeal.τ).loc Cert.ActWholeIdeal.main_arg2)
      ∧ r.2.mem ((c.tc : Thread Cert.ActWholeIdeal.nD Cert.ActWholeIdeal.τ).loc Cert.ActWholeIdeal.main_arg3) = m ((c.tc : Thread Cert.ActWholeIdeal.nD Cert.ActWholeIdeal.τ).loc Cert.ActWholeIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeWholeIdeal [hMergeWholeIdeal : Cert.MergeWholeIdeal.Facts] : Prop :=
  ∀ (m : (ℓ : Loc Cert.MergeWholeIdeal.nD Cert.MergeWholeIdeal.τ Cert.MergeWholeIdeal.sig) → Buf (Elt Ideal) ℓ) (g : Dev Cert.MergeWholeIdeal.nD → PrngReg), Pre_MergeWholeIdeal m →
    θ_run (Cert.MergeWholeIdeal.defs (F := Ideal)) (onTc (τ := Cert.MergeWholeIdeal.τ) (Cert.MergeWholeIdeal.main (F := Ideal))) ⟨m, fun _ => 0, g⟩ (fun r => (∀ c : Dev Cert.MergeWholeIdeal.nD,
      r.2.mem ((c.tc : Thread Cert.MergeWholeIdeal.nD Cert.MergeWholeIdeal.τ).loc Cert.MergeWholeIdeal.main_arg0) = m ((c.tc : Thread Cert.MergeWholeIdeal.nD Cert.MergeWholeIdeal.τ).loc Cert.MergeWholeIdeal.main_arg0)
      ∧ r.2.mem ((c.tc : Thread Cert.MergeWholeIdeal.nD Cert.MergeWholeIdeal.τ).loc Cert.MergeWholeIdeal.main_arg1) = m ((c.tc : Thread Cert.MergeWholeIdeal.nD Cert.MergeWholeIdeal.τ).loc Cert.MergeWholeIdeal.main_arg1)
      ∧ r.2.mem ((c.tc : Thread Cert.MergeWholeIdeal.nD Cert.MergeWholeIdeal.τ).loc Cert.MergeWholeIdeal.main_arg2) = m ((c.tc : Thread Cert.MergeWholeIdeal.nD Cert.MergeWholeIdeal.τ).loc Cert.MergeWholeIdeal.main_arg2)
      ∧ r.2.mem ((c.tc : Thread Cert.MergeWholeIdeal.nD Cert.MergeWholeIdeal.τ).loc Cert.MergeWholeIdeal.main_arg3) = m ((c.tc : Thread Cert.MergeWholeIdeal.nD Cert.MergeWholeIdeal.τ).loc Cert.MergeWholeIdeal.main_arg3)
      ∧ r.2.mem ((c.tc : Thread Cert.MergeWholeIdeal.nD Cert.MergeWholeIdeal.τ).loc Cert.MergeWholeIdeal.main_arg4) = m ((c.tc : Thread Cert.MergeWholeIdeal.nD Cert.MergeWholeIdeal.τ).loc Cert.MergeWholeIdeal.main_arg4))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4))
      ∧ r.2.sem = fun _ => 0)

def quiescent_TailWholeIdeal [hTailWholeIdeal : Cert.TailWholeIdeal.Facts] : Prop :=
  ∀ (m : (ℓ : Loc Cert.TailWholeIdeal.nD Cert.TailWholeIdeal.τ Cert.TailWholeIdeal.sig) → Buf (Elt Ideal) ℓ) (g : Dev Cert.TailWholeIdeal.nD → PrngReg), Pre_TailWholeIdeal m →
    θ_run (Cert.TailWholeIdeal.defs (F := Ideal)) (onTc (τ := Cert.TailWholeIdeal.τ) (Cert.TailWholeIdeal.main (F := Ideal))) ⟨m, fun _ => 0, g⟩ (fun r => (∀ c : Dev Cert.TailWholeIdeal.nD,
      r.2.mem ((c.tc : Thread Cert.TailWholeIdeal.nD Cert.TailWholeIdeal.τ).loc Cert.TailWholeIdeal.main_arg0) = m ((c.tc : Thread Cert.TailWholeIdeal.nD Cert.TailWholeIdeal.τ).loc Cert.TailWholeIdeal.main_arg0)
      ∧ r.2.mem ((c.tc : Thread Cert.TailWholeIdeal.nD Cert.TailWholeIdeal.τ).loc Cert.TailWholeIdeal.main_arg1) = m ((c.tc : Thread Cert.TailWholeIdeal.nD Cert.TailWholeIdeal.τ).loc Cert.TailWholeIdeal.main_arg1)
      ∧ r.2.mem ((c.tc : Thread Cert.TailWholeIdeal.nD Cert.TailWholeIdeal.τ).loc Cert.TailWholeIdeal.main_arg2) = m ((c.tc : Thread Cert.TailWholeIdeal.nD Cert.TailWholeIdeal.τ).loc Cert.TailWholeIdeal.main_arg2)
      ∧ r.2.mem ((c.tc : Thread Cert.TailWholeIdeal.nD Cert.TailWholeIdeal.τ).loc Cert.TailWholeIdeal.main_arg3) = m ((c.tc : Thread Cert.TailWholeIdeal.nD Cert.TailWholeIdeal.τ).loc Cert.TailWholeIdeal.main_arg3)
      ∧ r.2.mem ((c.tc : Thread Cert.TailWholeIdeal.nD Cert.TailWholeIdeal.τ).loc Cert.TailWholeIdeal.main_arg4) = m ((c.tc : Thread Cert.TailWholeIdeal.nD Cert.TailWholeIdeal.τ).loc Cert.TailWholeIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![8, 1024, 704]⟩ ⟨3, ![64, 1024, 704]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨3, ![8, 352, 1024]⟩ ⟨3, ![64, 352, 1024]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![8, 1024, 321]⟩ ⟨3, ![64, 1024, 321]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![8, 128, 1024]⟩ ⟨3, ![64, 128, 1024]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨3, ![8, 128, 1024]⟩ ⟨3, ![64, 128, 1024]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨3, ![8, 1024, 256]⟩ ⟨3, ![64, 1024, 256]⟩ 0 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨3, ![8, 128, 1024]⟩ ⟨3, ![64, 128, 1024]⟩ 0 8 c (m' (((0 : Dev Cert.ReferenceIdeal.nD).tc : Thread Cert.ReferenceIdeal.nD Cert.ReferenceIdeal.τ).loc Cert.ReferenceIdeal.main_arg6))
      ∧ m ((c.tc : Thread Cert.KernelIdeal.nD Cert.KernelIdeal.τ).loc Cert.KernelIdeal.main_arg7) = Layout.block ⟨3, ![8, 1024, 704]⟩ ⟨3, ![64, 1024, 704]⟩ 0 8 c (m' (((0 : Dev Cert.ReferenceIdeal.nD).tc : Thread Cert.ReferenceIdeal.nD Cert.ReferenceIdeal.τ).loc Cert.ReferenceIdeal.main_arg7))
      ∧ m ((c.tc : Thread Cert.KernelIdeal.nD Cert.KernelIdeal.τ).loc Cert.KernelIdeal.main_arg8) = Layout.block ⟨3, ![8, 352, 1024]⟩ ⟨3, ![64, 352, 1024]⟩ 0 8 c (m' (((0 : Dev Cert.ReferenceIdeal.nD).tc : Thread Cert.ReferenceIdeal.nD Cert.ReferenceIdeal.τ).loc Cert.ReferenceIdeal.main_arg8))) →
    ∃ (v0 : Buf (Elt Ideal) (((0 : Dev Cert.ReferenceIdeal.nD).tc : Thread Cert.ReferenceIdeal.nD Cert.ReferenceIdeal.τ).loc Cert.ReferenceIdeal.main_v2)) (v1 : Buf (Elt Ideal) (((0 : Dev Cert.ReferenceIdeal.nD).tc : Thread Cert.ReferenceIdeal.nD Cert.ReferenceIdeal.τ).loc Cert.ReferenceIdeal.main_v5)) (v2 : Buf (Elt Ideal) (((0 : Dev Cert.ReferenceIdeal.nD).tc : Thread Cert.ReferenceIdeal.nD Cert.ReferenceIdeal.τ).loc Cert.ReferenceIdeal.main_v8)) (v3 : Buf (Elt Ideal) (((0 : Dev Cert.ReferenceIdeal.nD).tc : Thread Cert.ReferenceIdeal.nD Cert.ReferenceIdeal.τ).loc Cert.ReferenceIdeal.main_v11)) (v4 : Buf (Elt Ideal) (((0 : Dev Cert.ReferenceIdeal.nD).tc : Thread Cert.ReferenceIdeal.nD Cert.ReferenceIdeal.τ).loc Cert.ReferenceIdeal.main_v14)) (v5 : Buf (Elt Ideal) (((0 : Dev Cert.ReferenceIdeal.nD).tc : Thread Cert.ReferenceIdeal.nD Cert.ReferenceIdeal.τ).loc Cert.ReferenceIdeal.main_v17)) (v6 : Buf (Elt Ideal) (((0 : Dev Cert.ReferenceIdeal.nD).tc : Thread Cert.ReferenceIdeal.nD Cert.ReferenceIdeal.τ).loc Cert.ReferenceIdeal.main_v20)) (v7 : Buf (Elt Ideal) (((0 : Dev Cert.ReferenceIdeal.nD).tc : Thread Cert.ReferenceIdeal.nD Cert.ReferenceIdeal.τ).loc Cert.ReferenceIdeal.main_v23)) (v8 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨3, ![8, 1024, 704]⟩ ⟨3, ![64, 1024, 704]⟩ 0 8 c v0
          ∧ r.2.mem ((c.tc : Thread Cert.KernelIdeal.nD Cert.KernelIdeal.τ).loc Cert.KernelIdeal.main_v1_1) = Layout.block ⟨3, ![8, 352, 1024]⟩ ⟨3, ![64, 352, 1024]⟩ 0 8 c v1
          ∧ r.2.mem ((c.tc : Thread Cert.KernelIdeal.nD Cert.KernelIdeal.τ).loc Cert.KernelIdeal.main_v1_2) = Layout.block ⟨3, ![8, 1024, 321]⟩ ⟨3, ![64, 1024, 321]⟩ 0 8 c v2
          ∧ r.2.mem ((c.tc : Thread Cert.KernelIdeal.nD Cert.KernelIdeal.τ).loc Cert.KernelIdeal.main_v1_3) = Layout.block ⟨3, ![8, 128, 1024]⟩ ⟨3, ![64, 128, 1024]⟩ 0 8 c v3
          ∧ r.2.mem ((c.tc : Thread Cert.KernelIdeal.nD Cert.KernelIdeal.τ).loc Cert.KernelIdeal.main_v1_4) = Layout.block ⟨3, ![8, 128, 1024]⟩ ⟨3, ![64, 128, 1024]⟩ 0 8 c v4
          ∧ r.2.mem ((c.tc : Thread Cert.KernelIdeal.nD Cert.KernelIdeal.τ).loc Cert.KernelIdeal.main_v1_5) = Layout.block ⟨3, ![8, 1024, 256]⟩ ⟨3, ![64, 1024, 256]⟩ 0 8 c v5
          ∧ r.2.mem ((c.tc : Thread Cert.KernelIdeal.nD Cert.KernelIdeal.τ).loc Cert.KernelIdeal.main_v1_6) = Layout.block ⟨3, ![8, 128, 1024]⟩ ⟨3, ![64, 128, 1024]⟩ 0 8 c v6
          ∧ r.2.mem ((c.tc : Thread Cert.KernelIdeal.nD Cert.KernelIdeal.τ).loc Cert.KernelIdeal.main_v1_7) = Layout.block ⟨3, ![8, 1024, 704]⟩ ⟨3, ![64, 1024, 704]⟩ 0 8 c v7
          ∧ r.2.mem ((c.tc : Thread Cert.KernelIdeal.nD Cert.KernelIdeal.τ).loc Cert.KernelIdeal.main_v1_8) = Layout.block ⟨3, ![8, 352, 1024]⟩ ⟨3, ![64, 352, 1024]⟩ 0 8 c v8
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_v5) = v1
          ∧ r.2.mem (((0 : Dev Cert.ReferenceIdeal.nD).tc : Thread Cert.ReferenceIdeal.nD Cert.ReferenceIdeal.τ).loc Cert.ReferenceIdeal.main_v8) = v2
          ∧ r.2.mem (((0 : Dev Cert.ReferenceIdeal.nD).tc : Thread Cert.ReferenceIdeal.nD Cert.ReferenceIdeal.τ).loc Cert.ReferenceIdeal.main_v11) = v3
          ∧ r.2.mem (((0 : Dev Cert.ReferenceIdeal.nD).tc : Thread Cert.ReferenceIdeal.nD Cert.ReferenceIdeal.τ).loc Cert.ReferenceIdeal.main_v14) = v4
          ∧ r.2.mem (((0 : Dev Cert.ReferenceIdeal.nD).tc : Thread Cert.ReferenceIdeal.nD Cert.ReferenceIdeal.τ).loc Cert.ReferenceIdeal.main_v17) = v5
          ∧ r.2.mem (((0 : Dev Cert.ReferenceIdeal.nD).tc : Thread Cert.ReferenceIdeal.nD Cert.ReferenceIdeal.τ).loc Cert.ReferenceIdeal.main_v20) = v6
          ∧ r.2.mem (((0 : Dev Cert.ReferenceIdeal.nD).tc : Thread Cert.ReferenceIdeal.nD Cert.ReferenceIdeal.τ).loc Cert.ReferenceIdeal.main_v23) = v7
          ∧ r.2.mem (((0 : Dev Cert.ReferenceIdeal.nD).tc : Thread Cert.ReferenceIdeal.nD Cert.ReferenceIdeal.τ).loc Cert.ReferenceIdeal.main_v26) = v8
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7)
          ∧ r.2.mem (((0 : Dev Cert.ReferenceIdeal.nD).tc : Thread Cert.ReferenceIdeal.nD Cert.ReferenceIdeal.τ).loc Cert.ReferenceIdeal.main_arg8) = m' (((0 : Dev Cert.ReferenceIdeal.nD).tc : Thread Cert.ReferenceIdeal.nD Cert.ReferenceIdeal.τ).loc Cert.ReferenceIdeal.main_arg8))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.block ⟨3, ![8, 1024, 704]⟩ ⟨3, ![64, 1024, 704]⟩ 0 8 c (m' (((0 : Dev Cert.Reference.nD).tc : Thread Cert.Reference.nD Cert.Reference.τ).loc Cert.Reference.main_arg0))
      ∧ m ((c.tc : Thread Cert.Kernel.nD Cert.Kernel.τ).loc Cert.Kernel.main_arg1) = Layout.block ⟨3, ![8, 352, 1024]⟩ ⟨3, ![64, 352, 1024]⟩ 0 8 c (m' (((0 : Dev Cert.Reference.nD).tc : Thread Cert.Reference.nD Cert.Reference.τ).loc Cert.Reference.main_arg1))
      ∧ m ((c.tc : Thread Cert.Kernel.nD Cert.Kernel.τ).loc Cert.Kernel.main_arg2) = Layout.block ⟨3, ![8, 1024, 321]⟩ ⟨3, ![64, 1024, 321]⟩ 0 8 c (m' (((0 : Dev Cert.Reference.nD).tc : Thread Cert.Reference.nD Cert.Reference.τ).loc Cert.Reference.main_arg2))
      ∧ m ((c.tc : Thread Cert.Kernel.nD Cert.Kernel.τ).loc Cert.Kernel.main_arg3) = Layout.block ⟨3, ![8, 128, 1024]⟩ ⟨3, ![64, 128, 1024]⟩ 0 8 c (m' (((0 : Dev Cert.Reference.nD).tc : Thread Cert.Reference.nD Cert.Reference.τ).loc Cert.Reference.main_arg3))
      ∧ m ((c.tc : Thread Cert.Kernel.nD Cert.Kernel.τ).loc Cert.Kernel.main_arg4) = Layout.block ⟨3, ![8, 128, 1024]⟩ ⟨3, ![64, 128, 1024]⟩ 0 8 c (m' (((0 : Dev Cert.Reference.nD).tc : Thread Cert.Reference.nD Cert.Reference.τ).loc Cert.Reference.main_arg4))
      ∧ m ((c.tc : Thread Cert.Kernel.nD Cert.Kernel.τ).loc Cert.Kernel.main_arg5) = Layout.block ⟨3, ![8, 1024, 256]⟩ ⟨3, ![64, 1024, 256]⟩ 0 8 c (m' (((0 : Dev Cert.Reference.nD).tc : Thread Cert.Reference.nD Cert.Reference.τ).loc Cert.Reference.main_arg5))
      ∧ m ((c.tc : Thread Cert.Kernel.nD Cert.Kernel.τ).loc Cert.Kernel.main_arg6) = Layout.block ⟨3, ![8, 128, 1024]⟩ ⟨3, ![64, 128, 1024]⟩ 0 8 c (m' (((0 : Dev Cert.Reference.nD).tc : Thread Cert.Reference.nD Cert.Reference.τ).loc Cert.Reference.main_arg6))
      ∧ m ((c.tc : Thread Cert.Kernel.nD Cert.Kernel.τ).loc Cert.Kernel.main_arg7) = Layout.block ⟨3, ![8, 1024, 704]⟩ ⟨3, ![64, 1024, 704]⟩ 0 8 c (m' (((0 : Dev Cert.Reference.nD).tc : Thread Cert.Reference.nD Cert.Reference.τ).loc Cert.Reference.main_arg7))
      ∧ m ((c.tc : Thread Cert.Kernel.nD Cert.Kernel.τ).loc Cert.Kernel.main_arg8) = Layout.block ⟨3, ![8, 352, 1024]⟩ ⟨3, ![64, 352, 1024]⟩ 0 8 c (m' (((0 : Dev Cert.Reference.nD).tc : Thread Cert.Reference.nD Cert.Reference.τ).loc Cert.Reference.main_arg8))) →
    ∃ (v0 : Buf (Elt Bits) (((0 : Dev Cert.Reference.nD).tc : Thread Cert.Reference.nD Cert.Reference.τ).loc Cert.Reference.main_v2)) (v1 : Buf (Elt Bits) (((0 : Dev Cert.Reference.nD).tc : Thread Cert.Reference.nD Cert.Reference.τ).loc Cert.Reference.main_v5)) (v2 : Buf (Elt Bits) (((0 : Dev Cert.Reference.nD).tc : Thread Cert.Reference.nD Cert.Reference.τ).loc Cert.Reference.main_v8)) (v3 : Buf (Elt Bits) (((0 : Dev Cert.Reference.nD).tc : Thread Cert.Reference.nD Cert.Reference.τ).loc Cert.Reference.main_v11)) (v4 : Buf (Elt Bits) (((0 : Dev Cert.Reference.nD).tc : Thread Cert.Reference.nD Cert.Reference.τ).loc Cert.Reference.main_v14)) (v5 : Buf (Elt Bits) (((0 : Dev Cert.Reference.nD).tc : Thread Cert.Reference.nD Cert.Reference.τ).loc Cert.Reference.main_v17)) (v6 : Buf (Elt Bits) (((0 : Dev Cert.Reference.nD).tc : Thread Cert.Reference.nD Cert.Reference.τ).loc Cert.Reference.main_v20)) (v7 : Buf (Elt Bits) (((0 : Dev Cert.Reference.nD).tc : Thread Cert.Reference.nD Cert.Reference.τ).loc Cert.Reference.main_v23)) (v8 : Buf (Elt Bits) (((0 : Dev Cert.Reference.nD).tc : Thread Cert.Reference.nD Cert.Reference.τ).loc Cert.Reference.main_v26)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1_0) = Layout.block ⟨3, ![8, 1024, 704]⟩ ⟨3, ![64, 1024, 704]⟩ 0 8 c v0
          ∧ r.2.mem ((c.tc : Thread Cert.Kernel.nD Cert.Kernel.τ).loc Cert.Kernel.main_v1_1) = Layout.block ⟨3, ![8, 352, 1024]⟩ ⟨3, ![64, 352, 1024]⟩ 0 8 c v1
          ∧ r.2.mem ((c.tc : Thread Cert.Kernel.nD Cert.Kernel.τ).loc Cert.Kernel.main_v1_2) = Layout.block ⟨3, ![8, 1024, 321]⟩ ⟨3, ![64, 1024, 321]⟩ 0 8 c v2
          ∧ r.2.mem ((c.tc : Thread Cert.Kernel.nD Cert.Kernel.τ).loc Cert.Kernel.main_v1_3) = Layout.block ⟨3, ![8, 128, 1024]⟩ ⟨3, ![64, 128, 1024]⟩ 0 8 c v3
          ∧ r.2.mem ((c.tc : Thread Cert.Kernel.nD Cert.Kernel.τ).loc Cert.Kernel.main_v1_4) = Layout.block ⟨3, ![8, 128, 1024]⟩ ⟨3, ![64, 128, 1024]⟩ 0 8 c v4
          ∧ r.2.mem ((c.tc : Thread Cert.Kernel.nD Cert.Kernel.τ).loc Cert.Kernel.main_v1_5) = Layout.block ⟨3, ![8, 1024, 256]⟩ ⟨3, ![64, 1024, 256]⟩ 0 8 c v5
          ∧ r.2.mem ((c.tc : Thread Cert.Kernel.nD Cert.Kernel.τ).loc Cert.Kernel.main_v1_6) = Layout.block ⟨3, ![8, 128, 1024]⟩ ⟨3, ![64, 128, 1024]⟩ 0 8 c v6
          ∧ r.2.mem ((c.tc : Thread Cert.Kernel.nD Cert.Kernel.τ).loc Cert.Kernel.main_v1_7) = Layout.block ⟨3, ![8, 1024, 704]⟩ ⟨3, ![64, 1024, 704]⟩ 0 8 c v7
          ∧ r.2.mem ((c.tc : Thread Cert.Kernel.nD Cert.Kernel.τ).loc Cert.Kernel.main_v1_8) = Layout.block ⟨3, ![8, 352, 1024]⟩ ⟨3, ![64, 352, 1024]⟩ 0 8 c v8
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5)
          ∧ r.2.mem ((c.tc : Thread Cert.Kernel.nD Cert.Kernel.τ).loc Cert.Kernel.main_arg6) = m ((c.tc : Thread Cert.Kernel.nD Cert.Kernel.τ).loc Cert.Kernel.main_arg6)
          ∧ r.2.mem ((c.tc : Thread Cert.Kernel.nD Cert.Kernel.τ).loc Cert.Kernel.main_arg7) = m ((c.tc : Thread Cert.Kernel.nD Cert.Kernel.τ).loc Cert.Kernel.main_arg7)
          ∧ r.2.mem ((c.tc : Thread Cert.Kernel.nD Cert.Kernel.τ).loc Cert.Kernel.main_arg8) = m ((c.tc : Thread Cert.Kernel.nD Cert.Kernel.τ).loc Cert.Kernel.main_arg8))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v2) = v0
          ∧ r.2.mem (((0 : Dev Cert.Reference.nD).tc : Thread Cert.Reference.nD Cert.Reference.τ).loc Cert.Reference.main_v5) = v1
          ∧ r.2.mem (((0 : Dev Cert.Reference.nD).tc : Thread Cert.Reference.nD Cert.Reference.τ).loc Cert.Reference.main_v8) = v2
          ∧ r.2.mem (((0 : Dev Cert.Reference.nD).tc : Thread Cert.Reference.nD Cert.Reference.τ).loc Cert.Reference.main_v11) = v3
          ∧ r.2.mem (((0 : Dev Cert.Reference.nD).tc : Thread Cert.Reference.nD Cert.Reference.τ).loc Cert.Reference.main_v14) = v4
          ∧ r.2.mem (((0 : Dev Cert.Reference.nD).tc : Thread Cert.Reference.nD Cert.Reference.τ).loc Cert.Reference.main_v17) = v5
          ∧ r.2.mem (((0 : Dev Cert.Reference.nD).tc : Thread Cert.Reference.nD Cert.Reference.τ).loc Cert.Reference.main_v20) = v6
          ∧ r.2.mem (((0 : Dev Cert.Reference.nD).tc : Thread Cert.Reference.nD Cert.Reference.τ).loc Cert.Reference.main_v23) = v7
          ∧ r.2.mem (((0 : Dev Cert.Reference.nD).tc : Thread Cert.Reference.nD Cert.Reference.τ).loc Cert.Reference.main_v26) = v8
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1)
          ∧ r.2.mem (((0 : Dev Cert.Reference.nD).tc : Thread Cert.Reference.nD Cert.Reference.τ).loc Cert.Reference.main_arg2) = m' (((0 : Dev Cert.Reference.nD).tc : Thread Cert.Reference.nD Cert.Reference.τ).loc Cert.Reference.main_arg2)
          ∧ r.2.mem (((0 : Dev Cert.Reference.nD).tc : Thread Cert.Reference.nD Cert.Reference.τ).loc Cert.Reference.main_arg3) = m' (((0 : Dev Cert.Reference.nD).tc : Thread Cert.Reference.nD Cert.Reference.τ).loc Cert.Reference.main_arg3)
          ∧ r.2.mem (((0 : Dev Cert.Reference.nD).tc : Thread Cert.Reference.nD Cert.Reference.τ).loc Cert.Reference.main_arg4) = m' (((0 : Dev Cert.Reference.nD).tc : Thread Cert.Reference.nD Cert.Reference.τ).loc Cert.Reference.main_arg4)
          ∧ r.2.mem (((0 : Dev Cert.Reference.nD).tc : Thread Cert.Reference.nD Cert.Reference.τ).loc Cert.Reference.main_arg5) = m' (((0 : Dev Cert.Reference.nD).tc : Thread Cert.Reference.nD Cert.Reference.τ).loc Cert.Reference.main_arg5)
          ∧ r.2.mem (((0 : Dev Cert.Reference.nD).tc : Thread Cert.Reference.nD Cert.Reference.τ).loc Cert.Reference.main_arg6) = m' (((0 : Dev Cert.Reference.nD).tc : Thread Cert.Reference.nD Cert.Reference.τ).loc Cert.Reference.main_arg6)
          ∧ r.2.mem (((0 : Dev Cert.Reference.nD).tc : Thread Cert.Reference.nD Cert.Reference.τ).loc Cert.Reference.main_arg7) = m' (((0 : Dev Cert.Reference.nD).tc : Thread Cert.Reference.nD Cert.Reference.τ).loc Cert.Reference.main_arg7)
          ∧ r.2.mem (((0 : Dev Cert.Reference.nD).tc : Thread Cert.Reference.nD Cert.Reference.τ).loc Cert.Reference.main_arg8) = m' (((0 : Dev Cert.Reference.nD).tc : Thread Cert.Reference.nD Cert.Reference.τ).loc Cert.Reference.main_arg8))

def preserves_Gather_GatherIdeal : Prop :=
  True

def algebraic_GatherIdeal_WholeIdeal [hGatherIdeal : Cert.GatherIdeal.Facts] [hWholeIdeal : Cert.WholeIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.WholeIdeal.nD Cert.WholeIdeal.τ Cert.WholeIdeal.sig) → Buf (Elt Ideal) ℓ) (g' : Dev Cert.WholeIdeal.nD → PrngReg), Pre_GatherIdeal m →
    (∀ c : Dev Cert.GatherIdeal.nD,
      m ((c.tc : Thread Cert.GatherIdeal.nD Cert.GatherIdeal.τ).loc Cert.GatherIdeal.main_arg0) = Layout.block ⟨2, ![1024, 704]⟩ ⟨2, ![8192, 704]⟩ 0 8 c (m' (((0 : Dev Cert.WholeIdeal.nD).tc : Thread Cert.WholeIdeal.nD Cert.WholeIdeal.τ).loc Cert.WholeIdeal.main_arg0))
      ∧ m ((c.tc : Thread Cert.GatherIdeal.nD Cert.GatherIdeal.τ).loc Cert.GatherIdeal.main_arg1) = Layout.block ⟨2, ![352, 1024]⟩ ⟨2, ![2816, 1024]⟩ 0 8 c (m' (((0 : Dev Cert.WholeIdeal.nD).tc : Thread Cert.WholeIdeal.nD Cert.WholeIdeal.τ).loc Cert.WholeIdeal.main_arg1))
      ∧ m ((c.tc : Thread Cert.GatherIdeal.nD Cert.GatherIdeal.τ).loc Cert.GatherIdeal.main_arg2) = Layout.block ⟨2, ![1024, 321]⟩ ⟨2, ![8192, 321]⟩ 0 8 c (m' (((0 : Dev Cert.WholeIdeal.nD).tc : Thread Cert.WholeIdeal.nD Cert.WholeIdeal.τ).loc Cert.WholeIdeal.main_arg2))
      ∧ m ((c.tc : Thread Cert.GatherIdeal.nD Cert.GatherIdeal.τ).loc Cert.GatherIdeal.main_arg3) = Layout.block ⟨2, ![128, 1024]⟩ ⟨2, ![1024, 1024]⟩ 0 8 c (m' (((0 : Dev Cert.WholeIdeal.nD).tc : Thread Cert.WholeIdeal.nD Cert.WholeIdeal.τ).loc Cert.WholeIdeal.main_arg3))
      ∧ m ((c.tc : Thread Cert.GatherIdeal.nD Cert.GatherIdeal.τ).loc Cert.GatherIdeal.main_arg4) = Layout.block ⟨2, ![128, 1024]⟩ ⟨2, ![1024, 1024]⟩ 0 8 c (m' (((0 : Dev Cert.WholeIdeal.nD).tc : Thread Cert.WholeIdeal.nD Cert.WholeIdeal.τ).loc Cert.WholeIdeal.main_arg4))
      ∧ m ((c.tc : Thread Cert.GatherIdeal.nD Cert.GatherIdeal.τ).loc Cert.GatherIdeal.main_arg5) = Layout.block ⟨2, ![1024, 256]⟩ ⟨2, ![8192, 256]⟩ 0 8 c (m' (((0 : Dev Cert.WholeIdeal.nD).tc : Thread Cert.WholeIdeal.nD Cert.WholeIdeal.τ).loc Cert.WholeIdeal.main_arg5))
      ∧ m ((c.tc : Thread Cert.GatherIdeal.nD Cert.GatherIdeal.τ).loc Cert.GatherIdeal.main_arg6) = Layout.block ⟨2, ![128, 1024]⟩ ⟨2, ![1024, 1024]⟩ 0 8 c (m' (((0 : Dev Cert.WholeIdeal.nD).tc : Thread Cert.WholeIdeal.nD Cert.WholeIdeal.τ).loc Cert.WholeIdeal.main_arg6))
      ∧ m ((c.tc : Thread Cert.GatherIdeal.nD Cert.GatherIdeal.τ).loc Cert.GatherIdeal.main_arg7) = Layout.block ⟨2, ![1024, 704]⟩ ⟨2, ![8192, 704]⟩ 0 8 c (m' (((0 : Dev Cert.WholeIdeal.nD).tc : Thread Cert.WholeIdeal.nD Cert.WholeIdeal.τ).loc Cert.WholeIdeal.main_arg7))
      ∧ m ((c.tc : Thread Cert.GatherIdeal.nD Cert.GatherIdeal.τ).loc Cert.GatherIdeal.main_arg8) = Layout.block ⟨2, ![352, 1024]⟩ ⟨2, ![2816, 1024]⟩ 0 8 c (m' (((0 : Dev Cert.WholeIdeal.nD).tc : Thread Cert.WholeIdeal.nD Cert.WholeIdeal.τ).loc Cert.WholeIdeal.main_arg8))) →
    ∃ (v0 : Buf (Elt Ideal) (((0 : Dev Cert.WholeIdeal.nD).tc : Thread Cert.WholeIdeal.nD Cert.WholeIdeal.τ).loc Cert.WholeIdeal.main_v0)) (v1 : Buf (Elt Ideal) (((0 : Dev Cert.WholeIdeal.nD).tc : Thread Cert.WholeIdeal.nD Cert.WholeIdeal.τ).loc Cert.WholeIdeal.main_v1)) (v2 : Buf (Elt Ideal) (((0 : Dev Cert.WholeIdeal.nD).tc : Thread Cert.WholeIdeal.nD Cert.WholeIdeal.τ).loc Cert.WholeIdeal.main_v2)) (v3 : Buf (Elt Ideal) (((0 : Dev Cert.WholeIdeal.nD).tc : Thread Cert.WholeIdeal.nD Cert.WholeIdeal.τ).loc Cert.WholeIdeal.main_v3)) (v4 : Buf (Elt Ideal) (((0 : Dev Cert.WholeIdeal.nD).tc : Thread Cert.WholeIdeal.nD Cert.WholeIdeal.τ).loc Cert.WholeIdeal.main_v4)) (v5 : Buf (Elt Ideal) (((0 : Dev Cert.WholeIdeal.nD).tc : Thread Cert.WholeIdeal.nD Cert.WholeIdeal.τ).loc Cert.WholeIdeal.main_v5)) (v6 : Buf (Elt Ideal) (((0 : Dev Cert.WholeIdeal.nD).tc : Thread Cert.WholeIdeal.nD Cert.WholeIdeal.τ).loc Cert.WholeIdeal.main_v6)) (v7 : Buf (Elt Ideal) (((0 : Dev Cert.WholeIdeal.nD).tc : Thread Cert.WholeIdeal.nD Cert.WholeIdeal.τ).loc Cert.WholeIdeal.main_v7)) (v8 : Buf (Elt Ideal) (((0 : Dev Cert.WholeIdeal.nD).tc : Thread Cert.WholeIdeal.nD Cert.WholeIdeal.τ).loc Cert.WholeIdeal.main_v8)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1_0) = v0
          ∧ r.2.mem ((c.tc : Thread Cert.GatherIdeal.nD Cert.GatherIdeal.τ).loc Cert.GatherIdeal.main_v1_1) = v1
          ∧ r.2.mem ((c.tc : Thread Cert.GatherIdeal.nD Cert.GatherIdeal.τ).loc Cert.GatherIdeal.main_v1_2) = v2
          ∧ r.2.mem ((c.tc : Thread Cert.GatherIdeal.nD Cert.GatherIdeal.τ).loc Cert.GatherIdeal.main_v1_3) = v3
          ∧ r.2.mem ((c.tc : Thread Cert.GatherIdeal.nD Cert.GatherIdeal.τ).loc Cert.GatherIdeal.main_v1_4) = v4
          ∧ r.2.mem ((c.tc : Thread Cert.GatherIdeal.nD Cert.GatherIdeal.τ).loc Cert.GatherIdeal.main_v1_5) = v5
          ∧ r.2.mem ((c.tc : Thread Cert.GatherIdeal.nD Cert.GatherIdeal.τ).loc Cert.GatherIdeal.main_v1_6) = v6
          ∧ r.2.mem ((c.tc : Thread Cert.GatherIdeal.nD Cert.GatherIdeal.τ).loc Cert.GatherIdeal.main_v1_7) = v7
          ∧ r.2.mem ((c.tc : Thread Cert.GatherIdeal.nD Cert.GatherIdeal.τ).loc Cert.GatherIdeal.main_v1_8) = v8
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
          ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
          ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4)
          ∧ r.2.mem ((c.tc : Thread Cert.GatherIdeal.nD Cert.GatherIdeal.τ).loc Cert.GatherIdeal.main_arg5) = m ((c.tc : Thread Cert.GatherIdeal.nD Cert.GatherIdeal.τ).loc Cert.GatherIdeal.main_arg5)
          ∧ r.2.mem ((c.tc : Thread Cert.GatherIdeal.nD Cert.GatherIdeal.τ).loc Cert.GatherIdeal.main_arg6) = m ((c.tc : Thread Cert.GatherIdeal.nD Cert.GatherIdeal.τ).loc Cert.GatherIdeal.main_arg6)
          ∧ r.2.mem ((c.tc : Thread Cert.GatherIdeal.nD Cert.GatherIdeal.τ).loc Cert.GatherIdeal.main_arg7) = m ((c.tc : Thread Cert.GatherIdeal.nD Cert.GatherIdeal.τ).loc Cert.GatherIdeal.main_arg7)
          ∧ r.2.mem ((c.tc : Thread Cert.GatherIdeal.nD Cert.GatherIdeal.τ).loc Cert.GatherIdeal.main_arg8) = m ((c.tc : Thread Cert.GatherIdeal.nD Cert.GatherIdeal.τ).loc Cert.GatherIdeal.main_arg8))
      ∧ θ_run (Cert.WholeIdeal.defs (F := Ideal)) (onTc (τ := Cert.WholeIdeal.τ) (Cert.WholeIdeal.main (F := Ideal))) ⟨m', fun _ => 0, g'⟩ (fun r =>
          r.2.mem (((0 : Dev Cert.WholeIdeal.nD).tc : Thread Cert.WholeIdeal.nD Cert.WholeIdeal.τ).loc Cert.WholeIdeal.main_v0) = v0
          ∧ r.2.mem (((0 : Dev Cert.WholeIdeal.nD).tc : Thread Cert.WholeIdeal.nD Cert.WholeIdeal.τ).loc Cert.WholeIdeal.main_v1) = v1
          ∧ r.2.mem (((0 : Dev Cert.WholeIdeal.nD).tc : Thread Cert.WholeIdeal.nD Cert.WholeIdeal.τ).loc Cert.WholeIdeal.main_v2) = v2
          ∧ r.2.mem (((0 : Dev Cert.WholeIdeal.nD).tc : Thread Cert.WholeIdeal.nD Cert.WholeIdeal.τ).loc Cert.WholeIdeal.main_v3) = v3
          ∧ r.2.mem (((0 : Dev Cert.WholeIdeal.nD).tc : Thread Cert.WholeIdeal.nD Cert.WholeIdeal.τ).loc Cert.WholeIdeal.main_v4) = v4
          ∧ r.2.mem (((0 : Dev Cert.WholeIdeal.nD).tc : Thread Cert.WholeIdeal.nD Cert.WholeIdeal.τ).loc Cert.WholeIdeal.main_v5) = v5
          ∧ r.2.mem (((0 : Dev Cert.WholeIdeal.nD).tc : Thread Cert.WholeIdeal.nD Cert.WholeIdeal.τ).loc Cert.WholeIdeal.main_v6) = v6
          ∧ r.2.mem (((0 : Dev Cert.WholeIdeal.nD).tc : Thread Cert.WholeIdeal.nD Cert.WholeIdeal.τ).loc Cert.WholeIdeal.main_v7) = v7
          ∧ r.2.mem (((0 : Dev Cert.WholeIdeal.nD).tc : Thread Cert.WholeIdeal.nD Cert.WholeIdeal.τ).loc Cert.WholeIdeal.main_v8) = v8
          ∧ r.2.mem (((0 : Dev Cert.WholeIdeal.nD).tc : Thread Cert.WholeIdeal.nD Cert.WholeIdeal.τ).loc Cert.WholeIdeal.main_arg0) = m' (((0 : Dev Cert.WholeIdeal.nD).tc : Thread Cert.WholeIdeal.nD Cert.WholeIdeal.τ).loc Cert.WholeIdeal.main_arg0)
          ∧ r.2.mem (((0 : Dev Cert.WholeIdeal.nD).tc : Thread Cert.WholeIdeal.nD Cert.WholeIdeal.τ).loc Cert.WholeIdeal.main_arg1) = m' (((0 : Dev Cert.WholeIdeal.nD).tc : Thread Cert.WholeIdeal.nD Cert.WholeIdeal.τ).loc Cert.WholeIdeal.main_arg1)
          ∧ r.2.mem (((0 : Dev Cert.WholeIdeal.nD).tc : Thread Cert.WholeIdeal.nD Cert.WholeIdeal.τ).loc Cert.WholeIdeal.main_arg2) = m' (((0 : Dev Cert.WholeIdeal.nD).tc : Thread Cert.WholeIdeal.nD Cert.WholeIdeal.τ).loc Cert.WholeIdeal.main_arg2)
          ∧ r.2.mem (((0 : Dev Cert.WholeIdeal.nD).tc : Thread Cert.WholeIdeal.nD Cert.WholeIdeal.τ).loc Cert.WholeIdeal.main_arg3) = m' (((0 : Dev Cert.WholeIdeal.nD).tc : Thread Cert.WholeIdeal.nD Cert.WholeIdeal.τ).loc Cert.WholeIdeal.main_arg3)
          ∧ r.2.mem (((0 : Dev Cert.WholeIdeal.nD).tc : Thread Cert.WholeIdeal.nD Cert.WholeIdeal.τ).loc Cert.WholeIdeal.main_arg4) = m' (((0 : Dev Cert.WholeIdeal.nD).tc : Thread Cert.WholeIdeal.nD Cert.WholeIdeal.τ).loc Cert.WholeIdeal.main_arg4)
          ∧ r.2.mem (((0 : Dev Cert.WholeIdeal.nD).tc : Thread Cert.WholeIdeal.nD Cert.WholeIdeal.τ).loc Cert.WholeIdeal.main_arg5) = m' (((0 : Dev Cert.WholeIdeal.nD).tc : Thread Cert.WholeIdeal.nD Cert.WholeIdeal.τ).loc Cert.WholeIdeal.main_arg5)
          ∧ r.2.mem (((0 : Dev Cert.WholeIdeal.nD).tc : Thread Cert.WholeIdeal.nD Cert.WholeIdeal.τ).loc Cert.WholeIdeal.main_arg6) = m' (((0 : Dev Cert.WholeIdeal.nD).tc : Thread Cert.WholeIdeal.nD Cert.WholeIdeal.τ).loc Cert.WholeIdeal.main_arg6)
          ∧ r.2.mem (((0 : Dev Cert.WholeIdeal.nD).tc : Thread Cert.WholeIdeal.nD Cert.WholeIdeal.τ).loc Cert.WholeIdeal.main_arg7) = m' (((0 : Dev Cert.WholeIdeal.nD).tc : Thread Cert.WholeIdeal.nD Cert.WholeIdeal.τ).loc Cert.WholeIdeal.main_arg7)
          ∧ r.2.mem (((0 : Dev Cert.WholeIdeal.nD).tc : Thread Cert.WholeIdeal.nD Cert.WholeIdeal.τ).loc Cert.WholeIdeal.main_arg8) = m' (((0 : Dev Cert.WholeIdeal.nD).tc : Thread Cert.WholeIdeal.nD Cert.WholeIdeal.τ).loc Cert.WholeIdeal.main_arg8))

def bitexact_Gather_Whole [hGather : Cert.Gather.Facts] [hWhole : Cert.Whole.Facts] : Prop :=
  ∀ (m : (ℓ : Loc Cert.Gather.nD Cert.Gather.τ Cert.Gather.sig) → Buf (Elt Bits) ℓ) (g : Dev Cert.Gather.nD → PrngReg)
    (m' : (ℓ : Loc Cert.Whole.nD Cert.Whole.τ Cert.Whole.sig) → Buf (Elt Bits) ℓ) (g' : Dev Cert.Whole.nD → PrngReg), Pre_Gather m →
    (∀ c : Dev Cert.Gather.nD,
      m ((c.tc : Thread Cert.Gather.nD Cert.Gather.τ).loc Cert.Gather.main_arg0) = Layout.block ⟨2, ![1024, 704]⟩ ⟨2, ![8192, 704]⟩ 0 8 c (m' (((0 : Dev Cert.Whole.nD).tc : Thread Cert.Whole.nD Cert.Whole.τ).loc Cert.Whole.main_arg0))
      ∧ m ((c.tc : Thread Cert.Gather.nD Cert.Gather.τ).loc Cert.Gather.main_arg1) = Layout.block ⟨2, ![352, 1024]⟩ ⟨2, ![2816, 1024]⟩ 0 8 c (m' (((0 : Dev Cert.Whole.nD).tc : Thread Cert.Whole.nD Cert.Whole.τ).loc Cert.Whole.main_arg1))
      ∧ m ((c.tc : Thread Cert.Gather.nD Cert.Gather.τ).loc Cert.Gather.main_arg2) = Layout.block ⟨2, ![1024, 321]⟩ ⟨2, ![8192, 321]⟩ 0 8 c (m' (((0 : Dev Cert.Whole.nD).tc : Thread Cert.Whole.nD Cert.Whole.τ).loc Cert.Whole.main_arg2))
      ∧ m ((c.tc : Thread Cert.Gather.nD Cert.Gather.τ).loc Cert.Gather.main_arg3) = Layout.block ⟨2, ![128, 1024]⟩ ⟨2, ![1024, 1024]⟩ 0 8 c (m' (((0 : Dev Cert.Whole.nD).tc : Thread Cert.Whole.nD Cert.Whole.τ).loc Cert.Whole.main_arg3))
      ∧ m ((c.tc : Thread Cert.Gather.nD Cert.Gather.τ).loc Cert.Gather.main_arg4) = Layout.block ⟨2, ![128, 1024]⟩ ⟨2, ![1024, 1024]⟩ 0 8 c (m' (((0 : Dev Cert.Whole.nD).tc : Thread Cert.Whole.nD Cert.Whole.τ).loc Cert.Whole.main_arg4))
      ∧ m ((c.tc : Thread Cert.Gather.nD Cert.Gather.τ).loc Cert.Gather.main_arg5) = Layout.block ⟨2, ![1024, 256]⟩ ⟨2, ![8192, 256]⟩ 0 8 c (m' (((0 : Dev Cert.Whole.nD).tc : Thread Cert.Whole.nD Cert.Whole.τ).loc Cert.Whole.main_arg5))
      ∧ m ((c.tc : Thread Cert.Gather.nD Cert.Gather.τ).loc Cert.Gather.main_arg6) = Layout.block ⟨2, ![128, 1024]⟩ ⟨2, ![1024, 1024]⟩ 0 8 c (m' (((0 : Dev Cert.Whole.nD).tc : Thread Cert.Whole.nD Cert.Whole.τ).loc Cert.Whole.main_arg6))
      ∧ m ((c.tc : Thread Cert.Gather.nD Cert.Gather.τ).loc Cert.Gather.main_arg7) = Layout.block ⟨2, ![1024, 704]⟩ ⟨2, ![8192, 704]⟩ 0 8 c (m' (((0 : Dev Cert.Whole.nD).tc : Thread Cert.Whole.nD Cert.Whole.τ).loc Cert.Whole.main_arg7))
      ∧ m ((c.tc : Thread Cert.Gather.nD Cert.Gather.τ).loc Cert.Gather.main_arg8) = Layout.block ⟨2, ![352, 1024]⟩ ⟨2, ![2816, 1024]⟩ 0 8 c (m' (((0 : Dev Cert.Whole.nD).tc : Thread Cert.Whole.nD Cert.Whole.τ).loc Cert.Whole.main_arg8))) →
    ∃ (v0 : Buf (Elt Bits) (((0 : Dev Cert.Whole.nD).tc : Thread Cert.Whole.nD Cert.Whole.τ).loc Cert.Whole.main_v0)) (v1 : Buf (Elt Bits) (((0 : Dev Cert.Whole.nD).tc : Thread Cert.Whole.nD Cert.Whole.τ).loc Cert.Whole.main_v1)) (v2 : Buf (Elt Bits) (((0 : Dev Cert.Whole.nD).tc : Thread Cert.Whole.nD Cert.Whole.τ).loc Cert.Whole.main_v2)) (v3 : Buf (Elt Bits) (((0 : Dev Cert.Whole.nD).tc : Thread Cert.Whole.nD Cert.Whole.τ).loc Cert.Whole.main_v3)) (v4 : Buf (Elt Bits) (((0 : Dev Cert.Whole.nD).tc : Thread Cert.Whole.nD Cert.Whole.τ).loc Cert.Whole.main_v4)) (v5 : Buf (Elt Bits) (((0 : Dev Cert.Whole.nD).tc : Thread Cert.Whole.nD Cert.Whole.τ).loc Cert.Whole.main_v5)) (v6 : Buf (Elt Bits) (((0 : Dev Cert.Whole.nD).tc : Thread Cert.Whole.nD Cert.Whole.τ).loc Cert.Whole.main_v6)) (v7 : Buf (Elt Bits) (((0 : Dev Cert.Whole.nD).tc : Thread Cert.Whole.nD Cert.Whole.τ).loc Cert.Whole.main_v7)) (v8 : Buf (Elt Bits) (((0 : Dev Cert.Whole.nD).tc : Thread Cert.Whole.nD Cert.Whole.τ).loc Cert.Whole.main_v8)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1_0) = v0
          ∧ r.2.mem ((c.tc : Thread Cert.Gather.nD Cert.Gather.τ).loc Cert.Gather.main_v1_1) = v1
          ∧ r.2.mem ((c.tc : Thread Cert.Gather.nD Cert.Gather.τ).loc Cert.Gather.main_v1_2) = v2
          ∧ r.2.mem ((c.tc : Thread Cert.Gather.nD Cert.Gather.τ).loc Cert.Gather.main_v1_3) = v3
          ∧ r.2.mem ((c.tc : Thread Cert.Gather.nD Cert.Gather.τ).loc Cert.Gather.main_v1_4) = v4
          ∧ r.2.mem ((c.tc : Thread Cert.Gather.nD Cert.Gather.τ).loc Cert.Gather.main_v1_5) = v5
          ∧ r.2.mem ((c.tc : Thread Cert.Gather.nD Cert.Gather.τ).loc Cert.Gather.main_v1_6) = v6
          ∧ r.2.mem ((c.tc : Thread Cert.Gather.nD Cert.Gather.τ).loc Cert.Gather.main_v1_7) = v7
          ∧ r.2.mem ((c.tc : Thread Cert.Gather.nD Cert.Gather.τ).loc Cert.Gather.main_v1_8) = v8
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1)
          ∧ r.2.mem ((c.tc : Thread Cert.Gather.nD Cert.Gather.τ).loc Cert.Gather.main_arg2) = m ((c.tc : Thread Cert.Gather.nD Cert.Gather.τ).loc Cert.Gather.main_arg2)
          ∧ r.2.mem ((c.tc : Thread Cert.Gather.nD Cert.Gather.τ).loc Cert.Gather.main_arg3) = m ((c.tc : Thread Cert.Gather.nD Cert.Gather.τ).loc Cert.Gather.main_arg3)
          ∧ r.2.mem ((c.tc : Thread Cert.Gather.nD Cert.Gather.τ).loc Cert.Gather.main_arg4) = m ((c.tc : Thread Cert.Gather.nD Cert.Gather.τ).loc Cert.Gather.main_arg4)
          ∧ r.2.mem ((c.tc : Thread Cert.Gather.nD Cert.Gather.τ).loc Cert.Gather.main_arg5) = m ((c.tc : Thread Cert.Gather.nD Cert.Gather.τ).loc Cert.Gather.main_arg5)
          ∧ r.2.mem ((c.tc : Thread Cert.Gather.nD Cert.Gather.τ).loc Cert.Gather.main_arg6) = m ((c.tc : Thread Cert.Gather.nD Cert.Gather.τ).loc Cert.Gather.main_arg6)
          ∧ r.2.mem ((c.tc : Thread Cert.Gather.nD Cert.Gather.τ).loc Cert.Gather.main_arg7) = m ((c.tc : Thread Cert.Gather.nD Cert.Gather.τ).loc Cert.Gather.main_arg7)
          ∧ r.2.mem ((c.tc : Thread Cert.Gather.nD Cert.Gather.τ).loc Cert.Gather.main_arg8) = m ((c.tc : Thread Cert.Gather.nD Cert.Gather.τ).loc Cert.Gather.main_arg8))
      ∧ θ_run (Cert.Whole.defs (F := Bits)) (onTc (τ := Cert.Whole.τ) (Cert.Whole.main (F := Bits))) ⟨m', fun _ => 0, g'⟩ (fun r =>
          r.2.mem (((0 : Dev Cert.Whole.nD).tc : Thread Cert.Whole.nD Cert.Whole.τ).loc Cert.Whole.main_v0) = v0
          ∧ r.2.mem (((0 : Dev Cert.Whole.nD).tc : Thread Cert.Whole.nD Cert.Whole.τ).loc Cert.Whole.main_v1) = v1
          ∧ r.2.mem (((0 : Dev Cert.Whole.nD).tc : Thread Cert.Whole.nD Cert.Whole.τ).loc Cert.Whole.main_v2) = v2
          ∧ r.2.mem (((0 : Dev Cert.Whole.nD).tc : Thread Cert.Whole.nD Cert.Whole.τ).loc Cert.Whole.main_v3) = v3
          ∧ r.2.mem (((0 : Dev Cert.Whole.nD).tc : Thread Cert.Whole.nD Cert.Whole.τ).loc Cert.Whole.main_v4) = v4
          ∧ r.2.mem (((0 : Dev Cert.Whole.nD).tc : Thread Cert.Whole.nD Cert.Whole.τ).loc Cert.Whole.main_v5) = v5
          ∧ r.2.mem (((0 : Dev Cert.Whole.nD).tc : Thread Cert.Whole.nD Cert.Whole.τ).loc Cert.Whole.main_v6) = v6
          ∧ r.2.mem (((0 : Dev Cert.Whole.nD).tc : Thread Cert.Whole.nD Cert.Whole.τ).loc Cert.Whole.main_v7) = v7
          ∧ r.2.mem (((0 : Dev Cert.Whole.nD).tc : Thread Cert.Whole.nD Cert.Whole.τ).loc Cert.Whole.main_v8) = v8
          ∧ r.2.mem (((0 : Dev Cert.Whole.nD).tc : Thread Cert.Whole.nD Cert.Whole.τ).loc Cert.Whole.main_arg0) = m' (((0 : Dev Cert.Whole.nD).tc : Thread Cert.Whole.nD Cert.Whole.τ).loc Cert.Whole.main_arg0)
          ∧ r.2.mem (((0 : Dev Cert.Whole.nD).tc : Thread Cert.Whole.nD Cert.Whole.τ).loc Cert.Whole.main_arg1) = m' (((0 : Dev Cert.Whole.nD).tc : Thread Cert.Whole.nD Cert.Whole.τ).loc Cert.Whole.main_arg1)
          ∧ r.2.mem (((0 : Dev Cert.Whole.nD).tc : Thread Cert.Whole.nD Cert.Whole.τ).loc Cert.Whole.main_arg2) = m' (((0 : Dev Cert.Whole.nD).tc : Thread Cert.Whole.nD Cert.Whole.τ).loc Cert.Whole.main_arg2)
          ∧ r.2.mem (((0 : Dev Cert.Whole.nD).tc : Thread Cert.Whole.nD Cert.Whole.τ).loc Cert.Whole.main_arg3) = m' (((0 : Dev Cert.Whole.nD).tc : Thread Cert.Whole.nD Cert.Whole.τ).loc Cert.Whole.main_arg3)
          ∧ r.2.mem (((0 : Dev Cert.Whole.nD).tc : Thread Cert.Whole.nD Cert.Whole.τ).loc Cert.Whole.main_arg4) = m' (((0 : Dev Cert.Whole.nD).tc : Thread Cert.Whole.nD Cert.Whole.τ).loc Cert.Whole.main_arg4)
          ∧ r.2.mem (((0 : Dev Cert.Whole.nD).tc : Thread Cert.Whole.nD Cert.Whole.τ).loc Cert.Whole.main_arg5) = m' (((0 : Dev Cert.Whole.nD).tc : Thread Cert.Whole.nD Cert.Whole.τ).loc Cert.Whole.main_arg5)
          ∧ r.2.mem (((0 : Dev Cert.Whole.nD).tc : Thread Cert.Whole.nD Cert.Whole.τ).loc Cert.Whole.main_arg6) = m' (((0 : Dev Cert.Whole.nD).tc : Thread Cert.Whole.nD Cert.Whole.τ).loc Cert.Whole.main_arg6)
          ∧ r.2.mem (((0 : Dev Cert.Whole.nD).tc : Thread Cert.Whole.nD Cert.Whole.τ).loc Cert.Whole.main_arg7) = m' (((0 : Dev Cert.Whole.nD).tc : Thread Cert.Whole.nD Cert.Whole.τ).loc Cert.Whole.main_arg7)
          ∧ r.2.mem (((0 : Dev Cert.Whole.nD).tc : Thread Cert.Whole.nD Cert.Whole.τ).loc Cert.Whole.main_arg8) = m' (((0 : Dev Cert.Whole.nD).tc : Thread Cert.Whole.nD Cert.Whole.τ).loc Cert.Whole.main_arg8))

def preserves_Up_UpIdeal : Prop :=
  True

def algebraic_UpIdeal_UpWholeIdeal [hUpIdeal : Cert.UpIdeal.Facts] [hUpWholeIdeal : Cert.UpWholeIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpWholeIdeal.nD Cert.UpWholeIdeal.τ Cert.UpWholeIdeal.sig) → Buf (Elt Ideal) ℓ) (g' : Dev Cert.UpWholeIdeal.nD → PrngReg), Pre_UpIdeal m →
    (∀ c : Dev Cert.UpIdeal.nD,
      m' ((c.tc : Thread Cert.UpWholeIdeal.nD Cert.UpWholeIdeal.τ).loc Cert.UpWholeIdeal.main_arg0) = m ((c.tc : Thread Cert.UpIdeal.nD Cert.UpIdeal.τ).loc Cert.UpIdeal.main_arg0)
      ∧ m' ((c.tc : Thread Cert.UpWholeIdeal.nD Cert.UpWholeIdeal.τ).loc Cert.UpWholeIdeal.main_arg1) = m ((c.tc : Thread Cert.UpIdeal.nD Cert.UpIdeal.τ).loc Cert.UpIdeal.main_arg1)
      ∧ m' ((c.tc : Thread Cert.UpWholeIdeal.nD Cert.UpWholeIdeal.τ).loc Cert.UpWholeIdeal.main_arg2) = m ((c.tc : Thread Cert.UpIdeal.nD Cert.UpIdeal.τ).loc Cert.UpIdeal.main_arg2)
      ∧ m' ((c.tc : Thread Cert.UpWholeIdeal.nD Cert.UpWholeIdeal.τ).loc Cert.UpWholeIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)) (v2 : (c : Dev Cert.UpIdeal.nD) → Buf (Elt Ideal) ((c.tc : Thread Cert.UpIdeal.nD Cert.UpIdeal.τ).loc Cert.UpIdeal.main_v0_2)) (v3 : (c : Dev Cert.UpIdeal.nD) → Buf (Elt Ideal) ((c.tc : Thread Cert.UpIdeal.nD Cert.UpIdeal.τ).loc Cert.UpIdeal.main_v0_3)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_v0_2) = v2 c
          ∧ r.2.mem ((c.tc : Thread Cert.UpIdeal.nD Cert.UpIdeal.τ).loc Cert.UpIdeal.main_v0_3) = v3 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpWholeIdeal.defs (F := Ideal)) (onTc (τ := Cert.UpWholeIdeal.τ) (Cert.UpWholeIdeal.main (F := Ideal))) ⟨m', fun _ => 0, g'⟩ (fun r => ∀ c : Dev Cert.UpWholeIdeal.nD,
          r.2.mem ((c.tc : Thread Cert.UpWholeIdeal.nD Cert.UpWholeIdeal.τ).loc Cert.UpWholeIdeal.main_v1) = v0 c
          ∧ r.2.mem ((c.tc : Thread Cert.UpWholeIdeal.nD Cert.UpWholeIdeal.τ).loc Cert.UpWholeIdeal.main_v25) = v1 c
          ∧ r.2.mem ((c.tc : Thread Cert.UpWholeIdeal.nD Cert.UpWholeIdeal.τ).loc Cert.UpWholeIdeal.main_v6) = v2 c
          ∧ r.2.mem ((c.tc : Thread Cert.UpWholeIdeal.nD Cert.UpWholeIdeal.τ).loc Cert.UpWholeIdeal.main_v12) = v3 c
          ∧ r.2.mem ((c.tc : Thread Cert.UpWholeIdeal.nD Cert.UpWholeIdeal.τ).loc Cert.UpWholeIdeal.main_arg0) = m' ((c.tc : Thread Cert.UpWholeIdeal.nD Cert.UpWholeIdeal.τ).loc Cert.UpWholeIdeal.main_arg0)
          ∧ r.2.mem ((c.tc : Thread Cert.UpWholeIdeal.nD Cert.UpWholeIdeal.τ).loc Cert.UpWholeIdeal.main_arg1) = m' ((c.tc : Thread Cert.UpWholeIdeal.nD Cert.UpWholeIdeal.τ).loc Cert.UpWholeIdeal.main_arg1)
          ∧ r.2.mem ((c.tc : Thread Cert.UpWholeIdeal.nD Cert.UpWholeIdeal.τ).loc Cert.UpWholeIdeal.main_arg2) = m' ((c.tc : Thread Cert.UpWholeIdeal.nD Cert.UpWholeIdeal.τ).loc Cert.UpWholeIdeal.main_arg2)
          ∧ r.2.mem ((c.tc : Thread Cert.UpWholeIdeal.nD Cert.UpWholeIdeal.τ).loc Cert.UpWholeIdeal.main_arg3) = m' ((c.tc : Thread Cert.UpWholeIdeal.nD Cert.UpWholeIdeal.τ).loc Cert.UpWholeIdeal.main_arg3))

def preserves_Down_DownIdeal : Prop :=
  True

def algebraic_DownIdeal_DownWholeIdeal [hDownIdeal : Cert.DownIdeal.Facts] [hDownWholeIdeal : Cert.DownWholeIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownWholeIdeal.nD Cert.DownWholeIdeal.τ Cert.DownWholeIdeal.sig) → Buf (Elt Ideal) ℓ) (g' : Dev Cert.DownWholeIdeal.nD → PrngReg), Pre_DownIdeal m →
    (∀ c : Dev Cert.DownIdeal.nD,
      m' ((c.tc : Thread Cert.DownWholeIdeal.nD Cert.DownWholeIdeal.τ).loc Cert.DownWholeIdeal.main_arg0) = m ((c.tc : Thread Cert.DownIdeal.nD Cert.DownIdeal.τ).loc Cert.DownIdeal.main_arg0)
      ∧ m' ((c.tc : Thread Cert.DownWholeIdeal.nD Cert.DownWholeIdeal.τ).loc Cert.DownWholeIdeal.main_arg1) = m ((c.tc : Thread Cert.DownIdeal.nD Cert.DownIdeal.τ).loc Cert.DownIdeal.main_arg1)
      ∧ m' ((c.tc : Thread Cert.DownWholeIdeal.nD Cert.DownWholeIdeal.τ).loc Cert.DownWholeIdeal.main_arg2) = m ((c.tc : Thread Cert.DownIdeal.nD Cert.DownIdeal.τ).loc Cert.DownIdeal.main_arg2)
      ∧ m' ((c.tc : Thread Cert.DownWholeIdeal.nD Cert.DownWholeIdeal.τ).loc Cert.DownWholeIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)) (v2 : (c : Dev Cert.DownIdeal.nD) → Buf (Elt Ideal) ((c.tc : Thread Cert.DownIdeal.nD Cert.DownIdeal.τ).loc Cert.DownIdeal.main_v0_2)) (v3 : (c : Dev Cert.DownIdeal.nD) → Buf (Elt Ideal) ((c.tc : Thread Cert.DownIdeal.nD Cert.DownIdeal.τ).loc Cert.DownIdeal.main_v0_3)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_v0_2) = v2 c
          ∧ r.2.mem ((c.tc : Thread Cert.DownIdeal.nD Cert.DownIdeal.τ).loc Cert.DownIdeal.main_v0_3) = v3 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownWholeIdeal.defs (F := Ideal)) (onTc (τ := Cert.DownWholeIdeal.τ) (Cert.DownWholeIdeal.main (F := Ideal))) ⟨m', fun _ => 0, g'⟩ (fun r => ∀ c : Dev Cert.DownWholeIdeal.nD,
          r.2.mem ((c.tc : Thread Cert.DownWholeIdeal.nD Cert.DownWholeIdeal.τ).loc Cert.DownWholeIdeal.main_v1) = v0 c
          ∧ r.2.mem ((c.tc : Thread Cert.DownWholeIdeal.nD Cert.DownWholeIdeal.τ).loc Cert.DownWholeIdeal.main_v25) = v1 c
          ∧ r.2.mem ((c.tc : Thread Cert.DownWholeIdeal.nD Cert.DownWholeIdeal.τ).loc Cert.DownWholeIdeal.main_v6) = v2 c
          ∧ r.2.mem ((c.tc : Thread Cert.DownWholeIdeal.nD Cert.DownWholeIdeal.τ).loc Cert.DownWholeIdeal.main_v12) = v3 c
          ∧ r.2.mem ((c.tc : Thread Cert.DownWholeIdeal.nD Cert.DownWholeIdeal.τ).loc Cert.DownWholeIdeal.main_arg0) = m' ((c.tc : Thread Cert.DownWholeIdeal.nD Cert.DownWholeIdeal.τ).loc Cert.DownWholeIdeal.main_arg0)
          ∧ r.2.mem ((c.tc : Thread Cert.DownWholeIdeal.nD Cert.DownWholeIdeal.τ).loc Cert.DownWholeIdeal.main_arg1) = m' ((c.tc : Thread Cert.DownWholeIdeal.nD Cert.DownWholeIdeal.τ).loc Cert.DownWholeIdeal.main_arg1)
          ∧ r.2.mem ((c.tc : Thread Cert.DownWholeIdeal.nD Cert.DownWholeIdeal.τ).loc Cert.DownWholeIdeal.main_arg2) = m' ((c.tc : Thread Cert.DownWholeIdeal.nD Cert.DownWholeIdeal.τ).loc Cert.DownWholeIdeal.main_arg2)
          ∧ r.2.mem ((c.tc : Thread Cert.DownWholeIdeal.nD Cert.DownWholeIdeal.τ).loc Cert.DownWholeIdeal.main_arg3) = m' ((c.tc : Thread Cert.DownWholeIdeal.nD Cert.DownWholeIdeal.τ).loc Cert.DownWholeIdeal.main_arg3))

def preserves_Mix_MixIdeal : Prop :=
  True

def algebraic_MixIdeal_MixWholeIdeal [hMixIdeal : Cert.MixIdeal.Facts] [hMixWholeIdeal : Cert.MixWholeIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixWholeIdeal.nD Cert.MixWholeIdeal.τ Cert.MixWholeIdeal.sig) → Buf (Elt Ideal) ℓ) (g' : Dev Cert.MixWholeIdeal.nD → PrngReg), Pre_MixIdeal m →
    (∀ c : Dev Cert.MixIdeal.nD,
      m' ((c.tc : Thread Cert.MixWholeIdeal.nD Cert.MixWholeIdeal.τ).loc Cert.MixWholeIdeal.main_arg0) = m ((c.tc : Thread Cert.MixIdeal.nD Cert.MixIdeal.τ).loc Cert.MixIdeal.main_arg0)
      ∧ m' ((c.tc : Thread Cert.MixWholeIdeal.nD Cert.MixWholeIdeal.τ).loc Cert.MixWholeIdeal.main_arg1) = m ((c.tc : Thread Cert.MixIdeal.nD Cert.MixIdeal.τ).loc Cert.MixIdeal.main_arg1)
      ∧ m' ((c.tc : Thread Cert.MixWholeIdeal.nD Cert.MixWholeIdeal.τ).loc Cert.MixWholeIdeal.main_arg2) = m ((c.tc : Thread Cert.MixIdeal.nD Cert.MixIdeal.τ).loc Cert.MixIdeal.main_arg2)
      ∧ m' ((c.tc : Thread Cert.MixWholeIdeal.nD Cert.MixWholeIdeal.τ).loc Cert.MixWholeIdeal.main_arg3) = m ((c.tc : Thread Cert.MixIdeal.nD Cert.MixIdeal.τ).loc Cert.MixIdeal.main_arg3)) →
    ∃ (v0 : (c : Dev Cert.MixIdeal.nD) → Buf (Elt Ideal) ((c.tc : Thread Cert.MixIdeal.nD Cert.MixIdeal.τ).loc Cert.MixIdeal.main_v0_0)) (v1 : (c : Dev Cert.MixIdeal.nD) → Buf (Elt Ideal) ((c.tc : Thread Cert.MixIdeal.nD Cert.MixIdeal.τ).loc Cert.MixIdeal.main_v0_1)) (v2 : (c : Dev Cert.MixIdeal.nD) → Buf (Elt Ideal) ((c.tc : Thread Cert.MixIdeal.nD Cert.MixIdeal.τ).loc Cert.MixIdeal.main_v0_2)) (v3 : (c : Dev Cert.MixIdeal.nD) → Buf (Elt Ideal) ((c.tc : Thread Cert.MixIdeal.nD Cert.MixIdeal.τ).loc Cert.MixIdeal.main_v0_3)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0_0) = v0 c
          ∧ r.2.mem ((c.tc : Thread Cert.MixIdeal.nD Cert.MixIdeal.τ).loc Cert.MixIdeal.main_v0_1) = v1 c
          ∧ r.2.mem ((c.tc : Thread Cert.MixIdeal.nD Cert.MixIdeal.τ).loc Cert.MixIdeal.main_v0_2) = v2 c
          ∧ r.2.mem ((c.tc : Thread Cert.MixIdeal.nD Cert.MixIdeal.τ).loc Cert.MixIdeal.main_v0_3) = v3 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3))
      ∧ θ_run (Cert.MixWholeIdeal.defs (F := Ideal)) (onTc (τ := Cert.MixWholeIdeal.τ) (Cert.MixWholeIdeal.main (F := Ideal))) ⟨m', fun _ => 0, g'⟩ (fun r => ∀ c : Dev Cert.MixWholeIdeal.nD,
          r.2.mem ((c.tc : Thread Cert.MixWholeIdeal.nD Cert.MixWholeIdeal.τ).loc Cert.MixWholeIdeal.main_v1) = v0 c
          ∧ r.2.mem ((c.tc : Thread Cert.MixWholeIdeal.nD Cert.MixWholeIdeal.τ).loc Cert.MixWholeIdeal.main_v25) = v1 c
          ∧ r.2.mem ((c.tc : Thread Cert.MixWholeIdeal.nD Cert.MixWholeIdeal.τ).loc Cert.MixWholeIdeal.main_v6) = v2 c
          ∧ r.2.mem ((c.tc : Thread Cert.MixWholeIdeal.nD Cert.MixWholeIdeal.τ).loc Cert.MixWholeIdeal.main_v12) = v3 c
          ∧ r.2.mem ((c.tc : Thread Cert.MixWholeIdeal.nD Cert.MixWholeIdeal.τ).loc Cert.MixWholeIdeal.main_arg0) = m' ((c.tc : Thread Cert.MixWholeIdeal.nD Cert.MixWholeIdeal.τ).loc Cert.MixWholeIdeal.main_arg0)
          ∧ r.2.mem ((c.tc : Thread Cert.MixWholeIdeal.nD Cert.MixWholeIdeal.τ).loc Cert.MixWholeIdeal.main_arg1) = m' ((c.tc : Thread Cert.MixWholeIdeal.nD Cert.MixWholeIdeal.τ).loc Cert.MixWholeIdeal.main_arg1)
          ∧ r.2.mem ((c.tc : Thread Cert.MixWholeIdeal.nD Cert.MixWholeIdeal.τ).loc Cert.MixWholeIdeal.main_arg2) = m' ((c.tc : Thread Cert.MixWholeIdeal.nD Cert.MixWholeIdeal.τ).loc Cert.MixWholeIdeal.main_arg2)
          ∧ r.2.mem ((c.tc : Thread Cert.MixWholeIdeal.nD Cert.MixWholeIdeal.τ).loc Cert.MixWholeIdeal.main_arg3) = m' ((c.tc : Thread Cert.MixWholeIdeal.nD Cert.MixWholeIdeal.τ).loc Cert.MixWholeIdeal.main_arg3))

def preserves_Out_OutIdeal : Prop :=
  True

def algebraic_OutIdeal_OutWholeIdeal [hOutIdeal : Cert.OutIdeal.Facts] [hOutWholeIdeal : Cert.OutWholeIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutWholeIdeal.nD Cert.OutWholeIdeal.τ Cert.OutWholeIdeal.sig) → Buf (Elt Ideal) ℓ) (g' : Dev Cert.OutWholeIdeal.nD → PrngReg), Pre_OutIdeal m →
    (∀ c : Dev Cert.OutIdeal.nD,
      m' ((c.tc : Thread Cert.OutWholeIdeal.nD Cert.OutWholeIdeal.τ).loc Cert.OutWholeIdeal.main_arg0) = m ((c.tc : Thread Cert.OutIdeal.nD Cert.OutIdeal.τ).loc Cert.OutIdeal.main_arg0)
      ∧ m' ((c.tc : Thread Cert.OutWholeIdeal.nD Cert.OutWholeIdeal.τ).loc Cert.OutWholeIdeal.main_arg1) = m ((c.tc : Thread Cert.OutIdeal.nD Cert.OutIdeal.τ).loc Cert.OutIdeal.main_arg1)
      ∧ m' ((c.tc : Thread Cert.OutWholeIdeal.nD Cert.OutWholeIdeal.τ).loc Cert.OutWholeIdeal.main_arg2) = m ((c.tc : Thread Cert.OutIdeal.nD Cert.OutIdeal.τ).loc Cert.OutIdeal.main_arg2)
      ∧ m' ((c.tc : Thread Cert.OutWholeIdeal.nD Cert.OutWholeIdeal.τ).loc Cert.OutWholeIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v0_0)) (v1 : (c : Dev Cert.OutIdeal.nD) → Buf (Elt Ideal) ((c.tc : Thread Cert.OutIdeal.nD Cert.OutIdeal.τ).loc Cert.OutIdeal.main_v0_1)) (v2 : (c : Dev Cert.OutIdeal.nD) → Buf (Elt Ideal) ((c.tc : Thread Cert.OutIdeal.nD Cert.OutIdeal.τ).loc Cert.OutIdeal.main_v0_2)) (v3 : (c : Dev Cert.OutIdeal.nD) → Buf (Elt Ideal) ((c.tc : Thread Cert.OutIdeal.nD Cert.OutIdeal.τ).loc Cert.OutIdeal.main_v0_3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0_0) = v0 c
          ∧ r.2.mem ((c.tc : Thread Cert.OutIdeal.nD Cert.OutIdeal.τ).loc Cert.OutIdeal.main_v0_1) = v1 c
          ∧ r.2.mem ((c.tc : Thread Cert.OutIdeal.nD Cert.OutIdeal.τ).loc Cert.OutIdeal.main_v0_2) = v2 c
          ∧ r.2.mem ((c.tc : Thread Cert.OutIdeal.nD Cert.OutIdeal.τ).loc Cert.OutIdeal.main_v0_3) = v3 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutWholeIdeal.defs (F := Ideal)) (onTc (τ := Cert.OutWholeIdeal.τ) (Cert.OutWholeIdeal.main (F := Ideal))) ⟨m', fun _ => 0, g'⟩ (fun r => ∀ c : Dev Cert.OutWholeIdeal.nD,
          r.2.mem ((c.tc : Thread Cert.OutWholeIdeal.nD Cert.OutWholeIdeal.τ).loc Cert.OutWholeIdeal.main_v1) = v0 c
          ∧ r.2.mem ((c.tc : Thread Cert.OutWholeIdeal.nD Cert.OutWholeIdeal.τ).loc Cert.OutWholeIdeal.main_v25) = v1 c
          ∧ r.2.mem ((c.tc : Thread Cert.OutWholeIdeal.nD Cert.OutWholeIdeal.τ).loc Cert.OutWholeIdeal.main_v6) = v2 c
          ∧ r.2.mem ((c.tc : Thread Cert.OutWholeIdeal.nD Cert.OutWholeIdeal.τ).loc Cert.OutWholeIdeal.main_v12) = v3 c
          ∧ r.2.mem ((c.tc : Thread Cert.OutWholeIdeal.nD Cert.OutWholeIdeal.τ).loc Cert.OutWholeIdeal.main_arg0) = m' ((c.tc : Thread Cert.OutWholeIdeal.nD Cert.OutWholeIdeal.τ).loc Cert.OutWholeIdeal.main_arg0)
          ∧ r.2.mem ((c.tc : Thread Cert.OutWholeIdeal.nD Cert.OutWholeIdeal.τ).loc Cert.OutWholeIdeal.main_arg1) = m' ((c.tc : Thread Cert.OutWholeIdeal.nD Cert.OutWholeIdeal.τ).loc Cert.OutWholeIdeal.main_arg1)
          ∧ r.2.mem ((c.tc : Thread Cert.OutWholeIdeal.nD Cert.OutWholeIdeal.τ).loc Cert.OutWholeIdeal.main_arg2) = m' ((c.tc : Thread Cert.OutWholeIdeal.nD Cert.OutWholeIdeal.τ).loc Cert.OutWholeIdeal.main_arg2)
          ∧ r.2.mem ((c.tc : Thread Cert.OutWholeIdeal.nD Cert.OutWholeIdeal.τ).loc Cert.OutWholeIdeal.main_arg3) = m' ((c.tc : Thread Cert.OutWholeIdeal.nD Cert.OutWholeIdeal.τ).loc Cert.OutWholeIdeal.main_arg3))

def preserves_Pair_PairIdeal : Prop :=
  True

def algebraic_PairIdeal_PairWholeIdeal [hPairIdeal : Cert.PairIdeal.Facts] [hPairWholeIdeal : Cert.PairWholeIdeal.Facts] : Prop :=
  ∀ (m : (ℓ : Loc Cert.PairIdeal.nD Cert.PairIdeal.τ Cert.PairIdeal.sig) → Buf (Elt Ideal) ℓ) (g : Dev Cert.PairIdeal.nD → PrngReg)
    (m' : (ℓ : Loc Cert.PairWholeIdeal.nD Cert.PairWholeIdeal.τ Cert.PairWholeIdeal.sig) → Buf (Elt Ideal) ℓ) (g' : Dev Cert.PairWholeIdeal.nD → PrngReg), Pre_PairIdeal m →
    (∀ c : Dev Cert.PairIdeal.nD,
      m' ((c.tc : Thread Cert.PairWholeIdeal.nD Cert.PairWholeIdeal.τ).loc Cert.PairWholeIdeal.main_arg0) = m ((c.tc : Thread Cert.PairIdeal.nD Cert.PairIdeal.τ).loc Cert.PairIdeal.main_arg0)
      ∧ m' ((c.tc : Thread Cert.PairWholeIdeal.nD Cert.PairWholeIdeal.τ).loc Cert.PairWholeIdeal.main_arg1) = m ((c.tc : Thread Cert.PairIdeal.nD Cert.PairIdeal.τ).loc Cert.PairIdeal.main_arg1)
      ∧ m' ((c.tc : Thread Cert.PairWholeIdeal.nD Cert.PairWholeIdeal.τ).loc Cert.PairWholeIdeal.main_arg2) = m ((c.tc : Thread Cert.PairIdeal.nD Cert.PairIdeal.τ).loc Cert.PairIdeal.main_arg2)
      ∧ m' ((c.tc : Thread Cert.PairWholeIdeal.nD Cert.PairWholeIdeal.τ).loc Cert.PairWholeIdeal.main_arg3) = m ((c.tc : Thread Cert.PairIdeal.nD Cert.PairIdeal.τ).loc Cert.PairIdeal.main_arg3)) →
    ∃ (v0 : (c : Dev Cert.PairIdeal.nD) → Buf (Elt Ideal) ((c.tc : Thread Cert.PairIdeal.nD Cert.PairIdeal.τ).loc Cert.PairIdeal.main_v0_0)) (v1 : (c : Dev Cert.PairIdeal.nD) → Buf (Elt Ideal) ((c.tc : Thread Cert.PairIdeal.nD Cert.PairIdeal.τ).loc Cert.PairIdeal.main_v0_1)) (v2 : (c : Dev Cert.PairIdeal.nD) → Buf (Elt Ideal) ((c.tc : Thread Cert.PairIdeal.nD Cert.PairIdeal.τ).loc Cert.PairIdeal.main_v0_2)) (v3 : (c : Dev Cert.PairIdeal.nD) → Buf (Elt Ideal) ((c.tc : Thread Cert.PairIdeal.nD Cert.PairIdeal.τ).loc Cert.PairIdeal.main_v0_3)),
      θ_run (Cert.PairIdeal.defs (F := Ideal)) (onTc (τ := Cert.PairIdeal.τ) (Cert.PairIdeal.main (F := Ideal))) ⟨m, fun _ => 0, g⟩ (fun r => ∀ c : Dev Cert.PairIdeal.nD,
          r.2.mem ((c.tc : Thread Cert.PairIdeal.nD Cert.PairIdeal.τ).loc Cert.PairIdeal.main_v0_0) = v0 c
          ∧ r.2.mem ((c.tc : Thread Cert.PairIdeal.nD Cert.PairIdeal.τ).loc Cert.PairIdeal.main_v0_1) = v1 c
          ∧ r.2.mem ((c.tc : Thread Cert.PairIdeal.nD Cert.PairIdeal.τ).loc Cert.PairIdeal.main_v0_2) = v2 c
          ∧ r.2.mem ((c.tc : Thread Cert.PairIdeal.nD Cert.PairIdeal.τ).loc Cert.PairIdeal.main_v0_3) = v3 c
          ∧ r.2.mem ((c.tc : Thread Cert.PairIdeal.nD Cert.PairIdeal.τ).loc Cert.PairIdeal.main_arg0) = m ((c.tc : Thread Cert.PairIdeal.nD Cert.PairIdeal.τ).loc Cert.PairIdeal.main_arg0)
          ∧ r.2.mem ((c.tc : Thread Cert.PairIdeal.nD Cert.PairIdeal.τ).loc Cert.PairIdeal.main_arg1) = m ((c.tc : Thread Cert.PairIdeal.nD Cert.PairIdeal.τ).loc Cert.PairIdeal.main_arg1)
          ∧ r.2.mem ((c.tc : Thread Cert.PairIdeal.nD Cert.PairIdeal.τ).loc Cert.PairIdeal.main_arg2) = m ((c.tc : Thread Cert.PairIdeal.nD Cert.PairIdeal.τ).loc Cert.PairIdeal.main_arg2)
          ∧ r.2.mem ((c.tc : Thread Cert.PairIdeal.nD Cert.PairIdeal.τ).loc Cert.PairIdeal.main_arg3) = m ((c.tc : Thread Cert.PairIdeal.nD Cert.PairIdeal.τ).loc Cert.PairIdeal.main_arg3))
      ∧ θ_run (Cert.PairWholeIdeal.defs (F := Ideal)) (onTc (τ := Cert.PairWholeIdeal.τ) (Cert.PairWholeIdeal.main (F := Ideal))) ⟨m', fun _ => 0, g'⟩ (fun r => ∀ c : Dev Cert.PairWholeIdeal.nD,
          r.2.mem ((c.tc : Thread Cert.PairWholeIdeal.nD Cert.PairWholeIdeal.τ).loc Cert.PairWholeIdeal.main_v1) = v0 c
          ∧ r.2.mem ((c.tc : Thread Cert.PairWholeIdeal.nD Cert.PairWholeIdeal.τ).loc Cert.PairWholeIdeal.main_v25) = v1 c
          ∧ r.2.mem ((c.tc : Thread Cert.PairWholeIdeal.nD Cert.PairWholeIdeal.τ).loc Cert.PairWholeIdeal.main_v6) = v2 c
          ∧ r.2.mem ((c.tc : Thread Cert.PairWholeIdeal.nD Cert.PairWholeIdeal.τ).loc Cert.PairWholeIdeal.main_v12) = v3 c
          ∧ r.2.mem ((c.tc : Thread Cert.PairWholeIdeal.nD Cert.PairWholeIdeal.τ).loc Cert.PairWholeIdeal.main_arg0) = m' ((c.tc : Thread Cert.PairWholeIdeal.nD Cert.PairWholeIdeal.τ).loc Cert.PairWholeIdeal.main_arg0)
          ∧ r.2.mem ((c.tc : Thread Cert.PairWholeIdeal.nD Cert.PairWholeIdeal.τ).loc Cert.PairWholeIdeal.main_arg1) = m' ((c.tc : Thread Cert.PairWholeIdeal.nD Cert.PairWholeIdeal.τ).loc Cert.PairWholeIdeal.main_arg1)
          ∧ r.2.mem ((c.tc : Thread Cert.PairWholeIdeal.nD Cert.PairWholeIdeal.τ).loc Cert.PairWholeIdeal.main_arg2) = m' ((c.tc : Thread Cert.PairWholeIdeal.nD Cert.PairWholeIdeal.τ).loc Cert.PairWholeIdeal.main_arg2)
          ∧ r.2.mem ((c.tc : Thread Cert.PairWholeIdeal.nD Cert.PairWholeIdeal.τ).loc Cert.PairWholeIdeal.main_arg3) = m' ((c.tc : Thread Cert.PairWholeIdeal.nD Cert.PairWholeIdeal.τ).loc Cert.PairWholeIdeal.main_arg3))

def preserves_Back_BackIdeal : Prop :=
  True

def algebraic_BackIdeal_BackWholeIdeal [hBackIdeal : Cert.BackIdeal.Facts] [hBackWholeIdeal : Cert.BackWholeIdeal.Facts] : Prop :=
  ∀ (m : (ℓ : Loc Cert.BackIdeal.nD Cert.BackIdeal.τ Cert.BackIdeal.sig) → Buf (Elt Ideal) ℓ) (g : Dev Cert.BackIdeal.nD → PrngReg)
    (m' : (ℓ : Loc Cert.BackWholeIdeal.nD Cert.BackWholeIdeal.τ Cert.BackWholeIdeal.sig) → Buf (Elt Ideal) ℓ) (g' : Dev Cert.BackWholeIdeal.nD → PrngReg), Pre_BackIdeal m →
    (∀ c : Dev Cert.BackIdeal.nD,
      m' ((c.tc : Thread Cert.BackWholeIdeal.nD Cert.BackWholeIdeal.τ).loc Cert.BackWholeIdeal.main_arg0) = m ((c.tc : Thread Cert.BackIdeal.nD Cert.BackIdeal.τ).loc Cert.BackIdeal.main_arg0)
      ∧ m' ((c.tc : Thread Cert.BackWholeIdeal.nD Cert.BackWholeIdeal.τ).loc Cert.BackWholeIdeal.main_arg1) = m ((c.tc : Thread Cert.BackIdeal.nD Cert.BackIdeal.τ).loc Cert.BackIdeal.main_arg1)
      ∧ m' ((c.tc : Thread Cert.BackWholeIdeal.nD Cert.BackWholeIdeal.τ).loc Cert.BackWholeIdeal.main_arg2) = m ((c.tc : Thread Cert.BackIdeal.nD Cert.BackIdeal.τ).loc Cert.BackIdeal.main_arg2)
      ∧ m' ((c.tc : Thread Cert.BackWholeIdeal.nD Cert.BackWholeIdeal.τ).loc Cert.BackWholeIdeal.main_arg3) = m ((c.tc : Thread Cert.BackIdeal.nD Cert.BackIdeal.τ).loc Cert.BackIdeal.main_arg3)
      ∧ m' ((c.tc : Thread Cert.BackWholeIdeal.nD Cert.BackWholeIdeal.τ).loc Cert.BackWholeIdeal.main_arg4) = m ((c.tc : Thread Cert.BackIdeal.nD Cert.BackIdeal.τ).loc Cert.BackIdeal.main_arg4)) →
    ∃ (v0 : (c : Dev Cert.BackIdeal.nD) → Buf (Elt Ideal) ((c.tc : Thread Cert.BackIdeal.nD Cert.BackIdeal.τ).loc Cert.BackIdeal.main_v0_0)) (v1 : (c : Dev Cert.BackIdeal.nD) → Buf (Elt Ideal) ((c.tc : Thread Cert.BackIdeal.nD Cert.BackIdeal.τ).loc Cert.BackIdeal.main_v0_1)),
      θ_run (Cert.BackIdeal.defs (F := Ideal)) (onTc (τ := Cert.BackIdeal.τ) (Cert.BackIdeal.main (F := Ideal))) ⟨m, fun _ => 0, g⟩ (fun r => ∀ c : Dev Cert.BackIdeal.nD,
          r.2.mem ((c.tc : Thread Cert.BackIdeal.nD Cert.BackIdeal.τ).loc Cert.BackIdeal.main_v0_0) = v0 c
          ∧ r.2.mem ((c.tc : Thread Cert.BackIdeal.nD Cert.BackIdeal.τ).loc Cert.BackIdeal.main_v0_1) = v1 c
          ∧ r.2.mem ((c.tc : Thread Cert.BackIdeal.nD Cert.BackIdeal.τ).loc Cert.BackIdeal.main_arg0) = m ((c.tc : Thread Cert.BackIdeal.nD Cert.BackIdeal.τ).loc Cert.BackIdeal.main_arg0)
          ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
          ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
          ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
          ∧ r.2.mem ((c.tc : Thread Cert.BackIdeal.nD Cert.BackIdeal.τ).loc Cert.BackIdeal.main_arg4) = m ((c.tc : Thread Cert.BackIdeal.nD Cert.BackIdeal.τ).loc Cert.BackIdeal.main_arg4))
      ∧ θ_run (Cert.BackWholeIdeal.defs (F := Ideal)) (onTc (τ := Cert.BackWholeIdeal.τ) (Cert.BackWholeIdeal.main (F := Ideal))) ⟨m', fun _ => 0, g'⟩ (fun r => ∀ c : Dev Cert.BackWholeIdeal.nD,
          r.2.mem ((c.tc : Thread Cert.BackWholeIdeal.nD Cert.BackWholeIdeal.τ).loc Cert.BackWholeIdeal.main_v23) = v0 c
          ∧ r.2.mem ((c.tc : Thread Cert.BackWholeIdeal.nD Cert.BackWholeIdeal.τ).loc Cert.BackWholeIdeal.main_v26) = v1 c
          ∧ r.2.mem ((c.tc : Thread Cert.BackWholeIdeal.nD Cert.BackWholeIdeal.τ).loc Cert.BackWholeIdeal.main_arg0) = m' ((c.tc : Thread Cert.BackWholeIdeal.nD Cert.BackWholeIdeal.τ).loc Cert.BackWholeIdeal.main_arg0)
          ∧ r.2.mem ((c.tc : Thread Cert.BackWholeIdeal.nD Cert.BackWholeIdeal.τ).loc Cert.BackWholeIdeal.main_arg1) = m' ((c.tc : Thread Cert.BackWholeIdeal.nD Cert.BackWholeIdeal.τ).loc Cert.BackWholeIdeal.main_arg1)
          ∧ r.2.mem ((c.tc : Thread Cert.BackWholeIdeal.nD Cert.BackWholeIdeal.τ).loc Cert.BackWholeIdeal.main_arg2) = m' ((c.tc : Thread Cert.BackWholeIdeal.nD Cert.BackWholeIdeal.τ).loc Cert.BackWholeIdeal.main_arg2)
          ∧ r.2.mem ((c.tc : Thread Cert.BackWholeIdeal.nD Cert.BackWholeIdeal.τ).loc Cert.BackWholeIdeal.main_arg3) = m' ((c.tc : Thread Cert.BackWholeIdeal.nD Cert.BackWholeIdeal.τ).loc Cert.BackWholeIdeal.main_arg3)
          ∧ r.2.mem ((c.tc : Thread Cert.BackWholeIdeal.nD Cert.BackWholeIdeal.τ).loc Cert.BackWholeIdeal.main_arg4) = m' ((c.tc : Thread Cert.BackWholeIdeal.nD Cert.BackWholeIdeal.τ).loc Cert.BackWholeIdeal.main_arg4))

def preserves_Loss_LossIdeal : Prop :=
  True

def algebraic_LossIdeal_LossWholeIdeal [hLossIdeal : Cert.LossIdeal.Facts] [hLossWholeIdeal : Cert.LossWholeIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossWholeIdeal.nD Cert.LossWholeIdeal.τ Cert.LossWholeIdeal.sig) → Buf (Elt Ideal) ℓ) (g' : Dev Cert.LossWholeIdeal.nD → PrngReg), Pre_LossIdeal m →
    (∀ c : Dev Cert.LossIdeal.nD,
      m' ((c.tc : Thread Cert.LossWholeIdeal.nD Cert.LossWholeIdeal.τ).loc Cert.LossWholeIdeal.main_arg0) = m ((c.tc : Thread Cert.LossIdeal.nD Cert.LossIdeal.τ).loc Cert.LossIdeal.main_arg0)
      ∧ m' ((c.tc : Thread Cert.LossWholeIdeal.nD Cert.LossWholeIdeal.τ).loc Cert.LossWholeIdeal.main_arg1) = m ((c.tc : Thread Cert.LossIdeal.nD Cert.LossIdeal.τ).loc Cert.LossIdeal.main_arg1)
      ∧ m' ((c.tc : Thread Cert.LossWholeIdeal.nD Cert.LossWholeIdeal.τ).loc Cert.LossWholeIdeal.main_arg2) = m ((c.tc : Thread Cert.LossIdeal.nD Cert.LossIdeal.τ).loc Cert.LossIdeal.main_arg2)
      ∧ m' ((c.tc : Thread Cert.LossWholeIdeal.nD Cert.LossWholeIdeal.τ).loc Cert.LossWholeIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossWholeIdeal.defs (F := Ideal)) (onTc (τ := Cert.LossWholeIdeal.τ) (Cert.LossWholeIdeal.main (F := Ideal))) ⟨m', fun _ => 0, g'⟩ (fun r => ∀ c : Dev Cert.LossWholeIdeal.nD,
          r.2.mem ((c.tc : Thread Cert.LossWholeIdeal.nD Cert.LossWholeIdeal.τ).loc Cert.LossWholeIdeal.main_v6) = v0 c
          ∧ r.2.mem ((c.tc : Thread Cert.LossWholeIdeal.nD Cert.LossWholeIdeal.τ).loc Cert.LossWholeIdeal.main_v7) = v1 c
          ∧ r.2.mem ((c.tc : Thread Cert.LossWholeIdeal.nD Cert.LossWholeIdeal.τ).loc Cert.LossWholeIdeal.main_v10) = v2 c
          ∧ r.2.mem ((c.tc : Thread Cert.LossWholeIdeal.nD Cert.LossWholeIdeal.τ).loc Cert.LossWholeIdeal.main_arg0) = m' ((c.tc : Thread Cert.LossWholeIdeal.nD Cert.LossWholeIdeal.τ).loc Cert.LossWholeIdeal.main_arg0)
          ∧ r.2.mem ((c.tc : Thread Cert.LossWholeIdeal.nD Cert.LossWholeIdeal.τ).loc Cert.LossWholeIdeal.main_arg1) = m' ((c.tc : Thread Cert.LossWholeIdeal.nD Cert.LossWholeIdeal.τ).loc Cert.LossWholeIdeal.main_arg1)
          ∧ r.2.mem ((c.tc : Thread Cert.LossWholeIdeal.nD Cert.LossWholeIdeal.τ).loc Cert.LossWholeIdeal.main_arg2) = m' ((c.tc : Thread Cert.LossWholeIdeal.nD Cert.LossWholeIdeal.τ).loc Cert.LossWholeIdeal.main_arg2)
          ∧ r.2.mem ((c.tc : Thread Cert.LossWholeIdeal.nD Cert.LossWholeIdeal.τ).loc Cert.LossWholeIdeal.main_arg3) = m' ((c.tc : Thread Cert.LossWholeIdeal.nD Cert.LossWholeIdeal.τ).loc Cert.LossWholeIdeal.main_arg3))

def preserves_GradUp_GradUpIdeal : Prop :=
  True

def algebraic_GradUpIdeal_GradUpWholeIdeal [hGradUpIdeal : Cert.GradUpIdeal.Facts] [hGradUpWholeIdeal : Cert.GradUpWholeIdeal.Facts] : Prop :=
  ∀ (m : (ℓ : Loc Cert.GradUpIdeal.nD Cert.GradUpIdeal.τ Cert.GradUpIdeal.sig) → Buf (Elt Ideal) ℓ) (g : Dev Cert.GradUpIdeal.nD → PrngReg)
    (m' : (ℓ : Loc Cert.GradUpWholeIdeal.nD Cert.GradUpWholeIdeal.τ Cert.GradUpWholeIdeal.sig) → Buf (Elt Ideal) ℓ) (g' : Dev Cert.GradUpWholeIdeal.nD → PrngReg), Pre_GradUpIdeal m →
    (∀ c : Dev Cert.GradUpIdeal.nD,
      m' ((c.tc : Thread Cert.GradUpWholeIdeal.nD Cert.GradUpWholeIdeal.τ).loc Cert.GradUpWholeIdeal.main_arg0) = m ((c.tc : Thread Cert.GradUpIdeal.nD Cert.GradUpIdeal.τ).loc Cert.GradUpIdeal.main_arg0)
      ∧ m' ((c.tc : Thread Cert.GradUpWholeIdeal.nD Cert.GradUpWholeIdeal.τ).loc Cert.GradUpWholeIdeal.main_arg1) = m ((c.tc : Thread Cert.GradUpIdeal.nD Cert.GradUpIdeal.τ).loc Cert.GradUpIdeal.main_arg1)) →
    ∃ (v0 : (c : Dev Cert.GradUpIdeal.nD) → Buf (Elt Ideal) ((c.tc : Thread Cert.GradUpIdeal.nD Cert.GradUpIdeal.τ).loc Cert.GradUpIdeal.main_v0)),
      θ_run (Cert.GradUpIdeal.defs (F := Ideal)) (onTc (τ := Cert.GradUpIdeal.τ) (Cert.GradUpIdeal.main (F := Ideal))) ⟨m, fun _ => 0, g⟩ (fun r => ∀ c : Dev Cert.GradUpIdeal.nD,
          r.2.mem ((c.tc : Thread Cert.GradUpIdeal.nD Cert.GradUpIdeal.τ).loc Cert.GradUpIdeal.main_v0) = v0 c
          ∧ r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
          ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ θ_run (Cert.GradUpWholeIdeal.defs (F := Ideal)) (onTc (τ := Cert.GradUpWholeIdeal.τ) (Cert.GradUpWholeIdeal.main (F := Ideal))) ⟨m', fun _ => 0, g'⟩ (fun r => ∀ c : Dev Cert.GradUpWholeIdeal.nD,
          r.2.mem ((c.tc : Thread Cert.GradUpWholeIdeal.nD Cert.GradUpWholeIdeal.τ).loc Cert.GradUpWholeIdeal.main_v2) = v0 c
          ∧ r.2.mem ((c.tc : Thread Cert.GradUpWholeIdeal.nD Cert.GradUpWholeIdeal.τ).loc Cert.GradUpWholeIdeal.main_arg0) = m' ((c.tc : Thread Cert.GradUpWholeIdeal.nD Cert.GradUpWholeIdeal.τ).loc Cert.GradUpWholeIdeal.main_arg0)
          ∧ r.2.mem ((c.tc : Thread Cert.GradUpWholeIdeal.nD Cert.GradUpWholeIdeal.τ).loc Cert.GradUpWholeIdeal.main_arg1) = m' ((c.tc : Thread Cert.GradUpWholeIdeal.nD Cert.GradUpWholeIdeal.τ).loc Cert.GradUpWholeIdeal.main_arg1))

def preserves_GradDown_GradDownIdeal : Prop :=
  True

def algebraic_GradDownIdeal_GradDownWholeIdeal [hGradDownIdeal : Cert.GradDownIdeal.Facts] [hGradDownWholeIdeal : Cert.GradDownWholeIdeal.Facts] : Prop :=
  ∀ (m : (ℓ : Loc Cert.GradDownIdeal.nD Cert.GradDownIdeal.τ Cert.GradDownIdeal.sig) → Buf (Elt Ideal) ℓ) (g : Dev Cert.GradDownIdeal.nD → PrngReg)
    (m' : (ℓ : Loc Cert.GradDownWholeIdeal.nD Cert.GradDownWholeIdeal.τ Cert.GradDownWholeIdeal.sig) → Buf (Elt Ideal) ℓ) (g' : Dev Cert.GradDownWholeIdeal.nD → PrngReg), Pre_GradDownIdeal m →
    (∀ c : Dev Cert.GradDownIdeal.nD,
      m' ((c.tc : Thread Cert.GradDownWholeIdeal.nD Cert.GradDownWholeIdeal.τ).loc Cert.GradDownWholeIdeal.main_arg0) = m ((c.tc : Thread Cert.GradDownIdeal.nD Cert.GradDownIdeal.τ).loc Cert.GradDownIdeal.main_arg0)
      ∧ m' ((c.tc : Thread Cert.GradDownWholeIdeal.nD Cert.GradDownWholeIdeal.τ).loc Cert.GradDownWholeIdeal.main_arg1) = m ((c.tc : Thread Cert.GradDownIdeal.nD Cert.GradDownIdeal.τ).loc Cert.GradDownIdeal.main_arg1)) →
    ∃ (v0 : (c : Dev Cert.GradDownIdeal.nD) → Buf (Elt Ideal) ((c.tc : Thread Cert.GradDownIdeal.nD Cert.GradDownIdeal.τ).loc Cert.GradDownIdeal.main_v0)),
      θ_run (Cert.GradDownIdeal.defs (F := Ideal)) (onTc (τ := Cert.GradDownIdeal.τ) (Cert.GradDownIdeal.main (F := Ideal))) ⟨m, fun _ => 0, g⟩ (fun r => ∀ c : Dev Cert.GradDownIdeal.nD,
          r.2.mem ((c.tc : Thread Cert.GradDownIdeal.nD Cert.GradDownIdeal.τ).loc Cert.GradDownIdeal.main_v0) = v0 c
          ∧ r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
          ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ θ_run (Cert.GradDownWholeIdeal.defs (F := Ideal)) (onTc (τ := Cert.GradDownWholeIdeal.τ) (Cert.GradDownWholeIdeal.main (F := Ideal))) ⟨m', fun _ => 0, g'⟩ (fun r => ∀ c : Dev Cert.GradDownWholeIdeal.nD,
          r.2.mem ((c.tc : Thread Cert.GradDownWholeIdeal.nD Cert.GradDownWholeIdeal.τ).loc Cert.GradDownWholeIdeal.main_v3) = v0 c
          ∧ r.2.mem ((c.tc : Thread Cert.GradDownWholeIdeal.nD Cert.GradDownWholeIdeal.τ).loc Cert.GradDownWholeIdeal.main_arg0) = m' ((c.tc : Thread Cert.GradDownWholeIdeal.nD Cert.GradDownWholeIdeal.τ).loc Cert.GradDownWholeIdeal.main_arg0)
          ∧ r.2.mem ((c.tc : Thread Cert.GradDownWholeIdeal.nD Cert.GradDownWholeIdeal.τ).loc Cert.GradDownWholeIdeal.main_arg1) = m' ((c.tc : Thread Cert.GradDownWholeIdeal.nD Cert.GradDownWholeIdeal.τ).loc Cert.GradDownWholeIdeal.main_arg1))

def preserves_Forth_ForthIdeal : Prop :=
  True

def algebraic_ForthIdeal_ForthWholeIdeal [hForthIdeal : Cert.ForthIdeal.Facts] [hForthWholeIdeal : Cert.ForthWholeIdeal.Facts] : Prop :=
  ∀ (m : (ℓ : Loc Cert.ForthIdeal.nD Cert.ForthIdeal.τ Cert.ForthIdeal.sig) → Buf (Elt Ideal) ℓ) (g : Dev Cert.ForthIdeal.nD → PrngReg)
    (m' : (ℓ : Loc Cert.ForthWholeIdeal.nD Cert.ForthWholeIdeal.τ Cert.ForthWholeIdeal.sig) → Buf (Elt Ideal) ℓ) (g' : Dev Cert.ForthWholeIdeal.nD → PrngReg), Pre_ForthIdeal m →
    (∀ c : Dev Cert.ForthIdeal.nD,
      m' ((c.tc : Thread Cert.ForthWholeIdeal.nD Cert.ForthWholeIdeal.τ).loc Cert.ForthWholeIdeal.main_arg0) = m ((c.tc : Thread Cert.ForthIdeal.nD Cert.ForthIdeal.τ).loc Cert.ForthIdeal.main_arg0)
      ∧ m' ((c.tc : Thread Cert.ForthWholeIdeal.nD Cert.ForthWholeIdeal.τ).loc Cert.ForthWholeIdeal.main_arg1) = m ((c.tc : Thread Cert.ForthIdeal.nD Cert.ForthIdeal.τ).loc Cert.ForthIdeal.main_arg1)
      ∧ m' ((c.tc : Thread Cert.ForthWholeIdeal.nD Cert.ForthWholeIdeal.τ).loc Cert.ForthWholeIdeal.main_arg2) = m ((c.tc : Thread Cert.ForthIdeal.nD Cert.ForthIdeal.τ).loc Cert.ForthIdeal.main_arg2)) →
    ∃ (v0 : (c : Dev Cert.ForthIdeal.nD) → Buf (Elt Ideal) ((c.tc : Thread Cert.ForthIdeal.nD Cert.ForthIdeal.τ).loc Cert.ForthIdeal.main_v0)),
      θ_run (Cert.ForthIdeal.defs (F := Ideal)) (onTc (τ := Cert.ForthIdeal.τ) (Cert.ForthIdeal.main (F := Ideal))) ⟨m, fun _ => 0, g⟩ (fun r => ∀ c : Dev Cert.ForthIdeal.nD,
          r.2.mem ((c.tc : Thread Cert.ForthIdeal.nD Cert.ForthIdeal.τ).loc Cert.ForthIdeal.main_v0) = v0 c
          ∧ r.2.mem ((c.tc : Thread Cert.ForthIdeal.nD Cert.ForthIdeal.τ).loc Cert.ForthIdeal.main_arg0) = m ((c.tc : Thread Cert.ForthIdeal.nD Cert.ForthIdeal.τ).loc Cert.ForthIdeal.main_arg0)
          ∧ r.2.mem ((c.tc : Thread Cert.ForthIdeal.nD Cert.ForthIdeal.τ).loc Cert.ForthIdeal.main_arg1) = m ((c.tc : Thread Cert.ForthIdeal.nD Cert.ForthIdeal.τ).loc Cert.ForthIdeal.main_arg1)
          ∧ r.2.mem ((c.tc : Thread Cert.ForthIdeal.nD Cert.ForthIdeal.τ).loc Cert.ForthIdeal.main_arg2) = m ((c.tc : Thread Cert.ForthIdeal.nD Cert.ForthIdeal.τ).loc Cert.ForthIdeal.main_arg2))
      ∧ θ_run (Cert.ForthWholeIdeal.defs (F := Ideal)) (onTc (τ := Cert.ForthWholeIdeal.τ) (Cert.ForthWholeIdeal.main (F := Ideal))) ⟨m', fun _ => 0, g'⟩ (fun r => ∀ c : Dev Cert.ForthWholeIdeal.nD,
          r.2.mem ((c.tc : Thread Cert.ForthWholeIdeal.nD Cert.ForthWholeIdeal.τ).loc Cert.ForthWholeIdeal.main_v3) = v0 c
          ∧ r.2.mem ((c.tc : Thread Cert.ForthWholeIdeal.nD Cert.ForthWholeIdeal.τ).loc Cert.ForthWholeIdeal.main_arg0) = m' ((c.tc : Thread Cert.ForthWholeIdeal.nD Cert.ForthWholeIdeal.τ).loc Cert.ForthWholeIdeal.main_arg0)
          ∧ r.2.mem ((c.tc : Thread Cert.ForthWholeIdeal.nD Cert.ForthWholeIdeal.τ).loc Cert.ForthWholeIdeal.main_arg1) = m' ((c.tc : Thread Cert.ForthWholeIdeal.nD Cert.ForthWholeIdeal.τ).loc Cert.ForthWholeIdeal.main_arg1)
          ∧ r.2.mem ((c.tc : Thread Cert.ForthWholeIdeal.nD Cert.ForthWholeIdeal.τ).loc Cert.ForthWholeIdeal.main_arg2) = m' ((c.tc : Thread Cert.ForthWholeIdeal.nD Cert.ForthWholeIdeal.τ).loc Cert.ForthWholeIdeal.main_arg2))

def preserves_Proj_ProjIdeal : Prop :=
  True

def algebraic_ProjIdeal_ProjWholeIdeal [hProjIdeal : Cert.ProjIdeal.Facts] [hProjWholeIdeal : Cert.ProjWholeIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjWholeIdeal.nD Cert.ProjWholeIdeal.τ Cert.ProjWholeIdeal.sig) → Buf (Elt Ideal) ℓ) (g' : Dev Cert.ProjWholeIdeal.nD → PrngReg), Pre_ProjIdeal m →
    (∀ c : Dev Cert.ProjIdeal.nD,
      m' ((c.tc : Thread Cert.ProjWholeIdeal.nD Cert.ProjWholeIdeal.τ).loc Cert.ProjWholeIdeal.main_arg0) = m ((c.tc : Thread Cert.ProjIdeal.nD Cert.ProjIdeal.τ).loc Cert.ProjIdeal.main_arg0)
      ∧ m' ((c.tc : Thread Cert.ProjWholeIdeal.nD Cert.ProjWholeIdeal.τ).loc Cert.ProjWholeIdeal.main_arg1) = m ((c.tc : Thread Cert.ProjIdeal.nD Cert.ProjIdeal.τ).loc Cert.ProjIdeal.main_arg1)
      ∧ m' ((c.tc : Thread Cert.ProjWholeIdeal.nD Cert.ProjWholeIdeal.τ).loc Cert.ProjWholeIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v0_0)) (v1 : (c : Dev Cert.ProjIdeal.nD) → Buf (Elt Ideal) ((c.tc : Thread Cert.ProjIdeal.nD Cert.ProjIdeal.τ).loc Cert.ProjIdeal.main_v0_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0_0) = v0 c
          ∧ r.2.mem ((c.tc : Thread Cert.ProjIdeal.nD Cert.ProjIdeal.τ).loc Cert.ProjIdeal.main_v0_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjWholeIdeal.defs (F := Ideal)) (onTc (τ := Cert.ProjWholeIdeal.τ) (Cert.ProjWholeIdeal.main (F := Ideal))) ⟨m', fun _ => 0, g'⟩ (fun r => ∀ c : Dev Cert.ProjWholeIdeal.nD,
          r.2.mem ((c.tc : Thread Cert.ProjWholeIdeal.nD Cert.ProjWholeIdeal.τ).loc Cert.ProjWholeIdeal.main_v13) = v0 c
          ∧ r.2.mem ((c.tc : Thread Cert.ProjWholeIdeal.nD Cert.ProjWholeIdeal.τ).loc Cert.ProjWholeIdeal.main_v12) = v1 c
          ∧ r.2.mem ((c.tc : Thread Cert.ProjWholeIdeal.nD Cert.ProjWholeIdeal.τ).loc Cert.ProjWholeIdeal.main_arg0) = m' ((c.tc : Thread Cert.ProjWholeIdeal.nD Cert.ProjWholeIdeal.τ).loc Cert.ProjWholeIdeal.main_arg0)
          ∧ r.2.mem ((c.tc : Thread Cert.ProjWholeIdeal.nD Cert.ProjWholeIdeal.τ).loc Cert.ProjWholeIdeal.main_arg1) = m' ((c.tc : Thread Cert.ProjWholeIdeal.nD Cert.ProjWholeIdeal.τ).loc Cert.ProjWholeIdeal.main_arg1)
          ∧ r.2.mem ((c.tc : Thread Cert.ProjWholeIdeal.nD Cert.ProjWholeIdeal.τ).loc Cert.ProjWholeIdeal.main_arg2) = m' ((c.tc : Thread Cert.ProjWholeIdeal.nD Cert.ProjWholeIdeal.τ).loc Cert.ProjWholeIdeal.main_arg2))

def preserves_Act_ActIdeal : Prop :=
  True

def algebraic_ActIdeal_ActWholeIdeal [hActIdeal : Cert.ActIdeal.Facts] [hActWholeIdeal : Cert.ActWholeIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActWholeIdeal.nD Cert.ActWholeIdeal.τ Cert.ActWholeIdeal.sig) → Buf (Elt Ideal) ℓ) (g' : Dev Cert.ActWholeIdeal.nD → PrngReg), Pre_ActIdeal m →
    (∀ c : Dev Cert.ActIdeal.nD,
      m' ((c.tc : Thread Cert.ActWholeIdeal.nD Cert.ActWholeIdeal.τ).loc Cert.ActWholeIdeal.main_arg0) = m ((c.tc : Thread Cert.ActIdeal.nD Cert.ActIdeal.τ).loc Cert.ActIdeal.main_arg0)
      ∧ m' ((c.tc : Thread Cert.ActWholeIdeal.nD Cert.ActWholeIdeal.τ).loc Cert.ActWholeIdeal.main_arg1) = m ((c.tc : Thread Cert.ActIdeal.nD Cert.ActIdeal.τ).loc Cert.ActIdeal.main_arg1)
      ∧ m' ((c.tc : Thread Cert.ActWholeIdeal.nD Cert.ActWholeIdeal.τ).loc Cert.ActWholeIdeal.main_arg2) = m ((c.tc : Thread Cert.ActIdeal.nD Cert.ActIdeal.τ).loc Cert.ActIdeal.main_arg2)
      ∧ m' ((c.tc : Thread Cert.ActWholeIdeal.nD Cert.ActWholeIdeal.τ).loc Cert.ActWholeIdeal.main_arg3) = m ((c.tc : Thread Cert.ActIdeal.nD Cert.ActIdeal.τ).loc Cert.ActIdeal.main_arg3)) →
    ∃ (v0 : (c : Dev Cert.ActIdeal.nD) → Buf (Elt Ideal) ((c.tc : Thread Cert.ActIdeal.nD Cert.ActIdeal.τ).loc Cert.ActIdeal.main_v0)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v0) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
          ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ θ_run (Cert.ActWholeIdeal.defs (F := Ideal)) (onTc (τ := Cert.ActWholeIdeal.τ) (Cert.ActWholeIdeal.main (F := Ideal))) ⟨m', fun _ => 0, g'⟩ (fun r => ∀ c : Dev Cert.ActWholeIdeal.nD,
          r.2.mem ((c.tc : Thread Cert.ActWholeIdeal.nD Cert.ActWholeIdeal.τ).loc Cert.ActWholeIdeal.main_v29) = v0 c
          ∧ r.2.mem ((c.tc : Thread Cert.ActWholeIdeal.nD Cert.ActWholeIdeal.τ).loc Cert.ActWholeIdeal.main_arg0) = m' ((c.tc : Thread Cert.ActWholeIdeal.nD Cert.ActWholeIdeal.τ).loc Cert.ActWholeIdeal.main_arg0)
          ∧ r.2.mem ((c.tc : Thread Cert.ActWholeIdeal.nD Cert.ActWholeIdeal.τ).loc Cert.ActWholeIdeal.main_arg1) = m' ((c.tc : Thread Cert.ActWholeIdeal.nD Cert.ActWholeIdeal.τ).loc Cert.ActWholeIdeal.main_arg1)
          ∧ r.2.mem ((c.tc : Thread Cert.ActWholeIdeal.nD Cert.ActWholeIdeal.τ).loc Cert.ActWholeIdeal.main_arg2) = m' ((c.tc : Thread Cert.ActWholeIdeal.nD Cert.ActWholeIdeal.τ).loc Cert.ActWholeIdeal.main_arg2)
          ∧ r.2.mem ((c.tc : Thread Cert.ActWholeIdeal.nD Cert.ActWholeIdeal.τ).loc Cert.ActWholeIdeal.main_arg3) = m' ((c.tc : Thread Cert.ActWholeIdeal.nD Cert.ActWholeIdeal.τ).loc Cert.ActWholeIdeal.main_arg3))

def preserves_Merge_MergeIdeal : Prop :=
  True

def algebraic_MergeIdeal_MergeWholeIdeal [hMergeIdeal : Cert.MergeIdeal.Facts] [hMergeWholeIdeal : Cert.MergeWholeIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeWholeIdeal.nD Cert.MergeWholeIdeal.τ Cert.MergeWholeIdeal.sig) → Buf (Elt Ideal) ℓ) (g' : Dev Cert.MergeWholeIdeal.nD → PrngReg), Pre_MergeIdeal m →
    (∀ c : Dev Cert.MergeIdeal.nD,
      m' ((c.tc : Thread Cert.MergeWholeIdeal.nD Cert.MergeWholeIdeal.τ).loc Cert.MergeWholeIdeal.main_arg0) = m ((c.tc : Thread Cert.MergeIdeal.nD Cert.MergeIdeal.τ).loc Cert.MergeIdeal.main_arg0)
      ∧ m' ((c.tc : Thread Cert.MergeWholeIdeal.nD Cert.MergeWholeIdeal.τ).loc Cert.MergeWholeIdeal.main_arg1) = m ((c.tc : Thread Cert.MergeIdeal.nD Cert.MergeIdeal.τ).loc Cert.MergeIdeal.main_arg1)
      ∧ m' ((c.tc : Thread Cert.MergeWholeIdeal.nD Cert.MergeWholeIdeal.τ).loc Cert.MergeWholeIdeal.main_arg2) = m ((c.tc : Thread Cert.MergeIdeal.nD Cert.MergeIdeal.τ).loc Cert.MergeIdeal.main_arg2)
      ∧ m' ((c.tc : Thread Cert.MergeWholeIdeal.nD Cert.MergeWholeIdeal.τ).loc Cert.MergeWholeIdeal.main_arg3) = m ((c.tc : Thread Cert.MergeIdeal.nD Cert.MergeIdeal.τ).loc Cert.MergeIdeal.main_arg3)
      ∧ m' ((c.tc : Thread Cert.MergeWholeIdeal.nD Cert.MergeWholeIdeal.τ).loc Cert.MergeWholeIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeWholeIdeal.defs (F := Ideal)) (onTc (τ := Cert.MergeWholeIdeal.τ) (Cert.MergeWholeIdeal.main (F := Ideal))) ⟨m', fun _ => 0, g'⟩ (fun r => ∀ c : Dev Cert.MergeWholeIdeal.nD,
          r.2.mem ((c.tc : Thread Cert.MergeWholeIdeal.nD Cert.MergeWholeIdeal.τ).loc Cert.MergeWholeIdeal.main_v15) = v0 c
          ∧ r.2.mem ((c.tc : Thread Cert.MergeWholeIdeal.nD Cert.MergeWholeIdeal.τ).loc Cert.MergeWholeIdeal.main_arg0) = m' ((c.tc : Thread Cert.MergeWholeIdeal.nD Cert.MergeWholeIdeal.τ).loc Cert.MergeWholeIdeal.main_arg0)
          ∧ r.2.mem ((c.tc : Thread Cert.MergeWholeIdeal.nD Cert.MergeWholeIdeal.τ).loc Cert.MergeWholeIdeal.main_arg1) = m' ((c.tc : Thread Cert.MergeWholeIdeal.nD Cert.MergeWholeIdeal.τ).loc Cert.MergeWholeIdeal.main_arg1)
          ∧ r.2.mem ((c.tc : Thread Cert.MergeWholeIdeal.nD Cert.MergeWholeIdeal.τ).loc Cert.MergeWholeIdeal.main_arg2) = m' ((c.tc : Thread Cert.MergeWholeIdeal.nD Cert.MergeWholeIdeal.τ).loc Cert.MergeWholeIdeal.main_arg2)
          ∧ r.2.mem ((c.tc : Thread Cert.MergeWholeIdeal.nD Cert.MergeWholeIdeal.τ).loc Cert.MergeWholeIdeal.main_arg3) = m' ((c.tc : Thread Cert.MergeWholeIdeal.nD Cert.MergeWholeIdeal.τ).loc Cert.MergeWholeIdeal.main_arg3)
          ∧ r.2.mem ((c.tc : Thread Cert.MergeWholeIdeal.nD Cert.MergeWholeIdeal.τ).loc Cert.MergeWholeIdeal.main_arg4) = m' ((c.tc : Thread Cert.MergeWholeIdeal.nD Cert.MergeWholeIdeal.τ).loc Cert.MergeWholeIdeal.main_arg4))

def preserves_Tail_TailIdeal : Prop :=
  True

def algebraic_TailIdeal_TailWholeIdeal [hTailIdeal : Cert.TailIdeal.Facts] [hTailWholeIdeal : Cert.TailWholeIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailWholeIdeal.nD Cert.TailWholeIdeal.τ Cert.TailWholeIdeal.sig) → Buf (Elt Ideal) ℓ) (g' : Dev Cert.TailWholeIdeal.nD → PrngReg), Pre_TailIdeal m →
    (∀ c : Dev Cert.TailIdeal.nD,
      m' ((c.tc : Thread Cert.TailWholeIdeal.nD Cert.TailWholeIdeal.τ).loc Cert.TailWholeIdeal.main_arg0) = m ((c.tc : Thread Cert.TailIdeal.nD Cert.TailIdeal.τ).loc Cert.TailIdeal.main_arg0)
      ∧ m' ((c.tc : Thread Cert.TailWholeIdeal.nD Cert.TailWholeIdeal.τ).loc Cert.TailWholeIdeal.main_arg1) = m ((c.tc : Thread Cert.TailIdeal.nD Cert.TailIdeal.τ).loc Cert.TailIdeal.main_arg1)
      ∧ m' ((c.tc : Thread Cert.TailWholeIdeal.nD Cert.TailWholeIdeal.τ).loc Cert.TailWholeIdeal.main_arg2) = m ((c.tc : Thread Cert.TailIdeal.nD Cert.TailIdeal.τ).loc Cert.TailIdeal.main_arg2)
      ∧ m' ((c.tc : Thread Cert.TailWholeIdeal.nD Cert.TailWholeIdeal.τ).loc Cert.TailWholeIdeal.main_arg3) = m ((c.tc : Thread Cert.TailIdeal.nD Cert.TailIdeal.τ).loc Cert.TailIdeal.main_arg3)
      ∧ m' ((c.tc : Thread Cert.TailWholeIdeal.nD Cert.TailWholeIdeal.τ).loc Cert.TailWholeIdeal.main_arg4) = m ((c.tc : Thread Cert.TailIdeal.nD Cert.TailIdeal.τ).loc Cert.TailIdeal.main_arg4)) →
    ∃ (v0 : (c : Dev Cert.TailIdeal.nD) → Buf (Elt Ideal) ((c.tc : Thread Cert.TailIdeal.nD Cert.TailIdeal.τ).loc Cert.TailIdeal.main_v0_0)) (v1 : (c : Dev Cert.TailIdeal.nD) → Buf (Elt Ideal) ((c.tc : Thread Cert.TailIdeal.nD Cert.TailIdeal.τ).loc Cert.TailIdeal.main_v0_1)) (v2 : (c : Dev Cert.TailIdeal.nD) → Buf (Elt Ideal) ((c.tc : Thread Cert.TailIdeal.nD Cert.TailIdeal.τ).loc Cert.TailIdeal.main_v0_2)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v0_0) = v0 c
          ∧ r.2.mem ((c.tc : Thread Cert.TailIdeal.nD Cert.TailIdeal.τ).loc Cert.TailIdeal.main_v0_1) = v1 c
          ∧ r.2.mem ((c.tc : Thread Cert.TailIdeal.nD Cert.TailIdeal.τ).loc Cert.TailIdeal.main_v0_2) = v2 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4))
      ∧ θ_run (Cert.TailWholeIdeal.defs (F := Ideal)) (onTc (τ := Cert.TailWholeIdeal.τ) (Cert.TailWholeIdeal.main (F := Ideal))) ⟨m', fun _ => 0, g'⟩ (fun r => ∀ c : Dev Cert.TailWholeIdeal.nD,
          r.2.mem ((c.tc : Thread Cert.TailWholeIdeal.nD Cert.TailWholeIdeal.τ).loc Cert.TailWholeIdeal.main_v23) = v0 c
          ∧ r.2.mem ((c.tc : Thread Cert.TailWholeIdeal.nD Cert.TailWholeIdeal.τ).loc Cert.TailWholeIdeal.main_v24) = v1 c
          ∧ r.2.mem ((c.tc : Thread Cert.TailWholeIdeal.nD Cert.TailWholeIdeal.τ).loc Cert.TailWholeIdeal.main_v27) = v2 c
          ∧ r.2.mem ((c.tc : Thread Cert.TailWholeIdeal.nD Cert.TailWholeIdeal.τ).loc Cert.TailWholeIdeal.main_arg0) = m' ((c.tc : Thread Cert.TailWholeIdeal.nD Cert.TailWholeIdeal.τ).loc Cert.TailWholeIdeal.main_arg0)
          ∧ r.2.mem ((c.tc : Thread Cert.TailWholeIdeal.nD Cert.TailWholeIdeal.τ).loc Cert.TailWholeIdeal.main_arg1) = m' ((c.tc : Thread Cert.TailWholeIdeal.nD Cert.TailWholeIdeal.τ).loc Cert.TailWholeIdeal.main_arg1)
          ∧ r.2.mem ((c.tc : Thread Cert.TailWholeIdeal.nD Cert.TailWholeIdeal.τ).loc Cert.TailWholeIdeal.main_arg2) = m' ((c.tc : Thread Cert.TailWholeIdeal.nD Cert.TailWholeIdeal.τ).loc Cert.TailWholeIdeal.main_arg2)
          ∧ r.2.mem ((c.tc : Thread Cert.TailWholeIdeal.nD Cert.TailWholeIdeal.τ).loc Cert.TailWholeIdeal.main_arg3) = m' ((c.tc : Thread Cert.TailWholeIdeal.nD Cert.TailWholeIdeal.τ).loc Cert.TailWholeIdeal.main_arg3)
          ∧ r.2.mem ((c.tc : Thread Cert.TailWholeIdeal.nD Cert.TailWholeIdeal.τ).loc Cert.TailWholeIdeal.main_arg4) = m' ((c.tc : Thread Cert.TailWholeIdeal.nD Cert.TailWholeIdeal.τ).loc Cert.TailWholeIdeal.main_arg4))

def Claim : Prop :=
  ∃ (hKernel : Cert.Kernel.Facts) (hKernelIdeal : Cert.KernelIdeal.Facts) (hReferenceIdeal : Cert.ReferenceIdeal.Facts) (hReference : Cert.Reference.Facts) (hGather : Cert.Gather.Facts) (hGatherIdeal : Cert.GatherIdeal.Facts) (hWholeIdeal : Cert.WholeIdeal.Facts) (hWhole : Cert.Whole.Facts) (hUp : Cert.Up.Facts) (hUpIdeal : Cert.UpIdeal.Facts) (hUpWholeIdeal : Cert.UpWholeIdeal.Facts) (hDown : Cert.Down.Facts) (hDownIdeal : Cert.DownIdeal.Facts) (hDownWholeIdeal : Cert.DownWholeIdeal.Facts) (hMix : Cert.Mix.Facts) (hMixIdeal : Cert.MixIdeal.Facts) (hMixWholeIdeal : Cert.MixWholeIdeal.Facts) (hOut : Cert.Out.Facts) (hOutIdeal : Cert.OutIdeal.Facts) (hOutWholeIdeal : Cert.OutWholeIdeal.Facts) (hPair : Cert.Pair.Facts) (hPairIdeal : Cert.PairIdeal.Facts) (hPairWholeIdeal : Cert.PairWholeIdeal.Facts) (hBack : Cert.Back.Facts) (hBackIdeal : Cert.BackIdeal.Facts) (hBackWholeIdeal : Cert.BackWholeIdeal.Facts) (hLoss : Cert.Loss.Facts) (hLossIdeal : Cert.LossIdeal.Facts) (hLossWholeIdeal : Cert.LossWholeIdeal.Facts) (hGradUp : Cert.GradUp.Facts) (hGradUpIdeal : Cert.GradUpIdeal.Facts) (hGradUpWholeIdeal : Cert.GradUpWholeIdeal.Facts) (hGradDown : Cert.GradDown.Facts) (hGradDownIdeal : Cert.GradDownIdeal.Facts) (hGradDownWholeIdeal : Cert.GradDownWholeIdeal.Facts) (hForth : Cert.Forth.Facts) (hForthIdeal : Cert.ForthIdeal.Facts) (hForthWholeIdeal : Cert.ForthWholeIdeal.Facts) (hProj : Cert.Proj.Facts) (hProjIdeal : Cert.ProjIdeal.Facts) (hProjWholeIdeal : Cert.ProjWholeIdeal.Facts) (hAct : Cert.Act.Facts) (hActIdeal : Cert.ActIdeal.Facts) (hActWholeIdeal : Cert.ActWholeIdeal.Facts) (hMerge : Cert.Merge.Facts) (hMergeIdeal : Cert.MergeIdeal.Facts) (hMergeWholeIdeal : Cert.MergeWholeIdeal.Facts) (hTail : Cert.Tail.Facts) (hTailIdeal : Cert.TailIdeal.Facts) (hTailWholeIdeal : Cert.TailWholeIdeal.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Gather (hGather := hGather)
    ∧ quiescent_GatherIdeal (hGatherIdeal := hGatherIdeal)
    ∧ quiescent_WholeIdeal (hWholeIdeal := hWholeIdeal)
    ∧ quiescent_Whole (hWhole := hWhole)
    ∧ quiescent_Up (hUp := hUp)
    ∧ quiescent_UpIdeal (hUpIdeal := hUpIdeal)
    ∧ quiescent_UpWholeIdeal (hUpWholeIdeal := hUpWholeIdeal)
    ∧ quiescent_Down (hDown := hDown)
    ∧ quiescent_DownIdeal (hDownIdeal := hDownIdeal)
    ∧ quiescent_DownWholeIdeal (hDownWholeIdeal := hDownWholeIdeal)
    ∧ quiescent_Mix (hMix := hMix)
    ∧ quiescent_MixIdeal (hMixIdeal := hMixIdeal)
    ∧ quiescent_MixWholeIdeal (hMixWholeIdeal := hMixWholeIdeal)
    ∧ quiescent_Out (hOut := hOut)
    ∧ quiescent_OutIdeal (hOutIdeal := hOutIdeal)
    ∧ quiescent_OutWholeIdeal (hOutWholeIdeal := hOutWholeIdeal)
    ∧ quiescent_Pair (hPair := hPair)
    ∧ quiescent_PairIdeal (hPairIdeal := hPairIdeal)
    ∧ quiescent_PairWholeIdeal (hPairWholeIdeal := hPairWholeIdeal)
    ∧ quiescent_Back (hBack := hBack)
    ∧ quiescent_BackIdeal (hBackIdeal := hBackIdeal)
    ∧ quiescent_BackWholeIdeal (hBackWholeIdeal := hBackWholeIdeal)
    ∧ quiescent_Loss (hLoss := hLoss)
    ∧ quiescent_LossIdeal (hLossIdeal := hLossIdeal)
    ∧ quiescent_LossWholeIdeal (hLossWholeIdeal := hLossWholeIdeal)
    ∧ quiescent_GradUp (hGradUp := hGradUp)
    ∧ quiescent_GradUpIdeal (hGradUpIdeal := hGradUpIdeal)
    ∧ quiescent_GradUpWholeIdeal (hGradUpWholeIdeal := hGradUpWholeIdeal)
    ∧ quiescent_GradDown (hGradDown := hGradDown)
    ∧ quiescent_GradDownIdeal (hGradDownIdeal := hGradDownIdeal)
    ∧ quiescent_GradDownWholeIdeal (hGradDownWholeIdeal := hGradDownWholeIdeal)
    ∧ quiescent_Forth (hForth := hForth)
    ∧ quiescent_ForthIdeal (hForthIdeal := hForthIdeal)
    ∧ quiescent_ForthWholeIdeal (hForthWholeIdeal := hForthWholeIdeal)
    ∧ quiescent_Proj (hProj := hProj)
    ∧ quiescent_ProjIdeal (hProjIdeal := hProjIdeal)
    ∧ quiescent_ProjWholeIdeal (hProjWholeIdeal := hProjWholeIdeal)
    ∧ quiescent_Act (hAct := hAct)
    ∧ quiescent_ActIdeal (hActIdeal := hActIdeal)
    ∧ quiescent_ActWholeIdeal (hActWholeIdeal := hActWholeIdeal)
    ∧ quiescent_Merge (hMerge := hMerge)
    ∧ quiescent_MergeIdeal (hMergeIdeal := hMergeIdeal)
    ∧ quiescent_MergeWholeIdeal (hMergeWholeIdeal := hMergeWholeIdeal)
    ∧ quiescent_Tail (hTail := hTail)
    ∧ quiescent_TailIdeal (hTailIdeal := hTailIdeal)
    ∧ quiescent_TailWholeIdeal (hTailWholeIdeal := hTailWholeIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_Gather_GatherIdeal
    ∧ algebraic_GatherIdeal_WholeIdeal (hGatherIdeal := hGatherIdeal) (hWholeIdeal := hWholeIdeal)
    ∧ bitexact_Gather_Whole (hGather := hGather) (hWhole := hWhole)
    ∧ preserves_Up_UpIdeal
    ∧ algebraic_UpIdeal_UpWholeIdeal (hUpIdeal := hUpIdeal) (hUpWholeIdeal := hUpWholeIdeal)
    ∧ preserves_Down_DownIdeal
    ∧ algebraic_DownIdeal_DownWholeIdeal (hDownIdeal := hDownIdeal) (hDownWholeIdeal := hDownWholeIdeal)
    ∧ preserves_Mix_MixIdeal
    ∧ algebraic_MixIdeal_MixWholeIdeal (hMixIdeal := hMixIdeal) (hMixWholeIdeal := hMixWholeIdeal)
    ∧ preserves_Out_OutIdeal
    ∧ algebraic_OutIdeal_OutWholeIdeal (hOutIdeal := hOutIdeal) (hOutWholeIdeal := hOutWholeIdeal)
    ∧ preserves_Pair_PairIdeal
    ∧ algebraic_PairIdeal_PairWholeIdeal (hPairIdeal := hPairIdeal) (hPairWholeIdeal := hPairWholeIdeal)
    ∧ preserves_Back_BackIdeal
    ∧ algebraic_BackIdeal_BackWholeIdeal (hBackIdeal := hBackIdeal) (hBackWholeIdeal := hBackWholeIdeal)
    ∧ preserves_Loss_LossIdeal
    ∧ algebraic_LossIdeal_LossWholeIdeal (hLossIdeal := hLossIdeal) (hLossWholeIdeal := hLossWholeIdeal)
    ∧ preserves_GradUp_GradUpIdeal
    ∧ algebraic_GradUpIdeal_GradUpWholeIdeal (hGradUpIdeal := hGradUpIdeal) (hGradUpWholeIdeal := hGradUpWholeIdeal)
    ∧ preserves_GradDown_GradDownIdeal
    ∧ algebraic_GradDownIdeal_GradDownWholeIdeal (hGradDownIdeal := hGradDownIdeal) (hGradDownWholeIdeal := hGradDownWholeIdeal)
    ∧ preserves_Forth_ForthIdeal
    ∧ algebraic_ForthIdeal_ForthWholeIdeal (hForthIdeal := hForthIdeal) (hForthWholeIdeal := hForthWholeIdeal)
    ∧ preserves_Proj_ProjIdeal
    ∧ algebraic_ProjIdeal_ProjWholeIdeal (hProjIdeal := hProjIdeal) (hProjWholeIdeal := hProjWholeIdeal)
    ∧ preserves_Act_ActIdeal
    ∧ algebraic_ActIdeal_ActWholeIdeal (hActIdeal := hActIdeal) (hActWholeIdeal := hActWholeIdeal)
    ∧ preserves_Merge_MergeIdeal
    ∧ algebraic_MergeIdeal_MergeWholeIdeal (hMergeIdeal := hMergeIdeal) (hMergeWholeIdeal := hMergeWholeIdeal)
    ∧ preserves_Tail_TailIdeal
    ∧ algebraic_TailIdeal_TailWholeIdeal (hTailIdeal := hTailIdeal) (hTailWholeIdeal := hTailWholeIdeal)
-- ==== Kernel.lean ====
abbrev S8x1024x704 : Shape := ⟨3, ![8, 1024, 704]⟩
abbrev S8x352x1024 : Shape := ⟨3, ![8, 352, 1024]⟩
abbrev S8x1024x321 : Shape := ⟨3, ![8, 1024, 321]⟩
abbrev S8x128x1024 : Shape := ⟨3, ![8, 128, 1024]⟩
abbrev S8x1024x256 : Shape := ⟨3, ![8, 1024, 256]⟩
abbrev S63 : Shape := ⟨1, ![63]⟩
abbrev S9 : Shape := ⟨1, ![9]⟩
abbrev S1 : Shape := ⟨1, ![1]⟩
abbrev S_ : Shape := ⟨0, ![]⟩
abbrev S1x1024x704 : Shape := ⟨3, ![1, 1024, 704]⟩
abbrev S1024x704 : Shape := ⟨2, ![1024, 704]⟩
abbrev S1x352x1024 : Shape := ⟨3, ![1, 352, 1024]⟩
abbrev S352x1024 : Shape := ⟨2, ![352, 1024]⟩
abbrev S1x1024x321 : Shape := ⟨3, ![1, 1024, 321]⟩
abbrev S1024x321 : Shape := ⟨2, ![1024, 321]⟩
abbrev S1x128x1024 : Shape := ⟨3, ![1, 128, 1024]⟩
abbrev S128x1024 : Shape := ⟨2, ![128, 1024]⟩
abbrev S1x1024x256 : Shape := ⟨3, ![1, 1024, 256]⟩
abbrev S1024x256 : Shape := ⟨2, ![1024, 256]⟩

abbrev nBuf : Space → Nat
  | .hbm => 18
  | .vmem => 0
  | .smem => 0
  | _ => 0

abbrev bufTy : (tb : Table) → Fin (tcTables nBuf tb) → BufTy
  | .hbm, ⟨0, _⟩ => ⟨S8x1024x704, .bf16⟩
  | .hbm, ⟨1, _⟩ => ⟨S8x352x1024, .bf16⟩
  | .hbm, ⟨2, _⟩ => ⟨S8x1024x321, .bf16⟩
  | .hbm, ⟨3, _⟩ => ⟨S8x128x1024, .bf16⟩
  | .hbm, ⟨4, _⟩ => ⟨S8x128x1024, .bf16⟩
  | .hbm, ⟨5, _⟩ => ⟨S8x1024x256, .bf16⟩
  | .hbm, ⟨6, _⟩ => ⟨S8x128x1024, .bf16⟩
  | .hbm, ⟨7, _⟩ => ⟨S8x1024x704, .bf16⟩
  | .hbm, ⟨8, _⟩ => ⟨S8x352x1024, .bf16⟩
  | .hbm, ⟨9, _⟩ => ⟨S8x1024x704, .bf16⟩
  | .hbm, ⟨10, _⟩ => ⟨S8x352x1024, .bf16⟩
  | .hbm, ⟨11, _⟩ => ⟨S8x1024x321, .bf16⟩
  | .hbm, ⟨12, _⟩ => ⟨S8x128x1024, .bf16⟩
  | .hbm, ⟨13, _⟩ => ⟨S8x128x1024, .bf16⟩
  | .hbm, ⟨14, _⟩ => ⟨S8x1024x256, .bf16⟩
  | .hbm, ⟨15, _⟩ => ⟨S8x128x1024, .bf16⟩
  | .hbm, ⟨16, _⟩ => ⟨S8x1024x704, .bf16⟩
  | .hbm, ⟨17, _⟩ => ⟨S8x352x1024, .bf16⟩
  | _, _ => ⟨S8x1024x704, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | _, _ => false

abbrev semScoped : Fin 0 → Bool
  | ⟨_, h⟩ => absurd h (Nat.not_lt_zero _)

abbrev dmaSemScoped : Fin 135 → Bool
  | ⟨i, _⟩ => dmaSemScopedAt i

abbrev sig : RefSig :=
  ofTc nBuf bufTy 0 135 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev main_v1_6 : Ref sig .tc := ⟨.hbm, 15, rfl⟩
abbrev main_v1_7 : Ref sig .tc := ⟨.hbm, 16, rfl⟩
abbrev main_v1_8 : Ref sig .tc := ⟨.hbm, 17, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_off2 (d0 : Dev nD) : Fin 3 → Nat :=
  let c4_i32_10 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.muli c4_i32_10 v2
  let c2_i32_11 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.muli c2_i32_11 v5
  let v22 : BitVec 32 := Scalar.addi v20 v21
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_9 v8
  let v23 : BitVec 32 := Scalar.addi v22 v19
  let c0_i32_20 : BitVec 32 := 0#32
  let c0_i32_21 : BitVec 32 := 0#32
  ![v23.toNat, 0, 0]
def k0_dev1 (d0 : Dev nD) : Nat :=
  let c0_i32_15 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_14 : BitVec 32 := 4#32
  let v24 : BitVec 32 := Scalar.muli v2 c4_i32_14
  let v25 : BitVec 32 := Scalar.addi c0_i32_15 v24
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v26 : BitVec 32 := Scalar.muli v5 c2_i32_16
  let v27 : BitVec 32 := Scalar.addi v25 v26
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_9 v8
  let c1_i32_17 : BitVec 32 := 1#32
  let v28 : BitVec 32 := Scalar.muli v19 c1_i32_17
  let v29 : BitVec 32 := Scalar.addi v27 v28
  v29.toNat
def k0_off3 (d0 : Dev nD) : Fin 3 → Nat :=
  let c4_i32_23 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.muli c4_i32_23 v2
  let c2_i32_24 : BitVec 32 := 2#32
  let c1_i32_22 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v38 : BitVec 32 := Scalar.subi c1_i32_22 v5
  let v40 : BitVec 32 := Scalar.muli c2_i32_24 v38
  let v41 : BitVec 32 := Scalar.addi v39 v40
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v42 : BitVec 32 := Scalar.addi v41 v8
  let c0_i32_33 : BitVec 32 := 0#32
  let c0_i32_34 : BitVec 32 := 0#32
  ![v42.toNat, 0, 0]
def k0_dev2 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v43 : BitVec 32 := Scalar.muli v2 c4_i32_27
  let v44 : BitVec 32 := Scalar.addi c0_i32_28 v43
  let c1_i32_22 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v38 : BitVec 32 := Scalar.subi c1_i32_22 v5
  let c2_i32_29 : BitVec 32 := 2#32
  let v45 : BitVec 32 := Scalar.muli v38 c2_i32_29
  let v46 : BitVec 32 := Scalar.addi v44 v45
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_30 : BitVec 32 := 1#32
  let v47 : BitVec 32 := Scalar.muli v8 c1_i32_30
  let v48 : BitVec 32 := Scalar.addi v46 v47
  v48.toNat
def k0_off4 (d0 : Dev nD) : Fin 3 → Nat :=
  let c4_i32_37 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v59 : BitVec 32 := Scalar.muli c4_i32_37 v2
  let c2_i32_38 : BitVec 32 := 2#32
  let c1_i32_35 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_35 v5
  let v60 : BitVec 32 := Scalar.muli c2_i32_38 v57
  let v61 : BitVec 32 := Scalar.addi v59 v60
  let c1_i32_36 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.subi c1_i32_36 v8
  let v62 : BitVec 32 := Scalar.addi v61 v58
  let c0_i32_47 : BitVec 32 := 0#32
  let c0_i32_48 : BitVec 32 := 0#32
  ![v62.toNat, 0, 0]
def k0_dev3 (d0 : Dev nD) : Nat :=
  let c0_i32_42 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_41 : BitVec 32 := 4#32
  let v63 : BitVec 32 := Scalar.muli v2 c4_i32_41
  let v64 : BitVec 32 := Scalar.addi c0_i32_42 v63
  let c1_i32_35 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_35 v5
  let c2_i32_43 : BitVec 32 := 2#32
  let v65 : BitVec 32 := Scalar.muli v57 c2_i32_43
  let v66 : BitVec 32 := Scalar.addi v64 v65
  let c1_i32_36 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.subi c1_i32_36 v8
  let c1_i32_44 : BitVec 32 := 1#32
  let v67 : BitVec 32 := Scalar.muli v58 c1_i32_44
  let v68 : BitVec 32 := Scalar.addi v66 v67
  v68.toNat
def k0_off5 (d0 : Dev nD) : Fin 3 → Nat :=
  let c4_i32_50 : BitVec 32 := 4#32
  let c1_i32_49 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v77 : BitVec 32 := Scalar.subi c1_i32_49 v2
  let v78 : BitVec 32 := Scalar.muli c4_i32_50 v77
  let c2_i32_51 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v79 : BitVec 32 := Scalar.muli c2_i32_51 v5
  let v80 : BitVec 32 := Scalar.addi v78 v79
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v81 : BitVec 32 := Scalar.addi v80 v8
  let c0_i32_59 : BitVec 32 := 0#32
  let c0_i32_60 : BitVec 32 := 0#32
  ![v81.toNat, 0, 0]
def k0_dev4 (d0 : Dev nD) : Nat :=
  let c0_i32_54 : BitVec 32 := 0#32
  let c1_i32_49 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v77 : BitVec 32 := Scalar.subi c1_i32_49 v2
  let c4_i32_53 : BitVec 32 := 4#32
  let v82 : BitVec 32 := Scalar.muli v77 c4_i32_53
  let v83 : BitVec 32 := Scalar.addi c0_i32_54 v82
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_55 : BitVec 32 := 2#32
  let v84 : BitVec 32 := Scalar.muli v5 c2_i32_55
  let v85 : BitVec 32 := Scalar.addi v83 v84
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_56 : BitVec 32 := 1#32
  let v86 : BitVec 32 := Scalar.muli v8 c1_i32_56
  let v87 : BitVec 32 := Scalar.addi v85 v86
  v87.toNat
def k0_off6 (d0 : Dev nD) : Fin 3 → Nat :=
  let c4_i32_63 : BitVec 32 := 4#32
  let c1_i32_61 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v96 : BitVec 32 := Scalar.subi c1_i32_61 v2
  let v98 : BitVec 32 := Scalar.muli c4_i32_63 v96
  let c2_i32_64 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v99 : BitVec 32 := Scalar.muli c2_i32_64 v5
  let v100 : BitVec 32 := Scalar.addi v98 v99
  let c1_i32_62 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v97 : BitVec 32 := Scalar.subi c1_i32_62 v8
  let v101 : BitVec 32 := Scalar.addi v100 v97
  let c0_i32_73 : BitVec 32 := 0#32
  let c0_i32_74 : BitVec 32 := 0#32
  ![v101.toNat, 0, 0]
def k0_dev5 (d0 : Dev nD) : Nat :=
  let c0_i32_68 : BitVec 32 := 0#32
  let c1_i32_61 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v96 : BitVec 32 := Scalar.subi c1_i32_61 v2
  let c4_i32_67 : BitVec 32 := 4#32
  let v102 : BitVec 32 := Scalar.muli v96 c4_i32_67
  let v103 : BitVec 32 := Scalar.addi c0_i32_68 v102
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_69 : BitVec 32 := 2#32
  let v104 : BitVec 32 := Scalar.muli v5 c2_i32_69
  let v105 : BitVec 32 := Scalar.addi v103 v104
  let c1_i32_62 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v97 : BitVec 32 := Scalar.subi c1_i32_62 v8
  let c1_i32_70 : BitVec 32 := 1#32
  let v106 : BitVec 32 := Scalar.muli v97 c1_i32_70
  let v107 : BitVec 32 := Scalar.addi v105 v106
  v107.toNat
def k0_off7 (d0 : Dev nD) : Fin 3 → Nat :=
  let c4_i32_77 : BitVec 32 := 4#32
  let c1_i32_75 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v116 : BitVec 32 := Scalar.subi c1_i32_75 v2
  let v118 : BitVec 32 := Scalar.muli c4_i32_77 v116
  let c2_i32_78 : BitVec 32 := 2#32
  let c1_i32_76 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v117 : BitVec 32 := Scalar.subi c1_i32_76 v5
  let v119 : BitVec 32 := Scalar.muli c2_i32_78 v117
  let v120 : BitVec 32 := Scalar.addi v118 v119
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v121 : BitVec 32 := Scalar.addi v120 v8
  let c0_i32_86 : BitVec 32 := 0#32
  let c0_i32_87 : BitVec 32 := 0#32
  ![v121.toNat, 0, 0]
def k0_dev6 (d0 : Dev nD) : Nat :=
  let c0_i32_81 : BitVec 32 := 0#32
  let c1_i32_75 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v116 : BitVec 32 := Scalar.subi c1_i32_75 v2
  let c4_i32_80 : BitVec 32 := 4#32
  let v122 : BitVec 32 := Scalar.muli v116 c4_i32_80
  let v123 : BitVec 32 := Scalar.addi c0_i32_81 v122
  let c1_i32_76 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v117 : BitVec 32 := Scalar.subi c1_i32_76 v5
  let c2_i32_82 : BitVec 32 := 2#32
  let v124 : BitVec 32 := Scalar.muli v117 c2_i32_82
  let v125 : BitVec 32 := Scalar.addi v123 v124
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_83 : BitVec 32 := 1#32
  let v126 : BitVec 32 := Scalar.muli v8 c1_i32_83
  let v127 : BitVec 32 := Scalar.addi v125 v126
  v127.toNat
def k0_off8 (d0 : Dev nD) : Fin 3 → Nat :=
  let c4_i32_91 : BitVec 32 := 4#32
  let c1_i32_88 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v136 : BitVec 32 := Scalar.subi c1_i32_88 v2
  let v139 : BitVec 32 := Scalar.muli c4_i32_91 v136
  let c2_i32_92 : BitVec 32 := 2#32
  let c1_i32_89 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v137 : BitVec 32 := Scalar.subi c1_i32_89 v5
  let v140 : BitVec 32 := Scalar.muli c2_i32_92 v137
  let v141 : BitVec 32 := Scalar.addi v139 v140
  let c1_i32_90 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v138 : BitVec 32 := Scalar.subi c1_i32_90 v8
  let v142 : BitVec 32 := Scalar.addi v141 v138
  let c0_i32_100 : BitVec 32 := 0#32
  let c0_i32_101 : BitVec 32 := 0#32
  ![v142.toNat, 0, 0]
def k0_dev7 (d0 : Dev nD) : Nat :=
  let c0_i32_95 : BitVec 32 := 0#32
  let c1_i32_88 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v136 : BitVec 32 := Scalar.subi c1_i32_88 v2
  let c4_i32_94 : BitVec 32 := 4#32
  let v143 : BitVec 32 := Scalar.muli v136 c4_i32_94
  let v144 : BitVec 32 := Scalar.addi c0_i32_95 v143
  let c1_i32_89 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v137 : BitVec 32 := Scalar.subi c1_i32_89 v5
  let c2_i32_96 : BitVec 32 := 2#32
  let v145 : BitVec 32 := Scalar.muli v137 c2_i32_96
  let v146 : BitVec 32 := Scalar.addi v144 v145
  let c1_i32_90 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v138 : BitVec 32 := Scalar.subi c1_i32_90 v8
  let c1_i32_97 : BitVec 32 := 1#32
  let v147 : BitVec 32 := Scalar.muli v138 c1_i32_97
  let v148 : BitVec 32 := Scalar.addi v146 v147
  v148.toNat
def k0_off9 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_103 : BitVec 32 := 0#32
  let c0_i32_104 : BitVec 32 := 0#32
  ![v12.toNat, 0, 0]
def k0_off10 (d0 : Dev nD) : Fin 3 → Nat :=
  let c4_i32_108 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v164 : BitVec 32 := Scalar.muli c4_i32_108 v2
  let c2_i32_109 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v165 : BitVec 32 := Scalar.muli c2_i32_109 v5
  let v166 : BitVec 32 := Scalar.addi v164 v165
  let c1_i32_107 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v163 : BitVec 32 := Scalar.subi c1_i32_107 v8
  let v167 : BitVec 32 := Scalar.addi v166 v163
  let c0_i32_117 : BitVec 32 := 0#32
  let c0_i32_118 : BitVec 32 := 0#32
  ![v167.toNat, 0, 0]
def k0_dev8 (d0 : Dev nD) : Nat :=
  let c0_i32_112 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_111 : BitVec 32 := 4#32
  let v168 : BitVec 32 := Scalar.muli v2 c4_i32_111
  let v169 : BitVec 32 := Scalar.addi c0_i32_112 v168
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_113 : BitVec 32 := 2#32
  let v170 : BitVec 32 := Scalar.muli v5 c2_i32_113
  let v171 : BitVec 32 := Scalar.addi v169 v170
  let c1_i32_107 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v163 : BitVec 32 := Scalar.subi c1_i32_107 v8
  let c1_i32_114 : BitVec 32 := 1#32
  let v172 : BitVec 32 := Scalar.muli v163 c1_i32_114
  let v173 : BitVec 32 := Scalar.addi v171 v172
  v173.toNat
def k0_off11 (d0 : Dev nD) : Fin 3 → Nat :=
  let c4_i32_120 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v183 : BitVec 32 := Scalar.muli c4_i32_120 v2
  let c2_i32_121 : BitVec 32 := 2#32
  let c1_i32_119 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v182 : BitVec 32 := Scalar.subi c1_i32_119 v5
  let v184 : BitVec 32 := Scalar.muli c2_i32_121 v182
  let v185 : BitVec 32 := Scalar.addi v183 v184
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v186 : BitVec 32 := Scalar.addi v185 v8
  let c0_i32_129 : BitVec 32 := 0#32
  let c0_i32_130 : BitVec 32 := 0#32
  ![v186.toNat, 0, 0]
def k0_dev9 (d0 : Dev nD) : Nat :=
  let c0_i32_124 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_123 : BitVec 32 := 4#32
  let v187 : BitVec 32 := Scalar.muli v2 c4_i32_123
  let v188 : BitVec 32 := Scalar.addi c0_i32_124 v187
  let c1_i32_119 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v182 : BitVec 32 := Scalar.subi c1_i32_119 v5
  let c2_i32_125 : BitVec 32 := 2#32
  let v189 : BitVec 32 := Scalar.muli v182 c2_i32_125
  let v190 : BitVec 32 := Scalar.addi v188 v189
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_126 : BitVec 32 := 1#32
  let v191 : BitVec 32 := Scalar.muli v8 c1_i32_126
  let v192 : BitVec 32 := Scalar.addi v190 v191
  v192.toNat
def k0_off12 (d0 : Dev nD) : Fin 3 → Nat :=
  let c4_i32_133 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v203 : BitVec 32 := Scalar.muli c4_i32_133 v2
  let c2_i32_134 : BitVec 32 := 2#32
  let c1_i32_131 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v201 : BitVec 32 := Scalar.subi c1_i32_131 v5
  let v204 : BitVec 32 := Scalar.muli c2_i32_134 v201
  let v205 : BitVec 32 := Scalar.addi v203 v204
  let c1_i32_132 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v202 : BitVec 32 := Scalar.subi c1_i32_132 v8
  let v206 : BitVec 32 := Scalar.addi v205 v202
  let c0_i32_142 : BitVec 32 := 0#32
  let c0_i32_143 : BitVec 32 := 0#32
  ![v206.toNat, 0, 0]
def k0_dev10 (d0 : Dev nD) : Nat :=
  let c0_i32_137 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_136 : BitVec 32 := 4#32
  let v207 : BitVec 32 := Scalar.muli v2 c4_i32_136
  let v208 : BitVec 32 := Scalar.addi c0_i32_137 v207
  let c1_i32_131 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v201 : BitVec 32 := Scalar.subi c1_i32_131 v5
  let c2_i32_138 : BitVec 32 := 2#32
  let v209 : BitVec 32 := Scalar.muli v201 c2_i32_138
  let v210 : BitVec 32 := Scalar.addi v208 v209
  let c1_i32_132 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v202 : BitVec 32 := Scalar.subi c1_i32_132 v8
  let c1_i32_139 : BitVec 32 := 1#32
  let v211 : BitVec 32 := Scalar.muli v202 c1_i32_139
  let v212 : BitVec 32 := Scalar.addi v210 v211
  v212.toNat
def k0_off13 (d0 : Dev nD) : Fin 3 → Nat :=
  let c4_i32_145 : BitVec 32 := 4#32
  let c1_i32_144 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v221 : BitVec 32 := Scalar.subi c1_i32_144 v2
  let v222 : BitVec 32 := Scalar.muli c4_i32_145 v221
  let c2_i32_146 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v223 : BitVec 32 := Scalar.muli c2_i32_146 v5
  let v224 : BitVec 32 := Scalar.addi v222 v223
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v225 : BitVec 32 := Scalar.addi v224 v8
  let c0_i32_154 : BitVec 32 := 0#32
  let c0_i32_155 : BitVec 32 := 0#32
  ![v225.toNat, 0, 0]
def k0_dev11 (d0 : Dev nD) : Nat :=
  let c0_i32_149 : BitVec 32 := 0#32
  let c1_i32_144 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v221 : BitVec 32 := Scalar.subi c1_i32_144 v2
  let c4_i32_148 : BitVec 32 := 4#32
  let v226 : BitVec 32 := Scalar.muli v221 c4_i32_148
  let v227 : BitVec 32 := Scalar.addi c0_i32_149 v226
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_150 : BitVec 32 := 2#32
  let v228 : BitVec 32 := Scalar.muli v5 c2_i32_150
  let v229 : BitVec 32 := Scalar.addi v227 v228
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_151 : BitVec 32 := 1#32
  let v230 : BitVec 32 := Scalar.muli v8 c1_i32_151
  let v231 : BitVec 32 := Scalar.addi v229 v230
  v231.toNat
def k0_off14 (d0 : Dev nD) : Fin 3 → Nat :=
  let c4_i32_158 : BitVec 32 := 4#32
  let c1_i32_156 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v240 : BitVec 32 := Scalar.subi c1_i32_156 v2
  let v242 : BitVec 32 := Scalar.muli c4_i32_158 v240
  let c2_i32_159 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v243 : BitVec 32 := Scalar.muli c2_i32_159 v5
  let v244 : BitVec 32 := Scalar.addi v242 v243
  let c1_i32_157 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v241 : BitVec 32 := Scalar.subi c1_i32_157 v8
  let v245 : BitVec 32 := Scalar.addi v244 v241
  let c0_i32_167 : BitVec 32 := 0#32
  let c0_i32_168 : BitVec 32 := 0#32
  ![v245.toNat, 0, 0]
def k0_dev12 (d0 : Dev nD) : Nat :=
  let c0_i32_162 : BitVec 32 := 0#32
  let c1_i32_156 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v240 : BitVec 32 := Scalar.subi c1_i32_156 v2
  let c4_i32_161 : BitVec 32 := 4#32
  let v246 : BitVec 32 := Scalar.muli v240 c4_i32_161
  let v247 : BitVec 32 := Scalar.addi c0_i32_162 v246
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_163 : BitVec 32 := 2#32
  let v248 : BitVec 32 := Scalar.muli v5 c2_i32_163
  let v249 : BitVec 32 := Scalar.addi v247 v248
  let c1_i32_157 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v241 : BitVec 32 := Scalar.subi c1_i32_157 v8
  let c1_i32_164 : BitVec 32 := 1#32
  let v250 : BitVec 32 := Scalar.muli v241 c1_i32_164
  let v251 : BitVec 32 := Scalar.addi v249 v250
  v251.toNat
def k0_off15 (d0 : Dev nD) : Fin 3 → Nat :=
  let c4_i32_171 : BitVec 32 := 4#32
  let c1_i32_169 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v260 : BitVec 32 := Scalar.subi c1_i32_169 v2
  let v262 : BitVec 32 := Scalar.muli c4_i32_171 v260
  let c2_i32_172 : BitVec 32 := 2#32
  let c1_i32_170 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v261 : BitVec 32 := Scalar.subi c1_i32_170 v5
  let v263 : BitVec 32 := Scalar.muli c2_i32_172 v261
  let v264 : BitVec 32 := Scalar.addi v262 v263
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v265 : BitVec 32 := Scalar.addi v264 v8
  let c0_i32_180 : BitVec 32 := 0#32
  let c0_i32_181 : BitVec 32 := 0#32
  ![v265.toNat, 0, 0]
def k0_dev13 (d0 : Dev nD) : Nat :=
  let c0_i32_175 : BitVec 32 := 0#32
  let c1_i32_169 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v260 : BitVec 32 := Scalar.subi c1_i32_169 v2
  let c4_i32_174 : BitVec 32 := 4#32
  let v266 : BitVec 32 := Scalar.muli v260 c4_i32_174
  let v267 : BitVec 32 := Scalar.addi c0_i32_175 v266
  let c1_i32_170 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v261 : BitVec 32 := Scalar.subi c1_i32_170 v5
  let c2_i32_176 : BitVec 32 := 2#32
  let v268 : BitVec 32 := Scalar.muli v261 c2_i32_176
  let v269 : BitVec 32 := Scalar.addi v267 v268
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_177 : BitVec 32 := 1#32
  let v270 : BitVec 32 := Scalar.muli v8 c1_i32_177
  let v271 : BitVec 32 := Scalar.addi v269 v270
  v271.toNat
def k0_off16 (d0 : Dev nD) : Fin 3 → Nat :=
  let c4_i32_185 : BitVec 32 := 4#32
  let c1_i32_182 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v280 : BitVec 32 := Scalar.subi c1_i32_182 v2
  let v283 : BitVec 32 := Scalar.muli c4_i32_185 v280
  let c2_i32_186 : BitVec 32 := 2#32
  let c1_i32_183 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v281 : BitVec 32 := Scalar.subi c1_i32_183 v5
  let v284 : BitVec 32 := Scalar.muli c2_i32_186 v281
  let v285 : BitVec 32 := Scalar.addi v283 v284
  let c1_i32_184 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v282 : BitVec 32 := Scalar.subi c1_i32_184 v8
  let v286 : BitVec 32 := Scalar.addi v285 v282
  let c0_i32_194 : BitVec 32 := 0#32
  let c0_i32_195 : BitVec 32 := 0#32
  ![v286.toNat, 0, 0]
def k0_dev14 (d0 : Dev nD) : Nat :=
  let c0_i32_189 : BitVec 32 := 0#32
  let c1_i32_182 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v280 : BitVec 32 := Scalar.subi c1_i32_182 v2
  let c4_i32_188 : BitVec 32 := 4#32
  let v287 : BitVec 32 := Scalar.muli v280 c4_i32_188
  let v288 : BitVec 32 := Scalar.addi c0_i32_189 v287
  let c1_i32_183 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v281 : BitVec 32 := Scalar.subi c1_i32_183 v5
  let c2_i32_190 : BitVec 32 := 2#32
  let v289 : BitVec 32 := Scalar.muli v281 c2_i32_190
  let v290 : BitVec 32 := Scalar.addi v288 v289
  let c1_i32_184 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v282 : BitVec 32 := Scalar.subi c1_i32_184 v8
  let c1_i32_191 : BitVec 32 := 1#32
  let v291 : BitVec 32 := Scalar.muli v282 c1_i32_191
  let v292 : BitVec 32 := Scalar.addi v290 v291
  v292.toNat
def k0_off17 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_197 : BitVec 32 := 0#32
  let c0_i32_198 : BitVec 32 := 0#32
  ![v12.toNat, 0, 0]
def k0_off18 (d0 : Dev nD) : Fin 3 → Nat :=
  let c4_i32_202 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v308 : BitVec 32 := Scalar.muli c4_i32_202 v2
  let c2_i32_203 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v309 : BitVec 32 := Scalar.muli c2_i32_203 v5
  let v310 : BitVec 32 := Scalar.addi v308 v309
  let c1_i32_201 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v307 : BitVec 32 := Scalar.subi c1_i32_201 v8
  let v311 : BitVec 32 := Scalar.addi v310 v307
  let c0_i32_211 : BitVec 32 := 0#32
  let c0_i32_212 : BitVec 32 := 0#32
  ![v311.toNat, 0, 0]
def k0_dev15 (d0 : Dev nD) : Nat :=
  let c0_i32_206 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_205 : BitVec 32 := 4#32
  let v312 : BitVec 32 := Scalar.muli v2 c4_i32_205
  let v313 : BitVec 32 := Scalar.addi c0_i32_206 v312
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_207 : BitVec 32 := 2#32
  let v314 : BitVec 32 := Scalar.muli v5 c2_i32_207
  let v315 : BitVec 32 := Scalar.addi v313 v314
  let c1_i32_201 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v307 : BitVec 32 := Scalar.subi c1_i32_201 v8
  let c1_i32_208 : BitVec 32 := 1#32
  let v316 : BitVec 32 := Scalar.muli v307 c1_i32_208
  let v317 : BitVec 32 := Scalar.addi v315 v316
  v317.toNat
def k0_off19 (d0 : Dev nD) : Fin 3 → Nat :=
  let c4_i32_214 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v327 : BitVec 32 := Scalar.muli c4_i32_214 v2
  let c2_i32_215 : BitVec 32 := 2#32
  let c1_i32_213 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v326 : BitVec 32 := Scalar.subi c1_i32_213 v5
  let v328 : BitVec 32 := Scalar.muli c2_i32_215 v326
  let v329 : BitVec 32 := Scalar.addi v327 v328
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v330 : BitVec 32 := Scalar.addi v329 v8
  let c0_i32_223 : BitVec 32 := 0#32
  let c0_i32_224 : BitVec 32 := 0#32
  ![v330.toNat, 0, 0]
def k0_dev16 (d0 : Dev nD) : Nat :=
  let c0_i32_218 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_217 : BitVec 32 := 4#32
  let v331 : BitVec 32 := Scalar.muli v2 c4_i32_217
  let v332 : BitVec 32 := Scalar.addi c0_i32_218 v331
  let c1_i32_213 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v326 : BitVec 32 := Scalar.subi c1_i32_213 v5
  let c2_i32_219 : BitVec 32 := 2#32
  let v333 : BitVec 32 := Scalar.muli v326 c2_i32_219
  let v334 : BitVec 32 := Scalar.addi v332 v333
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_220 : BitVec 32 := 1#32
  let v335 : BitVec 32 := Scalar.muli v8 c1_i32_220
  let v336 : BitVec 32 := Scalar.addi v334 v335
  v336.toNat
def k0_off20 (d0 : Dev nD) : Fin 3 → Nat :=
  let c4_i32_227 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v347 : BitVec 32 := Scalar.muli c4_i32_227 v2
  let c2_i32_228 : BitVec 32 := 2#32
  let c1_i32_225 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v345 : BitVec 32 := Scalar.subi c1_i32_225 v5
  let v348 : BitVec 32 := Scalar.muli c2_i32_228 v345
  let v349 : BitVec 32 := Scalar.addi v347 v348
  let c1_i32_226 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v346 : BitVec 32 := Scalar.subi c1_i32_226 v8
  let v350 : BitVec 32 := Scalar.addi v349 v346
  let c0_i32_236 : BitVec 32 := 0#32
  let c0_i32_237 : BitVec 32 := 0#32
  ![v350.toNat, 0, 0]
def k0_dev17 (d0 : Dev nD) : Nat :=
  let c0_i32_231 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_230 : BitVec 32 := 4#32
  let v351 : BitVec 32 := Scalar.muli v2 c4_i32_230
  let v352 : BitVec 32 := Scalar.addi c0_i32_231 v351
  let c1_i32_225 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v345 : BitVec 32 := Scalar.subi c1_i32_225 v5
  let c2_i32_232 : BitVec 32 := 2#32
  let v353 : BitVec 32 := Scalar.muli v345 c2_i32_232
  let v354 : BitVec 32 := Scalar.addi v352 v353
  let c1_i32_226 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v346 : BitVec 32 := Scalar.subi c1_i32_226 v8
  let c1_i32_233 : BitVec 32 := 1#32
  let v355 : BitVec 32 := Scalar.muli v346 c1_i32_233
  let v356 : BitVec 32 := Scalar.addi v354 v355
  v356.toNat
def k0_off21 (d0 : Dev nD) : Fin 3 → Nat :=
  let c4_i32_239 : BitVec 32 := 4#32
  let c1_i32_238 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v365 : BitVec 32 := Scalar.subi c1_i32_238 v2
  let v366 : BitVec 32 := Scalar.muli c4_i32_239 v365
  let c2_i32_240 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v367 : BitVec 32 := Scalar.muli c2_i32_240 v5
  let v368 : BitVec 32 := Scalar.addi v366 v367
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v369 : BitVec 32 := Scalar.addi v368 v8
  let c0_i32_248 : BitVec 32 := 0#32
  let c0_i32_249 : BitVec 32 := 0#32
  ![v369.toNat, 0, 0]
def k0_dev18 (d0 : Dev nD) : Nat :=
  let c0_i32_243 : BitVec 32 := 0#32
  let c1_i32_238 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v365 : BitVec 32 := Scalar.subi c1_i32_238 v2
  let c4_i32_242 : BitVec 32 := 4#32
  let v370 : BitVec 32 := Scalar.muli v365 c4_i32_242
  let v371 : BitVec 32 := Scalar.addi c0_i32_243 v370
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_244 : BitVec 32 := 2#32
  let v372 : BitVec 32 := Scalar.muli v5 c2_i32_244
  let v373 : BitVec 32 := Scalar.addi v371 v372
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_245 : BitVec 32 := 1#32
  let v374 : BitVec 32 := Scalar.muli v8 c1_i32_245
  let v375 : BitVec 32 := Scalar.addi v373 v374
  v375.toNat
def k0_off22 (d0 : Dev nD) : Fin 3 → Nat :=
  let c4_i32_252 : BitVec 32 := 4#32
  let c1_i32_250 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v384 : BitVec 32 := Scalar.subi c1_i32_250 v2
  let v386 : BitVec 32 := Scalar.muli c4_i32_252 v384
  let c2_i32_253 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v387 : BitVec 32 := Scalar.muli c2_i32_253 v5
  let v388 : BitVec 32 := Scalar.addi v386 v387
  let c1_i32_251 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v385 : BitVec 32 := Scalar.subi c1_i32_251 v8
  let v389 : BitVec 32 := Scalar.addi v388 v385
  let c0_i32_261 : BitVec 32 := 0#32
  let c0_i32_262 : BitVec 32 := 0#32
  ![v389.toNat, 0, 0]
def k0_dev19 (d0 : Dev nD) : Nat :=
  let c0_i32_256 : BitVec 32 := 0#32
  let c1_i32_250 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v384 : BitVec 32 := Scalar.subi c1_i32_250 v2
  let c4_i32_255 : BitVec 32 := 4#32
  let v390 : BitVec 32 := Scalar.muli v384 c4_i32_255
  let v391 : BitVec 32 := Scalar.addi c0_i32_256 v390
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_257 : BitVec 32 := 2#32
  let v392 : BitVec 32 := Scalar.muli v5 c2_i32_257
  let v393 : BitVec 32 := Scalar.addi v391 v392
  let c1_i32_251 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v385 : BitVec 32 := Scalar.subi c1_i32_251 v8
  let c1_i32_258 : BitVec 32 := 1#32
  let v394 : BitVec 32 := Scalar.muli v385 c1_i32_258
  let v395 : BitVec 32 := Scalar.addi v393 v394
  v395.toNat
def k0_off23 (d0 : Dev nD) : Fin 3 → Nat :=
  let c4_i32_265 : BitVec 32 := 4#32
  let c1_i32_263 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v404 : BitVec 32 := Scalar.subi c1_i32_263 v2
  let v406 : BitVec 32 := Scalar.muli c4_i32_265 v404
  let c2_i32_266 : BitVec 32 := 2#32
  let c1_i32_264 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v405 : BitVec 32 := Scalar.subi c1_i32_264 v5
  let v407 : BitVec 32 := Scalar.muli c2_i32_266 v405
  let v408 : BitVec 32 := Scalar.addi v406 v407
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v409 : BitVec 32 := Scalar.addi v408 v8
  let c0_i32_274 : BitVec 32 := 0#32
  let c0_i32_275 : BitVec 32 := 0#32
  ![v409.toNat, 0, 0]
def k0_dev20 (d0 : Dev nD) : Nat :=
  let c0_i32_269 : BitVec 32 := 0#32
  let c1_i32_263 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v404 : BitVec 32 := Scalar.subi c1_i32_263 v2
  let c4_i32_268 : BitVec 32 := 4#32
  let v410 : BitVec 32 := Scalar.muli v404 c4_i32_268
  let v411 : BitVec 32 := Scalar.addi c0_i32_269 v410
  let c1_i32_264 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v405 : BitVec 32 := Scalar.subi c1_i32_264 v5
  let c2_i32_270 : BitVec 32 := 2#32
  let v412 : BitVec 32 := Scalar.muli v405 c2_i32_270
  let v413 : BitVec 32 := Scalar.addi v411 v412
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_271 : BitVec 32 := 1#32
  let v414 : BitVec 32 := Scalar.muli v8 c1_i32_271
  let v415 : BitVec 32 := Scalar.addi v413 v414
  v415.toNat
def k0_off24 (d0 : Dev nD) : Fin 3 → Nat :=
  let c4_i32_279 : BitVec 32 := 4#32
  let c1_i32_276 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v424 : BitVec 32 := Scalar.subi c1_i32_276 v2
  let v427 : BitVec 32 := Scalar.muli c4_i32_279 v424
  let c2_i32_280 : BitVec 32 := 2#32
  let c1_i32_277 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v425 : BitVec 32 := Scalar.subi c1_i32_277 v5
  let v428 : BitVec 32 := Scalar.muli c2_i32_280 v425
  let v429 : BitVec 32 := Scalar.addi v427 v428
  let c1_i32_278 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v426 : BitVec 32 := Scalar.subi c1_i32_278 v8
  let v430 : BitVec 32 := Scalar.addi v429 v426
  let c0_i32_288 : BitVec 32 := 0#32
  let c0_i32_289 : BitVec 32 := 0#32
  ![v430.toNat, 0, 0]
def k0_dev21 (d0 : Dev nD) : Nat :=
  let c0_i32_283 : BitVec 32 := 0#32
  let c1_i32_276 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v424 : BitVec 32 := Scalar.subi c1_i32_276 v2
  let c4_i32_282 : BitVec 32 := 4#32
  let v431 : BitVec 32 := Scalar.muli v424 c4_i32_282
  let v432 : BitVec 32 := Scalar.addi c0_i32_283 v431
  let c1_i32_277 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v425 : BitVec 32 := Scalar.subi c1_i32_277 v5
  let c2_i32_284 : BitVec 32 := 2#32
  let v433 : BitVec 32 := Scalar.muli v425 c2_i32_284
  let v434 : BitVec 32 := Scalar.addi v432 v433
  let c1_i32_278 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v426 : BitVec 32 := Scalar.subi c1_i32_278 v8
  let c1_i32_285 : BitVec 32 := 1#32
  let v435 : BitVec 32 := Scalar.muli v426 c1_i32_285
  let v436 : BitVec 32 := Scalar.addi v434 v435
  v436.toNat
def k0_off25 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_291 : BitVec 32 := 0#32
  let c0_i32_292 : BitVec 32 := 0#32
  ![v12.toNat, 0, 0]
def k0_off26 (d0 : Dev nD) : Fin 3 → Nat :=
  let c4_i32_296 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v452 : BitVec 32 := Scalar.muli c4_i32_296 v2
  let c2_i32_297 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v453 : BitVec 32 := Scalar.muli c2_i32_297 v5
  let v454 : BitVec 32 := Scalar.addi v452 v453
  let c1_i32_295 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v451 : BitVec 32 := Scalar.subi c1_i32_295 v8
  let v455 : BitVec 32 := Scalar.addi v454 v451
  let c0_i32_305 : BitVec 32 := 0#32
  let c0_i32_306 : BitVec 32 := 0#32
  ![v455.toNat, 0, 0]
def k0_dev22 (d0 : Dev nD) : Nat :=
  let c0_i32_300 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_299 : BitVec 32 := 4#32
  let v456 : BitVec 32 := Scalar.muli v2 c4_i32_299
  let v457 : BitVec 32 := Scalar.addi c0_i32_300 v456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_301 : BitVec 32 := 2#32
  let v458 : BitVec 32 := Scalar.muli v5 c2_i32_301
  let v459 : BitVec 32 := Scalar.addi v457 v458
  let c1_i32_295 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v451 : BitVec 32 := Scalar.subi c1_i32_295 v8
  let c1_i32_302 : BitVec 32 := 1#32
  let v460 : BitVec 32 := Scalar.muli v451 c1_i32_302
  let v461 : BitVec 32 := Scalar.addi v459 v460
  v461.toNat
def k0_off27 (d0 : Dev nD) : Fin 3 → Nat :=
  let c4_i32_308 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v471 : BitVec 32 := Scalar.muli c4_i32_308 v2
  let c2_i32_309 : BitVec 32 := 2#32
  let c1_i32_307 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v470 : BitVec 32 := Scalar.subi c1_i32_307 v5
  let v472 : BitVec 32 := Scalar.muli c2_i32_309 v470
  let v473 : BitVec 32 := Scalar.addi v471 v472
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v474 : BitVec 32 := Scalar.addi v473 v8
  let c0_i32_317 : BitVec 32 := 0#32
  let c0_i32_318 : BitVec 32 := 0#32
  ![v474.toNat, 0, 0]
def k0_dev23 (d0 : Dev nD) : Nat :=
  let c0_i32_312 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_311 : BitVec 32 := 4#32
  let v475 : BitVec 32 := Scalar.muli v2 c4_i32_311
  let v476 : BitVec 32 := Scalar.addi c0_i32_312 v475
  let c1_i32_307 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v470 : BitVec 32 := Scalar.subi c1_i32_307 v5
  let c2_i32_313 : BitVec 32 := 2#32
  let v477 : BitVec 32 := Scalar.muli v470 c2_i32_313
  let v478 : BitVec 32 := Scalar.addi v476 v477
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_314 : BitVec 32 := 1#32
  let v479 : BitVec 32 := Scalar.muli v8 c1_i32_314
  let v480 : BitVec 32 := Scalar.addi v478 v479
  v480.toNat
def k0_off28 (d0 : Dev nD) : Fin 3 → Nat :=
  let c4_i32_321 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v491 : BitVec 32 := Scalar.muli c4_i32_321 v2
  let c2_i32_322 : BitVec 32 := 2#32
  let c1_i32_319 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v489 : BitVec 32 := Scalar.subi c1_i32_319 v5
  let v492 : BitVec 32 := Scalar.muli c2_i32_322 v489
  let v493 : BitVec 32 := Scalar.addi v491 v492
  let c1_i32_320 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v490 : BitVec 32 := Scalar.subi c1_i32_320 v8
  let v494 : BitVec 32 := Scalar.addi v493 v490
  let c0_i32_330 : BitVec 32 := 0#32
  let c0_i32_331 : BitVec 32 := 0#32
  ![v494.toNat, 0, 0]
def k0_dev24 (d0 : Dev nD) : Nat :=
  let c0_i32_325 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_324 : BitVec 32 := 4#32
  let v495 : BitVec 32 := Scalar.muli v2 c4_i32_324
  let v496 : BitVec 32 := Scalar.addi c0_i32_325 v495
  let c1_i32_319 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v489 : BitVec 32 := Scalar.subi c1_i32_319 v5
  let c2_i32_326 : BitVec 32 := 2#32
  let v497 : BitVec 32 := Scalar.muli v489 c2_i32_326
  let v498 : BitVec 32 := Scalar.addi v496 v497
  let c1_i32_320 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v490 : BitVec 32 := Scalar.subi c1_i32_320 v8
  let c1_i32_327 : BitVec 32 := 1#32
  let v499 : BitVec 32 := Scalar.muli v490 c1_i32_327
  let v500 : BitVec 32 := Scalar.addi v498 v499
  v500.toNat
def k0_off29 (d0 : Dev nD) : Fin 3 → Nat :=
  let c4_i32_333 : BitVec 32 := 4#32
  let c1_i32_332 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v509 : BitVec 32 := Scalar.subi c1_i32_332 v2
  let v510 : BitVec 32 := Scalar.muli c4_i32_333 v509
  let c2_i32_334 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v511 : BitVec 32 := Scalar.muli c2_i32_334 v5
  let v512 : BitVec 32 := Scalar.addi v510 v511
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v513 : BitVec 32 := Scalar.addi v512 v8
  let c0_i32_342 : BitVec 32 := 0#32
  let c0_i32_343 : BitVec 32 := 0#32
  ![v513.toNat, 0, 0]
def k0_dev25 (d0 : Dev nD) : Nat :=
  let c0_i32_337 : BitVec 32 := 0#32
  let c1_i32_332 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v509 : BitVec 32 := Scalar.subi c1_i32_332 v2
  let c4_i32_336 : BitVec 32 := 4#32
  let v514 : BitVec 32 := Scalar.muli v509 c4_i32_336
  let v515 : BitVec 32 := Scalar.addi c0_i32_337 v514
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_338 : BitVec 32 := 2#32
  let v516 : BitVec 32 := Scalar.muli v5 c2_i32_338
  let v517 : BitVec 32 := Scalar.addi v515 v516
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_339 : BitVec 32 := 1#32
  let v518 : BitVec 32 := Scalar.muli v8 c1_i32_339
  let v519 : BitVec 32 := Scalar.addi v517 v518
  v519.toNat
def k0_off30 (d0 : Dev nD) : Fin 3 → Nat :=
  let c4_i32_346 : BitVec 32 := 4#32
  let c1_i32_344 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v528 : BitVec 32 := Scalar.subi c1_i32_344 v2
  let v530 : BitVec 32 := Scalar.muli c4_i32_346 v528
  let c2_i32_347 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v531 : BitVec 32 := Scalar.muli c2_i32_347 v5
  let v532 : BitVec 32 := Scalar.addi v530 v531
  let c1_i32_345 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v529 : BitVec 32 := Scalar.subi c1_i32_345 v8
  let v533 : BitVec 32 := Scalar.addi v532 v529
  let c0_i32_355 : BitVec 32 := 0#32
  let c0_i32_356 : BitVec 32 := 0#32
  ![v533.toNat, 0, 0]
def k0_dev26 (d0 : Dev nD) : Nat :=
  let c0_i32_350 : BitVec 32 := 0#32
  let c1_i32_344 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v528 : BitVec 32 := Scalar.subi c1_i32_344 v2
  let c4_i32_349 : BitVec 32 := 4#32
  let v534 : BitVec 32 := Scalar.muli v528 c4_i32_349
  let v535 : BitVec 32 := Scalar.addi c0_i32_350 v534
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_351 : BitVec 32 := 2#32
  let v536 : BitVec 32 := Scalar.muli v5 c2_i32_351
  let v537 : BitVec 32 := Scalar.addi v535 v536
  let c1_i32_345 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v529 : BitVec 32 := Scalar.subi c1_i32_345 v8
  let c1_i32_352 : BitVec 32 := 1#32
  let v538 : BitVec 32 := Scalar.muli v529 c1_i32_352
  let v539 : BitVec 32 := Scalar.addi v537 v538
  v539.toNat
def k0_off31 (d0 : Dev nD) : Fin 3 → Nat :=
  let c4_i32_359 : BitVec 32 := 4#32
  let c1_i32_357 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v548 : BitVec 32 := Scalar.subi c1_i32_357 v2
  let v550 : BitVec 32 := Scalar.muli c4_i32_359 v548
  let c2_i32_360 : BitVec 32 := 2#32
  let c1_i32_358 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v549 : BitVec 32 := Scalar.subi c1_i32_358 v5
  let v551 : BitVec 32 := Scalar.muli c2_i32_360 v549
  let v552 : BitVec 32 := Scalar.addi v550 v551
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v553 : BitVec 32 := Scalar.addi v552 v8
  let c0_i32_368 : BitVec 32 := 0#32
  let c0_i32_369 : BitVec 32 := 0#32
  ![v553.toNat, 0, 0]
def k0_dev27 (d0 : Dev nD) : Nat :=
  let c0_i32_363 : BitVec 32 := 0#32
  let c1_i32_357 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v548 : BitVec 32 := Scalar.subi c1_i32_357 v2
  let c4_i32_362 : BitVec 32 := 4#32
  let v554 : BitVec 32 := Scalar.muli v548 c4_i32_362
  let v555 : BitVec 32 := Scalar.addi c0_i32_363 v554
  let c1_i32_358 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v549 : BitVec 32 := Scalar.subi c1_i32_358 v5
  let c2_i32_364 : BitVec 32 := 2#32
  let v556 : BitVec 32 := Scalar.muli v549 c2_i32_364
  let v557 : BitVec 32 := Scalar.addi v555 v556
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_365 : BitVec 32 := 1#32
  let v558 : BitVec 32 := Scalar.muli v8 c1_i32_365
  let v559 : BitVec 32 := Scalar.addi v557 v558
  v559.toNat
def k0_off32 (d0 : Dev nD) : Fin 3 → Nat :=
  let c4_i32_373 : BitVec 32 := 4#32
  let c1_i32_370 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v568 : BitVec 32 := Scalar.subi c1_i32_370 v2
  let v571 : BitVec 32 := Scalar.muli c4_i32_373 v568
  let c2_i32_374 : BitVec 32 := 2#32
  let c1_i32_371 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v569 : BitVec 32 := Scalar.subi c1_i32_371 v5
  let v572 : BitVec 32 := Scalar.muli c2_i32_374 v569
  let v573 : BitVec 32 := Scalar.addi v571 v572
  let c1_i32_372 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v570 : BitVec 32 := Scalar.subi c1_i32_372 v8
  let v574 : BitVec 32 := Scalar.addi v573 v570
  let c0_i32_382 : BitVec 32 := 0#32
  let c0_i32_383 : BitVec 32 := 0#32
  ![v574.toNat, 0, 0]
def k0_dev28 (d0 : Dev nD) : Nat :=
  let c0_i32_377 : BitVec 32 := 0#32
  let c1_i32_370 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v568 : BitVec 32 := Scalar.subi c1_i32_370 v2
  let c4_i32_376 : BitVec 32 := 4#32
  let v575 : BitVec 32 := Scalar.muli v568 c4_i32_376
  let v576 : BitVec 32 := Scalar.addi c0_i32_377 v575
  let c1_i32_371 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v569 : BitVec 32 := Scalar.subi c1_i32_371 v5
  let c2_i32_378 : BitVec 32 := 2#32
  let v577 : BitVec 32 := Scalar.muli v569 c2_i32_378
  let v578 : BitVec 32 := Scalar.addi v576 v577
  let c1_i32_372 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v570 : BitVec 32 := Scalar.subi c1_i32_372 v8
  let c1_i32_379 : BitVec 32 := 1#32
  let v579 : BitVec 32 := Scalar.muli v570 c1_i32_379
  let v580 : BitVec 32 := Scalar.addi v578 v579
  v580.toNat
def k0_dev29 (d0 : Dev nD) : Nat :=
  let c0_i32_394 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_393 : BitVec 32 := 4#32
  let v600 : BitVec 32 := Scalar.muli v2 c4_i32_393
  let v601 : BitVec 32 := Scalar.addi c0_i32_394 v600
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_395 : BitVec 32 := 2#32
  let v602 : BitVec 32 := Scalar.muli v5 c2_i32_395
  let v603 : BitVec 32 := Scalar.addi v601 v602
  let c1_i32_389 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v595 : BitVec 32 := Scalar.subi c1_i32_389 v8
  let c1_i32_396 : BitVec 32 := 1#32
  let v604 : BitVec 32 := Scalar.muli v595 c1_i32_396
  let v605 : BitVec 32 := Scalar.addi v603 v604
  v605.toNat
def k0_dev30 (d0 : Dev nD) : Nat :=
  let c0_i32_406 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_405 : BitVec 32 := 4#32
  let v619 : BitVec 32 := Scalar.muli v2 c4_i32_405
  let v620 : BitVec 32 := Scalar.addi c0_i32_406 v619
  let c1_i32_401 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v614 : BitVec 32 := Scalar.subi c1_i32_401 v5
  let c2_i32_407 : BitVec 32 := 2#32
  let v621 : BitVec 32 := Scalar.muli v614 c2_i32_407
  let v622 : BitVec 32 := Scalar.addi v620 v621
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_408 : BitVec 32 := 1#32
  let v623 : BitVec 32 := Scalar.muli v8 c1_i32_408
  let v624 : BitVec 32 := Scalar.addi v622 v623
  v624.toNat
def k0_dev31 (d0 : Dev nD) : Nat :=
  let c0_i32_419 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_418 : BitVec 32 := 4#32
  let v639 : BitVec 32 := Scalar.muli v2 c4_i32_418
  let v640 : BitVec 32 := Scalar.addi c0_i32_419 v639
  let c1_i32_413 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v633 : BitVec 32 := Scalar.subi c1_i32_413 v5
  let c2_i32_420 : BitVec 32 := 2#32
  let v641 : BitVec 32 := Scalar.muli v633 c2_i32_420
  let v642 : BitVec 32 := Scalar.addi v640 v641
  let c1_i32_414 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v634 : BitVec 32 := Scalar.subi c1_i32_414 v8
  let c1_i32_421 : BitVec 32 := 1#32
  let v643 : BitVec 32 := Scalar.muli v634 c1_i32_421
  let v644 : BitVec 32 := Scalar.addi v642 v643
  v644.toNat
def k0_dev32 (d0 : Dev nD) : Nat :=
  let c0_i32_431 : BitVec 32 := 0#32
  let c1_i32_426 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v653 : BitVec 32 := Scalar.subi c1_i32_426 v2
  let c4_i32_430 : BitVec 32 := 4#32
  let v658 : BitVec 32 := Scalar.muli v653 c4_i32_430
  let v659 : BitVec 32 := Scalar.addi c0_i32_431 v658
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_432 : BitVec 32 := 2#32
  let v660 : BitVec 32 := Scalar.muli v5 c2_i32_432
  let v661 : BitVec 32 := Scalar.addi v659 v660
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_433 : BitVec 32 := 1#32
  let v662 : BitVec 32 := Scalar.muli v8 c1_i32_433
  let v663 : BitVec 32 := Scalar.addi v661 v662
  v663.toNat
def k0_dev33 (d0 : Dev nD) : Nat :=
  let c0_i32_444 : BitVec 32 := 0#32
  let c1_i32_438 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v672 : BitVec 32 := Scalar.subi c1_i32_438 v2
  let c4_i32_443 : BitVec 32 := 4#32
  let v678 : BitVec 32 := Scalar.muli v672 c4_i32_443
  let v679 : BitVec 32 := Scalar.addi c0_i32_444 v678
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_445 : BitVec 32 := 2#32
  let v680 : BitVec 32 := Scalar.muli v5 c2_i32_445
  let v681 : BitVec 32 := Scalar.addi v679 v680
  let c1_i32_439 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v673 : BitVec 32 := Scalar.subi c1_i32_439 v8
  let c1_i32_446 : BitVec 32 := 1#32
  let v682 : BitVec 32 := Scalar.muli v673 c1_i32_446
  let v683 : BitVec 32 := Scalar.addi v681 v682
  v683.toNat
def k0_dev34 (d0 : Dev nD) : Nat :=
  let c0_i32_457 : BitVec 32 := 0#32
  let c1_i32_451 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v692 : BitVec 32 := Scalar.subi c1_i32_451 v2
  let c4_i32_456 : BitVec 32 := 4#32
  let v698 : BitVec 32 := Scalar.muli v692 c4_i32_456
  let v699 : BitVec 32 := Scalar.addi c0_i32_457 v698
  let c1_i32_452 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v693 : BitVec 32 := Scalar.subi c1_i32_452 v5
  let c2_i32_458 : BitVec 32 := 2#32
  let v700 : BitVec 32 := Scalar.muli v693 c2_i32_458
  let v701 : BitVec 32 := Scalar.addi v699 v700
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_459 : BitVec 32 := 1#32
  let v702 : BitVec 32 := Scalar.muli v8 c1_i32_459
  let v703 : BitVec 32 := Scalar.addi v701 v702
  v703.toNat
def k0_dev35 (d0 : Dev nD) : Nat :=
  let c0_i32_471 : BitVec 32 := 0#32
  let c1_i32_464 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v712 : BitVec 32 := Scalar.subi c1_i32_464 v2
  let c4_i32_470 : BitVec 32 := 4#32
  let v719 : BitVec 32 := Scalar.muli v712 c4_i32_470
  let v720 : BitVec 32 := Scalar.addi c0_i32_471 v719
  let c1_i32_465 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v713 : BitVec 32 := Scalar.subi c1_i32_465 v5
  let c2_i32_472 : BitVec 32 := 2#32
  let v721 : BitVec 32 := Scalar.muli v713 c2_i32_472
  let v722 : BitVec 32 := Scalar.addi v720 v721
  let c1_i32_466 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v714 : BitVec 32 := Scalar.subi c1_i32_466 v8
  let c1_i32_473 : BitVec 32 := 1#32
  let v723 : BitVec 32 := Scalar.muli v714 c1_i32_473
  let v724 : BitVec 32 := Scalar.addi v722 v723
  v724.toNat
def k0_off33 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_479 : BitVec 32 := 0#32
  let c0_i32_480 : BitVec 32 := 0#32
  ![v12.toNat, 0, 0]
def k0_off34 (d0 : Dev nD) : Fin 3 → Nat :=
  let c4_i32_484 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v740 : BitVec 32 := Scalar.muli c4_i32_484 v2
  let c2_i32_485 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v741 : BitVec 32 := Scalar.muli c2_i32_485 v5
  let v742 : BitVec 32 := Scalar.addi v740 v741
  let c1_i32_483 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v739 : BitVec 32 := Scalar.subi c1_i32_483 v8
  let v743 : BitVec 32 := Scalar.addi v742 v739
  let c0_i32_493 : BitVec 32 := 0#32
  let c0_i32_494 : BitVec 32 := 0#32
  ![v743.toNat, 0, 0]
def k0_dev36 (d0 : Dev nD) : Nat :=
  let c0_i32_488 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_487 : BitVec 32 := 4#32
  let v744 : BitVec 32 := Scalar.muli v2 c4_i32_487
  let v745 : BitVec 32 := Scalar.addi c0_i32_488 v744
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_489 : BitVec 32 := 2#32
  let v746 : BitVec 32 := Scalar.muli v5 c2_i32_489
  let v747 : BitVec 32 := Scalar.addi v745 v746
  let c1_i32_483 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v739 : BitVec 32 := Scalar.subi c1_i32_483 v8
  let c1_i32_490 : BitVec 32 := 1#32
  let v748 : BitVec 32 := Scalar.muli v739 c1_i32_490
  let v749 : BitVec 32 := Scalar.addi v747 v748
  v749.toNat
def k0_off35 (d0 : Dev nD) : Fin 3 → Nat :=
  let c4_i32_496 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v759 : BitVec 32 := Scalar.muli c4_i32_496 v2
  let c2_i32_497 : BitVec 32 := 2#32
  let c1_i32_495 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v758 : BitVec 32 := Scalar.subi c1_i32_495 v5
  let v760 : BitVec 32 := Scalar.muli c2_i32_497 v758
  let v761 : BitVec 32 := Scalar.addi v759 v760
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v762 : BitVec 32 := Scalar.addi v761 v8
  let c0_i32_505 : BitVec 32 := 0#32
  let c0_i32_506 : BitVec 32 := 0#32
  ![v762.toNat, 0, 0]
def k0_dev37 (d0 : Dev nD) : Nat :=
  let c0_i32_500 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_499 : BitVec 32 := 4#32
  let v763 : BitVec 32 := Scalar.muli v2 c4_i32_499
  let v764 : BitVec 32 := Scalar.addi c0_i32_500 v763
  let c1_i32_495 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v758 : BitVec 32 := Scalar.subi c1_i32_495 v5
  let c2_i32_501 : BitVec 32 := 2#32
  let v765 : BitVec 32 := Scalar.muli v758 c2_i32_501
  let v766 : BitVec 32 := Scalar.addi v764 v765
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_502 : BitVec 32 := 1#32
  let v767 : BitVec 32 := Scalar.muli v8 c1_i32_502
  let v768 : BitVec 32 := Scalar.addi v766 v767
  v768.toNat
def k0_off36 (d0 : Dev nD) : Fin 3 → Nat :=
  let c4_i32_509 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v779 : BitVec 32 := Scalar.muli c4_i32_509 v2
  let c2_i32_510 : BitVec 32 := 2#32
  let c1_i32_507 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v777 : BitVec 32 := Scalar.subi c1_i32_507 v5
  let v780 : BitVec 32 := Scalar.muli c2_i32_510 v777
  let v781 : BitVec 32 := Scalar.addi v779 v780
  let c1_i32_508 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v778 : BitVec 32 := Scalar.subi c1_i32_508 v8
  let v782 : BitVec 32 := Scalar.addi v781 v778
  let c0_i32_518 : BitVec 32 := 0#32
  let c0_i32_519 : BitVec 32 := 0#32
  ![v782.toNat, 0, 0]
def k0_dev38 (d0 : Dev nD) : Nat :=
  let c0_i32_513 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_512 : BitVec 32 := 4#32
  let v783 : BitVec 32 := Scalar.muli v2 c4_i32_512
  let v784 : BitVec 32 := Scalar.addi c0_i32_513 v783
  let c1_i32_507 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v777 : BitVec 32 := Scalar.subi c1_i32_507 v5
  let c2_i32_514 : BitVec 32 := 2#32
  let v785 : BitVec 32 := Scalar.muli v777 c2_i32_514
  let v786 : BitVec 32 := Scalar.addi v784 v785
  let c1_i32_508 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v778 : BitVec 32 := Scalar.subi c1_i32_508 v8
  let c1_i32_515 : BitVec 32 := 1#32
  let v787 : BitVec 32 := Scalar.muli v778 c1_i32_515
  let v788 : BitVec 32 := Scalar.addi v786 v787
  v788.toNat
def k0_off37 (d0 : Dev nD) : Fin 3 → Nat :=
  let c4_i32_521 : BitVec 32 := 4#32
  let c1_i32_520 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v797 : BitVec 32 := Scalar.subi c1_i32_520 v2
  let v798 : BitVec 32 := Scalar.muli c4_i32_521 v797
  let c2_i32_522 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v799 : BitVec 32 := Scalar.muli c2_i32_522 v5
  let v800 : BitVec 32 := Scalar.addi v798 v799
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v801 : BitVec 32 := Scalar.addi v800 v8
  let c0_i32_530 : BitVec 32 := 0#32
  let c0_i32_531 : BitVec 32 := 0#32
  ![v801.toNat, 0, 0]
def k0_dev39 (d0 : Dev nD) : Nat :=
  let c0_i32_525 : BitVec 32 := 0#32
  let c1_i32_520 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v797 : BitVec 32 := Scalar.subi c1_i32_520 v2
  let c4_i32_524 : BitVec 32 := 4#32
  let v802 : BitVec 32 := Scalar.muli v797 c4_i32_524
  let v803 : BitVec 32 := Scalar.addi c0_i32_525 v802
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_526 : BitVec 32 := 2#32
  let v804 : BitVec 32 := Scalar.muli v5 c2_i32_526
  let v805 : BitVec 32 := Scalar.addi v803 v804
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_527 : BitVec 32 := 1#32
  let v806 : BitVec 32 := Scalar.muli v8 c1_i32_527
  let v807 : BitVec 32 := Scalar.addi v805 v806
  v807.toNat
def k0_off38 (d0 : Dev nD) : Fin 3 → Nat :=
  let c4_i32_534 : BitVec 32 := 4#32
  let c1_i32_532 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v816 : BitVec 32 := Scalar.subi c1_i32_532 v2
  let v818 : BitVec 32 := Scalar.muli c4_i32_534 v816
  let c2_i32_535 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v819 : BitVec 32 := Scalar.muli c2_i32_535 v5
  let v820 : BitVec 32 := Scalar.addi v818 v819
  let c1_i32_533 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v817 : BitVec 32 := Scalar.subi c1_i32_533 v8
  let v821 : BitVec 32 := Scalar.addi v820 v817
  let c0_i32_543 : BitVec 32 := 0#32
  let c0_i32_544 : BitVec 32 := 0#32
  ![v821.toNat, 0, 0]
def k0_dev40 (d0 : Dev nD) : Nat :=
  let c0_i32_538 : BitVec 32 := 0#32
  let c1_i32_532 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v816 : BitVec 32 := Scalar.subi c1_i32_532 v2
  let c4_i32_537 : BitVec 32 := 4#32
  let v822 : BitVec 32 := Scalar.muli v816 c4_i32_537
  let v823 : BitVec 32 := Scalar.addi c0_i32_538 v822
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_539 : BitVec 32 := 2#32
  let v824 : BitVec 32 := Scalar.muli v5 c2_i32_539
  let v825 : BitVec 32 := Scalar.addi v823 v824
  let c1_i32_533 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v817 : BitVec 32 := Scalar.subi c1_i32_533 v8
  let c1_i32_540 : BitVec 32 := 1#32
  let v826 : BitVec 32 := Scalar.muli v817 c1_i32_540
  let v827 : BitVec 32 := Scalar.addi v825 v826
  v827.toNat
def k0_off39 (d0 : Dev nD) : Fin 3 → Nat :=
  let c4_i32_547 : BitVec 32 := 4#32
  let c1_i32_545 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v836 : BitVec 32 := Scalar.subi c1_i32_545 v2
  let v838 : BitVec 32 := Scalar.muli c4_i32_547 v836
  let c2_i32_548 : BitVec 32 := 2#32
  let c1_i32_546 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v837 : BitVec 32 := Scalar.subi c1_i32_546 v5
  let v839 : BitVec 32 := Scalar.muli c2_i32_548 v837
  let v840 : BitVec 32 := Scalar.addi v838 v839
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v841 : BitVec 32 := Scalar.addi v840 v8
  let c0_i32_556 : BitVec 32 := 0#32
  let c0_i32_557 : BitVec 32 := 0#32
  ![v841.toNat, 0, 0]
def k0_dev41 (d0 : Dev nD) : Nat :=
  let c0_i32_551 : BitVec 32 := 0#32
  let c1_i32_545 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v836 : BitVec 32 := Scalar.subi c1_i32_545 v2
  let c4_i32_550 : BitVec 32 := 4#32
  let v842 : BitVec 32 := Scalar.muli v836 c4_i32_550
  let v843 : BitVec 32 := Scalar.addi c0_i32_551 v842
  let c1_i32_546 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v837 : BitVec 32 := Scalar.subi c1_i32_546 v5
  let c2_i32_552 : BitVec 32 := 2#32
  let v844 : BitVec 32 := Scalar.muli v837 c2_i32_552
  let v845 : BitVec 32 := Scalar.addi v843 v844
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_553 : BitVec 32 := 1#32
  let v846 : BitVec 32 := Scalar.muli v8 c1_i32_553
  let v847 : BitVec 32 := Scalar.addi v845 v846
  v847.toNat
def k0_off40 (d0 : Dev nD) : Fin 3 → Nat :=
  let c4_i32_561 : BitVec 32 := 4#32
  let c1_i32_558 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v856 : BitVec 32 := Scalar.subi c1_i32_558 v2
  let v859 : BitVec 32 := Scalar.muli c4_i32_561 v856
  let c2_i32_562 : BitVec 32 := 2#32
  let c1_i32_559 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v857 : BitVec 32 := Scalar.subi c1_i32_559 v5
  let v860 : BitVec 32 := Scalar.muli c2_i32_562 v857
  let v861 : BitVec 32 := Scalar.addi v859 v860
  let c1_i32_560 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v858 : BitVec 32 := Scalar.subi c1_i32_560 v8
  let v862 : BitVec 32 := Scalar.addi v861 v858
  let c0_i32_570 : BitVec 32 := 0#32
  let c0_i32_571 : BitVec 32 := 0#32
  ![v862.toNat, 0, 0]
def k0_dev42 (d0 : Dev nD) : Nat :=
  let c0_i32_565 : BitVec 32 := 0#32
  let c1_i32_558 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v856 : BitVec 32 := Scalar.subi c1_i32_558 v2
  let c4_i32_564 : BitVec 32 := 4#32
  let v863 : BitVec 32 := Scalar.muli v856 c4_i32_564
  let v864 : BitVec 32 := Scalar.addi c0_i32_565 v863
  let c1_i32_559 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v857 : BitVec 32 := Scalar.subi c1_i32_559 v5
  let c2_i32_566 : BitVec 32 := 2#32
  let v865 : BitVec 32 := Scalar.muli v857 c2_i32_566
  let v866 : BitVec 32 := Scalar.addi v864 v865
  let c1_i32_560 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v858 : BitVec 32 := Scalar.subi c1_i32_560 v8
  let c1_i32_567 : BitVec 32 := 1#32
  let v867 : BitVec 32 := Scalar.muli v858 c1_i32_567
  let v868 : BitVec 32 := Scalar.addi v866 v867
  v868.toNat
def k0_dev43 (d0 : Dev nD) : Nat :=
  let c0_i32_582 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_581 : BitVec 32 := 4#32
  let v888 : BitVec 32 := Scalar.muli v2 c4_i32_581
  let v889 : BitVec 32 := Scalar.addi c0_i32_582 v888
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_583 : BitVec 32 := 2#32
  let v890 : BitVec 32 := Scalar.muli v5 c2_i32_583
  let v891 : BitVec 32 := Scalar.addi v889 v890
  let c1_i32_577 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v883 : BitVec 32 := Scalar.subi c1_i32_577 v8
  let c1_i32_584 : BitVec 32 := 1#32
  let v892 : BitVec 32 := Scalar.muli v883 c1_i32_584
  let v893 : BitVec 32 := Scalar.addi v891 v892
  v893.toNat
def k0_dev44 (d0 : Dev nD) : Nat :=
  let c0_i32_594 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_593 : BitVec 32 := 4#32
  let v907 : BitVec 32 := Scalar.muli v2 c4_i32_593
  let v908 : BitVec 32 := Scalar.addi c0_i32_594 v907
  let c1_i32_589 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v902 : BitVec 32 := Scalar.subi c1_i32_589 v5
  let c2_i32_595 : BitVec 32 := 2#32
  let v909 : BitVec 32 := Scalar.muli v902 c2_i32_595
  let v910 : BitVec 32 := Scalar.addi v908 v909
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_596 : BitVec 32 := 1#32
  let v911 : BitVec 32 := Scalar.muli v8 c1_i32_596
  let v912 : BitVec 32 := Scalar.addi v910 v911
  v912.toNat
def k0_dev45 (d0 : Dev nD) : Nat :=
  let c0_i32_607 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_606 : BitVec 32 := 4#32
  let v927 : BitVec 32 := Scalar.muli v2 c4_i32_606
  let v928 : BitVec 32 := Scalar.addi c0_i32_607 v927
  let c1_i32_601 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v921 : BitVec 32 := Scalar.subi c1_i32_601 v5
  let c2_i32_608 : BitVec 32 := 2#32
  let v929 : BitVec 32 := Scalar.muli v921 c2_i32_608
  let v930 : BitVec 32 := Scalar.addi v928 v929
  let c1_i32_602 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v922 : BitVec 32 := Scalar.subi c1_i32_602 v8
  let c1_i32_609 : BitVec 32 := 1#32
  let v931 : BitVec 32 := Scalar.muli v922 c1_i32_609
  let v932 : BitVec 32 := Scalar.addi v930 v931
  v932.toNat
def k0_dev46 (d0 : Dev nD) : Nat :=
  let c0_i32_619 : BitVec 32 := 0#32
  let c1_i32_614 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v941 : BitVec 32 := Scalar.subi c1_i32_614 v2
  let c4_i32_618 : BitVec 32 := 4#32
  let v946 : BitVec 32 := Scalar.muli v941 c4_i32_618
  let v947 : BitVec 32 := Scalar.addi c0_i32_619 v946
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_620 : BitVec 32 := 2#32
  let v948 : BitVec 32 := Scalar.muli v5 c2_i32_620
  let v949 : BitVec 32 := Scalar.addi v947 v948
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_621 : BitVec 32 := 1#32
  let v950 : BitVec 32 := Scalar.muli v8 c1_i32_621
  let v951 : BitVec 32 := Scalar.addi v949 v950
  v951.toNat
def k0_dev47 (d0 : Dev nD) : Nat :=
  let c0_i32_632 : BitVec 32 := 0#32
  let c1_i32_626 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v960 : BitVec 32 := Scalar.subi c1_i32_626 v2
  let c4_i32_631 : BitVec 32 := 4#32
  let v966 : BitVec 32 := Scalar.muli v960 c4_i32_631
  let v967 : BitVec 32 := Scalar.addi c0_i32_632 v966
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_633 : BitVec 32 := 2#32
  let v968 : BitVec 32 := Scalar.muli v5 c2_i32_633
  let v969 : BitVec 32 := Scalar.addi v967 v968
  let c1_i32_627 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v961 : BitVec 32 := Scalar.subi c1_i32_627 v8
  let c1_i32_634 : BitVec 32 := 1#32
  let v970 : BitVec 32 := Scalar.muli v961 c1_i32_634
  let v971 : BitVec 32 := Scalar.addi v969 v970
  v971.toNat
def k0_dev48 (d0 : Dev nD) : Nat :=
  let c0_i32_645 : BitVec 32 := 0#32
  let c1_i32_639 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v980 : BitVec 32 := Scalar.subi c1_i32_639 v2
  let c4_i32_644 : BitVec 32 := 4#32
  let v986 : BitVec 32 := Scalar.muli v980 c4_i32_644
  let v987 : BitVec 32 := Scalar.addi c0_i32_645 v986
  let c1_i32_640 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v981 : BitVec 32 := Scalar.subi c1_i32_640 v5
  let c2_i32_646 : BitVec 32 := 2#32
  let v988 : BitVec 32 := Scalar.muli v981 c2_i32_646
  let v989 : BitVec 32 := Scalar.addi v987 v988
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_647 : BitVec 32 := 1#32
  let v990 : BitVec 32 := Scalar.muli v8 c1_i32_647
  let v991 : BitVec 32 := Scalar.addi v989 v990
  v991.toNat
def k0_dev49 (d0 : Dev nD) : Nat :=
  let c0_i32_659 : BitVec 32 := 0#32
  let c1_i32_652 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1000 : BitVec 32 := Scalar.subi c1_i32_652 v2
  let c4_i32_658 : BitVec 32 := 4#32
  let v1007 : BitVec 32 := Scalar.muli v1000 c4_i32_658
  let v1008 : BitVec 32 := Scalar.addi c0_i32_659 v1007
  let c1_i32_653 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1001 : BitVec 32 := Scalar.subi c1_i32_653 v5
  let c2_i32_660 : BitVec 32 := 2#32
  let v1009 : BitVec 32 := Scalar.muli v1001 c2_i32_660
  let v1010 : BitVec 32 := Scalar.addi v1008 v1009
  let c1_i32_654 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1002 : BitVec 32 := Scalar.subi c1_i32_654 v8
  let c1_i32_661 : BitVec 32 := 1#32
  let v1011 : BitVec 32 := Scalar.muli v1002 c1_i32_661
  let v1012 : BitVec 32 := Scalar.addi v1010 v1011
  v1012.toNat
def k0_dev50 (d0 : Dev nD) : Nat :=
  let c0_i32_676 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_675 : BitVec 32 := 4#32
  let v1032 : BitVec 32 := Scalar.muli v2 c4_i32_675
  let v1033 : BitVec 32 := Scalar.addi c0_i32_676 v1032
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_677 : BitVec 32 := 2#32
  let v1034 : BitVec 32 := Scalar.muli v5 c2_i32_677
  let v1035 : BitVec 32 := Scalar.addi v1033 v1034
  let c1_i32_671 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1027 : BitVec 32 := Scalar.subi c1_i32_671 v8
  let c1_i32_678 : BitVec 32 := 1#32
  let v1036 : BitVec 32 := Scalar.muli v1027 c1_i32_678
  let v1037 : BitVec 32 := Scalar.addi v1035 v1036
  v1037.toNat
def k0_dev51 (d0 : Dev nD) : Nat :=
  let c0_i32_688 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_687 : BitVec 32 := 4#32
  let v1051 : BitVec 32 := Scalar.muli v2 c4_i32_687
  let v1052 : BitVec 32 := Scalar.addi c0_i32_688 v1051
  let c1_i32_683 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1046 : BitVec 32 := Scalar.subi c1_i32_683 v5
  let c2_i32_689 : BitVec 32 := 2#32
  let v1053 : BitVec 32 := Scalar.muli v1046 c2_i32_689
  let v1054 : BitVec 32 := Scalar.addi v1052 v1053
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_690 : BitVec 32 := 1#32
  let v1055 : BitVec 32 := Scalar.muli v8 c1_i32_690
  let v1056 : BitVec 32 := Scalar.addi v1054 v1055
  v1056.toNat
def k0_dev52 (d0 : Dev nD) : Nat :=
  let c0_i32_701 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_700 : BitVec 32 := 4#32
  let v1071 : BitVec 32 := Scalar.muli v2 c4_i32_700
  let v1072 : BitVec 32 := Scalar.addi c0_i32_701 v1071
  let c1_i32_695 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1065 : BitVec 32 := Scalar.subi c1_i32_695 v5
  let c2_i32_702 : BitVec 32 := 2#32
  let v1073 : BitVec 32 := Scalar.muli v1065 c2_i32_702
  let v1074 : BitVec 32 := Scalar.addi v1072 v1073
  let c1_i32_696 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1066 : BitVec 32 := Scalar.subi c1_i32_696 v8
  let c1_i32_703 : BitVec 32 := 1#32
  let v1075 : BitVec 32 := Scalar.muli v1066 c1_i32_703
  let v1076 : BitVec 32 := Scalar.addi v1074 v1075
  v1076.toNat
def k0_dev53 (d0 : Dev nD) : Nat :=
  let c0_i32_713 : BitVec 32 := 0#32
  let c1_i32_708 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1085 : BitVec 32 := Scalar.subi c1_i32_708 v2
  let c4_i32_712 : BitVec 32 := 4#32
  let v1090 : BitVec 32 := Scalar.muli v1085 c4_i32_712
  let v1091 : BitVec 32 := Scalar.addi c0_i32_713 v1090
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_714 : BitVec 32 := 2#32
  let v1092 : BitVec 32 := Scalar.muli v5 c2_i32_714
  let v1093 : BitVec 32 := Scalar.addi v1091 v1092
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_715 : BitVec 32 := 1#32
  let v1094 : BitVec 32 := Scalar.muli v8 c1_i32_715
  let v1095 : BitVec 32 := Scalar.addi v1093 v1094
  v1095.toNat
def k0_dev54 (d0 : Dev nD) : Nat :=
  let c0_i32_726 : BitVec 32 := 0#32
  let c1_i32_720 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1104 : BitVec 32 := Scalar.subi c1_i32_720 v2
  let c4_i32_725 : BitVec 32 := 4#32
  let v1110 : BitVec 32 := Scalar.muli v1104 c4_i32_725
  let v1111 : BitVec 32 := Scalar.addi c0_i32_726 v1110
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_727 : BitVec 32 := 2#32
  let v1112 : BitVec 32 := Scalar.muli v5 c2_i32_727
  let v1113 : BitVec 32 := Scalar.addi v1111 v1112
  let c1_i32_721 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1105 : BitVec 32 := Scalar.subi c1_i32_721 v8
  let c1_i32_728 : BitVec 32 := 1#32
  let v1114 : BitVec 32 := Scalar.muli v1105 c1_i32_728
  let v1115 : BitVec 32 := Scalar.addi v1113 v1114
  v1115.toNat
def k0_dev55 (d0 : Dev nD) : Nat :=
  let c0_i32_739 : BitVec 32 := 0#32
  let c1_i32_733 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1124 : BitVec 32 := Scalar.subi c1_i32_733 v2
  let c4_i32_738 : BitVec 32 := 4#32
  let v1130 : BitVec 32 := Scalar.muli v1124 c4_i32_738
  let v1131 : BitVec 32 := Scalar.addi c0_i32_739 v1130
  let c1_i32_734 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1125 : BitVec 32 := Scalar.subi c1_i32_734 v5
  let c2_i32_740 : BitVec 32 := 2#32
  let v1132 : BitVec 32 := Scalar.muli v1125 c2_i32_740
  let v1133 : BitVec 32 := Scalar.addi v1131 v1132
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_741 : BitVec 32 := 1#32
  let v1134 : BitVec 32 := Scalar.muli v8 c1_i32_741
  let v1135 : BitVec 32 := Scalar.addi v1133 v1134
  v1135.toNat
def k0_dev56 (d0 : Dev nD) : Nat :=
  let c0_i32_753 : BitVec 32 := 0#32
  let c1_i32_746 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1144 : BitVec 32 := Scalar.subi c1_i32_746 v2
  let c4_i32_752 : BitVec 32 := 4#32
  let v1151 : BitVec 32 := Scalar.muli v1144 c4_i32_752
  let v1152 : BitVec 32 := Scalar.addi c0_i32_753 v1151
  let c1_i32_747 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1145 : BitVec 32 := Scalar.subi c1_i32_747 v5
  let c2_i32_754 : BitVec 32 := 2#32
  let v1153 : BitVec 32 := Scalar.muli v1145 c2_i32_754
  let v1154 : BitVec 32 := Scalar.addi v1152 v1153
  let c1_i32_748 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1146 : BitVec 32 := Scalar.subi c1_i32_748 v8
  let c1_i32_755 : BitVec 32 := 1#32
  let v1155 : BitVec 32 := Scalar.muli v1146 c1_i32_755
  let v1156 : BitVec 32 := Scalar.addi v1154 v1155
  v1156.toNat
def k0_dev57 (d0 : Dev nD) : Nat :=
  let c0_i32_770 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_769 : BitVec 32 := 4#32
  let v1176 : BitVec 32 := Scalar.muli v2 c4_i32_769
  let v1177 : BitVec 32 := Scalar.addi c0_i32_770 v1176
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_771 : BitVec 32 := 2#32
  let v1178 : BitVec 32 := Scalar.muli v5 c2_i32_771
  let v1179 : BitVec 32 := Scalar.addi v1177 v1178
  let c1_i32_765 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1171 : BitVec 32 := Scalar.subi c1_i32_765 v8
  let c1_i32_772 : BitVec 32 := 1#32
  let v1180 : BitVec 32 := Scalar.muli v1171 c1_i32_772
  let v1181 : BitVec 32 := Scalar.addi v1179 v1180
  v1181.toNat
def k0_dev58 (d0 : Dev nD) : Nat :=
  let c0_i32_782 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_781 : BitVec 32 := 4#32
  let v1195 : BitVec 32 := Scalar.muli v2 c4_i32_781
  let v1196 : BitVec 32 := Scalar.addi c0_i32_782 v1195
  let c1_i32_777 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1190 : BitVec 32 := Scalar.subi c1_i32_777 v5
  let c2_i32_783 : BitVec 32 := 2#32
  let v1197 : BitVec 32 := Scalar.muli v1190 c2_i32_783
  let v1198 : BitVec 32 := Scalar.addi v1196 v1197
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_784 : BitVec 32 := 1#32
  let v1199 : BitVec 32 := Scalar.muli v8 c1_i32_784
  let v1200 : BitVec 32 := Scalar.addi v1198 v1199
  v1200.toNat
def k0_dev59 (d0 : Dev nD) : Nat :=
  let c0_i32_795 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_794 : BitVec 32 := 4#32
  let v1215 : BitVec 32 := Scalar.muli v2 c4_i32_794
  let v1216 : BitVec 32 := Scalar.addi c0_i32_795 v1215
  let c1_i32_789 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1209 : BitVec 32 := Scalar.subi c1_i32_789 v5
  let c2_i32_796 : BitVec 32 := 2#32
  let v1217 : BitVec 32 := Scalar.muli v1209 c2_i32_796
  let v1218 : BitVec 32 := Scalar.addi v1216 v1217
  let c1_i32_790 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1210 : BitVec 32 := Scalar.subi c1_i32_790 v8
  let c1_i32_797 : BitVec 32 := 1#32
  let v1219 : BitVec 32 := Scalar.muli v1210 c1_i32_797
  let v1220 : BitVec 32 := Scalar.addi v1218 v1219
  v1220.toNat
def k0_dev60 (d0 : Dev nD) : Nat :=
  let c0_i32_807 : BitVec 32 := 0#32
  let c1_i32_802 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1229 : BitVec 32 := Scalar.subi c1_i32_802 v2
  let c4_i32_806 : BitVec 32 := 4#32
  let v1234 : BitVec 32 := Scalar.muli v1229 c4_i32_806
  let v1235 : BitVec 32 := Scalar.addi c0_i32_807 v1234
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_808 : BitVec 32 := 2#32
  let v1236 : BitVec 32 := Scalar.muli v5 c2_i32_808
  let v1237 : BitVec 32 := Scalar.addi v1235 v1236
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_809 : BitVec 32 := 1#32
  let v1238 : BitVec 32 := Scalar.muli v8 c1_i32_809
  let v1239 : BitVec 32 := Scalar.addi v1237 v1238
  v1239.toNat
def k0_dev61 (d0 : Dev nD) : Nat :=
  let c0_i32_820 : BitVec 32 := 0#32
  let c1_i32_814 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1248 : BitVec 32 := Scalar.subi c1_i32_814 v2
  let c4_i32_819 : BitVec 32 := 4#32
  let v1254 : BitVec 32 := Scalar.muli v1248 c4_i32_819
  let v1255 : BitVec 32 := Scalar.addi c0_i32_820 v1254
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_821 : BitVec 32 := 2#32
  let v1256 : BitVec 32 := Scalar.muli v5 c2_i32_821
  let v1257 : BitVec 32 := Scalar.addi v1255 v1256
  let c1_i32_815 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1249 : BitVec 32 := Scalar.subi c1_i32_815 v8
  let c1_i32_822 : BitVec 32 := 1#32
  let v1258 : BitVec 32 := Scalar.muli v1249 c1_i32_822
  let v1259 : BitVec 32 := Scalar.addi v1257 v1258
  v1259.toNat
def k0_dev62 (d0 : Dev nD) : Nat :=
  let c0_i32_833 : BitVec 32 := 0#32
  let c1_i32_827 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1268 : BitVec 32 := Scalar.subi c1_i32_827 v2
  let c4_i32_832 : BitVec 32 := 4#32
  let v1274 : BitVec 32 := Scalar.muli v1268 c4_i32_832
  let v1275 : BitVec 32 := Scalar.addi c0_i32_833 v1274
  let c1_i32_828 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1269 : BitVec 32 := Scalar.subi c1_i32_828 v5
  let c2_i32_834 : BitVec 32 := 2#32
  let v1276 : BitVec 32 := Scalar.muli v1269 c2_i32_834
  let v1277 : BitVec 32 := Scalar.addi v1275 v1276
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_835 : BitVec 32 := 1#32
  let v1278 : BitVec 32 := Scalar.muli v8 c1_i32_835
  let v1279 : BitVec 32 := Scalar.addi v1277 v1278
  v1279.toNat
def k0_dev63 (d0 : Dev nD) : Nat :=
  let c0_i32_847 : BitVec 32 := 0#32
  let c1_i32_840 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1288 : BitVec 32 := Scalar.subi c1_i32_840 v2
  let c4_i32_846 : BitVec 32 := 4#32
  let v1295 : BitVec 32 := Scalar.muli v1288 c4_i32_846
  let v1296 : BitVec 32 := Scalar.addi c0_i32_847 v1295
  let c1_i32_841 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1289 : BitVec 32 := Scalar.subi c1_i32_841 v5
  let c2_i32_848 : BitVec 32 := 2#32
  let v1297 : BitVec 32 := Scalar.muli v1289 c2_i32_848
  let v1298 : BitVec 32 := Scalar.addi v1296 v1297
  let c1_i32_842 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1290 : BitVec 32 := Scalar.subi c1_i32_842 v8
  let c1_i32_849 : BitVec 32 := 1#32
  let v1299 : BitVec 32 := Scalar.muli v1290 c1_i32_849
  let v1300 : BitVec 32 := Scalar.addi v1298 v1299
  v1300.toNat
-- ==== KernelIdeal.lean ====
abbrev S8x1024x704 : Shape := ⟨3, ![8, 1024, 704]⟩
abbrev S8x352x1024 : Shape := ⟨3, ![8, 352, 1024]⟩
abbrev S8x1024x321 : Shape := ⟨3, ![8, 1024, 321]⟩
abbrev S8x128x1024 : Shape := ⟨3, ![8, 128, 1024]⟩
abbrev S8x1024x256 : Shape := ⟨3, ![8, 1024, 256]⟩
abbrev S63 : Shape := ⟨1, ![63]⟩
abbrev S9 : Shape := ⟨1, ![9]⟩
abbrev S1 : Shape := ⟨1, ![1]⟩
abbrev S_ : Shape := ⟨0, ![]⟩
abbrev S1x1024x704 : Shape := ⟨3, ![1, 1024, 704]⟩
abbrev S1024x704 : Shape := ⟨2, ![1024, 704]⟩
abbrev S1x352x1024 : Shape := ⟨3, ![1, 352, 1024]⟩
abbrev S352x1024 : Shape := ⟨2, ![352, 1024]⟩
abbrev S1x1024x321 : Shape := ⟨3, ![1, 1024, 321]⟩
abbrev S1024x321 : Shape := ⟨2, ![1024, 321]⟩
abbrev S1x128x1024 : Shape := ⟨3, ![1, 128, 1024]⟩
abbrev S128x1024 : Shape := ⟨2, ![128, 1024]⟩
abbrev S1x1024x256 : Shape := ⟨3, ![1, 1024, 256]⟩
abbrev S1024x256 : Shape := ⟨2, ![1024, 256]⟩

abbrev nBuf : Space → Nat
  | .hbm => 18
  | .vmem => 0
  | .smem => 0
  | _ => 0

abbrev bufTy : (tb : Table) → Fin (tcTables nBuf tb) → BufTy
  | .hbm, ⟨0, _⟩ => ⟨S8x1024x704, .bf16⟩
  | .hbm, ⟨1, _⟩ => ⟨S8x352x1024, .bf16⟩
  | .hbm, ⟨2, _⟩ => ⟨S8x1024x321, .bf16⟩
  | .hbm, ⟨3, _⟩ => ⟨S8x128x1024, .bf16⟩
  | .hbm, ⟨4, _⟩ => ⟨S8x128x1024, .bf16⟩
  | .hbm, ⟨5, _⟩ => ⟨S8x1024x256, .bf16⟩
  | .hbm, ⟨6, _⟩ => ⟨S8x128x1024, .bf16⟩
  | .hbm, ⟨7, _⟩ => ⟨S8x1024x704, .bf16⟩
  | .hbm, ⟨8, _⟩ => ⟨S8x352x1024, .bf16⟩
  | .hbm, ⟨9, _⟩ => ⟨S8x1024x704, .bf16⟩
  | .hbm, ⟨10, _⟩ => ⟨S8x352x1024, .bf16⟩
  | .hbm, ⟨11, _⟩ => ⟨S8x1024x321, .bf16⟩
  | .hbm, ⟨12, _⟩ => ⟨S8x128x1024, .bf16⟩
  | .hbm, ⟨13, _⟩ => ⟨S8x128x1024, .bf16⟩
  | .hbm, ⟨14, _⟩ => ⟨S8x1024x256, .bf16⟩
  | .hbm, ⟨15, _⟩ => ⟨S8x128x1024, .bf16⟩
  | .hbm, ⟨16, _⟩ => ⟨S8x1024x704, .bf16⟩
  | .hbm, ⟨17, _⟩ => ⟨S8x352x1024, .bf16⟩
  | _, _ => ⟨S8x1024x704, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | _, _ => false

abbrev semScoped : Fin 0 → Bool
  | ⟨_, h⟩ => absurd h (Nat.not_lt_zero _)

abbrev dmaSemScoped : Fin 135 → Bool
  | ⟨i, _⟩ => dmaSemScopedAt i

abbrev sig : RefSig :=
  ofTc nBuf bufTy 0 135 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev main_v1_6 : Ref sig .tc := ⟨.hbm, 15, rfl⟩
abbrev main_v1_7 : Ref sig .tc := ⟨.hbm, 16, rfl⟩
abbrev main_v1_8 : Ref sig .tc := ⟨.hbm, 17, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_off2 (d0 : Dev nD) : Fin 3 → Nat :=
  let c4_i32_10 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.muli c4_i32_10 v2
  let c2_i32_11 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.muli c2_i32_11 v5
  let v22 : BitVec 32 := Scalar.addi v20 v21
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_9 v8
  let v23 : BitVec 32 := Scalar.addi v22 v19
  let c0_i32_20 : BitVec 32 := 0#32
  let c0_i32_21 : BitVec 32 := 0#32
  ![v23.toNat, 0, 0]
def k0_dev1 (d0 : Dev nD) : Nat :=
  let c0_i32_15 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_14 : BitVec 32 := 4#32
  let v24 : BitVec 32 := Scalar.muli v2 c4_i32_14
  let v25 : BitVec 32 := Scalar.addi c0_i32_15 v24
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v26 : BitVec 32 := Scalar.muli v5 c2_i32_16
  let v27 : BitVec 32 := Scalar.addi v25 v26
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_9 v8
  let c1_i32_17 : BitVec 32 := 1#32
  let v28 : BitVec 32 := Scalar.muli v19 c1_i32_17
  let v29 : BitVec 32 := Scalar.addi v27 v28
  v29.toNat
def k0_off3 (d0 : Dev nD) : Fin 3 → Nat :=
  let c4_i32_23 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.muli c4_i32_23 v2
  let c2_i32_24 : BitVec 32 := 2#32
  let c1_i32_22 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v38 : BitVec 32 := Scalar.subi c1_i32_22 v5
  let v40 : BitVec 32 := Scalar.muli c2_i32_24 v38
  let v41 : BitVec 32 := Scalar.addi v39 v40
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v42 : BitVec 32 := Scalar.addi v41 v8
  let c0_i32_33 : BitVec 32 := 0#32
  let c0_i32_34 : BitVec 32 := 0#32
  ![v42.toNat, 0, 0]
def k0_dev2 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v43 : BitVec 32 := Scalar.muli v2 c4_i32_27
  let v44 : BitVec 32 := Scalar.addi c0_i32_28 v43
  let c1_i32_22 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v38 : BitVec 32 := Scalar.subi c1_i32_22 v5
  let c2_i32_29 : BitVec 32 := 2#32
  let v45 : BitVec 32 := Scalar.muli v38 c2_i32_29
  let v46 : BitVec 32 := Scalar.addi v44 v45
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_30 : BitVec 32 := 1#32
  let v47 : BitVec 32 := Scalar.muli v8 c1_i32_30
  let v48 : BitVec 32 := Scalar.addi v46 v47
  v48.toNat
def k0_off4 (d0 : Dev nD) : Fin 3 → Nat :=
  let c4_i32_37 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v59 : BitVec 32 := Scalar.muli c4_i32_37 v2
  let c2_i32_38 : BitVec 32 := 2#32
  let c1_i32_35 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_35 v5
  let v60 : BitVec 32 := Scalar.muli c2_i32_38 v57
  let v61 : BitVec 32 := Scalar.addi v59 v60
  let c1_i32_36 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.subi c1_i32_36 v8
  let v62 : BitVec 32 := Scalar.addi v61 v58
  let c0_i32_47 : BitVec 32 := 0#32
  let c0_i32_48 : BitVec 32 := 0#32
  ![v62.toNat, 0, 0]
def k0_dev3 (d0 : Dev nD) : Nat :=
  let c0_i32_42 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_41 : BitVec 32 := 4#32
  let v63 : BitVec 32 := Scalar.muli v2 c4_i32_41
  let v64 : BitVec 32 := Scalar.addi c0_i32_42 v63
  let c1_i32_35 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_35 v5
  let c2_i32_43 : BitVec 32 := 2#32
  let v65 : BitVec 32 := Scalar.muli v57 c2_i32_43
  let v66 : BitVec 32 := Scalar.addi v64 v65
  let c1_i32_36 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.subi c1_i32_36 v8
  let c1_i32_44 : BitVec 32 := 1#32
  let v67 : BitVec 32 := Scalar.muli v58 c1_i32_44
  let v68 : BitVec 32 := Scalar.addi v66 v67
  v68.toNat
def k0_off5 (d0 : Dev nD) : Fin 3 → Nat :=
  let c4_i32_50 : BitVec 32 := 4#32
  let c1_i32_49 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v77 : BitVec 32 := Scalar.subi c1_i32_49 v2
  let v78 : BitVec 32 := Scalar.muli c4_i32_50 v77
  let c2_i32_51 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v79 : BitVec 32 := Scalar.muli c2_i32_51 v5
  let v80 : BitVec 32 := Scalar.addi v78 v79
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v81 : BitVec 32 := Scalar.addi v80 v8
  let c0_i32_59 : BitVec 32 := 0#32
  let c0_i32_60 : BitVec 32 := 0#32
  ![v81.toNat, 0, 0]
def k0_dev4 (d0 : Dev nD) : Nat :=
  let c0_i32_54 : BitVec 32 := 0#32
  let c1_i32_49 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v77 : BitVec 32 := Scalar.subi c1_i32_49 v2
  let c4_i32_53 : BitVec 32 := 4#32
  let v82 : BitVec 32 := Scalar.muli v77 c4_i32_53
  let v83 : BitVec 32 := Scalar.addi c0_i32_54 v82
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_55 : BitVec 32 := 2#32
  let v84 : BitVec 32 := Scalar.muli v5 c2_i32_55
  let v85 : BitVec 32 := Scalar.addi v83 v84
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_56 : BitVec 32 := 1#32
  let v86 : BitVec 32 := Scalar.muli v8 c1_i32_56
  let v87 : BitVec 32 := Scalar.addi v85 v86
  v87.toNat
def k0_off6 (d0 : Dev nD) : Fin 3 → Nat :=
  let c4_i32_63 : BitVec 32 := 4#32
  let c1_i32_61 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v96 : BitVec 32 := Scalar.subi c1_i32_61 v2
  let v98 : BitVec 32 := Scalar.muli c4_i32_63 v96
  let c2_i32_64 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v99 : BitVec 32 := Scalar.muli c2_i32_64 v5
  let v100 : BitVec 32 := Scalar.addi v98 v99
  let c1_i32_62 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v97 : BitVec 32 := Scalar.subi c1_i32_62 v8
  let v101 : BitVec 32 := Scalar.addi v100 v97
  let c0_i32_73 : BitVec 32 := 0#32
  let c0_i32_74 : BitVec 32 := 0#32
  ![v101.toNat, 0, 0]
def k0_dev5 (d0 : Dev nD) : Nat :=
  let c0_i32_68 : BitVec 32 := 0#32
  let c1_i32_61 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v96 : BitVec 32 := Scalar.subi c1_i32_61 v2
  let c4_i32_67 : BitVec 32 := 4#32
  let v102 : BitVec 32 := Scalar.muli v96 c4_i32_67
  let v103 : BitVec 32 := Scalar.addi c0_i32_68 v102
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_69 : BitVec 32 := 2#32
  let v104 : BitVec 32 := Scalar.muli v5 c2_i32_69
  let v105 : BitVec 32 := Scalar.addi v103 v104
  let c1_i32_62 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v97 : BitVec 32 := Scalar.subi c1_i32_62 v8
  let c1_i32_70 : BitVec 32 := 1#32
  let v106 : BitVec 32 := Scalar.muli v97 c1_i32_70
  let v107 : BitVec 32 := Scalar.addi v105 v106
  v107.toNat
def k0_off7 (d0 : Dev nD) : Fin 3 → Nat :=
  let c4_i32_77 : BitVec 32 := 4#32
  let c1_i32_75 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v116 : BitVec 32 := Scalar.subi c1_i32_75 v2
  let v118 : BitVec 32 := Scalar.muli c4_i32_77 v116
  let c2_i32_78 : BitVec 32 := 2#32
  let c1_i32_76 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v117 : BitVec 32 := Scalar.subi c1_i32_76 v5
  let v119 : BitVec 32 := Scalar.muli c2_i32_78 v117
  let v120 : BitVec 32 := Scalar.addi v118 v119
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v121 : BitVec 32 := Scalar.addi v120 v8
  let c0_i32_86 : BitVec 32 := 0#32
  let c0_i32_87 : BitVec 32 := 0#32
  ![v121.toNat, 0, 0]
def k0_dev6 (d0 : Dev nD) : Nat :=
  let c0_i32_81 : BitVec 32 := 0#32
  let c1_i32_75 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v116 : BitVec 32 := Scalar.subi c1_i32_75 v2
  let c4_i32_80 : BitVec 32 := 4#32
  let v122 : BitVec 32 := Scalar.muli v116 c4_i32_80
  let v123 : BitVec 32 := Scalar.addi c0_i32_81 v122
  let c1_i32_76 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v117 : BitVec 32 := Scalar.subi c1_i32_76 v5
  let c2_i32_82 : BitVec 32 := 2#32
  let v124 : BitVec 32 := Scalar.muli v117 c2_i32_82
  let v125 : BitVec 32 := Scalar.addi v123 v124
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_83 : BitVec 32 := 1#32
  let v126 : BitVec 32 := Scalar.muli v8 c1_i32_83
  let v127 : BitVec 32 := Scalar.addi v125 v126
  v127.toNat
def k0_off8 (d0 : Dev nD) : Fin 3 → Nat :=
  let c4_i32_91 : BitVec 32 := 4#32
  let c1_i32_88 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v136 : BitVec 32 := Scalar.subi c1_i32_88 v2
  let v139 : BitVec 32 := Scalar.muli c4_i32_91 v136
  let c2_i32_92 : BitVec 32 := 2#32
  let c1_i32_89 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v137 : BitVec 32 := Scalar.subi c1_i32_89 v5
  let v140 : BitVec 32 := Scalar.muli c2_i32_92 v137
  let v141 : BitVec 32 := Scalar.addi v139 v140
  let c1_i32_90 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v138 : BitVec 32 := Scalar.subi c1_i32_90 v8
  let v142 : BitVec 32 := Scalar.addi v141 v138
  let c0_i32_100 : BitVec 32 := 0#32
  let c0_i32_101 : BitVec 32 := 0#32
  ![v142.toNat, 0, 0]
def k0_dev7 (d0 : Dev nD) : Nat :=
  let c0_i32_95 : BitVec 32 := 0#32
  let c1_i32_88 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v136 : BitVec 32 := Scalar.subi c1_i32_88 v2
  let c4_i32_94 : BitVec 32 := 4#32
  let v143 : BitVec 32 := Scalar.muli v136 c4_i32_94
  let v144 : BitVec 32 := Scalar.addi c0_i32_95 v143
  let c1_i32_89 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v137 : BitVec 32 := Scalar.subi c1_i32_89 v5
  let c2_i32_96 : BitVec 32 := 2#32
  let v145 : BitVec 32 := Scalar.muli v137 c2_i32_96
  let v146 : BitVec 32 := Scalar.addi v144 v145
  let c1_i32_90 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v138 : BitVec 32 := Scalar.subi c1_i32_90 v8
  let c1_i32_97 : BitVec 32 := 1#32
  let v147 : BitVec 32 := Scalar.muli v138 c1_i32_97
  let v148 : BitVec 32 := Scalar.addi v146 v147
  v148.toNat
def k0_off9 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_103 : BitVec 32 := 0#32
  let c0_i32_104 : BitVec 32 := 0#32
  ![v12.toNat, 0, 0]
def k0_off10 (d0 : Dev nD) : Fin 3 → Nat :=
  let c4_i32_108 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v164 : BitVec 32 := Scalar.muli c4_i32_108 v2
  let c2_i32_109 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v165 : BitVec 32 := Scalar.muli c2_i32_109 v5
  let v166 : BitVec 32 := Scalar.addi v164 v165
  let c1_i32_107 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v163 : BitVec 32 := Scalar.subi c1_i32_107 v8
  let v167 : BitVec 32 := Scalar.addi v166 v163
  let c0_i32_117 : BitVec 32 := 0#32
  let c0_i32_118 : BitVec 32 := 0#32
  ![v167.toNat, 0, 0]
def k0_dev8 (d0 : Dev nD) : Nat :=
  let c0_i32_112 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_111 : BitVec 32 := 4#32
  let v168 : BitVec 32 := Scalar.muli v2 c4_i32_111
  let v169 : BitVec 32 := Scalar.addi c0_i32_112 v168
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_113 : BitVec 32 := 2#32
  let v170 : BitVec 32 := Scalar.muli v5 c2_i32_113
  let v171 : BitVec 32 := Scalar.addi v169 v170
  let c1_i32_107 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v163 : BitVec 32 := Scalar.subi c1_i32_107 v8
  let c1_i32_114 : BitVec 32 := 1#32
  let v172 : BitVec 32 := Scalar.muli v163 c1_i32_114
  let v173 : BitVec 32 := Scalar.addi v171 v172
  v173.toNat
def k0_off11 (d0 : Dev nD) : Fin 3 → Nat :=
  let c4_i32_120 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v183 : BitVec 32 := Scalar.muli c4_i32_120 v2
  let c2_i32_121 : BitVec 32 := 2#32
  let c1_i32_119 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v182 : BitVec 32 := Scalar.subi c1_i32_119 v5
  let v184 : BitVec 32 := Scalar.muli c2_i32_121 v182
  let v185 : BitVec 32 := Scalar.addi v183 v184
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v186 : BitVec 32 := Scalar.addi v185 v8
  let c0_i32_129 : BitVec 32 := 0#32
  let c0_i32_130 : BitVec 32 := 0#32
  ![v186.toNat, 0, 0]
def k0_dev9 (d0 : Dev nD) : Nat :=
  let c0_i32_124 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_123 : BitVec 32 := 4#32
  let v187 : BitVec 32 := Scalar.muli v2 c4_i32_123
  let v188 : BitVec 32 := Scalar.addi c0_i32_124 v187
  let c1_i32_119 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v182 : BitVec 32 := Scalar.subi c1_i32_119 v5
  let c2_i32_125 : BitVec 32 := 2#32
  let v189 : BitVec 32 := Scalar.muli v182 c2_i32_125
  let v190 : BitVec 32 := Scalar.addi v188 v189
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_126 : BitVec 32 := 1#32
  let v191 : BitVec 32 := Scalar.muli v8 c1_i32_126
  let v192 : BitVec 32 := Scalar.addi v190 v191
  v192.toNat
def k0_off12 (d0 : Dev nD) : Fin 3 → Nat :=
  let c4_i32_133 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v203 : BitVec 32 := Scalar.muli c4_i32_133 v2
  let c2_i32_134 : BitVec 32 := 2#32
  let c1_i32_131 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v201 : BitVec 32 := Scalar.subi c1_i32_131 v5
  let v204 : BitVec 32 := Scalar.muli c2_i32_134 v201
  let v205 : BitVec 32 := Scalar.addi v203 v204
  let c1_i32_132 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v202 : BitVec 32 := Scalar.subi c1_i32_132 v8
  let v206 : BitVec 32 := Scalar.addi v205 v202
  let c0_i32_142 : BitVec 32 := 0#32
  let c0_i32_143 : BitVec 32 := 0#32
  ![v206.toNat, 0, 0]
def k0_dev10 (d0 : Dev nD) : Nat :=
  let c0_i32_137 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_136 : BitVec 32 := 4#32
  let v207 : BitVec 32 := Scalar.muli v2 c4_i32_136
  let v208 : BitVec 32 := Scalar.addi c0_i32_137 v207
  let c1_i32_131 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v201 : BitVec 32 := Scalar.subi c1_i32_131 v5
  let c2_i32_138 : BitVec 32 := 2#32
  let v209 : BitVec 32 := Scalar.muli v201 c2_i32_138
  let v210 : BitVec 32 := Scalar.addi v208 v209
  let c1_i32_132 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v202 : BitVec 32 := Scalar.subi c1_i32_132 v8
  let c1_i32_139 : BitVec 32 := 1#32
  let v211 : BitVec 32 := Scalar.muli v202 c1_i32_139
  let v212 : BitVec 32 := Scalar.addi v210 v211
  v212.toNat
def k0_off13 (d0 : Dev nD) : Fin 3 → Nat :=
  let c4_i32_145 : BitVec 32 := 4#32
  let c1_i32_144 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v221 : BitVec 32 := Scalar.subi c1_i32_144 v2
  let v222 : BitVec 32 := Scalar.muli c4_i32_145 v221
  let c2_i32_146 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v223 : BitVec 32 := Scalar.muli c2_i32_146 v5
  let v224 : BitVec 32 := Scalar.addi v222 v223
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v225 : BitVec 32 := Scalar.addi v224 v8
  let c0_i32_154 : BitVec 32 := 0#32
  let c0_i32_155 : BitVec 32 := 0#32
  ![v225.toNat, 0, 0]
def k0_dev11 (d0 : Dev nD) : Nat :=
  let c0_i32_149 : BitVec 32 := 0#32
  let c1_i32_144 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v221 : BitVec 32 := Scalar.subi c1_i32_144 v2
  let c4_i32_148 : BitVec 32 := 4#32
  let v226 : BitVec 32 := Scalar.muli v221 c4_i32_148
  let v227 : BitVec 32 := Scalar.addi c0_i32_149 v226
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_150 : BitVec 32 := 2#32
  let v228 : BitVec 32 := Scalar.muli v5 c2_i32_150
  let v229 : BitVec 32 := Scalar.addi v227 v228
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_151 : BitVec 32 := 1#32
  let v230 : BitVec 32 := Scalar.muli v8 c1_i32_151
  let v231 : BitVec 32 := Scalar.addi v229 v230
  v231.toNat
def k0_off14 (d0 : Dev nD) : Fin 3 → Nat :=
  let c4_i32_158 : BitVec 32 := 4#32
  let c1_i32_156 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v240 : BitVec 32 := Scalar.subi c1_i32_156 v2
  let v242 : BitVec 32 := Scalar.muli c4_i32_158 v240
  let c2_i32_159 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v243 : BitVec 32 := Scalar.muli c2_i32_159 v5
  let v244 : BitVec 32 := Scalar.addi v242 v243
  let c1_i32_157 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v241 : BitVec 32 := Scalar.subi c1_i32_157 v8
  let v245 : BitVec 32 := Scalar.addi v244 v241
  let c0_i32_167 : BitVec 32 := 0#32
  let c0_i32_168 : BitVec 32 := 0#32
  ![v245.toNat, 0, 0]
def k0_dev12 (d0 : Dev nD) : Nat :=
  let c0_i32_162 : BitVec 32 := 0#32
  let c1_i32_156 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v240 : BitVec 32 := Scalar.subi c1_i32_156 v2
  let c4_i32_161 : BitVec 32 := 4#32
  let v246 : BitVec 32 := Scalar.muli v240 c4_i32_161
  let v247 : BitVec 32 := Scalar.addi c0_i32_162 v246
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_163 : BitVec 32 := 2#32
  let v248 : BitVec 32 := Scalar.muli v5 c2_i32_163
  let v249 : BitVec 32 := Scalar.addi v247 v248
  let c1_i32_157 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v241 : BitVec 32 := Scalar.subi c1_i32_157 v8
  let c1_i32_164 : BitVec 32 := 1#32
  let v250 : BitVec 32 := Scalar.muli v241 c1_i32_164
  let v251 : BitVec 32 := Scalar.addi v249 v250
  v251.toNat
def k0_off15 (d0 : Dev nD) : Fin 3 → Nat :=
  let c4_i32_171 : BitVec 32 := 4#32
  let c1_i32_169 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v260 : BitVec 32 := Scalar.subi c1_i32_169 v2
  let v262 : BitVec 32 := Scalar.muli c4_i32_171 v260
  let c2_i32_172 : BitVec 32 := 2#32
  let c1_i32_170 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v261 : BitVec 32 := Scalar.subi c1_i32_170 v5
  let v263 : BitVec 32 := Scalar.muli c2_i32_172 v261
  let v264 : BitVec 32 := Scalar.addi v262 v263
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v265 : BitVec 32 := Scalar.addi v264 v8
  let c0_i32_180 : BitVec 32 := 0#32
  let c0_i32_181 : BitVec 32 := 0#32
  ![v265.toNat, 0, 0]
def k0_dev13 (d0 : Dev nD) : Nat :=
  let c0_i32_175 : BitVec 32 := 0#32
  let c1_i32_169 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v260 : BitVec 32 := Scalar.subi c1_i32_169 v2
  let c4_i32_174 : BitVec 32 := 4#32
  let v266 : BitVec 32 := Scalar.muli v260 c4_i32_174
  let v267 : BitVec 32 := Scalar.addi c0_i32_175 v266
  let c1_i32_170 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v261 : BitVec 32 := Scalar.subi c1_i32_170 v5
  let c2_i32_176 : BitVec 32 := 2#32
  let v268 : BitVec 32 := Scalar.muli v261 c2_i32_176
  let v269 : BitVec 32 := Scalar.addi v267 v268
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_177 : BitVec 32 := 1#32
  let v270 : BitVec 32 := Scalar.muli v8 c1_i32_177
  let v271 : BitVec 32 := Scalar.addi v269 v270
  v271.toNat
def k0_off16 (d0 : Dev nD) : Fin 3 → Nat :=
  let c4_i32_185 : BitVec 32 := 4#32
  let c1_i32_182 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v280 : BitVec 32 := Scalar.subi c1_i32_182 v2
  let v283 : BitVec 32 := Scalar.muli c4_i32_185 v280
  let c2_i32_186 : BitVec 32 := 2#32
  let c1_i32_183 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v281 : BitVec 32 := Scalar.subi c1_i32_183 v5
  let v284 : BitVec 32 := Scalar.muli c2_i32_186 v281
  let v285 : BitVec 32 := Scalar.addi v283 v284
  let c1_i32_184 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v282 : BitVec 32 := Scalar.subi c1_i32_184 v8
  let v286 : BitVec 32 := Scalar.addi v285 v282
  let c0_i32_194 : BitVec 32 := 0#32
  let c0_i32_195 : BitVec 32 := 0#32
  ![v286.toNat, 0, 0]
def k0_dev14 (d0 : Dev nD) : Nat :=
  let c0_i32_189 : BitVec 32 := 0#32
  let c1_i32_182 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v280 : BitVec 32 := Scalar.subi c1_i32_182 v2
  let c4_i32_188 : BitVec 32 := 4#32
  let v287 : BitVec 32 := Scalar.muli v280 c4_i32_188
  let v288 : BitVec 32 := Scalar.addi c0_i32_189 v287
  let c1_i32_183 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v281 : BitVec 32 := Scalar.subi c1_i32_183 v5
  let c2_i32_190 : BitVec 32 := 2#32
  let v289 : BitVec 32 := Scalar.muli v281 c2_i32_190
  let v290 : BitVec 32 := Scalar.addi v288 v289
  let c1_i32_184 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v282 : BitVec 32 := Scalar.subi c1_i32_184 v8
  let c1_i32_191 : BitVec 32 := 1#32
  let v291 : BitVec 32 := Scalar.muli v282 c1_i32_191
  let v292 : BitVec 32 := Scalar.addi v290 v291
  v292.toNat
def k0_off17 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_197 : BitVec 32 := 0#32
  let c0_i32_198 : BitVec 32 := 0#32
  ![v12.toNat, 0, 0]
def k0_off18 (d0 : Dev nD) : Fin 3 → Nat :=
  let c4_i32_202 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v308 : BitVec 32 := Scalar.muli c4_i32_202 v2
  let c2_i32_203 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v309 : BitVec 32 := Scalar.muli c2_i32_203 v5
  let v310 : BitVec 32 := Scalar.addi v308 v309
  let c1_i32_201 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v307 : BitVec 32 := Scalar.subi c1_i32_201 v8
  let v311 : BitVec 32 := Scalar.addi v310 v307
  let c0_i32_211 : BitVec 32 := 0#32
  let c0_i32_212 : BitVec 32 := 0#32
  ![v311.toNat, 0, 0]
def k0_dev15 (d0 : Dev nD) : Nat :=
  let c0_i32_206 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_205 : BitVec 32 := 4#32
  let v312 : BitVec 32 := Scalar.muli v2 c4_i32_205
  let v313 : BitVec 32 := Scalar.addi c0_i32_206 v312
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_207 : BitVec 32 := 2#32
  let v314 : BitVec 32 := Scalar.muli v5 c2_i32_207
  let v315 : BitVec 32 := Scalar.addi v313 v314
  let c1_i32_201 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v307 : BitVec 32 := Scalar.subi c1_i32_201 v8
  let c1_i32_208 : BitVec 32 := 1#32
  let v316 : BitVec 32 := Scalar.muli v307 c1_i32_208
  let v317 : BitVec 32 := Scalar.addi v315 v316
  v317.toNat
def k0_off19 (d0 : Dev nD) : Fin 3 → Nat :=
  let c4_i32_214 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v327 : BitVec 32 := Scalar.muli c4_i32_214 v2
  let c2_i32_215 : BitVec 32 := 2#32
  let c1_i32_213 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v326 : BitVec 32 := Scalar.subi c1_i32_213 v5
  let v328 : BitVec 32 := Scalar.muli c2_i32_215 v326
  let v329 : BitVec 32 := Scalar.addi v327 v328
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v330 : BitVec 32 := Scalar.addi v329 v8
  let c0_i32_223 : BitVec 32 := 0#32
  let c0_i32_224 : BitVec 32 := 0#32
  ![v330.toNat, 0, 0]
def k0_dev16 (d0 : Dev nD) : Nat :=
  let c0_i32_218 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_217 : BitVec 32 := 4#32
  let v331 : BitVec 32 := Scalar.muli v2 c4_i32_217
  let v332 : BitVec 32 := Scalar.addi c0_i32_218 v331
  let c1_i32_213 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v326 : BitVec 32 := Scalar.subi c1_i32_213 v5
  let c2_i32_219 : BitVec 32 := 2#32
  let v333 : BitVec 32 := Scalar.muli v326 c2_i32_219
  let v334 : BitVec 32 := Scalar.addi v332 v333
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_220 : BitVec 32 := 1#32
  let v335 : BitVec 32 := Scalar.muli v8 c1_i32_220
  let v336 : BitVec 32 := Scalar.addi v334 v335
  v336.toNat
def k0_off20 (d0 : Dev nD) : Fin 3 → Nat :=
  let c4_i32_227 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v347 : BitVec 32 := Scalar.muli c4_i32_227 v2
  let c2_i32_228 : BitVec 32 := 2#32
  let c1_i32_225 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v345 : BitVec 32 := Scalar.subi c1_i32_225 v5
  let v348 : BitVec 32 := Scalar.muli c2_i32_228 v345
  let v349 : BitVec 32 := Scalar.addi v347 v348
  let c1_i32_226 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v346 : BitVec 32 := Scalar.subi c1_i32_226 v8
  let v350 : BitVec 32 := Scalar.addi v349 v346
  let c0_i32_236 : BitVec 32 := 0#32
  let c0_i32_237 : BitVec 32 := 0#32
  ![v350.toNat, 0, 0]
def k0_dev17 (d0 : Dev nD) : Nat :=
  let c0_i32_231 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_230 : BitVec 32 := 4#32
  let v351 : BitVec 32 := Scalar.muli v2 c4_i32_230
  let v352 : BitVec 32 := Scalar.addi c0_i32_231 v351
  let c1_i32_225 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v345 : BitVec 32 := Scalar.subi c1_i32_225 v5
  let c2_i32_232 : BitVec 32 := 2#32
  let v353 : BitVec 32 := Scalar.muli v345 c2_i32_232
  let v354 : BitVec 32 := Scalar.addi v352 v353
  let c1_i32_226 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v346 : BitVec 32 := Scalar.subi c1_i32_226 v8
  let c1_i32_233 : BitVec 32 := 1#32
  let v355 : BitVec 32 := Scalar.muli v346 c1_i32_233
  let v356 : BitVec 32 := Scalar.addi v354 v355
  v356.toNat
def k0_off21 (d0 : Dev nD) : Fin 3 → Nat :=
  let c4_i32_239 : BitVec 32 := 4#32
  let c1_i32_238 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v365 : BitVec 32 := Scalar.subi c1_i32_238 v2
  let v366 : BitVec 32 := Scalar.muli c4_i32_239 v365
  let c2_i32_240 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v367 : BitVec 32 := Scalar.muli c2_i32_240 v5
  let v368 : BitVec 32 := Scalar.addi v366 v367
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v369 : BitVec 32 := Scalar.addi v368 v8
  let c0_i32_248 : BitVec 32 := 0#32
  let c0_i32_249 : BitVec 32 := 0#32
  ![v369.toNat, 0, 0]
def k0_dev18 (d0 : Dev nD) : Nat :=
  let c0_i32_243 : BitVec 32 := 0#32
  let c1_i32_238 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v365 : BitVec 32 := Scalar.subi c1_i32_238 v2
  let c4_i32_242 : BitVec 32 := 4#32
  let v370 : BitVec 32 := Scalar.muli v365 c4_i32_242
  let v371 : BitVec 32 := Scalar.addi c0_i32_243 v370
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_244 : BitVec 32 := 2#32
  let v372 : BitVec 32 := Scalar.muli v5 c2_i32_244
  let v373 : BitVec 32 := Scalar.addi v371 v372
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_245 : BitVec 32 := 1#32
  let v374 : BitVec 32 := Scalar.muli v8 c1_i32_245
  let v375 : BitVec 32 := Scalar.addi v373 v374
  v375.toNat
def k0_off22 (d0 : Dev nD) : Fin 3 → Nat :=
  let c4_i32_252 : BitVec 32 := 4#32
  let c1_i32_250 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v384 : BitVec 32 := Scalar.subi c1_i32_250 v2
  let v386 : BitVec 32 := Scalar.muli c4_i32_252 v384
  let c2_i32_253 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v387 : BitVec 32 := Scalar.muli c2_i32_253 v5
  let v388 : BitVec 32 := Scalar.addi v386 v387
  let c1_i32_251 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v385 : BitVec 32 := Scalar.subi c1_i32_251 v8
  let v389 : BitVec 32 := Scalar.addi v388 v385
  let c0_i32_261 : BitVec 32 := 0#32
  let c0_i32_262 : BitVec 32 := 0#32
  ![v389.toNat, 0, 0]
def k0_dev19 (d0 : Dev nD) : Nat :=
  let c0_i32_256 : BitVec 32 := 0#32
  let c1_i32_250 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v384 : BitVec 32 := Scalar.subi c1_i32_250 v2
  let c4_i32_255 : BitVec 32 := 4#32
  let v390 : BitVec 32 := Scalar.muli v384 c4_i32_255
  let v391 : BitVec 32 := Scalar.addi c0_i32_256 v390
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_257 : BitVec 32 := 2#32
  let v392 : BitVec 32 := Scalar.muli v5 c2_i32_257
  let v393 : BitVec 32 := Scalar.addi v391 v392
  let c1_i32_251 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v385 : BitVec 32 := Scalar.subi c1_i32_251 v8
  let c1_i32_258 : BitVec 32 := 1#32
  let v394 : BitVec 32 := Scalar.muli v385 c1_i32_258
  let v395 : BitVec 32 := Scalar.addi v393 v394
  v395.toNat
def k0_off23 (d0 : Dev nD) : Fin 3 → Nat :=
  let c4_i32_265 : BitVec 32 := 4#32
  let c1_i32_263 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v404 : BitVec 32 := Scalar.subi c1_i32_263 v2
  let v406 : BitVec 32 := Scalar.muli c4_i32_265 v404
  let c2_i32_266 : BitVec 32 := 2#32
  let c1_i32_264 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v405 : BitVec 32 := Scalar.subi c1_i32_264 v5
  let v407 : BitVec 32 := Scalar.muli c2_i32_266 v405
  let v408 : BitVec 32 := Scalar.addi v406 v407
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v409 : BitVec 32 := Scalar.addi v408 v8
  let c0_i32_274 : BitVec 32 := 0#32
  let c0_i32_275 : BitVec 32 := 0#32
  ![v409.toNat, 0, 0]
def k0_dev20 (d0 : Dev nD) : Nat :=
  let c0_i32_269 : BitVec 32 := 0#32
  let c1_i32_263 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v404 : BitVec 32 := Scalar.subi c1_i32_263 v2
  let c4_i32_268 : BitVec 32 := 4#32
  let v410 : BitVec 32 := Scalar.muli v404 c4_i32_268
  let v411 : BitVec 32 := Scalar.addi c0_i32_269 v410
  let c1_i32_264 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v405 : BitVec 32 := Scalar.subi c1_i32_264 v5
  let c2_i32_270 : BitVec 32 := 2#32
  let v412 : BitVec 32 := Scalar.muli v405 c2_i32_270
  let v413 : BitVec 32 := Scalar.addi v411 v412
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_271 : BitVec 32 := 1#32
  let v414 : BitVec 32 := Scalar.muli v8 c1_i32_271
  let v415 : BitVec 32 := Scalar.addi v413 v414
  v415.toNat
def k0_off24 (d0 : Dev nD) : Fin 3 → Nat :=
  let c4_i32_279 : BitVec 32 := 4#32
  let c1_i32_276 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v424 : BitVec 32 := Scalar.subi c1_i32_276 v2
  let v427 : BitVec 32 := Scalar.muli c4_i32_279 v424
  let c2_i32_280 : BitVec 32 := 2#32
  let c1_i32_277 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v425 : BitVec 32 := Scalar.subi c1_i32_277 v5
  let v428 : BitVec 32 := Scalar.muli c2_i32_280 v425
  let v429 : BitVec 32 := Scalar.addi v427 v428
  let c1_i32_278 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v426 : BitVec 32 := Scalar.subi c1_i32_278 v8
  let v430 : BitVec 32 := Scalar.addi v429 v426
  let c0_i32_288 : BitVec 32 := 0#32
  let c0_i32_289 : BitVec 32 := 0#32
  ![v430.toNat, 0, 0]
def k0_dev21 (d0 : Dev nD) : Nat :=
  let c0_i32_283 : BitVec 32 := 0#32
  let c1_i32_276 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v424 : BitVec 32 := Scalar.subi c1_i32_276 v2
  let c4_i32_282 : BitVec 32 := 4#32
  let v431 : BitVec 32 := Scalar.muli v424 c4_i32_282
  let v432 : BitVec 32 := Scalar.addi c0_i32_283 v431
  let c1_i32_277 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v425 : BitVec 32 := Scalar.subi c1_i32_277 v5
  let c2_i32_284 : BitVec 32 := 2#32
  let v433 : BitVec 32 := Scalar.muli v425 c2_i32_284
  let v434 : BitVec 32 := Scalar.addi v432 v433
  let c1_i32_278 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v426 : BitVec 32 := Scalar.subi c1_i32_278 v8
  let c1_i32_285 : BitVec 32 := 1#32
  let v435 : BitVec 32 := Scalar.muli v426 c1_i32_285
  let v436 : BitVec 32 := Scalar.addi v434 v435
  v436.toNat
def k0_off25 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_291 : BitVec 32 := 0#32
  let c0_i32_292 : BitVec 32 := 0#32
  ![v12.toNat, 0, 0]
def k0_off26 (d0 : Dev nD) : Fin 3 → Nat :=
  let c4_i32_296 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v452 : BitVec 32 := Scalar.muli c4_i32_296 v2
  let c2_i32_297 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v453 : BitVec 32 := Scalar.muli c2_i32_297 v5
  let v454 : BitVec 32 := Scalar.addi v452 v453
  let c1_i32_295 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v451 : BitVec 32 := Scalar.subi c1_i32_295 v8
  let v455 : BitVec 32 := Scalar.addi v454 v451
  let c0_i32_305 : BitVec 32 := 0#32
  let c0_i32_306 : BitVec 32 := 0#32
  ![v455.toNat, 0, 0]
def k0_dev22 (d0 : Dev nD) : Nat :=
  let c0_i32_300 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_299 : BitVec 32 := 4#32
  let v456 : BitVec 32 := Scalar.muli v2 c4_i32_299
  let v457 : BitVec 32 := Scalar.addi c0_i32_300 v456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_301 : BitVec 32 := 2#32
  let v458 : BitVec 32 := Scalar.muli v5 c2_i32_301
  let v459 : BitVec 32 := Scalar.addi v457 v458
  let c1_i32_295 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v451 : BitVec 32 := Scalar.subi c1_i32_295 v8
  let c1_i32_302 : BitVec 32 := 1#32
  let v460 : BitVec 32 := Scalar.muli v451 c1_i32_302
  let v461 : BitVec 32 := Scalar.addi v459 v460
  v461.toNat
def k0_off27 (d0 : Dev nD) : Fin 3 → Nat :=
  let c4_i32_308 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v471 : BitVec 32 := Scalar.muli c4_i32_308 v2
  let c2_i32_309 : BitVec 32 := 2#32
  let c1_i32_307 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v470 : BitVec 32 := Scalar.subi c1_i32_307 v5
  let v472 : BitVec 32 := Scalar.muli c2_i32_309 v470
  let v473 : BitVec 32 := Scalar.addi v471 v472
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v474 : BitVec 32 := Scalar.addi v473 v8
  let c0_i32_317 : BitVec 32 := 0#32
  let c0_i32_318 : BitVec 32 := 0#32
  ![v474.toNat, 0, 0]
def k0_dev23 (d0 : Dev nD) : Nat :=
  let c0_i32_312 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_311 : BitVec 32 := 4#32
  let v475 : BitVec 32 := Scalar.muli v2 c4_i32_311
  let v476 : BitVec 32 := Scalar.addi c0_i32_312 v475
  let c1_i32_307 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v470 : BitVec 32 := Scalar.subi c1_i32_307 v5
  let c2_i32_313 : BitVec 32 := 2#32
  let v477 : BitVec 32 := Scalar.muli v470 c2_i32_313
  let v478 : BitVec 32 := Scalar.addi v476 v477
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_314 : BitVec 32 := 1#32
  let v479 : BitVec 32 := Scalar.muli v8 c1_i32_314
  let v480 : BitVec 32 := Scalar.addi v478 v479
  v480.toNat
def k0_off28 (d0 : Dev nD) : Fin 3 → Nat :=
  let c4_i32_321 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v491 : BitVec 32 := Scalar.muli c4_i32_321 v2
  let c2_i32_322 : BitVec 32 := 2#32
  let c1_i32_319 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v489 : BitVec 32 := Scalar.subi c1_i32_319 v5
  let v492 : BitVec 32 := Scalar.muli c2_i32_322 v489
  let v493 : BitVec 32 := Scalar.addi v491 v492
  let c1_i32_320 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v490 : BitVec 32 := Scalar.subi c1_i32_320 v8
  let v494 : BitVec 32 := Scalar.addi v493 v490
  let c0_i32_330 : BitVec 32 := 0#32
  let c0_i32_331 : BitVec 32 := 0#32
  ![v494.toNat, 0, 0]
def k0_dev24 (d0 : Dev nD) : Nat :=
  let c0_i32_325 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_324 : BitVec 32 := 4#32
  let v495 : BitVec 32 := Scalar.muli v2 c4_i32_324
  let v496 : BitVec 32 := Scalar.addi c0_i32_325 v495
  let c1_i32_319 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v489 : BitVec 32 := Scalar.subi c1_i32_319 v5
  let c2_i32_326 : BitVec 32 := 2#32
  let v497 : BitVec 32 := Scalar.muli v489 c2_i32_326
  let v498 : BitVec 32 := Scalar.addi v496 v497
  let c1_i32_320 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v490 : BitVec 32 := Scalar.subi c1_i32_320 v8
  let c1_i32_327 : BitVec 32 := 1#32
  let v499 : BitVec 32 := Scalar.muli v490 c1_i32_327
  let v500 : BitVec 32 := Scalar.addi v498 v499
  v500.toNat
def k0_off29 (d0 : Dev nD) : Fin 3 → Nat :=
  let c4_i32_333 : BitVec 32 := 4#32
  let c1_i32_332 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v509 : BitVec 32 := Scalar.subi c1_i32_332 v2
  let v510 : BitVec 32 := Scalar.muli c4_i32_333 v509
  let c2_i32_334 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v511 : BitVec 32 := Scalar.muli c2_i32_334 v5
  let v512 : BitVec 32 := Scalar.addi v510 v511
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v513 : BitVec 32 := Scalar.addi v512 v8
  let c0_i32_342 : BitVec 32 := 0#32
  let c0_i32_343 : BitVec 32 := 0#32
  ![v513.toNat, 0, 0]
def k0_dev25 (d0 : Dev nD) : Nat :=
  let c0_i32_337 : BitVec 32 := 0#32
  let c1_i32_332 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v509 : BitVec 32 := Scalar.subi c1_i32_332 v2
  let c4_i32_336 : BitVec 32 := 4#32
  let v514 : BitVec 32 := Scalar.muli v509 c4_i32_336
  let v515 : BitVec 32 := Scalar.addi c0_i32_337 v514
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_338 : BitVec 32 := 2#32
  let v516 : BitVec 32 := Scalar.muli v5 c2_i32_338
  let v517 : BitVec 32 := Scalar.addi v515 v516
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_339 : BitVec 32 := 1#32
  let v518 : BitVec 32 := Scalar.muli v8 c1_i32_339
  let v519 : BitVec 32 := Scalar.addi v517 v518
  v519.toNat
def k0_off30 (d0 : Dev nD) : Fin 3 → Nat :=
  let c4_i32_346 : BitVec 32 := 4#32
  let c1_i32_344 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v528 : BitVec 32 := Scalar.subi c1_i32_344 v2
  let v530 : BitVec 32 := Scalar.muli c4_i32_346 v528
  let c2_i32_347 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v531 : BitVec 32 := Scalar.muli c2_i32_347 v5
  let v532 : BitVec 32 := Scalar.addi v530 v531
  let c1_i32_345 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v529 : BitVec 32 := Scalar.subi c1_i32_345 v8
  let v533 : BitVec 32 := Scalar.addi v532 v529
  let c0_i32_355 : BitVec 32 := 0#32
  let c0_i32_356 : BitVec 32 := 0#32
  ![v533.toNat, 0, 0]
def k0_dev26 (d0 : Dev nD) : Nat :=
  let c0_i32_350 : BitVec 32 := 0#32
  let c1_i32_344 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v528 : BitVec 32 := Scalar.subi c1_i32_344 v2
  let c4_i32_349 : BitVec 32 := 4#32
  let v534 : BitVec 32 := Scalar.muli v528 c4_i32_349
  let v535 : BitVec 32 := Scalar.addi c0_i32_350 v534
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_351 : BitVec 32 := 2#32
  let v536 : BitVec 32 := Scalar.muli v5 c2_i32_351
  let v537 : BitVec 32 := Scalar.addi v535 v536
  let c1_i32_345 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v529 : BitVec 32 := Scalar.subi c1_i32_345 v8
  let c1_i32_352 : BitVec 32 := 1#32
  let v538 : BitVec 32 := Scalar.muli v529 c1_i32_352
  let v539 : BitVec 32 := Scalar.addi v537 v538
  v539.toNat
def k0_off31 (d0 : Dev nD) : Fin 3 → Nat :=
  let c4_i32_359 : BitVec 32 := 4#32
  let c1_i32_357 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v548 : BitVec 32 := Scalar.subi c1_i32_357 v2
  let v550 : BitVec 32 := Scalar.muli c4_i32_359 v548
  let c2_i32_360 : BitVec 32 := 2#32
  let c1_i32_358 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v549 : BitVec 32 := Scalar.subi c1_i32_358 v5
  let v551 : BitVec 32 := Scalar.muli c2_i32_360 v549
  let v552 : BitVec 32 := Scalar.addi v550 v551
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v553 : BitVec 32 := Scalar.addi v552 v8
  let c0_i32_368 : BitVec 32 := 0#32
  let c0_i32_369 : BitVec 32 := 0#32
  ![v553.toNat, 0, 0]
def k0_dev27 (d0 : Dev nD) : Nat :=
  let c0_i32_363 : BitVec 32 := 0#32
  let c1_i32_357 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v548 : BitVec 32 := Scalar.subi c1_i32_357 v2
  let c4_i32_362 : BitVec 32 := 4#32
  let v554 : BitVec 32 := Scalar.muli v548 c4_i32_362
  let v555 : BitVec 32 := Scalar.addi c0_i32_363 v554
  let c1_i32_358 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v549 : BitVec 32 := Scalar.subi c1_i32_358 v5
  let c2_i32_364 : BitVec 32 := 2#32
  let v556 : BitVec 32 := Scalar.muli v549 c2_i32_364
  let v557 : BitVec 32 := Scalar.addi v555 v556
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_365 : BitVec 32 := 1#32
  let v558 : BitVec 32 := Scalar.muli v8 c1_i32_365
  let v559 : BitVec 32 := Scalar.addi v557 v558
  v559.toNat
def k0_off32 (d0 : Dev nD) : Fin 3 → Nat :=
  let c4_i32_373 : BitVec 32 := 4#32
  let c1_i32_370 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v568 : BitVec 32 := Scalar.subi c1_i32_370 v2
  let v571 : BitVec 32 := Scalar.muli c4_i32_373 v568
  let c2_i32_374 : BitVec 32 := 2#32
  let c1_i32_371 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v569 : BitVec 32 := Scalar.subi c1_i32_371 v5
  let v572 : BitVec 32 := Scalar.muli c2_i32_374 v569
  let v573 : BitVec 32 := Scalar.addi v571 v572
  let c1_i32_372 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v570 : BitVec 32 := Scalar.subi c1_i32_372 v8
  let v574 : BitVec 32 := Scalar.addi v573 v570
  let c0_i32_382 : BitVec 32 := 0#32
  let c0_i32_383 : BitVec 32 := 0#32
  ![v574.toNat, 0, 0]
def k0_dev28 (d0 : Dev nD) : Nat :=
  let c0_i32_377 : BitVec 32 := 0#32
  let c1_i32_370 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v568 : BitVec 32 := Scalar.subi c1_i32_370 v2
  let c4_i32_376 : BitVec 32 := 4#32
  let v575 : BitVec 32 := Scalar.muli v568 c4_i32_376
  let v576 : BitVec 32 := Scalar.addi c0_i32_377 v575
  let c1_i32_371 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v569 : BitVec 32 := Scalar.subi c1_i32_371 v5
  let c2_i32_378 : BitVec 32 := 2#32
  let v577 : BitVec 32 := Scalar.muli v569 c2_i32_378
  let v578 : BitVec 32 := Scalar.addi v576 v577
  let c1_i32_372 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v570 : BitVec 32 := Scalar.subi c1_i32_372 v8
  let c1_i32_379 : BitVec 32 := 1#32
  let v579 : BitVec 32 := Scalar.muli v570 c1_i32_379
  let v580 : BitVec 32 := Scalar.addi v578 v579
  v580.toNat
def k0_dev29 (d0 : Dev nD) : Nat :=
  let c0_i32_394 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_393 : BitVec 32 := 4#32
  let v600 : BitVec 32 := Scalar.muli v2 c4_i32_393
  let v601 : BitVec 32 := Scalar.addi c0_i32_394 v600
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_395 : BitVec 32 := 2#32
  let v602 : BitVec 32 := Scalar.muli v5 c2_i32_395
  let v603 : BitVec 32 := Scalar.addi v601 v602
  let c1_i32_389 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v595 : BitVec 32 := Scalar.subi c1_i32_389 v8
  let c1_i32_396 : BitVec 32 := 1#32
  let v604 : BitVec 32 := Scalar.muli v595 c1_i32_396
  let v605 : BitVec 32 := Scalar.addi v603 v604
  v605.toNat
def k0_dev30 (d0 : Dev nD) : Nat :=
  let c0_i32_406 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_405 : BitVec 32 := 4#32
  let v619 : BitVec 32 := Scalar.muli v2 c4_i32_405
  let v620 : BitVec 32 := Scalar.addi c0_i32_406 v619
  let c1_i32_401 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v614 : BitVec 32 := Scalar.subi c1_i32_401 v5
  let c2_i32_407 : BitVec 32 := 2#32
  let v621 : BitVec 32 := Scalar.muli v614 c2_i32_407
  let v622 : BitVec 32 := Scalar.addi v620 v621
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_408 : BitVec 32 := 1#32
  let v623 : BitVec 32 := Scalar.muli v8 c1_i32_408
  let v624 : BitVec 32 := Scalar.addi v622 v623
  v624.toNat
def k0_dev31 (d0 : Dev nD) : Nat :=
  let c0_i32_419 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_418 : BitVec 32 := 4#32
  let v639 : BitVec 32 := Scalar.muli v2 c4_i32_418
  let v640 : BitVec 32 := Scalar.addi c0_i32_419 v639
  let c1_i32_413 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v633 : BitVec 32 := Scalar.subi c1_i32_413 v5
  let c2_i32_420 : BitVec 32 := 2#32
  let v641 : BitVec 32 := Scalar.muli v633 c2_i32_420
  let v642 : BitVec 32 := Scalar.addi v640 v641
  let c1_i32_414 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v634 : BitVec 32 := Scalar.subi c1_i32_414 v8
  let c1_i32_421 : BitVec 32 := 1#32
  let v643 : BitVec 32 := Scalar.muli v634 c1_i32_421
  let v644 : BitVec 32 := Scalar.addi v642 v643
  v644.toNat
def k0_dev32 (d0 : Dev nD) : Nat :=
  let c0_i32_431 : BitVec 32 := 0#32
  let c1_i32_426 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v653 : BitVec 32 := Scalar.subi c1_i32_426 v2
  let c4_i32_430 : BitVec 32 := 4#32
  let v658 : BitVec 32 := Scalar.muli v653 c4_i32_430
  let v659 : BitVec 32 := Scalar.addi c0_i32_431 v658
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_432 : BitVec 32 := 2#32
  let v660 : BitVec 32 := Scalar.muli v5 c2_i32_432
  let v661 : BitVec 32 := Scalar.addi v659 v660
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_433 : BitVec 32 := 1#32
  let v662 : BitVec 32 := Scalar.muli v8 c1_i32_433
  let v663 : BitVec 32 := Scalar.addi v661 v662
  v663.toNat
def k0_dev33 (d0 : Dev nD) : Nat :=
  let c0_i32_444 : BitVec 32 := 0#32
  let c1_i32_438 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v672 : BitVec 32 := Scalar.subi c1_i32_438 v2
  let c4_i32_443 : BitVec 32 := 4#32
  let v678 : BitVec 32 := Scalar.muli v672 c4_i32_443
  let v679 : BitVec 32 := Scalar.addi c0_i32_444 v678
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_445 : BitVec 32 := 2#32
  let v680 : BitVec 32 := Scalar.muli v5 c2_i32_445
  let v681 : BitVec 32 := Scalar.addi v679 v680
  let c1_i32_439 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v673 : BitVec 32 := Scalar.subi c1_i32_439 v8
  let c1_i32_446 : BitVec 32 := 1#32
  let v682 : BitVec 32 := Scalar.muli v673 c1_i32_446
  let v683 : BitVec 32 := Scalar.addi v681 v682
  v683.toNat
def k0_dev34 (d0 : Dev nD) : Nat :=
  let c0_i32_457 : BitVec 32 := 0#32
  let c1_i32_451 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v692 : BitVec 32 := Scalar.subi c1_i32_451 v2
  let c4_i32_456 : BitVec 32 := 4#32
  let v698 : BitVec 32 := Scalar.muli v692 c4_i32_456
  let v699 : BitVec 32 := Scalar.addi c0_i32_457 v698
  let c1_i32_452 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v693 : BitVec 32 := Scalar.subi c1_i32_452 v5
  let c2_i32_458 : BitVec 32 := 2#32
  let v700 : BitVec 32 := Scalar.muli v693 c2_i32_458
  let v701 : BitVec 32 := Scalar.addi v699 v700
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_459 : BitVec 32 := 1#32
  let v702 : BitVec 32 := Scalar.muli v8 c1_i32_459
  let v703 : BitVec 32 := Scalar.addi v701 v702
  v703.toNat
def k0_dev35 (d0 : Dev nD) : Nat :=
  let c0_i32_471 : BitVec 32 := 0#32
  let c1_i32_464 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v712 : BitVec 32 := Scalar.subi c1_i32_464 v2
  let c4_i32_470 : BitVec 32 := 4#32
  let v719 : BitVec 32 := Scalar.muli v712 c4_i32_470
  let v720 : BitVec 32 := Scalar.addi c0_i32_471 v719
  let c1_i32_465 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v713 : BitVec 32 := Scalar.subi c1_i32_465 v5
  let c2_i32_472 : BitVec 32 := 2#32
  let v721 : BitVec 32 := Scalar.muli v713 c2_i32_472
  let v722 : BitVec 32 := Scalar.addi v720 v721
  let c1_i32_466 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v714 : BitVec 32 := Scalar.subi c1_i32_466 v8
  let c1_i32_473 : BitVec 32 := 1#32
  let v723 : BitVec 32 := Scalar.muli v714 c1_i32_473
  let v724 : BitVec 32 := Scalar.addi v722 v723
  v724.toNat
def k0_off33 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_479 : BitVec 32 := 0#32
  let c0_i32_480 : BitVec 32 := 0#32
  ![v12.toNat, 0, 0]
def k0_off34 (d0 : Dev nD) : Fin 3 → Nat :=
  let c4_i32_484 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v740 : BitVec 32 := Scalar.muli c4_i32_484 v2
  let c2_i32_485 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v741 : BitVec 32 := Scalar.muli c2_i32_485 v5
  let v742 : BitVec 32 := Scalar.addi v740 v741
  let c1_i32_483 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v739 : BitVec 32 := Scalar.subi c1_i32_483 v8
  let v743 : BitVec 32 := Scalar.addi v742 v739
  let c0_i32_493 : BitVec 32 := 0#32
  let c0_i32_494 : BitVec 32 := 0#32
  ![v743.toNat, 0, 0]
def k0_dev36 (d0 : Dev nD) : Nat :=
  let c0_i32_488 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_487 : BitVec 32 := 4#32
  let v744 : BitVec 32 := Scalar.muli v2 c4_i32_487
  let v745 : BitVec 32 := Scalar.addi c0_i32_488 v744
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_489 : BitVec 32 := 2#32
  let v746 : BitVec 32 := Scalar.muli v5 c2_i32_489
  let v747 : BitVec 32 := Scalar.addi v745 v746
  let c1_i32_483 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v739 : BitVec 32 := Scalar.subi c1_i32_483 v8
  let c1_i32_490 : BitVec 32 := 1#32
  let v748 : BitVec 32 := Scalar.muli v739 c1_i32_490
  let v749 : BitVec 32 := Scalar.addi v747 v748
  v749.toNat
def k0_off35 (d0 : Dev nD) : Fin 3 → Nat :=
  let c4_i32_496 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v759 : BitVec 32 := Scalar.muli c4_i32_496 v2
  let c2_i32_497 : BitVec 32 := 2#32
  let c1_i32_495 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v758 : BitVec 32 := Scalar.subi c1_i32_495 v5
  let v760 : BitVec 32 := Scalar.muli c2_i32_497 v758
  let v761 : BitVec 32 := Scalar.addi v759 v760
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v762 : BitVec 32 := Scalar.addi v761 v8
  let c0_i32_505 : BitVec 32 := 0#32
  let c0_i32_506 : BitVec 32 := 0#32
  ![v762.toNat, 0, 0]
def k0_dev37 (d0 : Dev nD) : Nat :=
  let c0_i32_500 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_499 : BitVec 32 := 4#32
  let v763 : BitVec 32 := Scalar.muli v2 c4_i32_499
  let v764 : BitVec 32 := Scalar.addi c0_i32_500 v763
  let c1_i32_495 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v758 : BitVec 32 := Scalar.subi c1_i32_495 v5
  let c2_i32_501 : BitVec 32 := 2#32
  let v765 : BitVec 32 := Scalar.muli v758 c2_i32_501
  let v766 : BitVec 32 := Scalar.addi v764 v765
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_502 : BitVec 32 := 1#32
  let v767 : BitVec 32 := Scalar.muli v8 c1_i32_502
  let v768 : BitVec 32 := Scalar.addi v766 v767
  v768.toNat
def k0_off36 (d0 : Dev nD) : Fin 3 → Nat :=
  let c4_i32_509 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v779 : BitVec 32 := Scalar.muli c4_i32_509 v2
  let c2_i32_510 : BitVec 32 := 2#32
  let c1_i32_507 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v777 : BitVec 32 := Scalar.subi c1_i32_507 v5
  let v780 : BitVec 32 := Scalar.muli c2_i32_510 v777
  let v781 : BitVec 32 := Scalar.addi v779 v780
  let c1_i32_508 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v778 : BitVec 32 := Scalar.subi c1_i32_508 v8
  let v782 : BitVec 32 := Scalar.addi v781 v778
  let c0_i32_518 : BitVec 32 := 0#32
  let c0_i32_519 : BitVec 32 := 0#32
  ![v782.toNat, 0, 0]
def k0_dev38 (d0 : Dev nD) : Nat :=
  let c0_i32_513 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_512 : BitVec 32 := 4#32
  let v783 : BitVec 32 := Scalar.muli v2 c4_i32_512
  let v784 : BitVec 32 := Scalar.addi c0_i32_513 v783
  let c1_i32_507 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v777 : BitVec 32 := Scalar.subi c1_i32_507 v5
  let c2_i32_514 : BitVec 32 := 2#32
  let v785 : BitVec 32 := Scalar.muli v777 c2_i32_514
  let v786 : BitVec 32 := Scalar.addi v784 v785
  let c1_i32_508 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v778 : BitVec 32 := Scalar.subi c1_i32_508 v8
  let c1_i32_515 : BitVec 32 := 1#32
  let v787 : BitVec 32 := Scalar.muli v778 c1_i32_515
  let v788 : BitVec 32 := Scalar.addi v786 v787
  v788.toNat
def k0_off37 (d0 : Dev nD) : Fin 3 → Nat :=
  let c4_i32_521 : BitVec 32 := 4#32
  let c1_i32_520 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v797 : BitVec 32 := Scalar.subi c1_i32_520 v2
  let v798 : BitVec 32 := Scalar.muli c4_i32_521 v797
  let c2_i32_522 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v799 : BitVec 32 := Scalar.muli c2_i32_522 v5
  let v800 : BitVec 32 := Scalar.addi v798 v799
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v801 : BitVec 32 := Scalar.addi v800 v8
  let c0_i32_530 : BitVec 32 := 0#32
  let c0_i32_531 : BitVec 32 := 0#32
  ![v801.toNat, 0, 0]
def k0_dev39 (d0 : Dev nD) : Nat :=
  let c0_i32_525 : BitVec 32 := 0#32
  let c1_i32_520 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v797 : BitVec 32 := Scalar.subi c1_i32_520 v2
  let c4_i32_524 : BitVec 32 := 4#32
  let v802 : BitVec 32 := Scalar.muli v797 c4_i32_524
  let v803 : BitVec 32 := Scalar.addi c0_i32_525 v802
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_526 : BitVec 32 := 2#32
  let v804 : BitVec 32 := Scalar.muli v5 c2_i32_526
  let v805 : BitVec 32 := Scalar.addi v803 v804
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_527 : BitVec 32 := 1#32
  let v806 : BitVec 32 := Scalar.muli v8 c1_i32_527
  let v807 : BitVec 32 := Scalar.addi v805 v806
  v807.toNat
def k0_off38 (d0 : Dev nD) : Fin 3 → Nat :=
  let c4_i32_534 : BitVec 32 := 4#32
  let c1_i32_532 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v816 : BitVec 32 := Scalar.subi c1_i32_532 v2
  let v818 : BitVec 32 := Scalar.muli c4_i32_534 v816
  let c2_i32_535 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v819 : BitVec 32 := Scalar.muli c2_i32_535 v5
  let v820 : BitVec 32 := Scalar.addi v818 v819
  let c1_i32_533 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v817 : BitVec 32 := Scalar.subi c1_i32_533 v8
  let v821 : BitVec 32 := Scalar.addi v820 v817
  let c0_i32_543 : BitVec 32 := 0#32
  let c0_i32_544 : BitVec 32 := 0#32
  ![v821.toNat, 0, 0]
def k0_dev40 (d0 : Dev nD) : Nat :=
  let c0_i32_538 : BitVec 32 := 0#32
  let c1_i32_532 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v816 : BitVec 32 := Scalar.subi c1_i32_532 v2
  let c4_i32_537 : BitVec 32 := 4#32
  let v822 : BitVec 32 := Scalar.muli v816 c4_i32_537
  let v823 : BitVec 32 := Scalar.addi c0_i32_538 v822
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_539 : BitVec 32 := 2#32
  let v824 : BitVec 32 := Scalar.muli v5 c2_i32_539
  let v825 : BitVec 32 := Scalar.addi v823 v824
  let c1_i32_533 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v817 : BitVec 32 := Scalar.subi c1_i32_533 v8
  let c1_i32_540 : BitVec 32 := 1#32
  let v826 : BitVec 32 := Scalar.muli v817 c1_i32_540
  let v827 : BitVec 32 := Scalar.addi v825 v826
  v827.toNat
def k0_off39 (d0 : Dev nD) : Fin 3 → Nat :=
  let c4_i32_547 : BitVec 32 := 4#32
  let c1_i32_545 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v836 : BitVec 32 := Scalar.subi c1_i32_545 v2
  let v838 : BitVec 32 := Scalar.muli c4_i32_547 v836
  let c2_i32_548 : BitVec 32 := 2#32
  let c1_i32_546 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v837 : BitVec 32 := Scalar.subi c1_i32_546 v5
  let v839 : BitVec 32 := Scalar.muli c2_i32_548 v837
  let v840 : BitVec 32 := Scalar.addi v838 v839
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v841 : BitVec 32 := Scalar.addi v840 v8
  let c0_i32_556 : BitVec 32 := 0#32
  let c0_i32_557 : BitVec 32 := 0#32
  ![v841.toNat, 0, 0]
def k0_dev41 (d0 : Dev nD) : Nat :=
  let c0_i32_551 : BitVec 32 := 0#32
  let c1_i32_545 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v836 : BitVec 32 := Scalar.subi c1_i32_545 v2
  let c4_i32_550 : BitVec 32 := 4#32
  let v842 : BitVec 32 := Scalar.muli v836 c4_i32_550
  let v843 : BitVec 32 := Scalar.addi c0_i32_551 v842
  let c1_i32_546 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v837 : BitVec 32 := Scalar.subi c1_i32_546 v5
  let c2_i32_552 : BitVec 32 := 2#32
  let v844 : BitVec 32 := Scalar.muli v837 c2_i32_552
  let v845 : BitVec 32 := Scalar.addi v843 v844
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_553 : BitVec 32 := 1#32
  let v846 : BitVec 32 := Scalar.muli v8 c1_i32_553
  let v847 : BitVec 32 := Scalar.addi v845 v846
  v847.toNat
def k0_off40 (d0 : Dev nD) : Fin 3 → Nat :=
  let c4_i32_561 : BitVec 32 := 4#32
  let c1_i32_558 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v856 : BitVec 32 := Scalar.subi c1_i32_558 v2
  let v859 : BitVec 32 := Scalar.muli c4_i32_561 v856
  let c2_i32_562 : BitVec 32 := 2#32
  let c1_i32_559 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v857 : BitVec 32 := Scalar.subi c1_i32_559 v5
  let v860 : BitVec 32 := Scalar.muli c2_i32_562 v857
  let v861 : BitVec 32 := Scalar.addi v859 v860
  let c1_i32_560 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v858 : BitVec 32 := Scalar.subi c1_i32_560 v8
  let v862 : BitVec 32 := Scalar.addi v861 v858
  let c0_i32_570 : BitVec 32 := 0#32
  let c0_i32_571 : BitVec 32 := 0#32
  ![v862.toNat, 0, 0]
def k0_dev42 (d0 : Dev nD) : Nat :=
  let c0_i32_565 : BitVec 32 := 0#32
  let c1_i32_558 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v856 : BitVec 32 := Scalar.subi c1_i32_558 v2
  let c4_i32_564 : BitVec 32 := 4#32
  let v863 : BitVec 32 := Scalar.muli v856 c4_i32_564
  let v864 : BitVec 32 := Scalar.addi c0_i32_565 v863
  let c1_i32_559 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v857 : BitVec 32 := Scalar.subi c1_i32_559 v5
  let c2_i32_566 : BitVec 32 := 2#32
  let v865 : BitVec 32 := Scalar.muli v857 c2_i32_566
  let v866 : BitVec 32 := Scalar.addi v864 v865
  let c1_i32_560 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v858 : BitVec 32 := Scalar.subi c1_i32_560 v8
  let c1_i32_567 : BitVec 32 := 1#32
  let v867 : BitVec 32 := Scalar.muli v858 c1_i32_567
  let v868 : BitVec 32 := Scalar.addi v866 v867
  v868.toNat
def k0_dev43 (d0 : Dev nD) : Nat :=
  let c0_i32_582 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_581 : BitVec 32 := 4#32
  let v888 : BitVec 32 := Scalar.muli v2 c4_i32_581
  let v889 : BitVec 32 := Scalar.addi c0_i32_582 v888
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_583 : BitVec 32 := 2#32
  let v890 : BitVec 32 := Scalar.muli v5 c2_i32_583
  let v891 : BitVec 32 := Scalar.addi v889 v890
  let c1_i32_577 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v883 : BitVec 32 := Scalar.subi c1_i32_577 v8
  let c1_i32_584 : BitVec 32 := 1#32
  let v892 : BitVec 32 := Scalar.muli v883 c1_i32_584
  let v893 : BitVec 32 := Scalar.addi v891 v892
  v893.toNat
def k0_dev44 (d0 : Dev nD) : Nat :=
  let c0_i32_594 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_593 : BitVec 32 := 4#32
  let v907 : BitVec 32 := Scalar.muli v2 c4_i32_593
  let v908 : BitVec 32 := Scalar.addi c0_i32_594 v907
  let c1_i32_589 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v902 : BitVec 32 := Scalar.subi c1_i32_589 v5
  let c2_i32_595 : BitVec 32 := 2#32
  let v909 : BitVec 32 := Scalar.muli v902 c2_i32_595
  let v910 : BitVec 32 := Scalar.addi v908 v909
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_596 : BitVec 32 := 1#32
  let v911 : BitVec 32 := Scalar.muli v8 c1_i32_596
  let v912 : BitVec 32 := Scalar.addi v910 v911
  v912.toNat
def k0_dev45 (d0 : Dev nD) : Nat :=
  let c0_i32_607 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_606 : BitVec 32 := 4#32
  let v927 : BitVec 32 := Scalar.muli v2 c4_i32_606
  let v928 : BitVec 32 := Scalar.addi c0_i32_607 v927
  let c1_i32_601 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v921 : BitVec 32 := Scalar.subi c1_i32_601 v5
  let c2_i32_608 : BitVec 32 := 2#32
  let v929 : BitVec 32 := Scalar.muli v921 c2_i32_608
  let v930 : BitVec 32 := Scalar.addi v928 v929
  let c1_i32_602 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v922 : BitVec 32 := Scalar.subi c1_i32_602 v8
  let c1_i32_609 : BitVec 32 := 1#32
  let v931 : BitVec 32 := Scalar.muli v922 c1_i32_609
  let v932 : BitVec 32 := Scalar.addi v930 v931
  v932.toNat
def k0_dev46 (d0 : Dev nD) : Nat :=
  let c0_i32_619 : BitVec 32 := 0#32
  let c1_i32_614 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v941 : BitVec 32 := Scalar.subi c1_i32_614 v2
  let c4_i32_618 : BitVec 32 := 4#32
  let v946 : BitVec 32 := Scalar.muli v941 c4_i32_618
  let v947 : BitVec 32 := Scalar.addi c0_i32_619 v946
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_620 : BitVec 32 := 2#32
  let v948 : BitVec 32 := Scalar.muli v5 c2_i32_620
  let v949 : BitVec 32 := Scalar.addi v947 v948
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_621 : BitVec 32 := 1#32
  let v950 : BitVec 32 := Scalar.muli v8 c1_i32_621
  let v951 : BitVec 32 := Scalar.addi v949 v950
  v951.toNat
def k0_dev47 (d0 : Dev nD) : Nat :=
  let c0_i32_632 : BitVec 32 := 0#32
  let c1_i32_626 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v960 : BitVec 32 := Scalar.subi c1_i32_626 v2
  let c4_i32_631 : BitVec 32 := 4#32
  let v966 : BitVec 32 := Scalar.muli v960 c4_i32_631
  let v967 : BitVec 32 := Scalar.addi c0_i32_632 v966
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_633 : BitVec 32 := 2#32
  let v968 : BitVec 32 := Scalar.muli v5 c2_i32_633
  let v969 : BitVec 32 := Scalar.addi v967 v968
  let c1_i32_627 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v961 : BitVec 32 := Scalar.subi c1_i32_627 v8
  let c1_i32_634 : BitVec 32 := 1#32
  let v970 : BitVec 32 := Scalar.muli v961 c1_i32_634
  let v971 : BitVec 32 := Scalar.addi v969 v970
  v971.toNat
def k0_dev48 (d0 : Dev nD) : Nat :=
  let c0_i32_645 : BitVec 32 := 0#32
  let c1_i32_639 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v980 : BitVec 32 := Scalar.subi c1_i32_639 v2
  let c4_i32_644 : BitVec 32 := 4#32
  let v986 : BitVec 32 := Scalar.muli v980 c4_i32_644
  let v987 : BitVec 32 := Scalar.addi c0_i32_645 v986
  let c1_i32_640 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v981 : BitVec 32 := Scalar.subi c1_i32_640 v5
  let c2_i32_646 : BitVec 32 := 2#32
  let v988 : BitVec 32 := Scalar.muli v981 c2_i32_646
  let v989 : BitVec 32 := Scalar.addi v987 v988
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_647 : BitVec 32 := 1#32
  let v990 : BitVec 32 := Scalar.muli v8 c1_i32_647
  let v991 : BitVec 32 := Scalar.addi v989 v990
  v991.toNat
def k0_dev49 (d0 : Dev nD) : Nat :=
  let c0_i32_659 : BitVec 32 := 0#32
  let c1_i32_652 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1000 : BitVec 32 := Scalar.subi c1_i32_652 v2
  let c4_i32_658 : BitVec 32 := 4#32
  let v1007 : BitVec 32 := Scalar.muli v1000 c4_i32_658
  let v1008 : BitVec 32 := Scalar.addi c0_i32_659 v1007
  let c1_i32_653 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1001 : BitVec 32 := Scalar.subi c1_i32_653 v5
  let c2_i32_660 : BitVec 32 := 2#32
  let v1009 : BitVec 32 := Scalar.muli v1001 c2_i32_660
  let v1010 : BitVec 32 := Scalar.addi v1008 v1009
  let c1_i32_654 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1002 : BitVec 32 := Scalar.subi c1_i32_654 v8
  let c1_i32_661 : BitVec 32 := 1#32
  let v1011 : BitVec 32 := Scalar.muli v1002 c1_i32_661
  let v1012 : BitVec 32 := Scalar.addi v1010 v1011
  v1012.toNat
def k0_dev50 (d0 : Dev nD) : Nat :=
  let c0_i32_676 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_675 : BitVec 32 := 4#32
  let v1032 : BitVec 32 := Scalar.muli v2 c4_i32_675
  let v1033 : BitVec 32 := Scalar.addi c0_i32_676 v1032
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_677 : BitVec 32 := 2#32
  let v1034 : BitVec 32 := Scalar.muli v5 c2_i32_677
  let v1035 : BitVec 32 := Scalar.addi v1033 v1034
  let c1_i32_671 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1027 : BitVec 32 := Scalar.subi c1_i32_671 v8
  let c1_i32_678 : BitVec 32 := 1#32
  let v1036 : BitVec 32 := Scalar.muli v1027 c1_i32_678
  let v1037 : BitVec 32 := Scalar.addi v1035 v1036
  v1037.toNat
def k0_dev51 (d0 : Dev nD) : Nat :=
  let c0_i32_688 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_687 : BitVec 32 := 4#32
  let v1051 : BitVec 32 := Scalar.muli v2 c4_i32_687
  let v1052 : BitVec 32 := Scalar.addi c0_i32_688 v1051
  let c1_i32_683 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1046 : BitVec 32 := Scalar.subi c1_i32_683 v5
  let c2_i32_689 : BitVec 32 := 2#32
  let v1053 : BitVec 32 := Scalar.muli v1046 c2_i32_689
  let v1054 : BitVec 32 := Scalar.addi v1052 v1053
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_690 : BitVec 32 := 1#32
  let v1055 : BitVec 32 := Scalar.muli v8 c1_i32_690
  let v1056 : BitVec 32 := Scalar.addi v1054 v1055
  v1056.toNat
def k0_dev52 (d0 : Dev nD) : Nat :=
  let c0_i32_701 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_700 : BitVec 32 := 4#32
  let v1071 : BitVec 32 := Scalar.muli v2 c4_i32_700
  let v1072 : BitVec 32 := Scalar.addi c0_i32_701 v1071
  let c1_i32_695 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1065 : BitVec 32 := Scalar.subi c1_i32_695 v5
  let c2_i32_702 : BitVec 32 := 2#32
  let v1073 : BitVec 32 := Scalar.muli v1065 c2_i32_702
  let v1074 : BitVec 32 := Scalar.addi v1072 v1073
  let c1_i32_696 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1066 : BitVec 32 := Scalar.subi c1_i32_696 v8
  let c1_i32_703 : BitVec 32 := 1#32
  let v1075 : BitVec 32 := Scalar.muli v1066 c1_i32_703
  let v1076 : BitVec 32 := Scalar.addi v1074 v1075
  v1076.toNat
def k0_dev53 (d0 : Dev nD) : Nat :=
  let c0_i32_713 : BitVec 32 := 0#32
  let c1_i32_708 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1085 : BitVec 32 := Scalar.subi c1_i32_708 v2
  let c4_i32_712 : BitVec 32 := 4#32
  let v1090 : BitVec 32 := Scalar.muli v1085 c4_i32_712
  let v1091 : BitVec 32 := Scalar.addi c0_i32_713 v1090
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_714 : BitVec 32 := 2#32
  let v1092 : BitVec 32 := Scalar.muli v5 c2_i32_714
  let v1093 : BitVec 32 := Scalar.addi v1091 v1092
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_715 : BitVec 32 := 1#32
  let v1094 : BitVec 32 := Scalar.muli v8 c1_i32_715
  let v1095 : BitVec 32 := Scalar.addi v1093 v1094
  v1095.toNat
def k0_dev54 (d0 : Dev nD) : Nat :=
  let c0_i32_726 : BitVec 32 := 0#32
  let c1_i32_720 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1104 : BitVec 32 := Scalar.subi c1_i32_720 v2
  let c4_i32_725 : BitVec 32 := 4#32
  let v1110 : BitVec 32 := Scalar.muli v1104 c4_i32_725
  let v1111 : BitVec 32 := Scalar.addi c0_i32_726 v1110
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_727 : BitVec 32 := 2#32
  let v1112 : BitVec 32 := Scalar.muli v5 c2_i32_727
  let v1113 : BitVec 32 := Scalar.addi v1111 v1112
  let c1_i32_721 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1105 : BitVec 32 := Scalar.subi c1_i32_721 v8
  let c1_i32_728 : BitVec 32 := 1#32
  let v1114 : BitVec 32 := Scalar.muli v1105 c1_i32_728
  let v1115 : BitVec 32 := Scalar.addi v1113 v1114
  v1115.toNat
def k0_dev55 (d0 : Dev nD) : Nat :=
  let c0_i32_739 : BitVec 32 := 0#32
  let c1_i32_733 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1124 : BitVec 32 := Scalar.subi c1_i32_733 v2
  let c4_i32_738 : BitVec 32 := 4#32
  let v1130 : BitVec 32 := Scalar.muli v1124 c4_i32_738
  let v1131 : BitVec 32 := Scalar.addi c0_i32_739 v1130
  let c1_i32_734 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1125 : BitVec 32 := Scalar.subi c1_i32_734 v5
  let c2_i32_740 : BitVec 32 := 2#32
  let v1132 : BitVec 32 := Scalar.muli v1125 c2_i32_740
  let v1133 : BitVec 32 := Scalar.addi v1131 v1132
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_741 : BitVec 32 := 1#32
  let v1134 : BitVec 32 := Scalar.muli v8 c1_i32_741
  let v1135 : BitVec 32 := Scalar.addi v1133 v1134
  v1135.toNat
def k0_dev56 (d0 : Dev nD) : Nat :=
  let c0_i32_753 : BitVec 32 := 0#32
  let c1_i32_746 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1144 : BitVec 32 := Scalar.subi c1_i32_746 v2
  let c4_i32_752 : BitVec 32 := 4#32
  let v1151 : BitVec 32 := Scalar.muli v1144 c4_i32_752
  let v1152 : BitVec 32 := Scalar.addi c0_i32_753 v1151
  let c1_i32_747 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1145 : BitVec 32 := Scalar.subi c1_i32_747 v5
  let c2_i32_754 : BitVec 32 := 2#32
  let v1153 : BitVec 32 := Scalar.muli v1145 c2_i32_754
  let v1154 : BitVec 32 := Scalar.addi v1152 v1153
  let c1_i32_748 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1146 : BitVec 32 := Scalar.subi c1_i32_748 v8
  let c1_i32_755 : BitVec 32 := 1#32
  let v1155 : BitVec 32 := Scalar.muli v1146 c1_i32_755
  let v1156 : BitVec 32 := Scalar.addi v1154 v1155
  v1156.toNat
def k0_dev57 (d0 : Dev nD) : Nat :=
  let c0_i32_770 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_769 : BitVec 32 := 4#32
  let v1176 : BitVec 32 := Scalar.muli v2 c4_i32_769
  let v1177 : BitVec 32 := Scalar.addi c0_i32_770 v1176
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_771 : BitVec 32 := 2#32
  let v1178 : BitVec 32 := Scalar.muli v5 c2_i32_771
  let v1179 : BitVec 32 := Scalar.addi v1177 v1178
  let c1_i32_765 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1171 : BitVec 32 := Scalar.subi c1_i32_765 v8
  let c1_i32_772 : BitVec 32 := 1#32
  let v1180 : BitVec 32 := Scalar.muli v1171 c1_i32_772
  let v1181 : BitVec 32 := Scalar.addi v1179 v1180
  v1181.toNat
def k0_dev58 (d0 : Dev nD) : Nat :=
  let c0_i32_782 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_781 : BitVec 32 := 4#32
  let v1195 : BitVec 32 := Scalar.muli v2 c4_i32_781
  let v1196 : BitVec 32 := Scalar.addi c0_i32_782 v1195
  let c1_i32_777 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1190 : BitVec 32 := Scalar.subi c1_i32_777 v5
  let c2_i32_783 : BitVec 32 := 2#32
  let v1197 : BitVec 32 := Scalar.muli v1190 c2_i32_783
  let v1198 : BitVec 32 := Scalar.addi v1196 v1197
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_784 : BitVec 32 := 1#32
  let v1199 : BitVec 32 := Scalar.muli v8 c1_i32_784
  let v1200 : BitVec 32 := Scalar.addi v1198 v1199
  v1200.toNat
def k0_dev59 (d0 : Dev nD) : Nat :=
  let c0_i32_795 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_794 : BitVec 32 := 4#32
  let v1215 : BitVec 32 := Scalar.muli v2 c4_i32_794
  let v1216 : BitVec 32 := Scalar.addi c0_i32_795 v1215
  let c1_i32_789 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1209 : BitVec 32 := Scalar.subi c1_i32_789 v5
  let c2_i32_796 : BitVec 32 := 2#32
  let v1217 : BitVec 32 := Scalar.muli v1209 c2_i32_796
  let v1218 : BitVec 32 := Scalar.addi v1216 v1217
  let c1_i32_790 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1210 : BitVec 32 := Scalar.subi c1_i32_790 v8
  let c1_i32_797 : BitVec 32 := 1#32
  let v1219 : BitVec 32 := Scalar.muli v1210 c1_i32_797
  let v1220 : BitVec 32 := Scalar.addi v1218 v1219
  v1220.toNat
def k0_dev60 (d0 : Dev nD) : Nat :=
  let c0_i32_807 : BitVec 32 := 0#32
  let c1_i32_802 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1229 : BitVec 32 := Scalar.subi c1_i32_802 v2
  let c4_i32_806 : BitVec 32 := 4#32
  let v1234 : BitVec 32 := Scalar.muli v1229 c4_i32_806
  let v1235 : BitVec 32 := Scalar.addi c0_i32_807 v1234
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_808 : BitVec 32 := 2#32
  let v1236 : BitVec 32 := Scalar.muli v5 c2_i32_808
  let v1237 : BitVec 32 := Scalar.addi v1235 v1236
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_809 : BitVec 32 := 1#32
  let v1238 : BitVec 32 := Scalar.muli v8 c1_i32_809
  let v1239 : BitVec 32 := Scalar.addi v1237 v1238
  v1239.toNat
def k0_dev61 (d0 : Dev nD) : Nat :=
  let c0_i32_820 : BitVec 32 := 0#32
  let c1_i32_814 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1248 : BitVec 32 := Scalar.subi c1_i32_814 v2
  let c4_i32_819 : BitVec 32 := 4#32
  let v1254 : BitVec 32 := Scalar.muli v1248 c4_i32_819
  let v1255 : BitVec 32 := Scalar.addi c0_i32_820 v1254
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_821 : BitVec 32 := 2#32
  let v1256 : BitVec 32 := Scalar.muli v5 c2_i32_821
  let v1257 : BitVec 32 := Scalar.addi v1255 v1256
  let c1_i32_815 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1249 : BitVec 32 := Scalar.subi c1_i32_815 v8
  let c1_i32_822 : BitVec 32 := 1#32
  let v1258 : BitVec 32 := Scalar.muli v1249 c1_i32_822
  let v1259 : BitVec 32 := Scalar.addi v1257 v1258
  v1259.toNat
def k0_dev62 (d0 : Dev nD) : Nat :=
  let c0_i32_833 : BitVec 32 := 0#32
  let c1_i32_827 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1268 : BitVec 32 := Scalar.subi c1_i32_827 v2
  let c4_i32_832 : BitVec 32 := 4#32
  let v1274 : BitVec 32 := Scalar.muli v1268 c4_i32_832
  let v1275 : BitVec 32 := Scalar.addi c0_i32_833 v1274
  let c1_i32_828 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1269 : BitVec 32 := Scalar.subi c1_i32_828 v5
  let c2_i32_834 : BitVec 32 := 2#32
  let v1276 : BitVec 32 := Scalar.muli v1269 c2_i32_834
  let v1277 : BitVec 32 := Scalar.addi v1275 v1276
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_835 : BitVec 32 := 1#32
  let v1278 : BitVec 32 := Scalar.muli v8 c1_i32_835
  let v1279 : BitVec 32 := Scalar.addi v1277 v1278
  v1279.toNat
def k0_dev63 (d0 : Dev nD) : Nat :=
  let c0_i32_847 : BitVec 32 := 0#32
  let c1_i32_840 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1288 : BitVec 32 := Scalar.subi c1_i32_840 v2
  let c4_i32_846 : BitVec 32 := 4#32
  let v1295 : BitVec 32 := Scalar.muli v1288 c4_i32_846
  let v1296 : BitVec 32 := Scalar.addi c0_i32_847 v1295
  let c1_i32_841 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1289 : BitVec 32 := Scalar.subi c1_i32_841 v5
  let c2_i32_848 : BitVec 32 := 2#32
  let v1297 : BitVec 32 := Scalar.muli v1289 c2_i32_848
  let v1298 : BitVec 32 := Scalar.addi v1296 v1297
  let c1_i32_842 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1290 : BitVec 32 := Scalar.subi c1_i32_842 v8
  let c1_i32_849 : BitVec 32 := 1#32
  let v1299 : BitVec 32 := Scalar.muli v1290 c1_i32_849
  let v1300 : BitVec 32 := Scalar.addi v1298 v1299
  v1300.toNat
-- ==== Reference.lean ====
abbrev S64x1024x704 : Shape := ⟨3, ![64, 1024, 704]⟩
abbrev S64x352x1024 : Shape := ⟨3, ![64, 352, 1024]⟩
abbrev S64x1024x321 : Shape := ⟨3, ![64, 1024, 321]⟩
abbrev S64x128x1024 : Shape := ⟨3, ![64, 128, 1024]⟩
abbrev S64x1024x256 : Shape := ⟨3, ![64, 1024, 256]⟩
abbrev S8x8x1024x704 : Shape := ⟨4, ![8, 8, 1024, 704]⟩
abbrev S8x8x352x1024 : Shape := ⟨4, ![8, 8, 352, 1024]⟩
abbrev S8x8x1024x321 : Shape := ⟨4, ![8, 8, 1024, 321]⟩
abbrev S8x8x128x1024 : Shape := ⟨4, ![8, 8, 128, 1024]⟩
abbrev S8x8x1024x256 : Shape := ⟨4, ![8, 8, 1024, 256]⟩

abbrev nBuf : Space → Nat
  | .hbm => 36
  | .vmem => 0
  | .smem => 0
  | _ => 0

abbrev bufTy : (tb : Table) → Fin (tcTables nBuf tb) → BufTy
  | .hbm, ⟨0, _⟩ => ⟨S64x1024x704, .bf16⟩
  | .hbm, ⟨1, _⟩ => ⟨S64x352x1024, .bf16⟩
  | .hbm, ⟨2, _⟩ => ⟨S64x1024x321, .bf16⟩
  | .hbm, ⟨3, _⟩ => ⟨S64x128x1024, .bf16⟩
  | .hbm, ⟨4, _⟩ => ⟨S64x128x1024, .bf16⟩
  | .hbm, ⟨5, _⟩ => ⟨S64x1024x256, .bf16⟩
  | .hbm, ⟨6, _⟩ => ⟨S64x128x1024, .bf16⟩
  | .hbm, ⟨7, _⟩ => ⟨S64x1024x704, .bf16⟩
  | .hbm, ⟨8, _⟩ => ⟨S64x352x1024, .bf16⟩
  | .hbm, ⟨9, _⟩ => ⟨S8x8x1024x704, .bf16⟩
  | .hbm, ⟨10, _⟩ => ⟨S8x8x1024x704, .bf16⟩
  | .hbm, ⟨11, _⟩ => ⟨S64x1024x704, .bf16⟩
  | .hbm, ⟨12, _⟩ => ⟨S8x8x352x1024, .bf16⟩
  | .hbm, ⟨13, _⟩ => ⟨S8x8x352x1024, .bf16⟩
  | .hbm, ⟨14, _⟩ => ⟨S64x352x1024, .bf16⟩
  | .hbm, ⟨15, _⟩ => ⟨S8x8x1024x321, .bf16⟩
  | .hbm, ⟨16, _⟩ => ⟨S8x8x1024x321, .bf16⟩
  | .hbm, ⟨17, _⟩ => ⟨S64x1024x321, .bf16⟩
  | .hbm, ⟨18, _⟩ => ⟨S8x8x128x1024, .bf16⟩
  | .hbm, ⟨19, _⟩ => ⟨S8x8x128x1024, .bf16⟩
  | .hbm, ⟨20, _⟩ => ⟨S64x128x1024, .bf16⟩
  | .hbm, ⟨21, _⟩ => ⟨S8x8x128x1024, .bf16⟩
  | .hbm, ⟨22, _⟩ => ⟨S8x8x128x1024, .bf16⟩
  | .hbm, ⟨23, _⟩ => ⟨S64x128x1024, .bf16⟩
  | .hbm, ⟨24, _⟩ => ⟨S8x8x1024x256, .bf16⟩
  | .hbm, ⟨25, _⟩ => ⟨S8x8x1024x256, .bf16⟩
  | .hbm, ⟨26, _⟩ => ⟨S64x1024x256, .bf16⟩
  | .hbm, ⟨27, _⟩ => ⟨S8x8x128x1024, .bf16⟩
  | .hbm, ⟨28, _⟩ => ⟨S8x8x128x1024, .bf16⟩
  | .hbm, ⟨29, _⟩ => ⟨S64x128x1024, .bf16⟩
  | .hbm, ⟨30, _⟩ => ⟨S8x8x1024x704, .bf16⟩
  | .hbm, ⟨31, _⟩ => ⟨S8x8x1024x704, .bf16⟩
  | .hbm, ⟨32, _⟩ => ⟨S64x1024x704, .bf16⟩
  | .hbm, ⟨33, _⟩ => ⟨S8x8x352x1024, .bf16⟩
  | .hbm, ⟨34, _⟩ => ⟨S8x8x352x1024, .bf16⟩
  | .hbm, ⟨35, _⟩ => ⟨S64x352x1024, .bf16⟩
  | _, _ => ⟨S64x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Gather.lean ====
abbrev S1024x704 : Shape := ⟨2, ![1024, 704]⟩
abbrev S352x1024 : Shape := ⟨2, ![352, 1024]⟩
abbrev S1024x321 : Shape := ⟨2, ![1024, 321]⟩
abbrev S128x1024 : Shape := ⟨2, ![128, 1024]⟩
abbrev S1024x256 : Shape := ⟨2, ![1024, 256]⟩
abbrev S8x1024x704 : Shape := ⟨3, ![8, 1024, 704]⟩
abbrev S8x352x1024 : Shape := ⟨3, ![8, 352, 1024]⟩
abbrev S8x1024x321 : Shape := ⟨3, ![8, 1024, 321]⟩
abbrev S8x128x1024 : Shape := ⟨3, ![8, 128, 1024]⟩
abbrev S8x1024x256 : Shape := ⟨3, ![8, 1024, 256]⟩
abbrev S63 : Shape := ⟨1, ![63]⟩
abbrev S9 : Shape := ⟨1, ![9]⟩
abbrev S1 : Shape := ⟨1, ![1]⟩
abbrev S_ : Shape := ⟨0, ![]⟩
abbrev S1x1024x704 : Shape := ⟨3, ![1, 1024, 704]⟩
abbrev S1x352x1024 : Shape := ⟨3, ![1, 352, 1024]⟩
abbrev S1x1024x321 : Shape := ⟨3, ![1, 1024, 321]⟩
abbrev S1x128x1024 : Shape := ⟨3, ![1, 128, 1024]⟩
abbrev S1x1024x256 : Shape := ⟨3, ![1, 1024, 256]⟩

abbrev nBuf : Space → Nat
  | .hbm => 18
  | .vmem => 0
  | .smem => 0
  | _ => 0

abbrev bufTy : (tb : Table) → Fin (tcTables nBuf tb) → BufTy
  | .hbm, ⟨0, _⟩ => ⟨S1024x704, .bf16⟩
  | .hbm, ⟨1, _⟩ => ⟨S352x1024, .bf16⟩
  | .hbm, ⟨2, _⟩ => ⟨S1024x321, .bf16⟩
  | .hbm, ⟨3, _⟩ => ⟨S128x1024, .bf16⟩
  | .hbm, ⟨4, _⟩ => ⟨S128x1024, .bf16⟩
  | .hbm, ⟨5, _⟩ => ⟨S1024x256, .bf16⟩
  | .hbm, ⟨6, _⟩ => ⟨S128x1024, .bf16⟩
  | .hbm, ⟨7, _⟩ => ⟨S1024x704, .bf16⟩
  | .hbm, ⟨8, _⟩ => ⟨S352x1024, .bf16⟩
  | .hbm, ⟨9, _⟩ => ⟨S8x1024x704, .bf16⟩
  | .hbm, ⟨10, _⟩ => ⟨S8x352x1024, .bf16⟩
  | .hbm, ⟨11, _⟩ => ⟨S8x1024x321, .bf16⟩
  | .hbm, ⟨12, _⟩ => ⟨S8x128x1024, .bf16⟩
  | .hbm, ⟨13, _⟩ => ⟨S8x128x1024, .bf16⟩
  | .hbm, ⟨14, _⟩ => ⟨S8x1024x256, .bf16⟩
  | .hbm, ⟨15, _⟩ => ⟨S8x128x1024, .bf16⟩
  | .hbm, ⟨16, _⟩ => ⟨S8x1024x704, .bf16⟩
  | .hbm, ⟨17, _⟩ => ⟨S8x352x1024, .bf16⟩
  | _, _ => ⟨S1024x704, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | _, _ => false

abbrev semScoped : Fin 0 → Bool
  | ⟨_, h⟩ => absurd h (Nat.not_lt_zero _)

abbrev dmaSemScoped : Fin 135 → Bool
  | ⟨i, _⟩ => dmaSemScopedAt i

abbrev sig : RefSig :=
  ofTc nBuf bufTy 0 135 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev main_v1_6 : Ref sig .tc := ⟨.hbm, 15, rfl⟩
abbrev main_v1_7 : Ref sig .tc := ⟨.hbm, 16, rfl⟩
abbrev main_v1_8 : Ref sig .tc := ⟨.hbm, 17, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32_10 : BitVec 32 := 0#32
  let c0_i32_11 : BitVec 32 := 0#32
  ![v17.toNat, 0, 0]
def k0_dev1 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v38 : BitVec 32 := Scalar.muli v2 c4_i32_22
  let v39 : BitVec 32 := Scalar.addi c0_i32_23 v38
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_24 : BitVec 32 := 2#32
  let v40 : BitVec 32 := Scalar.muli v5 c2_i32_24
  let v41 : BitVec 32 := Scalar.addi v39 v40
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_25 : BitVec 32 := 1#32
  let v42 : BitVec 32 := Scalar.muli v9 c1_i32_25
  let v43 : BitVec 32 := Scalar.addi v41 v42
  v43.toNat
def k0_dev2 (d0 : Dev nD) : Nat :=
  let c0_i32_31 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_30 : BitVec 32 := 4#32
  let v50 : BitVec 32 := Scalar.muli v10 c4_i32_30
  let v51 : BitVec 32 := Scalar.addi c0_i32_31 v50
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_32 : BitVec 32 := 2#32
  let v52 : BitVec 32 := Scalar.muli v5 c2_i32_32
  let v53 : BitVec 32 := Scalar.addi v51 v52
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_33 : BitVec 32 := 1#32
  let v54 : BitVec 32 := Scalar.muli v8 c1_i32_33
  let v55 : BitVec 32 := Scalar.addi v53 v54
  v55.toNat
def k0_dev3 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_38 : BitVec 32 := 4#32
  let v62 : BitVec 32 := Scalar.muli v2 c4_i32_38
  let v63 : BitVec 32 := Scalar.addi c0_i32_39 v62
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_40 : BitVec 32 := 2#32
  let v64 : BitVec 32 := Scalar.muli v11 c2_i32_40
  let v65 : BitVec 32 := Scalar.addi v63 v64
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_41 : BitVec 32 := 1#32
  let v66 : BitVec 32 := Scalar.muli v8 c1_i32_41
  let v67 : BitVec 32 := Scalar.addi v65 v66
  v67.toNat
def k0_dev4 (d0 : Dev nD) : Nat :=
  let c0_i32_46 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_45 : BitVec 32 := 4#32
  let v74 : BitVec 32 := Scalar.muli v12 c4_i32_45
  let v75 : BitVec 32 := Scalar.addi c0_i32_46 v74
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_47 : BitVec 32 := 2#32
  let v76 : BitVec 32 := Scalar.muli v13 c2_i32_47
  let v77 : BitVec 32 := Scalar.addi v75 v76
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_48 : BitVec 32 := 1#32
  let v78 : BitVec 32 := Scalar.muli v8 c1_i32_48
  let v79 : BitVec 32 := Scalar.addi v77 v78
  v79.toNat
def k0_off2 (d0 : Dev nD) : Fin 3 → Nat :=
  let c4_i32_51 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v86 : BitVec 32 := Scalar.muli c4_i32_51 v2
  let c2_i32_52 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v87 : BitVec 32 := Scalar.muli c2_i32_52 v5
  let v88 : BitVec 32 := Scalar.addi v86 v87
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v89 : BitVec 32 := Scalar.addi v88 v8
  let c0_i32_54 : BitVec 32 := 0#32
  let c0_i32_55 : BitVec 32 := 0#32
  ![v89.toNat, 0, 0]
def k0_dev5 (d0 : Dev nD) : Nat :=
  let c0_i32_66 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_65 : BitVec 32 := 4#32
  let v110 : BitVec 32 := Scalar.muli v2 c4_i32_65
  let v111 : BitVec 32 := Scalar.addi c0_i32_66 v110
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v112 : BitVec 32 := Scalar.muli v5 c2_i32_67
  let v113 : BitVec 32 := Scalar.addi v111 v112
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_68 : BitVec 32 := 1#32
  let v114 : BitVec 32 := Scalar.muli v9 c1_i32_68
  let v115 : BitVec 32 := Scalar.addi v113 v114
  v115.toNat
def k0_dev6 (d0 : Dev nD) : Nat :=
  let c0_i32_73 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_72 : BitVec 32 := 4#32
  let v122 : BitVec 32 := Scalar.muli v10 c4_i32_72
  let v123 : BitVec 32 := Scalar.addi c0_i32_73 v122
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_74 : BitVec 32 := 2#32
  let v124 : BitVec 32 := Scalar.muli v5 c2_i32_74
  let v125 : BitVec 32 := Scalar.addi v123 v124
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_75 : BitVec 32 := 1#32
  let v126 : BitVec 32 := Scalar.muli v8 c1_i32_75
  let v127 : BitVec 32 := Scalar.addi v125 v126
  v127.toNat
def k0_dev7 (d0 : Dev nD) : Nat :=
  let c0_i32_80 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_79 : BitVec 32 := 4#32
  let v134 : BitVec 32 := Scalar.muli v2 c4_i32_79
  let v135 : BitVec 32 := Scalar.addi c0_i32_80 v134
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_81 : BitVec 32 := 2#32
  let v136 : BitVec 32 := Scalar.muli v11 c2_i32_81
  let v137 : BitVec 32 := Scalar.addi v135 v136
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_82 : BitVec 32 := 1#32
  let v138 : BitVec 32 := Scalar.muli v8 c1_i32_82
  let v139 : BitVec 32 := Scalar.addi v137 v138
  v139.toNat
def k0_dev8 (d0 : Dev nD) : Nat :=
  let c0_i32_87 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_86 : BitVec 32 := 4#32
  let v146 : BitVec 32 := Scalar.muli v12 c4_i32_86
  let v147 : BitVec 32 := Scalar.addi c0_i32_87 v146
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_88 : BitVec 32 := 2#32
  let v148 : BitVec 32 := Scalar.muli v13 c2_i32_88
  let v149 : BitVec 32 := Scalar.addi v147 v148
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_89 : BitVec 32 := 1#32
  let v150 : BitVec 32 := Scalar.muli v8 c1_i32_89
  let v151 : BitVec 32 := Scalar.addi v149 v150
  v151.toNat
def k0_off3 (d0 : Dev nD) : Fin 3 → Nat :=
  let c4_i32_92 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v158 : BitVec 32 := Scalar.muli c4_i32_92 v2
  let c2_i32_93 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v159 : BitVec 32 := Scalar.muli c2_i32_93 v5
  let v160 : BitVec 32 := Scalar.addi v158 v159
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v161 : BitVec 32 := Scalar.addi v160 v8
  let c0_i32_95 : BitVec 32 := 0#32
  let c0_i32_96 : BitVec 32 := 0#32
  ![v161.toNat, 0, 0]
def k0_dev9 (d0 : Dev nD) : Nat :=
  let c0_i32_107 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_106 : BitVec 32 := 4#32
  let v182 : BitVec 32 := Scalar.muli v2 c4_i32_106
  let v183 : BitVec 32 := Scalar.addi c0_i32_107 v182
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_108 : BitVec 32 := 2#32
  let v184 : BitVec 32 := Scalar.muli v5 c2_i32_108
  let v185 : BitVec 32 := Scalar.addi v183 v184
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_109 : BitVec 32 := 1#32
  let v186 : BitVec 32 := Scalar.muli v9 c1_i32_109
  let v187 : BitVec 32 := Scalar.addi v185 v186
  v187.toNat
def k0_dev10 (d0 : Dev nD) : Nat :=
  let c0_i32_114 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_113 : BitVec 32 := 4#32
  let v194 : BitVec 32 := Scalar.muli v10 c4_i32_113
  let v195 : BitVec 32 := Scalar.addi c0_i32_114 v194
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_115 : BitVec 32 := 2#32
  let v196 : BitVec 32 := Scalar.muli v5 c2_i32_115
  let v197 : BitVec 32 := Scalar.addi v195 v196
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_116 : BitVec 32 := 1#32
  let v198 : BitVec 32 := Scalar.muli v8 c1_i32_116
  let v199 : BitVec 32 := Scalar.addi v197 v198
  v199.toNat
def k0_dev11 (d0 : Dev nD) : Nat :=
  let c0_i32_121 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_120 : BitVec 32 := 4#32
  let v206 : BitVec 32 := Scalar.muli v2 c4_i32_120
  let v207 : BitVec 32 := Scalar.addi c0_i32_121 v206
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_122 : BitVec 32 := 2#32
  let v208 : BitVec 32 := Scalar.muli v11 c2_i32_122
  let v209 : BitVec 32 := Scalar.addi v207 v208
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_123 : BitVec 32 := 1#32
  let v210 : BitVec 32 := Scalar.muli v8 c1_i32_123
  let v211 : BitVec 32 := Scalar.addi v209 v210
  v211.toNat
def k0_dev12 (d0 : Dev nD) : Nat :=
  let c0_i32_128 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_127 : BitVec 32 := 4#32
  let v218 : BitVec 32 := Scalar.muli v12 c4_i32_127
  let v219 : BitVec 32 := Scalar.addi c0_i32_128 v218
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_129 : BitVec 32 := 2#32
  let v220 : BitVec 32 := Scalar.muli v13 c2_i32_129
  let v221 : BitVec 32 := Scalar.addi v219 v220
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_130 : BitVec 32 := 1#32
  let v222 : BitVec 32 := Scalar.muli v8 c1_i32_130
  let v223 : BitVec 32 := Scalar.addi v221 v222
  v223.toNat
def k0_off4 (d0 : Dev nD) : Fin 3 → Nat :=
  let c4_i32_133 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v230 : BitVec 32 := Scalar.muli c4_i32_133 v2
  let c2_i32_134 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v231 : BitVec 32 := Scalar.muli c2_i32_134 v5
  let v232 : BitVec 32 := Scalar.addi v230 v231
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v233 : BitVec 32 := Scalar.addi v232 v8
  let c0_i32_136 : BitVec 32 := 0#32
  let c0_i32_137 : BitVec 32 := 0#32
  ![v233.toNat, 0, 0]
def k0_dev13 (d0 : Dev nD) : Nat :=
  let c0_i32_148 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_147 : BitVec 32 := 4#32
  let v254 : BitVec 32 := Scalar.muli v2 c4_i32_147
  let v255 : BitVec 32 := Scalar.addi c0_i32_148 v254
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_149 : BitVec 32 := 2#32
  let v256 : BitVec 32 := Scalar.muli v5 c2_i32_149
  let v257 : BitVec 32 := Scalar.addi v255 v256
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_150 : BitVec 32 := 1#32
  let v258 : BitVec 32 := Scalar.muli v9 c1_i32_150
  let v259 : BitVec 32 := Scalar.addi v257 v258
  v259.toNat
def k0_dev14 (d0 : Dev nD) : Nat :=
  let c0_i32_155 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_154 : BitVec 32 := 4#32
  let v266 : BitVec 32 := Scalar.muli v10 c4_i32_154
  let v267 : BitVec 32 := Scalar.addi c0_i32_155 v266
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_156 : BitVec 32 := 2#32
  let v268 : BitVec 32 := Scalar.muli v5 c2_i32_156
  let v269 : BitVec 32 := Scalar.addi v267 v268
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_157 : BitVec 32 := 1#32
  let v270 : BitVec 32 := Scalar.muli v8 c1_i32_157
  let v271 : BitVec 32 := Scalar.addi v269 v270
  v271.toNat
def k0_dev15 (d0 : Dev nD) : Nat :=
  let c0_i32_162 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_161 : BitVec 32 := 4#32
  let v278 : BitVec 32 := Scalar.muli v2 c4_i32_161
  let v279 : BitVec 32 := Scalar.addi c0_i32_162 v278
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_163 : BitVec 32 := 2#32
  let v280 : BitVec 32 := Scalar.muli v11 c2_i32_163
  let v281 : BitVec 32 := Scalar.addi v279 v280
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_164 : BitVec 32 := 1#32
  let v282 : BitVec 32 := Scalar.muli v8 c1_i32_164
  let v283 : BitVec 32 := Scalar.addi v281 v282
  v283.toNat
def k0_dev16 (d0 : Dev nD) : Nat :=
  let c0_i32_169 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_168 : BitVec 32 := 4#32
  let v290 : BitVec 32 := Scalar.muli v12 c4_i32_168
  let v291 : BitVec 32 := Scalar.addi c0_i32_169 v290
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_170 : BitVec 32 := 2#32
  let v292 : BitVec 32 := Scalar.muli v13 c2_i32_170
  let v293 : BitVec 32 := Scalar.addi v291 v292
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_171 : BitVec 32 := 1#32
  let v294 : BitVec 32 := Scalar.muli v8 c1_i32_171
  let v295 : BitVec 32 := Scalar.addi v293 v294
  v295.toNat
def k0_dev17 (d0 : Dev nD) : Nat :=
  let c0_i32_189 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_188 : BitVec 32 := 4#32
  let v326 : BitVec 32 := Scalar.muli v2 c4_i32_188
  let v327 : BitVec 32 := Scalar.addi c0_i32_189 v326
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_190 : BitVec 32 := 2#32
  let v328 : BitVec 32 := Scalar.muli v5 c2_i32_190
  let v329 : BitVec 32 := Scalar.addi v327 v328
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_191 : BitVec 32 := 1#32
  let v330 : BitVec 32 := Scalar.muli v9 c1_i32_191
  let v331 : BitVec 32 := Scalar.addi v329 v330
  v331.toNat
def k0_dev18 (d0 : Dev nD) : Nat :=
  let c0_i32_196 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_195 : BitVec 32 := 4#32
  let v338 : BitVec 32 := Scalar.muli v10 c4_i32_195
  let v339 : BitVec 32 := Scalar.addi c0_i32_196 v338
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_197 : BitVec 32 := 2#32
  let v340 : BitVec 32 := Scalar.muli v5 c2_i32_197
  let v341 : BitVec 32 := Scalar.addi v339 v340
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_198 : BitVec 32 := 1#32
  let v342 : BitVec 32 := Scalar.muli v8 c1_i32_198
  let v343 : BitVec 32 := Scalar.addi v341 v342
  v343.toNat
def k0_dev19 (d0 : Dev nD) : Nat :=
  let c0_i32_203 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_202 : BitVec 32 := 4#32
  let v350 : BitVec 32 := Scalar.muli v2 c4_i32_202
  let v351 : BitVec 32 := Scalar.addi c0_i32_203 v350
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_204 : BitVec 32 := 2#32
  let v352 : BitVec 32 := Scalar.muli v11 c2_i32_204
  let v353 : BitVec 32 := Scalar.addi v351 v352
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_205 : BitVec 32 := 1#32
  let v354 : BitVec 32 := Scalar.muli v8 c1_i32_205
  let v355 : BitVec 32 := Scalar.addi v353 v354
  v355.toNat
def k0_dev20 (d0 : Dev nD) : Nat :=
  let c0_i32_210 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_209 : BitVec 32 := 4#32
  let v362 : BitVec 32 := Scalar.muli v12 c4_i32_209
  let v363 : BitVec 32 := Scalar.addi c0_i32_210 v362
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_211 : BitVec 32 := 2#32
  let v364 : BitVec 32 := Scalar.muli v13 c2_i32_211
  let v365 : BitVec 32 := Scalar.addi v363 v364
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_212 : BitVec 32 := 1#32
  let v366 : BitVec 32 := Scalar.muli v8 c1_i32_212
  let v367 : BitVec 32 := Scalar.addi v365 v366
  v367.toNat
def k0_off5 (d0 : Dev nD) : Fin 3 → Nat :=
  let c4_i32_215 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v374 : BitVec 32 := Scalar.muli c4_i32_215 v2
  let c2_i32_216 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v375 : BitVec 32 := Scalar.muli c2_i32_216 v5
  let v376 : BitVec 32 := Scalar.addi v374 v375
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v377 : BitVec 32 := Scalar.addi v376 v8
  let c0_i32_217 : BitVec 32 := 0#32
  let c0_i32_218 : BitVec 32 := 0#32
  ![v377.toNat, 0, 0]
def k0_dev21 (d0 : Dev nD) : Nat :=
  let c0_i32_229 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_228 : BitVec 32 := 4#32
  let v398 : BitVec 32 := Scalar.muli v2 c4_i32_228
  let v399 : BitVec 32 := Scalar.addi c0_i32_229 v398
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_230 : BitVec 32 := 2#32
  let v400 : BitVec 32 := Scalar.muli v5 c2_i32_230
  let v401 : BitVec 32 := Scalar.addi v399 v400
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_231 : BitVec 32 := 1#32
  let v402 : BitVec 32 := Scalar.muli v9 c1_i32_231
  let v403 : BitVec 32 := Scalar.addi v401 v402
  v403.toNat
def k0_dev22 (d0 : Dev nD) : Nat :=
  let c0_i32_236 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_235 : BitVec 32 := 4#32
  let v410 : BitVec 32 := Scalar.muli v10 c4_i32_235
  let v411 : BitVec 32 := Scalar.addi c0_i32_236 v410
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_237 : BitVec 32 := 2#32
  let v412 : BitVec 32 := Scalar.muli v5 c2_i32_237
  let v413 : BitVec 32 := Scalar.addi v411 v412
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_238 : BitVec 32 := 1#32
  let v414 : BitVec 32 := Scalar.muli v8 c1_i32_238
  let v415 : BitVec 32 := Scalar.addi v413 v414
  v415.toNat
def k0_dev23 (d0 : Dev nD) : Nat :=
  let c0_i32_243 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_242 : BitVec 32 := 4#32
  let v422 : BitVec 32 := Scalar.muli v2 c4_i32_242
  let v423 : BitVec 32 := Scalar.addi c0_i32_243 v422
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_244 : BitVec 32 := 2#32
  let v424 : BitVec 32 := Scalar.muli v11 c2_i32_244
  let v425 : BitVec 32 := Scalar.addi v423 v424
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_245 : BitVec 32 := 1#32
  let v426 : BitVec 32 := Scalar.muli v8 c1_i32_245
  let v427 : BitVec 32 := Scalar.addi v425 v426
  v427.toNat
def k0_dev24 (d0 : Dev nD) : Nat :=
  let c0_i32_250 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_249 : BitVec 32 := 4#32
  let v434 : BitVec 32 := Scalar.muli v12 c4_i32_249
  let v435 : BitVec 32 := Scalar.addi c0_i32_250 v434
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_251 : BitVec 32 := 2#32
  let v436 : BitVec 32 := Scalar.muli v13 c2_i32_251
  let v437 : BitVec 32 := Scalar.addi v435 v436
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_252 : BitVec 32 := 1#32
  let v438 : BitVec 32 := Scalar.muli v8 c1_i32_252
  let v439 : BitVec 32 := Scalar.addi v437 v438
  v439.toNat
def k0_dev25 (d0 : Dev nD) : Nat :=
  let c0_i32_269 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_268 : BitVec 32 := 4#32
  let v470 : BitVec 32 := Scalar.muli v2 c4_i32_268
  let v471 : BitVec 32 := Scalar.addi c0_i32_269 v470
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_270 : BitVec 32 := 2#32
  let v472 : BitVec 32 := Scalar.muli v5 c2_i32_270
  let v473 : BitVec 32 := Scalar.addi v471 v472
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_271 : BitVec 32 := 1#32
  let v474 : BitVec 32 := Scalar.muli v9 c1_i32_271
  let v475 : BitVec 32 := Scalar.addi v473 v474
  v475.toNat
def k0_dev26 (d0 : Dev nD) : Nat :=
  let c0_i32_276 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_275 : BitVec 32 := 4#32
  let v482 : BitVec 32 := Scalar.muli v10 c4_i32_275
  let v483 : BitVec 32 := Scalar.addi c0_i32_276 v482
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_277 : BitVec 32 := 2#32
  let v484 : BitVec 32 := Scalar.muli v5 c2_i32_277
  let v485 : BitVec 32 := Scalar.addi v483 v484
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_278 : BitVec 32 := 1#32
  let v486 : BitVec 32 := Scalar.muli v8 c1_i32_278
  let v487 : BitVec 32 := Scalar.addi v485 v486
  v487.toNat
def k0_dev27 (d0 : Dev nD) : Nat :=
  let c0_i32_283 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_282 : BitVec 32 := 4#32
  let v494 : BitVec 32 := Scalar.muli v2 c4_i32_282
  let v495 : BitVec 32 := Scalar.addi c0_i32_283 v494
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_284 : BitVec 32 := 2#32
  let v496 : BitVec 32 := Scalar.muli v11 c2_i32_284
  let v497 : BitVec 32 := Scalar.addi v495 v496
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_285 : BitVec 32 := 1#32
  let v498 : BitVec 32 := Scalar.muli v8 c1_i32_285
  let v499 : BitVec 32 := Scalar.addi v497 v498
  v499.toNat
def k0_dev28 (d0 : Dev nD) : Nat :=
  let c0_i32_290 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_289 : BitVec 32 := 4#32
  let v506 : BitVec 32 := Scalar.muli v12 c4_i32_289
  let v507 : BitVec 32 := Scalar.addi c0_i32_290 v506
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_291 : BitVec 32 := 2#32
  let v508 : BitVec 32 := Scalar.muli v13 c2_i32_291
  let v509 : BitVec 32 := Scalar.addi v507 v508
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_292 : BitVec 32 := 1#32
  let v510 : BitVec 32 := Scalar.muli v8 c1_i32_292
  let v511 : BitVec 32 := Scalar.addi v509 v510
  v511.toNat
def k0_dev29 (d0 : Dev nD) : Nat :=
  let c0_i32_310 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_309 : BitVec 32 := 4#32
  let v542 : BitVec 32 := Scalar.muli v2 c4_i32_309
  let v543 : BitVec 32 := Scalar.addi c0_i32_310 v542
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_311 : BitVec 32 := 2#32
  let v544 : BitVec 32 := Scalar.muli v5 c2_i32_311
  let v545 : BitVec 32 := Scalar.addi v543 v544
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_312 : BitVec 32 := 1#32
  let v546 : BitVec 32 := Scalar.muli v9 c1_i32_312
  let v547 : BitVec 32 := Scalar.addi v545 v546
  v547.toNat
def k0_dev30 (d0 : Dev nD) : Nat :=
  let c0_i32_317 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_316 : BitVec 32 := 4#32
  let v554 : BitVec 32 := Scalar.muli v10 c4_i32_316
  let v555 : BitVec 32 := Scalar.addi c0_i32_317 v554
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_318 : BitVec 32 := 2#32
  let v556 : BitVec 32 := Scalar.muli v5 c2_i32_318
  let v557 : BitVec 32 := Scalar.addi v555 v556
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_319 : BitVec 32 := 1#32
  let v558 : BitVec 32 := Scalar.muli v8 c1_i32_319
  let v559 : BitVec 32 := Scalar.addi v557 v558
  v559.toNat
def k0_dev31 (d0 : Dev nD) : Nat :=
  let c0_i32_324 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_323 : BitVec 32 := 4#32
  let v566 : BitVec 32 := Scalar.muli v2 c4_i32_323
  let v567 : BitVec 32 := Scalar.addi c0_i32_324 v566
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_325 : BitVec 32 := 2#32
  let v568 : BitVec 32 := Scalar.muli v11 c2_i32_325
  let v569 : BitVec 32 := Scalar.addi v567 v568
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_326 : BitVec 32 := 1#32
  let v570 : BitVec 32 := Scalar.muli v8 c1_i32_326
  let v571 : BitVec 32 := Scalar.addi v569 v570
  v571.toNat
def k0_dev32 (d0 : Dev nD) : Nat :=
  let c0_i32_331 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_330 : BitVec 32 := 4#32
  let v578 : BitVec 32 := Scalar.muli v12 c4_i32_330
  let v579 : BitVec 32 := Scalar.addi c0_i32_331 v578
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_332 : BitVec 32 := 2#32
  let v580 : BitVec 32 := Scalar.muli v13 c2_i32_332
  let v581 : BitVec 32 := Scalar.addi v579 v580
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_333 : BitVec 32 := 1#32
  let v582 : BitVec 32 := Scalar.muli v8 c1_i32_333
  let v583 : BitVec 32 := Scalar.addi v581 v582
  v583.toNat
def k0_dev33 (d0 : Dev nD) : Nat :=
  let c0_i32_351 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_350 : BitVec 32 := 4#32
  let v614 : BitVec 32 := Scalar.muli v2 c4_i32_350
  let v615 : BitVec 32 := Scalar.addi c0_i32_351 v614
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_352 : BitVec 32 := 2#32
  let v616 : BitVec 32 := Scalar.muli v5 c2_i32_352
  let v617 : BitVec 32 := Scalar.addi v615 v616
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_353 : BitVec 32 := 1#32
  let v618 : BitVec 32 := Scalar.muli v9 c1_i32_353
  let v619 : BitVec 32 := Scalar.addi v617 v618
  v619.toNat
def k0_dev34 (d0 : Dev nD) : Nat :=
  let c0_i32_358 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_357 : BitVec 32 := 4#32
  let v626 : BitVec 32 := Scalar.muli v10 c4_i32_357
  let v627 : BitVec 32 := Scalar.addi c0_i32_358 v626
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_359 : BitVec 32 := 2#32
  let v628 : BitVec 32 := Scalar.muli v5 c2_i32_359
  let v629 : BitVec 32 := Scalar.addi v627 v628
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_360 : BitVec 32 := 1#32
  let v630 : BitVec 32 := Scalar.muli v8 c1_i32_360
  let v631 : BitVec 32 := Scalar.addi v629 v630
  v631.toNat
def k0_dev35 (d0 : Dev nD) : Nat :=
  let c0_i32_365 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_364 : BitVec 32 := 4#32
  let v638 : BitVec 32 := Scalar.muli v2 c4_i32_364
  let v639 : BitVec 32 := Scalar.addi c0_i32_365 v638
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_366 : BitVec 32 := 2#32
  let v640 : BitVec 32 := Scalar.muli v11 c2_i32_366
  let v641 : BitVec 32 := Scalar.addi v639 v640
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_367 : BitVec 32 := 1#32
  let v642 : BitVec 32 := Scalar.muli v8 c1_i32_367
  let v643 : BitVec 32 := Scalar.addi v641 v642
  v643.toNat
def k0_dev36 (d0 : Dev nD) : Nat :=
  let c0_i32_372 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_371 : BitVec 32 := 4#32
  let v650 : BitVec 32 := Scalar.muli v12 c4_i32_371
  let v651 : BitVec 32 := Scalar.addi c0_i32_372 v650
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_373 : BitVec 32 := 2#32
  let v652 : BitVec 32 := Scalar.muli v13 c2_i32_373
  let v653 : BitVec 32 := Scalar.addi v651 v652
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_374 : BitVec 32 := 1#32
  let v654 : BitVec 32 := Scalar.muli v8 c1_i32_374
  let v655 : BitVec 32 := Scalar.addi v653 v654
  v655.toNat
def k0_off6 (d0 : Dev nD) : Fin 3 → Nat :=
  let c4_i32_383 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v674 : BitVec 32 := Scalar.muli c4_i32_383 v10
  let c2_i32_384 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v675 : BitVec 32 := Scalar.muli c2_i32_384 v5
  let v676 : BitVec 32 := Scalar.addi v674 v675
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v677 : BitVec 32 := Scalar.addi v676 v8
  let c0_i32_391 : BitVec 32 := 0#32
  let c0_i32_392 : BitVec 32 := 0#32
  ![v677.toNat, 0, 0]
def k0_dev37 (d0 : Dev nD) : Nat :=
  let c0_i32_398 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_397 : BitVec 32 := 4#32
  let v690 : BitVec 32 := Scalar.muli v2 c4_i32_397
  let v691 : BitVec 32 := Scalar.addi c0_i32_398 v690
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_399 : BitVec 32 := 2#32
  let v692 : BitVec 32 := Scalar.muli v5 c2_i32_399
  let v693 : BitVec 32 := Scalar.addi v691 v692
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_400 : BitVec 32 := 1#32
  let v694 : BitVec 32 := Scalar.muli v9 c1_i32_400
  let v695 : BitVec 32 := Scalar.addi v693 v694
  v695.toNat
def k0_off7 (d0 : Dev nD) : Fin 3 → Nat :=
  let c4_i32_405 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v704 : BitVec 32 := Scalar.muli c4_i32_405 v2
  let c2_i32_406 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v705 : BitVec 32 := Scalar.muli c2_i32_406 v11
  let v706 : BitVec 32 := Scalar.addi v704 v705
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v707 : BitVec 32 := Scalar.addi v706 v8
  let c0_i32_413 : BitVec 32 := 0#32
  let c0_i32_414 : BitVec 32 := 0#32
  ![v707.toNat, 0, 0]
def k0_dev38 (d0 : Dev nD) : Nat :=
  let c0_i32_420 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_419 : BitVec 32 := 4#32
  let v720 : BitVec 32 := Scalar.muli v2 c4_i32_419
  let v721 : BitVec 32 := Scalar.addi c0_i32_420 v720
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_421 : BitVec 32 := 2#32
  let v722 : BitVec 32 := Scalar.muli v5 c2_i32_421
  let v723 : BitVec 32 := Scalar.addi v721 v722
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_422 : BitVec 32 := 1#32
  let v724 : BitVec 32 := Scalar.muli v9 c1_i32_422
  let v725 : BitVec 32 := Scalar.addi v723 v724
  v725.toNat
def k0_off8 (d0 : Dev nD) : Fin 3 → Nat :=
  let c4_i32_427 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v734 : BitVec 32 := Scalar.muli c4_i32_427 v12
  let c2_i32_428 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v735 : BitVec 32 := Scalar.muli c2_i32_428 v13
  let v736 : BitVec 32 := Scalar.addi v734 v735
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v737 : BitVec 32 := Scalar.addi v736 v8
  let c0_i32_435 : BitVec 32 := 0#32
  let c0_i32_436 : BitVec 32 := 0#32
  ![v737.toNat, 0, 0]
def k0_dev39 (d0 : Dev nD) : Nat :=
  let c0_i32_442 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_441 : BitVec 32 := 4#32
  let v750 : BitVec 32 := Scalar.muli v2 c4_i32_441
  let v751 : BitVec 32 := Scalar.addi c0_i32_442 v750
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_443 : BitVec 32 := 2#32
  let v752 : BitVec 32 := Scalar.muli v5 c2_i32_443
  let v753 : BitVec 32 := Scalar.addi v751 v752
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_444 : BitVec 32 := 1#32
  let v754 : BitVec 32 := Scalar.muli v9 c1_i32_444
  let v755 : BitVec 32 := Scalar.addi v753 v754
  v755.toNat
def k0_off9 (d0 : Dev nD) : Fin 3 → Nat :=
  let c4_i32_455 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v776 : BitVec 32 := Scalar.muli c4_i32_455 v10
  let c2_i32_456 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v777 : BitVec 32 := Scalar.muli c2_i32_456 v5
  let v778 : BitVec 32 := Scalar.addi v776 v777
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v779 : BitVec 32 := Scalar.addi v778 v8
  let c0_i32_463 : BitVec 32 := 0#32
  let c0_i32_464 : BitVec 32 := 0#32
  ![v779.toNat, 0, 0]
def k0_dev40 (d0 : Dev nD) : Nat :=
  let c0_i32_469 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_468 : BitVec 32 := 4#32
  let v792 : BitVec 32 := Scalar.muli v2 c4_i32_468
  let v793 : BitVec 32 := Scalar.addi c0_i32_469 v792
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_470 : BitVec 32 := 2#32
  let v794 : BitVec 32 := Scalar.muli v5 c2_i32_470
  let v795 : BitVec 32 := Scalar.addi v793 v794
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_471 : BitVec 32 := 1#32
  let v796 : BitVec 32 := Scalar.muli v9 c1_i32_471
  let v797 : BitVec 32 := Scalar.addi v795 v796
  v797.toNat
def k0_off10 (d0 : Dev nD) : Fin 3 → Nat :=
  let c4_i32_476 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v806 : BitVec 32 := Scalar.muli c4_i32_476 v2
  let c2_i32_477 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v807 : BitVec 32 := Scalar.muli c2_i32_477 v11
  let v808 : BitVec 32 := Scalar.addi v806 v807
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v809 : BitVec 32 := Scalar.addi v808 v8
  let c0_i32_484 : BitVec 32 := 0#32
  let c0_i32_485 : BitVec 32 := 0#32
  ![v809.toNat, 0, 0]
def k0_dev41 (d0 : Dev nD) : Nat :=
  let c0_i32_490 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_489 : BitVec 32 := 4#32
  let v822 : BitVec 32 := Scalar.muli v2 c4_i32_489
  let v823 : BitVec 32 := Scalar.addi c0_i32_490 v822
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_491 : BitVec 32 := 2#32
  let v824 : BitVec 32 := Scalar.muli v5 c2_i32_491
  let v825 : BitVec 32 := Scalar.addi v823 v824
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_492 : BitVec 32 := 1#32
  let v826 : BitVec 32 := Scalar.muli v9 c1_i32_492
  let v827 : BitVec 32 := Scalar.addi v825 v826
  v827.toNat
def k0_off11 (d0 : Dev nD) : Fin 3 → Nat :=
  let c4_i32_497 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v836 : BitVec 32 := Scalar.muli c4_i32_497 v12
  let c2_i32_498 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v837 : BitVec 32 := Scalar.muli c2_i32_498 v13
  let v838 : BitVec 32 := Scalar.addi v836 v837
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v839 : BitVec 32 := Scalar.addi v838 v8
  let c0_i32_505 : BitVec 32 := 0#32
  let c0_i32_506 : BitVec 32 := 0#32
  ![v839.toNat, 0, 0]
def k0_dev42 (d0 : Dev nD) : Nat :=
  let c0_i32_511 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_510 : BitVec 32 := 4#32
  let v852 : BitVec 32 := Scalar.muli v2 c4_i32_510
  let v853 : BitVec 32 := Scalar.addi c0_i32_511 v852
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_512 : BitVec 32 := 2#32
  let v854 : BitVec 32 := Scalar.muli v5 c2_i32_512
  let v855 : BitVec 32 := Scalar.addi v853 v854
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_513 : BitVec 32 := 1#32
  let v856 : BitVec 32 := Scalar.muli v9 c1_i32_513
  let v857 : BitVec 32 := Scalar.addi v855 v856
  v857.toNat
def k0_off12 (d0 : Dev nD) : Fin 3 → Nat :=
  let c4_i32_524 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v878 : BitVec 32 := Scalar.muli c4_i32_524 v10
  let c2_i32_525 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v879 : BitVec 32 := Scalar.muli c2_i32_525 v5
  let v880 : BitVec 32 := Scalar.addi v878 v879
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v881 : BitVec 32 := Scalar.addi v880 v8
  let c0_i32_532 : BitVec 32 := 0#32
  let c0_i32_533 : BitVec 32 := 0#32
  ![v881.toNat, 0, 0]
def k0_dev43 (d0 : Dev nD) : Nat :=
  let c0_i32_538 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_537 : BitVec 32 := 4#32
  let v894 : BitVec 32 := Scalar.muli v2 c4_i32_537
  let v895 : BitVec 32 := Scalar.addi c0_i32_538 v894
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_539 : BitVec 32 := 2#32
  let v896 : BitVec 32 := Scalar.muli v5 c2_i32_539
  let v897 : BitVec 32 := Scalar.addi v895 v896
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_540 : BitVec 32 := 1#32
  let v898 : BitVec 32 := Scalar.muli v9 c1_i32_540
  let v899 : BitVec 32 := Scalar.addi v897 v898
  v899.toNat
def k0_off13 (d0 : Dev nD) : Fin 3 → Nat :=
  let c4_i32_545 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v908 : BitVec 32 := Scalar.muli c4_i32_545 v2
  let c2_i32_546 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v909 : BitVec 32 := Scalar.muli c2_i32_546 v11
  let v910 : BitVec 32 := Scalar.addi v908 v909
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v911 : BitVec 32 := Scalar.addi v910 v8
  let c0_i32_553 : BitVec 32 := 0#32
  let c0_i32_554 : BitVec 32 := 0#32
  ![v911.toNat, 0, 0]
def k0_dev44 (d0 : Dev nD) : Nat :=
  let c0_i32_559 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_558 : BitVec 32 := 4#32
  let v924 : BitVec 32 := Scalar.muli v2 c4_i32_558
  let v925 : BitVec 32 := Scalar.addi c0_i32_559 v924
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_560 : BitVec 32 := 2#32
  let v926 : BitVec 32 := Scalar.muli v5 c2_i32_560
  let v927 : BitVec 32 := Scalar.addi v925 v926
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_561 : BitVec 32 := 1#32
  let v928 : BitVec 32 := Scalar.muli v9 c1_i32_561
  let v929 : BitVec 32 := Scalar.addi v927 v928
  v929.toNat
def k0_off14 (d0 : Dev nD) : Fin 3 → Nat :=
  let c4_i32_566 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v938 : BitVec 32 := Scalar.muli c4_i32_566 v12
  let c2_i32_567 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v939 : BitVec 32 := Scalar.muli c2_i32_567 v13
  let v940 : BitVec 32 := Scalar.addi v938 v939
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v941 : BitVec 32 := Scalar.addi v940 v8
  let c0_i32_574 : BitVec 32 := 0#32
  let c0_i32_575 : BitVec 32 := 0#32
  ![v941.toNat, 0, 0]
def k0_dev45 (d0 : Dev nD) : Nat :=
  let c0_i32_580 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_579 : BitVec 32 := 4#32
  let v954 : BitVec 32 := Scalar.muli v2 c4_i32_579
  let v955 : BitVec 32 := Scalar.addi c0_i32_580 v954
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_581 : BitVec 32 := 2#32
  let v956 : BitVec 32 := Scalar.muli v5 c2_i32_581
  let v957 : BitVec 32 := Scalar.addi v955 v956
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_582 : BitVec 32 := 1#32
  let v958 : BitVec 32 := Scalar.muli v9 c1_i32_582
  let v959 : BitVec 32 := Scalar.addi v957 v958
  v959.toNat
def k0_off15 (d0 : Dev nD) : Fin 3 → Nat :=
  let c4_i32_593 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v980 : BitVec 32 := Scalar.muli c4_i32_593 v10
  let c2_i32_594 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v981 : BitVec 32 := Scalar.muli c2_i32_594 v5
  let v982 : BitVec 32 := Scalar.addi v980 v981
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v983 : BitVec 32 := Scalar.addi v982 v8
  let c0_i32_601 : BitVec 32 := 0#32
  let c0_i32_602 : BitVec 32 := 0#32
  ![v983.toNat, 0, 0]
def k0_dev46 (d0 : Dev nD) : Nat :=
  let c0_i32_607 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_606 : BitVec 32 := 4#32
  let v996 : BitVec 32 := Scalar.muli v2 c4_i32_606
  let v997 : BitVec 32 := Scalar.addi c0_i32_607 v996
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_608 : BitVec 32 := 2#32
  let v998 : BitVec 32 := Scalar.muli v5 c2_i32_608
  let v999 : BitVec 32 := Scalar.addi v997 v998
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_609 : BitVec 32 := 1#32
  let v1000 : BitVec 32 := Scalar.muli v9 c1_i32_609
  let v1001 : BitVec 32 := Scalar.addi v999 v1000
  v1001.toNat
def k0_off16 (d0 : Dev nD) : Fin 3 → Nat :=
  let c4_i32_614 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1010 : BitVec 32 := Scalar.muli c4_i32_614 v2
  let c2_i32_615 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1011 : BitVec 32 := Scalar.muli c2_i32_615 v11
  let v1012 : BitVec 32 := Scalar.addi v1010 v1011
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1013 : BitVec 32 := Scalar.addi v1012 v8
  let c0_i32_622 : BitVec 32 := 0#32
  let c0_i32_623 : BitVec 32 := 0#32
  ![v1013.toNat, 0, 0]
def k0_dev47 (d0 : Dev nD) : Nat :=
  let c0_i32_628 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_627 : BitVec 32 := 4#32
  let v1026 : BitVec 32 := Scalar.muli v2 c4_i32_627
  let v1027 : BitVec 32 := Scalar.addi c0_i32_628 v1026
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_629 : BitVec 32 := 2#32
  let v1028 : BitVec 32 := Scalar.muli v5 c2_i32_629
  let v1029 : BitVec 32 := Scalar.addi v1027 v1028
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_630 : BitVec 32 := 1#32
  let v1030 : BitVec 32 := Scalar.muli v9 c1_i32_630
  let v1031 : BitVec 32 := Scalar.addi v1029 v1030
  v1031.toNat
def k0_off17 (d0 : Dev nD) : Fin 3 → Nat :=
  let c4_i32_635 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1040 : BitVec 32 := Scalar.muli c4_i32_635 v12
  let c2_i32_636 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1041 : BitVec 32 := Scalar.muli c2_i32_636 v13
  let v1042 : BitVec 32 := Scalar.addi v1040 v1041
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1043 : BitVec 32 := Scalar.addi v1042 v8
  let c0_i32_643 : BitVec 32 := 0#32
  let c0_i32_644 : BitVec 32 := 0#32
  ![v1043.toNat, 0, 0]
def k0_dev48 (d0 : Dev nD) : Nat :=
  let c0_i32_649 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_648 : BitVec 32 := 4#32
  let v1056 : BitVec 32 := Scalar.muli v2 c4_i32_648
  let v1057 : BitVec 32 := Scalar.addi c0_i32_649 v1056
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_650 : BitVec 32 := 2#32
  let v1058 : BitVec 32 := Scalar.muli v5 c2_i32_650
  let v1059 : BitVec 32 := Scalar.addi v1057 v1058
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_651 : BitVec 32 := 1#32
  let v1060 : BitVec 32 := Scalar.muli v9 c1_i32_651
  let v1061 : BitVec 32 := Scalar.addi v1059 v1060
  v1061.toNat
def k0_dev49 (d0 : Dev nD) : Nat :=
  let c0_i32_676 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_675 : BitVec 32 := 4#32
  let v1098 : BitVec 32 := Scalar.muli v2 c4_i32_675
  let v1099 : BitVec 32 := Scalar.addi c0_i32_676 v1098
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_677 : BitVec 32 := 2#32
  let v1100 : BitVec 32 := Scalar.muli v5 c2_i32_677
  let v1101 : BitVec 32 := Scalar.addi v1099 v1100
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_678 : BitVec 32 := 1#32
  let v1102 : BitVec 32 := Scalar.muli v9 c1_i32_678
  let v1103 : BitVec 32 := Scalar.addi v1101 v1102
  v1103.toNat
def k0_dev50 (d0 : Dev nD) : Nat :=
  let c0_i32_697 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_696 : BitVec 32 := 4#32
  let v1128 : BitVec 32 := Scalar.muli v2 c4_i32_696
  let v1129 : BitVec 32 := Scalar.addi c0_i32_697 v1128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_698 : BitVec 32 := 2#32
  let v1130 : BitVec 32 := Scalar.muli v5 c2_i32_698
  let v1131 : BitVec 32 := Scalar.addi v1129 v1130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_699 : BitVec 32 := 1#32
  let v1132 : BitVec 32 := Scalar.muli v9 c1_i32_699
  let v1133 : BitVec 32 := Scalar.addi v1131 v1132
  v1133.toNat
def k0_dev51 (d0 : Dev nD) : Nat :=
  let c0_i32_718 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_717 : BitVec 32 := 4#32
  let v1158 : BitVec 32 := Scalar.muli v2 c4_i32_717
  let v1159 : BitVec 32 := Scalar.addi c0_i32_718 v1158
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_719 : BitVec 32 := 2#32
  let v1160 : BitVec 32 := Scalar.muli v5 c2_i32_719
  let v1161 : BitVec 32 := Scalar.addi v1159 v1160
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_720 : BitVec 32 := 1#32
  let v1162 : BitVec 32 := Scalar.muli v9 c1_i32_720
  let v1163 : BitVec 32 := Scalar.addi v1161 v1162
  v1163.toNat
def k0_off18 (d0 : Dev nD) : Fin 3 → Nat :=
  let c4_i32_731 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1184 : BitVec 32 := Scalar.muli c4_i32_731 v10
  let c2_i32_732 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1185 : BitVec 32 := Scalar.muli c2_i32_732 v5
  let v1186 : BitVec 32 := Scalar.addi v1184 v1185
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1187 : BitVec 32 := Scalar.addi v1186 v8
  let c0_i32_739 : BitVec 32 := 0#32
  let c0_i32_740 : BitVec 32 := 0#32
  ![v1187.toNat, 0, 0]
def k0_dev52 (d0 : Dev nD) : Nat :=
  let c0_i32_745 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_744 : BitVec 32 := 4#32
  let v1200 : BitVec 32 := Scalar.muli v2 c4_i32_744
  let v1201 : BitVec 32 := Scalar.addi c0_i32_745 v1200
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_746 : BitVec 32 := 2#32
  let v1202 : BitVec 32 := Scalar.muli v5 c2_i32_746
  let v1203 : BitVec 32 := Scalar.addi v1201 v1202
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_747 : BitVec 32 := 1#32
  let v1204 : BitVec 32 := Scalar.muli v9 c1_i32_747
  let v1205 : BitVec 32 := Scalar.addi v1203 v1204
  v1205.toNat
def k0_off19 (d0 : Dev nD) : Fin 3 → Nat :=
  let c4_i32_752 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1214 : BitVec 32 := Scalar.muli c4_i32_752 v2
  let c2_i32_753 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1215 : BitVec 32 := Scalar.muli c2_i32_753 v11
  let v1216 : BitVec 32 := Scalar.addi v1214 v1215
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1217 : BitVec 32 := Scalar.addi v1216 v8
  let c0_i32_760 : BitVec 32 := 0#32
  let c0_i32_761 : BitVec 32 := 0#32
  ![v1217.toNat, 0, 0]
def k0_dev53 (d0 : Dev nD) : Nat :=
  let c0_i32_766 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_765 : BitVec 32 := 4#32
  let v1230 : BitVec 32 := Scalar.muli v2 c4_i32_765
  let v1231 : BitVec 32 := Scalar.addi c0_i32_766 v1230
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_767 : BitVec 32 := 2#32
  let v1232 : BitVec 32 := Scalar.muli v5 c2_i32_767
  let v1233 : BitVec 32 := Scalar.addi v1231 v1232
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_768 : BitVec 32 := 1#32
  let v1234 : BitVec 32 := Scalar.muli v9 c1_i32_768
  let v1235 : BitVec 32 := Scalar.addi v1233 v1234
  v1235.toNat
def k0_off20 (d0 : Dev nD) : Fin 3 → Nat :=
  let c4_i32_773 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1244 : BitVec 32 := Scalar.muli c4_i32_773 v12
  let c2_i32_774 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1245 : BitVec 32 := Scalar.muli c2_i32_774 v13
  let v1246 : BitVec 32 := Scalar.addi v1244 v1245
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1247 : BitVec 32 := Scalar.addi v1246 v8
  let c0_i32_781 : BitVec 32 := 0#32
  let c0_i32_782 : BitVec 32 := 0#32
  ![v1247.toNat, 0, 0]
def k0_dev54 (d0 : Dev nD) : Nat :=
  let c0_i32_787 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_786 : BitVec 32 := 4#32
  let v1260 : BitVec 32 := Scalar.muli v2 c4_i32_786
  let v1261 : BitVec 32 := Scalar.addi c0_i32_787 v1260
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_788 : BitVec 32 := 2#32
  let v1262 : BitVec 32 := Scalar.muli v5 c2_i32_788
  let v1263 : BitVec 32 := Scalar.addi v1261 v1262
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_789 : BitVec 32 := 1#32
  let v1264 : BitVec 32 := Scalar.muli v9 c1_i32_789
  let v1265 : BitVec 32 := Scalar.addi v1263 v1264
  v1265.toNat
def k0_dev55 (d0 : Dev nD) : Nat :=
  let c0_i32_814 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_813 : BitVec 32 := 4#32
  let v1302 : BitVec 32 := Scalar.muli v2 c4_i32_813
  let v1303 : BitVec 32 := Scalar.addi c0_i32_814 v1302
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_815 : BitVec 32 := 2#32
  let v1304 : BitVec 32 := Scalar.muli v5 c2_i32_815
  let v1305 : BitVec 32 := Scalar.addi v1303 v1304
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_816 : BitVec 32 := 1#32
  let v1306 : BitVec 32 := Scalar.muli v9 c1_i32_816
  let v1307 : BitVec 32 := Scalar.addi v1305 v1306
  v1307.toNat
def k0_dev56 (d0 : Dev nD) : Nat :=
  let c0_i32_835 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_834 : BitVec 32 := 4#32
  let v1332 : BitVec 32 := Scalar.muli v2 c4_i32_834
  let v1333 : BitVec 32 := Scalar.addi c0_i32_835 v1332
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_836 : BitVec 32 := 2#32
  let v1334 : BitVec 32 := Scalar.muli v5 c2_i32_836
  let v1335 : BitVec 32 := Scalar.addi v1333 v1334
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_837 : BitVec 32 := 1#32
  let v1336 : BitVec 32 := Scalar.muli v9 c1_i32_837
  let v1337 : BitVec 32 := Scalar.addi v1335 v1336
  v1337.toNat
def k0_dev57 (d0 : Dev nD) : Nat :=
  let c0_i32_856 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_855 : BitVec 32 := 4#32
  let v1362 : BitVec 32 := Scalar.muli v2 c4_i32_855
  let v1363 : BitVec 32 := Scalar.addi c0_i32_856 v1362
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_857 : BitVec 32 := 2#32
  let v1364 : BitVec 32 := Scalar.muli v5 c2_i32_857
  let v1365 : BitVec 32 := Scalar.addi v1363 v1364
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_858 : BitVec 32 := 1#32
  let v1366 : BitVec 32 := Scalar.muli v9 c1_i32_858
  let v1367 : BitVec 32 := Scalar.addi v1365 v1366
  v1367.toNat
def k0_dev58 (d0 : Dev nD) : Nat :=
  let c0_i32_883 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_882 : BitVec 32 := 4#32
  let v1404 : BitVec 32 := Scalar.muli v2 c4_i32_882
  let v1405 : BitVec 32 := Scalar.addi c0_i32_883 v1404
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_884 : BitVec 32 := 2#32
  let v1406 : BitVec 32 := Scalar.muli v5 c2_i32_884
  let v1407 : BitVec 32 := Scalar.addi v1405 v1406
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_885 : BitVec 32 := 1#32
  let v1408 : BitVec 32 := Scalar.muli v9 c1_i32_885
  let v1409 : BitVec 32 := Scalar.addi v1407 v1408
  v1409.toNat
def k0_dev59 (d0 : Dev nD) : Nat :=
  let c0_i32_904 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_903 : BitVec 32 := 4#32
  let v1434 : BitVec 32 := Scalar.muli v2 c4_i32_903
  let v1435 : BitVec 32 := Scalar.addi c0_i32_904 v1434
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_905 : BitVec 32 := 2#32
  let v1436 : BitVec 32 := Scalar.muli v5 c2_i32_905
  let v1437 : BitVec 32 := Scalar.addi v1435 v1436
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_906 : BitVec 32 := 1#32
  let v1438 : BitVec 32 := Scalar.muli v9 c1_i32_906
  let v1439 : BitVec 32 := Scalar.addi v1437 v1438
  v1439.toNat
def k0_dev60 (d0 : Dev nD) : Nat :=
  let c0_i32_925 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_924 : BitVec 32 := 4#32
  let v1464 : BitVec 32 := Scalar.muli v2 c4_i32_924
  let v1465 : BitVec 32 := Scalar.addi c0_i32_925 v1464
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_926 : BitVec 32 := 2#32
  let v1466 : BitVec 32 := Scalar.muli v5 c2_i32_926
  let v1467 : BitVec 32 := Scalar.addi v1465 v1466
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_927 : BitVec 32 := 1#32
  let v1468 : BitVec 32 := Scalar.muli v9 c1_i32_927
  let v1469 : BitVec 32 := Scalar.addi v1467 v1468
  v1469.toNat
def k0_dev61 (d0 : Dev nD) : Nat :=
  let c0_i32_952 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_951 : BitVec 32 := 4#32
  let v1506 : BitVec 32 := Scalar.muli v2 c4_i32_951
  let v1507 : BitVec 32 := Scalar.addi c0_i32_952 v1506
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_953 : BitVec 32 := 2#32
  let v1508 : BitVec 32 := Scalar.muli v5 c2_i32_953
  let v1509 : BitVec 32 := Scalar.addi v1507 v1508
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_954 : BitVec 32 := 1#32
  let v1510 : BitVec 32 := Scalar.muli v9 c1_i32_954
  let v1511 : BitVec 32 := Scalar.addi v1509 v1510
  v1511.toNat
def k0_dev62 (d0 : Dev nD) : Nat :=
  let c0_i32_973 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_972 : BitVec 32 := 4#32
  let v1536 : BitVec 32 := Scalar.muli v2 c4_i32_972
  let v1537 : BitVec 32 := Scalar.addi c0_i32_973 v1536
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_974 : BitVec 32 := 2#32
  let v1538 : BitVec 32 := Scalar.muli v5 c2_i32_974
  let v1539 : BitVec 32 := Scalar.addi v1537 v1538
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_975 : BitVec 32 := 1#32
  let v1540 : BitVec 32 := Scalar.muli v9 c1_i32_975
  let v1541 : BitVec 32 := Scalar.addi v1539 v1540
  v1541.toNat
def k0_dev63 (d0 : Dev nD) : Nat :=
  let c0_i32_994 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_993 : BitVec 32 := 4#32
  let v1566 : BitVec 32 := Scalar.muli v2 c4_i32_993
  let v1567 : BitVec 32 := Scalar.addi c0_i32_994 v1566
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_995 : BitVec 32 := 2#32
  let v1568 : BitVec 32 := Scalar.muli v5 c2_i32_995
  let v1569 : BitVec 32 := Scalar.addi v1567 v1568
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_996 : BitVec 32 := 1#32
  let v1570 : BitVec 32 := Scalar.muli v9 c1_i32_996
  let v1571 : BitVec 32 := Scalar.addi v1569 v1570
  v1571.toNat
def k0_off21 (d0 : Dev nD) : Fin 3 → Nat :=
  let c4_i32_1001 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1580 : BitVec 32 := Scalar.muli c4_i32_1001 v2
  let c2_i32_1002 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1581 : BitVec 32 := Scalar.muli c2_i32_1002 v5
  let v1582 : BitVec 32 := Scalar.addi v1580 v1581
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1583 : BitVec 32 := Scalar.addi v1582 v9
  let c0_i32_1009 : BitVec 32 := 0#32
  let c0_i32_1010 : BitVec 32 := 0#32
  ![v1583.toNat, 0, 0]
def k0_off22 (d0 : Dev nD) : Fin 3 → Nat :=
  let c4_i32_1014 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1597 : BitVec 32 := Scalar.muli c4_i32_1014 v10
  let c2_i32_1015 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1598 : BitVec 32 := Scalar.muli c2_i32_1015 v5
  let v1599 : BitVec 32 := Scalar.addi v1597 v1598
  let c1_i32_1013 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1596 : BitVec 32 := Scalar.subi c1_i32_1013 v8
  let v1600 : BitVec 32 := Scalar.addi v1599 v1596
  let c0_i32_1022 : BitVec 32 := 0#32
  let c0_i32_1023 : BitVec 32 := 0#32
  ![v1600.toNat, 0, 0]
def k0_off23 (d0 : Dev nD) : Fin 3 → Nat :=
  let c4_i32_1027 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1614 : BitVec 32 := Scalar.muli c4_i32_1027 v2
  let c2_i32_1028 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1615 : BitVec 32 := Scalar.muli c2_i32_1028 v11
  let v1616 : BitVec 32 := Scalar.addi v1614 v1615
  let c1_i32_1026 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1613 : BitVec 32 := Scalar.subi c1_i32_1026 v8
  let v1617 : BitVec 32 := Scalar.addi v1616 v1613
  let c0_i32_1035 : BitVec 32 := 0#32
  let c0_i32_1036 : BitVec 32 := 0#32
  ![v1617.toNat, 0, 0]
def k0_off24 (d0 : Dev nD) : Fin 3 → Nat :=
  let c4_i32_1040 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1631 : BitVec 32 := Scalar.muli c4_i32_1040 v12
  let c2_i32_1041 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1632 : BitVec 32 := Scalar.muli c2_i32_1041 v13
  let v1633 : BitVec 32 := Scalar.addi v1631 v1632
  let c1_i32_1039 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1630 : BitVec 32 := Scalar.subi c1_i32_1039 v8
  let v1634 : BitVec 32 := Scalar.addi v1633 v1630
  let c0_i32_1048 : BitVec 32 := 0#32
  let c0_i32_1049 : BitVec 32 := 0#32
  ![v1634.toNat, 0, 0]
def k0_off25 (d0 : Dev nD) : Fin 3 → Nat :=
  let c4_i32_1096 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1685 : BitVec 32 := Scalar.muli c4_i32_1096 v2
  let c2_i32_1097 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1686 : BitVec 32 := Scalar.muli c2_i32_1097 v5
  let v1687 : BitVec 32 := Scalar.addi v1685 v1686
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1688 : BitVec 32 := Scalar.addi v1687 v9
  let c0_i32_1104 : BitVec 32 := 0#32
  let c0_i32_1105 : BitVec 32 := 0#32
  ![v1688.toNat, 0, 0]
def k0_off26 (d0 : Dev nD) : Fin 3 → Nat :=
  let c4_i32_1109 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1702 : BitVec 32 := Scalar.muli c4_i32_1109 v10
  let c2_i32_1110 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1703 : BitVec 32 := Scalar.muli c2_i32_1110 v5
  let v1704 : BitVec 32 := Scalar.addi v1702 v1703
  let c1_i32_1108 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1701 : BitVec 32 := Scalar.subi c1_i32_1108 v8
  let v1705 : BitVec 32 := Scalar.addi v1704 v1701
  let c0_i32_1117 : BitVec 32 := 0#32
  let c0_i32_1118 : BitVec 32 := 0#32
  ![v1705.toNat, 0, 0]
def k0_off27 (d0 : Dev nD) : Fin 3 → Nat :=
  let c4_i32_1122 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1719 : BitVec 32 := Scalar.muli c4_i32_1122 v2
  let c2_i32_1123 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1720 : BitVec 32 := Scalar.muli c2_i32_1123 v11
  let v1721 : BitVec 32 := Scalar.addi v1719 v1720
  let c1_i32_1121 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1718 : BitVec 32 := Scalar.subi c1_i32_1121 v8
  let v1722 : BitVec 32 := Scalar.addi v1721 v1718
  let c0_i32_1130 : BitVec 32 := 0#32
  let c0_i32_1131 : BitVec 32 := 0#32
  ![v1722.toNat, 0, 0]
def k0_off28 (d0 : Dev nD) : Fin 3 → Nat :=
  let c4_i32_1135 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1736 : BitVec 32 := Scalar.muli c4_i32_1135 v12
  let c2_i32_1136 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1737 : BitVec 32 := Scalar.muli c2_i32_1136 v13
  let v1738 : BitVec 32 := Scalar.addi v1736 v1737
  let c1_i32_1134 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1735 : BitVec 32 := Scalar.subi c1_i32_1134 v8
  let v1739 : BitVec 32 := Scalar.addi v1738 v1735
  let c0_i32_1143 : BitVec 32 := 0#32
  let c0_i32_1144 : BitVec 32 := 0#32
  ![v1739.toNat, 0, 0]
def k0_off29 (d0 : Dev nD) : Fin 3 → Nat :=
  let c4_i32_1191 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1790 : BitVec 32 := Scalar.muli c4_i32_1191 v2
  let c2_i32_1192 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1791 : BitVec 32 := Scalar.muli c2_i32_1192 v5
  let v1792 : BitVec 32 := Scalar.addi v1790 v1791
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1793 : BitVec 32 := Scalar.addi v1792 v9
  let c0_i32_1199 : BitVec 32 := 0#32
  let c0_i32_1200 : BitVec 32 := 0#32
  ![v1793.toNat, 0, 0]
def k0_off30 (d0 : Dev nD) : Fin 3 → Nat :=
  let c4_i32_1204 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1807 : BitVec 32 := Scalar.muli c4_i32_1204 v10
  let c2_i32_1205 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1808 : BitVec 32 := Scalar.muli c2_i32_1205 v5
  let v1809 : BitVec 32 := Scalar.addi v1807 v1808
  let c1_i32_1203 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1806 : BitVec 32 := Scalar.subi c1_i32_1203 v8
  let v1810 : BitVec 32 := Scalar.addi v1809 v1806
  let c0_i32_1212 : BitVec 32 := 0#32
  let c0_i32_1213 : BitVec 32 := 0#32
  ![v1810.toNat, 0, 0]
def k0_off31 (d0 : Dev nD) : Fin 3 → Nat :=
  let c4_i32_1217 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1824 : BitVec 32 := Scalar.muli c4_i32_1217 v2
  let c2_i32_1218 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1825 : BitVec 32 := Scalar.muli c2_i32_1218 v11
  let v1826 : BitVec 32 := Scalar.addi v1824 v1825
  let c1_i32_1216 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1823 : BitVec 32 := Scalar.subi c1_i32_1216 v8
  let v1827 : BitVec 32 := Scalar.addi v1826 v1823
  let c0_i32_1225 : BitVec 32 := 0#32
  let c0_i32_1226 : BitVec 32 := 0#32
  ![v1827.toNat, 0, 0]
def k0_off32 (d0 : Dev nD) : Fin 3 → Nat :=
  let c4_i32_1230 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1841 : BitVec 32 := Scalar.muli c4_i32_1230 v12
  let c2_i32_1231 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1842 : BitVec 32 := Scalar.muli c2_i32_1231 v13
  let v1843 : BitVec 32 := Scalar.addi v1841 v1842
  let c1_i32_1229 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1840 : BitVec 32 := Scalar.subi c1_i32_1229 v8
  let v1844 : BitVec 32 := Scalar.addi v1843 v1840
  let c0_i32_1238 : BitVec 32 := 0#32
  let c0_i32_1239 : BitVec 32 := 0#32
  ![v1844.toNat, 0, 0]
def k0_off33 (d0 : Dev nD) : Fin 3 → Nat :=
  let c4_i32_1286 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1895 : BitVec 32 := Scalar.muli c4_i32_1286 v2
  let c2_i32_1287 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1896 : BitVec 32 := Scalar.muli c2_i32_1287 v5
  let v1897 : BitVec 32 := Scalar.addi v1895 v1896
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1898 : BitVec 32 := Scalar.addi v1897 v9
  let c0_i32_1294 : BitVec 32 := 0#32
  let c0_i32_1295 : BitVec 32 := 0#32
  ![v1898.toNat, 0, 0]
def k0_off34 (d0 : Dev nD) : Fin 3 → Nat :=
  let c4_i32_1299 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1912 : BitVec 32 := Scalar.muli c4_i32_1299 v10
  let c2_i32_1300 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1913 : BitVec 32 := Scalar.muli c2_i32_1300 v5
  let v1914 : BitVec 32 := Scalar.addi v1912 v1913
  let c1_i32_1298 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1911 : BitVec 32 := Scalar.subi c1_i32_1298 v8
  let v1915 : BitVec 32 := Scalar.addi v1914 v1911
  let c0_i32_1307 : BitVec 32 := 0#32
  let c0_i32_1308 : BitVec 32 := 0#32
  ![v1915.toNat, 0, 0]
def k0_off35 (d0 : Dev nD) : Fin 3 → Nat :=
  let c4_i32_1312 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1929 : BitVec 32 := Scalar.muli c4_i32_1312 v2
  let c2_i32_1313 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1930 : BitVec 32 := Scalar.muli c2_i32_1313 v11
  let v1931 : BitVec 32 := Scalar.addi v1929 v1930
  let c1_i32_1311 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1928 : BitVec 32 := Scalar.subi c1_i32_1311 v8
  let v1932 : BitVec 32 := Scalar.addi v1931 v1928
  let c0_i32_1320 : BitVec 32 := 0#32
  let c0_i32_1321 : BitVec 32 := 0#32
  ![v1932.toNat, 0, 0]
def k0_off36 (d0 : Dev nD) : Fin 3 → Nat :=
  let c4_i32_1325 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1946 : BitVec 32 := Scalar.muli c4_i32_1325 v12
  let c2_i32_1326 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1947 : BitVec 32 := Scalar.muli c2_i32_1326 v13
  let v1948 : BitVec 32 := Scalar.addi v1946 v1947
  let c1_i32_1324 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1945 : BitVec 32 := Scalar.subi c1_i32_1324 v8
  let v1949 : BitVec 32 := Scalar.addi v1948 v1945
  let c0_i32_1333 : BitVec 32 := 0#32
  let c0_i32_1334 : BitVec 32 := 0#32
  ![v1949.toNat, 0, 0]
def k0_off37 (d0 : Dev nD) : Fin 3 → Nat :=
  let c4_i32_1476 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2105 : BitVec 32 := Scalar.muli c4_i32_1476 v2
  let c2_i32_1477 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2106 : BitVec 32 := Scalar.muli c2_i32_1477 v5
  let v2107 : BitVec 32 := Scalar.addi v2105 v2106
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v2108 : BitVec 32 := Scalar.addi v2107 v9
  let c0_i32_1484 : BitVec 32 := 0#32
  let c0_i32_1485 : BitVec 32 := 0#32
  ![v2108.toNat, 0, 0]
def k0_off38 (d0 : Dev nD) : Fin 3 → Nat :=
  let c4_i32_1489 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v2122 : BitVec 32 := Scalar.muli c4_i32_1489 v10
  let c2_i32_1490 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2123 : BitVec 32 := Scalar.muli c2_i32_1490 v5
  let v2124 : BitVec 32 := Scalar.addi v2122 v2123
  let c1_i32_1488 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2121 : BitVec 32 := Scalar.subi c1_i32_1488 v8
  let v2125 : BitVec 32 := Scalar.addi v2124 v2121
  let c0_i32_1497 : BitVec 32 := 0#32
  let c0_i32_1498 : BitVec 32 := 0#32
  ![v2125.toNat, 0, 0]
def k0_off39 (d0 : Dev nD) : Fin 3 → Nat :=
  let c4_i32_1502 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2139 : BitVec 32 := Scalar.muli c4_i32_1502 v2
  let c2_i32_1503 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v2140 : BitVec 32 := Scalar.muli c2_i32_1503 v11
  let v2141 : BitVec 32 := Scalar.addi v2139 v2140
  let c1_i32_1501 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2138 : BitVec 32 := Scalar.subi c1_i32_1501 v8
  let v2142 : BitVec 32 := Scalar.addi v2141 v2138
  let c0_i32_1510 : BitVec 32 := 0#32
  let c0_i32_1511 : BitVec 32 := 0#32
  ![v2142.toNat, 0, 0]
def k0_off40 (d0 : Dev nD) : Fin 3 → Nat :=
  let c4_i32_1515 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v2156 : BitVec 32 := Scalar.muli c4_i32_1515 v12
  let c2_i32_1516 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v2157 : BitVec 32 := Scalar.muli c2_i32_1516 v13
  let v2158 : BitVec 32 := Scalar.addi v2156 v2157
  let c1_i32_1514 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2155 : BitVec 32 := Scalar.subi c1_i32_1514 v8
  let v2159 : BitVec 32 := Scalar.addi v2158 v2155
  let c0_i32_1523 : BitVec 32 := 0#32
  let c0_i32_1524 : BitVec 32 := 0#32
  ![v2159.toNat, 0, 0]
-- ==== Whole.lean ====
abbrev S8192x704 : Shape := ⟨2, ![8192, 704]⟩
abbrev S2816x1024 : Shape := ⟨2, ![2816, 1024]⟩
abbrev S8192x321 : Shape := ⟨2, ![8192, 321]⟩
abbrev S1024x1024 : Shape := ⟨2, ![1024, 1024]⟩
abbrev S8192x256 : Shape := ⟨2, ![8192, 256]⟩
abbrev S8x1024x704 : Shape := ⟨3, ![8, 1024, 704]⟩
abbrev S8x352x1024 : Shape := ⟨3, ![8, 352, 1024]⟩
abbrev S8x1024x321 : Shape := ⟨3, ![8, 1024, 321]⟩
abbrev S8x128x1024 : Shape := ⟨3, ![8, 128, 1024]⟩
abbrev S8x1024x256 : Shape := ⟨3, ![8, 1024, 256]⟩

abbrev nBuf : Space → Nat
  | .hbm => 18
  | .vmem => 0
  | .smem => 0
  | _ => 0

abbrev bufTy : (tb : Table) → Fin (tcTables nBuf tb) → BufTy
  | .hbm, ⟨0, _⟩ => ⟨S8192x704, .bf16⟩
  | .hbm, ⟨1, _⟩ => ⟨S2816x1024, .bf16⟩
  | .hbm, ⟨2, _⟩ => ⟨S8192x321, .bf16⟩
  | .hbm, ⟨3, _⟩ => ⟨S1024x1024, .bf16⟩
  | .hbm, ⟨4, _⟩ => ⟨S1024x1024, .bf16⟩
  | .hbm, ⟨5, _⟩ => ⟨S8192x256, .bf16⟩
  | .hbm, ⟨6, _⟩ => ⟨S1024x1024, .bf16⟩
  | .hbm, ⟨7, _⟩ => ⟨S8192x704, .bf16⟩
  | .hbm, ⟨8, _⟩ => ⟨S2816x1024, .bf16⟩
  | .hbm, ⟨9, _⟩ => ⟨S8x1024x704, .bf16⟩
  | .hbm, ⟨10, _⟩ => ⟨S8x352x1024, .bf16⟩
  | .hbm, ⟨11, _⟩ => ⟨S8x1024x321, .bf16⟩
  | .hbm, ⟨12, _⟩ => ⟨S8x128x1024, .bf16⟩
  | .hbm, ⟨13, _⟩ => ⟨S8x128x1024, .bf16⟩
  | .hbm, ⟨14, _⟩ => ⟨S8x1024x256, .bf16⟩
  | .hbm, ⟨15, _⟩ => ⟨S8x128x1024, .bf16⟩
  | .hbm, ⟨16, _⟩ => ⟨S8x1024x704, .bf16⟩
  | .hbm, ⟨17, _⟩ => ⟨S8x352x1024, .bf16⟩
  | _, _ => ⟨S8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩

abbrev nD : Nat := 1
abbrev τ : Topo := Topo.v7x

variable {F : FTy → Type} [FloatOps F]
-- ==== Up.lean ====
abbrev S8x1024x704 : Shape := ⟨3, ![8, 1024, 704]⟩
abbrev S1024x704 : Shape := ⟨2, ![1024, 704]⟩
abbrev S8x256x704 : Shape := ⟨3, ![8, 256, 704]⟩
abbrev S256x704 : Shape := ⟨2, ![256, 704]⟩
abbrev S1x256x704 : Shape := ⟨3, ![1, 256, 704]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .local _ .vmem, ⟨0, _⟩ => ⟨S8x256x704, .bf16⟩
  | .local _ .vmem, ⟨1, _⟩ => ⟨S8x256x704, .bf16⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpIdeal.lean ====
abbrev S8x1024x704 : Shape := ⟨3, ![8, 1024, 704]⟩
abbrev S1024x704 : Shape := ⟨2, ![1024, 704]⟩
abbrev S8x256x704 : Shape := ⟨3, ![8, 256, 704]⟩
abbrev S256x704 : Shape := ⟨2, ![256, 704]⟩
abbrev S1x256x704 : Shape := ⟨3, ![1, 256, 704]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .local _ .vmem, ⟨0, _⟩ => ⟨S8x256x704, .bf16⟩
  | .local _ .vmem, ⟨1, _⟩ => ⟨S8x256x704, .bf16⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpWholeIdeal.lean ====
abbrev S8x1024x704 : Shape := ⟨3, ![8, 1024, 704]⟩
abbrev S1024x704 : Shape := ⟨2, ![1024, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S8x1024x704, .f32⟩
  | .hbm, ⟨5, _⟩ => ⟨S_, .f32⟩
  | .hbm, ⟨6, _⟩ => ⟨S1024x704, .f32⟩
  | .hbm, ⟨7, _⟩ => ⟨S_, .f32⟩
  | .hbm, ⟨8, _⟩ => ⟨S1024x704, .f32⟩
  | .hbm, ⟨9, _⟩ => ⟨S1024x704, .f32⟩
  | .hbm, ⟨10, _⟩ => ⟨S_, .f32⟩
  | .hbm, ⟨11, _⟩ => ⟨S1024x704, .f32⟩
  | .hbm, ⟨12, _⟩ => ⟨S1024x704, .f32⟩
  | .hbm, ⟨13, _⟩ => ⟨S1024x704, .f32⟩
  | .hbm, ⟨14, _⟩ => ⟨S_, .f32⟩
  | .hbm, ⟨15, _⟩ => ⟨S1024x704, .f32⟩
  | .hbm, ⟨16, _⟩ => ⟨S1024x704, .f32⟩
  | .hbm, ⟨17, _⟩ => ⟨S1024x704, .f32⟩
  | .hbm, ⟨18, _⟩ => ⟨S_, .f32⟩
  | .hbm, ⟨19, _⟩ => ⟨S1024x704, .f32⟩
  | .hbm, ⟨20, _⟩ => ⟨S1024x704, .f32⟩
  | .hbm, ⟨21, _⟩ => ⟨S1024x704, .f32⟩
  | .hbm, ⟨22, _⟩ => ⟨S_, .f32⟩
  | .hbm, ⟨23, _⟩ => ⟨S1024x704, .f32⟩
  | .hbm, ⟨24, _⟩ => ⟨S1024x704, .f32⟩
  | .hbm, ⟨25, _⟩ => ⟨S_, .f32⟩
  | .hbm, ⟨26, _⟩ => ⟨S1024x704, .f32⟩
  | .hbm, ⟨27, _⟩ => ⟨S1024x704, .f32⟩
  | .hbm, ⟨28, _⟩ => ⟨S1024x704, .f32⟩
  | .hbm, ⟨29, _⟩ => ⟨S_, .f32⟩
  | .hbm, ⟨30, _⟩ => ⟨S1024x704, .f32⟩
  | .hbm, ⟨31, _⟩ => ⟨S1024x704, .f32⟩
  | .hbm, ⟨32, _⟩ => ⟨S1024x704, .f32⟩
  | .hbm, ⟨33, _⟩ => ⟨S_, .f32⟩
  | .hbm, ⟨34, _⟩ => ⟨S1024x704, .f32⟩
  | .hbm, ⟨35, _⟩ => ⟨S1024x704, .f32⟩
  | .hbm, ⟨36, _⟩ => ⟨S1024x704, .f32⟩
  | .hbm, ⟨37, _⟩ => ⟨S_, .f32⟩
  | .hbm, ⟨38, _⟩ => ⟨S1024x704, .f32⟩
  | .hbm, ⟨39, _⟩ => ⟨S1024x704, .f32⟩
  | _, _ => ⟨S8x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Down.lean ====
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x352x1024, .bf16⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== DownIdeal.lean ====
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x352x1024, .bf16⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== DownWholeIdeal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Mix.lean ====
abbrev S8x1024x321 : Shape := ⟨3, ![8, 1024, 321]⟩
abbrev S1024x321 : Shape := ⟨2, ![1024, 321]⟩
abbrev S8x256x321 : Shape := ⟨3, ![8, 256, 321]⟩
abbrev S256x321 : Shape := ⟨2, ![256, 321]⟩
abbrev S1x256x321 : Shape := ⟨3, ![1, 256, 321]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x321, .bf16⟩
  | .hbm, ⟨1, _⟩ => ⟨S1024x321, .f32⟩
  | .hbm, ⟨2, _⟩ => ⟨S1024x321, .f32⟩
  | .hbm, ⟨3, _⟩ => ⟨S1024x321, .f32⟩
  | .hbm, ⟨4, _⟩ => ⟨S1024x321, .f32⟩
  | .hbm, ⟨5, _⟩ => ⟨S1024x321, .f32⟩
  | .hbm, ⟨6, _⟩ => ⟨S1024x321, .f32⟩
  | .hbm, ⟨7, _⟩ => ⟨S1024x321, .f32⟩
  | .local _ .vmem, ⟨0, _⟩ => ⟨S8x256x321, .bf16⟩
  | .local _ .vmem, ⟨1, _⟩ => ⟨S8x256x321, .bf16⟩
  | .local _ .vmem, ⟨2, _⟩ => ⟨S256x321, .f32⟩
  | .local _ .vmem, ⟨3, _⟩ => ⟨S256x321, .f32⟩
  | .local _ .vmem, ⟨4, _⟩ => ⟨S256x321, .f32⟩
  | .local _ .vmem, ⟨5, _⟩ => ⟨S256x321, .f32⟩
  | .local _ .vmem, ⟨6, _⟩ => ⟨S256x321, .f32⟩
  | .local _ .vmem, ⟨7, _⟩ => ⟨S256x321, .f32⟩
  | .local _ .vmem, ⟨8, _⟩ => ⟨S256x321, .f32⟩
  | .local _ .vmem, ⟨9, _⟩ => ⟨S256x321, .f32⟩
  | .local _ .vmem, ⟨10, _⟩ => ⟨S256x321, .f32⟩
  | .local _ .vmem, ⟨11, _⟩ => ⟨S256x321, .f32⟩
  | .local _ .vmem, ⟨12, _⟩ => ⟨S256x321, .f32⟩
  | .local _ .vmem, ⟨13, _⟩ => ⟨S256x321, .f32⟩
  | .local _ .vmem, ⟨14, _⟩ => ⟨S256x321, .f32⟩
  | .local _ .vmem, ⟨15, _⟩ => ⟨S256x321, .f32⟩
  | _, _ => ⟨S8x1024x321, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x321 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x321 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x321 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x321 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x321 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x321 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x321 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x321 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixIdeal.lean ====
abbrev S8x1024x321 : Shape := ⟨3, ![8, 1024, 321]⟩
abbrev S1024x321 : Shape := ⟨2, ![1024, 321]⟩
abbrev S8x256x321 : Shape := ⟨3, ![8, 256, 321]⟩
abbrev S256x321 : Shape := ⟨2, ![256, 321]⟩
abbrev S1x256x321 : Shape := ⟨3, ![1, 256, 321]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x321, .bf16⟩
  | .hbm, ⟨1, _⟩ => ⟨S1024x321, .f32⟩
  | .hbm, ⟨2, _⟩ => ⟨S1024x321, .f32⟩
  | .hbm, ⟨3, _⟩ => ⟨S1024x321, .f32⟩
  | .hbm, ⟨4, _⟩ => ⟨S1024x321, .f32⟩
  | .hbm, ⟨5, _⟩ => ⟨S1024x321, .f32⟩
  | .hbm, ⟨6, _⟩ => ⟨S1024x321, .f32⟩
  | .hbm, ⟨7, _⟩ => ⟨S1024x321, .f32⟩
  | .local _ .vmem, ⟨0, _⟩ => ⟨S8x256x321, .bf16⟩
  | .local _ .vmem, ⟨1, _⟩ => ⟨S8x256x321, .bf16⟩
  | .local _ .vmem, ⟨2, _⟩ => ⟨S256x321, .f32⟩
  | .local _ .vmem, ⟨3, _⟩ => ⟨S256x321, .f32⟩
  | .local _ .vmem, ⟨4, _⟩ => ⟨S256x321, .f32⟩
  | .local _ .vmem, ⟨5, _⟩ => ⟨S256x321, .f32⟩
  | .local _ .vmem, ⟨6, _⟩ => ⟨S256x321, .f32⟩
  | .local _ .vmem, ⟨7, _⟩ => ⟨S256x321, .f32⟩
  | .local _ .vmem, ⟨8, _⟩ => ⟨S256x321, .f32⟩
  | .local _ .vmem, ⟨9, _⟩ => ⟨S256x321, .f32⟩
  | .local _ .vmem, ⟨10, _⟩ => ⟨S256x321, .f32⟩
  | .local _ .vmem, ⟨11, _⟩ => ⟨S256x321, .f32⟩
  | .local _ .vmem, ⟨12, _⟩ => ⟨S256x321, .f32⟩
  | .local _ .vmem, ⟨13, _⟩ => ⟨S256x321, .f32⟩
  | .local _ .vmem, ⟨14, _⟩ => ⟨S256x321, .f32⟩
  | .local _ .vmem, ⟨15, _⟩ => ⟨S256x321, .f32⟩
  | _, _ => ⟨S8x1024x321, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x321 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x321 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x321 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x321 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x321 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x321 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x321 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x321 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixWholeIdeal.lean ====
abbrev S8x1024x321 : Shape := ⟨3, ![8, 1024, 321]⟩
abbrev S1024x321 : Shape := ⟨2, ![1024, 321]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x321, .bf16⟩
  | .hbm, ⟨1, _⟩ => ⟨S1024x321, .f32⟩
  | .hbm, ⟨2, _⟩ => ⟨S1024x321, .f32⟩
  | .hbm, ⟨3, _⟩ => ⟨S1024x321, .f32⟩
  | .hbm, ⟨4, _⟩ => ⟨S8x1024x321, .f32⟩
  | .hbm, ⟨5, _⟩ => ⟨S_, .f32⟩
  | .hbm, ⟨6, _⟩ => ⟨S1024x321, .f32⟩
  | .hbm, ⟨7, _⟩ => ⟨S_, .f32⟩
  | .hbm, ⟨8, _⟩ => ⟨S1024x321, .f32⟩
  | .hbm, ⟨9, _⟩ => ⟨S1024x321, .f32⟩
  | .hbm, ⟨10, _⟩ => ⟨S_, .f32⟩
  | .hbm, ⟨11, _⟩ => ⟨S1024x321, .f32⟩
  | .hbm, ⟨12, _⟩ => ⟨S1024x321, .f32⟩
  | .hbm, ⟨13, _⟩ => ⟨S1024x321, .f32⟩
  | .hbm, ⟨14, _⟩ => ⟨S_, .f32⟩
  | .hbm, ⟨15, _⟩ => ⟨S1024x321, .f32⟩
  | .hbm, ⟨16, _⟩ => ⟨S1024x321, .f32⟩
  | .hbm, ⟨17, _⟩ => ⟨S1024x321, .f32⟩
  | .hbm, ⟨18, _⟩ => ⟨S_, .f32⟩
  | .hbm, ⟨19, _⟩ => ⟨S1024x321, .f32⟩
  | .hbm, ⟨20, _⟩ => ⟨S1024x321, .f32⟩
  | .hbm, ⟨21, _⟩ => ⟨S1024x321, .f32⟩
  | .hbm, ⟨22, _⟩ => ⟨S_, .f32⟩
  | .hbm, ⟨23, _⟩ => ⟨S1024x321, .f32⟩
  | .hbm, ⟨24, _⟩ => ⟨S1024x321, .f32⟩
  | .hbm, ⟨25, _⟩ => ⟨S_, .f32⟩
  | .hbm, ⟨26, _⟩ => ⟨S1024x321, .f32⟩
  | .hbm, ⟨27, _⟩ => ⟨S1024x321, .f32⟩
  | .hbm, ⟨28, _⟩ => ⟨S1024x321, .f32⟩
  | .hbm, ⟨29, _⟩ => ⟨S_, .f32⟩
  | .hbm, ⟨30, _⟩ => ⟨S1024x321, .f32⟩
  | .hbm, ⟨31, _⟩ => ⟨S1024x321, .f32⟩
  | .hbm, ⟨32, _⟩ => ⟨S1024x321, .f32⟩
  | .hbm, ⟨33, _⟩ => ⟨S_, .f32⟩
  | .hbm, ⟨34, _⟩ => ⟨S1024x321, .f32⟩
  | .hbm, ⟨35, _⟩ => ⟨S1024x321, .f32⟩
  | .hbm, ⟨36, _⟩ => ⟨S1024x321, .f32⟩
  | .hbm, ⟨37, _⟩ => ⟨S_, .f32⟩
  | .hbm, ⟨38, _⟩ => ⟨S1024x321, .f32⟩
  | .hbm, ⟨39, _⟩ => ⟨S1024x321, .f32⟩
  | _, _ => ⟨S8x1024x321, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Out.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== OutIdeal.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== OutWholeIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Pair.lean ====
abbrev S8x1024x256 : Shape := ⟨3, ![8, 1024, 256]⟩
abbrev S1024x256 : Shape := ⟨2, ![1024, 256]⟩
abbrev S8x256x256 : Shape := ⟨3, ![8, 256, 256]⟩
abbrev S256x256 : Shape := ⟨2, ![256, 256]⟩
abbrev S1x256x256 : Shape := ⟨3, ![1, 256, 256]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x256, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S8x256x256, .bf16⟩
  | .local _ .vmem, ⟨1, _⟩ => ⟨S8x256x256, .bf16⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PairWholeIdeal.lean ====
abbrev S8x1024x256 : Shape := ⟨3, ![8, 1024, 256]⟩
abbrev S1024x256 : Shape := ⟨2, ![1024, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x256, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S8x1024x256, .f32⟩
  | .hbm, ⟨5, _⟩ => ⟨S_, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S_, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S_, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S_, .f32⟩
  | .hbm, ⟨19, _⟩ => ⟨S1024x256, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S_, .f32⟩
  | .hbm, ⟨26, _⟩ => ⟨S1024x256, .f32⟩
  | .hbm, ⟨27, _⟩ => ⟨S1024x256, .f32⟩
  | .hbm, ⟨28, _⟩ => ⟨S1024x256, .f32⟩
  | .hbm, ⟨29, _⟩ => ⟨S_, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S_, .f32⟩
  | .hbm, ⟨34, _⟩ => ⟨S1024x256, .f32⟩
  | .hbm, ⟨35, _⟩ => ⟨S1024x256, .f32⟩
  | .hbm, ⟨36, _⟩ => ⟨S1024x256, .f32⟩
  | .hbm, ⟨37, _⟩ => ⟨S_, .f32⟩
  | .hbm, ⟨38, _⟩ => ⟨S1024x256, .f32⟩
  | .hbm, ⟨39, _⟩ => ⟨S1024x256, .f32⟩
  | _, _ => ⟨S8x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Back.lean ====
abbrev S2x4x4096x704 : Shape := ⟨4, ![2, 4, 4096, 704]⟩
abbrev S2x4x1024x704 : Shape := ⟨4, ![2, 4, 1024, 704]⟩
abbrev S4096x1024 : Shape := ⟨2, ![4096, 1024]⟩
abbrev S1x1024 : Shape := ⟨2, ![1, 1024]⟩
abbrev S2x1x512x704 : Shape := ⟨4, ![2, 1, 512, 704]⟩
abbrev S2x1x1024x704 : Shape := ⟨4, ![2, 1, 1024, 704]⟩
abbrev S512x1024 : Shape := ⟨2, ![512, 1024]⟩
abbrev S1x1x512x704 : Shape := ⟨4, ![1, 1, 512, 704]⟩
abbrev S512x704 : Shape := ⟨2, ![512, 704]⟩
abbrev S1x1x1024x704 : Shape := ⟨4, ![1, 1, 1024, 704]⟩
abbrev S1024x704 : Shape := ⟨2, ![1024, 704]⟩
abbrev S512 : Shape := ⟨1, ![512]⟩
abbrev S512x1 : Shape := ⟨2, ![512, 1]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S2x4x4096x704, .bf16⟩
  | .hbm, ⟨1, _⟩ => ⟨S2x4x1024x704, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S2x1x512x704, .bf16⟩
  | .local _ .vmem, ⟨1, _⟩ => ⟨S2x1x512x704, .bf16⟩
  | .local _ .vmem, ⟨2, _⟩ => ⟨S2x1x1024x704, .bf16⟩
  | .local _ .vmem, ⟨3, _⟩ => ⟨S2x1x1024x704, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S2x4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_18 : BitVec 32 := 0#32
  let v19 : BitVec 1 := Scalar.cmpi .ne v18 c0_i32_18
  v19

def k0_cond4 (i : grid0.Coords) : BitVec 1 :=
  let arg0 : BitVec 32 := BitVec.ofNat 32 (i 0).val
  let c0_i32_34 : BitVec 32 := 0#32
  let v49 : BitVec 1 := Scalar.cmpi .eq arg0 c0_i32_34
  let v52 : BitVec 32 := Scalar.extui v49
  let c0_i32_36 : BitVec 32 := 0#32
  let v53 : BitVec 1 := Scalar.cmpi .ne v52 c0_i32_36
  v53

def k0_cond5 (i : grid0.Coords) : BitVec 1 :=
  let arg0 : BitVec 32 := BitVec.ofNat 32 (i 0).val
  let c0_i32_34 : BitVec 32 := 0#32
  let v49 : BitVec 1 := Scalar.cmpi .eq arg0 c0_i32_34
  let v_true : BitVec 1 := 1#1
  let v54 : BitVec 1 := Scalar.xori v49 v_true
  let v55 : BitVec 32 := Scalar.extui v54
  let c0_i32_37 : BitVec 32 := 0#32
  let v56 : BitVec 1 := Scalar.cmpi .ne v55 c0_i32_37
  v56

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== BackWholeIdeal.lean ====
abbrev S2x4x4096x704 : Shape := ⟨4, ![2, 4, 4096, 704]⟩
abbrev S2x4x1024x704 : Shape := ⟨4, ![2, 4, 1024, 704]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 38
  | .vmem => 0
  | .smem => 0
  | _ => 0

abbrev bufTy : (tb : Table) → Fin (tcTables nBuf tb) → BufTy
  | .hbm, ⟨0, _⟩ => ⟨S2x4x4096x704, .bf16⟩
  | .hbm, ⟨1, _⟩ => ⟨S2x4x1024x704, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | _, _ => ⟨S2x4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Loss.lean ====
abbrev S4x4096x704 : Shape := ⟨3, ![4, 4096, 704]⟩
abbrev S4x704x1024 : Shape := ⟨3, ![4, 704, 1024]⟩
abbrev S4096x1024 : Shape := ⟨2, ![4096, 1024]⟩
abbrev S8x128 : Shape := ⟨2, ![8, 128]⟩
abbrev S1x512x704 : Shape := ⟨3, ![1, 512, 704]⟩
abbrev S1x704x1024 : Shape := ⟨3, ![1, 704, 1024]⟩
abbrev S512x1024 : Shape := ⟨2, ![512, 1024]⟩
abbrev S512x704 : Shape := ⟨2, ![512, 704]⟩
abbrev S704x1024 : Shape := ⟨2, ![704, 1024]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 7
  | .vmem => 14
  | .smem => 0
  | _ => 0

abbrev bufTy : (tb : Table) → Fin (tcTables nBuf tb) → BufTy
  | .hbm, ⟨0, _⟩ => ⟨S4x4096x704, .bf16⟩
  | .hbm, ⟨1, _⟩ => ⟨S4x704x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S8x128, .f32⟩
  | .local _ .vmem, ⟨0, _⟩ => ⟨S1x512x704, .bf16⟩
  | .local _ .vmem, ⟨1, _⟩ => ⟨S1x512x704, .bf16⟩
  | .local _ .vmem, ⟨2, _⟩ => ⟨S1x704x1024, .bf16⟩
  | .local _ .vmem, ⟨3, _⟩ => ⟨S1x704x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x128, .f32⟩
  | .local _ .vmem, ⟨13, _⟩ => ⟨S512x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_9 : BitVec 32 := 0#32
  let v15 : BitVec 1 := Scalar.cmpi .ne v14 c0_i32_9
  v15

def k0_cond4 (i : grid0.Coords) : BitVec 1 :=
  let arg0 : BitVec 32 := BitVec.ofNat 32 (i 0).val
  let c0_i32_21 : BitVec 32 := 0#32
  let v32 : BitVec 1 := Scalar.cmpi .eq arg0 c0_i32_21
  let v33 : BitVec 32 := Scalar.extui v32
  let c0_i32_22 : BitVec 32 := 0#32
  let v34 : BitVec 1 := Scalar.cmpi .ne v33 c0_i32_22
  v34

def k0_cond5 (i : grid0.Coords) : BitVec 1 :=
  let arg0 : BitVec 32 := BitVec.ofNat 32 (i 0).val
  let c0_i32_23 : BitVec 32 := 0#32
  let v35 : BitVec 1 := Scalar.cmpi .sgt arg0 c0_i32_23
  let v36 : BitVec 32 := Scalar.extui v35
  let c0_i32_24 : BitVec 32 := 0#32
  let v37 : BitVec 1 := Scalar.cmpi .ne v36 c0_i32_24
  v37

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== LossWholeIdeal.lean ====
abbrev S4x4096x704 : Shape := ⟨3, ![4, 4096, 704]⟩
abbrev S4x704x1024 : Shape := ⟨3, ![4, 704, 1024]⟩
abbrev S4096x1024 : Shape := ⟨2, ![4096, 1024]⟩
abbrev S_ : Shape := ⟨0, ![]⟩
abbrev S8x128 : Shape := ⟨2, ![8, 128]⟩

abbrev nBuf : Space → Nat
  | .hbm => 18
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x704x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .bf16⟩
  | .hbm, ⟨14, _⟩ => ⟨S4096x1024, .f32⟩
  | .hbm, ⟨15, _⟩ => ⟨S_, .f32⟩
  | .hbm, ⟨16, _⟩ => ⟨S_, .f32⟩
  | .hbm, ⟨17, _⟩ => ⟨S8x128, .f32⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== GradUp.lean ====
abbrev S4096x1024 : Shape := ⟨2, ![4096, 1024]⟩
abbrev S8x4096x704 : Shape := ⟨3, ![8, 4096, 704]⟩
abbrev S8x1024x704 : Shape := ⟨3, ![8, 1024, 704]⟩
abbrev S512x1024 : Shape := ⟨2, ![512, 1024]⟩
abbrev S1x512x704 : Shape := ⟨3, ![1, 512, 704]⟩
abbrev S1x1024x704 : Shape := ⟨3, ![1, 1024, 704]⟩
abbrev S1024x704 : Shape := ⟨2, ![1024, 704]⟩
abbrev S512x704 : Shape := ⟨2, ![512, 704]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S8x4096x704, .bf16⟩
  | .hbm, ⟨2, _⟩ => ⟨S8x1024x704, .bf16⟩
  | .local _ .vmem, ⟨0, _⟩ => ⟨S512x1024, .bf16⟩
  | .local _ .vmem, ⟨1, _⟩ => ⟨S512x1024, .bf16⟩
  | .local _ .vmem, ⟨2, _⟩ => ⟨S1x512x704, .bf16⟩
  | .local _ .vmem, ⟨3, _⟩ => ⟨S1x512x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1024x704, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32 : BitVec 32 := 7#32
  let v10 : BitVec 1 := Scalar.cmpi .eq arg1 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradUpWholeIdeal.lean ====
abbrev S4096x1024 : Shape := ⟨2, ![4096, 1024]⟩
abbrev S8x4096x704 : Shape := ⟨3, ![8, 4096, 704]⟩
abbrev S8x704x1024 : Shape := ⟨3, ![8, 704, 1024]⟩
abbrev S8x1024x704 : Shape := ⟨3, ![8, 1024, 704]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x4096x704, .bf16⟩
  | .hbm, ⟨2, _⟩ => ⟨S8x704x1024, .f32⟩
  | .hbm, ⟨3, _⟩ => ⟨S8x1024x704, .f32⟩
  | .hbm, ⟨4, _⟩ => ⟨S8x1024x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GradDown.lean ====
abbrev S4x4096x704 : Shape := ⟨3, ![4, 4096, 704]⟩
abbrev S4096x1024 : Shape := ⟨2, ![4096, 1024]⟩
abbrev S4x704x1024 : Shape := ⟨3, ![4, 704, 1024]⟩
abbrev S1x512x704 : Shape := ⟨3, ![1, 512, 704]⟩
abbrev S512x1024 : Shape := ⟨2, ![512, 1024]⟩
abbrev S1x704x1024 : Shape := ⟨3, ![1, 704, 1024]⟩
abbrev S704x1024 : Shape := ⟨2, ![704, 1024]⟩
abbrev S512x704 : Shape := ⟨2, ![512, 704]⟩

abbrev nBuf : Space → Nat
  | .hbm => 3
  | .vmem => 7
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S4x704x1024, .bf16⟩
  | .local _ .vmem, ⟨0, _⟩ => ⟨S1x512x704, .bf16⟩
  | .local _ .vmem, ⟨1, _⟩ => ⟨S1x512x704, .bf16⟩
  | .local _ .vmem, ⟨2, _⟩ => ⟨S512x1024, .bf16⟩
  | .local _ .vmem, ⟨3, _⟩ => ⟨S512x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond3 (i : grid0.Coords) : BitVec 1 :=
  let arg1 : BitVec 32 := BitVec.ofNat 32 (i 1).val
  let c7_i32 : BitVec 32 := 7#32
  let v10 : BitVec 1 := Scalar.cmpi .eq arg1 c7_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradDownWholeIdeal.lean ====
abbrev S4x4096x704 : Shape := ⟨3, ![4, 4096, 704]⟩
abbrev S4096x1024 : Shape := ⟨2, ![4096, 1024]⟩
abbrev S4x704x1024 : Shape := ⟨3, ![4, 704, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S4x704x1024, .f32⟩
  | .hbm, ⟨3, _⟩ => ⟨S_, .f32⟩
  | .hbm, ⟨4, _⟩ => ⟨S4x704x1024, .f32⟩
  | .hbm, ⟨5, _⟩ => ⟨S4x704x1024, .f32⟩
  | .hbm, ⟨6, _⟩ => ⟨S4x704x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Forth.lean ====
abbrev S4x4096x704 : Shape := ⟨3, ![4, 4096, 704]⟩
abbrev S4x704x1024 : Shape := ⟨3, ![4, 704, 1024]⟩
abbrev S4096x1024 : Shape := ⟨2, ![4096, 1024]⟩
abbrev S1x512x704 : Shape := ⟨3, ![1, 512, 704]⟩
abbrev S1x704x1024 : Shape := ⟨3, ![1, 704, 1024]⟩
abbrev S512x1024 : Shape := ⟨2, ![512, 1024]⟩
abbrev S512x704 : Shape := ⟨2, ![512, 704]⟩
abbrev S704x1024 : Shape := ⟨2, ![704, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4x4096x704, .bf16⟩
  | .hbm, ⟨1, _⟩ => ⟨S4x704x1024, .bf16⟩
  | .hbm, ⟨2, _⟩ => ⟨S4096x1024, .f32⟩
  | .hbm, ⟨3, _⟩ => ⟨S4096x1024, .f32⟩
  | .local _ .vmem, ⟨0, _⟩ => ⟨S1x512x704, .bf16⟩
  | .local _ .vmem, ⟨1, _⟩ => ⟨S1x512x704, .bf16⟩
  | .local _ .vmem, ⟨2, _⟩ => ⟨S1x704x1024, .bf16⟩
  | .local _ .vmem, ⟨3, _⟩ => ⟨S1x704x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v7 : BitVec 1 := Scalar.cmpi .eq arg1 c0_i32
  let v8 : BitVec 32 := Scalar.extui v7
  let c0_i32_6 : BitVec 32 := 0#32
  let v9 : BitVec 1 := Scalar.cmpi .ne v8 c0_i32_6
  v9

def k0_cond2 (i : grid0.Coords) : BitVec 1 :=
  let arg1 : BitVec 32 := BitVec.ofNat 32 (i 1).val
  let c0_i32_7 : BitVec 32 := 0#32
  let v10 : BitVec 1 := Scalar.cmpi .sgt arg1 c0_i32_7
  let v11 : BitVec 32 := Scalar.extui v10
  let c0_i32_8 : BitVec 32 := 0#32
  let v12 : BitVec 1 := Scalar.cmpi .ne v11 c0_i32_8
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ForthWholeIdeal.lean ====
abbrev S4x4096x704 : Shape := ⟨3, ![4, 4096, 704]⟩
abbrev S4x704x1024 : Shape := ⟨3, ![4, 704, 1024]⟩
abbrev S4096x1024 : Shape := ⟨2, ![4096, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x704x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proj.lean ====
abbrev S4096x1024 : Shape := ⟨2, ![4096, 1024]⟩
abbrev S1x1024 : Shape := ⟨2, ![1, 1024]⟩
abbrev S1024x2688 : Shape := ⟨2, ![1024, 2688]⟩
abbrev S4096x2688 : Shape := ⟨2, ![4096, 2688]⟩
abbrev S256x1024 : Shape := ⟨2, ![256, 1024]⟩
abbrev S256x2688 : Shape := ⟨2, ![256, 2688]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2688, .bf16⟩
  | .hbm, ⟨3, _⟩ => ⟨S4096x2688, .f32⟩
  | .hbm, ⟨4, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2688, .bf16⟩
  | .local _ .vmem, ⟨4, _⟩ => ⟨S256x2688, .f32⟩
  | .local _ .vmem, ⟨5, _⟩ => ⟨S256x2688, .f32⟩
  | .local _ .vmem, ⟨6, _⟩ => ⟨S256x1024, .bf16⟩
  | .local _ .vmem, ⟨7, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2688 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjWholeIdeal.lean ====
abbrev S4096x1024 : Shape := ⟨2, ![4096, 1024]⟩
abbrev S1x1024 : Shape := ⟨2, ![1, 1024]⟩
abbrev S1024x2688 : Shape := ⟨2, ![1024, 2688]⟩
abbrev S_ : Shape := ⟨0, ![]⟩
abbrev S4096 : Shape := ⟨1, ![4096]⟩
abbrev S4096x1 : Shape := ⟨2, ![4096, 1]⟩
abbrev S4096x2688 : Shape := ⟨2, ![4096, 2688]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2688, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S4096x2688, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Act.lean ====
abbrev S4096x1024 : Shape := ⟨2, ![4096, 1024]⟩
abbrev S2x4x1024x704 : Shape := ⟨4, ![2, 4, 1024, 704]⟩
abbrev S4x704x1024 : Shape := ⟨3, ![4, 704, 1024]⟩
abbrev S2x4x4096x704 : Shape := ⟨4, ![2, 4, 4096, 704]⟩
abbrev S512x1024 : Shape := ⟨2, ![512, 1024]⟩
abbrev S2x1x1024x704 : Shape := ⟨4, ![2, 1, 1024, 704]⟩
abbrev S1x704x1024 : Shape := ⟨3, ![1, 704, 1024]⟩
abbrev S2x1x512x704 : Shape := ⟨4, ![2, 1, 512, 704]⟩
abbrev S704x1024 : Shape := ⟨2, ![704, 1024]⟩
abbrev S512x704 : Shape := ⟨2, ![512, 704]⟩
abbrev S1x1x1024x704 : Shape := ⟨4, ![1, 1, 1024, 704]⟩
abbrev S1024x704 : Shape := ⟨2, ![1024, 704]⟩
abbrev S1x1x512x704 : Shape := ⟨4, ![1, 1, 512, 704]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2x4x1024x704, .bf16⟩
  | .hbm, ⟨3, _⟩ => ⟨S4x704x1024, .bf16⟩
  | .hbm, ⟨4, _⟩ => ⟨S2x4x4096x704, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2x1x1024x704, .bf16⟩
  | .local _ .vmem, ⟨5, _⟩ => ⟨S2x1x1024x704, .bf16⟩
  | .local _ .vmem, ⟨6, _⟩ => ⟨S1x704x1024, .bf16⟩
  | .local _ .vmem, ⟨7, _⟩ => ⟨S1x704x1024, .bf16⟩
  | .local _ .vmem, ⟨8, _⟩ => ⟨S2x1x512x704, .bf16⟩
  | .local _ .vmem, ⟨9, _⟩ => ⟨S2x1x512x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ActWholeIdeal.lean ====
abbrev S4096x1024 : Shape := ⟨2, ![4096, 1024]⟩
abbrev S2x4x1024x704 : Shape := ⟨4, ![2, 4, 1024, 704]⟩
abbrev S4x704x1024 : Shape := ⟨3, ![4, 704, 1024]⟩
abbrev S4x704x4096 : Shape := ⟨3, ![4, 704, 4096]⟩
abbrev S4x4096x704 : Shape := ⟨3, ![4, 4096, 704]⟩
abbrev S_ : Shape := ⟨0, ![]⟩
abbrev S2x4x704x4096 : Shape := ⟨4, ![2, 4, 704, 4096]⟩
abbrev S2x4x4096x704 : Shape := ⟨4, ![2, 4, 4096, 704]⟩
abbrev S1x4x4096x704 : Shape := ⟨4, ![1, 4, 4096, 704]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2x4x1024x704, .bf16⟩
  | .hbm, ⟨3, _⟩ => ⟨S4x704x1024, .bf16⟩
  | .hbm, ⟨4, _⟩ => ⟨S4x704x4096, .f32⟩
  | .hbm, ⟨5, _⟩ => ⟨S4x4096x704, .f32⟩
  | .hbm, ⟨6, _⟩ => ⟨S_, .f32⟩
  | .hbm, ⟨7, _⟩ => ⟨S4x4096x704, .f32⟩
  | .hbm, ⟨8, _⟩ => ⟨S4x4096x704, .f32⟩
  | .hbm, ⟨9, _⟩ => ⟨S2x4x704x4096, .f32⟩
  | .hbm, ⟨10, _⟩ => ⟨S2x4x4096x704, .f32⟩
  | .hbm, ⟨11, _⟩ => ⟨S1x4x4096x704, .f32⟩
  | .hbm, ⟨12, _⟩ => ⟨S4x4096x704, .f32⟩
  | .hbm, ⟨13, _⟩ => ⟨S1x4x4096x704, .f32⟩
  | .hbm, ⟨14, _⟩ => ⟨S4x4096x704, .f32⟩
  | .hbm, ⟨15, _⟩ => ⟨S4x4096x704, .f32⟩
  | .hbm, ⟨16, _⟩ => ⟨S4x4096x704, .f32⟩
  | .hbm, ⟨17, _⟩ => ⟨S_, .f32⟩
  | .hbm, ⟨18, _⟩ => ⟨S4x4096x704, .f32⟩
  | .hbm, ⟨19, _⟩ => ⟨S4x4096x704, .f32⟩
  | .hbm, ⟨20, _⟩ => ⟨S_, .f32⟩
  | .hbm, ⟨21, _⟩ => ⟨S4x4096x704, .f32⟩
  | .hbm, ⟨22, _⟩ => ⟨S4x4096x704, .f32⟩
  | .hbm, ⟨23, _⟩ => ⟨S4x4096x704, .f32⟩
  | .hbm, ⟨24, _⟩ => ⟨S_, .f32⟩
  | .hbm, ⟨25, _⟩ => ⟨S4x4096x704, .f32⟩
  | .hbm, ⟨26, _⟩ => ⟨S4x4096x704, .f32⟩
  | .hbm, ⟨27, _⟩ => ⟨S4x4096x704, .f32⟩
  | .hbm, ⟨28, _⟩ => ⟨S_, .f32⟩
  | .hbm, ⟨29, _⟩ => ⟨S4x4096x704, .f32⟩
  | .hbm, ⟨30, _⟩ => ⟨S4x4096x704, .f32⟩
  | .hbm, ⟨31, _⟩ => ⟨S4x4096x704, .f32⟩
  | .hbm, ⟨32, _⟩ => ⟨S4x4096x704, .f32⟩
  | .hbm, ⟨33, _⟩ => ⟨S4x4096x704, .f32⟩
  | .hbm, ⟨34, _⟩ => ⟨S4x4096x704, .f32⟩
  | .hbm, ⟨35, _⟩ => ⟨S1x4x4096x704, .f32⟩
  | .hbm, ⟨36, _⟩ => ⟨S1x4x4096x704, .f32⟩
  | .hbm, ⟨37, _⟩ => ⟨S2x4x4096x704, .f32⟩
  | .hbm, ⟨38, _⟩ => ⟨S2x4x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Merge.lean ====
abbrev S4096x512 : Shape := ⟨2, ![4096, 512]⟩
abbrev S1x512 : Shape := ⟨2, ![1, 512]⟩
abbrev S1024x1024 : Shape := ⟨2, ![1024, 1024]⟩
abbrev S4096x1024 : Shape := ⟨2, ![4096, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S4096x512, .bf16⟩
  | .hbm, ⟨2, _⟩ => ⟨S1x512, .f32⟩
  | .hbm, ⟨3, _⟩ => ⟨S1024x1024, .bf16⟩
  | .hbm, ⟨4, _⟩ => ⟨S4096x1024, .f32⟩
  | .hbm, ⟨5, _⟩ => ⟨S4096x1024, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S1x512, .f32⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MergeWholeIdeal.lean ====
abbrev S4096x512 : Shape := ⟨2, ![4096, 512]⟩
abbrev S1x512 : Shape := ⟨2, ![1, 512]⟩
abbrev S1024x1024 : Shape := ⟨2, ![1024, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .bf16⟩
  | .hbm, ⟨2, _⟩ => ⟨S1x512, .f32⟩
  | .hbm, ⟨3, _⟩ => ⟨S1024x1024, .bf16⟩
  | .hbm, ⟨4, _⟩ => ⟨S4096x1024, .f32⟩
  | .hbm, ⟨5, _⟩ => ⟨S4096x512, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S4096x512, .bf16⟩
  | .hbm, ⟨21, _⟩ => ⟨S4096x1024, .bf16⟩
  | .hbm, ⟨22, _⟩ => ⟨S4096x1024, .f32⟩
  | .hbm, ⟨23, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Tail.lean ====
abbrev S4096x2688 : Shape := ⟨2, ![4096, 2688]⟩
abbrev S1024x2688 : Shape := ⟨2, ![1024, 2688]⟩
abbrev S4096x1024 : Shape := ⟨2, ![4096, 1024]⟩
abbrev S1x1024 : Shape := ⟨2, ![1, 1024]⟩
abbrev S256x2688 : Shape := ⟨2, ![256, 2688]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x2688, .bf16⟩
  | .hbm, ⟨1, _⟩ => ⟨S1024x2688, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S256x2688, .bf16⟩
  | .local _ .vmem, ⟨1, _⟩ => ⟨S256x2688, .bf16⟩
  | .local _ .vmem, ⟨2, _⟩ => ⟨S1024x2688, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | _, _ => ⟨S4096x2688, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v36 : BitVec 32 := Scalar.extui v33
  let c0_i32_19 : BitVec 32 := 0#32
  let v37 : BitVec 1 := Scalar.cmpi .ne v36 c0_i32_19
  v37

def k0_cond2 (i : grid0.Coords) : BitVec 1 :=
  let arg0 : BitVec 32 := BitVec.ofNat 32 (i 0).val
  let c0_i32 : BitVec 32 := 0#32
  let v33 : BitVec 1 := Scalar.cmpi .eq arg0 c0_i32
  let v_true : BitVec 1 := 1#1
  let v38 : BitVec 1 := Scalar.xori v33 v_true
  let v39 : BitVec 32 := Scalar.extui v38
  let c0_i32_20 : BitVec 32 := 0#32
  let v40 : BitVec 1 := Scalar.cmpi .ne v39 c0_i32_20
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2688 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== TailWholeIdeal.lean ====
abbrev S4096x2688 : Shape := ⟨2, ![4096, 2688]⟩
abbrev S1024x2688 : Shape := ⟨2, ![1024, 2688]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 39
  | .vmem => 0
  | .smem => 0
  | _ => 0

abbrev bufTy : (tb : Table) → Fin (tcTables nBuf tb) → BufTy
  | .hbm, ⟨0, _⟩ => ⟨S4096x2688, .bf16⟩
  | .hbm, ⟨1, _⟩ => ⟨S1024x2688, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .bf16⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | _, _ => ⟨S4096x2688, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Proof.Net.lean ====
module

public import Idealize.ShloMosaic.Lib.Pipeline.Launch
public import Idealize.ShloMosaic.Lib.Pipeline.Kit
public import Idealize.ShloMosaic.Lib.Pipeline.Regions
public import Idealize.ShloMosaic.Lib.Tactic

@[expose] public section

/-! # Kernels whose every DMA semaphore is used once

A protocol for kernels that start copies and wait for each of them once: every DMA semaphore of every device is a
cell with ONE round and ONE duty in it, whose amount and payload are given by a table (`Plan`). All the cells are put
in place at launch, so a device may send to a peer before that peer has entered the kernel. -/

noncomputable section

namespace Cert.Net

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (owing owing_of_ne launchCred)

variable {nD : Nat} {τ : Topo} {sig : RefSig} {Val : EltTy → Type}

local notation "𝕄" => MT nD τ sig Unit Val ℕ (UR sig nD τ) ℕ

abbrev ER : Emb (UR sig nD τ) (MT nD τ sig Unit Val ℕ (UR sig nD τ) ℕ) := emb₁

/-- The cell of device `c`'s DMA semaphore `i`. -/
abbrev cell (c : Dev nD) (i : DmaSem sig) : GSem nD τ sig := ((c.tc : Thread nD τ), .dma i)

/-- What each semaphore is raised by, and what comes with it. -/
structure Plan (nD : Nat) (τ : Topo) (sig : RefSig) (Val : EltTy → Type) where
  amt : Dev nD → DmaSem sig → ℕ
  pos : ∀ c i, 0 < amt c i
  pay : Dev nD → DmaSem sig → sProp (MT nD τ sig Unit Val ℕ (UR sig nD τ) ℕ)
  sto : ∀ c i, BI.Storable (upEmb : UEmb _ (MT nD τ sig Unit Val ℕ (UR sig nD τ) ℕ)) (pay c i)

variable (P : Plan nD τ sig Val)

/-- A table over the DMA semaphores, as one over all semaphores. -/
def onDma {α : Type} (z : α) (f : DmaSem sig → α) : SemLoc sig → α
  | .dma i => f i
  | _ => z

def Plan.rd : Schedule (GSem nD τ sig) Unit 𝕄 where
  duties g r := if r = 0 then onDma ∅ (fun _ => {()}) g.2 else ∅
  amount g _ _ := onDma 1 (P.amt g.1.1) g.2
  payload g _ _ := onDma iprop(emp) (P.pay g.1.1) g.2
  amount_pos g r d _ := by
    rcases g with ⟨t, s⟩
    cases s
    case dma i => exact P.pos _ _
    all_goals exact Nat.one_pos

instance (g : GSem nD τ sig) (r : ℕ) (d : Unit) : BI.Storable (upEmb : UEmb _ 𝕄) (P.rd.payload g r d) := by
  rcases g with ⟨t, s⟩
  cases s
  case dma i => exact P.sto _ _
  all_goals (show BI.Storable (upEmb : UEmb _ 𝕄) iprop(emp); infer_instance)

section facts
variable (c : Dev nD) (i : DmaSem sig)
theorem Plan.duties_zero : P.rd.duties (cell c i) 0 = {()} := rfl
theorem Plan.mem : () ∈ P.rd.duties (cell c i) 0 := Finset.mem_singleton_self _
theorem Plan.duties_later (g : GSem nD τ sig) : ∀ r, 1 ≤ r → P.rd.duties g r = ∅ :=
  fun r hr => by dsimp only [Plan.rd]; exact if_neg (by omega)
theorem Plan.expect_zero : P.rd.expect (cell c i) 0 = P.amt c i := by
  unfold Schedule.expect Schedule.amountOf; rw [P.duties_zero, Finset.sum_singleton]; rfl
theorem Plan.rest : bigSep (P.rd.duties (cell c i) 0 \ ∅) (fun u => P.rd.payload (cell c i) 0 u) = P.pay c i := by
  rw [Finset.sdiff_empty, P.duties_zero, bigSep_singleton]; rfl
end facts

/-- The standing facts: every cell's invariant, and that its round has opened. -/
def Plan.known (κ : GSem nD τ sig → ℕ) : sProp 𝕄 :=
  bigSep Finset.univ fun ci : Dev nD × DmaSem sig => iprop(cellInv ER P.rd (κ (cell ci.1 ci.2)) (cell ci.1 ci.2) ∗ reached ER (cell ci.1 ci.2) 0)

instance (κ : GSem nD τ sig → ℕ) : BI.Persistent (P.known κ) := by unfold Plan.known; infer_instance

theorem Plan.known_at (κ : GSem nD τ sig → ℕ) (c : Dev nD) (i : DmaSem sig) :
    P.known κ ⊢ iprop(cellInv ER P.rd (κ (cell c i)) (cell c i) ∗ reached ER (cell c i) 0) := by
  unfold Plan.known
  exact bigSep_elim (Φ := fun ci : Dev nD × DmaSem sig =>
    iprop(cellInv ER P.rd (κ (cell ci.1 ci.2)) (cell ci.1 ci.2) ∗ reached ER (cell ci.1 ci.2) 0)) (Finset.mem_univ (c, i))

/-- A core's outstanding promises, its record of waits forgotten. -/
def promises (c : Dev nD) (O : CellTallies nD τ sig Unit) : sProp 𝕄 := iprop(∃ W, owes (c.tc : Thread nD τ) O W)

section rules

variable {Λ : Labels} {defs : Defs nD τ sig Val Λ} (𝒱 : Variants) (c : Dev nD) (κ : GSem nD τ sig → ℕ)
variable {α : Type} {Q : α → sProp (MT nD τ sig Unit Val ℕ (UR sig nD τ) ℕ)} {sp sp' : Space} {s : Shape} {e : EltTy}

theorem Plan.wp_copy {src : Memref sig (c.tc : Thread nD τ).2.kind sp s e} {dst : Memref sig (c.tc : Thread nD τ).2.kind sp' s e} {i : DmaSem sig}
    {hsrc : src.view.WordExact} {hdst : dst.view.WordExact} {hsem : DmaTarget.Typed (nD := nD) sp (.dma i) (.here dst)}
    {k : PUnit → Prog (TpuEff nD τ sig Val Λ (c.tc : Thread nD τ).2) α} {q : PosShare TreeShare} {fs : Buf Val (src.view.loc (c.tc : Thread nD τ))}
    {fd : Buf Val (dst.view.loc (c.tc : Thread nD τ))}
    (hN : dst.view.amount (.dma i) = P.amt c i)
    (hpay : iprop((dst.view.loc (c.tc : Thread nD τ) ↦[dst.view.set]{fullShare} (dst.view.write Val fd (src.view.read Val fs) Finset.univ))
              ∗ (src.view.loc (c.tc : Thread nD τ) ↦[src.view.set]{q} fs)) ⊢ P.pay c i) :
    iprop(P.known κ ∗ (src.view.loc (c.tc : Thread nD τ) ↦[src.view.set]{q} fs) ∗ (dst.view.loc (c.tc : Thread nD τ) ↦[dst.view.set]{fullShare} fd)
        ∗ dutyTok ER (cell c i) 0 ())
      ⊢ iprop((cred (tallyAt (cell c i) () (P.amt c i)) -∗ wp frame (wpE defs 𝒱 (c.tc : Thread nD τ) none) Set.univ (k ⟨⟩) Q)
          -∗ wp frame (wpE defs 𝒱 (c.tc : Thread nD τ) none) Set.univ (.op (.enqueueDma src (.here dst) (.dma i) hsrc hdst hsem) k) Q) := by
  iintro ⟨#HK, Hs, Hd, Ht⟩
  ihave #HI := (P.known_at κ c i) $$ HK
  icases HI with ⟨#HI, #HR⟩
  iapply (Rounds.wp_copy_pointsTo 𝒱 ER P.rd (c.tc : Thread nD τ) none (κ := κ (cell c i)) (r := 0) (d := ()) (fs := fs) (fd := fd) (q := q)
    (P.mem c i) () (P.amt c i) hN rfl hpay) $$ [Hs Hd Ht]
  isplitr; · iexact HI
  isplitl [Hs]; · iexact Hs
  isplitl [Hd]; · iexact Hd
  isplitl [Ht]; · iexact Ht
  iexact HR

theorem Plan.wp_send {n c' : Dev nD} (hn : n = c') {src : Memref sig (c.tc : Thread nD τ).2.kind sp s e} {dst : Memref sig (n.tc : Thread nD τ).2.kind sp' s e}
    {hsc : dst.view.ref.isScScratch = false} {i j : DmaSem sig}
    {hsrc : src.view.WordExact} {hdst : dst.view.WordExact} {hsem : DmaTarget.Typed sp (.dma j) (.remote (n.tc : Thread nD τ) dst (.dma i) hsc)}
    {k : PUnit → Prog (TpuEff nD τ sig Val Λ (c.tc : Thread nD τ).2) α} {q : PosShare TreeShare} {fs : Buf Val (src.view.loc (c.tc : Thread nD τ))}
    {fd : Buf Val (dst.view.loc (c'.tc : Thread nD τ))} (N : ℕ)
    (hN : dst.view.amount (.dma j) = N) (hi : P.amt c i = N) (hj : P.amt c' j = N) (O : CellTallies nD τ sig Unit)
    (hpay₁ : (src.view.loc (c.tc : Thread nD τ) ↦[src.view.set]{q} fs) ⊢ P.pay c i)
    (hpay₂ : (dst.view.loc (c'.tc : Thread nD τ) ↦[dst.view.set]{fullShare} (dst.view.write Val fd (src.view.read Val fs) Finset.univ)) ⊢ P.pay c' j) :
    iprop(P.known κ ∗ (src.view.loc (c.tc : Thread nD τ) ↦[src.view.set]{q} fs) ∗ (dst.view.loc (c'.tc : Thread nD τ) ↦[dst.view.set]{fullShare} fd)
        ∗ promises c (O + tallyAt (cell c' j) () N) ∗ dutyTok ER (cell c i) 0 () ∗ dutyTok ER (cell c' j) 0 ())
      ⊢ iprop(((cred (tallyAt (cell c i) () N) ∗ promises c O) -∗ wp frame (wpE defs 𝒱 (c.tc : Thread nD τ) none) Set.univ (k ⟨⟩) Q)
          -∗ wp frame (wpE defs 𝒱 (c.tc : Thread nD τ) none) Set.univ (.op (.enqueueDma src (.remote (n.tc : Thread nD τ) dst (.dma i) hsc) (.dma j) hsrc hdst hsem) k) Q) := by
  subst hn
  unfold promises
  iintro ⟨#HK, Hs, Hd, ⟨%W, HO⟩, Hti, Htj⟩ Hk
  ihave #HI := (P.known_at κ c i) $$ HK
  icases HI with ⟨#HI, #HR⟩
  ihave #HI' := (P.known_at κ n j) $$ HK
  icases HI' with ⟨#HI', #HR'⟩
  iapply (Rounds.wp_send_pointsTo 𝒱 ER P.rd (c.tc : Thread nD τ) none (κ₁ := κ (cell c i)) (κ₂ := κ (cell n j))
    (r₁ := 0) (r₂ := 0) (d₁ := ()) (d₂ := ()) (fs := fs) (fd := fd) (q := q) (P.mem c i) (P.mem n j) () () N hN hi hj O rfl (W := W) hpay₁ hpay₂) $$ [Hs Hd HO Hti Htj]
  · isplitr; · iexact HI
    isplitr; · iexact HI'
    isplitl [Hs]; · iexact Hs
    isplitl [Hd]; · iexact Hd
    isplitl [HO]; · iexact HO
    isplitl [Hti]; · iexact Hti
    isplitr; · iexact HR
    isplitl [Htj]; · iexact Htj
    iexact HR'
  iintro ⟨Hc, HO⟩
  iapply Hk
  isplitl [Hc]; · iexact Hc
  iexists W; iexact HO

theorem Plan.wp_wait {src : Memref sig (c.tc : Thread nD τ).2.kind sp s e} {dst : Memref sig (c.tc : Thread nD τ).2.kind sp' s e} {i : DmaSem sig}
    {hsrc : src.view.WordExact} {hdst : dst.view.WordExact}
    {k : PUnit → Prog (TpuEff nD τ sig Val Λ (c.tc : Thread nD τ).2) α}
    (hN : dst.view.dmaCredit = P.amt c i) (O : CellTallies nD τ sig Unit) :
    iprop(P.known κ ∗ cred (tallyAt (cell c i) () (P.amt c i)) ∗ promises c O ∗ MayWait (c.tc : Thread nD τ) (.dma i) () O ∗ atPos ER (cell c i) 0 ∅ 0)
      ⊢ iprop(((promises c O ∗ semVal (cell c i) 0 ∗ P.pay c i) -∗ wp frame (wpE defs 𝒱 (c.tc : Thread nD τ) none) Set.univ (k ⟨⟩) Q)
          -∗ wp frame (wpE defs 𝒱 (c.tc : Thread nD τ) none) Set.univ (.op (.waitDma2 i src dst hsrc hdst) k) Q) := by
  unfold promises
  iintro ⟨#HK, Hc, ⟨%W, HO⟩, Hm, Hat⟩ Hk
  ihave #HI := (P.known_at κ c i) $$ HK
  icases HI with ⟨#HI, #HR⟩
  rw [← hN]
  iapply (Rounds.wp_wait_rest_token 𝒱 ER P.rd (c.tc : Thread nD τ) none (κ := κ (cell c i))
      (wpE_waitDma2_eq 𝒱 (c.tc : Thread nD τ) none Set.univ) (Set.mem_univ _) () (O := O) (W := W) (R := 0) (m := 0) (T := ∅)
      (by rw [Nat.zero_add, P.expect_zero, hN])) $$ [Hc HO Hm Hat]
  · isplitr; · iexact HI
    isplitl [Hc]; · iexact Hc
    isplitl [HO]; · iexact HO
    isplitl [Hm]; · iexact Hm
    iexact Hat
  iintro ⟨HO, Hat, -, Hpay⟩
  ihave Hp := (Entails.of_eq (P.rest c i)) $$ Hpay
  iapply (fupd_wp frame (wpE defs 𝒱 (c.tc : Thread nD τ) none) Set.univ _ _)
  imod (Rounds.cell_close ER P.rd (Set.mem_univ (κ (cell c i))) (fun h => h) (R := 0 + 1) (P.duties_later (cell c i))) $$ [Hat] with Hz
  · isplitr; · iexact HI
    iexact Hat
  imodintro
  iapply Hk
  isplitl [HO]; · iexists _; iexact HO
  isplitl [Hz] <;> iassumption

end rules

end Cert.Net

end
-- ==== Proof.Each.lean ====
module

public import proofs.«01_k».proof.Proof.Net

@[expose] public section

/-! # Repetitions

A program repeated over `Fin n`, and its weakest precondition: from one instance to all of them, with a resource that
runs through the repetition. -/

noncomputable section

namespace Cert.Net

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-- The programs `p 0, …, p (n - 1)`, in order. -/
def runFin {Ef : Type → Type} : (n : ℕ) → (Fin n → Prog Ef PUnit) → Prog Ef PUnit
  | 0, _ => .ret ⟨⟩
  | n + 1, p => (p 0).bind fun _ => runFin n fun i => p i.succ

variable {nD : Nat} {τ : Topo} {sig : RefSig} {Val : EltTy → Type} {Λ : Labels}

local notation "𝕄" => MT nD τ sig Unit Val ℕ (UR sig nD τ) ℕ

theorem bigSep_first {n : ℕ} (Φ : Fin (n + 1) → sProp (MT nD τ sig Unit Val ℕ (UR sig nD τ) ℕ)) :
    bigSep Finset.univ Φ = iprop(Φ 0 ∗ bigSep Finset.univ fun i : Fin n => Φ i.succ) := by
  rw [Fin.univ_succ, Finset.cons_eq_insert, BI.bigSep_insert (by simp), BI.bigSep_map]; rfl

/-- A repetition: instance `i` turns `R i` into `S i` and brings the running resource from `T (O + f i)` to `T O`. -/
theorem wp_runFin {A : Type} [AddCommMonoid A] {defs : Defs nD τ sig Val Λ} (𝒱 : Variants) (c : Dev nD)
    (Γ : sProp (MT nD τ sig Unit Val ℕ (UR sig nD τ) ℕ)) [BI.Persistent Γ] (T : A → sProp (MT nD τ sig Unit Val ℕ (UR sig nD τ) ℕ)) :
    ∀ {n : ℕ} (p : Fin n → Prog (TpuEff nD τ sig Val Λ (c.tc : Thread nD τ).2) PUnit)
    (R S : Fin n → sProp (MT nD τ sig Unit Val ℕ (UR sig nD τ) ℕ)) (f : Fin n → A)
    (h : ∀ i O, iprop(Γ ∗ R i ∗ T (O + f i)) ⊢ wp frame (wpE defs 𝒱 (c.tc : Thread nD τ) none) Set.univ (p i) fun _ => iprop(S i ∗ T O)) (O : A),
    iprop(Γ ∗ bigSep Finset.univ R ∗ T (O + ∑ i, f i))
      ⊢ wp frame (wpE defs 𝒱 (c.tc : Thread nD τ) none) Set.univ (runFin n p) fun _ => iprop(bigSep Finset.univ S ∗ T O)
  | 0, p, R, S, f, h, O => by
    rw [Finset.univ_eq_empty, Finset.sum_empty, add_zero, BI.bigSep_empty, BI.bigSep_empty]
    show _ ⊢ iprop(|={Set.univ}[Idealize.ShloMosaic.frame]=> (emp ∗ T O))
    iintro ⟨-, HR, HT⟩
    imodintro
    isplitl [HR] <;> iassumption
  | n + 1, p, R, S, f, h, O => by
    have ih := wp_runFin 𝒱 c Γ T (fun i => p i.succ) (fun i => R i.succ) (fun i => S i.succ) (fun i => f i.succ) (fun i O => h i.succ O) O
    have h0 := h 0 (O + ∑ i : Fin n, f i.succ)
    rw [bigSep_first R, bigSep_first S, Fin.sum_univ_succ, add_comm (f 0), ← add_assoc]
    show _ ⊢ wp frame (wpE defs 𝒱 (c.tc : Thread nD τ) none) Set.univ (p 0 >>= fun _ => runFin n fun i => p i.succ) _
    rw [wp_bind]
    have hk : ∀ a : PUnit, iprop((S 0 ∗ T (O + ∑ i : Fin n, f i.succ)) ∗ (Γ ∗ bigSep Finset.univ fun i : Fin n => R i.succ))
        ⊢ wp frame (wpE defs 𝒱 (c.tc : Thread nD τ) none) Set.univ (runFin n fun i => p i.succ)
          fun _ => iprop((S 0 ∗ bigSep Finset.univ fun i : Fin n => S i.succ) ∗ T O) := by
      intro _
      have h1 := (wp_frame_l frame (wpE defs 𝒱 (c.tc : Thread nD τ) none) Set.univ (R := S 0)
        (p := runFin n fun i => p i.succ) (Q := fun _ => iprop((bigSep Finset.univ fun i : Fin n => S i.succ) ∗ T O)))
      refine BI.BIBase.Entails.trans ?_ (h1.trans (wp_mono _ _ _ fun _ => ?_))
      · iintro ⟨⟨HS, HT⟩, HG, HR⟩
        isplitl [HS]; · iexact HS
        iapply ih
        isplitl [HG]; · iexact HG
        isplitl [HR] <;> iassumption
      · iintro ⟨HS, HSs, HT⟩
        isplitr [HT]; · isplitl [HS] <;> iassumption
        iexact HT
    refine BI.BIBase.Entails.trans ?_ ((wp_frame_r frame (wpE defs 𝒱 (c.tc : Thread nD τ) none) Set.univ).trans (wp_mono _ _ _ hk))
    iintro ⟨#HG, ⟨HR0, HR⟩, HT⟩
    isplitl [HR0 HT]
    · iapply h0
      isplitr; · iexact HG
      isplitl [HR0] <;> iassumption
    · isplitr; · iexact HG
      iexact HR

end Cert.Net

end
-- ==== Proof.Body.lean ====
module

public import proofs.«01_k».proof.Proof.Gen.KernelIdeal
public import proofs.«01_k».proof.Proof.Gen.KernelIdeal.Points
public import Idealize.ShloMosaic.Lib.Pipeline.Regions
public import proofs.«01_k».proof.Proof.Each

@[expose] public section

/-! # The kernel's body as nested repetitions

The printed body is one straight line of 208 operations. Here it is written as what it is: for each of the nine
arrays a local copy and seven sends, then the waits, each family a repetition over the arrays and the peers. The
addresses are kept as the printed ones, in tables; that every table entry is "the slot of device `d xor q`" is
decided once, over the tables. -/

noncomputable section

namespace Cert.Exchange

open Cert.KernelIdeal Cert.KernelIdeal.Gen
open Idealize.ShloMosaic Idealize.ShloMosaic.TcCoe
open Idealize.SL Idealize.SL.Sem
open Cert.Net (runFin)

variable {F : FTy → Type} [FloatOps F]

/-- One exchanged array: the operand, the result, and the printed address of slot `d xor q` on device `d`. -/
structure Arr where
  n : Nat
  k : Nat
  src : Memref sig .tc .hbm ⟨3, ![8, n, k]⟩ .bf16
  hsrc : src.IsWhole
  dst : Memref sig .tc .hbm ⟨3, ![8, n, k]⟩ .bf16
  hdst : dst.IsWhole
  off : Fin 8 → Dev nD → Fin 3 → Nat
  inb : ∀ q d a, off q d a + (![1, n, k] : Fin 3 → Nat) a ≤ (![8, n, k] : Fin 3 → Nat) a
  words : ∀ q d, (Rect.unit (s := ⟨3, ![8, n, k]⟩) (off q d) ![1, n, k] (inb q d)).WholeWords (EltTy.packing .bf16)
  sq : Shape.Squeezes ⟨3, ![1, n, k]⟩ ⟨2, ![n, k]⟩

/-- The printed slot of an array. -/
def Arr.slot (A : Arr) (m : Memref sig .tc .hbm ⟨3, ![8, A.n, A.k]⟩ .bf16) (q : Fin 8) (d : Dev nD) :
    Memref sig .tc .hbm ⟨2, ![A.n, A.k]⟩ .bf16 :=
  (m.slice (Rect.unit (s := ⟨3, ![8, A.n, A.k]⟩) (A.off q d) ![1, A.n, A.k] (A.inb q d)) (fun _ => rfl)).squeeze ⟨2, ![A.n, A.k]⟩ A.sq

theorem Arr.exact (A : Arr) {m : Memref sig .tc .hbm ⟨3, ![8, A.n, A.k]⟩ .bf16} (h : m.IsWhole) (q : Fin 8) (d : Dev nD) :
    (A.slot m q d).view.WordExact := (h.wordExact_slice rfl _ (A.words q d)).reshape _ _

/-- The addresses in an array of `1024 × 704` blocks. -/
def off0 : Fin 8 → Dev nD → Fin 3 → Nat := ![k0_off1, k0_off2, k0_off3, k0_off4, k0_off5, k0_off6, k0_off7, k0_off8]
theorem inb0 : ∀ q d a, off0 q d a + (![1, 1024, 704] : Fin 3 → Nat) a ≤ (![8, 1024, 704] : Fin 3 → Nat) a
  | 0 => k0_off1_inb
  | 1 => k0_off2_inb
  | 2 => k0_off3_inb
  | 3 => k0_off4_inb
  | 4 => k0_off5_inb
  | 5 => k0_off6_inb
  | 6 => k0_off7_inb
  | 7 => k0_off8_inb
theorem words0 : ∀ q d, (Rect.unit (s := ⟨3, ![8, 1024, 704]⟩) (off0 q d) ![1, 1024, 704] (inb0 q d)).WholeWords (EltTy.packing .bf16)
  | 0 => k0_off1_wordsbf16
  | 1 => k0_off2_wordsbf16
  | 2 => k0_off3_wordsbf16
  | 3 => k0_off4_wordsbf16
  | 4 => k0_off5_wordsbf16
  | 5 => k0_off6_wordsbf16
  | 6 => k0_off7_wordsbf16
  | 7 => k0_off8_wordsbf16

/-- The addresses in an array of `352 × 1024` blocks. -/
def off1 : Fin 8 → Dev nD → Fin 3 → Nat := ![k0_off9, k0_off10, k0_off11, k0_off12, k0_off13, k0_off14, k0_off15, k0_off16]
theorem inb1 : ∀ q d a, off1 q d a + (![1, 352, 1024] : Fin 3 → Nat) a ≤ (![8, 352, 1024] : Fin 3 → Nat) a
  | 0 => k0_off9_inb
  | 1 => k0_off10_inb
  | 2 => k0_off11_inb
  | 3 => k0_off12_inb
  | 4 => k0_off13_inb
  | 5 => k0_off14_inb
  | 6 => k0_off15_inb
  | 7 => k0_off16_inb
theorem words1 : ∀ q d, (Rect.unit (s := ⟨3, ![8, 352, 1024]⟩) (off1 q d) ![1, 352, 1024] (inb1 q d)).WholeWords (EltTy.packing .bf16)
  | 0 => k0_off9_wordsbf16
  | 1 => k0_off10_wordsbf16
  | 2 => k0_off11_wordsbf16
  | 3 => k0_off12_wordsbf16
  | 4 => k0_off13_wordsbf16
  | 5 => k0_off14_wordsbf16
  | 6 => k0_off15_wordsbf16
  | 7 => k0_off16_wordsbf16

/-- The addresses in an array of `1024 × 321` blocks. -/
def off2 : Fin 8 → Dev nD → Fin 3 → Nat := ![k0_off17, k0_off18, k0_off19, k0_off20, k0_off21, k0_off22, k0_off23, k0_off24]
theorem inb2 : ∀ q d a, off2 q d a + (![1, 1024, 321] : Fin 3 → Nat) a ≤ (![8, 1024, 321] : Fin 3 → Nat) a
  | 0 => k0_off17_inb
  | 1 => k0_off18_inb
  | 2 => k0_off19_inb
  | 3 => k0_off20_inb
  | 4 => k0_off21_inb
  | 5 => k0_off22_inb
  | 6 => k0_off23_inb
  | 7 => k0_off24_inb
theorem words2 : ∀ q d, (Rect.unit (s := ⟨3, ![8, 1024, 321]⟩) (off2 q d) ![1, 1024, 321] (inb2 q d)).WholeWords (EltTy.packing .bf16)
  | 0 => k0_off17_wordsbf16
  | 1 => k0_off18_wordsbf16
  | 2 => k0_off19_wordsbf16
  | 3 => k0_off20_wordsbf16
  | 4 => k0_off21_wordsbf16
  | 5 => k0_off22_wordsbf16
  | 6 => k0_off23_wordsbf16
  | 7 => k0_off24_wordsbf16

/-- The addresses in an array of `128 × 1024` blocks. -/
def off3 : Fin 8 → Dev nD → Fin 3 → Nat := ![k0_off25, k0_off26, k0_off27, k0_off28, k0_off29, k0_off30, k0_off31, k0_off32]
theorem inb3 : ∀ q d a, off3 q d a + (![1, 128, 1024] : Fin 3 → Nat) a ≤ (![8, 128, 1024] : Fin 3 → Nat) a
  | 0 => k0_off25_inb
  | 1 => k0_off26_inb
  | 2 => k0_off27_inb
  | 3 => k0_off28_inb
  | 4 => k0_off29_inb
  | 5 => k0_off30_inb
  | 6 => k0_off31_inb
  | 7 => k0_off32_inb
theorem words3 : ∀ q d, (Rect.unit (s := ⟨3, ![8, 128, 1024]⟩) (off3 q d) ![1, 128, 1024] (inb3 q d)).WholeWords (EltTy.packing .bf16)
  | 0 => k0_off25_wordsbf16
  | 1 => k0_off26_wordsbf16
  | 2 => k0_off27_wordsbf16
  | 3 => k0_off28_wordsbf16
  | 4 => k0_off29_wordsbf16
  | 5 => k0_off30_wordsbf16
  | 6 => k0_off31_wordsbf16
  | 7 => k0_off32_wordsbf16

/-- The addresses in an array of `1024 × 256` blocks. -/
def off4 : Fin 8 → Dev nD → Fin 3 → Nat := ![k0_off33, k0_off34, k0_off35, k0_off36, k0_off37, k0_off38, k0_off39, k0_off40]
theorem inb4 : ∀ q d a, off4 q d a + (![1, 1024, 256] : Fin 3 → Nat) a ≤ (![8, 1024, 256] : Fin 3 → Nat) a
  | 0 => k0_off33_inb
  | 1 => k0_off34_inb
  | 2 => k0_off35_inb
  | 3 => k0_off36_inb
  | 4 => k0_off37_inb
  | 5 => k0_off38_inb
  | 6 => k0_off39_inb
  | 7 => k0_off40_inb
theorem words4 : ∀ q d, (Rect.unit (s := ⟨3, ![8, 1024, 256]⟩) (off4 q d) ![1, 1024, 256] (inb4 q d)).WholeWords (EltTy.packing .bf16)
  | 0 => k0_off33_wordsbf16
  | 1 => k0_off34_wordsbf16
  | 2 => k0_off35_wordsbf16
  | 3 => k0_off36_wordsbf16
  | 4 => k0_off37_wordsbf16
  | 5 => k0_off38_wordsbf16
  | 6 => k0_off39_wordsbf16
  | 7 => k0_off40_wordsbf16

/-- The nine arrays. -/
def arrs : Fin 9 → Arr
  | 0 => ⟨1024, 704, Memref.whole main_arg0, Memref.isWhole_whole _, Memref.whole main_v1_0, Memref.isWhole_whole _, off0, inb0, words0, squeezes_S1x1024x704_S1024x704⟩
  | 1 => ⟨352, 1024, Memref.whole main_arg1, Memref.isWhole_whole _, Memref.whole main_v1_1, Memref.isWhole_whole _, off1, inb1, words1, squeezes_S1x352x1024_S352x1024⟩
  | 2 => ⟨1024, 321, Memref.whole main_arg2, Memref.isWhole_whole _, Memref.whole main_v1_2, Memref.isWhole_whole _, off2, inb2, words2, squeezes_S1x1024x321_S1024x321⟩
  | 3 => ⟨128, 1024, Memref.whole main_arg3, Memref.isWhole_whole _, Memref.whole main_v1_3, Memref.isWhole_whole _, off3, inb3, words3, squeezes_S1x128x1024_S128x1024⟩
  | 4 => ⟨128, 1024, Memref.whole main_arg4, Memref.isWhole_whole _, Memref.whole main_v1_4, Memref.isWhole_whole _, off3, inb3, words3, squeezes_S1x128x1024_S128x1024⟩
  | 5 => ⟨1024, 256, Memref.whole main_arg5, Memref.isWhole_whole _, Memref.whole main_v1_5, Memref.isWhole_whole _, off4, inb4, words4, squeezes_S1x1024x256_S1024x256⟩
  | 6 => ⟨128, 1024, Memref.whole main_arg6, Memref.isWhole_whole _, Memref.whole main_v1_6, Memref.isWhole_whole _, off3, inb3, words3, squeezes_S1x128x1024_S128x1024⟩
  | 7 => ⟨1024, 704, Memref.whole main_arg7, Memref.isWhole_whole _, Memref.whole main_v1_7, Memref.isWhole_whole _, off0, inb0, words0, squeezes_S1x1024x704_S1024x704⟩
  | 8 => ⟨352, 1024, Memref.whole main_arg8, Memref.isWhole_whole _, Memref.whole main_v1_8, Memref.isWhole_whole _, off1, inb1, words1, squeezes_S1x352x1024_S352x1024⟩

/-- The device the printed send of array `a` to the peer across `r + 1` names. -/
def dev : Fin 9 → Fin 7 → Dev nD → Dev nD := ![
  ![fun d => ⟨k0_dev1 d, k0_dev1_lt d⟩, fun d => ⟨k0_dev2 d, k0_dev2_lt d⟩, fun d => ⟨k0_dev3 d, k0_dev3_lt d⟩, fun d => ⟨k0_dev4 d, k0_dev4_lt d⟩, fun d => ⟨k0_dev5 d, k0_dev5_lt d⟩, fun d => ⟨k0_dev6 d, k0_dev6_lt d⟩, fun d => ⟨k0_dev7 d, k0_dev7_lt d⟩],
  ![fun d => ⟨k0_dev8 d, k0_dev8_lt d⟩, fun d => ⟨k0_dev9 d, k0_dev9_lt d⟩, fun d => ⟨k0_dev10 d, k0_dev10_lt d⟩, fun d => ⟨k0_dev11 d, k0_dev11_lt d⟩, fun d => ⟨k0_dev12 d, k0_dev12_lt d⟩, fun d => ⟨k0_dev13 d, k0_dev13_lt d⟩, fun d => ⟨k0_dev14 d, k0_dev14_lt d⟩],
  ![fun d => ⟨k0_dev15 d, k0_dev15_lt d⟩, fun d => ⟨k0_dev16 d, k0_dev16_lt d⟩, fun d => ⟨k0_dev17 d, k0_dev17_lt d⟩, fun d => ⟨k0_dev18 d, k0_dev18_lt d⟩, fun d => ⟨k0_dev19 d, k0_dev19_lt d⟩, fun d => ⟨k0_dev20 d, k0_dev20_lt d⟩, fun d => ⟨k0_dev21 d, k0_dev21_lt d⟩],
  ![fun d => ⟨k0_dev22 d, k0_dev22_lt d⟩, fun d => ⟨k0_dev23 d, k0_dev23_lt d⟩, fun d => ⟨k0_dev24 d, k0_dev24_lt d⟩, fun d => ⟨k0_dev25 d, k0_dev25_lt d⟩, fun d => ⟨k0_dev26 d, k0_dev26_lt d⟩, fun d => ⟨k0_dev27 d, k0_dev27_lt d⟩, fun d => ⟨k0_dev28 d, k0_dev28_lt d⟩],
  ![fun d => ⟨k0_dev29 d, k0_dev29_lt d⟩, fun d => ⟨k0_dev30 d, k0_dev30_lt d⟩, fun d => ⟨k0_dev31 d, k0_dev31_lt d⟩, fun d => ⟨k0_dev32 d, k0_dev32_lt d⟩, fun d => ⟨k0_dev33 d, k0_dev33_lt d⟩, fun d => ⟨k0_dev34 d, k0_dev34_lt d⟩, fun d => ⟨k0_dev35 d, k0_dev35_lt d⟩],
  ![fun d => ⟨k0_dev36 d, k0_dev36_lt d⟩, fun d => ⟨k0_dev37 d, k0_dev37_lt d⟩, fun d => ⟨k0_dev38 d, k0_dev38_lt d⟩, fun d => ⟨k0_dev39 d, k0_dev39_lt d⟩, fun d => ⟨k0_dev40 d, k0_dev40_lt d⟩, fun d => ⟨k0_dev41 d, k0_dev41_lt d⟩, fun d => ⟨k0_dev42 d, k0_dev42_lt d⟩],
  ![fun d => ⟨k0_dev43 d, k0_dev43_lt d⟩, fun d => ⟨k0_dev44 d, k0_dev44_lt d⟩, fun d => ⟨k0_dev45 d, k0_dev45_lt d⟩, fun d => ⟨k0_dev46 d, k0_dev46_lt d⟩, fun d => ⟨k0_dev47 d, k0_dev47_lt d⟩, fun d => ⟨k0_dev48 d, k0_dev48_lt d⟩, fun d => ⟨k0_dev49 d, k0_dev49_lt d⟩],
  ![fun d => ⟨k0_dev50 d, k0_dev50_lt d⟩, fun d => ⟨k0_dev51 d, k0_dev51_lt d⟩, fun d => ⟨k0_dev52 d, k0_dev52_lt d⟩, fun d => ⟨k0_dev53 d, k0_dev53_lt d⟩, fun d => ⟨k0_dev54 d, k0_dev54_lt d⟩, fun d => ⟨k0_dev55 d, k0_dev55_lt d⟩, fun d => ⟨k0_dev56 d, k0_dev56_lt d⟩],
  ![fun d => ⟨k0_dev57 d, k0_dev57_lt d⟩, fun d => ⟨k0_dev58 d, k0_dev58_lt d⟩, fun d => ⟨k0_dev59 d, k0_dev59_lt d⟩, fun d => ⟨k0_dev60 d, k0_dev60_lt d⟩, fun d => ⟨k0_dev61 d, k0_dev61_lt d⟩, fun d => ⟨k0_dev62 d, k0_dev62_lt d⟩, fun d => ⟨k0_dev63 d, k0_dev63_lt d⟩]]

/-- Slot `q` of device `d`'s tables is the slot of device `d xor q`. -/
def across (d : Dev nD) (q : Fin 8) : Dev nD := ⟨d.val ^^^ q.val, Nat.xor_lt_two_pow (n := 3) d.isLt q.isLt⟩

theorem off_eq : ∀ (a : Fin 9) (q : Fin 8) (d : Dev nD), (arrs a).off q d = ![(across d q).val, 0, 0] := by decide +kernel
theorem dev_eq : ∀ (a : Fin 9) (r : Fin 7) (d : Dev nD), dev a r d = across d r.succ := by decide +kernel

/-- The semaphores: sends, arrivals, local copies. -/
def sendSem (a : Fin 9) (r : Fin 7) : DmaSem sig := ⟨7 * a.val + r.val, by have := a.isLt; have := r.isLt; show _ < 135; omega⟩
def recvSem (a : Fin 9) (r : Fin 7) : DmaSem sig := ⟨63 + (7 * a.val + r.val), by have := a.isLt; have := r.isLt; show _ < 135; omega⟩
def locSem (a : Fin 9) : DmaSem sig := ⟨126 + a.val, by have := a.isLt; show _ < 135; omega⟩

section ops
variable (d : Dev nD) (a : Fin 9)

def opLocal : TpuEff nD τ sig (Elt F) Λ₀ .tc PUnit :=
  .enqueueDma ((arrs a).slot (arrs a).src 0 d) (.here ((arrs a).slot (arrs a).dst 0 d)) (.dma (locSem a))
    ((arrs a).exact (arrs a).hsrc 0 d) ((arrs a).exact (arrs a).hdst 0 d) ⟨Or.inl rfl, trivial⟩

def opSend (r : Fin 7) : TpuEff nD τ sig (Elt F) Λ₀ .tc PUnit :=
  .enqueueDma ((arrs a).slot (arrs a).src r.succ d) (.remote (Dev.tc (dev a r d)) ((arrs a).slot (arrs a).dst 0 d) (.dma (sendSem a r))) (.dma (recvSem a r))
    ((arrs a).exact (arrs a).hsrc r.succ d) ((arrs a).exact (arrs a).hdst 0 d) ⟨⟨rfl, Or.inl rfl⟩, trivial⟩

def opRecv (r : Fin 7) : TpuEff nD τ sig (Elt F) Λ₀ .tc PUnit :=
  .waitDma2 (recvSem a r) ((arrs a).slot (arrs a).src r.succ d) ((arrs a).slot (arrs a).dst r.succ d)
    ((arrs a).exact (arrs a).hsrc r.succ d) ((arrs a).exact (arrs a).hdst r.succ d)

def opSent (r : Fin 7) : TpuEff nD τ sig (Elt F) Λ₀ .tc PUnit :=
  .waitDma2 (sendSem a r) ((arrs a).slot (arrs a).dst 0 d) ((arrs a).slot (arrs a).src r.succ d)
    ((arrs a).exact (arrs a).hdst 0 d) ((arrs a).exact (arrs a).hsrc r.succ d)

def opMine : TpuEff nD τ sig (Elt F) Λ₀ .tc PUnit :=
  .waitDma2 (locSem a) ((arrs a).slot (arrs a).src 0 d) ((arrs a).slot (arrs a).dst 0 d)
    ((arrs a).exact (arrs a).hsrc 0 d) ((arrs a).exact (arrs a).hdst 0 d)

end ops

/-- The body on device `d`. -/
def body (d : Dev nD) : Prog (TpuEff nD τ sig (Elt F) Λ₀ .tc) PUnit :=
  (runFin 9 fun a => .op (opLocal d a) fun _ => runFin 7 fun r => .op (opSend d a r) .ret).bind fun _ =>
  (runFin 9 fun a => runFin 7 fun r => .op (opRecv d a r) .ret).bind fun _ =>
  (runFin 9 fun a => runFin 7 fun r => .op (opSent d a r) .ret).bind fun _ =>
  (runFin 9 fun a => .op (opMine d a) .ret)

set_option maxRecDepth 65536 in
set_option maxHeartbeats 0 in
theorem body_eq (t : Fin cfg0.N) : bodyAt0 (F := F) t = .op .deviceId fun d => body d := by
  chain_rfl

end Cert.Exchange

end
-- ==== Proof.Blocks.lean ====
module

public import Idealize.ShloMosaic.Lib.Pipeline.Launch
public import Idealize.ShloMosaic.Lib.Pipeline.Kit
public import Idealize.ShloMosaic.Lib.Ring

@[expose] public section

/-! # An array of blocks, held block by block

A whole array of shape `B × n × k` as its `B` blocks of shape `n × k`: the blocks are disjoint, they cover the array,
and what is read or written in a block is stated at the array's own coordinates. -/

noncomputable section

namespace Cert.Net

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {κ : Kind} {sp : Space} {e : EltTy} {B n k : ℕ} {Val : EltTy → Type}

theorem blk_inb (p : Fin B) : ∀ a, (![p.val, 0, 0] : Fin 3 → ℕ) a + (![1, n, k] : Fin 3 → ℕ) a ≤ (![B, n, k] : Fin 3 → ℕ) a := by
  intro a
  have := p.isLt
  fin_cases a
  · show p.val + 1 ≤ B; omega
  · show 0 + n ≤ n; omega
  · show 0 + k ≤ k; omega

/-- Block `p` as a rectangle of the array. -/
abbrev blkRect (B n k : ℕ) (p : Fin B) : Rect ⟨3, ![B, n, k]⟩ := Rect.unit (s := ⟨3, ![B, n, k]⟩) ![p.val, 0, 0] ![1, n, k] (blk_inb p)

variable (sq : Shape.Squeezes ⟨3, ![1, n, k]⟩ ⟨2, ![n, k]⟩)

/-- Block `p` of an array. -/
abbrev blk (M : Memref sig κ sp ⟨3, ![B, n, k]⟩ e) (p : Fin B) : Memref sig κ sp ⟨2, ![n, k]⟩ e :=
  (M.slice (blkRect B n k p) (fun _ => rfl)).squeeze ⟨2, ![n, k]⟩ sq

/-- The array's coordinates of element `j` of block `p`. -/
def ix (p : Fin B) (j : Shape.Idx ⟨2, ![n, k]⟩) : Shape.Idx ⟨3, ![B, n, k]⟩ :=
  (blkRect B n k p).emb (Shape.reshapeEquiv sq.numel_eq j)

theorem ix_zero (p : Fin B) (j : Shape.Idx ⟨2, ![n, k]⟩) : ix sq p j 0 = p := by
  refine Fin.ext ?_
  have h : (Shape.reshapeEquiv sq.numel_eq j (0 : Fin 3)).val < 1 := (Shape.reshapeEquiv sq.numel_eq j (0 : Fin 3)).isLt
  show p.val + 1 * (Shape.reshapeEquiv sq.numel_eq j (0 : Fin 3)).val = p.val
  omega

/-- The same place in block `p`. -/
def inBlk (p : Fin B) (i : Shape.Idx ⟨3, ![B, n, k]⟩) : Shape.Idx ⟨3, ![B, n, k]⟩ :=
  fun a => if h : a = 0 then ⟨p.val, by subst h; exact p.isLt⟩ else i a

theorem inBlk_ix (p p' : Fin B) (j : Shape.Idx ⟨2, ![n, k]⟩) : inBlk p' (ix sq p j) = ix sq p' j := by
  funext a
  by_cases ha : a = 0
  · subst ha; unfold inBlk; rw [dif_pos rfl, ix_zero]; rfl
  · unfold inBlk
    rw [dif_neg ha]
    refine Fin.ext ?_
    have h0 : ∀ p : Fin B, (![p.val, 0, 0] : Fin 3 → ℕ) a = 0 := by
      intro p; match a, ha with
      | 1, _ => rfl
      | 2, _ => rfl
    show (![p.val, 0, 0] : Fin 3 → ℕ) a + 1 * _ = (![p'.val, 0, 0] : Fin 3 → ℕ) a + 1 * _
    rw [h0, h0]

/-- Where in its block an element is. -/
def inside (i : Shape.Idx ⟨3, ![B, n, k]⟩) : Shape.Idx ⟨2, ![n, k]⟩ := fun | 0 => i 1 | 1 => i 2

theorem inside_ix (p : Fin B) (j : Shape.Idx ⟨2, ![n, k]⟩) : inside (ix sq p j) = j := by
  let y : Shape.Idx ⟨3, ![1, n, k]⟩ := fun | 0 => (0 : Fin 1) | 1 => j 0 | 2 => j 1
  have h : Shape.reshapeEquiv sq.numel_eq j = y := by
    refine Shape.reshapeEquiv_eq_of_rowMajor _ ?_
    rw [Shape.rowMajor_val_three, Shape.rowMajor_val_two]
    show (0 * n + (j 0).val) * k + (j 1).val = (j 0).val * k + (j 1).val
    rw [Nat.zero_mul, Nat.zero_add]
  funext a
  refine Fin.ext ?_
  match a with
  | 0 =>
    show 0 + 1 * (Shape.reshapeEquiv sq.numel_eq j (1 : Fin 3)).val = (j 0).val
    rw [h]; show 0 + 1 * (j 0).val = (j 0).val; omega
  | 1 =>
    show 0 + 1 * (Shape.reshapeEquiv sq.numel_eq j (2 : Fin 3)).val = (j 1).val
    rw [h]; show 0 + 1 * (j 1).val = (j 1).val; omega

theorem ix_surj (i : Shape.Idx ⟨3, ![B, n, k]⟩) : ∃ j, ix sq (i 0) j = i := by
  have hm : i ∈ (blkRect B n k (i 0)).set := by
    refine Rect.mem_set_unit.mpr fun a => ?_
    have := (i a).isLt
    match a with
    | 0 => exact ⟨le_refl _, Nat.lt_succ_self _⟩
    | 1 => exact ⟨Nat.zero_le _, by show (i 1).val < 0 + n; have h : (i 1).val < n := (i 1).isLt; omega⟩
    | 2 => exact ⟨Nat.zero_le _, by show (i 2).val < 0 + k; have h : (i 2).val < k := (i 2).isLt; omega⟩
  obtain ⟨x, hx⟩ := LoadRect.exists_idx_of_mem _ hm
  refine ⟨(Shape.reshapeEquiv sq.numel_eq).symm x, ?_⟩
  unfold ix
  rw [Equiv.apply_symm_apply]; exact hx

variable (M : Memref sig κ sp ⟨3, ![B, n, k]⟩ e)

theorem blk_read (p : Fin B) (f : M.view.ty.Contents Val) (j : Shape.Idx ⟨2, ![n, k]⟩) :
    (blk sq M p).view.read Val f j = M.view.read Val f (ix sq p j) := rfl

theorem blk_disjoint (p p' : Fin B) (h : p ≠ p') : Disjoint (blk sq M p).view.set (blk sq M p').view.set := by
  rw [Finset.disjoint_left]
  intro x hx hx'
  obtain ⟨j, -, rfl⟩ := Finset.mem_map.mp hx
  obtain ⟨j', -, he⟩ := Finset.mem_map.mp hx'
  have he' : ix sq p' j' = ix sq p j := M.view.emb.injective he
  exact h (by rw [← ix_zero sq p j, ← he', ix_zero])

theorem blk_cover (hM : M.IsWhole) : Finset.univ.biUnion (β := M.view.ty.Idx) (fun p => (blk sq M p).view.set) = Finset.univ := by
  refine Finset.eq_univ_iff_forall.mpr fun x => ?_
  have hx : x ∈ M.view.set := hM.set_eq_univ ▸ Finset.mem_univ x
  obtain ⟨i, -, rfl⟩ := Finset.mem_map.mp hx
  obtain ⟨j, hj⟩ := ix_surj sq i
  exact Finset.mem_biUnion.mpr ⟨i 0, Finset.mem_univ _, Finset.mem_map.mpr ⟨j, Finset.mem_univ _, congrArg M.view.emb hj⟩⟩

/-- A block whose address is given otherwise. -/
abbrev blkAt (off : Fin 3 → ℕ) (inb : ∀ a, off a + (![1, n, k] : Fin 3 → ℕ) a ≤ (![B, n, k] : Fin 3 → ℕ) a) : Memref sig κ sp ⟨2, ![n, k]⟩ e :=
  (M.slice (Rect.unit (s := ⟨3, ![B, n, k]⟩) off ![1, n, k] inb) (fun _ => rfl)).squeeze ⟨2, ![n, k]⟩ sq

theorem blkAt_read {p : Fin B} {off : Fin 3 → ℕ} (h : off = ![p.val, 0, 0]) (inb) (f : M.view.ty.Contents Val) :
    (blkAt sq M off inb).view.read Val f = (blk sq M p).view.read Val f := by
  subst h; rfl

section heap
variable {Λ₀ : Type}
local notation "𝕄" => MT nD τ sig Unit Val ℕ (UR sig nD τ) ℕ

/-- Contents that read the same through a view are the same there. -/
theorem pts_of_read {s : Shape} {q : PosShare TreeShare} {t : Thread nD τ} {v : View sig t.2.kind sp s e} {f g : Buf Val (v.loc t)}
    (h : v.read Val f = v.read Val g) : (v.loc t ↦[v.set]{q} f : sProp 𝕄) = v.loc t ↦[v.set]{q} g := by
  refine pointsTo_congr fun i hi => ?_
  obtain ⟨x, -, rfl⟩ := Finset.mem_map.mp hi
  have := congrFun h x
  rw [View.read_apply, View.read_apply] at this
  exact (cast_inj _).mp this

theorem pts_blkAt {t : Thread nD τ} (M : Memref sig t.2.kind sp ⟨3, ![B, n, k]⟩ e) {p : Fin B} {off : Fin 3 → ℕ} (h : off = ![p.val, 0, 0]) (inb)
    {q : PosShare TreeShare} (f : Buf Val (M.view.loc t)) :
    ((blkAt sq M off inb).view.loc t ↦[(blkAt sq M off inb).view.set]{q} f : sProp 𝕄) = (blk sq M p).view.loc t ↦[(blk sq M p).view.set]{q} f := by
  subst h; rfl

/-- The array whole is its blocks. -/
theorem pts_blk {t : Thread nD τ} (M : Memref sig t.2.kind sp ⟨3, ![B, n, k]⟩ e) (hM : M.IsWhole) {q : PosShare TreeShare} (f : Buf Val (M.view.loc t)) :
    (M.view.loc t ↦{q} f : sProp 𝕄) = bigSep Finset.univ fun p => (blk sq M p).view.loc t ↦[(blk sq M p).view.set]{q} f :=
  Ring.pointsTo_blocks (ℓ := M.view.loc t) (fun p => (blk sq M p).view.set) (blk_disjoint sq M) (blk_cover sq M hM) f

end heap

/-- The array with given elements. -/
def fill (v : Shape.Idx ⟨3, ![B, n, k]⟩ → Val e) (f₀ : M.view.ty.Contents Val) : M.view.ty.Contents Val :=
  M.view.write Val f₀ v Finset.univ

theorem fill_read (v : Shape.Idx ⟨3, ![B, n, k]⟩ → Val e) (f₀ : M.view.ty.Contents Val) : M.view.read Val (fill M v f₀) = v :=
  View.read_write_univ _ _

end Cert.Net

end
-- ==== Proof.Table.lean ====
module

public import proofs.«01_k».proof.Proof.Body
public import proofs.«01_k».proof.Proof.Blocks
public import proofs.«01_k».proof.Proof.Net

@[expose] public section

/-! # What each semaphore of the exchange carries

Device `c` keeps block `c` of each array and sends block `c xor q` to device `c xor q`, for `q = 1 … 7`. A send's
semaphore gives the sent block of the operand back; an arrival's semaphore gives a block of the result at its final
contents; the local copy's semaphore gives both. -/

noncomputable section

namespace Cert.Exchange

open Cert.KernelIdeal Cert.KernelIdeal.Gen Cert.Net
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem across_across (c : Dev nD) (q : Fin 8) : across (across c q) q = c := by
  revert c q; decide

theorem across_zero (c : Dev nD) : across c 0 = c := by
  revert c; decide

/-- The devices, counted from device `c`. -/
def acrossEquiv (c : Dev nD) : Fin 8 ≃ Dev nD where
  toFun := across c
  invFun p := across c p
  left_inv := by revert c; decide
  right_inv := by revert c; decide

/-- The semaphores by what they are for. -/
abbrev Use : Type := (Fin 9 × Fin 7) ⊕ (Fin 9 × Fin 7) ⊕ Fin 9

def semOf : Use → DmaSem sig
  | .inl x => sendSem x.1 x.2
  | .inr (.inl x) => recvSem x.1 x.2
  | .inr (.inr a) => locSem a

def useOf (i : DmaSem sig) : Use :=
  if h : i.val < 63 then .inl (⟨i.val / 7, by omega⟩, ⟨i.val % 7, by omega⟩)
  else if h' : i.val < 126 then .inr (.inl (⟨(i.val - 63) / 7, by omega⟩, ⟨(i.val - 63) % 7, by omega⟩))
  else .inr (.inr ⟨i.val - 126, by have : i.val < 135 := i.isLt; omega⟩)

def useEquiv : Use ≃ DmaSem sig where
  toFun := semOf
  invFun := useOf
  left_inv := by
    rintro (⟨a, r⟩ | ⟨a, r⟩ | a)
    · revert a r; decide
    · revert a r; decide
    · revert a; decide
  right_inv := by
    intro i
    have hi : i.val < 135 := i.isLt
    unfold useOf
    split_ifs with h h'
    · exact Fin.ext (by show 7 * (i.val / 7) + i.val % 7 = i.val; omega)
    · exact Fin.ext (by show 63 + (7 * ((i.val - 63) / 7) + (i.val - 63) % 7) = i.val; omega)
    · exact Fin.ext (by show 126 + (i.val - 126) = i.val; omega)

theorem useOf_send (a : Fin 9) (r : Fin 7) : useOf (sendSem a r) = .inl (a, r) := useEquiv.left_inv (.inl (a, r))
theorem useOf_recv (a : Fin 9) (r : Fin 7) : useOf (recvSem a r) = .inr (.inl (a, r)) := useEquiv.left_inv (.inr (.inl (a, r)))
theorem useOf_loc (a : Fin 9) : useOf (locSem a) = .inr (.inr a) := useEquiv.left_inv (.inr (.inr a))

/-- A table over the semaphores, by what they are for. -/
theorem bigSep_use (Φ : DmaSem sig → sProp 𝕄) :
    bigSep Finset.univ Φ = iprop((bigSep Finset.univ fun a => bigSep Finset.univ fun r => Φ (sendSem a r))
      ∗ (bigSep Finset.univ fun a => bigSep Finset.univ fun r => Φ (recvSem a r)) ∗ (bigSep Finset.univ fun a => Φ (locSem a))) := by
  rw [BI.bigSep_univ_equiv useEquiv, BI.bigSep_univ_sum, BI.bigSep_univ_sum, BI.bigSep_univ_prod, BI.bigSep_univ_prod]
  rfl

/-! ### The amounts -/

/-- What one block of array `a` raises a semaphore by. -/
def amtOf (a : Fin 9) : ℕ := (blk (arrs a).sq (arrs a).dst 0).view.dmaCredit

theorem amt_pos (a : Fin 9) : 0 < amtOf a :=
  View.dmaCredit_pos _ (by revert a; decide)

theorem credit_dst (a : Fin 9) (q : Fin 8) (d : Dev nD) : ((arrs a).slot (arrs a).dst q d).view.dmaCredit = amtOf a := rfl

theorem credit_src (a : Fin 9) (q : Fin 8) (d : Dev nD) : ((arrs a).slot (arrs a).src q d).view.dmaCredit = amtOf a := by
  match a with
  | 0 => rfl | 1 => rfl | 2 => rfl | 3 => rfl | 4 => rfl | 5 => rfl | 6 => rfl | 7 => rfl | 8 => rfl

/-! ### The contents -/

variable (m : (ℓ : Loc nD τ sig) → Buf (Elt F) ℓ)

/-- Array `a` of device `p` at launch, as an array of blocks. -/
def inAt (a : Fin 9) (p : Dev nD) : Shape.Idx ⟨3, ![8, (arrs a).n, (arrs a).k]⟩ → Elt F .bf16 :=
  (arrs a).src.view.read (Elt F) (m ((arrs a).src.view.loc (p.tc : Thread nD τ)))

/-- Result `a` of device `c`: block `p` is device `p`'s block `c`. -/
def outVal (a : Fin 9) (c : Dev nD) : Shape.Idx ⟨3, ![8, (arrs a).n, (arrs a).k]⟩ → Elt F .bf16 :=
  fun i => inAt m a (i 0) (inBlk c i)

def outAt (a : Fin 9) (c : Dev nD) : Buf (Elt F) ((arrs a).dst.view.loc (c.tc : Thread nD τ)) :=
  fill (arrs a).dst (outVal m a c) (m ((arrs a).dst.view.loc (c.tc : Thread nD τ)))

theorem out_read (a : Fin 9) (c p : Dev nD) :
    (blk (arrs a).sq (arrs a).dst p).view.read (Elt F) (outAt m a c)
      = (blk (arrs a).sq (arrs a).src c).view.read (Elt F) (m ((arrs a).src.view.loc (p.tc : Thread nD τ))) := by
  funext j
  rw [blk_read, blk_read]
  unfold outAt
  rw [fill_read]
  unfold outVal
  rw [inBlk_ix]
  have h : ix (arrs a).sq p j 0 = p := ix_zero _ p j
  exact congrArg (fun p' : Dev nD => inAt m a p' (ix (arrs a).sq c j)) h

/-! ### The resources -/

/-- Block `p` of operand `a` on device `c`, at its launch contents. -/
def inB (a : Fin 9) (c p : Dev nD) : sProp 𝕄 :=
  (blk (arrs a).sq (arrs a).src p).view.loc (c.tc : Thread nD τ) ↦[(blk (arrs a).sq (arrs a).src p).view.set]{fullShare} m ((arrs a).src.view.loc (c.tc : Thread nD τ))

/-- Block `p` of result `a` on device `c` before anything has arrived, -/
def rawB (a : Fin 9) (c p : Dev nD) : sProp 𝕄 :=
  (blk (arrs a).sq (arrs a).dst p).view.loc (c.tc : Thread nD τ) ↦[(blk (arrs a).sq (arrs a).dst p).view.set]{fullShare} m ((arrs a).dst.view.loc (c.tc : Thread nD τ))

/-- and at its final contents. -/
def outB (a : Fin 9) (c p : Dev nD) : sProp 𝕄 :=
  (blk (arrs a).sq (arrs a).dst p).view.loc (c.tc : Thread nD τ) ↦[(blk (arrs a).sq (arrs a).dst p).view.set]{fullShare} outAt m a c

def payOf (c : Dev nD) : Use → sProp 𝕄
  | .inl x => inB m x.1 c (across c x.2.succ)
  | .inr (.inl x) => outB m x.1 c (across c x.2.succ)
  | .inr (.inr a) => iprop(outB m a c c ∗ inB m a c c)

def amtUse : Use → ℕ
  | .inl x => amtOf x.1
  | .inr (.inl x) => amtOf x.1
  | .inr (.inr a) => amtOf a

def plan : Plan nD τ sig (Elt F) where
  amt _ i := amtUse (useOf i)
  pos _ i := by
    rcases useOf i with x | x | a
    · exact amt_pos _
    · exact amt_pos _
    · exact amt_pos _
  pay c i := payOf m c (useOf i)
  sto c i := by
    rcases useOf i with x | x | a
    · show BI.Storable _ (inB m _ _ _); unfold inB; infer_instance
    · show BI.Storable _ (outB m _ _ _); unfold outB; infer_instance
    · show BI.Storable _ iprop(outB m _ _ _ ∗ inB m _ _ _); unfold inB outB; infer_instance

theorem amt_send (c : Dev nD) (a : Fin 9) (r : Fin 7) : (plan m).amt c (sendSem a r) = amtOf a := by
  show amtUse (useOf _) = _; rw [useOf_send]; rfl
theorem amt_recv (c : Dev nD) (a : Fin 9) (r : Fin 7) : (plan m).amt c (recvSem a r) = amtOf a := by
  show amtUse (useOf _) = _; rw [useOf_recv]; rfl
theorem amt_loc (c : Dev nD) (a : Fin 9) : (plan m).amt c (locSem a) = amtOf a := by
  show amtUse (useOf _) = _; rw [useOf_loc]; rfl
theorem pay_send (c : Dev nD) (a : Fin 9) (r : Fin 7) : (plan m).pay c (sendSem a r) = inB m a c (across c r.succ) := by
  show payOf m c (useOf _) = _; rw [useOf_send]; rfl
theorem pay_recv (c : Dev nD) (a : Fin 9) (r : Fin 7) : (plan m).pay c (recvSem a r) = outB m a c (across c r.succ) := by
  show payOf m c (useOf _) = _; rw [useOf_recv]; rfl
theorem pay_loc (c : Dev nD) (a : Fin 9) : (plan m).pay c (locSem a) = iprop(outB m a c c ∗ inB m a c c) := by
  show payOf m c (useOf _) = _; rw [useOf_loc]; rfl

/-! ### The same at the printed addresses -/

theorem inB_slot (a : Fin 9) (q : Fin 8) (c d : Dev nD) :
    (((arrs a).slot (arrs a).src q d).view.loc (c.tc : Thread nD τ) ↦[((arrs a).slot (arrs a).src q d).view.set]{fullShare} m ((arrs a).src.view.loc (c.tc : Thread nD τ)) : sProp 𝕄)
      = inB m a c (across d q) :=
  pts_blkAt (t := (c.tc : Thread nD τ)) (arrs a).sq (arrs a).src (off_eq a q d) _ _

theorem rawB_slot (a : Fin 9) (q : Fin 8) (c d : Dev nD) :
    (((arrs a).slot (arrs a).dst q d).view.loc (c.tc : Thread nD τ) ↦[((arrs a).slot (arrs a).dst q d).view.set]{fullShare} m ((arrs a).dst.view.loc (c.tc : Thread nD τ)) : sProp 𝕄)
      = rawB m a c (across d q) :=
  pts_blkAt (t := (c.tc : Thread nD τ)) (arrs a).sq (arrs a).dst (off_eq a q d) _ _

/-- A block written with what device `d` sends to device `c`. -/
theorem outB_slot (a : Fin 9) (q q' : Fin 8) (c d : Dev nD) (h : across d q = d) (h' : across d q' = c) :
    (((arrs a).slot (arrs a).dst q d).view.loc (c.tc : Thread nD τ) ↦[((arrs a).slot (arrs a).dst q d).view.set]{fullShare}
        ((arrs a).slot (arrs a).dst q d).view.write (Elt F) (m ((arrs a).dst.view.loc (c.tc : Thread nD τ)))
          (((arrs a).slot (arrs a).src q' d).view.read (Elt F) (m ((arrs a).src.view.loc (d.tc : Thread nD τ)))) Finset.univ : sProp 𝕄)
      = outB m a c d := by
  have hd : (arrs a).off q d = ![d.val, 0, 0] := (off_eq a q d).trans (by rw [h])
  have hs : (arrs a).off q' d = ![c.val, 0, 0] := (off_eq a q' d).trans (by rw [h'])
  refine (pts_of_read (t := (c.tc : Thread nD τ)) (v := ((arrs a).slot (arrs a).dst q d).view) (g := outAt m a c) ?_).trans
    (pts_blkAt (t := (c.tc : Thread nD τ)) (arrs a).sq (arrs a).dst hd _ _)
  refine (View.read_write_univ _ _).trans ?_
  exact ((blkAt_read (arrs a).sq (arrs a).src hs _ _).trans (out_read m a c d).symm).trans (blkAt_read (arrs a).sq (arrs a).dst hd _ _).symm

end Cert.Exchange

end
-- ==== Proof.Phases.lean ====
module

public import proofs.«01_k».proof.Proof.Table
public import proofs.«01_k».proof.Proof.Each

@[expose] public section

/-! # The exchange, operation by operation and phase by phase -/

noncomputable section

namespace Cert.Exchange

open Cert.KernelIdeal Cert.KernelIdeal.Gen Cert.Net
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) {defs : Defs nD τ sig (Elt F) Λ₀} (𝒱 : Variants) (κ : GSem nD τ sig → ℕ) (c : Dev nD)

/-- What device `c` owes the peers for array `a`, send `r`. -/
def dueOf (c : Dev nD) (a : Fin 9) (r : Fin 7) : CellTallies nD τ sig Unit :=
  tallyAt (cell (across c r.succ) (recvSem a r)) () (amtOf a)

section ops
variable (a : Fin 9) (r : Fin 7) {k : PUnit → Prog (TpuEff nD τ sig (Elt F) Λ₀ .tc) PUnit}

theorem wp_local {Q : PUnit → sProp 𝕄} :
    iprop((plan m).known κ ∗ inB m a c c ∗ rawB m a c c ∗ dutyTok ER (cell c (locSem a)) 0 ())
      ⊢ iprop((cred (tallyAt (cell c (locSem a)) () (amtOf a)) -∗ wp frame (wpE defs 𝒱 (c.tc : Thread nD τ) none) Set.univ (k ⟨⟩) Q)
          -∗ wp frame (wpE defs 𝒱 (c.tc : Thread nD τ) none) Set.univ (.op (opLocal c a) k) Q) := by
  have hs := inB_slot m a 0 c c
  have hd := rawB_slot m a 0 c c
  have ho := outB_slot m a 0 0 c c (across_zero c) (across_zero c)
  rw [across_zero] at hs hd
  have h := (plan m).wp_copy (defs := defs) 𝒱 c κ (i := locSem a) (src := (arrs a).slot (arrs a).src 0 c) (dst := (arrs a).slot (arrs a).dst 0 c)
    (hsrc := (arrs a).exact (arrs a).hsrc 0 c) (hdst := (arrs a).exact (arrs a).hdst 0 c) (hsem := ⟨Or.inl rfl, trivial⟩) (k := k) (Q := Q)
    (q := fullShare) (fs := m ((arrs a).src.view.loc (c.tc : Thread nD τ))) (fd := m ((arrs a).dst.view.loc (c.tc : Thread nD τ)))
    ((credit_dst a 0 c).trans (amt_loc m c a).symm) (by rw [pay_loc]; exact BI.sep_mono (Entails.of_eq ho) (Entails.of_eq hs))
  rw [amt_loc] at h
  refine BI.BIBase.Entails.trans (Q := iprop((plan m).known κ ∗ _ ∗ _ ∗ dutyTok ER (cell c (locSem a)) 0 ())) ?_ h
  exact BI.sep_mono (BI.Entails.refl _) (BI.sep_mono (Entails.of_eq hs.symm) (BI.sep_mono (Entails.of_eq hd.symm) (BI.Entails.refl _)))

theorem wp_sendTo {Q : PUnit → sProp 𝕄} (O : CellTallies nD τ sig Unit) :
    iprop((plan m).known κ ∗ inB m a c (across c r.succ) ∗ rawB m a (across c r.succ) c ∗ promises c (O + dueOf c a r)
        ∗ dutyTok ER (cell c (sendSem a r)) 0 () ∗ dutyTok ER (cell (across c r.succ) (recvSem a r)) 0 ())
      ⊢ iprop(((cred (tallyAt (cell c (sendSem a r)) () (amtOf a)) ∗ promises c O) -∗ wp frame (wpE defs 𝒱 (c.tc : Thread nD τ) none) Set.univ (k ⟨⟩) Q)
          -∗ wp frame (wpE defs 𝒱 (c.tc : Thread nD τ) none) Set.univ (.op (opSend c a r) k) Q) := by
  have hs := inB_slot m a r.succ c c
  have hd := rawB_slot m a 0 (across c r.succ) c
  have ho := outB_slot m a 0 r.succ (across c r.succ) c (across_zero c) rfl
  rw [across_zero] at hd
  have h := (plan m).wp_send (defs := defs) 𝒱 c κ (n := dev a r c) (c' := across c r.succ) (dev_eq a r c) (i := sendSem a r) (j := recvSem a r)
    (src := (arrs a).slot (arrs a).src r.succ c) (dst := (arrs a).slot (arrs a).dst 0 c) (hsc := rfl)
    (hsrc := (arrs a).exact (arrs a).hsrc r.succ c) (hdst := (arrs a).exact (arrs a).hdst 0 c) (hsem := ⟨⟨rfl, Or.inl rfl⟩, trivial⟩) (k := k) (Q := Q)
    (q := fullShare) (fs := m ((arrs a).src.view.loc (c.tc : Thread nD τ))) (fd := m ((arrs a).dst.view.loc ((across c r.succ).tc : Thread nD τ)))
    (amtOf a) (credit_dst a 0 c) (amt_send m c a r) (amt_recv m _ a r) O (by rw [pay_send]; exact Entails.of_eq hs)
    (by rw [pay_recv, across_across]; exact Entails.of_eq ho)
  refine BI.BIBase.Entails.trans (Q := iprop((plan m).known κ ∗ _ ∗ _ ∗ promises c (O + dueOf c a r) ∗ dutyTok ER (cell c (sendSem a r)) 0 ()
    ∗ dutyTok ER (cell (across c r.succ) (recvSem a r)) 0 ())) ?_ h
  exact BI.sep_mono (BI.Entails.refl _) (BI.sep_mono (Entails.of_eq hs.symm) (BI.sep_mono (Entails.of_eq hd.symm) (BI.Entails.refl _)))

/-- A wait, once nothing is owed. -/
theorem wp_waitFor {sp sp' : Space} {s : Shape} {e : EltTy} {src : Memref sig .tc sp s e} {dst : Memref sig .tc sp' s e} {i : DmaSem sig}
    {hsrc : src.view.WordExact} {hdst : dst.view.WordExact} (hN : dst.view.dmaCredit = (plan m).amt c i) {N : ℕ} (hN' : (plan m).amt c i = N)
    {R : sProp 𝕄} (hR : (plan m).pay c i = R) :
    iprop((plan m).known κ ∗ (cred (tallyAt (cell c i) () N) ∗ atPos ER (cell c i) 0 ∅ 0) ∗ promises c 0)
      ⊢ wp frame (wpE defs 𝒱 (c.tc : Thread nD τ) none) Set.univ (.op (.waitDma2 i src dst hsrc hdst) .ret)
          fun _ => iprop((semVal (cell c i) 0 ∗ R) ∗ promises c 0) := by
  subst hN' hR
  iintro ⟨#HK, ⟨Hc, Hat⟩, HO⟩
  iapply ((plan m).wp_wait (defs := defs) 𝒱 c κ (k := .ret) hN 0) $$ [Hc Hat HO]
  · isplitr; · iexact HK
    isplitl [Hc]; · iexact Hc
    isplitl [HO]; · iexact HO
    isplitr; · iapply (Entails.of_eq (MayWait_zero (c.tc : Thread nD τ) (.dma i) ()).symm); iempintro
    iexact Hat
  iintro ⟨HO, Hs, Hp⟩
  rw [wp_ret]
  imodintro
  isplitl [Hs Hp]
  · isplitl [Hs] <;> iassumption
  · iexact HO

end ops

/-! ### The phases -/

/-- The phases. -/
def pStart (c : Dev nD) : Prog (TpuEff nD τ sig (Elt F) Λ₀ .tc) PUnit :=
  runFin 9 fun a => .op (opLocal c a) fun _ => runFin 7 fun r => .op (opSend c a r) .ret
def pRecv (c : Dev nD) : Prog (TpuEff nD τ sig (Elt F) Λ₀ .tc) PUnit := runFin 9 fun a => runFin 7 fun r => .op (opRecv c a r) .ret
def pSent (c : Dev nD) : Prog (TpuEff nD τ sig (Elt F) Λ₀ .tc) PUnit := runFin 9 fun a => runFin 7 fun r => .op (opSent c a r) .ret
def pMine (c : Dev nD) : Prog (TpuEff nD τ sig (Elt F) Λ₀ .tc) PUnit := runFin 9 fun a => .op (opMine c a) .ret

attribute [local irreducible] runFin

theorem body_phases (c : Dev nD) : body (F := F) c = (pStart c).bind fun _ => (pRecv c).bind fun _ => (pSent c).bind fun _ => pMine c := rfl

/-- What one array's copies take, -/
def need (a : Fin 9) : sProp 𝕄 :=
  iprop((inB m a c c ∗ rawB m a c c ∗ dutyTok ER (cell c (locSem a)) 0 ())
    ∗ bigSep Finset.univ fun r : Fin 7 => iprop(inB m a c (across c r.succ) ∗ rawB m a (across c r.succ) c
        ∗ dutyTok ER (cell c (sendSem a r)) 0 () ∗ dutyTok ER (cell (across c r.succ) (recvSem a r)) 0 ()))

/-- and what they give at once. -/
def begun (a : Fin 9) : sProp 𝕄 :=
  iprop(cred (tallyAt (cell c (locSem a)) () (amtOf a)) ∗ bigSep Finset.univ fun r : Fin 7 => cred (tallyAt (cell c (sendSem a r)) () (amtOf a)))

theorem start_one (a : Fin 9) (O : CellTallies nD τ sig Unit) :
    iprop((plan m).known κ ∗ need m c a ∗ promises c (O + ∑ r, dueOf c a r))
      ⊢ wp frame (wpE defs 𝒱 (c.tc : Thread nD τ) none) Set.univ (.op (opLocal c a) fun _ => runFin 7 fun r => .op (opSend c a r) .ret)
          fun _ => iprop(begun (F := F) c a ∗ promises c O) := by
  have h := wp_runFin (defs := defs) 𝒱 c ((plan m).known κ) (promises c) (fun r : Fin 7 => .op (opSend c a r) .ret)
    (fun r => iprop(inB m a c (across c r.succ) ∗ rawB m a (across c r.succ) c
        ∗ dutyTok ER (cell c (sendSem a r)) 0 () ∗ dutyTok ER (cell (across c r.succ) (recvSem a r)) 0 ()))
    (fun r => cred (tallyAt (cell c (sendSem a r)) () (amtOf a))) (dueOf c a) (fun r O => by
      iintro ⟨#HK, ⟨Hi, Hr, Ht, Ht'⟩, HO⟩
      iapply (wp_sendTo m (defs := defs) 𝒱 κ c a r O) $$ [Hi Hr HO Ht Ht']
      · isplitr; · iexact HK
        isplitl [Hi]; · iexact Hi
        isplitl [Hr]; · iexact Hr
        isplitl [HO]; · iexact HO
        isplitl [Ht]; · iexact Ht
        iexact Ht'
      iintro ⟨Hc, HO⟩
      rw [wp_ret]
      imodintro
      isplitl [Hc] <;> iassumption) O
  unfold need begun
  iintro ⟨#HK, ⟨⟨Hi, Hr, Ht⟩, HR⟩, HO⟩
  iapply (wp_local m (defs := defs) 𝒱 κ c a) $$ [Hi Hr Ht]
  · isplitr; · iexact HK
    isplitl [Hi]; · iexact Hi
    isplitl [Hr]; · iexact Hr
    iexact Ht
  iintro Hc
  have h' : iprop(cred (tallyAt (cell c (locSem a)) () (amtOf a)) ∗ (plan m).known κ ∗ (bigSep Finset.univ fun r : Fin 7 => iprop(inB m a c (across c r.succ) ∗ rawB m a (across c r.succ) c
        ∗ dutyTok ER (cell c (sendSem a r)) 0 () ∗ dutyTok ER (cell (across c r.succ) (recvSem a r)) 0 ())) ∗ promises c (O + ∑ r, dueOf c a r))
      ⊢ wp frame (wpE defs 𝒱 (c.tc : Thread nD τ) none) Set.univ (runFin 7 fun r => .op (opSend c a r) .ret)
          fun _ => iprop((cred (tallyAt (cell c (locSem a)) () (amtOf a)) ∗ bigSep Finset.univ fun r : Fin 7 => cred (tallyAt (cell c (sendSem a r)) () (amtOf a))) ∗ promises c O) := by
    refine BI.BIBase.Entails.trans (BI.sep_mono (BI.Entails.refl _) h) ((wp_frame_l frame (wpE defs 𝒱 (c.tc : Thread nD τ) none) Set.univ).trans (wp_mono _ _ _ fun _ => ?_))
    iintro ⟨Hc, HR, HO⟩
    isplitl [Hc HR]
    · isplitl [Hc] <;> iassumption
    · iexact HO
  iapply h'
  isplitl [Hc]; · iexact Hc
  isplitr; · iexact HK
  isplitl [HR]; · iexact HR
  iexact HO

theorem phase_start :
    iprop((plan m).known κ ∗ (bigSep Finset.univ fun a => need m c a) ∗ promises c (∑ a, ∑ r, dueOf c a r))
      ⊢ wp frame (wpE defs 𝒱 (c.tc : Thread nD τ) none) Set.univ (pStart c)
          fun _ => iprop((bigSep Finset.univ fun a => begun (F := F) c a) ∗ promises c 0) := by
  have h := wp_runFin (defs := defs) 𝒱 c ((plan m).known κ) (promises c) (fun a => .op (opLocal c a) fun _ => runFin 7 fun r => .op (opSend c a r) .ret)
    (need m c) (begun c) (fun a => ∑ r, dueOf c a r) (start_one m 𝒱 κ c) 0
  rw [zero_add] at h
  exact h

/-- A repetition of waits. -/
theorem phase_wait {n : ℕ} (p : Fin n → Prog (TpuEff nD τ sig (Elt F) Λ₀ .tc) PUnit) (R S : Fin n → sProp 𝕄)
    (h : ∀ i, iprop((plan m).known κ ∗ R i ∗ promises c 0)
      ⊢ wp frame (wpE defs 𝒱 (c.tc : Thread nD τ) none) Set.univ (p i) fun _ => iprop(S i ∗ promises c 0)) :
    iprop((plan m).known κ ∗ bigSep Finset.univ R ∗ promises c 0)
      ⊢ wp frame (wpE defs 𝒱 (c.tc : Thread nD τ) none) Set.univ (runFin n p) fun _ => iprop(bigSep Finset.univ S ∗ promises c 0) :=
  wp_runFin (A := ℕ) (defs := defs) 𝒱 c ((plan m).known κ) (fun _ => promises c 0) p R S (fun _ => 0) (fun i _ => h i) 0

/-- What a wait on semaphore `i` takes, -/
def waiting (a : Fin 9) (i : DmaSem sig) : sProp 𝕄 := iprop(cred (tallyAt (cell c i) () (amtOf a)) ∗ atPos ER (cell c i) 0 ∅ 0)

theorem wait_recv (a : Fin 9) (r : Fin 7) :
    iprop((plan m).known κ ∗ waiting (F := F) c a (recvSem a r) ∗ promises c 0)
      ⊢ wp frame (wpE defs 𝒱 (c.tc : Thread nD τ) none) Set.univ (.op (opRecv c a r) .ret)
          fun _ => iprop((semVal (cell c (recvSem a r)) 0 ∗ outB m a c (across c r.succ)) ∗ promises c 0) := by
  unfold waiting opRecv
  exact wp_waitFor m 𝒱 κ c ((credit_dst a r.succ c).trans (amt_recv m c a r).symm) (amt_recv m c a r) (pay_recv m c a r)

theorem wait_sent (a : Fin 9) (r : Fin 7) :
    iprop((plan m).known κ ∗ waiting (F := F) c a (sendSem a r) ∗ promises c 0)
      ⊢ wp frame (wpE defs 𝒱 (c.tc : Thread nD τ) none) Set.univ (.op (opSent c a r) .ret)
          fun _ => iprop((semVal (cell c (sendSem a r)) 0 ∗ inB m a c (across c r.succ)) ∗ promises c 0) := by
  unfold waiting opSent
  exact wp_waitFor m 𝒱 κ c ((credit_src a r.succ c).trans (amt_send m c a r).symm) (amt_send m c a r) (pay_send m c a r)

theorem wait_mine (a : Fin 9) :
    iprop((plan m).known κ ∗ waiting (F := F) c a (locSem a) ∗ promises c 0)
      ⊢ wp frame (wpE defs 𝒱 (c.tc : Thread nD τ) none) Set.univ (.op (opMine c a) .ret)
          fun _ => iprop((semVal (cell c (locSem a)) 0 ∗ outB m a c c ∗ inB m a c c) ∗ promises c 0) := by
  unfold waiting opMine
  exact wp_waitFor m 𝒱 κ c ((credit_dst a 0 c).trans (amt_loc m c a).symm) (amt_loc m c a) (pay_loc m c a)

theorem waits_recv (a : Fin 9) :
    iprop((plan m).known κ ∗ (bigSep Finset.univ fun r => waiting (F := F) c a (recvSem a r)) ∗ promises c 0)
      ⊢ wp frame (wpE defs 𝒱 (c.tc : Thread nD τ) none) Set.univ (runFin 7 fun r => .op (opRecv c a r) .ret)
          fun _ => iprop((bigSep Finset.univ fun r : Fin 7 => iprop(semVal (cell c (recvSem a r)) 0 ∗ outB m a c (across c r.succ))) ∗ promises c 0) :=
  phase_wait m 𝒱 κ c (fun r => .op (opRecv c a r) .ret) (fun r => waiting (F := F) c a (recvSem a r))
    (fun r => iprop(semVal (cell c (recvSem a r)) 0 ∗ outB m a c (across c r.succ))) (wait_recv m 𝒱 κ c a)

theorem phase_recv :
    iprop((plan m).known κ ∗ (bigSep Finset.univ fun a => bigSep Finset.univ fun r => waiting (F := F) c a (recvSem a r)) ∗ promises c 0)
      ⊢ wp frame (wpE defs 𝒱 (c.tc : Thread nD τ) none) Set.univ (pRecv c)
          fun _ => iprop((bigSep Finset.univ fun a => bigSep Finset.univ fun r => iprop(semVal (cell c (recvSem a r)) 0 ∗ outB m a c (across c r.succ))) ∗ promises c 0) := by
  unfold pRecv
  exact phase_wait m 𝒱 κ c (fun a => runFin 7 fun r => .op (opRecv c a r) .ret) (fun a => bigSep Finset.univ fun r => waiting (F := F) c a (recvSem a r))
    (fun a => bigSep Finset.univ fun r => iprop(semVal (cell c (recvSem a r)) 0 ∗ outB m a c (across c r.succ)))
    (waits_recv m 𝒱 κ c)

theorem waits_sent (a : Fin 9) :
    iprop((plan m).known κ ∗ (bigSep Finset.univ fun r => waiting (F := F) c a (sendSem a r)) ∗ promises c 0)
      ⊢ wp frame (wpE defs 𝒱 (c.tc : Thread nD τ) none) Set.univ (runFin 7 fun r => .op (opSent c a r) .ret)
          fun _ => iprop((bigSep Finset.univ fun r : Fin 7 => iprop(semVal (cell c (sendSem a r)) 0 ∗ inB m a c (across c r.succ))) ∗ promises c 0) :=
  phase_wait m 𝒱 κ c (fun r => .op (opSent c a r) .ret) (fun r => waiting (F := F) c a (sendSem a r))
    (fun r => iprop(semVal (cell c (sendSem a r)) 0 ∗ inB m a c (across c r.succ))) (wait_sent m 𝒱 κ c a)

theorem phase_sent :
    iprop((plan m).known κ ∗ (bigSep Finset.univ fun a => bigSep Finset.univ fun r => waiting (F := F) c a (sendSem a r)) ∗ promises c 0)
      ⊢ wp frame (wpE defs 𝒱 (c.tc : Thread nD τ) none) Set.univ (pSent c)
          fun _ => iprop((bigSep Finset.univ fun a => bigSep Finset.univ fun r => iprop(semVal (cell c (sendSem a r)) 0 ∗ inB m a c (across c r.succ))) ∗ promises c 0) := by
  unfold pSent
  exact phase_wait m 𝒱 κ c (fun a => runFin 7 fun r => .op (opSent c a r) .ret) (fun a => bigSep Finset.univ fun r => waiting (F := F) c a (sendSem a r))
    (fun a => bigSep Finset.univ fun r => iprop(semVal (cell c (sendSem a r)) 0 ∗ inB m a c (across c r.succ)))
    (waits_sent m 𝒱 κ c)

theorem phase_mine :
    iprop((plan m).known κ ∗ (bigSep Finset.univ fun a => waiting (F := F) c a (locSem a)) ∗ promises c 0)
      ⊢ wp frame (wpE defs 𝒱 (c.tc : Thread nD τ) none) Set.univ (pMine c)
          fun _ => iprop((bigSep Finset.univ fun a => iprop(semVal (cell c (locSem a)) 0 ∗ outB m a c c ∗ inB m a c c)) ∗ promises c 0) := by
  unfold pMine
  exact phase_wait m 𝒱 κ c (fun a => .op (opMine c a) .ret) (fun a => waiting (F := F) c a (locSem a))
    (fun a => iprop(semVal (cell c (locSem a)) 0 ∗ outB m a c c ∗ inB m a c c)) (wait_mine m 𝒱 κ c)

/-! ### The body -/

/-- What the body of device `c` takes beside what it owes, -/
def before : sProp 𝕄 :=
  iprop((plan m).known κ ∗ (bigSep Finset.univ fun a => need m c a)
    ∗ (bigSep Finset.univ fun a => bigSep Finset.univ fun r => cred (tallyAt (cell c (recvSem a r)) () (amtOf a)))
    ∗ (bigSep Finset.univ fun i : DmaSem sig => atPos ER (cell c i) 0 ∅ 0))

/-- and what it leaves. -/
def after : sProp 𝕄 :=
  iprop(((bigSep Finset.univ fun a => bigSep Finset.univ fun r : Fin 7 => outB m a c (across c r.succ))
    ∗ (bigSep Finset.univ fun a => bigSep Finset.univ fun r : Fin 7 => inB m a c (across c r.succ))
    ∗ (bigSep Finset.univ fun a => iprop(outB m a c c ∗ inB m a c c)))
    ∗ (bigSep Finset.univ fun i : DmaSem sig => semVal (cell c i) 0))

/-- One phase after another. -/
theorem wp_seq {p q : Prog (TpuEff nD τ sig (Elt F) Λ₀ .tc) PUnit} {A B C K R : sProp 𝕄} [BI.Persistent K]
    (hp : iprop(K ∗ A) ⊢ wp frame (wpE defs 𝒱 (c.tc : Thread nD τ) none) Set.univ p fun _ => B)
    (hq : iprop(K ∗ B ∗ R) ⊢ wp frame (wpE defs 𝒱 (c.tc : Thread nD τ) none) Set.univ q fun _ => C) :
    iprop(K ∗ A ∗ R) ⊢ wp frame (wpE defs 𝒱 (c.tc : Thread nD τ) none) Set.univ (p.bind fun _ => q) fun _ => C := by
  show _ ⊢ wp frame (wpE defs 𝒱 (c.tc : Thread nD τ) none) Set.univ (p >>= fun _ => q) _
  rw [wp_bind]
  refine BI.BIBase.Entails.trans (Q := iprop((K ∗ R) ∗ (K ∗ A))) ?_ (BI.BIBase.Entails.trans (BI.sep_mono (BI.Entails.refl _) hp)
    ((wp_frame_l frame (wpE defs 𝒱 (c.tc : Thread nD τ) none) Set.univ).trans (wp_mono _ _ _ fun _ => BI.BIBase.Entails.trans ?_ hq)))
  · iintro ⟨#HK, HA, HR⟩
    isplitl [HR]
    · isplitr; · iexact HK
      iexact HR
    · isplitr; · iexact HK
      iexact HA
  · iintro ⟨⟨HK, HR⟩, HB⟩
    isplitl [HK]; · iexact HK
    isplitl [HB] <;> iassumption

/-- What all sends of device `c` owe. -/
def due (c : Dev nD) : CellTallies nD τ sig Unit := ∑ a, ∑ r, dueOf c a r

theorem body_wp :
    iprop(before m κ c ∗ promises c (due c))
      ⊢ wp frame (wpE defs 𝒱 (c.tc : Thread nD τ) none) Set.univ (body c) fun _ => iprop(after m c ∗ promises c 0) := by
  let K : sProp 𝕄 := (plan m).known κ
  -- the last phase, and what it leaves beside the finished ones
  have h4 : iprop(K ∗ ((bigSep Finset.univ fun a => bigSep Finset.univ fun r => iprop(semVal (cell c (sendSem a r)) 0 ∗ inB m a c (across c r.succ))) ∗ promises c 0)
        ∗ ((bigSep Finset.univ fun a => bigSep Finset.univ fun r => iprop(semVal (cell c (recvSem a r)) 0 ∗ outB m a c (across c r.succ)))
          ∗ (bigSep Finset.univ fun a => waiting (F := F) c a (locSem a))))
      ⊢ wp frame (wpE defs 𝒱 (c.tc : Thread nD τ) none) Set.univ (pMine c) fun _ => iprop(after m c ∗ promises c 0) := by
    refine BI.BIBase.Entails.trans (Q := iprop((((bigSep Finset.univ fun a => bigSep Finset.univ fun r => iprop(semVal (cell c (sendSem a r)) 0 ∗ inB m a c (across c r.succ))))
        ∗ (bigSep Finset.univ fun a => bigSep Finset.univ fun r => iprop(semVal (cell c (recvSem a r)) 0 ∗ outB m a c (across c r.succ))))
        ∗ (K ∗ (bigSep Finset.univ fun a => waiting (F := F) c a (locSem a)) ∗ promises c 0))) ?_
      (BI.BIBase.Entails.trans (BI.sep_mono (BI.Entails.refl _) (phase_mine m (defs := defs) 𝒱 κ c))
        ((wp_frame_l frame (wpE defs 𝒱 (c.tc : Thread nD τ) none) Set.univ).trans (wp_mono _ _ _ fun _ => ?_)))
    · iintro ⟨HK, ⟨HA, HO⟩, HB, HC⟩
      isplitl [HA HB]
      · isplitl [HA] <;> iassumption
      · isplitl [HK]; · iexact HK
        isplitl [HC] <;> iassumption
    · unfold after
      simp only [bigSep_sep', bigSep_use (F := F)]
      iintro ⟨⟨⟨Hs1, Hi⟩, Hs2, Ho⟩, ⟨Hs3, Hm⟩, HO⟩
      isplitr [HO]
      · isplitl [Hi Ho Hm]
        · isplitl [Ho]; · iexact Ho
          isplitl [Hi]; · iexact Hi
          iexact Hm
        · isplitl [Hs1]; · iexact Hs1
          isplitl [Hs2]; · iexact Hs2
          iexact Hs3
      · iexact HO
  have h3 : iprop(K ∗ ((bigSep Finset.univ fun a => bigSep Finset.univ fun r => iprop(semVal (cell c (recvSem a r)) 0 ∗ outB m a c (across c r.succ))) ∗ promises c 0)
        ∗ ((bigSep Finset.univ fun a => bigSep Finset.univ fun r => waiting (F := F) c a (sendSem a r))
          ∗ (bigSep Finset.univ fun a => waiting (F := F) c a (locSem a))))
      ⊢ wp frame (wpE defs 𝒱 (c.tc : Thread nD τ) none) Set.univ ((pSent c).bind fun _ => pMine c) fun _ => iprop(after m c ∗ promises c 0) := by
    refine BI.BIBase.Entails.trans ?_ (wp_seq (K := K) 𝒱 c (phase_sent m (defs := defs) 𝒱 κ c) h4)
    iintro ⟨HK, ⟨HA, HO⟩, HB, HC⟩
    isplitl [HK]; · iexact HK
    isplitl [HB HO]
    · isplitl [HB] <;> iassumption
    · isplitl [HA] <;> iassumption
  have h2 : iprop(K ∗ ((bigSep Finset.univ fun a => begun (F := F) c a) ∗ promises c 0)
        ∗ ((bigSep Finset.univ fun a => bigSep Finset.univ fun r => cred (tallyAt (cell c (recvSem a r)) () (amtOf a)))
          ∗ (bigSep Finset.univ fun i : DmaSem sig => atPos ER (cell c i) 0 ∅ 0)))
      ⊢ wp frame (wpE defs 𝒱 (c.tc : Thread nD τ) none) Set.univ ((pRecv c).bind fun _ => (pSent c).bind fun _ => pMine c) fun _ => iprop(after m c ∗ promises c 0) := by
    refine BI.BIBase.Entails.trans ?_ (wp_seq (K := K) 𝒱 c (phase_recv m (defs := defs) 𝒱 κ c) h3)
    unfold begun waiting
    simp only [bigSep_sep', bigSep_use (F := F)]
    iintro ⟨HK, ⟨⟨HA, HA'⟩, HO⟩, HB, H1, H2, H3⟩
    isplitl [HK]; · iexact HK
    isplitl [HB H2 HO]
    · isplitl [HB H2]
      · isplitl [HB] <;> iassumption
      · iexact HO
    · isplitl [HA' H1]
      · isplitl [HA'] <;> iassumption
      · isplitl [HA] <;> iassumption
  rw [body_phases]
  unfold before due
  refine BI.BIBase.Entails.trans ?_ (wp_seq (K := K) 𝒱 c (phase_start m (defs := defs) 𝒱 κ c) h2)
  iintro ⟨⟨HK, HA, HB, HC⟩, HO⟩
  isplitl [HK]; · iexact HK
  isplitl [HA HO]
  · isplitl [HA] <;> iassumption
  · isplitl [HB] <;> iassumption

end Cert.Exchange

end
-- ==== Proof.Start.lean ====
module

public import proofs.«01_k».proof.Proof.Each

@[expose] public section

/-! # The launch

Every DMA semaphore of every device becomes a cell at launch; the arrays of all devices and the duty tokens are dealt
out by the kernel's own rule; then each device runs `@main` alone. -/

noncomputable section

namespace Cert.Net

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type} {Λ : Labels}

local notation "𝕄" => MT nD τ sig Unit Val ℕ (UR sig nD τ) ℕ

/-- All the cells. -/
def cellMap : Dev nD × DmaSem sig ↪ GSem nD τ sig :=
  ⟨fun ci => cell ci.1 ci.2, fun a b h => by
    have h1 := congrArg (fun g : GSem nD τ sig => g.1.1) h
    have h2 : (SemLoc.dma a.2 : SemLoc sig) = .dma b.2 := congrArg Prod.snd h
    exact Prod.ext h1 (SemLoc.dma.inj h2)⟩

def allCells : Finset (GSem nD τ sig) := Finset.univ.map cellMap

def tokMap : Dev nD × DmaSem sig ↪ GSem nD τ sig × ℕ × Unit :=
  ⟨fun ci => (cell ci.1 ci.2, 0, ()), fun a b h => cellMap.injective (congrArg Prod.fst h)⟩

def allToks : Finset (GSem nD τ sig × ℕ × Unit) := Finset.univ.map tokMap

/-- The ghost state at launch. -/
def u₀ : UR sig nD τ := launchOf allCells ∅ allToks

/-- The level a table over the DMA semaphores gives a cell. -/
def lvOf (lv : DmaSem sig → ℕ) (g : GSem nD τ sig) (_ : Unit) : ℕ := onDma 0 lv g.2
def tcL (g : GSem nD τ sig) : Finset Unit := if g.1.2 = .tc then {()} else ∅

/-- A table of levels, as facts. -/
def levs (lv : DmaSem sig → ℕ) : sProp 𝕄 := levAts (tcL (nD := nD) (τ := τ)) (lvOf lv)

instance (lv : DmaSem sig → ℕ) : BI.Persistent (levs (nD := nD) (τ := τ) (Val := Val) lv) := by unfold levs; infer_instance

variable (P : Plan nD τ sig Val)

/-- A device's scoped semaphores at zero: its DMA semaphores, when it has no others. -/
theorem scoped_dma (hs : ∀ sm : SemLoc sig, sm.isScoped .tc = true ↔ ∃ i, sm = .dma i) (c : Dev nD) :
    (scopedSems0 (c.tc : Thread nD τ) : sProp 𝕄) = bigSep Finset.univ fun i : DmaSem sig => semVal (cell c i) 0 := by
  classical
  rw [show (scopedSems0 (c.tc : Thread nD τ) : sProp 𝕄) = _ from scopedSems0_tc c]
  rw [show (Finset.univ.filter fun sm : SemLoc sig => sm.isScoped .tc = true)
      = Finset.univ.map ⟨SemLoc.dma, fun a b h => SemLoc.dma.inj h⟩ from by
    ext sm
    simp only [Finset.mem_filter, Finset.mem_univ, true_and, Finset.mem_map, Function.Embedding.coeFn_mk, hs sm]
    exact ⟨fun ⟨i, h⟩ => ⟨i, h.symm⟩, fun ⟨i, h⟩ => ⟨i, h.symm⟩⟩, BI.bigSep_map]
  rfl

/-- The ghost step at launch: the counters of all devices become cells. -/
theorem fund (hs : ∀ sm : SemLoc sig, sm.isScoped .tc = true ↔ ∃ i, sm = .dma i) :
    iprop((bigSep Finset.univ fun c : Dev nD => (scopedSems0 (c.tc : Thread nD τ) : sProp 𝕄)) ∗ ownU u₀)
      ⊢ |={Set.univ}=> iprop(∃ κ : GSem nD τ sig → ℕ, P.known κ
          ∗ (bigSep Finset.univ fun c : Dev nD => bigSep Finset.univ fun i : DmaSem sig => atPos ER (cell c i) 0 ∅ 0)
          ∗ (bigSep Finset.univ fun c : Dev nD => bigSep Finset.univ fun i : DmaSem sig => dutyTok ER (cell c i) 0 ())) := by
  have hmap (Φ : GSem nD τ sig → sProp 𝕄) : bigSep allCells Φ = bigSep Finset.univ fun ci : Dev nD × DmaSem sig => Φ (cell ci.1 ci.2) := by
    unfold allCells; rw [BI.bigSep_map]; rfl
  have htok (Φ : GSem nD τ sig × ℕ × Unit → sProp 𝕄) :
      bigSep allToks Φ = bigSep Finset.univ fun ci : Dev nD × DmaSem sig => Φ (cell ci.1 ci.2, 0, ()) := by
    unfold allToks; rw [BI.bigSep_map]; rfl
  have hsems : (bigSep Finset.univ fun c : Dev nD => (scopedSems0 (c.tc : Thread nD τ) : sProp 𝕄))
      = bigSep allCells fun g => (semVal g 0 : sProp 𝕄) := by
    rw [hmap, BI.bigSep_univ_prod, bigSep_congr fun c _ => scoped_dma hs c]
  rw [hsems, show (ownU u₀ : sProp 𝕄) = BI.own (ER (launchOf allCells ∅ allToks)) from rfl]
  iintro H
  imod (Rounds.fund_launch ER P.rd (S := allCells) (Sd := ∅) (Finset.disjoint_empty_right _) (fun g hg => absurd hg (Finset.notMem_empty g))
    allToks (Es := Set.univ)) $$ H with ⟨%κ, -, Hinv, Hr, Hat, -, Ht⟩
  imodintro
  iexists κ
  ihave Hinv := (Entails.of_eq ((congrArg (fun S => bigSep S fun g => (cellInv ER P.rd (κ g) g : sProp 𝕄)) (Finset.union_empty _)).trans (hmap _))) $$ Hinv
  ihave Hr := (Entails.of_eq (hmap _)) $$ Hr
  ihave Hat := (Entails.of_eq ((hmap _).trans (bigSep_univ_prod _))) $$ Hat
  ihave Ht := (Entails.of_eq ((htok _).trans (bigSep_univ_prod _))) $$ Ht
  isplitl [Hinv Hr]
  · unfold Plan.known
    rw [bigSep_sep']
    isplitl [Hinv] <;> iassumption
  isplitl [Hat] <;> iassumption

/-- The levels, assigned at launch. -/
theorem levs_intro (lv : DmaSem sig → ℕ) :
    (bigSep Finset.univ fun c : Dev nD => levels0 (Ix := Unit) (Val := Val) (Name := ℕ) (U := UR sig nD τ) (Lvl := ℕ) (τ := τ) (sig := sig) c)
      ⊢ (|==> levs lv : sProp 𝕄) := by
  have hL : ∀ g : GSem nD τ sig, g.1.2 ≠ .tc → tcL g = ∅ := fun g h => if_neg h
  refine (bigSep_mono fun c _ => lev_assign_cells (c.tc : Thread nD τ) tcL (lvOf lv)).trans <| (BI.bigSep_bupd _ _).trans <| BI.bupd_mono ?_
  have hsc : (bigSep Finset.univ fun d : Dev nD => bigSep (Finset.univ.erase Proc.tc) fun p =>
      (coreLevAts ((d, p) : Thread nD τ) tcL (lvOf lv) : sProp 𝕄)) = BI.emp := by
    rw [bigSep_congr (Ψ := fun _ : Dev nD => (BI.emp : sProp 𝕄)) fun d _ =>
      (bigSep_congr (Ψ := fun _ : Proc τ => (BI.emp : sProp 𝕄)) fun p hp => by
        unfold coreLevAts
        rw [bigSep_congr (Ψ := fun _ : SemLoc sig => (BI.emp : sProp 𝕄)) fun sm _ => by
          rw [hL (((d, p) : Thread nD τ), sm) (Finset.ne_of_mem_erase hp), BI.bigSep_empty], BI.bigSep_emp_const]).trans
      (BI.bigSep_emp_const _), BI.bigSep_emp_const]
  have hinner : (bigSep Finset.univ fun c : Dev nD =>
        iprop((bigSep Finset.univ fun sm : SemLoc sig => levels ((c.tc : Thread nD τ), sm) (tcL ((c.tc : Thread nD τ), sm)))
          ∗ coreLevAts (c.tc : Thread nD τ) tcL (lvOf lv)))
      ⊢ (levs lv : sProp 𝕄) := by
    unfold levs
    rw [show (levAts tcL (lvOf lv) : sProp 𝕄) = bigSep Finset.univ fun c : Thread nD τ => coreLevAts c tcL (lvOf lv)
        from (bigSep_univ_prod fun g : GSem nD τ sig => bigSep (tcL g) fun ι => levAt g ι (lvOf lv g ι)),
      bigSep_threads (fun c : Thread nD τ => coreLevAts c tcL (lvOf lv)), hsc, bigSep_sep']
    iintro ⟨-, H⟩
    isplitl [H]; · iexact H
    iempintro
  exact hinner

theorem run (hs : ∀ sm : SemLoc sig, sm.isScoped .tc = true ↔ ∃ i, sm = .dma i) (lv : DmaSem sig → ℕ) {𝔻 : Defs nD τ sig Val Λ} (𝒱 : Variants)
    [∀ e, Nonempty (Val e)]
    (m : (ℓ : Loc nD τ sig) → Buf Val ℓ) (g : Dev nD → PrngReg)
    (main : Dev nD → Prog (TpuEff nD τ sig Val Λ .tc) PUnit)
    (O₀ : Dev nD → CellTallies nD τ sig Unit) (X Y : Dev nD → sProp 𝕄)
    (hdeal : iprop((bigSep Finset.univ fun c : Dev nD => unscopedBufs c (fun b => m ((c.tc : Thread nD τ).loc b)))
        ∗ bigSep Finset.univ fun c : Dev nD => bigSep Finset.univ fun i : DmaSem sig => dutyTok ER (cell c i) 0 ()) ⊢ bigSep Finset.univ X)
    (hcore : ∀ (κ : GSem nD τ sig → ℕ) (c : Dev nD), iprop(P.known κ ∗ levs lv ∗ X c ∗ launchCred O₀ c
        ∗ (bigSep Finset.univ fun i : DmaSem sig => atPos ER (cell c i) 0 ∅ 0) ∗ owes (c.tc : Thread nD τ) (O₀ c) ∅ ∗ scopedBufs (c.tc : Thread nD τ))
      ⊢ wp frame (wpE 𝔻 𝒱 (c.tc : Thread nD τ) none) Set.univ (main c)
          fun _ => iprop(Y c ∗ scopedSems0 (c.tc : Thread nD τ) ∗ ∃ W, owes (c.tc : Thread nD τ) (0 : CellTallies nD τ sig Unit) W))
    (QY : Dev nD → MemSt nD τ sig Val → Prop)
    (hY : ∀ c (s' : Phys nD τ sig Val), iprop(Y c ∗ SI s') ⊢ |={Set.univ}=> iprop(⌜QY c s'.mem⌝ ∗ SI s'))
    {Q : PUnit × MemSt nD τ sig Val → Prop}
    (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  let pre : (GSem nD τ sig → ℕ) → Dev nD → sProp 𝕄 := fun κ c => iprop(P.known κ ∗ levs lv ∗ X c ∗ launchCred O₀ c
    ∗ (bigSep Finset.univ fun i : DmaSem sig => atPos ER (cell c i) 0 ∅ 0) ∗ owes (c.tc : Thread nD τ) (O₀ c) ∅ ∗ scopedBufs (c.tc : Thread nD τ))
  let fin : Dev nD → sProp 𝕄 := fun c => iprop(Y c ∗ scopedSems0 (c.tc : Thread nD τ))
  refine (θ_run 𝔻 _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := GSem nD τ sig → ℕ) 𝒱 (owing O₀) 0 (noBookings fun _ => le_rfl) (owing_of_ne O₀) u₀ pre (fun _ => fin)
      (fun _ => iprop(emp)) Set.univ ?_ (fun κ c => ?_) fun _ => ?_))
  · have hcores : (bigSep Finset.univ fun d : Dev nD =>
          coreInit (Ix := Unit) (Name := ℕ) (U := UR sig nD τ) (Lvl := ℕ) (owing O₀) 0 (⟨m, fun _ => 0, g⟩ : MemSt nD τ sig Val) (d.tc : Thread nD τ))
        ⊢ iprop((bigSep Finset.univ fun c : Dev nD => (scopedSems0 (c.tc : Thread nD τ) : sProp 𝕄))
            ∗ (bigSep Finset.univ fun c : Dev nD => unscopedBufs c fun b => m ((c.tc : Thread nD τ).loc b))
            ∗ (bigSep Finset.univ fun c : Dev nD => levels0 c)
            ∗ (bigSep Finset.univ fun c : Dev nD => launchCred O₀ c)
            ∗ (bigSep Finset.univ fun c : Dev nD => owes (c.tc : Thread nD τ) (O₀ c) ∅)
            ∗ (bigSep Finset.univ fun c : Dev nD => scopedBufs (c.tc : Thread nD τ))) := by
      have h1 (c : Dev nD) :
          coreInit (Ix := Unit) (Name := ℕ) (U := UR sig nD τ) (Lvl := ℕ) (owing O₀) 0 (⟨m, fun _ => 0, g⟩ : MemSt nD τ sig Val) (c.tc : Thread nD τ)
            ⊢ iprop(scopedSems0 (c.tc : Thread nD τ) ∗ unscopedBufs c (fun b => m ((c.tc : Thread nD τ).loc b)) ∗ levels0 c ∗ launchCred O₀ c
                ∗ owes (c.tc : Thread nD τ) (O₀ c) ∅ ∗ scopedBufs (c.tc : Thread nD τ)) :=
        (coreInit_boundary_owing O₀ m g c).trans (by
          unfold boundary
          iintro ⟨⟨Hsb, Hss, -⟩, Hub, -, HL, Hlv, -, Hcr⟩
          isplitl [Hss]; · iexact Hss
          isplitl [Hub]; · iexact Hub
          isplitl [Hlv]; · iexact Hlv
          isplitl [Hcr]; · iexact Hcr
          isplitl [HL] <;> iassumption)
      refine (bigSep_mono fun c _ => h1 c).trans ?_
      simp only [bigSep_sep']
      exact BI.Entails.refl _
    iintro ⟨Hcores, Hu⟩
    ihave Hc := hcores $$ Hcores
    icases Hc with ⟨Hss, Hub, Hlv, Hcr, HL, Hsb⟩
    imod (levs_intro lv) $$ Hlv with #Hla
    imod (fund P hs) $$ [Hss Hu] with ⟨%κ, #HK, Hat, Ht⟩
    · isplitl [Hss] <;> iassumption
    ihave HX := hdeal $$ [Hub Ht]
    · isplitl [Hub] <;> iassumption
    imodintro
    iexists κ
    isplitl
    · simp only [pre, bigSep_sep']
      isplitr; · iapply (BI.bigSep_intro_persistent (S := Finset.univ) fun (c : Dev nD) _ => (BI.Entails.refl (P.known κ))); iexact HK
      isplitr; · iapply (BI.bigSep_intro_persistent (S := Finset.univ) fun (c : Dev nD) _ => (BI.Entails.refl (levs lv : sProp 𝕄))); iexact Hla
      isplitl [HX]; · iexact HX
      isplitl [Hcr]; · iexact Hcr
      isplitl [Hat]; · iexact Hat
      isplitl [HL] <;> iassumption
    · iempintro
  · refine (hcore κ c).trans (wp_mono _ _ _ fun _ => ?_)
    unfold post; simp only [liftTc_tc, fin]
    iintro ⟨HY, Hs, HW⟩
    isplitr [HW]
    · isplitl [HY] <;> iassumption
    · iexact HW
  · have hc (c : Dev nD) (s' : Phys nD τ sig Val) : iprop(fin c ∗ SI s') ⊢ |={Set.univ}=>
        iprop(⌜QY c s'.mem ∧ ∀ sm : SemLoc sig, sm.isScoped .tc = true → s'.mem.sem ((c.tc : Thread nD τ), sm) = 0⌝ ∗ SI s') := by
      simp only [fin]
      iintro ⟨⟨HY, Hss⟩, HSI⟩
      ihave %hz := (tcScoped_read_pers c s') $$ [Hss HSI]
      · isplitl [Hss] <;> iassumption
      imod (hY c s') $$ [HY HSI] with ⟨%hy, HSI⟩
      · isplitl [HY] <;> iassumption
      imodintro
      isplitr
      · ipureintro; exact ⟨hy, hz⟩
      · iexact HSI
    iintro ⟨H, -, Hsc⟩ %s' HSI
    ihave %hsc := (scSems_read_zero m g s') $$ [Hsc HSI]
    · isplitl [Hsc] <;> iassumption
    imod (posts_fupd Finset.univ hc s') $$ [H HSI] with %h
    · isplitl [H] <;> iassumption
    imodintro
    ipureintro
    exact ⟨fun c => h c (Finset.mem_univ c), hsc⟩

end Cert.Net

end
-- ==== Proof.Region.lean ====
module

public import proofs.«01_k».proof.Proof.Start

@[expose] public section

/-! # A kernel call without windows

The call of a kernel all of whose operands stay where they are: no grid, no blocks, one run of the body. -/

noncomputable section

namespace Cert.Net

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type} {Λ₀ : Labels} {K : Type} [Fintype K] [DecidableEq K]

local notation "𝕄" => MT nD τ sig Unit Val ℕ (UR sig nD τ) ℕ

section
variable {cfg : Cfg sig Λ₀} (c : Dev nD)

/-- The proof data of such a call: `X` before the body and `Y` after it, `O` owed before and nothing after. -/
def data (hW : IsEmpty (Fin cfg.W)) (X Y : sProp (MT nD τ sig Unit Val ℕ (UR sig nD τ) ℕ)) (O : CellTallies nD τ sig Unit) :
    Dat τ Val Unit ℕ (UR sig nD τ) ℕ cfg c where
  A w := hW.elim w
  after w := hW.elim w
  q w := hW.elim w
  Φ t := if t.val = 0 then X else Y
  owed t := if t.val = 0 then O else 0

variable (hW : IsEmpty (Fin cfg.W)) (X Y : sProp (MT nD τ sig Unit Val ℕ (UR sig nD τ) ℕ)) (O : CellTallies nD τ sig Unit)

theorem data_before {t : Fin (cfg.N + 1)} (h : t.val = 0) : (data c hW X Y O).Φ t = X ∧ (data c hW X Y O).owed t = O := ⟨if_pos h, if_pos h⟩
theorem data_after {t : Fin (cfg.N + 1)} (h : t.val ≠ 0) : (data c hW X Y O).Φ t = Y ∧ (data c hW X Y O).owed t = 0 := ⟨if_neg h, if_neg h⟩

end

theorem bigSep_none {I : Type} [Fintype I] (h : IsEmpty I) (Φ : I → sProp (MT nD τ sig Unit Val ℕ (UR sig nD τ) ℕ)) :
    bigSep Finset.univ Φ = (BI.emp : sProp 𝕄) := by
  rw [Finset.univ_eq_empty, BI.bigSep_empty]

theorem wp_call [∀ e, Nonempty (Val e)] (pcs : K → PCfg sig Λ₀ Val) (a : (p : K) → (pcs p).Adm)
    (phinj : Function.Injective (cellOf (nD := nD) (τ := τ) (pin pcs a))) (p : K) (defs₀ : Defs nD τ sig Val Λ₀) (𝒱₀ : Variants)
    (hW : ∀ p, IsEmpty (Fin (pin pcs a p).W)) (hK : IsEmpty (Fin (pcs p).pre.K)) (hN : (pin pcs a p).N = 1)
    (c : Dev nD) (X Y : sProp (MT nD τ sig Unit Val ℕ (UR sig nD τ) ℕ)) (O : CellTallies nD τ sig Unit)
    (hbody : ∀ t, iprop(X ∗ promises c O) ⊢ wp frame (wpE defs₀ 𝒱₀ (c.tc : Thread nD τ) none) Set.univ
      (defs₀ .tc (pin pcs a p).body ((pin pcs a p).bodyArgs t ((pin pcs a p).slots t)))
        fun _ => iprop((Y ∗ scopedSems0 (c.tc : Thread nD τ)) ∗ promises c 0)) :
    iprop(X ∗ owes (c.tc : Thread nD τ) O ∅ ∗ scopedBufs (c.tc : Thread nD τ))
      ⊢ wp frame (wpE (Pipeline.defs pcs defs₀) (Variants.lift 𝒱₀) (c.tc : Thread nD τ) none) Set.univ
        (.op (.customCall (entry p) ()) fun _ => .ret PUnit.unit)
        fun _ => iprop(Y ∗ scopedSems0 (c.tc : Thread nD τ) ∗ ∃ W, owes (c.tc : Thread nD τ) (0 : CellTallies nD τ sig Unit) W) := by
  let dats : (p : K) → (c : Dev nD) → Dat τ Val Unit ℕ (UR sig nD τ) ℕ (pin pcs a p) c := fun p' c' =>
    data c' (hW p') iprop(X ∗ scopedBufs (c.tc : Thread nD τ)) iprop((Y ∗ scopedSems0 (c.tc : Thread nD τ)) ∗ scopedBufs (c.tc : Thread nD τ)) O
  have h00 : (0 : Fin ((pin pcs a p).N + 1)).val = 0 := Fin.val_zero _
  have hNN : (Fin.last (pin pcs a p).N).val ≠ 0 := by rw [Fin.val_last, hN]; exact Nat.one_ne_zero
  have hΦ0 : (dats p c).Φ 0 = iprop(X ∗ scopedBufs (c.tc : Thread nD τ)) := (data_before c (hW p) _ _ _ h00).1
  have hO0 : (dats p c).owed 0 = O := (data_before c (hW p) _ _ _ h00).2
  have hΦN : (dats p c).Φ (Fin.last (pin pcs a p).N) = iprop((Y ∗ scopedSems0 (c.tc : Thread nD τ)) ∗ scopedBufs (c.tc : Thread nD τ)) :=
    (data_after c (hW p) _ _ _ hNN).1
  have hON : (dats p c).owed (Fin.last (pin pcs a p).N) = 0 := (data_after c (hW p) _ _ _ hNN).2
  have hOb : BodyObligation (dats p c) defs₀ 𝒱₀ () Set.univ := by
    intro t
    have h0 : t.castSucc.val = 0 := by have := t.isLt; have hN' : (pin pcs a p).grid.N = 1 := hN; rw [Fin.val_castSucc]; omega
    have h1 : t.succ.val ≠ 0 := by rw [Fin.val_succ]; exact Nat.succ_ne_zero _
    rw [bigSep_none (hW p), bigSep_none (hW p)]
    have e0 : (dats p c).Φ t.castSucc = iprop(X ∗ scopedBufs (c.tc : Thread nD τ)) := (data_before c (hW p) _ _ _ h0).1
    have e1 : (dats p c).Φ t.succ = iprop((Y ∗ scopedSems0 (c.tc : Thread nD τ)) ∗ scopedBufs (c.tc : Thread nD τ)) :=
      (data_after c (hW p) _ _ _ h1).1
    have o0 : (dats p c).owed t.castSucc = O := (data_before c (hW p) _ _ _ h0).2
    have o1 : (dats p c).owed t.succ = 0 := (data_after c (hW p) _ _ _ h1).2
    unfold Dat.owesAt owesWithin
    rw [e0, e1, o0, o1]
    refine BI.BIBase.Entails.trans (Q := iprop((X ∗ promises c O) ∗ scopedBufs (c.tc : Thread nD τ))) ?_
      ((BI.sep_mono_l (hbody t)).trans ((wp_frame_r frame (wpE defs₀ 𝒱₀ (c.tc : Thread nD τ) none) Set.univ
      (R := (scopedBufs (c.tc : Thread nD τ) : sProp 𝕄))).trans (wp_mono _ _ _ fun _ => ?_)))
    · unfold promises
      iintro ⟨⟨HX, HB⟩, ⟨%W, -, HO⟩, -⟩
      isplitr [HB]
      · isplitl [HX]; · iexact HX
        iexists W; iexact HO
      · iexact HB
    · unfold promises
      iintro ⟨⟨HY, ⟨%W, HO⟩⟩, HB⟩
      isplitl [HY HB]
      · isplitl [HY] <;> iassumption
      isplitl [HO]
      · iexists W
        isplitr
        · ipureintro; exact fun _ _ => Or.inl trivial
        · iexact HO
      · iempintro
  iintro ⟨HX, HO, HB⟩
  iapply (wp_customCall_entry_frame pcs a dats () ER (fun _ => 0) phinj p defs₀ 𝒱₀ (fun _ => fullShare) c Set.univ (fun _ _ => Set.mem_univ _)
    hOb.loose (fun w => (hW p).elim w) none (fun u h => nomatch h) (X := X)
    (Y := Y) (R := scopedBufs (c.tc : Thread nD τ)) (I := iprop(emp)) ?_ ?_ ?_) $$ [HX HO HB]
  · unfold Dat.staging; rw [bigSep_none (hW p)]
    iintro H
    isplitr; · iempintro
    iexact H
  · rw [hΦ0]
    iintro ⟨HX, -, HR⟩
    isplitl [HX] <;> iassumption
  · rw [hΦN]
    iintro ⟨⟨⟨HY, HS⟩, HR⟩, -⟩
    isplitl [HY]; · iexact HY
    isplitl [HS] <;> iassumption
  · unfold EntryPre PerCore.EntryPre Dat.owesAt owesWithin prefHeld
    rw [hO0]
    unfold Dat.arrays PerCore.cellsWaits PerCore.cellsInit PerCore.toksInit PerCore.RDat.cellsWaits PerCore.RDat.cellsInit
    rw [bigSep_none (hW p), bigSep_none (hW p), bigSep_none (hW p), bigSep_none (hW p), bigSep_none hK]
    isplitl [HO]
    · isplitr; · iempintro
      isplitl [HO]
      · iexists ∅; isplitr; · ipureintro; rw [Finset.coe_empty]; exact Set.empty_subset _
        iexact HO
      isplitr; · iempintro
      isplitr <;> iempintro
    isplitr; · iempintro
    isplitl [HX]; · iexact HX
    isplitr; · iempintro
    iexact HB
  · unfold EntryPost PerCore.EntryPost Dat.owesAt owesWithin
    rw [hON]
    iintro ⟨⟨-, ⟨%W, -, HO⟩⟩, HY, HS, -⟩
    rw [wp_ret]; imodintro
    isplitl [HY]; · iexact HY
    isplitl [HS]; · iexact HS
    iexists W; iexact HO

end Cert.Net

end
-- ==== Proof.Run.lean ====
module

public import proofs.«01_k».proof.Proof.Phases
public import proofs.«01_k».proof.Proof.Region
public import proofs.«01_k».proof.Proof.Gen.KernelIdeal.Launch

@[expose] public section

/-! # The run of the exchange

The launch hands every device its own operands and, of the results, block `c` of every device's result to device `c`;
the body's run then gives every device its result whole, at its final contents. -/

noncomputable section

namespace Cert.Exchange

open Cert.KernelIdeal Cert.KernelIdeal.Gen Cert.Net
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (launchCred launchCred_sum launchCred_tallyAt)

variable {F : FTy → Type} [FloatOps F]

local notation "𝕄" => MT nD τ sig Unit (Elt F) ℕ (UR sig nD τ) ℕ

/-! ### The buffers -/

/-- The operands and the results. -/
def bufOf : Fin 9 ⊕ Fin 9 ↪ Ref sig .tc where
  toFun := fun | .inl a => (arrs a).src.view.ref | .inr a => (arrs a).dst.view.ref
  inj' := by decide

theorem bufs_eq : (Finset.univ.filter fun b : Ref sig .tc => ¬ b.isScoped) = Finset.univ.map bufOf := by decide

theorem unscoped_eq (c : Dev nD) (V : (b : Ref sig .tc) → Buf (Elt F) ((c.tc : Thread nD τ).loc b)) :
    (unscopedBufs c V : sProp 𝕄)
      = iprop((bigSep Finset.univ fun a => (arrs a).src.view.loc (c.tc : Thread nD τ) ↦{fullShare} V (arrs a).src.view.ref)
        ∗ (bigSep Finset.univ fun a => (arrs a).dst.view.loc (c.tc : Thread nD τ) ↦{fullShare} V (arrs a).dst.view.ref)) := by
  unfold unscopedBufs
  rw [bufs_eq, BI.bigSep_map, BI.bigSep_univ_sum]
  rfl

/-- Over the devices, counted from device `c`. -/
theorem bigSep_across (c : Dev nD) (Φ : Dev nD → sProp 𝕄) :
    bigSep Finset.univ Φ = iprop(Φ c ∗ bigSep Finset.univ fun r : Fin 7 => Φ (across c r.succ)) := by
  rw [BI.bigSep_univ_equiv (acrossEquiv c)]
  have h := bigSep_first (Val := Elt F) (fun q : Fin 8 => Φ (acrossEquiv c q))
  rw [h]
  show iprop(Φ (across c 0) ∗ _) = _
  rw [across_zero]
  rfl

/-- Every device's table over its peers, handed to the peers. -/
theorem bigSep_swap (Φ : Dev nD → Fin 9 → Fin 7 → sProp 𝕄) :
    (bigSep Finset.univ fun c => bigSep Finset.univ fun a => bigSep Finset.univ fun r => Φ c a r)
      = bigSep Finset.univ fun c => bigSep Finset.univ fun a => bigSep Finset.univ fun r => Φ (across c r.succ) a r := by
  let e : Dev nD × Fin 9 × Fin 7 ≃ Dev nD × Fin 9 × Fin 7 :=
    { toFun := fun x => (across x.1 x.2.2.succ, x.2)
      invFun := fun x => (across x.1 x.2.2.succ, x.2)
      left_inv := fun x => Prod.ext (across_across _ _) rfl
      right_inv := fun x => Prod.ext (across_across _ _) rfl }
  have h := BI.bigSep_univ_equiv e (fun x => Φ x.1 x.2.1 x.2.2)
  rw [BI.bigSep_univ_prod, BI.bigSep_univ_prod] at h
  simp only [BI.bigSep_univ_prod] at h
  exact h

variable (m : (ℓ : Loc nD τ sig) → Buf (Elt F) ℓ)

theorem in_blocks (a : Fin 9) (c : Dev nD) :
    ((arrs a).src.view.loc (c.tc : Thread nD τ) ↦{fullShare} m ((arrs a).src.view.loc (c.tc : Thread nD τ)) : sProp 𝕄)
      = iprop(inB m a c c ∗ bigSep Finset.univ fun r : Fin 7 => inB m a c (across c r.succ)) :=
  (pts_blk (arrs a).sq (arrs a).src (arrs a).hsrc (t := (c.tc : Thread nD τ)) _).trans (bigSep_across c (inB m a c))

theorem raw_blocks (a : Fin 9) (c : Dev nD) :
    ((arrs a).dst.view.loc (c.tc : Thread nD τ) ↦{fullShare} m ((arrs a).dst.view.loc (c.tc : Thread nD τ)) : sProp 𝕄)
      = iprop(rawB m a c c ∗ bigSep Finset.univ fun r : Fin 7 => rawB m a c (across c r.succ)) :=
  (pts_blk (arrs a).sq (arrs a).dst (arrs a).hdst (t := (c.tc : Thread nD τ)) _).trans (bigSep_across c (rawB m a c))

theorem out_blocks (a : Fin 9) (c : Dev nD) :
    ((arrs a).dst.view.loc (c.tc : Thread nD τ) ↦{fullShare} outAt m a c : sProp 𝕄)
      = iprop(outB m a c c ∗ bigSep Finset.univ fun r : Fin 7 => outB m a c (across c r.succ)) :=
  (pts_blk (arrs a).sq (arrs a).dst (arrs a).hdst (t := (c.tc : Thread nD τ)) _).trans (bigSep_across c (outB m a c))

/-! ### Dealing the launch's resources -/

theorem deal :
    iprop((bigSep Finset.univ fun c : Dev nD => unscopedBufs c (fun b => m ((c.tc : Thread nD τ).loc b)))
        ∗ bigSep Finset.univ fun c : Dev nD => bigSep Finset.univ fun i : DmaSem sig => dutyTok ER (cell c i) 0 ())
      ⊢ (bigSep Finset.univ fun c => bigSep Finset.univ fun a => need m c a : sProp 𝕄) := by
  have h1 : ∀ c : Dev nD, (unscopedBufs c (fun b => m ((c.tc : Thread nD τ).loc b)) : sProp 𝕄)
      = iprop((bigSep Finset.univ fun a => iprop(inB m a c c ∗ bigSep Finset.univ fun r : Fin 7 => inB m a c (across c r.succ)))
        ∗ (bigSep Finset.univ fun a => iprop(rawB m a c c ∗ bigSep Finset.univ fun r : Fin 7 => rawB m a c (across c r.succ)))) := by
    intro c
    rw [unscoped_eq, ← bigSep_congr fun a _ => in_blocks m a c, ← bigSep_congr fun a _ => raw_blocks m a c]
  have h2 := bigSep_swap (fun c a r => rawB m a c (across c r.succ))
  simp only [across_across] at h2
  have h3 := bigSep_swap (F := F) (fun c a r => dutyTok ER (cell c (recvSem a r)) 0 ())
  rw [bigSep_congr fun c _ => h1 c]
  unfold need
  simp only [bigSep_use (F := F), bigSep_sep']
  rw [← h2, ← h3]
  iintro ⟨⟨⟨Hi, His⟩, Hr, Hrs⟩, Hs, Hv, Hl⟩
  isplitl [Hi Hr Hl]
  · isplitl [Hi]; · iexact Hi
    isplitl [Hr]; · iexact Hr
    iexact Hl
  isplitl [His]; · iexact His
  isplitl [Hrs]; · iexact Hrs
  isplitl [Hs]; · iexact Hs
  iexact Hv

/-- What the peers owe device `c` comes to it as credit. -/
theorem credits (c : Dev nD) :
    (launchCred due c : sProp 𝕄)
      ⊢ bigSep Finset.univ fun a => bigSep Finset.univ fun r => cred (tallyAt (cell c (recvSem a r)) () (amtOf a)) := by
  have h : (launchCred due c : sProp 𝕄) = bigSep Finset.univ fun a => bigSep Finset.univ fun r => launchCred (fun d => dueOf d a r) c :=
    (launchCred_sum Finset.univ (fun a d => ∑ r, dueOf d a r) c).trans (bigSep_congr fun a _ => launchCred_sum Finset.univ (fun r d => dueOf d a r) c)
  rw [h]
  refine bigSep_mono fun a _ => bigSep_mono fun r _ => ?_
  exact launchCred_tallyAt (.dma (recvSem a r)) (fun d => across d r.succ) (fun d => across d r.succ)
    (fun d => across_across d _) (fun d => across_across d _) () (amtOf a) c

/-! ### The run -/

/-- What device `c` ends with. -/
def final (c : Dev nD) : sProp 𝕄 :=
  iprop((bigSep Finset.univ fun a => (arrs a).src.view.loc (c.tc : Thread nD τ) ↦{fullShare} m ((arrs a).src.view.loc (c.tc : Thread nD τ)))
    ∗ (bigSep Finset.univ fun a => (arrs a).dst.view.loc (c.tc : Thread nD τ) ↦{fullShare} outAt m a c))

theorem after_final (hs : ∀ sm : SemLoc sig, sm.isScoped .tc = true ↔ ∃ i, sm = .dma i) (c : Dev nD) :
    after m c ⊢ iprop(final m c ∗ scopedSems0 (c.tc : Thread nD τ)) := by
  unfold after final
  rw [bigSep_congr fun a _ => in_blocks m a c, bigSep_congr fun a _ => out_blocks m a c, scoped_dma hs c]
  simp only [bigSep_sep']
  iintro ⟨⟨Ho, Hi, Ho', Hi'⟩, Hs⟩
  isplitr [Hs]
  · isplitl [Hi Hi']
    · isplitl [Hi'] <;> iassumption
    · isplitl [Ho'] <;> iassumption
  · iexact Hs

theorem sems_scoped : ∀ sm : SemLoc sig, sm.isScoped .tc = true ↔ ∃ i, sm = .dma i := by
  intro sm
  cases sm with
  | dma i => exact ⟨fun _ => ⟨i, rfl⟩, fun _ => by revert i; decide⟩
  | reg i => exact i.elim0

theorem some_elt : ∀ e, Nonempty (Elt F e) := fun e => inferInstance

/-- A program replaced by an equal one. -/
theorem wp_of_eq {defs : Defs nD τ sig (Elt F) Λ₀} {𝒱 : Variants} {c : Dev nD} {p p' : Prog (TpuEff nD τ sig (Elt F) Λ₀ .tc) PUnit} {X : sProp 𝕄} {Y : PUnit → sProp 𝕄}
    (h : p = p') (h' : X ⊢ wp frame (wpE defs 𝒱 (c.tc : Thread nD τ) none) Set.univ p' Y) :
    X ⊢ wp frame (wpE defs 𝒱 (c.tc : Thread nD τ) none) Set.univ p Y := by subst h; exact h'

theorem wp_idThen {defs : Defs nD τ sig (Elt F) Λ₀} {𝒱 : Variants} {c : Dev nD} {k : Dev nD → Prog (TpuEff nD τ sig (Elt F) Λ₀ .tc) PUnit} {X : sProp 𝕄} {Y : PUnit → sProp 𝕄}
    (h : X ⊢ wp frame (wpE defs 𝒱 (c.tc : Thread nD τ) none) Set.univ (k c) Y) :
    X ⊢ wp frame (wpE defs 𝒱 (c.tc : Thread nD τ) none) Set.univ (.op .deviceId k) Y := by
  rw [wp_deviceId]; exact h

theorem point_wp (κ : GSem nD τ sig → ℕ) (c : Dev nD) (t : Fin cfg0.N) :
    iprop(before m κ c ∗ promises c (due c))
      ⊢ wp frame (wpE (defs₀ (F := F)) Variants.none (c.tc : Thread nD τ) none) Set.univ (bodyAt0 (F := F) t)
        fun _ => iprop((final m c ∗ scopedSems0 (c.tc : Thread nD τ)) ∗ promises c 0) :=
  wp_of_eq (body_eq t) (wp_idThen ((body_wp m (defs := defs₀ (F := F)) Variants.none κ c).trans (wp_mono _ _ _ fun _ =>
    BI.sep_mono (after_final m sems_scoped c) (BI.Entails.refl _))))

set_option maxRecDepth 65536 in
set_option maxHeartbeats 0 in
theorem entry_eq (t : Fin (Pipeline.pin (pcfgs (F := F)) (fun p => (cfgs p).toPCfg_adm) 0).N) :
    defs₀ (F := F) .tc (Pipeline.pin (pcfgs (F := F)) (fun p => (cfgs p).toPCfg_adm) 0).body
      ((Pipeline.pin (pcfgs (F := F)) (fun p => (cfgs p).toPCfg_adm) 0).bodyArgs t ((Pipeline.pin (pcfgs (F := F)) (fun p => (cfgs p).toPCfg_adm) 0).slots t))
      = bodyAt0 (F := F) t := by
  chain_rfl

theorem entry_wp (κ : GSem nD τ sig → ℕ) (c : Dev nD) (t : Fin (Pipeline.pin (pcfgs (F := F)) (fun p => (cfgs p).toPCfg_adm) 0).N) :
    iprop(before m κ c ∗ promises c (due c))
      ⊢ wp frame (wpE (defs₀ (F := F)) Variants.none (c.tc : Thread nD τ) none) Set.univ (defs₀ (F := F) .tc (Pipeline.pin (pcfgs (F := F)) (fun p => (cfgs p).toPCfg_adm) 0).body
          ((Pipeline.pin (pcfgs (F := F)) (fun p => (cfgs p).toPCfg_adm) 0).bodyArgs t ((Pipeline.pin (pcfgs (F := F)) (fun p => (cfgs p).toPCfg_adm) 0).slots t)))
        fun _ => iprop((final m c ∗ scopedSems0 (c.tc : Thread nD τ)) ∗ promises c 0) := by
  have h := point_wp m κ c t
  revert h
  generalize hb : bodyAt0 (F := F) t = b
  intro h
  have e := (entry_eq t).trans hb
  rewrite [e]
  exact h

theorem main_eq (c : Dev nD) : main (F := F) c = .op (.customCall (Pipeline.entry 0) ()) fun _ => .ret PUnit.unit := by
  chain_rfl

theorem core_wp (κ : GSem nD τ sig → ℕ) (c : Dev nD) :
    iprop((plan m).known κ ∗ levs (fun _ => 0) ∗ (bigSep Finset.univ fun a => need m c a) ∗ launchCred due c
        ∗ (bigSep Finset.univ fun i : DmaSem sig => atPos ER (cell c i) 0 ∅ 0) ∗ owes (c.tc : Thread nD τ) (due c) ∅ ∗ scopedBufs (c.tc : Thread nD τ))
      ⊢ wp frame (wpE (defs (F := F)) (Variants.lift Variants.none) (c.tc : Thread nD τ) none) Set.univ (main (F := F) c)
          fun _ => iprop(final m c ∗ scopedSems0 (c.tc : Thread nD τ) ∗ ∃ W, owes (c.tc : Thread nD τ) (0 : CellTallies nD τ sig Unit) W) := by
  have : ∀ e, Nonempty (Elt F e) := some_elt
  rewrite [main_eq]
  have h := wp_call (nD := nD) (τ := τ) (pcfgs (F := F)) (fun p => (cfgs p).toPCfg_adm) cellOf_inj 0 (defs₀ (F := F)) Variants.none
    (fun _ => Fin.isEmpty) Fin.isEmpty N_0 c (before m κ c) (final m c) (due c) (entry_wp m κ c)
  refine BI.BIBase.Entails.trans (Q := iprop(before m κ c ∗ owes (c.tc : Thread nD τ) (due c) ∅ ∗ scopedBufs (c.tc : Thread nD τ))) ?_ h
  unfold before
  iintro ⟨HK, -, HN, Hc, Ha, HO, Hb⟩
  isplitr [HO Hb]
  · isplitl [HK]; · iexact HK
    isplitl [HN]; · iexact HN
    isplitl [Hc]; · iapply credits; iexact Hc
    iexact Ha
  · isplitl [HO] <;> iassumption

/-- The exchange runs; the operands end as they began, every device's results are the blocks meant for it, and every
    semaphore ends at zero. -/
theorem run_main (g : Dev nD → PrngReg) :
    θ_run (defs (F := F)) (onTc (τ := τ) (main (F := F))) ⟨m, fun _ => 0, g⟩ fun r =>
      (∀ (c : Dev nD) (a : Fin 9), r.2.mem ((arrs a).src.view.loc (c.tc : Thread nD τ)) = m ((arrs a).src.view.loc (c.tc : Thread nD τ))
        ∧ r.2.mem ((arrs a).dst.view.loc (c.tc : Thread nD τ)) = outAt m a c)
      ∧ r.2.sem = fun _ => 0 := by
  have : ∀ e, Nonempty (Elt F e) := some_elt
  refine Cert.Net.run (plan m) sems_scoped (fun _ => 0) (Variants.lift Variants.none) m g (main (F := F)) due
    (fun c => bigSep Finset.univ fun a => need m c a) (final m) (deal m) (core_wp m)
    (fun c s => ∀ a : Fin 9, s.mem ((arrs a).src.view.loc (c.tc : Thread nD τ)) = m ((arrs a).src.view.loc (c.tc : Thread nD τ))
        ∧ s.mem ((arrs a).dst.view.loc (c.tc : Thread nD τ)) = outAt m a c) (fun c s' => ?_) (fun s hQ hsem => ⟨hQ, ?_⟩)
  · unfold final
    iintro ⟨⟨Hi, Ho⟩, HS⟩
    ihave H1 := (pointsTo_read_all Finset.univ (fun a : Fin 9 => (arrs a).src.view.loc (c.tc : Thread nD τ)) (fun a => m ((arrs a).src.view.loc (c.tc : Thread nD τ))) s') $$ [Hi HS]
    · isplitl [Hi] <;> iassumption
    icases H1 with ⟨%h1, HS⟩
    ihave H2 := (pointsTo_read_all Finset.univ (fun a : Fin 9 => (arrs a).dst.view.loc (c.tc : Thread nD τ)) (fun a => outAt m a c) s') $$ [Ho HS]
    · isplitl [Ho] <;> iassumption
    icases H2 with ⟨%h2, HS⟩
    imodintro
    isplitr [HS]
    · ipureintro
      exact fun a => ⟨h1 a (Finset.mem_univ a), h2 a (Finset.mem_univ a)⟩
    · iexact HS
  · funext g'
    refine hsem g' ?_
    by_cases h : g'.1.2 = .tc
    · refine .inr ?_
      cases hg : g'.2 with
      | dma i => exact (sems_scoped (.dma i)).mpr ⟨i, rfl⟩
      | reg i => exact i.elim0
    · exact .inl h

end Cert.Exchange

end
-- ==== Proof.Values.lean ====
module

public import proofs.«01_k».proof.Proof.Blocks
public import Idealize.ShloMosaic.Lib.Layout
public import Idealize.ShloMosaic.Lib.Pipeline.Value

@[expose] public section

/-! # The exchange on the whole array

The reference numbers the 64 blocks of the whole array by pairs (owner, block), and swaps the two. -/

namespace Cert.Exchange

open Idealize.ShloMosaic Cert.Net

variable {α : Type} {n k : Nat}

/-- A device's part of an array. -/
abbrev Part (n k : Nat) : Shape := ⟨3, ![8, n, k]⟩
/-- The whole array. -/
abbrev Whole (n k : Nat) : Shape := ⟨3, ![64, n, k]⟩
/-- The whole array, its blocks numbered by pairs. -/
abbrev Pairs (n k : Nat) : Shape := ⟨4, ![8, 8, n, k]⟩

/-- What the reference makes of a whole array. -/
abbrev swapped (x : (Whole n k).Idx → α) (h : (Whole n k).ShapeCasts (Pairs n k))
    (t : (Pairs n k).Transposes [1, 0, 2, 3] (Pairs n k)) (h' : (Pairs n k).ShapeCasts (Whole n k)) : (Whole n k).Idx → α :=
  shapeCast (Whole n k) (transpose (Pairs n k) [1, 0, 2, 3] (shapeCast (Pairs n k) x h) t) h'

/-- Part `c` of the swapped array, in block `p`, is part `p` of the array, in block `c`. -/
theorem swapped_part (x : (Whole n k).Idx → α) (h : (Whole n k).ShapeCasts (Pairs n k))
    (t : (Pairs n k).Transposes [1, 0, 2, 3] (Pairs n k)) (h' : (Pairs n k).ShapeCasts (Whole n k))
    (tl : Layout.Tiles (Part n k) (Whole n k) 0 8) (c : Fin 8) (i : (Part n k).Idx) :
    Layout.block (Part n k) (Whole n k) 0 8 (i 0) x tl (inBlk c i) = Layout.block (Part n k) (Whole n k) 0 8 c (swapped x h t h') tl i := by
  have e0 : (tl.idx c i 0).val = c.val * 8 + (i 0).val := rfl
  have e1 : (tl.idx c i 1).val = (i 1).val := rfl
  have e2 : (tl.idx c i 2).val = (i 2).val := rfl
  have f0 : (tl.idx (i 0) (inBlk c i) 0).val = (i 0).val * 8 + c.val := rfl
  have f1 : (tl.idx (i 0) (inBlk c i) 1).val = (i 1).val := rfl
  have f2 : (tl.idx (i 0) (inBlk c i) 2).val = (i 2).val := rfl
  let jt : (Pairs n k).Idx := fun | 0 => c | 1 => i 0 | 2 => i 1 | 3 => i 2
  let js : (Pairs n k).Idx := fun | 0 => i 0 | 1 => c | 2 => i 1 | 3 => i 2
  show x (tl.idx (i 0) (inBlk c i)) = swapped x h t h' (tl.idx c i)
  refine Eq.symm ((shapeCast_apply _ h' _ jt ?_).trans ((transpose_apply _ _ t jt js ?_).trans (shapeCast_apply _ h js _ ?_)))
  · rw [Shape.rowMajor_val_four, Shape.rowMajor_val_three, e0, e1, e2]; rfl
  · intro b; fin_cases b <;> rfl
  · rw [Shape.rowMajor_val_four, Shape.rowMajor_val_three, f0, f1, f2]; rfl

end Cert.Exchange

end
-- ==== Proof.SpreadBody.lean ====
module

public import proofs.«01_k».proof.Proof.Gen.GatherIdeal
public import proofs.«01_k».proof.Proof.Gen.GatherIdeal.Points
public import Idealize.ShloMosaic.Lib.Pipeline.Regions
public import proofs.«01_k».proof.Proof.Each

@[expose] public section

/-! # The gather's body as nested repetitions

Three stages over the nine arrays. First every shard is copied into the device's own slot and sent to four peers: the
sibling core and the three cores of the same kind on the other chips. Then each shard that came from another chip is
passed on to the sibling. Then everything outstanding is waited for. The addresses are kept as the printed ones, in
tables; that every table entry is "the slot of device `d xor q`" is decided once, over the tables. -/

noncomputable section

namespace Cert.Spread

open Cert.GatherIdeal Cert.GatherIdeal.Gen
open Idealize.ShloMosaic Idealize.ShloMosaic.TcCoe
open Idealize.SL Idealize.SL.Sem
open Cert.Net (runFin)

variable {F : FTy → Type} [FloatOps F]

/-- One gathered array: the shard, the result, and the printed address of slot `d xor q` on device `d`. -/
structure Arr where
  n : Nat
  k : Nat
  src : Memref sig .tc .hbm ⟨2, ![n, k]⟩ .bf16
  hsrc : src.IsWhole
  dst : Memref sig .tc .hbm ⟨3, ![8, n, k]⟩ .bf16
  hdst : dst.IsWhole
  off : Fin 8 → Dev nD → Fin 3 → Nat
  inb : ∀ q d a, off q d a + (![1, n, k] : Fin 3 → Nat) a ≤ (![8, n, k] : Fin 3 → Nat) a
  words : ∀ q d, (Rect.unit (s := ⟨3, ![8, n, k]⟩) (off q d) ![1, n, k] (inb q d)).WholeWords (EltTy.packing .bf16)
  sq : Shape.Squeezes ⟨3, ![1, n, k]⟩ ⟨2, ![n, k]⟩

/-- The printed slot of the result. -/
def Arr.slot (A : Arr) (q : Fin 8) (d : Dev nD) : Memref sig .tc .hbm ⟨2, ![A.n, A.k]⟩ .bf16 :=
  (A.dst.slice (Rect.unit (s := ⟨3, ![8, A.n, A.k]⟩) (A.off q d) ![1, A.n, A.k] (A.inb q d)) (fun _ => rfl)).squeeze ⟨2, ![A.n, A.k]⟩ A.sq

theorem Arr.exact (A : Arr) (q : Fin 8) (d : Dev nD) : (A.slot q d).view.WordExact :=
  (A.hdst.wordExact_slice rfl _ (A.words q d)).reshape _ _

/-- The addresses in an array of `1024 × 704` blocks. -/
def off0 : Fin 8 → Dev nD → Fin 3 → Nat := ![k0_off1, k0_off21, k0_off7, k0_off23, k0_off6, k0_off22, k0_off8, k0_off24]
theorem inb0 : ∀ q d a, off0 q d a + (![1, 1024, 704] : Fin 3 → Nat) a ≤ (![8, 1024, 704] : Fin 3 → Nat) a
  | 0 => k0_off1_inb
  | 1 => k0_off21_inb
  | 2 => k0_off7_inb
  | 3 => k0_off23_inb
  | 4 => k0_off6_inb
  | 5 => k0_off22_inb
  | 6 => k0_off8_inb
  | 7 => k0_off24_inb
theorem words0 : ∀ q d, (Rect.unit (s := ⟨3, ![8, 1024, 704]⟩) (off0 q d) ![1, 1024, 704] (inb0 q d)).WholeWords (EltTy.packing .bf16)
  | 0 => k0_off1_wordsbf16
  | 1 => k0_off21_wordsbf16
  | 2 => k0_off7_wordsbf16
  | 3 => k0_off23_wordsbf16
  | 4 => k0_off6_wordsbf16
  | 5 => k0_off22_wordsbf16
  | 6 => k0_off8_wordsbf16
  | 7 => k0_off24_wordsbf16

/-- The addresses in an array of `352 × 1024` blocks. -/
def off1 : Fin 8 → Dev nD → Fin 3 → Nat := ![k0_off2, k0_off25, k0_off10, k0_off27, k0_off9, k0_off26, k0_off11, k0_off28]
theorem inb1 : ∀ q d a, off1 q d a + (![1, 352, 1024] : Fin 3 → Nat) a ≤ (![8, 352, 1024] : Fin 3 → Nat) a
  | 0 => k0_off2_inb
  | 1 => k0_off25_inb
  | 2 => k0_off10_inb
  | 3 => k0_off27_inb
  | 4 => k0_off9_inb
  | 5 => k0_off26_inb
  | 6 => k0_off11_inb
  | 7 => k0_off28_inb
theorem words1 : ∀ q d, (Rect.unit (s := ⟨3, ![8, 352, 1024]⟩) (off1 q d) ![1, 352, 1024] (inb1 q d)).WholeWords (EltTy.packing .bf16)
  | 0 => k0_off2_wordsbf16
  | 1 => k0_off25_wordsbf16
  | 2 => k0_off10_wordsbf16
  | 3 => k0_off27_wordsbf16
  | 4 => k0_off9_wordsbf16
  | 5 => k0_off26_wordsbf16
  | 6 => k0_off11_wordsbf16
  | 7 => k0_off28_wordsbf16

/-- The addresses in an array of `1024 × 321` blocks. -/
def off2 : Fin 8 → Dev nD → Fin 3 → Nat := ![k0_off3, k0_off29, k0_off13, k0_off31, k0_off12, k0_off30, k0_off14, k0_off32]
theorem inb2 : ∀ q d a, off2 q d a + (![1, 1024, 321] : Fin 3 → Nat) a ≤ (![8, 1024, 321] : Fin 3 → Nat) a
  | 0 => k0_off3_inb
  | 1 => k0_off29_inb
  | 2 => k0_off13_inb
  | 3 => k0_off31_inb
  | 4 => k0_off12_inb
  | 5 => k0_off30_inb
  | 6 => k0_off14_inb
  | 7 => k0_off32_inb
theorem words2 : ∀ q d, (Rect.unit (s := ⟨3, ![8, 1024, 321]⟩) (off2 q d) ![1, 1024, 321] (inb2 q d)).WholeWords (EltTy.packing .bf16)
  | 0 => k0_off3_wordsbf16
  | 1 => k0_off29_wordsbf16
  | 2 => k0_off13_wordsbf16
  | 3 => k0_off31_wordsbf16
  | 4 => k0_off12_wordsbf16
  | 5 => k0_off30_wordsbf16
  | 6 => k0_off14_wordsbf16
  | 7 => k0_off32_wordsbf16

/-- The addresses in an array of `128 × 1024` blocks. -/
def off3 : Fin 8 → Dev nD → Fin 3 → Nat := ![k0_off4, k0_off33, k0_off16, k0_off35, k0_off15, k0_off34, k0_off17, k0_off36]
theorem inb3 : ∀ q d a, off3 q d a + (![1, 128, 1024] : Fin 3 → Nat) a ≤ (![8, 128, 1024] : Fin 3 → Nat) a
  | 0 => k0_off4_inb
  | 1 => k0_off33_inb
  | 2 => k0_off16_inb
  | 3 => k0_off35_inb
  | 4 => k0_off15_inb
  | 5 => k0_off34_inb
  | 6 => k0_off17_inb
  | 7 => k0_off36_inb
theorem words3 : ∀ q d, (Rect.unit (s := ⟨3, ![8, 128, 1024]⟩) (off3 q d) ![1, 128, 1024] (inb3 q d)).WholeWords (EltTy.packing .bf16)
  | 0 => k0_off4_wordsbf16
  | 1 => k0_off33_wordsbf16
  | 2 => k0_off16_wordsbf16
  | 3 => k0_off35_wordsbf16
  | 4 => k0_off15_wordsbf16
  | 5 => k0_off34_wordsbf16
  | 6 => k0_off17_wordsbf16
  | 7 => k0_off36_wordsbf16

/-- The addresses in an array of `1024 × 256` blocks. -/
def off4 : Fin 8 → Dev nD → Fin 3 → Nat := ![k0_off5, k0_off37, k0_off19, k0_off39, k0_off18, k0_off38, k0_off20, k0_off40]
theorem inb4 : ∀ q d a, off4 q d a + (![1, 1024, 256] : Fin 3 → Nat) a ≤ (![8, 1024, 256] : Fin 3 → Nat) a
  | 0 => k0_off5_inb
  | 1 => k0_off37_inb
  | 2 => k0_off19_inb
  | 3 => k0_off39_inb
  | 4 => k0_off18_inb
  | 5 => k0_off38_inb
  | 6 => k0_off20_inb
  | 7 => k0_off40_inb
theorem words4 : ∀ q d, (Rect.unit (s := ⟨3, ![8, 1024, 256]⟩) (off4 q d) ![1, 1024, 256] (inb4 q d)).WholeWords (EltTy.packing .bf16)
  | 0 => k0_off5_wordsbf16
  | 1 => k0_off37_wordsbf16
  | 2 => k0_off19_wordsbf16
  | 3 => k0_off39_wordsbf16
  | 4 => k0_off18_wordsbf16
  | 5 => k0_off38_wordsbf16
  | 6 => k0_off20_wordsbf16
  | 7 => k0_off40_wordsbf16

/-- The nine arrays. -/
def arrs : Fin 9 → Arr
  | 0 => ⟨1024, 704, Memref.whole main_arg0, Memref.isWhole_whole _, Memref.whole main_v1_0, Memref.isWhole_whole _, off0, inb0, words0, squeezes_S1x1024x704_S1024x704⟩
  | 1 => ⟨352, 1024, Memref.whole main_arg1, Memref.isWhole_whole _, Memref.whole main_v1_1, Memref.isWhole_whole _, off1, inb1, words1, squeezes_S1x352x1024_S352x1024⟩
  | 2 => ⟨1024, 321, Memref.whole main_arg2, Memref.isWhole_whole _, Memref.whole main_v1_2, Memref.isWhole_whole _, off2, inb2, words2, squeezes_S1x1024x321_S1024x321⟩
  | 3 => ⟨128, 1024, Memref.whole main_arg3, Memref.isWhole_whole _, Memref.whole main_v1_3, Memref.isWhole_whole _, off3, inb3, words3, squeezes_S1x128x1024_S128x1024⟩
  | 4 => ⟨128, 1024, Memref.whole main_arg4, Memref.isWhole_whole _, Memref.whole main_v1_4, Memref.isWhole_whole _, off3, inb3, words3, squeezes_S1x128x1024_S128x1024⟩
  | 5 => ⟨1024, 256, Memref.whole main_arg5, Memref.isWhole_whole _, Memref.whole main_v1_5, Memref.isWhole_whole _, off4, inb4, words4, squeezes_S1x1024x256_S1024x256⟩
  | 6 => ⟨128, 1024, Memref.whole main_arg6, Memref.isWhole_whole _, Memref.whole main_v1_6, Memref.isWhole_whole _, off3, inb3, words3, squeezes_S1x128x1024_S128x1024⟩
  | 7 => ⟨1024, 704, Memref.whole main_arg7, Memref.isWhole_whole _, Memref.whole main_v1_7, Memref.isWhole_whole _, off0, inb0, words0, squeezes_S1x1024x704_S1024x704⟩
  | 8 => ⟨352, 1024, Memref.whole main_arg8, Memref.isWhole_whole _, Memref.whole main_v1_8, Memref.isWhole_whole _, off1, inb1, words1, squeezes_S1x352x1024_S352x1024⟩

/-- The device the printed send `r` of array `a` names, -/
def dev : Fin 9 → Fin 4 → Dev nD → Dev nD := ![
  ![fun d => ⟨k0_dev1 d, k0_dev1_lt d⟩, fun d => ⟨k0_dev2 d, k0_dev2_lt d⟩, fun d => ⟨k0_dev3 d, k0_dev3_lt d⟩, fun d => ⟨k0_dev4 d, k0_dev4_lt d⟩],
  ![fun d => ⟨k0_dev5 d, k0_dev5_lt d⟩, fun d => ⟨k0_dev6 d, k0_dev6_lt d⟩, fun d => ⟨k0_dev7 d, k0_dev7_lt d⟩, fun d => ⟨k0_dev8 d, k0_dev8_lt d⟩],
  ![fun d => ⟨k0_dev9 d, k0_dev9_lt d⟩, fun d => ⟨k0_dev10 d, k0_dev10_lt d⟩, fun d => ⟨k0_dev11 d, k0_dev11_lt d⟩, fun d => ⟨k0_dev12 d, k0_dev12_lt d⟩],
  ![fun d => ⟨k0_dev13 d, k0_dev13_lt d⟩, fun d => ⟨k0_dev14 d, k0_dev14_lt d⟩, fun d => ⟨k0_dev15 d, k0_dev15_lt d⟩, fun d => ⟨k0_dev16 d, k0_dev16_lt d⟩],
  ![fun d => ⟨k0_dev17 d, k0_dev17_lt d⟩, fun d => ⟨k0_dev18 d, k0_dev18_lt d⟩, fun d => ⟨k0_dev19 d, k0_dev19_lt d⟩, fun d => ⟨k0_dev20 d, k0_dev20_lt d⟩],
  ![fun d => ⟨k0_dev21 d, k0_dev21_lt d⟩, fun d => ⟨k0_dev22 d, k0_dev22_lt d⟩, fun d => ⟨k0_dev23 d, k0_dev23_lt d⟩, fun d => ⟨k0_dev24 d, k0_dev24_lt d⟩],
  ![fun d => ⟨k0_dev25 d, k0_dev25_lt d⟩, fun d => ⟨k0_dev26 d, k0_dev26_lt d⟩, fun d => ⟨k0_dev27 d, k0_dev27_lt d⟩, fun d => ⟨k0_dev28 d, k0_dev28_lt d⟩],
  ![fun d => ⟨k0_dev29 d, k0_dev29_lt d⟩, fun d => ⟨k0_dev30 d, k0_dev30_lt d⟩, fun d => ⟨k0_dev31 d, k0_dev31_lt d⟩, fun d => ⟨k0_dev32 d, k0_dev32_lt d⟩],
  ![fun d => ⟨k0_dev33 d, k0_dev33_lt d⟩, fun d => ⟨k0_dev34 d, k0_dev34_lt d⟩, fun d => ⟨k0_dev35 d, k0_dev35_lt d⟩, fun d => ⟨k0_dev36 d, k0_dev36_lt d⟩]]

/-- and the one the printed passing on `j` names. -/
def sib : Fin 9 → Fin 3 → Dev nD → Dev nD := ![
  ![fun d => ⟨k0_dev37 d, k0_dev37_lt d⟩, fun d => ⟨k0_dev38 d, k0_dev38_lt d⟩, fun d => ⟨k0_dev39 d, k0_dev39_lt d⟩],
  ![fun d => ⟨k0_dev40 d, k0_dev40_lt d⟩, fun d => ⟨k0_dev41 d, k0_dev41_lt d⟩, fun d => ⟨k0_dev42 d, k0_dev42_lt d⟩],
  ![fun d => ⟨k0_dev43 d, k0_dev43_lt d⟩, fun d => ⟨k0_dev44 d, k0_dev44_lt d⟩, fun d => ⟨k0_dev45 d, k0_dev45_lt d⟩],
  ![fun d => ⟨k0_dev46 d, k0_dev46_lt d⟩, fun d => ⟨k0_dev47 d, k0_dev47_lt d⟩, fun d => ⟨k0_dev48 d, k0_dev48_lt d⟩],
  ![fun d => ⟨k0_dev49 d, k0_dev49_lt d⟩, fun d => ⟨k0_dev50 d, k0_dev50_lt d⟩, fun d => ⟨k0_dev51 d, k0_dev51_lt d⟩],
  ![fun d => ⟨k0_dev52 d, k0_dev52_lt d⟩, fun d => ⟨k0_dev53 d, k0_dev53_lt d⟩, fun d => ⟨k0_dev54 d, k0_dev54_lt d⟩],
  ![fun d => ⟨k0_dev55 d, k0_dev55_lt d⟩, fun d => ⟨k0_dev56 d, k0_dev56_lt d⟩, fun d => ⟨k0_dev57 d, k0_dev57_lt d⟩],
  ![fun d => ⟨k0_dev58 d, k0_dev58_lt d⟩, fun d => ⟨k0_dev59 d, k0_dev59_lt d⟩, fun d => ⟨k0_dev60 d, k0_dev60_lt d⟩],
  ![fun d => ⟨k0_dev61 d, k0_dev61_lt d⟩, fun d => ⟨k0_dev62 d, k0_dev62_lt d⟩, fun d => ⟨k0_dev63 d, k0_dev63_lt d⟩]]

/-- Slot `q` of device `d`'s tables is the slot of device `d xor q`. -/
def across (d : Dev nD) (q : Fin 8) : Dev nD := ⟨d.val ^^^ q.val, Nat.xor_lt_two_pow (n := 3) d.isLt q.isLt⟩

/-- How far the four peers of the first stage are: the sibling, then the same core of the three other chips. -/
def peer : Fin 4 → Fin 8 := ![1, 4, 2, 6]
/-- How far the three whose shards are passed on are, -/
def chip : Fin 3 → Fin 8 := ![4, 2, 6]
/-- and their siblings. -/
def far : Fin 3 → Fin 8 := ![5, 3, 7]

theorem off_eq : ∀ (a : Fin 9) (q : Fin 8) (d : Dev nD), (arrs a).off q d = ![(across d q).val, 0, 0] := by decide +kernel
theorem dev_eq : ∀ (a : Fin 9) (r : Fin 4) (d : Dev nD), dev a r d = across d (peer r) := by decide +kernel
theorem sib_eq : ∀ (a : Fin 9) (j : Fin 3) (d : Dev nD), sib a j d = across d 1 := by decide +kernel

/-- The semaphores: sends, passings on, arrivals from a peer, arrivals by the sibling, local copies. -/
def sendSem (a : Fin 9) (r : Fin 4) : DmaSem sig := ⟨7 * a.val + r.val, by have := a.isLt; have := r.isLt; show _ < 135; omega⟩
def passSem (a : Fin 9) (j : Fin 3) : DmaSem sig := ⟨7 * a.val + (4 + j.val), by have := a.isLt; have := j.isLt; show _ < 135; omega⟩
def recvSem (a : Fin 9) (r : Fin 4) : DmaSem sig := ⟨63 + (7 * a.val + r.val), by have := a.isLt; have := r.isLt; show _ < 135; omega⟩
def farSem (a : Fin 9) (j : Fin 3) : DmaSem sig := ⟨63 + (7 * a.val + (4 + j.val)), by have := a.isLt; have := j.isLt; show _ < 135; omega⟩
def locSem (a : Fin 9) : DmaSem sig := ⟨126 + a.val, by have := a.isLt; show _ < 135; omega⟩

section ops
variable (d : Dev nD) (a : Fin 9)

def opLocal : TpuEff nD τ sig (Elt F) Λ₀ .tc PUnit :=
  .enqueueDma (arrs a).src (.here ((arrs a).slot 0 d)) (.dma (locSem a)) (arrs a).hsrc.wordExact ((arrs a).exact 0 d) ⟨Or.inl rfl, trivial⟩

def opSend (r : Fin 4) : TpuEff nD τ sig (Elt F) Λ₀ .tc PUnit :=
  .enqueueDma (arrs a).src (.remote (Dev.tc (dev a r d)) ((arrs a).slot 0 d) (.dma (sendSem a r))) (.dma (recvSem a r))
    (arrs a).hsrc.wordExact ((arrs a).exact 0 d) ⟨⟨rfl, Or.inl rfl⟩, trivial⟩

def opChip (j : Fin 3) : TpuEff nD τ sig (Elt F) Λ₀ .tc PUnit :=
  .waitDma2 (recvSem a j.succ) ((arrs a).slot (chip j) d) ((arrs a).slot (chip j) d) ((arrs a).exact (chip j) d) ((arrs a).exact (chip j) d)

def opPass (j : Fin 3) : TpuEff nD τ sig (Elt F) Λ₀ .tc PUnit :=
  .enqueueDma ((arrs a).slot (chip j) d) (.remote (Dev.tc (sib a j d)) ((arrs a).slot (chip j) d) (.dma (passSem a j))) (.dma (farSem a j))
    ((arrs a).exact (chip j) d) ((arrs a).exact (chip j) d) ⟨⟨rfl, Or.inl rfl⟩, trivial⟩

def opSib : TpuEff nD τ sig (Elt F) Λ₀ .tc PUnit :=
  .waitDma2 (recvSem a 0) ((arrs a).slot 1 d) ((arrs a).slot 1 d) ((arrs a).exact 1 d) ((arrs a).exact 1 d)

def opFar (j : Fin 3) : TpuEff nD τ sig (Elt F) Λ₀ .tc PUnit :=
  .waitDma2 (farSem a j) ((arrs a).slot (far j) d) ((arrs a).slot (far j) d) ((arrs a).exact (far j) d) ((arrs a).exact (far j) d)

def opSent (r : Fin 4) : TpuEff nD τ sig (Elt F) Λ₀ .tc PUnit :=
  .waitDma2 (sendSem a r) ((arrs a).slot 0 d) (arrs a).src ((arrs a).exact 0 d) (arrs a).hsrc.wordExact

def opPassed (j : Fin 3) : TpuEff nD τ sig (Elt F) Λ₀ .tc PUnit :=
  .waitDma2 (passSem a j) ((arrs a).slot (chip j) d) ((arrs a).slot (chip j) d) ((arrs a).exact (chip j) d) ((arrs a).exact (chip j) d)

def opMine : TpuEff nD τ sig (Elt F) Λ₀ .tc PUnit :=
  .waitDma2 (locSem a) (arrs a).src ((arrs a).slot 0 d) (arrs a).hsrc.wordExact ((arrs a).exact 0 d)

end ops

/-- The stages, for one array. -/
def startOf (d : Dev nD) (a : Fin 9) : Prog (TpuEff nD τ sig (Elt F) Λ₀ .tc) PUnit :=
  (Prog.op (opLocal d a) .ret).bind fun _ => runFin 4 fun r => .op (opSend d a r) .ret
def passOf (d : Dev nD) (a : Fin 9) : Prog (TpuEff nD τ sig (Elt F) Λ₀ .tc) PUnit :=
  runFin 3 fun j => .op (opChip d a j) fun _ => .op (opPass d a j) .ret
def endOf (d : Dev nD) (a : Fin 9) : Prog (TpuEff nD τ sig (Elt F) Λ₀ .tc) PUnit :=
  (Prog.op (opSib d a) .ret).bind fun _ =>
  (runFin 3 fun j => .op (opFar d a j) .ret).bind fun _ =>
  (runFin 4 fun r => .op (opSent d a r) .ret).bind fun _ =>
  (runFin 3 fun j => .op (opPassed d a j) .ret).bind fun _ => .op (opMine d a) .ret

/-- The body on device `d`. -/
def body (d : Dev nD) : Prog (TpuEff nD τ sig (Elt F) Λ₀ .tc) PUnit :=
  (runFin 9 (startOf d)).bind fun _ => (runFin 9 (passOf d)).bind fun _ => runFin 9 (endOf d)

set_option maxRecDepth 65536 in
set_option maxHeartbeats 0 in
theorem body_eq (t : Fin cfg0.N) : bodyAt0 (F := F) t = .op .deviceId fun d => body d := by
  chain_rfl

end Cert.Spread

end
-- ==== Proof.SpreadTable.lean ====
module

public import proofs.«01_k».proof.Proof.SpreadBody
public import proofs.«01_k».proof.Proof.Blocks
public import proofs.«01_k».proof.Proof.Net
public import Idealize.ShloMosaic.Lib.ShareLeaves

@[expose] public section

/-! # What each semaphore of the gather carries

The shard is read by five copies at once, so each takes a share of it: the local copy one half, the four sends the
quarters of the other. A send's semaphore gives the share back, an arrival's gives a slot of the result at its final
contents. A slot that came from another chip is itself the source of the passing on, and its semaphore gives the slot
back. -/

noncomputable section

namespace Cert.Spread

open Cert.GatherIdeal Cert.GatherIdeal.Gen Cert.Net
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem across_across (c : Dev nD) (q : Fin 8) : across (across c q) q = c := by
  revert c q; decide

theorem across_zero (c : Dev nD) : across c 0 = c := by
  revert c; decide

/-- What the sibling sees far is what this device has from the other chip. -/
theorem across_far (c : Dev nD) (j : Fin 3) : across (across c 1) (far j) = across c (chip j) := by
  revert c j; decide

theorem peer_succ (j : Fin 3) : peer j.succ = chip j := by
  revert j; decide

/-- The device itself, its peers, the peers' siblings. -/
def around : Fin 1 ⊕ Fin 4 ⊕ Fin 3 → Fin 8
  | .inl _ => 0
  | .inr (.inl r) => peer r
  | .inr (.inr j) => far j

/-- The devices, counted from device `c`. -/
def acrossEquiv (c : Dev nD) : Fin 1 ⊕ Fin 4 ⊕ Fin 3 ≃ Dev nD :=
  Equiv.ofBijective (fun x => across c (around x)) (by revert c; decide)

/-- The semaphores by what they are for. -/
abbrev Use : Type := (Fin 9 × Fin 4) ⊕ (Fin 9 × Fin 3) ⊕ (Fin 9 × Fin 4) ⊕ (Fin 9 × Fin 3) ⊕ Fin 9

def semOf : Use → DmaSem sig
  | .inl x => sendSem x.1 x.2
  | .inr (.inl x) => passSem x.1 x.2
  | .inr (.inr (.inl x)) => recvSem x.1 x.2
  | .inr (.inr (.inr (.inl x))) => farSem x.1 x.2
  | .inr (.inr (.inr (.inr a))) => locSem a

def useOf (i : DmaSem sig) : Use :=
  if h : i.val < 63 then
    if h' : i.val % 7 < 4 then .inl (⟨i.val / 7, by omega⟩, ⟨i.val % 7, h'⟩)
    else .inr (.inl (⟨i.val / 7, by omega⟩, ⟨i.val % 7 - 4, by omega⟩))
  else if h' : i.val < 126 then
    if h'' : (i.val - 63) % 7 < 4 then .inr (.inr (.inl (⟨(i.val - 63) / 7, by omega⟩, ⟨(i.val - 63) % 7, h''⟩)))
    else .inr (.inr (.inr (.inl (⟨(i.val - 63) / 7, by omega⟩, ⟨(i.val - 63) % 7 - 4, by omega⟩))))
  else .inr (.inr (.inr (.inr ⟨i.val - 126, by have : i.val < 135 := i.isLt; omega⟩)))

def useEquiv : Use ≃ DmaSem sig where
  toFun := semOf
  invFun := useOf
  left_inv := by
    rintro (⟨a, r⟩ | ⟨a, r⟩ | ⟨a, r⟩ | ⟨a, r⟩ | a)
    · revert a r; decide
    · revert a r; decide
    · revert a r; decide
    · revert a r; decide
    · revert a; decide
  right_inv := by
    intro i
    have hi : i.val < 135 := i.isLt
    unfold useOf
    split_ifs with h h' h' h''
    · exact Fin.ext (by show 7 * (i.val / 7) + i.val % 7 = i.val; omega)
    · exact Fin.ext (by show 7 * (i.val / 7) + (4 + (i.val % 7 - 4)) = i.val; omega)
    · exact Fin.ext (by show 63 + (7 * ((i.val - 63) / 7) + (i.val - 63) % 7) = i.val; omega)
    · exact Fin.ext (by show 63 + (7 * ((i.val - 63) / 7) + (4 + ((i.val - 63) % 7 - 4))) = i.val; omega)
    · exact Fin.ext (by show 126 + (i.val - 126) = i.val; omega)

theorem useOf_semOf (u : Use) : useOf (semOf u) = u := useEquiv.left_inv u

/-- A table over the semaphores, by what they are for. -/
theorem bigSep_use (Φ : DmaSem sig → sProp 𝕄) :
    bigSep Finset.univ Φ = iprop((bigSep Finset.univ fun a => bigSep Finset.univ fun r => Φ (sendSem a r))
      ∗ (bigSep Finset.univ fun a => bigSep Finset.univ fun j => Φ (passSem a j))
      ∗ (bigSep Finset.univ fun a => bigSep Finset.univ fun r => Φ (recvSem a r))
      ∗ (bigSep Finset.univ fun a => bigSep Finset.univ fun j => Φ (farSem a j)) ∗ (bigSep Finset.univ fun a => Φ (locSem a))) := by
  rw [BI.bigSep_univ_equiv useEquiv, BI.bigSep_univ_sum, BI.bigSep_univ_sum, BI.bigSep_univ_sum, BI.bigSep_univ_sum,
    BI.bigSep_univ_prod, BI.bigSep_univ_prod, BI.bigSep_univ_prod, BI.bigSep_univ_prod]
  rfl

/-! ### The amounts -/

/-- What one block of array `a` raises a semaphore by. -/
def amtOf (a : Fin 9) : ℕ := (blk (arrs a).sq (arrs a).dst 0).view.dmaCredit

theorem amt_pos (a : Fin 9) : 0 < amtOf a :=
  View.dmaCredit_pos _ (by revert a; decide)

theorem credit_slot (a : Fin 9) (q : Fin 8) (d : Dev nD) : ((arrs a).slot q d).view.dmaCredit = amtOf a := rfl

theorem credit_shard (a : Fin 9) : (arrs a).src.view.dmaCredit = amtOf a := by
  match a with
  | 0 => rfl | 1 => rfl | 2 => rfl | 3 => rfl | 4 => rfl | 5 => rfl | 6 => rfl | 7 => rfl | 8 => rfl

/-! ### The contents -/

variable (m : (ℓ : Loc nD τ sig) → Buf (Elt F) ℓ)

/-- Shard `a` of device `p` at launch. -/
def inAt (a : Fin 9) (p : Dev nD) : Shape.Idx ⟨2, ![(arrs a).n, (arrs a).k]⟩ → Elt F .bf16 :=
  (arrs a).src.view.read (Elt F) (m ((arrs a).src.view.loc (p.tc : Thread nD τ)))

/-- Result `a`: block `p` is device `p`'s shard. -/
def outVal (a : Fin 9) : Shape.Idx ⟨3, ![8, (arrs a).n, (arrs a).k]⟩ → Elt F .bf16 :=
  fun i => inAt m a (i 0) (inside i)

def outAt (a : Fin 9) (c : Dev nD) : Buf (Elt F) ((arrs a).dst.view.loc (c.tc : Thread nD τ)) :=
  fill (arrs a).dst (outVal m a) (m ((arrs a).dst.view.loc (c.tc : Thread nD τ)))

theorem out_read (a : Fin 9) (c p : Dev nD) :
    (blk (arrs a).sq (arrs a).dst p).view.read (Elt F) (outAt m a c) = inAt m a p := by
  funext j
  rw [blk_read]
  unfold outAt
  rw [fill_read]
  unfold outVal
  rw [inside_ix]
  have h : ix (arrs a).sq p j 0 = p := ix_zero _ p j
  exact congrArg (fun p' : Dev nD => inAt m a p' j) h

theorem slot_read (a : Fin 9) (c d : Dev nD) (q : Fin 8) :
    ((arrs a).slot q d).view.read (Elt F) (outAt m a c) = inAt m a (across d q) :=
  (blkAt_read (arrs a).sq (arrs a).dst (off_eq a q d) _ _).trans (out_read m a c _)

/-! ### The resources -/

/-- A share of shard `a` on device `c`, at its launch contents. -/
def inB (a : Fin 9) (c : Dev nD) (q : PosShare TreeShare) : sProp 𝕄 :=
  (arrs a).src.view.loc (c.tc : Thread nD τ) ↦[(arrs a).src.view.set]{q} m ((arrs a).src.view.loc (c.tc : Thread nD τ))

/-- The local copy's share, -/
abbrev half : PosShare TreeShare := (fullShare : PosShare TreeShare).left
/-- and a send's. -/
abbrev quarter (r : Fin 4) : PosShare TreeShare := ShareLeaves.leaf 2 (fullShare : PosShare TreeShare).right r

theorem inB_shares (a : Fin 9) (c : Dev nD) : inB m a c fullShare = iprop(inB m a c half ∗ bigSep Finset.univ fun r => inB m a c (quarter r)) := by
  unfold inB
  rw [BI.Entails.antisymm (pointsTo_share (PosShare.mem_left_op_right fullShare)).1 (pointsTo_share (PosShare.mem_left_op_right fullShare)).2,
    ShareLeaves.pointsTo_leaves _ _ 2 (fullShare : PosShare TreeShare).right]
  rfl

/-- Block `p` of result `a` on device `c` before anything has arrived, -/
def rawB (a : Fin 9) (c p : Dev nD) : sProp 𝕄 :=
  (blk (arrs a).sq (arrs a).dst p).view.loc (c.tc : Thread nD τ) ↦[(blk (arrs a).sq (arrs a).dst p).view.set]{fullShare} m ((arrs a).dst.view.loc (c.tc : Thread nD τ))

/-- and at its final contents. -/
def outB (a : Fin 9) (c p : Dev nD) : sProp 𝕄 :=
  (blk (arrs a).sq (arrs a).dst p).view.loc (c.tc : Thread nD τ) ↦[(blk (arrs a).sq (arrs a).dst p).view.set]{fullShare} outAt m a c

def payOf (c : Dev nD) : Use → sProp 𝕄
  | .inl x => inB m x.1 c (quarter x.2)
  | .inr (.inl x) => outB m x.1 c (across c (chip x.2))
  | .inr (.inr (.inl x)) => outB m x.1 c (across c (peer x.2))
  | .inr (.inr (.inr (.inl x))) => outB m x.1 c (across c (far x.2))
  | .inr (.inr (.inr (.inr a))) => iprop(outB m a c c ∗ inB m a c half)

def amtUse : Use → ℕ
  | .inl x => amtOf x.1
  | .inr (.inl x) => amtOf x.1
  | .inr (.inr (.inl x)) => amtOf x.1
  | .inr (.inr (.inr (.inl x))) => amtOf x.1
  | .inr (.inr (.inr (.inr a))) => amtOf a

def plan : Plan nD τ sig (Elt F) where
  amt _ i := amtUse (useOf i)
  pos _ i := by
    rcases useOf i with x | x | x | x | a
    all_goals exact amt_pos _
  pay c i := payOf m c (useOf i)
  sto c i := by
    rcases useOf i with x | x | x | x | a
    · show BI.Storable _ (inB m _ _ _); unfold inB; infer_instance
    · show BI.Storable _ (outB m _ _ _); unfold outB; infer_instance
    · show BI.Storable _ (outB m _ _ _); unfold outB; infer_instance
    · show BI.Storable _ (outB m _ _ _); unfold outB; infer_instance
    · show BI.Storable _ iprop(outB m _ _ _ ∗ inB m _ _ _); unfold inB outB; infer_instance

theorem amt_sem (c : Dev nD) (u : Use) : (plan m).amt c (semOf u) = amtUse u := congrArg amtUse (useOf_semOf u)
theorem pay_sem (c : Dev nD) (u : Use) : (plan m).pay c (semOf u) = payOf m c u := congrArg (payOf m c) (useOf_semOf u)

section table
variable (c : Dev nD) (a : Fin 9)
theorem amt_send (r : Fin 4) : (plan m).amt c (sendSem a r) = amtOf a := amt_sem m c (.inl (a, r))
theorem amt_pass (j : Fin 3) : (plan m).amt c (passSem a j) = amtOf a := amt_sem m c (.inr (.inl (a, j)))
theorem amt_recv (r : Fin 4) : (plan m).amt c (recvSem a r) = amtOf a := amt_sem m c (.inr (.inr (.inl (a, r))))
theorem amt_far (j : Fin 3) : (plan m).amt c (farSem a j) = amtOf a := amt_sem m c (.inr (.inr (.inr (.inl (a, j)))))
theorem amt_loc : (plan m).amt c (locSem a) = amtOf a := amt_sem m c (.inr (.inr (.inr (.inr a))))
theorem pay_send (r : Fin 4) : (plan m).pay c (sendSem a r) = inB m a c (quarter r) := pay_sem m c (.inl (a, r))
theorem pay_pass (j : Fin 3) : (plan m).pay c (passSem a j) = outB m a c (across c (chip j)) := pay_sem m c (.inr (.inl (a, j)))
theorem pay_recv (r : Fin 4) : (plan m).pay c (recvSem a r) = outB m a c (across c (peer r)) := pay_sem m c (.inr (.inr (.inl (a, r))))
theorem pay_far (j : Fin 3) : (plan m).pay c (farSem a j) = outB m a c (across c (far j)) := pay_sem m c (.inr (.inr (.inr (.inl (a, j)))))
theorem pay_loc : (plan m).pay c (locSem a) = iprop(outB m a c c ∗ inB m a c half) := pay_sem m c (.inr (.inr (.inr (.inr a))))
end table

/-! ### The same at the printed addresses -/

theorem rawB_slot (a : Fin 9) (q : Fin 8) (c d : Dev nD) :
    (((arrs a).slot q d).view.loc (c.tc : Thread nD τ) ↦[((arrs a).slot q d).view.set]{fullShare} m ((arrs a).dst.view.loc (c.tc : Thread nD τ)) : sProp 𝕄)
      = rawB m a c (across d q) :=
  pts_blkAt (t := (c.tc : Thread nD τ)) (arrs a).sq (arrs a).dst (off_eq a q d) _ _

theorem outB_slot (a : Fin 9) (q : Fin 8) (c d : Dev nD) :
    (((arrs a).slot q d).view.loc (c.tc : Thread nD τ) ↦[((arrs a).slot q d).view.set]{fullShare} outAt m a c : sProp 𝕄)
      = outB m a c (across d q) :=
  pts_blkAt (t := (c.tc : Thread nD τ)) (arrs a).sq (arrs a).dst (off_eq a q d) _ _

/-- A slot written with the shard it is for. -/
theorem outB_written (a : Fin 9) (q : Fin 8) (c d : Dev nD) (v : Shape.Idx ⟨2, ![(arrs a).n, (arrs a).k]⟩ → Elt F .bf16) (hv : v = inAt m a (across d q)) :
    (((arrs a).slot q d).view.loc (c.tc : Thread nD τ) ↦[((arrs a).slot q d).view.set]{fullShare}
        ((arrs a).slot q d).view.write (Elt F) (m ((arrs a).dst.view.loc (c.tc : Thread nD τ))) v Finset.univ : sProp 𝕄)
      = outB m a c (across d q) := by
  refine (pts_of_read (t := (c.tc : Thread nD τ)) (v := ((arrs a).slot q d).view) (g := outAt m a c) ?_).trans (outB_slot m a q c d)
  exact (View.read_write_univ _ _).trans (hv.trans (slot_read m a c d q).symm)

end Cert.Spread

end
-- ==== Proof.Stages.lean ====
module

public import proofs.«01_k».proof.Proof.Net
public import proofs.«01_k».proof.Proof.Each

@[expose] public section

/-! # A body in stages

How the stages of a kernel's body compose: one after another, and waits once nothing is owed. -/

noncomputable section

namespace Cert.Net

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {Λ : Labels}

local notation "𝕄" => MT nD τ sig Unit Val ℕ (UR sig nD τ) ℕ

variable {defs : Defs nD τ sig Val Λ} (𝒱 : Variants) (c : Dev nD)

/-- One stage after another, the second taking `R` as well. -/
theorem wp_seq {p q : Prog (TpuEff nD τ sig Val Λ .tc) PUnit} {A B C K R : sProp 𝕄} [BI.Persistent K]
    (hp : iprop(K ∗ A) ⊢ wp frame (wpE defs 𝒱 (c.tc : Thread nD τ) none) Set.univ p fun _ => B)
    (hq : iprop(K ∗ B ∗ R) ⊢ wp frame (wpE defs 𝒱 (c.tc : Thread nD τ) none) Set.univ q fun _ => C) :
    iprop(K ∗ A ∗ R) ⊢ wp frame (wpE defs 𝒱 (c.tc : Thread nD τ) none) Set.univ (p.bind fun _ => q) fun _ => C := by
  show _ ⊢ wp frame (wpE defs 𝒱 (c.tc : Thread nD τ) none) Set.univ (p >>= fun _ => q) _
  rw [wp_bind]
  refine BI.BIBase.Entails.trans (Q := iprop((K ∗ R) ∗ (K ∗ A))) ?_ (BI.BIBase.Entails.trans (BI.sep_mono (BI.Entails.refl _) hp)
    ((wp_frame_l frame (wpE defs 𝒱 (c.tc : Thread nD τ) none) Set.univ).trans (wp_mono _ _ _ fun _ => BI.BIBase.Entails.trans ?_ hq)))
  · iintro ⟨#HK, HA, HR⟩
    isplitl [HR]
    · isplitr; · iexact HK
      iexact HR
    · isplitr; · iexact HK
      iexact HA
  · iintro ⟨⟨HK, HR⟩, HB⟩
    isplitl [HK]; · iexact HK
    isplitl [HB] <;> iassumption

/-- What a program leaves, with something left alone beside it. -/
theorem wp_beside {p : Prog (TpuEff nD τ sig Val Λ .tc) PUnit} {A B R : sProp 𝕄}
    (hp : A ⊢ wp frame (wpE defs 𝒱 (c.tc : Thread nD τ) none) Set.univ p fun _ => B) :
    iprop(R ∗ A) ⊢ wp frame (wpE defs 𝒱 (c.tc : Thread nD τ) none) Set.univ p fun _ => iprop(R ∗ B) :=
  BI.BIBase.Entails.trans (BI.sep_mono (BI.Entails.refl _) hp) (wp_frame_l frame (wpE defs 𝒱 (c.tc : Thread nD τ) none) Set.univ)

/-- Two stages that share only the running resource. -/
theorem wp_then {p q : Prog (TpuEff nD τ sig Val Λ .tc) PUnit} {A A' B B' K T T' T'' : sProp 𝕄} [BI.Persistent K]
    (hp : iprop(K ∗ A ∗ T) ⊢ wp frame (wpE defs 𝒱 (c.tc : Thread nD τ) none) Set.univ p fun _ => iprop(B ∗ T'))
    (hq : iprop(K ∗ A' ∗ T') ⊢ wp frame (wpE defs 𝒱 (c.tc : Thread nD τ) none) Set.univ q fun _ => iprop(B' ∗ T'')) :
    iprop(K ∗ (A ∗ A') ∗ T) ⊢ wp frame (wpE defs 𝒱 (c.tc : Thread nD τ) none) Set.univ (p.bind fun _ => q) fun _ => iprop((B ∗ B') ∗ T'') := by
  refine BI.BIBase.Entails.trans (Q := iprop(K ∗ (A ∗ T) ∗ A')) ?_ (wp_seq 𝒱 c (K := K) (R := A') hp
    (BI.BIBase.Entails.trans (Q := iprop(B ∗ (K ∗ A' ∗ T'))) ?_ ((wp_beside 𝒱 c hq).trans (wp_mono _ _ _ fun _ => ?_))))
  · iintro ⟨HK, ⟨HA, HA'⟩, HT⟩
    isplitl [HK]; · iexact HK
    isplitl [HA HT]
    · isplitl [HA] <;> iassumption
    · iexact HA'
  · iintro ⟨HK, ⟨HB, HT⟩, HA⟩
    isplitl [HB]; · iexact HB
    isplitl [HK]; · iexact HK
    isplitl [HA] <;> iassumption
  · iintro ⟨HB, HB', HT⟩
    isplitl [HB HB']
    · isplitl [HB] <;> iassumption
    · iexact HT

/-- A program replaced by an equal one. -/
theorem wp_of_eq {p p' : Prog (TpuEff nD τ sig Val Λ .tc) PUnit} {X : sProp 𝕄} {Y : PUnit → sProp 𝕄}
    (h : p = p') (h' : X ⊢ wp frame (wpE defs 𝒱 (c.tc : Thread nD τ) none) Set.univ p' Y) :
    X ⊢ wp frame (wpE defs 𝒱 (c.tc : Thread nD τ) none) Set.univ p Y := by subst h; exact h'

/-- A program that first asks which device it is on. -/
theorem wp_idThen {k : Dev nD → Prog (TpuEff nD τ sig Val Λ .tc) PUnit} {X : sProp 𝕄} {Y : PUnit → sProp 𝕄}
    (h : X ⊢ wp frame (wpE defs 𝒱 (c.tc : Thread nD τ) none) Set.univ (k c) Y) :
    X ⊢ wp frame (wpE defs 𝒱 (c.tc : Thread nD τ) none) Set.univ (.op .deviceId k) Y := by
  rw [wp_deviceId]; exact h

variable (P : Plan nD τ sig Val) (κ : GSem nD τ sig → ℕ)

/-- What a wait for `N` on semaphore `i` takes. -/
def waiting (N : ℕ) (i : DmaSem sig) : sProp 𝕄 := iprop(cred (tallyAt (cell c i) () N) ∗ atPos ER (cell c i) 0 ∅ 0)

/-- A wait, once nothing is owed. -/
theorem Plan.wp_last {sp sp' : Space} {s : Shape} {e : EltTy} {src : Memref sig .tc sp s e} {dst : Memref sig .tc sp' s e} {i : DmaSem sig}
    {hsrc : src.view.WordExact} {hdst : dst.view.WordExact} {N : ℕ} (hN : dst.view.dmaCredit = N) (hN' : P.amt c i = N)
    {R : sProp 𝕄} (hR : P.pay c i = R) :
    iprop(P.known κ ∗ waiting c N i ∗ promises c 0)
      ⊢ wp frame (wpE defs 𝒱 (c.tc : Thread nD τ) none) Set.univ (.op (.waitDma2 i src dst hsrc hdst) .ret)
          fun _ => iprop((semVal (cell c i) 0 ∗ R) ∗ promises c 0) := by
  subst hN' hR
  unfold waiting
  iintro ⟨#HK, ⟨Hc, Hat⟩, HO⟩
  iapply (P.wp_wait (defs := defs) 𝒱 c κ (k := .ret) hN 0) $$ [Hc Hat HO]
  · isplitr; · iexact HK
    isplitl [Hc]; · iexact Hc
    isplitl [HO]; · iexact HO
    isplitr; · iapply (Entails.of_eq (MayWait_zero (c.tc : Thread nD τ) (.dma i) ()).symm); iempintro
    iexact Hat
  iintro ⟨HO, Hs, Hp⟩
  rw [wp_ret]
  imodintro
  isplitl [Hs Hp]
  · isplitl [Hs] <;> iassumption
  · iexact HO

/-- A repetition with nothing owed. -/
theorem Plan.wp_each {n : ℕ} (p : Fin n → Prog (TpuEff nD τ sig Val Λ .tc) PUnit) (R S : Fin n → sProp 𝕄)
    (h : ∀ i, iprop(P.known κ ∗ R i ∗ promises c 0)
      ⊢ wp frame (wpE defs 𝒱 (c.tc : Thread nD τ) none) Set.univ (p i) fun _ => iprop(S i ∗ promises c 0)) :
    iprop(P.known κ ∗ bigSep Finset.univ R ∗ promises c 0)
      ⊢ wp frame (wpE defs 𝒱 (c.tc : Thread nD τ) none) Set.univ (runFin n p) fun _ => iprop(bigSep Finset.univ S ∗ promises c 0) :=
  wp_runFin (A := ℕ) (defs := defs) 𝒱 c (P.known κ) (fun _ => promises c 0) p R S (fun _ => 0) (fun i _ => h i) 0

end Cert.Net

end
-- ==== Proof.SpreadPhases.lean ====
module

public import proofs.«01_k».proof.Proof.SpreadTable
public import proofs.«01_k».proof.Proof.Stages
public import proofs.«01_k».proof.Proof.Start

@[expose] public section

/-! # The gather, operation by operation and stage by stage

In the second stage a device waits while it still owes what it will pass on, so those waits need levels: what is passed
on is owed one level above what is waited for. -/

noncomputable section

namespace Cert.Spread

open Cert.GatherIdeal Cert.GatherIdeal.Gen Cert.Net
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) {defs : Defs nD τ sig (Elt F) Λ₀} (𝒱 : Variants) (κ : GSem nD τ sig → ℕ) (c : Dev nD)

/-- What device `c` owes its peers for array `a`, send `r`, -/
def dueOf (c : Dev nD) (a : Fin 9) (r : Fin 4) : CellTallies nD τ sig Unit :=
  tallyAt (cell (across c (peer r)) (recvSem a r)) () (amtOf a)

/-- and what it owes its sibling. -/
def passDue (c : Dev nD) (a : Fin 9) (j : Fin 3) : CellTallies nD τ sig Unit :=
  tallyAt (cell (across c 1) (farSem a j)) () (amtOf a)

/-! ### The levels -/

def lvUse : Use → ℕ
  | .inr (.inr (.inr (.inl _))) => 1
  | _ => 0

def lv (i : DmaSem sig) : ℕ := lvUse (useOf i)

theorem lv_recv (a : Fin 9) (r : Fin 4) : lv (recvSem a r) = 0 := congrArg lvUse (useOf_semOf (.inr (.inr (.inl (a, r)))))
theorem lv_far (a : Fin 9) (j : Fin 3) : lv (farSem a j) = 1 := congrArg lvUse (useOf_semOf (.inr (.inr (.inr (.inl (a, j))))))

/-- Only arrivals by the sibling are owed. -/
def Late (O : CellTallies nD τ sig Unit) : Prop := ∀ (g : GSem nD τ sig) (u : Unit), 0 < O g u → g.1.2 = .tc ∧ 0 < lvOf lv g u

theorem late_zero : Late 0 := fun g u h => absurd h (Nat.lt_irrefl 0)

theorem late_add {O D : CellTallies nD τ sig Unit} (h : Late O) (h' : Late D) : Late (O + D) := fun g u hg => by
  have e : (O + D) g u = O g u + D g u := rfl
  rw [e] at hg
  rcases Nat.eq_zero_or_pos (O g u) with h0 | h0
  · exact h' g u (by omega)
  · exact h g u h0

theorem late_left {O D : CellTallies nD τ sig Unit} (h : Late (O + D)) : Late O := fun g u hg =>
  h g u (Nat.lt_of_lt_of_le hg (Nat.le_add_right (O g u) (D g u)))

theorem late_pass (a : Fin 9) (j : Fin 3) : Late (passDue c a j) := fun g u hg => by
  unfold passDue at hg
  rw [tallyAt_apply] at hg
  by_cases h : g = cell (across c 1) (farSem a j) ∧ u = ()
  · rw [h.1]
    refine ⟨rfl, ?_⟩
    show 0 < lv (farSem a j)
    rw [lv_far]; decide
  · rw [if_neg h] at hg; exact absurd hg (Nat.lt_irrefl 0)

theorem late_all : Late (∑ a, ∑ j, passDue c a j) :=
  Finset.sum_induction _ Late (fun _ _ => late_add) late_zero fun a _ =>
    Finset.sum_induction _ Late (fun _ _ => late_add) late_zero fun j _ => late_pass c a j

theorem mayWait_recv (a : Fin 9) (r : Fin 4) {O : CellTallies nD τ sig Unit} (h : Late O) :
    (levs lv : sProp 𝕄) ⊢ MayWait (c.tc : Thread nD τ) (.dma (recvSem a r)) () O :=
  MayOwe.of_cut (L := tcL) (lev := lvOf lv) 0
    (fun p hp => by rw [Finset.mem_singleton.mp hp]; exact Finset.mem_singleton_self ())
    (fun g u hg => by unfold tcL; rw [if_pos (h g u hg).1]; exact Finset.mem_singleton_self ())
    (fun p hp => by rw [Finset.mem_singleton.mp hp]; exact Nat.le_of_eq (lv_recv a r))
    (fun g u hg => (h g u hg).2)

/-- Device `c`'s promises, only arrivals by the sibling among them. -/
def latePromises (O : CellTallies nD τ sig Unit) : sProp 𝕄 := iprop(⌜Late O⌝ ∗ promises c O)

/-! ### The operations -/

section ops
variable (a : Fin 9) {k : PUnit → Prog (TpuEff nD τ sig (Elt F) Λ₀ .tc) PUnit}

/-- What a send of array `a` takes, beside the promise, -/
def needSend (r : Fin 4) : sProp 𝕄 :=
  iprop(inB m a c (quarter r) ∗ rawB m a (across c (peer r)) c ∗ dutyTok ER (cell c (sendSem a r)) 0 ()
    ∗ dutyTok ER (cell (across c (peer r)) (recvSem a r)) 0 ())

/-- what a local copy takes, -/
def needLocal : sProp 𝕄 := iprop(inB m a c half ∗ rawB m a c c ∗ dutyTok ER (cell c (locSem a)) 0 ())

/-- and what a passing on takes. -/
def needPass (j : Fin 3) : sProp 𝕄 :=
  iprop(rawB m a (across c 1) (across c (chip j)) ∗ dutyTok ER (cell c (passSem a j)) 0 () ∗ dutyTok ER (cell (across c 1) (farSem a j)) 0 ())

theorem wp_local (O : CellTallies nD τ sig Unit) :
    iprop((plan m).known κ ∗ needLocal m c a ∗ promises c O)
      ⊢ wp frame (wpE defs 𝒱 (c.tc : Thread nD τ) none) Set.univ (.op (opLocal c a) .ret)
          fun _ => iprop(cred (tallyAt (cell c (locSem a)) () (amtOf a)) ∗ promises c O) := by
  have hd := rawB_slot m a 0 c c
  have ho := outB_written m a 0 c c (inAt m a c) (by rw [across_zero])
  rw [across_zero] at hd ho
  have h := (plan m).wp_copy (defs := defs) 𝒱 c κ (i := locSem a) (src := (arrs a).src) (dst := (arrs a).slot 0 c)
    (hsrc := (arrs a).hsrc.wordExact) (hdst := (arrs a).exact 0 c) (hsem := ⟨Or.inl rfl, trivial⟩) (k := .ret)
    (Q := fun _ => iprop(cred (tallyAt (cell c (locSem a)) () (amtOf a)) ∗ promises c O))
    (q := half) (fs := m ((arrs a).src.view.loc (c.tc : Thread nD τ))) (fd := m ((arrs a).dst.view.loc (c.tc : Thread nD τ)))
    ((credit_slot a 0 c).trans (amt_loc m c a).symm) (by rw [pay_loc]; exact BI.sep_mono (Entails.of_eq ho) (BI.Entails.refl _))
  rw [amt_loc] at h
  unfold needLocal inB
  iintro ⟨HK, ⟨Hi, Hr, Ht⟩, HO⟩
  iapply h $$ [HK Hi Hr Ht]
  · isplitl [HK]; · iexact HK
    isplitl [Hi]; · iexact Hi
    isplitl [Hr]; · iapply (Entails.of_eq hd.symm); iexact Hr
    iexact Ht
  iintro Hc
  rw [wp_ret]
  imodintro
  isplitl [Hc] <;> iassumption

theorem wp_sendTo (r : Fin 4) (O : CellTallies nD τ sig Unit) :
    iprop((plan m).known κ ∗ needSend m c a r ∗ promises c (O + dueOf c a r))
      ⊢ wp frame (wpE defs 𝒱 (c.tc : Thread nD τ) none) Set.univ (.op (opSend c a r) .ret)
          fun _ => iprop(cred (tallyAt (cell c (sendSem a r)) () (amtOf a)) ∗ promises c O) := by
  have hd := rawB_slot m a 0 (across c (peer r)) c
  have ho := outB_written m a 0 (across c (peer r)) c (inAt m a c) (by rw [across_zero])
  rw [across_zero] at hd ho
  have h := (plan m).wp_send (defs := defs) 𝒱 c κ (n := dev a r c) (c' := across c (peer r)) (dev_eq a r c) (i := sendSem a r) (j := recvSem a r)
    (src := (arrs a).src) (dst := (arrs a).slot 0 c) (hsc := rfl)
    (hsrc := (arrs a).hsrc.wordExact) (hdst := (arrs a).exact 0 c) (hsem := ⟨⟨rfl, Or.inl rfl⟩, trivial⟩) (k := .ret)
    (Q := fun _ => iprop(cred (tallyAt (cell c (sendSem a r)) () (amtOf a)) ∗ promises c O))
    (q := quarter r) (fs := m ((arrs a).src.view.loc (c.tc : Thread nD τ))) (fd := m ((arrs a).dst.view.loc ((across c (peer r)).tc : Thread nD τ)))
    (amtOf a) (credit_slot a 0 c) (amt_send m c a r) (amt_recv m _ a r) O (by rw [pay_send]; exact BI.Entails.refl _)
    (by rw [pay_recv, across_across]; exact Entails.of_eq ho)
  unfold needSend inB
  iintro ⟨HK, ⟨Hi, Hr, Ht, Ht'⟩, HO⟩
  iapply h $$ [HK Hi Hr HO Ht Ht']
  · isplitl [HK]; · iexact HK
    isplitl [Hi]; · iexact Hi
    isplitl [Hr]; · iapply (Entails.of_eq hd.symm); iexact Hr
    isplitl [HO]; · iexact HO
    isplitl [Ht] <;> iassumption
  iintro Hc
  rw [wp_ret]
  imodintro
  iexact Hc

/-- A shard from another chip arrives, and is passed on. -/
theorem wp_chip (j : Fin 3) (O : CellTallies nD τ sig Unit) :
    iprop(((plan m).known κ ∗ levs lv) ∗ (waiting (Val := Elt F) c (amtOf a) (recvSem a j.succ) ∗ needPass m c a j) ∗ latePromises c (O + passDue c a j))
      ⊢ wp frame (wpE defs 𝒱 (c.tc : Thread nD τ) none) Set.univ (.op (opChip c a j) fun _ => .op (opPass c a j) .ret)
          fun _ => iprop((semVal (cell c (recvSem a j.succ)) 0 ∗ cred (tallyAt (cell c (passSem a j)) () (amtOf a))) ∗ latePromises c O) := by
  have hs := outB_slot m a (chip j) c c
  have hd := rawB_slot m a (chip j) (across c 1) c
  have ho := outB_written m a (chip j) (across c 1) c (((arrs a).slot (chip j) c).view.read (Elt F) (outAt m a c)) (slot_read m a c c (chip j))
  have hw := (plan m).wp_wait (defs := defs) 𝒱 c κ (i := recvSem a j.succ) (src := (arrs a).slot (chip j) c) (dst := (arrs a).slot (chip j) c)
    (hsrc := (arrs a).exact (chip j) c) (hdst := (arrs a).exact (chip j) c) (k := fun _ => .op (opPass c a j) .ret)
    (Q := fun _ => iprop((semVal (cell c (recvSem a j.succ)) 0 ∗ cred (tallyAt (cell c (passSem a j)) () (amtOf a))) ∗ latePromises c O))
    ((credit_slot a (chip j) c).trans (amt_recv m c a j.succ).symm) (O + passDue c a j)
  rw [amt_recv, pay_recv, peer_succ] at hw
  have h := (plan m).wp_send (defs := defs) 𝒱 c κ (n := sib a j c) (c' := across c 1) (sib_eq a j c) (i := passSem a j) (j := farSem a j)
    (src := (arrs a).slot (chip j) c) (dst := (arrs a).slot (chip j) c) (hsc := rfl)
    (hsrc := (arrs a).exact (chip j) c) (hdst := (arrs a).exact (chip j) c) (hsem := ⟨⟨rfl, Or.inl rfl⟩, trivial⟩) (k := .ret)
    (Q := fun _ => iprop((semVal (cell c (recvSem a j.succ)) 0 ∗ cred (tallyAt (cell c (passSem a j)) () (amtOf a))) ∗ latePromises c O))
    (q := fullShare) (fs := outAt m a c) (fd := m ((arrs a).dst.view.loc ((across c 1).tc : Thread nD τ)))
    (amtOf a) (credit_slot a (chip j) c) (amt_pass m c a j) (amt_far m _ a j) O (by rw [pay_pass]; exact Entails.of_eq hs)
    (by rw [pay_far, across_far]; exact Entails.of_eq ho)
  unfold latePromises at hw h
  unfold needPass waiting latePromises
  iintro ⟨⟨#HK, #HL⟩, ⟨⟨Hc, Hat⟩, Hr, Ht, Ht'⟩, %hl, HO⟩
  iapply hw $$ [Hc Hat HO]
  · isplitr; · iexact HK
    isplitl [Hc]; · iexact Hc
    isplitl [HO]; · iexact HO
    isplitr; · iapply (mayWait_recv c a j.succ hl); iexact HL
    iexact Hat
  iintro ⟨HO, Hz, Ho⟩
  iapply h $$ [Hr HO Ho Ht Ht']
  · isplitr; · iexact HK
    isplitl [Ho]; · iapply (Entails.of_eq hs.symm); iexact Ho
    isplitl [Hr]; · iapply (Entails.of_eq hd.symm); iexact Hr
    isplitl [HO]; · iexact HO
    isplitl [Ht] <;> iassumption
  iintro ⟨Hc, HO⟩
  rw [wp_ret]
  imodintro
  isplitl [Hz Hc]
  · isplitl [Hz] <;> iassumption
  · isplitr; · ipureintro; exact late_left hl
    iexact HO

end ops

attribute [local irreducible] runFin

/-! ### The stages, one array -/

/-- What the first stage takes for array `a`, -/
def need (a : Fin 9) : sProp 𝕄 := iprop(needLocal m c a ∗ bigSep Finset.univ fun r => needSend m c a r)

/-- and what it gives at once. -/
def begun (a : Fin 9) : sProp 𝕄 :=
  iprop(cred (tallyAt (cell c (locSem a)) () (amtOf a)) ∗ bigSep Finset.univ fun r : Fin 4 => cred (tallyAt (cell c (sendSem a r)) () (amtOf a)))

theorem start_one (a : Fin 9) (O : CellTallies nD τ sig Unit) :
    iprop((plan m).known κ ∗ need m c a ∗ promises c (O + ∑ r, dueOf c a r))
      ⊢ wp frame (wpE defs 𝒱 (c.tc : Thread nD τ) none) Set.univ (startOf c a) fun _ => iprop(begun (F := F) c a ∗ promises c O) :=
  wp_then 𝒱 c (wp_local m 𝒱 κ c a _)
    (wp_runFin (defs := defs) 𝒱 c ((plan m).known κ) (promises c) (fun r : Fin 4 => .op (opSend c a r) .ret) (needSend m c a)
      (fun r => cred (tallyAt (cell c (sendSem a r)) () (amtOf a))) (dueOf c a) (wp_sendTo m 𝒱 κ c a) O)

theorem pass_one (a : Fin 9) (O : CellTallies nD τ sig Unit) :
    iprop(((plan m).known κ ∗ levs lv) ∗ (bigSep Finset.univ fun j : Fin 3 => iprop(waiting (Val := Elt F) c (amtOf a) (recvSem a j.succ) ∗ needPass m c a j)) ∗ latePromises c (O + ∑ j, passDue c a j))
      ⊢ wp frame (wpE defs 𝒱 (c.tc : Thread nD τ) none) Set.univ (passOf c a)
          fun _ => iprop((bigSep Finset.univ fun j : Fin 3 => iprop(semVal (cell c (recvSem a j.succ)) 0 ∗ cred (tallyAt (cell c (passSem a j)) () (amtOf a)))) ∗ latePromises c O) :=
  wp_runFin (defs := defs) 𝒱 c iprop((plan m).known κ ∗ levs lv) (latePromises c) (fun j : Fin 3 => .op (opChip c a j) fun _ => .op (opPass c a j) .ret)
    _ _ (passDue c a) (wp_chip m 𝒱 κ c a) O

/-- What the last stage takes for array `a`, -/
def pending (a : Fin 9) : sProp 𝕄 :=
  iprop(waiting c (amtOf a) (recvSem a 0) ∗ (bigSep Finset.univ fun j => waiting c (amtOf a) (farSem a j))
    ∗ (bigSep Finset.univ fun r => waiting c (amtOf a) (sendSem a r)) ∗ (bigSep Finset.univ fun j => waiting c (amtOf a) (passSem a j))
    ∗ waiting c (amtOf a) (locSem a))

/-- and what it gives. -/
def done (a : Fin 9) : sProp 𝕄 :=
  iprop((semVal (cell c (recvSem a 0)) 0 ∗ outB m a c (across c (peer 0)))
    ∗ (bigSep Finset.univ fun j => iprop(semVal (cell c (farSem a j)) 0 ∗ outB m a c (across c (far j))))
    ∗ (bigSep Finset.univ fun r => iprop(semVal (cell c (sendSem a r)) 0 ∗ inB m a c (quarter r)))
    ∗ (bigSep Finset.univ fun j => iprop(semVal (cell c (passSem a j)) 0 ∗ outB m a c (across c (chip j))))
    ∗ (semVal (cell c (locSem a)) 0 ∗ outB m a c c ∗ inB m a c half))

theorem last_sib (a : Fin 9) :
    iprop((plan m).known κ ∗ waiting (Val := Elt F) c (amtOf a) (recvSem a 0) ∗ promises c 0)
      ⊢ wp frame (wpE defs 𝒱 (c.tc : Thread nD τ) none) Set.univ (.op (opSib c a) .ret) fun _ => iprop((semVal (cell c (recvSem a 0)) 0 ∗ outB m a c (across c (peer 0))) ∗ promises c 0) := by
  unfold opSib
  exact (plan m).wp_last 𝒱 c κ (credit_slot a 1 c) (amt_recv m c a 0) (pay_recv m c a 0)

theorem last_far (a : Fin 9) (j : Fin 3) :
    iprop((plan m).known κ ∗ waiting (Val := Elt F) c (amtOf a) (farSem a j) ∗ promises c 0)
      ⊢ wp frame (wpE defs 𝒱 (c.tc : Thread nD τ) none) Set.univ (.op (opFar c a j) .ret) fun _ => iprop((semVal (cell c (farSem a j)) 0 ∗ outB m a c (across c (far j))) ∗ promises c 0) := by
  unfold opFar
  exact (plan m).wp_last 𝒱 c κ (credit_slot a (far j) c) (amt_far m c a j) (pay_far m c a j)

theorem last_sent (a : Fin 9) (r : Fin 4) :
    iprop((plan m).known κ ∗ waiting (Val := Elt F) c (amtOf a) (sendSem a r) ∗ promises c 0)
      ⊢ wp frame (wpE defs 𝒱 (c.tc : Thread nD τ) none) Set.univ (.op (opSent c a r) .ret) fun _ => iprop((semVal (cell c (sendSem a r)) 0 ∗ inB m a c (quarter r)) ∗ promises c 0) := by
  unfold opSent
  exact (plan m).wp_last 𝒱 c κ (credit_shard a) (amt_send m c a r) (pay_send m c a r)

theorem last_passed (a : Fin 9) (j : Fin 3) :
    iprop((plan m).known κ ∗ waiting (Val := Elt F) c (amtOf a) (passSem a j) ∗ promises c 0)
      ⊢ wp frame (wpE defs 𝒱 (c.tc : Thread nD τ) none) Set.univ (.op (opPassed c a j) .ret) fun _ => iprop((semVal (cell c (passSem a j)) 0 ∗ outB m a c (across c (chip j))) ∗ promises c 0) := by
  unfold opPassed
  exact (plan m).wp_last 𝒱 c κ (credit_slot a (chip j) c) (amt_pass m c a j) (pay_pass m c a j)

theorem last_mine (a : Fin 9) :
    iprop((plan m).known κ ∗ waiting (Val := Elt F) c (amtOf a) (locSem a) ∗ promises c 0)
      ⊢ wp frame (wpE defs 𝒱 (c.tc : Thread nD τ) none) Set.univ (.op (opMine c a) .ret) fun _ => iprop((semVal (cell c (locSem a)) 0 ∗ outB m a c c ∗ inB m a c half) ∗ promises c 0) := by
  unfold opMine
  exact (plan m).wp_last 𝒱 c κ (credit_slot a 0 c) (amt_loc m c a) (pay_loc m c a)

theorem end_one (a : Fin 9) :
    iprop((plan m).known κ ∗ pending (F := F) c a ∗ promises c 0)
      ⊢ wp frame (wpE defs 𝒱 (c.tc : Thread nD τ) none) Set.univ (endOf c a) fun _ => iprop(done m c a ∗ promises c 0) :=
  wp_then 𝒱 c (last_sib m 𝒱 κ c a) <|
  wp_then 𝒱 c ((plan m).wp_each 𝒱 c κ (fun j : Fin 3 => .op (opFar c a j) .ret) _ _ (last_far m 𝒱 κ c a)) <|
  wp_then 𝒱 c ((plan m).wp_each 𝒱 c κ (fun r : Fin 4 => .op (opSent c a r) .ret) _ _ (last_sent m 𝒱 κ c a)) <|
  wp_then 𝒱 c ((plan m).wp_each 𝒱 c κ (fun j : Fin 3 => .op (opPassed c a j) .ret) _ _ (last_passed m 𝒱 κ c a)) <|
  last_mine m 𝒱 κ c a

/-! ### The body -/

/-- What the sends of device `c` owe. -/
def due (c : Dev nD) : CellTallies nD τ sig Unit := (∑ a, ∑ j, passDue c a j) + ∑ a, ∑ r, dueOf c a r

/-- What the body of device `c` takes beside what it owes, -/
def before : sProp 𝕄 :=
  iprop((plan m).known κ ∗ levs lv ∗ (bigSep Finset.univ fun a => need m c a) ∗ (bigSep Finset.univ fun a => bigSep Finset.univ fun j => needPass m c a j)
    ∗ (bigSep Finset.univ fun a => bigSep Finset.univ fun r => cred (tallyAt (cell c (recvSem a r)) () (amtOf a)))
    ∗ (bigSep Finset.univ fun a => bigSep Finset.univ fun j => cred (tallyAt (cell c (farSem a j)) () (amtOf a)))
    ∗ (bigSep Finset.univ fun i : DmaSem sig => atPos ER (cell c i) 0 ∅ 0))

/-- and what it leaves. -/
def after : sProp 𝕄 :=
  iprop((bigSep Finset.univ fun a => done m c a) ∗ (bigSep Finset.univ fun a => bigSep Finset.univ fun j : Fin 3 => semVal (cell c (recvSem a j.succ)) 0))

theorem body_wp :
    iprop(before m κ c ∗ promises c (due c))
      ⊢ wp frame (wpE defs 𝒱 (c.tc : Thread nD τ) none) Set.univ (body c) fun _ => iprop(after m c ∗ promises c 0) := by
  have h3 := (plan m).wp_each (defs := defs) 𝒱 c κ (endOf c) (pending c) (done m c) (end_one m 𝒱 κ c)
  have h2 := wp_runFin (defs := defs) 𝒱 c iprop((plan m).known κ ∗ levs lv) (latePromises c) (passOf c) _ _ (fun a => ∑ j, passDue c a j) (pass_one m 𝒱 κ c) 0
  have h1 := wp_runFin (defs := defs) 𝒱 c ((plan m).known κ) (promises c) (startOf c) (need m c) (begun c) (fun a => ∑ r, dueOf c a r) (start_one m 𝒱 κ c)
    (∑ a, ∑ j, passDue c a j)
  rw [zero_add] at h2
  have h1' : iprop(((plan m).known κ ∗ levs lv) ∗ (bigSep Finset.univ fun a => need m c a) ∗ promises c ((∑ a, ∑ j, passDue c a j) + ∑ a, ∑ r, dueOf c a r))
      ⊢ wp frame (wpE defs 𝒱 (c.tc : Thread nD τ) none) Set.univ (runFin 9 (startOf c))
        fun _ => iprop((bigSep Finset.univ fun a => begun (F := F) c a) ∗ promises c (∑ a, ∑ j, passDue c a j)) := by
    refine BI.BIBase.Entails.trans ?_ h1
    iintro ⟨⟨HK, -⟩, HN, HO⟩
    isplitl [HK]; · iexact HK
    isplitl [HN] <;> iassumption
  have h23 : iprop(((plan m).known κ ∗ levs lv)
        ∗ ((bigSep Finset.univ fun a => bigSep Finset.univ fun j : Fin 3 => iprop(waiting (Val := Elt F) c (amtOf a) (recvSem a j.succ) ∗ needPass m c a j)) ∗ latePromises c (∑ a, ∑ j, passDue c a j))
        ∗ (bigSep Finset.univ fun a => iprop(begun (F := F) c a ∗ waiting c (amtOf a) (recvSem a 0) ∗ (bigSep Finset.univ fun j => waiting c (amtOf a) (farSem a j))
          ∗ (bigSep Finset.univ fun r => atPos ER (cell c (sendSem a r)) 0 ∅ 0) ∗ (bigSep Finset.univ fun j => atPos ER (cell c (passSem a j)) 0 ∅ 0)
          ∗ atPos ER (cell c (locSem a)) 0 ∅ 0)))
      ⊢ wp frame (wpE defs 𝒱 (c.tc : Thread nD τ) none) Set.univ ((runFin 9 (passOf c)).bind fun _ => runFin 9 (endOf c))
        fun _ => iprop(after m c ∗ promises c 0) := by
    refine wp_seq 𝒱 c h2 ?_
    refine BI.BIBase.Entails.trans (Q := iprop((bigSep Finset.univ fun a => bigSep Finset.univ fun j : Fin 3 => semVal (cell c (recvSem a j.succ)) 0)
      ∗ ((plan m).known κ ∗ (bigSep Finset.univ fun a => pending c a) ∗ promises c 0))) ?_ ((wp_beside 𝒱 c h3).trans (wp_mono _ _ _ fun _ => ?_))
    · unfold pending latePromises begun waiting
      simp only [bigSep_sep']
      iintro ⟨⟨HK, -⟩, ⟨⟨Hz, Hp⟩, -, HO⟩, ⟨Hl, Hs⟩, ⟨H1, H1'⟩, ⟨H2, H2'⟩, H3, H4, H5⟩
      isplitl [Hz]; · iexact Hz
      isplitl [HK]; · iexact HK
      isplitr [HO]
      · isplitl [H1 H1']
        · isplitl [H1] <;> iassumption
        isplitl [H2 H2']
        · isplitl [H2] <;> iassumption
        isplitl [Hs H3]
        · isplitl [Hs] <;> iassumption
        isplitl [Hp H4]
        · isplitl [Hp] <;> iassumption
        isplitl [Hl] <;> iassumption
      · iexact HO
    · unfold after
      iintro ⟨Hz, Hd, HO⟩
      isplitl [Hz Hd]
      · isplitl [Hd] <;> iassumption
      · iexact HO
  unfold body before due
  refine BI.BIBase.Entails.trans ?_ (wp_seq (K := iprop((plan m).known κ ∗ levs lv)) (R := iprop(
    (bigSep Finset.univ fun a => bigSep Finset.univ fun j => needPass m c a j)
    ∗ (bigSep Finset.univ fun a => bigSep Finset.univ fun r => cred (tallyAt (cell c (recvSem a r)) () (amtOf a)))
    ∗ (bigSep Finset.univ fun a => bigSep Finset.univ fun j => cred (tallyAt (cell c (farSem a j)) () (amtOf a)))
    ∗ (bigSep Finset.univ fun i : DmaSem sig => atPos ER (cell c i) 0 ∅ 0))) 𝒱 c h1' (BI.BIBase.Entails.trans ?_ h23))
  · iintro ⟨⟨HK, HL, HN, HR⟩, HO⟩
    isplitl [HK HL]
    · isplitl [HK] <;> iassumption
    isplitl [HN HO]
    · isplitl [HN] <;> iassumption
    · iexact HR
  · have hf : ∀ Φ : Fin 9 → Fin 4 → sProp 𝕄, (bigSep Finset.univ fun a => bigSep Finset.univ fun r => Φ a r)
        = iprop((bigSep Finset.univ fun a => Φ a 0) ∗ (bigSep Finset.univ fun a => bigSep Finset.univ fun j : Fin 3 => Φ a j.succ)) := fun Φ => by
      rw [← bigSep_sep']; exact bigSep_congr fun a _ => bigSep_first (Φ a)
    rw [bigSep_use (F := F), hf (fun a r => cred (tallyAt (cell c (recvSem a r)) () (amtOf a))), hf (fun a r => atPos ER (cell c (recvSem a r)) 0 ∅ 0)]
    unfold latePromises waiting
    simp only [bigSep_sep']
    iintro ⟨HK, ⟨HB, HO⟩, HP, ⟨Hc0, Hc1⟩, Hf, Hs, Hp, ⟨Hr0, Hr1⟩, Hf', Hl⟩
    isplitl [HK]; · iexact HK
    isplitl [HP Hc1 Hr1 HO]
    · isplitl [HP Hc1 Hr1]
      · isplitr [HP]
        · isplitl [Hc1] <;> iassumption
        · iexact HP
      · isplitr; · ipureintro; exact late_all c
        iexact HO
    · isplitl [HB]; · iexact HB
      isplitl [Hc0 Hr0]
      · isplitl [Hc0] <;> iassumption
      isplitl [Hf Hf']
      · isplitl [Hf] <;> iassumption
      isplitl [Hs]; · iexact Hs
      isplitl [Hp]; · iexact Hp
      iexact Hl

end Cert.Spread

end
-- ==== Proof.SpreadRun.lean ====
module

public import proofs.«01_k».proof.Proof.SpreadPhases
public import proofs.«01_k».proof.Proof.Region
public import proofs.«01_k».proof.Proof.Gen.GatherIdeal.Launch

@[expose] public section

/-! # The run of the gather

The launch hands every device its own shards in shares and, of the results, every slot to the device that will write
it; the body's run then gives every device its results whole, at their final contents. -/

noncomputable section

namespace Cert.Spread

open Cert.GatherIdeal Cert.GatherIdeal.Gen Cert.Net
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (launchCred launchCred_add launchCred_sum launchCred_tallyAt)

variable {F : FTy → Type} [FloatOps F]

local notation "𝕄" => MT nD τ sig Unit (Elt F) ℕ (UR sig nD τ) ℕ

/-! ### The buffers -/

/-- The shards and the results. -/
def bufOf : Fin 9 ⊕ Fin 9 ↪ Ref sig .tc where
  toFun := fun | .inl a => (arrs a).src.view.ref | .inr a => (arrs a).dst.view.ref
  inj' := by decide

theorem bufs_eq : (Finset.univ.filter fun b : Ref sig .tc => ¬ b.isScoped) = Finset.univ.map bufOf := by decide

theorem unscoped_eq (c : Dev nD) (V : (b : Ref sig .tc) → Buf (Elt F) ((c.tc : Thread nD τ).loc b)) :
    (unscopedBufs c V : sProp 𝕄)
      = iprop((bigSep Finset.univ fun a => (arrs a).src.view.loc (c.tc : Thread nD τ) ↦{fullShare} V (arrs a).src.view.ref)
        ∗ (bigSep Finset.univ fun a => (arrs a).dst.view.loc (c.tc : Thread nD τ) ↦{fullShare} V (arrs a).dst.view.ref)) := by
  unfold unscopedBufs
  rw [bufs_eq, BI.bigSep_map, BI.bigSep_univ_sum]
  rfl

/-- Over the devices, counted from device `c`. -/
theorem bigSep_across (c : Dev nD) (Φ : Dev nD → sProp 𝕄) :
    bigSep Finset.univ Φ = iprop(Φ c ∗ (bigSep Finset.univ fun r : Fin 4 => Φ (across c (peer r))) ∗ bigSep Finset.univ fun j : Fin 3 => Φ (across c (far j))) := by
  rw [BI.bigSep_univ_equiv (acrossEquiv c), BI.bigSep_univ_sum, BI.bigSep_univ_sum, BI.bigSep_univ_of_subsingleton (0 : Fin 1)]
  show iprop(Φ (across c 0) ∗ _) = _
  rw [across_zero]
  rfl

/-- A table over devices at a distance, handed to those devices. -/
theorem bigSep_swap {n : ℕ} (q : Fin n → Fin 8) (Φ : Dev nD → Fin 9 → Fin n → sProp 𝕄) :
    (bigSep Finset.univ fun c => bigSep Finset.univ fun a => bigSep Finset.univ fun r => Φ c a r)
      = bigSep Finset.univ fun c => bigSep Finset.univ fun a => bigSep Finset.univ fun r => Φ (across c (q r)) a r := by
  let e : Dev nD × Fin 9 × Fin n ≃ Dev nD × Fin 9 × Fin n :=
    { toFun := fun x => (across x.1 (q x.2.2), x.2)
      invFun := fun x => (across x.1 (q x.2.2), x.2)
      left_inv := fun x => Prod.ext (across_across _ _) rfl
      right_inv := fun x => Prod.ext (across_across _ _) rfl }
  have h := BI.bigSep_univ_equiv e (fun x => Φ x.1 x.2.1 x.2.2)
  rw [BI.bigSep_univ_prod, BI.bigSep_univ_prod] at h
  simp only [BI.bigSep_univ_prod] at h
  exact h

variable (m : (ℓ : Loc nD τ sig) → Buf (Elt F) ℓ)

theorem in_shares (a : Fin 9) (c : Dev nD) :
    ((arrs a).src.view.loc (c.tc : Thread nD τ) ↦{fullShare} m ((arrs a).src.view.loc (c.tc : Thread nD τ)) : sProp 𝕄)
      = iprop(inB m a c half ∗ bigSep Finset.univ fun r => inB m a c (quarter r)) := by
  rw [← inB_shares]
  unfold inB
  rw [(arrs a).hsrc.set_eq_univ]

theorem raw_blocks (a : Fin 9) (c : Dev nD) :
    ((arrs a).dst.view.loc (c.tc : Thread nD τ) ↦{fullShare} m ((arrs a).dst.view.loc (c.tc : Thread nD τ)) : sProp 𝕄)
      = iprop(rawB m a c c ∗ (bigSep Finset.univ fun r => rawB m a c (across c (peer r))) ∗ bigSep Finset.univ fun j => rawB m a c (across c (far j))) :=
  (pts_blk (arrs a).sq (arrs a).dst (arrs a).hdst (t := (c.tc : Thread nD τ)) _).trans (bigSep_across c (rawB m a c))

theorem out_blocks (a : Fin 9) (c : Dev nD) :
    ((arrs a).dst.view.loc (c.tc : Thread nD τ) ↦{fullShare} outAt m a c : sProp 𝕄)
      = iprop(outB m a c c ∗ (bigSep Finset.univ fun r => outB m a c (across c (peer r))) ∗ bigSep Finset.univ fun j => outB m a c (across c (far j))) :=
  (pts_blk (arrs a).sq (arrs a).dst (arrs a).hdst (t := (c.tc : Thread nD τ)) _).trans (bigSep_across c (outB m a c))

/-! ### Dealing the launch's resources -/

/-- What device `c` is given. -/
def given (c : Dev nD) : sProp 𝕄 :=
  iprop((bigSep Finset.univ fun a => need m c a) ∗ bigSep Finset.univ fun a => bigSep Finset.univ fun j => needPass m c a j)

theorem deal :
    iprop((bigSep Finset.univ fun c : Dev nD => unscopedBufs c (fun b => m ((c.tc : Thread nD τ).loc b)))
        ∗ bigSep Finset.univ fun c : Dev nD => bigSep Finset.univ fun i : DmaSem sig => dutyTok ER (cell c i) 0 ())
      ⊢ (bigSep Finset.univ fun c => given m c : sProp 𝕄) := by
  have h1 : ∀ c : Dev nD, (unscopedBufs c (fun b => m ((c.tc : Thread nD τ).loc b)) : sProp 𝕄)
      = iprop((bigSep Finset.univ fun a => iprop(inB m a c half ∗ bigSep Finset.univ fun r => inB m a c (quarter r)))
        ∗ (bigSep Finset.univ fun a => iprop(rawB m a c c ∗ (bigSep Finset.univ fun r => rawB m a c (across c (peer r))) ∗ bigSep Finset.univ fun j => rawB m a c (across c (far j))))) := by
    intro c
    rw [unscoped_eq, ← bigSep_congr fun a _ => in_shares m a c, ← bigSep_congr fun a _ => raw_blocks m a c]
  have h2 := bigSep_swap peer (fun c a r => rawB m a c (across c (peer r)))
  have h3 := bigSep_swap (fun _ : Fin 3 => 1) (fun c a j => rawB m a c (across c (far j)))
  simp only [across_across] at h2
  simp only [across_far] at h3
  have h4 := bigSep_swap (F := F) peer (fun c a r => dutyTok ER (cell c (recvSem a r)) 0 ())
  have h5 := bigSep_swap (F := F) (fun _ : Fin 3 => 1) (fun c a j => dutyTok ER (cell c (farSem a j)) 0 ())
  rw [bigSep_congr fun c _ => h1 c]
  unfold given need needLocal needSend needPass
  simp only [bigSep_use (F := F), bigSep_sep']
  rw [← h2, ← h3, ← h4, ← h5]
  iintro ⟨⟨⟨Hi, His⟩, Hr, Hrs, Hrf⟩, Hs, Hp, Hv, Hf, Hl⟩
  isplitr [Hrf Hp Hf]
  · isplitl [Hi Hr Hl]
    · isplitl [Hi]; · iexact Hi
      isplitl [Hr] <;> iassumption
    · isplitl [His]; · iexact His
      isplitl [Hrs]; · iexact Hrs
      isplitl [Hs] <;> iassumption
  · isplitl [Hrf]; · iexact Hrf
    isplitl [Hp] <;> iassumption

/-- What the other devices owe device `c` comes to it as credit. -/
theorem credits (c : Dev nD) :
    (launchCred due c : sProp 𝕄)
      ⊢ iprop((bigSep Finset.univ fun a => bigSep Finset.univ fun j => cred (tallyAt (cell c (farSem a j)) () (amtOf a)))
        ∗ (bigSep Finset.univ fun a => bigSep Finset.univ fun r => cred (tallyAt (cell c (recvSem a r)) () (amtOf a)))) := by
  have h : (launchCred due c : sProp 𝕄) = iprop((bigSep Finset.univ fun a => bigSep Finset.univ fun j => launchCred (fun d => passDue d a j) c)
      ∗ (bigSep Finset.univ fun a => bigSep Finset.univ fun r => launchCred (fun d => dueOf d a r) c)) := by
    refine (launchCred_add (fun d => ∑ a, ∑ j, passDue d a j) (fun d => ∑ a, ∑ r, dueOf d a r) c).trans ?_
    rw [launchCred_sum Finset.univ (fun a d => ∑ j, passDue d a j) c, launchCred_sum Finset.univ (fun a d => ∑ r, dueOf d a r) c,
      bigSep_congr fun a _ => launchCred_sum Finset.univ (fun j d => passDue d a j) c, bigSep_congr fun a _ => launchCred_sum Finset.univ (fun r d => dueOf d a r) c]
  rw [h]
  refine BI.sep_mono (bigSep_mono fun a _ => bigSep_mono fun j _ => ?_) (bigSep_mono fun a _ => bigSep_mono fun r _ => ?_)
  · exact launchCred_tallyAt (.dma (farSem a j)) (fun d => across d 1) (fun d => across d 1)
      (fun d => across_across d _) (fun d => across_across d _) () (amtOf a) c
  · exact launchCred_tallyAt (.dma (recvSem a r)) (fun d => across d (peer r)) (fun d => across d (peer r))
      (fun d => across_across d _) (fun d => across_across d _) () (amtOf a) c

/-! ### The run -/

/-- What device `c` ends with. -/
def final (c : Dev nD) : sProp 𝕄 :=
  iprop((bigSep Finset.univ fun a => (arrs a).src.view.loc (c.tc : Thread nD τ) ↦{fullShare} m ((arrs a).src.view.loc (c.tc : Thread nD τ)))
    ∗ (bigSep Finset.univ fun a => (arrs a).dst.view.loc (c.tc : Thread nD τ) ↦{fullShare} outAt m a c))

/-- The first of four, and the others. -/
theorem bigSep_peers (Φ : Fin 9 → Fin 4 → sProp 𝕄) : (bigSep Finset.univ fun a => bigSep Finset.univ fun r => Φ a r)
    = iprop((bigSep Finset.univ fun a => Φ a 0) ∗ (bigSep Finset.univ fun a => bigSep Finset.univ fun j : Fin 3 => Φ a j.succ)) := by
  rw [← bigSep_sep']; exact bigSep_congr fun a _ => bigSep_first (Φ a)

theorem after_final (hs : ∀ sm : SemLoc sig, sm.isScoped .tc = true ↔ ∃ i, sm = .dma i) (c : Dev nD) :
    after m c ⊢ iprop(final m c ∗ scopedSems0 (c.tc : Thread nD τ)) := by
  unfold after final done
  rw [bigSep_congr fun a _ => in_shares m a c, bigSep_congr fun a _ => out_blocks m a c, scoped_dma hs c, bigSep_use (F := F)]
  simp only [bigSep_sep']
  rw [bigSep_peers (fun a r => outB m a c (across c (peer r))), bigSep_peers (fun a r => semVal (cell c (recvSem a r)) 0)]
  simp only [peer_succ]
  iintro ⟨⟨⟨S0, O0⟩, ⟨Sf, Of⟩, ⟨Ss, Is⟩, ⟨Sp, Op⟩, Sl, Ol, Il⟩, Sr⟩
  isplitl [O0 Of Is Op Ol Il]
  · isplitl [Is Il]
    · isplitl [Il] <;> iassumption
    · isplitl [Ol]; · iexact Ol
      isplitl [O0 Op]
      · isplitl [O0] <;> iassumption
      · iexact Of
  · isplitl [Ss]; · iexact Ss
    isplitl [Sp]; · iexact Sp
    isplitl [S0 Sr]
    · isplitl [S0] <;> iassumption
    isplitl [Sf] <;> iassumption

theorem sems_scoped : ∀ sm : SemLoc sig, sm.isScoped .tc = true ↔ ∃ i, sm = .dma i := by
  intro sm
  cases sm with
  | dma i => exact ⟨fun _ => ⟨i, rfl⟩, fun _ => by revert i; decide⟩
  | reg i => exact i.elim0

theorem some_elt : ∀ e, Nonempty (Elt F e) := fun e => inferInstance

theorem point_wp (κ : GSem nD τ sig → ℕ) (c : Dev nD) (t : Fin cfg0.N) :
    iprop(before m κ c ∗ promises c (due c))
      ⊢ wp frame (wpE (defs₀ (F := F)) Variants.none (c.tc : Thread nD τ) none) Set.univ (bodyAt0 (F := F) t)
        fun _ => iprop((final m c ∗ scopedSems0 (c.tc : Thread nD τ)) ∗ promises c 0) :=
  wp_of_eq _ c (body_eq t) (wp_idThen _ c ((body_wp m (defs := defs₀ (F := F)) Variants.none κ c).trans (wp_mono _ _ _ fun _ =>
    BI.sep_mono (after_final m sems_scoped c) (BI.Entails.refl _))))

set_option maxRecDepth 65536 in
set_option maxHeartbeats 0 in
theorem entry_eq (t : Fin (Pipeline.pin (pcfgs (F := F)) (fun p => (cfgs p).toPCfg_adm) 0).N) :
    defs₀ (F := F) .tc (Pipeline.pin (pcfgs (F := F)) (fun p => (cfgs p).toPCfg_adm) 0).body
      ((Pipeline.pin (pcfgs (F := F)) (fun p => (cfgs p).toPCfg_adm) 0).bodyArgs t ((Pipeline.pin (pcfgs (F := F)) (fun p => (cfgs p).toPCfg_adm) 0).slots t))
      = bodyAt0 (F := F) t := by
  chain_rfl

theorem entry_wp (κ : GSem nD τ sig → ℕ) (c : Dev nD) (t : Fin (Pipeline.pin (pcfgs (F := F)) (fun p => (cfgs p).toPCfg_adm) 0).N) :
    iprop(before m κ c ∗ promises c (due c))
      ⊢ wp frame (wpE (defs₀ (F := F)) Variants.none (c.tc : Thread nD τ) none) Set.univ (defs₀ (F := F) .tc (Pipeline.pin (pcfgs (F := F)) (fun p => (cfgs p).toPCfg_adm) 0).body
          ((Pipeline.pin (pcfgs (F := F)) (fun p => (cfgs p).toPCfg_adm) 0).bodyArgs t ((Pipeline.pin (pcfgs (F := F)) (fun p => (cfgs p).toPCfg_adm) 0).slots t)))
        fun _ => iprop((final m c ∗ scopedSems0 (c.tc : Thread nD τ)) ∗ promises c 0) := by
  have h := point_wp m κ c t
  revert h
  generalize hb : bodyAt0 (F := F) t = b
  intro h
  have e := (entry_eq t).trans hb
  rewrite [e]
  exact h

theorem main_eq (c : Dev nD) : main (F := F) c = .op (.customCall (Pipeline.entry 0) ()) fun _ => .ret PUnit.unit := by
  chain_rfl

theorem core_wp (κ : GSem nD τ sig → ℕ) (c : Dev nD) :
    iprop((plan m).known κ ∗ levs lv ∗ given m c ∗ launchCred due c
        ∗ (bigSep Finset.univ fun i : DmaSem sig => atPos ER (cell c i) 0 ∅ 0) ∗ owes (c.tc : Thread nD τ) (due c) ∅ ∗ scopedBufs (c.tc : Thread nD τ))
      ⊢ wp frame (wpE (defs (F := F)) (Variants.lift Variants.none) (c.tc : Thread nD τ) none) Set.univ (main (F := F) c)
          fun _ => iprop(final m c ∗ scopedSems0 (c.tc : Thread nD τ) ∗ ∃ W, owes (c.tc : Thread nD τ) (0 : CellTallies nD τ sig Unit) W) := by
  have : ∀ e, Nonempty (Elt F e) := some_elt
  rewrite [main_eq]
  have h := wp_call (nD := nD) (τ := τ) (pcfgs (F := F)) (fun p => (cfgs p).toPCfg_adm) cellOf_inj 0 (defs₀ (F := F)) Variants.none
    (fun _ => Fin.isEmpty) Fin.isEmpty N_0 c (before m κ c) (final m c) (due c) (entry_wp m κ c)
  refine BI.BIBase.Entails.trans (Q := iprop(before m κ c ∗ owes (c.tc : Thread nD τ) (due c) ∅ ∗ scopedBufs (c.tc : Thread nD τ))) ?_ h
  unfold before given
  iintro ⟨HK, HL, ⟨HN, HP⟩, Hc, Ha, HO, Hb⟩
  ihave Hc := (credits (F := F) c) $$ Hc
  icases Hc with ⟨Hf, Hr⟩
  isplitr [HO Hb]
  · isplitl [HK]; · iexact HK
    isplitl [HL]; · iexact HL
    isplitl [HN]; · iexact HN
    isplitl [HP]; · iexact HP
    isplitl [Hr]; · iexact Hr
    isplitl [Hf] <;> iassumption
  · isplitl [HO] <;> iassumption

/-- The gather runs; the shards end as they began, every device's results are all devices' shards, and every semaphore
    ends at zero. -/
theorem run_main (g : Dev nD → PrngReg) :
    θ_run (defs (F := F)) (onTc (τ := τ) (main (F := F))) ⟨m, fun _ => 0, g⟩ fun r =>
      (∀ (c : Dev nD) (a : Fin 9), r.2.mem ((arrs a).src.view.loc (c.tc : Thread nD τ)) = m ((arrs a).src.view.loc (c.tc : Thread nD τ))
        ∧ r.2.mem ((arrs a).dst.view.loc (c.tc : Thread nD τ)) = outAt m a c)
      ∧ r.2.sem = fun _ => 0 := by
  have : ∀ e, Nonempty (Elt F e) := some_elt
  refine Cert.Net.run (plan m) sems_scoped lv (Variants.lift Variants.none) m g (main (F := F)) due (given m) (final m) (deal m) (core_wp m)
    (fun c s => ∀ a : Fin 9, s.mem ((arrs a).src.view.loc (c.tc : Thread nD τ)) = m ((arrs a).src.view.loc (c.tc : Thread nD τ))
        ∧ s.mem ((arrs a).dst.view.loc (c.tc : Thread nD τ)) = outAt m a c) (fun c s' => ?_) (fun s hQ hsem => ⟨hQ, ?_⟩)
  · unfold final
    iintro ⟨⟨Hi, Ho⟩, HS⟩
    ihave H1 := (pointsTo_read_all Finset.univ (fun a : Fin 9 => (arrs a).src.view.loc (c.tc : Thread nD τ)) (fun a => m ((arrs a).src.view.loc (c.tc : Thread nD τ))) s') $$ [Hi HS]
    · isplitl [Hi] <;> iassumption
    icases H1 with ⟨%h1, HS⟩
    ihave H2 := (pointsTo_read_all Finset.univ (fun a : Fin 9 => (arrs a).dst.view.loc (c.tc : Thread nD τ)) (fun a => outAt m a c) s') $$ [Ho HS]
    · isplitl [Ho] <;> iassumption
    icases H2 with ⟨%h2, HS⟩
    imodintro
    isplitr [HS]
    · ipureintro
      exact fun a => ⟨h1 a (Finset.mem_univ a), h2 a (Finset.mem_univ a)⟩
    · iexact HS
  · funext g'
    refine hsem g' ?_
    by_cases h : g'.1.2 = .tc
    · refine .inr ?_
      cases hg : g'.2 with
      | dma i => exact (sems_scoped (.dma i)).mpr ⟨i, rfl⟩
      | reg i => exact i.elim0
    · exact .inl h

end Cert.Spread

end
-- ==== Proof.SpreadValues.lean ====
module

public import proofs.«01_k».proof.Proof.Blocks
public import Idealize.ShloMosaic.Lib.Layout
public import Idealize.ShloMosaic.Lib.Pipeline.Value

@[expose] public section

/-! # The gather of the whole array

The reference cuts the rows of the whole array into eight slots; slot `p` is device `p`'s shard. -/

namespace Cert.Spread

open Idealize.ShloMosaic Cert.Net

/-- Slot `p` of the whole array's rows is shard `p`. -/
theorem gathered_part {α : Type} {n k N : Nat} (x : (⟨2, ![N, k]⟩ : Shape).Idx → α)
    (h : (⟨2, ![N, k]⟩ : Shape).ShapeCasts ⟨3, ![8, n, k]⟩) (tl : Layout.Tiles ⟨2, ![n, k]⟩ ⟨2, ![N, k]⟩ 0 8)
    (i : (⟨3, ![8, n, k]⟩ : Shape).Idx) :
    Layout.block ⟨2, ![n, k]⟩ ⟨2, ![N, k]⟩ 0 8 (i 0) x tl (inside i) = shapeCast ⟨3, ![8, n, k]⟩ x h i := by
  have e0 : (tl.idx (i 0) (inside i) 0).val = (i 0).val * n + (i 1).val := rfl
  have e1 : (tl.idx (i 0) (inside i) 1).val = (i 2).val := rfl
  show x (tl.idx (i 0) (inside i)) = _
  refine Eq.symm (shapeCast_apply _ h _ _ ?_)
  rw [Shape.rowMajor_val_two, Shape.rowMajor_val_three, e0, e1]; rfl

end Cert.Spread

end
-- ==== Proof.Step.lean ====
module

public import Idealize.ShloMosaic.Lib.Pipeline.Value
public import Idealize.ShloMosaic.Lib.Pipeline.ValueKit
public import Idealize.ShloMosaic.Lib.IdealHost
public import Idealize.ShloMosaic.Lib.Pointwise.Reduce

@[expose] public section

/-! # One AdamW step, at any shape

What a step makes of the eight slots of a gradient, the weight and the two moments: as one block's vectors and as whole
arrays, and that the one is the other read through a block. -/

noncomputable section

namespace Cert.Step

open Idealize.ShloMosaic

/-! ## The step's functions -/

section Any

variable {F : FTy → Type} [FloatOps F] {s : Shape} {n k r : Nat}

theorem off2 : (![0, 0] : Fin 2 → Nat) = fun _ => 0 := funext fun a => by fin_cases a <;> rfl

/-- A literal at every index. -/
abbrev lit (s : Shape) (b : BitVec 32) : FVec F s .f32 := broadcast s (Scalar.ofBits .f32 b)

/-- The new first moment. -/
def mean (g m : FVec F s .f32) : FVec F s .f32 := addf (mulf (lit s 0x3F666666#32) m) (mulf (lit s 0x3DCCCCCD#32) g)

/-- The new second moment. -/
def square (g v : FVec F s .f32) : FVec F s .f32 := addf (mulf (lit s 0x3F7FBE77#32) v) (mulf (lit s 0x3A83126F#32) (mulf g g))

/-- The change of the weight. -/
def change (g w m v : FVec F s .f32) : FVec F s .f32 :=
  mulf (lit s 0xBA83126F#32) (addf (divf (divf (mean g m) (lit s 0x3F26BD02#32))
    (addf (sqrt (divf (square g v) (lit s 0x3C231ACC#32))) (lit s 0x322BCC77#32))) (mulf (lit s 0x3C23D70A#32) w))

/-- Index `i` in slot `p`. -/
def slotAt (p : Fin 8) (i : (⟨2, ![n, k]⟩ : Shape).Idx) : (⟨3, ![8, n, k]⟩ : Shape).Idx := fun | 0 => p | 1 => i 0 | 2 => i 1

/-- Eight vectors widened and added, first to last. -/
def chain (e : Fin 8 → FVec F s .bf16) (h : FTy.bits .bf16 < FTy.bits .f32) : FVec F s .f32 :=
  addf (addf (addf (addf (addf (addf (addf (extf .f32 (e 0) h) (extf .f32 (e 1) h)) (extf .f32 (e 2) h)) (extf .f32 (e 3) h))
    (extf .f32 (e 4) h)) (extf .f32 (e 5) h)) (extf .f32 (e 6) h)) (extf .f32 (e 7) h)

/-- The eight slots' sum. -/
def total (x : FVec F ⟨3, ![8, n, k]⟩ .bf16) : FVec F ⟨2, ![n, k]⟩ .f32 := chain (fun p i => x (slotAt p i)) (by decide)

/-- A slot loaded from a block of eight, its unit axis dropped. -/
theorem slot_ld (x : Vec F ⟨3, ![8, n, k]⟩ .bf16) (p : Fin 8)
    (inb : ∀ a, (![p.val, 0, 0] : Fin 3 → Nat) a + (![1, n, k] : Fin 3 → Nat) a ≤ (![8, n, k] : Fin 3 → Nat) a)
    (h : (⟨3, ![1, n, k]⟩ : Shape).ShapeCasts ⟨2, ![n, k]⟩) :
    shapeCast ⟨2, ![n, k]⟩ (View.ld (Val := Elt F) (e' := .bf16) x (Rect.unit (s := ⟨3, ![8, n, k]⟩) ![p.val, 0, 0] ![1, n, k] inb)) h
      = fun i => x (slotAt p i) := by
  funext i
  let j : (⟨3, ![1, n, k]⟩ : Shape).Idx := fun | 0 => (0 : Fin 1) | 1 => i 0 | 2 => i 1
  refine (shapeCast_apply _ h i j ?_).trans (View.ld_unit_apply_of _ _ _ _ _ _ ?_)
  · rw [Shape.rowMajor_val_two, Shape.rowMajor_val_three]
    show (0 * n + (i 0).val) * k + (i 1).val = _
    rw [Nat.zero_mul, Nat.zero_add]; rfl
  · intro a
    match a with
    | 0 => rfl
    | 1 => exact (Nat.zero_add _).symm
    | 2 => exact (Nat.zero_add _).symm

/-- The sum of the eight loaded slots. -/
theorem total_ld (x : Vec F ⟨3, ![8, n, k]⟩ .bf16)
    (inb : ∀ (p : Fin 8) (a : Fin 3), (![p.val, 0, 0] : Fin 3 → Nat) a + (![1, n, k] : Fin 3 → Nat) a ≤ (![8, n, k] : Fin 3 → Nat) a)
    (h : (⟨3, ![1, n, k]⟩ : Shape).ShapeCasts ⟨2, ![n, k]⟩) :
    chain (fun p => shapeCast ⟨2, ![n, k]⟩ (View.ld (Val := Elt F) (e' := .bf16) x (Rect.unit (s := ⟨3, ![8, n, k]⟩) ![p.val, 0, 0] ![1, n, k] (inb p))) h) (by decide)
      = total x := by
  unfold total; congr 1; funext p; exact slot_ld x p (inb p) h

/-- The sum of a block's slots is the block of the sum. -/
theorem total_block (x : FVec F ⟨3, ![8, n, k]⟩ .bf16) (e : (⟨2, ![r, k]⟩ : Shape).Idx → (⟨2, ![n, k]⟩ : Shape).Idx)
    (y : FVec F ⟨3, ![8, r, k]⟩ .bf16) (h : ∀ p i, y (slotAt p i) = x (slotAt p (e i))) : total y = fun i => total x (e i) := by
  have h' : (fun (p : Fin 8) i => y (slotAt p i)) = fun p i => x (slotAt p (e i)) := funext fun p => funext fun i => h p i
  unfold total; rw [h']; rfl

end Any

/-! ## The reference's functions, over the extended reals -/

section Real

variable {s : Shape} {n k : Nat}

/-- The host's sum over the slots. -/
theorem total_host (x : FVec Ideal ⟨3, ![8, n, k]⟩ .bf16) (h : FTy.bits .bf16 < FTy.bits .f32)
    (hr : (⟨3, ![8, n, k]⟩ : Shape).ReducesTo [0] ⟨2, ![n, k]⟩) (hu : 0 < (⟨0, ![]⟩ : Shape).numel) :
    Host.reduceAdd (F := Ideal) (extf .f32 x h) (constant ⟨0, ![]⟩ .f32 0x00000000#32) hr hu = total x := by
  funext i
  show Ideal.hostReduceAdd hr (extf .f32 x h) (Ideal.ofBits .f32 0x00000000#32) i = _
  rw [Ideal.hostReduceAdd_r3_a0, Ideal.ofBits_zero_f32, zero_add]
  refine (Finset.sum_congr rfl fun p _ => ?_).trans (Fin.sum_univ_eight fun p => x (slotAt p i))
  refine congrArg x (funext fun a => ?_)
  match a with
  | 0 => rfl
  | 1 => rfl
  | 2 => rfl

/-- The host's first moment. -/
theorem mean_host (g m : FVec Ideal s .f32) (hb : (⟨0, ![]⟩ : Shape).BroadcastsInDim s ![]) :
    addf (mulf (broadcastInDim s ![] hb (constant ⟨0, ![]⟩ .f32 0x3F666666#32)) m)
      (mulf (broadcastInDim s ![] hb (constant ⟨0, ![]⟩ .f32 0x3DCCCCCD#32)) g) = mean g m := rfl

/-- The host's second moment. -/
theorem square_host (g v : FVec Ideal s .f32) (hb : (⟨0, ![]⟩ : Shape).BroadcastsInDim s ![]) :
    addf (mulf (broadcastInDim s ![] hb (constant ⟨0, ![]⟩ .f32 0x3F7FBE77#32)) v)
      (mulf (broadcastInDim s ![] hb (constant ⟨0, ![]⟩ .f32 0x3A83126F#32)) (mulf g g)) = square g v := rfl

/-- The host's change of the weight. -/
theorem change_host (g w m v : FVec Ideal s .f32) (hb : (⟨0, ![]⟩ : Shape).BroadcastsInDim s ![]) :
    mulf (broadcastInDim s ![] hb (constant ⟨0, ![]⟩ .f32 0xBA83126F#32))
      (addf (Host.divf (Host.divf (mean g m) (broadcastInDim s ![] hb (constant ⟨0, ![]⟩ .f32 0x3F26BD02#32)))
        (addf (Host.sqrt (Host.divf (square g v) (broadcastInDim s ![] hb (constant ⟨0, ![]⟩ .f32 0x3C231ACC#32))))
          (broadcastInDim s ![] hb (constant ⟨0, ![]⟩ .f32 0x322BCC77#32))))
        (mulf (broadcastInDim s ![] hb (constant ⟨0, ![]⟩ .f32 0x3C23D70A#32)) w)) = change g w m v := rfl

end Real

end Cert.Step

end
-- ==== Proof.StepUp.lean ====
module

public import proofs.«01_k».proof.Defs
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpWholeIdeal
public import proofs.«01_k».proof.Proof.Gen.UpWholeIdeal.Run
public import proofs.«01_k».proof.Proof.Step

@[expose] public section

/-! # The step of a weight of `1024 × 704`

Four points of 256 rows. What a point writes back is its block of the step on the whole arrays (`Step.lean`), and
the blocks cover the arrays. -/

noncomputable section

namespace Cert.StepUp

open Cert.UpIdeal Cert.UpIdeal.Gen
open Idealize.ShloMosaic Idealize.ShloMosaic.TcCoe Idealize.SL.Sem
open Cert.Step

section Kernel

variable {F : FTy → Type} [FloatOps F]
variable (m : (ℓ : Loc nD τ sig) → Buf (Elt F) ℓ) (ρ : Dev nD → PrngReg)

/-- An argument at the launch. -/
abbrev arg (c : Dev nD) (b : Ref sig .tc) : Buf (Elt F) ((c : Thread nD τ).loc b) := m ((c : Thread nD τ).loc b)
/-- The gradient: the sum of the slots. -/
abbrev grad (c : Dev nD) : FVec F ⟨2, ![1024, 704]⟩ .f32 := total (n := 1024) (k := 704) (arg m c main_arg0)

/-- The sum of a point's slots is the point's block of the gradient. -/
theorem sum_block (c : Dev nD) (t : Fin cfg0.N) :
    k0_pay5 (iblk m c 0 t) (iblk m c 1 t) (iblk m c 2 t) (iblk m c 3 t) = (win0_4.blk t).view.read (Elt F) (grad m c) := by
  refine (total_ld (iblk m c 0 t) (by decide) shapeCasts_S1x256x704_S256x704).trans
    (total_block (n := 1024) (arg m c main_arg0) (win0_4.blk t).view.emb (iblk m c 0 t) fun p i => ?_)
  refine congrArg (arg m c main_arg0) (funext fun a => Fin.ext ?_)
  match a with
  | 0 => exact (Nat.zero_add _).trans (Nat.one_mul _)
  | 1 => rfl
  | 2 => rfl

theorem flushed4 (c : Dev nD) (t : Fin cfg0.N) : (dats m 0 c).flushed 4 t = (win0_4.blk t).view.read (Elt F) (grad m c) := by
  show (cfg0.win 4).cut (grid0.coords t) ((dats m 0 c).after 4 t) = _
  rw [after0_4]; unfold out0_4; rw [View.canon_unit_zero off2, sum_block]

theorem flushed5 (c : Dev nD) (t : Fin cfg0.N) : (dats m 0 c).flushed 5 t
    = (win0_5.blk t).view.read (Elt F) (change (grad m c) (arg m c main_arg1) (arg m c main_arg2) (arg m c main_arg3)) := by
  show (cfg0.win 5).cut (grid0.coords t) ((dats m 0 c).after 5 t) = _
  rw [after0_5]; unfold out0_5; rw [View.canon_unit_zero off2, sum_block, View.ld_unit_zero off2, View.ld_unit_zero off2, View.ld_unit_zero off2]; rfl

theorem flushed6 (c : Dev nD) (t : Fin cfg0.N) :
    (dats m 0 c).flushed 6 t = (win0_6.blk t).view.read (Elt F) (mean (grad m c) (arg m c main_arg2)) := by
  show (cfg0.win 6).cut (grid0.coords t) ((dats m 0 c).after 6 t) = _
  rw [after0_6]; unfold out0_6; rw [View.canon_unit_zero off2, sum_block, View.ld_unit_zero off2]; rfl

theorem flushed7 (c : Dev nD) (t : Fin cfg0.N) :
    (dats m 0 c).flushed 7 t = (win0_7.blk t).view.read (Elt F) (square (grad m c) (arg m c main_arg3)) := by
  show (cfg0.win 7).cut (grid0.coords t) ((dats m 0 c).after 7 t) = _
  rw [after0_7]; unfold out0_7; rw [View.canon_unit_zero off2, sum_block, View.ld_unit_zero off2]; rfl

/-- Every result's blocks cover it. -/
theorem covers : (cfg0.win 4).Covers ∧ (cfg0.win 5).Covers ∧ (cfg0.win 6).Covers ∧ (cfg0.win 7).Covers := by decide +kernel

end Kernel

/-! ## The claims -/

theorem frame_kernel : Cert.quiescent_Up (hUp := Cert.Up.Gen.facts) := fun m g _ => Cert.Up.Gen.frame (F := Bits) m g

theorem frame_ideal : Cert.quiescent_UpIdeal (hUpIdeal := Cert.UpIdeal.Gen.facts) := fun m g _ => Cert.UpIdeal.Gen.frame (F := Ideal) m g

theorem frame_reference : Cert.quiescent_UpWholeIdeal (hUpWholeIdeal := Cert.UpWholeIdeal.Gen.facts) := fun m g _ =>
  (θ_run (Cert.UpWholeIdeal.defs (F := Ideal)) _ _).mono (fun r h => ⟨fun c => (h c).2.2.2.2, sem_eq_zero_of_no_sems (by decide) r.2⟩)
    (Cert.UpWholeIdeal.Value.run (F := Ideal) m g)

theorem values : Cert.algebraic_UpIdeal_UpWholeIdeal (hUpIdeal := Cert.UpIdeal.Gen.facts)
    (hUpWholeIdeal := Cert.UpWholeIdeal.Gen.facts) := fun m g m' g' _ hm =>
  ⟨fun c => grad m c, fun c => change (grad m c) (arg m c main_arg1) (arg m c main_arg2) (arg m c main_arg3),
    fun c => mean (grad m c) (arg m c main_arg2), fun c => square (grad m c) (arg m c main_arg3),
    (θ_run (defs (F := Ideal)) _ _).mono (fun _ h c =>
      ⟨((h c).1 4).trans ((dats m 0 c).arrAt_eq_of_cover 4 _ (fun t _ => flushed4 m c t) (covers.1.cover _ (Memref.isWhole_whole _))),
        ((h c).1 5).trans ((dats m 0 c).arrAt_eq_of_cover 5 _ (fun t _ => flushed5 m c t) (covers.2.1.cover _ (Memref.isWhole_whole _))),
        ((h c).1 6).trans ((dats m 0 c).arrAt_eq_of_cover 6 _ (fun t _ => flushed6 m c t) (covers.2.2.1.cover _ (Memref.isWhole_whole _))),
        ((h c).1 7).trans ((dats m 0 c).arrAt_eq_of_cover 7 _ (fun t _ => flushed7 m c t) (covers.2.2.2.cover _ (Memref.isWhole_whole _))),
        ((h c).1 0).trans ((dats m 0 c).arrAt_in 0 rfl _), ((h c).1 1).trans ((dats m 0 c).arrAt_in 1 rfl _),
        ((h c).1 2).trans ((dats m 0 c).arrAt_in 2 rfl _), ((h c).1 3).trans ((dats m 0 c).arrAt_in 3 rfl _)⟩) (run_main (F := Ideal) m g),
    (θ_run (Cert.UpWholeIdeal.defs (F := Ideal)) _ _).mono (fun _ h c => by
      obtain ⟨e0, e1, e2, e3⟩ := hm c
      obtain ⟨h0, h1, h2, h3, h4⟩ := h c
      rw [total_host (n := 1024) (k := 704), e0] at h0
      rw [total_host (n := 1024) (k := 704), e0, e1, e2, e3] at h1
      rw [total_host (n := 1024) (k := 704), e0, e2] at h2
      rw [total_host (n := 1024) (k := 704), e0, e3] at h3
      exact ⟨h0, h1, h2, h3, h4⟩) (Cert.UpWholeIdeal.Value.run (F := Ideal) m' g')⟩

end Cert.StepUp

end
-- ==== Proof.StepDown.lean ====
module

public import proofs.«01_k».proof.Defs
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownWholeIdeal
public import proofs.«01_k».proof.Proof.Gen.DownWholeIdeal.Run
public import proofs.«01_k».proof.Proof.Step

@[expose] public section

/-! # The step of a weight of `352 × 1024`

One point, of all the rows. What a point writes back is its block of the step on the whole arrays (`Step.lean`), and
the blocks cover the arrays. -/

noncomputable section

namespace Cert.StepDown

open Cert.DownIdeal Cert.DownIdeal.Gen
open Idealize.ShloMosaic Idealize.ShloMosaic.TcCoe Idealize.SL.Sem
open Cert.Step

section Kernel

variable {F : FTy → Type} [FloatOps F]
variable (m : (ℓ : Loc nD τ sig) → Buf (Elt F) ℓ) (ρ : Dev nD → PrngReg)

/-- An argument at the launch. -/
abbrev arg (c : Dev nD) (b : Ref sig .tc) : Buf (Elt F) ((c : Thread nD τ).loc b) := m ((c : Thread nD τ).loc b)
/-- The gradient: the sum of the slots. -/
abbrev grad (c : Dev nD) : FVec F ⟨2, ![352, 1024]⟩ .f32 := total (n := 352) (k := 1024) (arg m c main_arg0)

/-- The sum of a point's slots is the point's block of the gradient. -/
theorem sum_block (c : Dev nD) (t : Fin cfg0.N) :
    k0_pay5 (iblk m c 0 t) (iblk m c 1 t) (iblk m c 2 t) (iblk m c 3 t) = (win0_4.blk t).view.read (Elt F) (grad m c) := by
  refine (total_ld (iblk m c 0 t) (by decide) shapeCasts_S1x352x1024_S352x1024).trans
    (total_block (n := 352) (arg m c main_arg0) (win0_4.blk t).view.emb (iblk m c 0 t) fun p i => ?_)
  refine congrArg (arg m c main_arg0) (funext fun a => Fin.ext ?_)
  match a with
  | 0 => exact (Nat.zero_add _).trans (Nat.one_mul _)
  | 1 => rfl
  | 2 => rfl

theorem flushed4 (c : Dev nD) (t : Fin cfg0.N) : (dats m 0 c).flushed 4 t = (win0_4.blk t).view.read (Elt F) (grad m c) := by
  show (cfg0.win 4).cut (grid0.coords t) ((dats m 0 c).after 4 t) = _
  rw [after0_4]; unfold out0_4; rw [View.canon_unit_zero off2, sum_block]

theorem flushed5 (c : Dev nD) (t : Fin cfg0.N) : (dats m 0 c).flushed 5 t
    = (win0_5.blk t).view.read (Elt F) (change (grad m c) (arg m c main_arg1) (arg m c main_arg2) (arg m c main_arg3)) := by
  show (cfg0.win 5).cut (grid0.coords t) ((dats m 0 c).after 5 t) = _
  rw [after0_5]; unfold out0_5; rw [View.canon_unit_zero off2, sum_block, View.ld_unit_zero off2, View.ld_unit_zero off2, View.ld_unit_zero off2]; rfl

theorem flushed6 (c : Dev nD) (t : Fin cfg0.N) :
    (dats m 0 c).flushed 6 t = (win0_6.blk t).view.read (Elt F) (mean (grad m c) (arg m c main_arg2)) := by
  show (cfg0.win 6).cut (grid0.coords t) ((dats m 0 c).after 6 t) = _
  rw [after0_6]; unfold out0_6; rw [View.canon_unit_zero off2, sum_block, View.ld_unit_zero off2]; rfl

theorem flushed7 (c : Dev nD) (t : Fin cfg0.N) :
    (dats m 0 c).flushed 7 t = (win0_7.blk t).view.read (Elt F) (square (grad m c) (arg m c main_arg3)) := by
  show (cfg0.win 7).cut (grid0.coords t) ((dats m 0 c).after 7 t) = _
  rw [after0_7]; unfold out0_7; rw [View.canon_unit_zero off2, sum_block, View.ld_unit_zero off2]; rfl

/-- Every result's blocks cover it. -/
theorem covers : (cfg0.win 4).Covers ∧ (cfg0.win 5).Covers ∧ (cfg0.win 6).Covers ∧ (cfg0.win 7).Covers := by decide +kernel

end Kernel

/-! ## The claims -/

theorem frame_kernel : Cert.quiescent_Down (hDown := Cert.Down.Gen.facts) := fun m g _ => Cert.Down.Gen.frame (F := Bits) m g

theorem frame_ideal : Cert.quiescent_DownIdeal (hDownIdeal := Cert.DownIdeal.Gen.facts) := fun m g _ => Cert.DownIdeal.Gen.frame (F := Ideal) m g

theorem frame_reference : Cert.quiescent_DownWholeIdeal (hDownWholeIdeal := Cert.DownWholeIdeal.Gen.facts) := fun m g _ =>
  (θ_run (Cert.DownWholeIdeal.defs (F := Ideal)) _ _).mono (fun r h => ⟨fun c => (h c).2.2.2.2, sem_eq_zero_of_no_sems (by decide) r.2⟩)
    (Cert.DownWholeIdeal.Value.run (F := Ideal) m g)

theorem values : Cert.algebraic_DownIdeal_DownWholeIdeal (hDownIdeal := Cert.DownIdeal.Gen.facts)
    (hDownWholeIdeal := Cert.DownWholeIdeal.Gen.facts) := fun m g m' g' _ hm =>
  ⟨fun c => grad m c, fun c => change (grad m c) (arg m c main_arg1) (arg m c main_arg2) (arg m c main_arg3),
    fun c => mean (grad m c) (arg m c main_arg2), fun c => square (grad m c) (arg m c main_arg3),
    (θ_run (defs (F := Ideal)) _ _).mono (fun _ h c =>
      ⟨((h c).1 4).trans ((dats m 0 c).arrAt_eq_of_cover 4 _ (fun t _ => flushed4 m c t) (covers.1.cover _ (Memref.isWhole_whole _))),
        ((h c).1 5).trans ((dats m 0 c).arrAt_eq_of_cover 5 _ (fun t _ => flushed5 m c t) (covers.2.1.cover _ (Memref.isWhole_whole _))),
        ((h c).1 6).trans ((dats m 0 c).arrAt_eq_of_cover 6 _ (fun t _ => flushed6 m c t) (covers.2.2.1.cover _ (Memref.isWhole_whole _))),
        ((h c).1 7).trans ((dats m 0 c).arrAt_eq_of_cover 7 _ (fun t _ => flushed7 m c t) (covers.2.2.2.cover _ (Memref.isWhole_whole _))),
        ((h c).1 0).trans ((dats m 0 c).arrAt_in 0 rfl _), ((h c).1 1).trans ((dats m 0 c).arrAt_in 1 rfl _),
        ((h c).1 2).trans ((dats m 0 c).arrAt_in 2 rfl _), ((h c).1 3).trans ((dats m 0 c).arrAt_in 3 rfl _)⟩) (run_main (F := Ideal) m g),
    (θ_run (Cert.DownWholeIdeal.defs (F := Ideal)) _ _).mono (fun _ h c => by
      obtain ⟨e0, e1, e2, e3⟩ := hm c
      obtain ⟨h0, h1, h2, h3, h4⟩ := h c
      rw [total_host (n := 352) (k := 1024), e0] at h0
      rw [total_host (n := 352) (k := 1024), e0, e1, e2, e3] at h1
      rw [total_host (n := 352) (k := 1024), e0, e2] at h2
      rw [total_host (n := 352) (k := 1024), e0, e3] at h3
      exact ⟨h0, h1, h2, h3, h4⟩) (Cert.DownWholeIdeal.Value.run (F := Ideal) m' g')⟩

end Cert.StepDown

end
-- ==== Proof.StepMix.lean ====
module

public import proofs.«01_k».proof.Defs
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixWholeIdeal
public import proofs.«01_k».proof.Proof.Gen.MixWholeIdeal.Run
public import proofs.«01_k».proof.Proof.Step

@[expose] public section

/-! # The step of a weight of `1024 × 321`

Four points of 256 rows. What a point writes back is its block of the step on the whole arrays (`Step.lean`), and
the blocks cover the arrays. -/

noncomputable section

namespace Cert.StepMix

open Cert.MixIdeal Cert.MixIdeal.Gen
open Idealize.ShloMosaic Idealize.ShloMosaic.TcCoe Idealize.SL.Sem
open Cert.Step

section Kernel

variable {F : FTy → Type} [FloatOps F]
variable (m : (ℓ : Loc nD τ sig) → Buf (Elt F) ℓ) (ρ : Dev nD → PrngReg)

/-- An argument at the launch. -/
abbrev arg (c : Dev nD) (b : Ref sig .tc) : Buf (Elt F) ((c : Thread nD τ).loc b) := m ((c : Thread nD τ).loc b)
/-- The gradient: the sum of the slots. -/
abbrev grad (c : Dev nD) : FVec F ⟨2, ![1024, 321]⟩ .f32 := total (n := 1024) (k := 321) (arg m c main_arg0)

/-- The sum of a point's slots is the point's block of the gradient. -/
theorem sum_block (c : Dev nD) (t : Fin cfg0.N) :
    k0_pay5 (iblk m c 0 t) (iblk m c 1 t) (iblk m c 2 t) (iblk m c 3 t) = (win0_4.blk t).view.read (Elt F) (grad m c) := by
  refine (total_ld (iblk m c 0 t) (by decide) shapeCasts_S1x256x321_S256x321).trans
    (total_block (n := 1024) (arg m c main_arg0) (win0_4.blk t).view.emb (iblk m c 0 t) fun p i => ?_)
  refine congrArg (arg m c main_arg0) (funext fun a => Fin.ext ?_)
  match a with
  | 0 => exact (Nat.zero_add _).trans (Nat.one_mul _)
  | 1 => rfl
  | 2 => rfl

theorem flushed4 (c : Dev nD) (t : Fin cfg0.N) : (dats m 0 c).flushed 4 t = (win0_4.blk t).view.read (Elt F) (grad m c) := by
  show (cfg0.win 4).cut (grid0.coords t) ((dats m 0 c).after 4 t) = _
  rw [after0_4]; unfold out0_4; rw [View.canon_unit_zero off2, sum_block]

theorem flushed5 (c : Dev nD) (t : Fin cfg0.N) : (dats m 0 c).flushed 5 t
    = (win0_5.blk t).view.read (Elt F) (change (grad m c) (arg m c main_arg1) (arg m c main_arg2) (arg m c main_arg3)) := by
  show (cfg0.win 5).cut (grid0.coords t) ((dats m 0 c).after 5 t) = _
  rw [after0_5]; unfold out0_5; rw [View.canon_unit_zero off2, sum_block, View.ld_unit_zero off2, View.ld_unit_zero off2, View.ld_unit_zero off2]; rfl

theorem flushed6 (c : Dev nD) (t : Fin cfg0.N) :
    (dats m 0 c).flushed 6 t = (win0_6.blk t).view.read (Elt F) (mean (grad m c) (arg m c main_arg2)) := by
  show (cfg0.win 6).cut (grid0.coords t) ((dats m 0 c).after 6 t) = _
  rw [after0_6]; unfold out0_6; rw [View.canon_unit_zero off2, sum_block, View.ld_unit_zero off2]; rfl

theorem flushed7 (c : Dev nD) (t : Fin cfg0.N) :
    (dats m 0 c).flushed 7 t = (win0_7.blk t).view.read (Elt F) (square (grad m c) (arg m c main_arg3)) := by
  show (cfg0.win 7).cut (grid0.coords t) ((dats m 0 c).after 7 t) = _
  rw [after0_7]; unfold out0_7; rw [View.canon_unit_zero off2, sum_block, View.ld_unit_zero off2]; rfl

/-- Every result's blocks cover it. -/
theorem covers : (cfg0.win 4).Covers ∧ (cfg0.win 5).Covers ∧ (cfg0.win 6).Covers ∧ (cfg0.win 7).Covers := by decide +kernel

end Kernel

/-! ## The claims -/

theorem frame_kernel : Cert.quiescent_Mix (hMix := Cert.Mix.Gen.facts) := fun m g _ => Cert.Mix.Gen.frame (F := Bits) m g

theorem frame_ideal : Cert.quiescent_MixIdeal (hMixIdeal := Cert.MixIdeal.Gen.facts) := fun m g _ => Cert.MixIdeal.Gen.frame (F := Ideal) m g

theorem frame_reference : Cert.quiescent_MixWholeIdeal (hMixWholeIdeal := Cert.MixWholeIdeal.Gen.facts) := fun m g _ =>
  (θ_run (Cert.MixWholeIdeal.defs (F := Ideal)) _ _).mono (fun r h => ⟨fun c => (h c).2.2.2.2, sem_eq_zero_of_no_sems (by decide) r.2⟩)
    (Cert.MixWholeIdeal.Value.run (F := Ideal) m g)

theorem values : Cert.algebraic_MixIdeal_MixWholeIdeal (hMixIdeal := Cert.MixIdeal.Gen.facts)
    (hMixWholeIdeal := Cert.MixWholeIdeal.Gen.facts) := fun m g m' g' _ hm =>
  ⟨fun c => grad m c, fun c => change (grad m c) (arg m c main_arg1) (arg m c main_arg2) (arg m c main_arg3),
    fun c => mean (grad m c) (arg m c main_arg2), fun c => square (grad m c) (arg m c main_arg3),
    (θ_run (defs (F := Ideal)) _ _).mono (fun _ h c =>
      ⟨((h c).1 4).trans ((dats m 0 c).arrAt_eq_of_cover 4 _ (fun t _ => flushed4 m c t) (covers.1.cover _ (Memref.isWhole_whole _))),
        ((h c).1 5).trans ((dats m 0 c).arrAt_eq_of_cover 5 _ (fun t _ => flushed5 m c t) (covers.2.1.cover _ (Memref.isWhole_whole _))),
        ((h c).1 6).trans ((dats m 0 c).arrAt_eq_of_cover 6 _ (fun t _ => flushed6 m c t) (covers.2.2.1.cover _ (Memref.isWhole_whole _))),
        ((h c).1 7).trans ((dats m 0 c).arrAt_eq_of_cover 7 _ (fun t _ => flushed7 m c t) (covers.2.2.2.cover _ (Memref.isWhole_whole _))),
        ((h c).1 0).trans ((dats m 0 c).arrAt_in 0 rfl _), ((h c).1 1).trans ((dats m 0 c).arrAt_in 1 rfl _),
        ((h c).1 2).trans ((dats m 0 c).arrAt_in 2 rfl _), ((h c).1 3).trans ((dats m 0 c).arrAt_in 3 rfl _)⟩) (run_main (F := Ideal) m g),
    (θ_run (Cert.MixWholeIdeal.defs (F := Ideal)) _ _).mono (fun _ h c => by
      obtain ⟨e0, e1, e2, e3⟩ := hm c
      obtain ⟨h0, h1, h2, h3, h4⟩ := h c
      rw [total_host (n := 1024) (k := 321), e0] at h0
      rw [total_host (n := 1024) (k := 321), e0, e1, e2, e3] at h1
      rw [total_host (n := 1024) (k := 321), e0, e2] at h2
      rw [total_host (n := 1024) (k := 321), e0, e3] at h3
      exact ⟨h0, h1, h2, h3, h4⟩) (Cert.MixWholeIdeal.Value.run (F := Ideal) m' g')⟩

end Cert.StepMix

end
-- ==== Proof.StepOut.lean ====
module

public import proofs.«01_k».proof.Defs
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutWholeIdeal
public import proofs.«01_k».proof.Proof.Gen.OutWholeIdeal.Run
public import proofs.«01_k».proof.Proof.Step

@[expose] public section

/-! # The step of a weight of `128 × 1024`

One point, of all the rows. What a point writes back is its block of the step on the whole arrays (`Step.lean`), and
the blocks cover the arrays. -/

noncomputable section

namespace Cert.StepOut

open Cert.OutIdeal Cert.OutIdeal.Gen
open Idealize.ShloMosaic Idealize.ShloMosaic.TcCoe Idealize.SL.Sem
open Cert.Step

section Kernel

variable {F : FTy → Type} [FloatOps F]
variable (m : (ℓ : Loc nD τ sig) → Buf (Elt F) ℓ) (ρ : Dev nD → PrngReg)

/-- An argument at the launch. -/
abbrev arg (c : Dev nD) (b : Ref sig .tc) : Buf (Elt F) ((c : Thread nD τ).loc b) := m ((c : Thread nD τ).loc b)
/-- The gradient: the sum of the slots. -/
abbrev grad (c : Dev nD) : FVec F ⟨2, ![128, 1024]⟩ .f32 := total (n := 128) (k := 1024) (arg m c main_arg0)

/-- The sum of a point's slots is the point's block of the gradient. -/
theorem sum_block (c : Dev nD) (t : Fin cfg0.N) :
    k0_pay5 (iblk m c 0 t) (iblk m c 1 t) (iblk m c 2 t) (iblk m c 3 t) = (win0_4.blk t).view.read (Elt F) (grad m c) := by
  refine (total_ld (iblk m c 0 t) (by decide) shapeCasts_S1x128x1024_S128x1024).trans
    (total_block (n := 128) (arg m c main_arg0) (win0_4.blk t).view.emb (iblk m c 0 t) fun p i => ?_)
  refine congrArg (arg m c main_arg0) (funext fun a => Fin.ext ?_)
  match a with
  | 0 => exact (Nat.zero_add _).trans (Nat.one_mul _)
  | 1 => rfl
  | 2 => rfl

theorem flushed4 (c : Dev nD) (t : Fin cfg0.N) : (dats m 0 c).flushed 4 t = (win0_4.blk t).view.read (Elt F) (grad m c) := by
  show (cfg0.win 4).cut (grid0.coords t) ((dats m 0 c).after 4 t) = _
  rw [after0_4]; unfold out0_4; rw [View.canon_unit_zero off2, sum_block]

theorem flushed5 (c : Dev nD) (t : Fin cfg0.N) : (dats m 0 c).flushed 5 t
    = (win0_5.blk t).view.read (Elt F) (change (grad m c) (arg m c main_arg1) (arg m c main_arg2) (arg m c main_arg3)) := by
  show (cfg0.win 5).cut (grid0.coords t) ((dats m 0 c).after 5 t) = _
  rw [after0_5]; unfold out0_5; rw [View.canon_unit_zero off2, sum_block, View.ld_unit_zero off2, View.ld_unit_zero off2, View.ld_unit_zero off2]; rfl

theorem flushed6 (c : Dev nD) (t : Fin cfg0.N) :
    (dats m 0 c).flushed 6 t = (win0_6.blk t).view.read (Elt F) (mean (grad m c) (arg m c main_arg2)) := by
  show (cfg0.win 6).cut (grid0.coords t) ((dats m 0 c).after 6 t) = _
  rw [after0_6]; unfold out0_6; rw [View.canon_unit_zero off2, sum_block, View.ld_unit_zero off2]; rfl

theorem flushed7 (c : Dev nD) (t : Fin cfg0.N) :
    (dats m 0 c).flushed 7 t = (win0_7.blk t).view.read (Elt F) (square (grad m c) (arg m c main_arg3)) := by
  show (cfg0.win 7).cut (grid0.coords t) ((dats m 0 c).after 7 t) = _
  rw [after0_7]; unfold out0_7; rw [View.canon_unit_zero off2, sum_block, View.ld_unit_zero off2]; rfl

/-- Every result's blocks cover it. -/
theorem covers : (cfg0.win 4).Covers ∧ (cfg0.win 5).Covers ∧ (cfg0.win 6).Covers ∧ (cfg0.win 7).Covers := by decide +kernel

end Kernel

/-! ## The claims -/

theorem frame_kernel : Cert.quiescent_Out (hOut := Cert.Out.Gen.facts) := fun m g _ => Cert.Out.Gen.frame (F := Bits) m g

theorem frame_ideal : Cert.quiescent_OutIdeal (hOutIdeal := Cert.OutIdeal.Gen.facts) := fun m g _ => Cert.OutIdeal.Gen.frame (F := Ideal) m g

theorem frame_reference : Cert.quiescent_OutWholeIdeal (hOutWholeIdeal := Cert.OutWholeIdeal.Gen.facts) := fun m g _ =>
  (θ_run (Cert.OutWholeIdeal.defs (F := Ideal)) _ _).mono (fun r h => ⟨fun c => (h c).2.2.2.2, sem_eq_zero_of_no_sems (by decide) r.2⟩)
    (Cert.OutWholeIdeal.Value.run (F := Ideal) m g)

theorem values : Cert.algebraic_OutIdeal_OutWholeIdeal (hOutIdeal := Cert.OutIdeal.Gen.facts)
    (hOutWholeIdeal := Cert.OutWholeIdeal.Gen.facts) := fun m g m' g' _ hm =>
  ⟨fun c => grad m c, fun c => change (grad m c) (arg m c main_arg1) (arg m c main_arg2) (arg m c main_arg3),
    fun c => mean (grad m c) (arg m c main_arg2), fun c => square (grad m c) (arg m c main_arg3),
    (θ_run (defs (F := Ideal)) _ _).mono (fun _ h c =>
      ⟨((h c).1 4).trans ((dats m 0 c).arrAt_eq_of_cover 4 _ (fun t _ => flushed4 m c t) (covers.1.cover _ (Memref.isWhole_whole _))),
        ((h c).1 5).trans ((dats m 0 c).arrAt_eq_of_cover 5 _ (fun t _ => flushed5 m c t) (covers.2.1.cover _ (Memref.isWhole_whole _))),
        ((h c).1 6).trans ((dats m 0 c).arrAt_eq_of_cover 6 _ (fun t _ => flushed6 m c t) (covers.2.2.1.cover _ (Memref.isWhole_whole _))),
        ((h c).1 7).trans ((dats m 0 c).arrAt_eq_of_cover 7 _ (fun t _ => flushed7 m c t) (covers.2.2.2.cover _ (Memref.isWhole_whole _))),
        ((h c).1 0).trans ((dats m 0 c).arrAt_in 0 rfl _), ((h c).1 1).trans ((dats m 0 c).arrAt_in 1 rfl _),
        ((h c).1 2).trans ((dats m 0 c).arrAt_in 2 rfl _), ((h c).1 3).trans ((dats m 0 c).arrAt_in 3 rfl _)⟩) (run_main (F := Ideal) m g),
    (θ_run (Cert.OutWholeIdeal.defs (F := Ideal)) _ _).mono (fun _ h c => by
      obtain ⟨e0, e1, e2, e3⟩ := hm c
      obtain ⟨h0, h1, h2, h3, h4⟩ := h c
      rw [total_host (n := 128) (k := 1024), e0] at h0
      rw [total_host (n := 128) (k := 1024), e0, e1, e2, e3] at h1
      rw [total_host (n := 128) (k := 1024), e0, e2] at h2
      rw [total_host (n := 128) (k := 1024), e0, e3] at h3
      exact ⟨h0, h1, h2, h3, h4⟩) (Cert.OutWholeIdeal.Value.run (F := Ideal) m' g')⟩

end Cert.StepOut

end
-- ==== Proof.StepPair.lean ====
module

public import proofs.«01_k».proof.Defs
public import proofs.«01_k».proof.Proof.Gen.Pair
public import proofs.«01_k».proof.Proof.Gen.Pair.Frame
public import proofs.«01_k».proof.Proof.Gen.PairIdeal
public import proofs.«01_k».proof.Proof.Gen.PairIdeal.Frame
public import proofs.«01_k».proof.Proof.Gen.PairWholeIdeal
public import proofs.«01_k».proof.Proof.Gen.PairWholeIdeal.Run
public import proofs.«01_k».proof.Proof.Step

@[expose] public section

/-! # The step of a weight of `1024 × 256`

Four points of 256 rows. What a point writes back is its block of the step on the whole arrays (`Step.lean`), and
the blocks cover the arrays. -/

noncomputable section

namespace Cert.StepPair

open Cert.PairIdeal Cert.PairIdeal.Gen
open Idealize.ShloMosaic Idealize.ShloMosaic.TcCoe Idealize.SL.Sem
open Cert.Step

section Kernel

variable {F : FTy → Type} [FloatOps F]
variable (m : (ℓ : Loc nD τ sig) → Buf (Elt F) ℓ) (ρ : Dev nD → PrngReg)

/-- An argument at the launch. -/
abbrev arg (c : Dev nD) (b : Ref sig .tc) : Buf (Elt F) ((c : Thread nD τ).loc b) := m ((c : Thread nD τ).loc b)
/-- The gradient: the sum of the slots. -/
abbrev grad (c : Dev nD) : FVec F ⟨2, ![1024, 256]⟩ .f32 := total (n := 1024) (k := 256) (arg m c main_arg0)

/-- The sum of a point's slots is the point's block of the gradient. -/
theorem sum_block (c : Dev nD) (t : Fin cfg0.N) :
    k0_pay5 (iblk m c 0 t) (iblk m c 1 t) (iblk m c 2 t) (iblk m c 3 t) = (win0_4.blk t).view.read (Elt F) (grad m c) := by
  refine (total_ld (iblk m c 0 t) (by decide) shapeCasts_S1x256x256_S256x256).trans
    (total_block (n := 1024) (arg m c main_arg0) (win0_4.blk t).view.emb (iblk m c 0 t) fun p i => ?_)
  refine congrArg (arg m c main_arg0) (funext fun a => Fin.ext ?_)
  match a with
  | 0 => exact (Nat.zero_add _).trans (Nat.one_mul _)
  | 1 => rfl
  | 2 => rfl

theorem flushed4 (c : Dev nD) (t : Fin cfg0.N) : (dats m 0 c).flushed 4 t = (win0_4.blk t).view.read (Elt F) (grad m c) := by
  show (cfg0.win 4).cut (grid0.coords t) ((dats m 0 c).after 4 t) = _
  rw [after0_4]; unfold out0_4; rw [View.canon_unit_zero off2, sum_block]

theorem flushed5 (c : Dev nD) (t : Fin cfg0.N) : (dats m 0 c).flushed 5 t
    = (win0_5.blk t).view.read (Elt F) (change (grad m c) (arg m c main_arg1) (arg m c main_arg2) (arg m c main_arg3)) := by
  show (cfg0.win 5).cut (grid0.coords t) ((dats m 0 c).after 5 t) = _
  rw [after0_5]; unfold out0_5; rw [View.canon_unit_zero off2, sum_block, View.ld_unit_zero off2, View.ld_unit_zero off2, View.ld_unit_zero off2]; rfl

theorem flushed6 (c : Dev nD) (t : Fin cfg0.N) :
    (dats m 0 c).flushed 6 t = (win0_6.blk t).view.read (Elt F) (mean (grad m c) (arg m c main_arg2)) := by
  show (cfg0.win 6).cut (grid0.coords t) ((dats m 0 c).after 6 t) = _
  rw [after0_6]; unfold out0_6; rw [View.canon_unit_zero off2, sum_block, View.ld_unit_zero off2]; rfl

theorem flushed7 (c : Dev nD) (t : Fin cfg0.N) :
    (dats m 0 c).flushed 7 t = (win0_7.blk t).view.read (Elt F) (square (grad m c) (arg m c main_arg3)) := by
  show (cfg0.win 7).cut (grid0.coords t) ((dats m 0 c).after 7 t) = _
  rw [after0_7]; unfold out0_7; rw [View.canon_unit_zero off2, sum_block, View.ld_unit_zero off2]; rfl

/-- Every result's blocks cover it. -/
theorem covers : (cfg0.win 4).Covers ∧ (cfg0.win 5).Covers ∧ (cfg0.win 6).Covers ∧ (cfg0.win 7).Covers := by decide +kernel

end Kernel

/-! ## The claims -/

theorem frame_kernel : Cert.quiescent_Pair (hPair := Cert.Pair.Gen.facts) := fun m g _ => Cert.Pair.Gen.frame (F := Bits) m g

theorem frame_ideal : Cert.quiescent_PairIdeal (hPairIdeal := Cert.PairIdeal.Gen.facts) := fun m g _ => Cert.PairIdeal.Gen.frame (F := Ideal) m g

theorem frame_reference : Cert.quiescent_PairWholeIdeal (hPairWholeIdeal := Cert.PairWholeIdeal.Gen.facts) := fun m g _ =>
  (θ_run (Cert.PairWholeIdeal.defs (F := Ideal)) _ _).mono (fun r h => ⟨fun c => (h c).2.2.2.2, sem_eq_zero_of_no_sems (by decide) r.2⟩)
    (Cert.PairWholeIdeal.Value.run (F := Ideal) m g)

theorem values : Cert.algebraic_PairIdeal_PairWholeIdeal (hPairIdeal := Cert.PairIdeal.Gen.facts)
    (hPairWholeIdeal := Cert.PairWholeIdeal.Gen.facts) := fun m g m' g' _ hm =>
  ⟨fun c => grad m c, fun c => change (grad m c) (arg m c main_arg1) (arg m c main_arg2) (arg m c main_arg3),
    fun c => mean (grad m c) (arg m c main_arg2), fun c => square (grad m c) (arg m c main_arg3),
    (θ_run (defs (F := Ideal)) _ _).mono (fun _ h c =>
      ⟨((h c).1 4).trans ((dats m 0 c).arrAt_eq_of_cover 4 _ (fun t _ => flushed4 m c t) (covers.1.cover _ (Memref.isWhole_whole _))),
        ((h c).1 5).trans ((dats m 0 c).arrAt_eq_of_cover 5 _ (fun t _ => flushed5 m c t) (covers.2.1.cover _ (Memref.isWhole_whole _))),
        ((h c).1 6).trans ((dats m 0 c).arrAt_eq_of_cover 6 _ (fun t _ => flushed6 m c t) (covers.2.2.1.cover _ (Memref.isWhole_whole _))),
        ((h c).1 7).trans ((dats m 0 c).arrAt_eq_of_cover 7 _ (fun t _ => flushed7 m c t) (covers.2.2.2.cover _ (Memref.isWhole_whole _))),
        ((h c).1 0).trans ((dats m 0 c).arrAt_in 0 rfl _), ((h c).1 1).trans ((dats m 0 c).arrAt_in 1 rfl _),
        ((h c).1 2).trans ((dats m 0 c).arrAt_in 2 rfl _), ((h c).1 3).trans ((dats m 0 c).arrAt_in 3 rfl _)⟩) (run_main (F := Ideal) m g),
    (θ_run (Cert.PairWholeIdeal.defs (F := Ideal)) _ _).mono (fun _ h c => by
      obtain ⟨e0, e1, e2, e3⟩ := hm c
      obtain ⟨h0, h1, h2, h3, h4⟩ := h c
      rw [total_host (n := 1024) (k := 256), e0] at h0
      rw [total_host (n := 1024) (k := 256), e0, e1, e2, e3] at h1
      rw [total_host (n := 1024) (k := 256), e0, e2] at h2
      rw [total_host (n := 1024) (k := 256), e0, e3] at h3
      exact ⟨h0, h1, h2, h3, h4⟩) (Cert.PairWholeIdeal.Value.run (F := Ideal) m' g')⟩

end Cert.StepPair

end
-- ==== Proof.Back.lean ====
module

public import proofs.«01_k».proof.Proof.Gen.BackIdeal.Skeleton
public import proofs.«01_k».proof.Proof.Gen.BackWholeIdeal
public import Idealize.ShloMosaic.Lib.Pointwise

@[expose] public section

/-! # The gradient through the RMS norm, over the extended reals

Row by row: what a row of the product, of `x` and of `dy` and the weights of the norm give for the row of the gradient,
and for the row's part of the gradient of the weights. Then the kernel's vectors and the reference's arrays, read at an
index, are these functions of rows. -/

noncomputable section

namespace Cert.Gradient

open Idealize.ShloMosaic
open scoped BigOperators

/-- A row of 1024. -/
abbrev Row := Fin 1024 → EReal

/-- The row length, as the literal. -/
def width : EReal := Ideal.ofBits .f32 0x44800000#32

/-- The reciprocal root of the mean square. -/
def root (x : Row) : EReal := Ideal.rsqrt (Ideal.div (∑ k, x k * x k) width + Ideal.ofBits .f32 0x358637BD#32)

/-- The normed row. -/
def normed (x : Row) : Row := fun k => x k * root x

/-- The row of the gradient: `d` the product's row. -/
def back (d x g y : Row) : Row := fun k =>
  root x * (d k * g k - normed x k * Ideal.div (∑ l, d l * g l * normed x l) width) + y k

/-- The row's part of the gradient of the weights. -/
def part (d x : Row) : Row := fun k => d k * normed x k

/-- Row `p` of an array. -/
def rowOf {n : Nat} (x : (⟨2, ![n, 1024]⟩ : Shape).Idx → EReal) (p : Fin n) : Row := fun k => x (ix2 p k)

/-- The product's slice `b`: its two halves'. -/
def slice (u : (⟨4, ![2, 4, 4096, 704]⟩ : Shape).Idx → EReal) (w : (⟨4, ![2, 4, 1024, 704]⟩ : Shape).Idx → EReal) (b : Fin 4)
    (t : Fin 4096) (k : Fin 1024) : EReal :=
  (∑ f : Fin 704, u (ix4 0 b t f) * w (ix4 0 b k f)) + ∑ f : Fin 704, u (ix4 1 b t f) * w (ix4 1 b k f)

/-- The product: the four slices. -/
def product (u : (⟨4, ![2, 4, 4096, 704]⟩ : Shape).Idx → EReal) (w : (⟨4, ![2, 4, 1024, 704]⟩ : Shape).Idx → EReal) (t : Fin 4096) : Row :=
  fun k => slice u w 0 t k + slice u w 1 t k + slice u w 2 t k + slice u w 3 t k

section Kernel

open Cert.BackIdeal Cert.BackIdeal.Gen

/-- A point's product: its two halves'. -/
theorem product_apply (v0 : Vec Ideal S1x1x512x704 .bf16) (v2 : Vec Ideal S1x1x1024x704 .bf16)
    (v5 : Vec Ideal S1x1x512x704 .bf16) (v7 : Vec Ideal S1x1x1024x704 .bf16) (p : Fin 512) (k : Fin 1024) :
    k0_pay1 (F := Ideal) v0 v2 v5 v7 (ix2 p k)
      = (∑ f : Fin 704, v0 (ix4 0 0 p f) * v2 (ix4 0 0 k f)) + ∑ f : Fin 704, v5 (ix4 0 0 p f) * v7 (ix4 0 0 k f) := by
  pointwise [k0_pay1]

theorem back_apply (d x : Vec Ideal S512x1024 .f32) (g : Vec Ideal S1x1024 .f32) (y : Vec Ideal S512x1024 .f32)
    (p : Fin 512) (k : Fin 1024) :
    k0_pay6 (F := Ideal) d x g y (ix2 p k) = back (rowOf d p) (rowOf x p) (rowOf g 0) (rowOf y p) k := by
  pointwise [k0_pay6, k0_pay5, k0_pay4, back, normed, root, rowOf, width]

theorem part_apply (d x : Vec Ideal S512x1024 .f32) (k : Fin 1024) :
    k0_pay7 (F := Ideal) d x (ix2 0 k) = ∑ p : Fin 512, part (rowOf d p) (rowOf x p) k := by
  pointwise [k0_pay7, k0_pay5, k0_pay4, part, normed, root, rowOf, width]

end Kernel

section Host

open Cert.BackWholeIdeal Cert.BackWholeIdeal.Gen

/-- The three contracted coordinates of the host's product. -/
def contrEquiv : dot_S2x4x4096x704_S2x4x1024x704_S4096x1024_013_013_2_2_n_n.contr.Idx ≃ Fin 2 × Fin 4 × Fin 704 where
  toFun q := (q ⟨0, by decide⟩, q ⟨1, by decide⟩, q ⟨2, by decide⟩)
  invFun p := fun | ⟨0, _⟩ => p.1 | ⟨1, _⟩ => p.2.1 | ⟨2, _⟩ => p.2.2
  left_inv q := funext fun a => match a with | ⟨0, _⟩ => rfl | ⟨1, _⟩ => rfl | ⟨2, _⟩ => rfl
  right_inv p := rfl

theorem contr_val (p : Fin 2 × Fin 4 × Fin 704) :
    (contrEquiv.symm p ⟨0, by decide⟩).val = p.1.val ∧ (contrEquiv.symm p ⟨1, by decide⟩).val = p.2.1.val ∧ (contrEquiv.symm p ⟨2, by decide⟩).val = p.2.2.val :=
  ⟨rfl, rfl, rfl⟩

/-- The host's product. -/
theorem host_product (u : FVec Ideal S2x4x4096x704 .bf16) (w : FVec Ideal S2x4x1024x704 .bf16) (t : Fin 4096) (k : Fin 1024) :
    Host.dotGeneral dot_S2x4x4096x704_S2x4x1024x704_S4096x1024_013_013_2_2_n_n none u w (ix2 t k)
      = product u w t k := by
  show FloatOps.dotGeneral _ _ _ _ _ _ = _
  rw [Ideal.dotGeneral_apply, ← Equiv.sum_comp contrEquiv.symm, Fintype.sum_prod_type]
  have e : ∀ (a : Fin 2) (p : Fin 4 × Fin 704),
      u (dot_S2x4x4096x704_S2x4x1024x704_S4096x1024_013_013_2_2_n_n.lhsIdx (ix2 t k) (contrEquiv.symm (a, p)))
        * w (dot_S2x4x4096x704_S2x4x1024x704_S4096x1024_013_013_2_2_n_n.rhsIdx (ix2 t k) (contrEquiv.symm (a, p)))
        = u (ix4 a p.1 t p.2) * w (ix4 a p.1 k p.2) := fun a p => by
    congr 2
    · funext i; apply Fin.ext
      match i with
      | ⟨0, _⟩ => exact (contr_val (a, p)).1
      | ⟨1, _⟩ => exact (contr_val (a, p)).2.1
      | ⟨2, _⟩ => rfl
      | ⟨3, _⟩ => exact (contr_val (a, p)).2.2
    · funext i; apply Fin.ext
      match i with
      | ⟨0, _⟩ => exact (contr_val (a, p)).1
      | ⟨1, _⟩ => exact (contr_val (a, p)).2.1
      | ⟨2, _⟩ => rfl
      | ⟨3, _⟩ => exact (contr_val (a, p)).2.2
  simp only [e, Fintype.sum_prod_type, Fin.sum_univ_two, Fin.sum_univ_four]
  unfold product slice
  abel

/-- The host's reciprocal roots. -/
def roots (x : FVec Ideal S4096x1024 .f32) : FVec Ideal S4096x1 .f32 :=
  Host.rsqrt (addf (Host.divf (broadcastInDim S4096x1 ![0] bcast_S4096_S4096x1_0
    (Host.reduceAdd (mulf x x) (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x358637BD#32)))

/-- The host's normed rows. -/
def norms (x : FVec Ideal S4096x1024 .f32) : FVec Ideal S4096x1024 .f32 :=
  mulf x (broadcastInDim S4096x1024 ![0, 1] bcast_S4096x1_S4096x1024_0_1 (roots x))

/-- The host's gradient, of the product `d`. -/
def hostBack (d x : FVec Ideal S4096x1024 .f32) (g : FVec Ideal S1x1024 .f32) (y : FVec Ideal S4096x1024 .f32) :
    FVec Ideal S4096x1024 .f32 :=
  addf y (mulf (broadcastInDim S4096x1024 ![0, 1] bcast_S4096x1_S4096x1024_0_1 (roots x))
    (subf (mulf d (broadcastInDim S4096x1024 ![0, 1] bcast_S1x1024_S4096x1024_0_1 g))
      (mulf (norms x) (broadcastInDim S4096x1024 ![0, 1] bcast_S4096x1_S4096x1024_0_1
        (Host.divf (broadcastInDim S4096x1 ![0] bcast_S4096_S4096x1_0
          (Host.reduceAdd (mulf (mulf d (broadcastInDim S4096x1024 ![0, 1] bcast_S1x1024_S4096x1024_0_1 g)) (norms x))
            (constant S_ .f32 0x00000000#32) reducesTo_S4096x1024_S4096_d1 h_S_))
          (broadcastInDim S4096x1 ![] bcast_S_S4096x1 (constant S_ .f32 0x44800000#32)))))))

/-- The host's gradient of the weights, of the product `d`. -/
def hostPart (d x : FVec Ideal S4096x1024 .f32) : FVec Ideal S1x1024 .f32 :=
  broadcastInDim S1x1024 ![1] bcast_S1024_S1x1024_1
    (Host.reduceAdd (mulf d (norms x)) (constant S_ .f32 0x00000000#32) reducesTo_S4096x1024_S1024_d0 h_S_)

theorem hostBack_apply (d x : FVec Ideal S4096x1024 .f32) (g : FVec Ideal S1x1024 .f32) (y : FVec Ideal S4096x1024 .f32)
    (t : Fin 4096) (k : Fin 1024) : hostBack d x g y (ix2 t k) = back (rowOf d t) (rowOf x t) (rowOf g 0) (rowOf y t) k := by
  pointwise [hostBack, norms, roots, back, normed, root, rowOf, width]
  exact add_comm _ _

theorem hostPart_apply (d x : FVec Ideal S4096x1024 .f32) (k : Fin 1024) :
    hostPart d x (ix2 0 k) = ∑ t : Fin 4096, part (rowOf d t) (rowOf x t) k := by
  pointwise [hostPart, norms, roots, part, normed, root, rowOf, width]

end Host

end Cert.Gradient

end
-- ==== Proof.Fours.lean ====
module

public import Mathlib.Data.EReal.Operations
public import Mathlib.Algebra.BigOperators.Group.Finset.Basic

@[expose] public section

/-! # Sums over points taken four by four

Points `0, 1, …` in groups of four. One quantity starts anew with every group and collects a term at each of its points;
another is carried through all points and collects a group's sum at the group's last. -/

namespace Cert.Fours

open scoped BigOperators

variable {N : Nat}

/-- A quantity that starts anew at the first point of four and collects a term at each: its value at the last. -/
theorem group {α : Type} [Add α] (v : (n : Nat) → n < N → α) (s : (n : Nat) → n < N → α)
    (first : ∀ n h, n % 4 = 0 → v n h = s n h)
    (next : ∀ n h, ¬n % 4 = 0 → v n h = v (n - 1) (Nat.lt_of_le_of_lt (Nat.sub_le _ _) h) + s n h)
    (i : Nat) (h : 4 * i + 3 < N) :
    v (4 * i + 3) h = s (4 * i) (by omega) + s (4 * i + 1) (by omega) + s (4 * i + 2) (by omega) + s (4 * i + 3) h := by
  rw [next (4 * i + 3) h (by omega), show v (4 * i + 3 - 1) _ = _ from next (4 * i + 2) (by omega) (by omega),
    show v (4 * i + 2 - 1) _ = _ from next (4 * i + 1) (by omega) (by omega),
    show v (4 * i + 1 - 1) _ = _ from first (4 * i) (by omega) (by omega)]

/-- A quantity that is carried through the points and at the last of each four collects the sum of `f` over `b` numbers more:
    its value there. -/
theorem carried {α : Type} [AddCommMonoid α] (v : (n : Nat) → n < N → α) (f : Nat → α) (b : Nat)
    (first : ∀ h, v 3 h = ∑ p ∈ Finset.range b, f (b * (3 / 4) + p))
    (next : ∀ n h, n % 4 = 3 → 4 ≤ n →
      v n h = v (n - 1) (Nat.lt_of_le_of_lt (Nat.sub_le _ _) h) + ∑ p ∈ Finset.range b, f (b * (n / 4) + p))
    (carry : ∀ n h, ¬n % 4 = 3 → v n h = v (n - 1) (Nat.lt_of_le_of_lt (Nat.sub_le _ _) h))
    (i : Nat) : ∀ h : 4 * i + 3 < N, v (4 * i + 3) h = ∑ n ∈ Finset.range (b * (i + 1)), f n := by
  induction i with
  | zero =>
    intro h
    refine (first h).trans ?_
    simp
  | succ i ih =>
    intro h
    rw [next (4 * (i + 1) + 3) h (by omega) (by omega),
      show v (4 * (i + 1) + 3 - 1) _ = _ from carry (4 * (i + 1) + 2) (by omega) (by omega),
      show v (4 * (i + 1) + 2 - 1) _ = _ from carry (4 * (i + 1) + 1) (by omega) (by omega),
      show v (4 * (i + 1) + 1 - 1) _ = _ from carry (4 * (i + 1)) (by omega) (by omega),
      show v (4 * (i + 1) - 1) _ = _ from ih (by omega), Nat.mul_add b (i + 1) 1, Nat.mul_one, Finset.sum_range_add,
      show (4 * (i + 1) + 3) / 4 = i + 1 by omega]

end Cert.Fours
-- ==== Proof.BackRun.lean ====
module

public import proofs.«01_k».proof.Proof.Gen.BackIdeal.Value
public import proofs.«01_k».proof.Proof.Back
public import proofs.«01_k».proof.Proof.Fours
public import Idealize.ShloMosaic.Lib.Pipeline.ValueKit

@[expose] public section

/-! # The gradient's kernel, point by point

Point `4 i + b` adds slice `b` of the product for the 512 rows from `512 i` into the scratch. At the last of the four the
rows' gradient is stored, and the rows' part of the gradient of the weights is added to what the blocks before left. -/

noncomputable section

namespace Cert.Gradient

open Cert.BackIdeal Cert.BackIdeal.Gen
open Idealize.ShloMosaic Idealize.ShloMosaic.TcCoe Idealize.SL.Sem
open scoped BigOperators

variable (m : (ℓ : Loc nD τ sig) → Buf (Elt Ideal) ℓ)

/-- An argument at the launch. -/
abbrev arg (c : Dev nD) (b : Ref sig .tc) : Buf (Elt Ideal) ((c : Thread nD τ).loc b) := m ((c : Thread nD τ).loc b)

/-! ## The blocks -/

theorem lt_points (t : Fin cfg0.N) : t.val < 32 := lt_of_lt_of_eq t.isLt N_0

/-- The slice a point adds. -/
def slot (t : Fin cfg0.N) : Fin 4 := ⟨t.val % 4, Nat.mod_lt _ (by decide)⟩

/-- Row `p` of a point's rows. -/
def place (t : Fin cfg0.N) (p : Fin 512) : Fin 4096 := ⟨512 * (t.val / 4) + p.val, by have := lt_points t; have := p.isLt; omega⟩

theorem index_uw : ∀ t : Fin cfg0.N, (win0_0.index t (0 : Fin 4) = 0 ∧ win0_0.index t (1 : Fin 4) = t.val % 4
    ∧ win0_0.index t (2 : Fin 4) = t.val / 4 ∧ win0_0.index t (3 : Fin 4) = 0)
    ∧ win0_1.index t (0 : Fin 4) = 0 ∧ win0_1.index t (1 : Fin 4) = t.val % 4
    ∧ win0_1.index t (2 : Fin 4) = 0 ∧ win0_1.index t (3 : Fin 4) = 0 := by decide +kernel

theorem index_rows : ∀ t : Fin cfg0.N, (win0_2.index t (0 : Fin 2) = t.val / 4 ∧ win0_2.index t (1 : Fin 2) = 0)
    ∧ (win0_4.index t (0 : Fin 2) = t.val / 4 ∧ win0_4.index t (1 : Fin 2) = 0)
    ∧ (win0_5.index t (0 : Fin 2) = t.val / 4 ∧ win0_5.index t (1 : Fin 2) = 0)
    ∧ (win0_3.index t (0 : Fin 2) = 0 ∧ win0_3.index t (1 : Fin 2) = 0)
    ∧ win0_6.index t (0 : Fin 2) = 0 ∧ win0_6.index t (1 : Fin 2) = 0 := by decide +kernel

theorem u_block (c : Dev nD) (t : Fin cfg0.N) (a : Fin 2) (p : Fin 512) (f : Fin 704) :
    (iblk m c 0 t : Vec Ideal S2x1x512x704 .bf16) (ix4 a 0 p f) = arg m c main_arg0 (ix4 a (slot t) (place t p) f) := by
  obtain ⟨⟨e0, e1, e2, e3⟩, -⟩ := index_uw t
  refine congrArg (arg m c main_arg0) (funext fun x => Fin.ext ?_)
  match x with
  | 0 => show win0_0.index t (0 : Fin 4) * 2 + 1 * a.val = a.val; omega
  | 1 => show win0_0.index t (1 : Fin 4) * 1 + 1 * 0 = t.val % 4; omega
  | 2 => show win0_0.index t (2 : Fin 4) * 512 + 1 * p.val = 512 * (t.val / 4) + p.val; omega
  | 3 => show win0_0.index t (3 : Fin 4) * 704 + 1 * f.val = f.val; omega

theorem w_block (c : Dev nD) (t : Fin cfg0.N) (a : Fin 2) (k : Fin 1024) (f : Fin 704) :
    (iblk m c 1 t : Vec Ideal S2x1x1024x704 .bf16) (ix4 a 0 k f) = arg m c main_arg1 (ix4 a (slot t) k f) := by
  obtain ⟨-, e0, e1, e2, e3⟩ := index_uw t
  refine congrArg (arg m c main_arg1) (funext fun x => Fin.ext ?_)
  match x with
  | 0 => show win0_1.index t (0 : Fin 4) * 2 + 1 * a.val = a.val; omega
  | 1 => show win0_1.index t (1 : Fin 4) * 1 + 1 * 0 = t.val % 4; omega
  | 2 => show win0_1.index t (2 : Fin 4) * 1024 + 1 * k.val = k.val; omega
  | 3 => show win0_1.index t (3 : Fin 4) * 704 + 1 * f.val = f.val; omega

theorem x_row (c : Dev nD) (t : Fin cfg0.N) (p : Fin 512) :
    rowOf (iblk m c 2 t : Vec Ideal S512x1024 .f32) p = rowOf (arg m c main_arg2) (place t p) := by
  obtain ⟨⟨e0, e1⟩, -⟩ := index_rows t
  refine funext fun k => congrArg (arg m c main_arg2) (funext fun x => Fin.ext ?_)
  match x with
  | 0 => show win0_2.index t (0 : Fin 2) * 512 + 1 * p.val = 512 * (t.val / 4) + p.val; omega
  | 1 => show win0_2.index t (1 : Fin 2) * 1024 + 1 * k.val = k.val; omega

theorem g_row (c : Dev nD) (t : Fin cfg0.N) : rowOf (iblk m c 3 t : Vec Ideal S1x1024 .f32) 0 = rowOf (arg m c main_arg3) (0 : Fin 1) := by
  obtain ⟨-, -, -, ⟨e0, e1⟩, -⟩ := index_rows t
  refine funext fun k => congrArg (arg m c main_arg3) (funext fun x => Fin.ext ?_)
  match x with
  | 0 => show win0_3.index t (0 : Fin 2) * 1 + 1 * 0 = 0; omega
  | 1 => show win0_3.index t (1 : Fin 2) * 1024 + 1 * k.val = k.val; omega

theorem y_row (c : Dev nD) (t : Fin cfg0.N) (p : Fin 512) :
    rowOf (iblk m c 4 t : Vec Ideal S512x1024 .f32) p = rowOf (arg m c main_arg4) (place t p) := by
  obtain ⟨-, ⟨e0, e1⟩, -⟩ := index_rows t
  refine funext fun k => congrArg (arg m c main_arg4) (funext fun x => Fin.ext ?_)
  match x with
  | 0 => show win0_4.index t (0 : Fin 2) * 512 + 1 * p.val = 512 * (t.val / 4) + p.val; omega
  | 1 => show win0_4.index t (1 : Fin 2) * 1024 + 1 * k.val = k.val; omega

/-! ## The scratch -/

/-- What a point adds to the scratch. -/
def now (c : Dev nD) (t : Fin cfg0.N) : FVec Ideal S512x1024 .f32 :=
  k0_pay1 (F := Ideal)
    (View.ld (iblk m c 0 t) (Rect.unit (s := S2x1x512x704) ![0, 0, 0, 0] S1x1x512x704.size inb_S2x1x512x704_S1x1x512x704_0_0_0_0))
    (View.ld (iblk m c 1 t) (Rect.unit (s := S2x1x1024x704) ![0, 0, 0, 0] S1x1x1024x704.size inb_S2x1x1024x704_S1x1x1024x704_0_0_0_0))
    (View.ld (iblk m c 0 t) (Rect.unit (s := S2x1x512x704) ![1, 0, 0, 0] S1x1x512x704.size inb_S2x1x512x704_S1x1x512x704_1_0_0_0))
    (View.ld (iblk m c 1 t) (Rect.unit (s := S2x1x1024x704) ![1, 0, 0, 0] S1x1x1024x704.size inb_S2x1x1024x704_S1x1x1024x704_1_0_0_0))

/-- A half loaded from a block of two. -/
theorem half_ld {n : Nat} (X : Vec Ideal ⟨4, ![2, 1, n, 704]⟩ .bf16) (a : Fin 2)
    (inb : ∀ x, (![a.val, 0, 0, 0] : Fin 4 → Nat) x + (![1, 1, n, 704] : Fin 4 → Nat) x ≤ (![2, 1, n, 704] : Fin 4 → Nat) x)
    (p : Fin n) (f : Fin 704) :
    View.ld (Val := Elt Ideal) (e' := .bf16) X (Rect.unit (s := ⟨4, ![2, 1, n, 704]⟩) ![a.val, 0, 0, 0] ![1, 1, n, 704] inb)
      (ix4 (0 : Fin 1) (0 : Fin 1) p f) = X (ix4 a 0 p f) := by
  refine View.ld_unit_apply_of _ _ _ _ _ _ fun x => ?_
  match x with
  | 0 => rfl
  | 1 => rfl
  | 2 => exact (Nat.zero_add _).symm
  | 3 => exact (Nat.zero_add _).symm

theorem now_apply (c : Dev nD) (t : Fin cfg0.N) (p : Fin 512) (k : Fin 1024) :
    now m c t (ix2 p k) = slice (arg m c main_arg0) (arg m c main_arg1) (slot t) (place t p) k := by
  refine (product_apply _ _ _ _ p k).trans ?_
  unfold slice
  congr 1
  · refine Finset.sum_congr rfl fun f _ => ?_
    exact congrArg₂ (· * ·) ((half_ld (iblk m c 0 t) 0 _ p f).trans (u_block m c t 0 p f))
      ((half_ld (iblk m c 1 t) 0 _ k f).trans (w_block m c t 0 k f))
  · refine Finset.sum_congr rfl fun f _ => ?_
    exact congrArg₂ (· * ·) ((half_ld (iblk m c 0 t) 1 _ p f).trans (u_block m c t 1 p f))
      ((half_ld (iblk m c 1 t) 1 _ k f).trans (w_block m c t 1 k f))

theorem add_eq (v0 v2 v5 v7 : _) (d : Vec Ideal S512x1024 .f32) :
    k0_pay3 (F := Ideal) v0 v2 v5 v7 d = addf d (k0_pay1 (F := Ideal) v0 v2 v5 v7) := shapeCast_self _ _

/-- The scratch read whole is what was stored into it. -/
theorem stored (h : (Memref.whole cc0_scratch0).IsWhole) (X : Vec Ideal S512x1024 .f32) :
    View.read (Elt Ideal) (View.whole cc0_scratch0) (h.unread X) = X :=
  Memref.IsWhole.read_unread h X

/-- The first of the four points stores its slice. -/
theorem scratch_first (c : Dev nD) (t : Fin cfg0.N) (h : t.val % 4 = 0) : (outsAt0 m c t.val t.isLt).2.2 = now m c t := by
  rw [outsAt0_A m c t h (by omega) (by omega)]
  frame_out
  exact shapeCast_self _ _

/-- What the scratch and the gradient of the weights hold before a point. -/
abbrev before (c : Dev nD) (t : Fin cfg0.N) := outsAt0 m c (t.val - 1) (Nat.lt_of_le_of_lt (Nat.sub_le _ _) t.isLt)

/-- The others add theirs to what the point before left. -/
theorem scratch_next (c : Dev nD) (t : Fin cfg0.N) (h : ¬t.val % 4 = 0) :
    (outsAt0 m c t.val t.isLt).2.2 = addf (before m c t).2.2 (now m c t) := by
  by_cases h3 : t.val % 4 = 3
  · by_cases h4 : t.val < 4
    · rw [outsAt0_C m c t h (by omega) h3 h4 (by omega)]
      frame_out
      rw [stored]
      exact add_eq ..
    · rw [outsAt0_D m c t h (by omega) h3 h4 (by omega)]
      frame_out
      rw [stored]
      exact add_eq ..
  · rw [outsAt0_B m c t h (by omega) h3]
    frame_out
    rw [stored]
    exact add_eq ..

/-- After the fourth point the scratch holds the product's rows. -/
theorem scratch_last (c : Dev nD) (t : Fin cfg0.N) (h : t.val % 4 = 3) (p : Fin 512) :
    rowOf (outsAt0 m c t.val t.isLt).2.2 p = product (arg m c main_arg0) (arg m c main_arg1) (place t p) := by
  funext k
  obtain ⟨n, hn⟩ := t
  obtain ⟨i, rfl⟩ : ∃ i, n = 4 * i + 3 := ⟨n / 4, by simp only at h; omega⟩
  refine (Fours.group (fun n h => (outsAt0 m c n h).2.2 (ix2 p k)) (fun n h => now m c ⟨n, h⟩ (ix2 p k))
    (fun n h h0 => congrFun (scratch_first m c ⟨n, h⟩ h0) _) (fun n h h0 => congrFun (scratch_next m c ⟨n, h⟩ h0) _) i hn).trans ?_
  have e (b : Fin 4) (h : 4 * i + b.val < cfg0.N) :
      now m c ⟨4 * i + b.val, h⟩ (ix2 p k) = slice (arg m c main_arg0) (arg m c main_arg1) b (place ⟨4 * i + 3, hn⟩ p) k := by
    rw [now_apply]
    have := b.isLt
    congr 1
    · exact Fin.ext (by show (4 * i + b.val) % 4 = b.val; omega)
    · exact Fin.ext (by show 512 * ((4 * i + b.val) / 4) + p.val = 512 * ((4 * i + 3) / 4) + p.val; omega)
  exact congrArg₂ (· + ·) (congrArg₂ (· + ·) (congrArg₂ (· + ·) (e 0 _) (e 1 _)) (e 2 _)) (e 3 _)

/-! ## The two results -/

/-- The fourth point stores the rows' gradient. -/
theorem rows_last (c : Dev nD) (t : Fin cfg0.N) (h : t.val % 4 = 3) :
    (outsAt0 m c t.val t.isLt).1
      = k0_pay6 (F := Ideal) (outsAt0 m c t.val t.isLt).2.2 (iblk m c 2 t) (iblk m c 3 t) (iblk m c 4 t) := by
  rw [scratch_next m c t (by omega)]
  by_cases h4 : t.val < 4
  · rw [outsAt0_C m c t (by omega) (by omega) h h4 (by omega)]
    frame_out
    rw [stored, add_eq]
    rfl
  · rw [outsAt0_D m c t (by omega) (by omega) h h4 (by omega)]
    frame_out
    rw [stored, add_eq]
    rfl

theorem rows_apply (c : Dev nD) (t : Fin cfg0.N) (h : t.val % 4 = 3) (p : Fin 512) (k : Fin 1024) :
    (outsAt0 m c t.val t.isLt).1 (ix2 p k)
      = back (product (arg m c main_arg0) (arg m c main_arg1) (place t p)) (rowOf (arg m c main_arg2) (place t p))
          (rowOf (arg m c main_arg3) (0 : Fin 1)) (rowOf (arg m c main_arg4) (place t p)) k := by
  rw [rows_last m c t h, back_apply, scratch_last m c t h p, x_row, g_row, y_row]

/-- The first block's fourth point stores its part of the weights' gradient. -/
theorem weights_first (c : Dev nD) (t : Fin cfg0.N) (h : t.val = 3) :
    (outsAt0 m c t.val t.isLt).2.1 = k0_pay7 (F := Ideal) (outsAt0 m c t.val t.isLt).2.2 (iblk m c 2 t) := by
  rw [scratch_next m c t (by omega), outsAt0_C m c t (by omega) (by omega) (by omega) (by omega) (by omega)]
  frame_out
  rw [stored, add_eq]
  rfl

/-- The later blocks' add theirs. -/
theorem weights_next (c : Dev nD) (t : Fin cfg0.N) (h : t.val % 4 = 3) (h4 : 4 ≤ t.val) :
    (outsAt0 m c t.val t.isLt).2.1
      = addf (before m c t).2.1 (k0_pay7 (F := Ideal) (outsAt0 m c t.val t.isLt).2.2 (iblk m c 2 t)) := by
  rw [scratch_next m c t (by omega), outsAt0_D m c t (by omega) (by omega) h (by omega) h4]
  frame_out
  rw [stored, add_eq]
  exact congrArg (addf · _) (shapeCast_self _ _)

/-- The points between carry it. -/
theorem weights_carried (c : Dev nD) (t : Fin cfg0.N) (h : ¬t.val % 4 = 3) :
    (outsAt0 m c t.val t.isLt).2.1 = (before m c t).2.1 := by
  by_cases h0 : t.val % 4 = 0
  · rw [outsAt0_A m c t h0 (by omega) (by omega)]
    rfl
  · rw [outsAt0_B m c t h0 (by omega) h]
    rfl

/-- A row's part of the weights' gradient, by the row's number. -/
def rowPart (c : Dev nD) (k : Fin 1024) (n : Nat) : EReal :=
  if h : n < 4096 then part (product (arg m c main_arg0) (arg m c main_arg1) ⟨n, h⟩) (rowOf (arg m c main_arg2) (⟨n, h⟩ : Fin 4096)) k
  else 0

theorem block_part (c : Dev nD) (t : Fin cfg0.N) (h : t.val % 4 = 3) (k : Fin 1024) :
    k0_pay7 (F := Ideal) (outsAt0 m c t.val t.isLt).2.2 (iblk m c 2 t) (ix2 (0 : Fin 1) k)
      = ∑ p ∈ Finset.range 512, rowPart m c k (512 * (t.val / 4) + p) := by
  rw [part_apply, Finset.sum_range]
  refine Finset.sum_congr rfl fun p _ => ?_
  rw [scratch_last m c t h p, x_row]
  have h : 512 * (t.val / 4) + p.val < 4096 := (place t p).isLt
  unfold rowPart
  rw [dif_pos h]
  rfl

/-- At the last point it is the sum over all rows. -/
theorem weights_apply (c : Dev nD) (t : Fin cfg0.N) (h : t.val % 32 = 31) (k : Fin 1024) :
    (outsAt0 m c t.val t.isLt).2.1 (ix2 (0 : Fin 1) k)
      = ∑ n : Fin 4096, part (product (arg m c main_arg0) (arg m c main_arg1) n) (rowOf (arg m c main_arg2) n) k := by
  obtain rfl : t = ⟨31, lt_of_lt_of_eq (by decide) N_0.symm⟩ := Fin.ext (by have := lt_points t; show t.val = 31; omega)
  refine (Fours.carried (fun n h => (outsAt0 m c n h).2.1 (ix2 (0 : Fin 1) k)) (rowPart m c k) 512
    (fun h => (congrFun (weights_first m c ⟨3, h⟩ rfl) _).trans (block_part m c ⟨3, h⟩ rfl k))
    (fun n h h3 h4 => (congrFun (weights_next m c ⟨n, h⟩ h3 h4) _).trans (congrArg (_ + ·) (block_part m c ⟨n, h⟩ h3 k)))
    (fun n h h3 => congrFun (weights_carried m c ⟨n, h⟩ h3) _) 7 _).trans ?_
  rw [Finset.sum_range]
  exact Finset.sum_congr rfl fun n _ => dif_pos n.isLt

end Cert.Gradient

end
-- ==== Proof.BackValues.lean ====
module

public import proofs.«01_k».proof.Defs
public import proofs.«01_k».proof.Proof.Gen.Back
public import proofs.«01_k».proof.Proof.Gen.Back.Frame
public import proofs.«01_k».proof.Proof.Gen.BackWholeIdeal.Run
public import proofs.«01_k».proof.Proof.BackRun

@[expose] public section

/-! # The gradient: the claims

What the points write back are the blocks of the host's two results, and the blocks cover them. -/

noncomputable section

namespace Cert.Gradient

open Cert.BackIdeal Cert.BackIdeal.Gen
open Idealize.ShloMosaic Idealize.ShloMosaic.TcCoe Idealize.SL.Sem
open scoped BigOperators

variable (m : (ℓ : Loc nD τ sig) → Buf (Elt Ideal) ℓ)

/-- The host's product of the first two arguments. -/
abbrev whole (c : Dev nD) : FVec Ideal ⟨2, ![4096, 1024]⟩ .f32 :=
  Host.dotGeneral (φ₁ := .bf16) (φ₂ := .bf16) Cert.BackWholeIdeal.dot_S2x4x4096x704_S2x4x1024x704_S4096x1024_013_013_2_2_n_n none
    (arg m c main_arg0) (arg m c main_arg1)

theorem whole_row (c : Dev nD) (t : Fin 4096) : rowOf (whole m c) t = product (arg m c main_arg0) (arg m c main_arg1) t :=
  funext fun k => host_product (arg m c main_arg0) (arg m c main_arg1) t k

theorem flushed_rows (c : Dev nD) (t : Fin cfg0.N) (h : (cfg0.win 5).flush t = true) : (dats m 0 c).flushed 5 t
    = (win0_5.blk t).view.read (Elt Ideal) (hostBack (whole m c) (arg m c main_arg2) (arg m c main_arg3) (arg m c main_arg4)) := by
  rw [Cert.BackIdeal.Value.flushed5]
  obtain ⟨-, -, ⟨e0, e1⟩, -⟩ := index_rows t
  funext y
  obtain ⟨p, k, rfl⟩ : ∃ (p : Fin 512) (k : Fin 1024), y = ix2 p k := ⟨y 0, y 1, eq_ix2 y⟩
  refine (rows_apply m c t ((flush0_5 t).mp h) p k).trans ?_
  rw [← whole_row, ← hostBack_apply]
  refine congrArg (hostBack _ _ _ _) (funext fun x => Fin.ext ?_)
  match x with
  | 0 => show 512 * (t.val / 4) + p.val = win0_5.index t (0 : Fin 2) * 512 + 1 * p.val; omega
  | 1 => show k.val = win0_5.index t (1 : Fin 2) * 1024 + 1 * k.val; omega

theorem flushed_weights (c : Dev nD) (t : Fin cfg0.N) (h : (cfg0.win 6).flush t = true) : (dats m 0 c).flushed 6 t
    = (win0_6.blk t).view.read (Elt Ideal) (hostPart (whole m c) (arg m c main_arg2)) := by
  rw [Cert.BackIdeal.Value.flushed6]
  obtain ⟨-, -, -, -, e0, e1⟩ := index_rows t
  funext y
  obtain ⟨p, k, rfl⟩ : ∃ (p : Fin 1) (k : Fin 1024), y = ix2 p k := ⟨y 0, y 1, eq_ix2 y⟩
  obtain rfl : p = 0 := Subsingleton.elim _ _
  refine (weights_apply m c t ((flush0_6 t).mp h) k).trans ?_
  simp only [← whole_row]
  rw [← hostPart_apply]
  refine congrArg (hostPart _ _) (funext fun x => Fin.ext ?_)
  match x with
  | 0 => show 0 = win0_6.index t (0 : Fin 2) * 1 + 1 * 0; omega
  | 1 => show k.val = win0_6.index t (1 : Fin 2) * 1024 + 1 * k.val; omega

/-- Both results' blocks cover them. -/
theorem covers : (cfg0.win 5).Covers ∧ (cfg0.win 6).Covers := by decide +kernel

/-! ## The claims -/

theorem frame_kernel : Cert.quiescent_Back (hBack := Cert.Back.Gen.facts) := fun m g _ => Cert.Back.Gen.frame (F := Bits) m g

theorem frame_ideal : Cert.quiescent_BackIdeal (hBackIdeal := Cert.BackIdeal.Gen.facts) := fun m g _ =>
  Cert.BackIdeal.Gen.frame (F := Ideal) m g

theorem frame_reference : Cert.quiescent_BackWholeIdeal (hBackWholeIdeal := Cert.BackWholeIdeal.Gen.facts) := fun m g _ =>
  (θ_run (Cert.BackWholeIdeal.defs (F := Ideal)) _ _).mono (fun r h => ⟨fun c => (h c).2.2, sem_eq_zero_of_no_sems (by decide) r.2⟩)
    (Cert.BackWholeIdeal.Value.run (F := Ideal) m g)

theorem values : Cert.algebraic_BackIdeal_BackWholeIdeal (hBackIdeal := Cert.BackIdeal.Gen.facts)
    (hBackWholeIdeal := Cert.BackWholeIdeal.Gen.facts) := fun m g m' g' _ hm =>
  ⟨fun c => hostBack (whole m c) (arg m c main_arg2) (arg m c main_arg3) (arg m c main_arg4),
    fun c => hostPart (whole m c) (arg m c main_arg2),
    (θ_run (defs (F := Ideal)) _ _).mono (fun _ h c =>
      ⟨(h c).1.trans ((dats m 0 c).arrAt_eq_of_cover 5 _ (flushed_rows m c) (covers.1.cover _ (Memref.isWhole_whole _))),
        (h c).2.1.trans ((dats m 0 c).arrAt_eq_of_cover 6 _ (flushed_weights m c) (covers.2.cover _ (Memref.isWhole_whole _))),
        (h c).2.2⟩) (Cert.BackIdeal.Value.run_blocks (F := Ideal) m g),
    (θ_run (Cert.BackWholeIdeal.defs (F := Ideal)) _ _).mono (fun _ h c => by
      obtain ⟨e0, e1, e2, e3, e4⟩ := hm c
      obtain ⟨h0, h1, h2⟩ := h c
      rw [e0, e1, e2, e3, e4] at h0
      rw [e0, e1, e2] at h1
      exact ⟨h0, h1, h2⟩) (Cert.BackWholeIdeal.Value.run (F := Ideal) m' g')⟩

end Cert.Gradient

end
-- ==== Proof.Err.lean ====
module

public import proofs.«01_k».proof.Proof.Gen.LossIdeal.Skeleton
public import proofs.«01_k».proof.Proof.Gen.LossWholeIdeal
public import proofs.«01_k».proof.Proof.Fours
public import Idealize.ShloMosaic.Lib.Pointwise

@[expose] public section

/-! # The output's error and its square, over the extended reals

The output is `x` plus half a product of four slices; the error is the output less the target. The kernel halves each
slice, the reference their sum. -/

noncomputable section

namespace Cert.Err

open Idealize.ShloMosaic
open scoped BigOperators

/-- One half, as the literal. -/
def half : EReal := Ideal.ofBits .f32 0x3F000000#32

theorem half_eq : half = (((1 : ℝ) / 2 : ℝ) : EReal) := by
  unfold half
  simp [Ideal.ofBits, Ideal.ieee, -EReal.coe_mul]
  norm_num

/-- Halving distributes over a sum, whatever the terms. -/
theorem half_add (x y : EReal) : half * (x + y) = half * x + half * y := by
  rw [half_eq]
  exact EReal.left_distrib_of_nonneg_of_ne_top (by exact_mod_cast (by norm_num : (0 : ℝ) ≤ 1 / 2)) (EReal.coe_ne_top _) x y

/-- Dividing by the row's length is multiplying by its reciprocal. -/
theorem div_width (x : EReal) : Ideal.div x (Ideal.ofBits .f32 0x44800000#32) = x * Ideal.ofBits .f32 0x3A800000#32 := by
  have e : Ideal.ofBits .f32 0x44800000#32 = ((1024 : ℝ) : EReal) := by
    simp [Ideal.ofBits, Ideal.ieee, -EReal.coe_mul]
    norm_num
  have e' : Ideal.ofBits .f32 0x3A800000#32 = (((1 : ℝ) / 1024 : ℝ) : EReal) := by
    simp [Ideal.ofBits, Ideal.ieee, -EReal.coe_mul]
    norm_num
  rw [e, e', Ideal.div_coe (by norm_num)]

/-- A slice of the product. -/
def slice (a : (⟨3, ![4, 4096, 704]⟩ : Shape).Idx → EReal) (w : (⟨3, ![4, 704, 1024]⟩ : Shape).Idx → EReal) (b : Fin 4)
    (t : Fin 4096) (k : Fin 1024) : EReal := ∑ f : Fin 704, a (ix3 b t f) * w (ix3 b f k)

/-- The output. -/
def out (a : (⟨3, ![4, 4096, 704]⟩ : Shape).Idx → EReal) (w : (⟨3, ![4, 704, 1024]⟩ : Shape).Idx → EReal)
    (x : (⟨2, ![4096, 1024]⟩ : Shape).Idx → EReal) (t : Fin 4096) (k : Fin 1024) : EReal :=
  x (ix2 t k) + half * (slice a w 0 t k + slice a w 1 t k + slice a w 2 t k + slice a w 3 t k)

/-- The error. -/
def err (a : (⟨3, ![4, 4096, 704]⟩ : Shape).Idx → EReal) (w : (⟨3, ![4, 704, 1024]⟩ : Shape).Idx → EReal)
    (x y : (⟨2, ![4096, 1024]⟩ : Shape).Idx → EReal) (t : Fin 4096) (k : Fin 1024) : EReal := out a w x t k - y (ix2 t k)

/-- Row `p` of the rows of point `n`. -/
def rowAt (n : Nat) (h : n < 32) (p : Fin 512) : Fin 4096 := ⟨512 * (n / 4) + p.val, by have := p.isLt; omega⟩

/-- The slice of point `n`. -/
def quarter (n : Nat) : Fin 4 := ⟨n % 4, Nat.mod_lt _ (by decide)⟩

/-- A quantity that starts from `x` at the first of four points and collects half a slice at each: at the fourth it is the output. -/
theorem gathered {N : Nat} (a : (⟨3, ![4, 4096, 704]⟩ : Shape).Idx → EReal) (w : (⟨3, ![4, 704, 1024]⟩ : Shape).Idx → EReal)
    (x : (⟨2, ![4096, 1024]⟩ : Shape).Idx → EReal) (hN : ∀ n, n < N → n < 32) (p : Fin 512) (k : Fin 1024)
    (v : (n : Nat) → n < N → EReal)
    (first : ∀ n h, n % 4 = 0 → v n h = x (ix2 (rowAt n (hN n h) p) k) + half * slice a w (quarter n) (rowAt n (hN n h) p) k)
    (next : ∀ n h, ¬n % 4 = 0 → v n h = v (n - 1) (Nat.lt_of_le_of_lt (Nat.sub_le _ _) h)
      + half * slice a w (quarter n) (rowAt n (hN n h) p) k)
    (n : Nat) (h : n < N) (h3 : n % 4 = 3) : v n h = out a w x (rowAt n (hN n h) p) k := by
  obtain ⟨i, rfl⟩ : ∃ i, n = 4 * i + 3 := ⟨n / 4, by omega⟩
  refine (Fours.group v (fun n h => (if n % 4 = 0 then x (ix2 (rowAt n (hN n h) p) k) else 0)
    + half * slice a w (quarter n) (rowAt n (hN n h) p) k) (fun n h h0 => ?_) (fun n h h0 => ?_) i h).trans ?_
  · rw [if_pos h0]
    exact first n h h0
  · rw [if_neg h0, zero_add]
    exact next n h h0
  have row_ (b : Fin 4) (h' : 4 * i + b.val < N) : rowAt (4 * i + b.val) (hN _ h') p = rowAt (4 * i + 3) (hN _ h) p :=
    Fin.ext (by have := b.isLt; show 512 * ((4 * i + b.val) / 4) + p.val = 512 * ((4 * i + 3) / 4) + p.val; omega)
  have e (b : Fin 4) (h' : 4 * i + b.val < N) :
      half * slice a w (quarter (4 * i + b.val)) (rowAt (4 * i + b.val) (hN _ h') p) k
        = half * slice a w b (rowAt (4 * i + 3) (hN _ h) p) k := by
    rw [row_ b h', show quarter (4 * i + b.val) = b from Fin.ext (by have := b.isLt; show (4 * i + b.val) % 4 = b.val; omega)]
  unfold out
  rw [if_pos (by omega), if_neg (by omega), if_neg (by omega), if_neg (by omega), zero_add, zero_add, zero_add]
  rw [half_add, half_add, half_add, ← add_assoc, ← add_assoc, ← add_assoc]
  exact congrArg₂ (· + ·) (congrArg₂ (· + ·) (congrArg₂ (· + ·) (congrArg₂ (· + ·)
    (congrArg (fun r => x (ix2 r k)) (row_ 0 (by show 4 * i + 0 < N; omega)))
    (e 0 (by show 4 * i + 0 < N; omega))) (e 1 (by show 4 * i + 1 < N; omega))) (e 2 (by show 4 * i + 2 < N; omega))) (e 3 h)

section Kernel

open Cert.LossIdeal Cert.LossIdeal.Gen

theorem product_apply (v0 : Vec Ideal S1x512x704 .bf16) (v2 : Vec Ideal S1x704x1024 .bf16) (p : Fin 512) (k : Fin 1024) :
    k0_pay1 (F := Ideal) v0 v2 (ix2 p k) = half * ∑ f : Fin 704, v0 (ix3 0 p f) * v2 (ix3 0 f k) := by
  pointwise [k0_pay1, half]

theorem grad_apply (d y : Vec Ideal S512x1024 .f32) (p : Fin 512) (k : Fin 1024) :
    k0_pay5 (F := Ideal) d y (ix2 p k) = (d (ix2 p k) - y (ix2 p k)) * Ideal.ofBits .f32 0x3A800000#32 := by
  pointwise [k0_pay5, k0_pay4]

theorem cast_apply (d y : Vec Ideal S512x1024 .f32) (p : Fin 512) (k : Fin 1024) :
    k0_pay6 (F := Ideal) d y (ix2 p k) = (d (ix2 p k) - y (ix2 p k)) * Ideal.ofBits .f32 0x3A800000#32 := by
  pointwise [k0_pay6, k0_pay5, k0_pay4]

theorem square_apply (d y : Vec Ideal S512x1024 .f32) (r : Fin 8) (q : Fin 128) :
    k0_pay7 (F := Ideal) d y (ix2 r q)
      = ∑ p : Fin 512, ∑ k : Fin 1024, (d (ix2 p k) - y (ix2 p k)) * (d (ix2 p k) - y (ix2 p k)) := by
  pointwise [k0_pay7, k0_pay4]

end Kernel

section Host

open Cert.LossWholeIdeal Cert.LossWholeIdeal.Gen

/-- The two contracted axes, as a pair. -/
def contrEquiv : dot_S4x4096x704_S4x704x1024_S4096x1024_02_01_1_2_n_n.contr.Idx ≃ Fin 4 × Fin 704 where
  toFun q := (q ⟨0, by decide⟩, q ⟨1, by decide⟩)
  invFun p := fun | ⟨0, _⟩ => p.1 | ⟨1, _⟩ => p.2
  left_inv q := funext fun a => match a with | ⟨0, _⟩ => rfl | ⟨1, _⟩ => rfl
  right_inv p := rfl

theorem contr_val (p : Fin 4 × Fin 704) :
    (contrEquiv.symm p ⟨0, by decide⟩).val = p.1.val ∧ (contrEquiv.symm p ⟨1, by decide⟩).val = p.2.val := ⟨rfl, rfl⟩

/-- The host's product. -/
theorem host_product (a : FVec Ideal S4x4096x704 .bf16) (w : FVec Ideal S4x704x1024 .bf16) (t : Fin 4096) (k : Fin 1024) :
    Host.dotGeneral dot_S4x4096x704_S4x704x1024_S4096x1024_02_01_1_2_n_n none a w (ix2 t k)
      = slice a w 0 t k + slice a w 1 t k + slice a w 2 t k + slice a w 3 t k := by
  show FloatOps.dotGeneral _ _ _ _ _ _ = _
  rw [Ideal.dotGeneral_apply, ← Equiv.sum_comp contrEquiv.symm, Fintype.sum_prod_type]
  have e : ∀ (b : Fin 4) (f : Fin 704),
      a (dot_S4x4096x704_S4x704x1024_S4096x1024_02_01_1_2_n_n.lhsIdx (ix2 t k) (contrEquiv.symm (b, f)))
        * w (dot_S4x4096x704_S4x704x1024_S4096x1024_02_01_1_2_n_n.rhsIdx (ix2 t k) (contrEquiv.symm (b, f)))
        = a (ix3 b t f) * w (ix3 b f k) := fun b f => by
    congr 2
    · funext i; apply Fin.ext
      match i with
      | ⟨0, _⟩ => exact (contr_val (b, f)).1
      | ⟨1, _⟩ => rfl
      | ⟨2, _⟩ => exact (contr_val (b, f)).2
    · funext i; apply Fin.ext
      match i with
      | ⟨0, _⟩ => exact (contr_val (b, f)).1
      | ⟨1, _⟩ => exact (contr_val (b, f)).2
      | ⟨2, _⟩ => rfl
  simp only [e, Fin.sum_univ_four]
  rfl

/-- The host's error. -/
def hostErr (a : FVec Ideal S4x4096x704 .bf16) (w : FVec Ideal S4x704x1024 .bf16) (x y : FVec Ideal S4096x1024 .f32) :
    FVec Ideal S4096x1024 .f32 :=
  subf (addf x (mulf (broadcastInDim S4096x1024 ![] bcast_S_S4096x1024 (constant S_ .f32 0x3F000000#32))
    (Host.dotGeneral dot_S4x4096x704_S4x704x1024_S4096x1024_02_01_1_2_n_n none a w))) y

/-- The host's gradient of the output. -/
def hostGrad (e : FVec Ideal S4096x1024 .f32) : FVec Ideal S4096x1024 .f32 :=
  Host.divf e (broadcastInDim S4096x1024 ![] bcast_S_S4096x1024 (constant S_ .f32 0x44800000#32))

/-- The host's sum of squares, in every place of the third result. -/
def hostSquare (e : FVec Ideal S4096x1024 .f32) : FVec Ideal S8x128 .f32 :=
  broadcastInDim S8x128 ![] bcast_S_S8x128 (Host.reduceAdd (mulf e e) (constant S_ .f32 0x00000000#32) reducesTo_S4096x1024_S_d0_1 h_S_)

theorem hostErr_apply (a : FVec Ideal S4x4096x704 .bf16) (w : FVec Ideal S4x704x1024 .bf16) (x y : FVec Ideal S4096x1024 .f32)
    (t : Fin 4096) (k : Fin 1024) : hostErr a w x y (ix2 t k) = err a w x y t k := by
  have e := host_product a w t k
  unfold hostErr err out
  generalize Host.dotGeneral dot_S4x4096x704_S4x704x1024_S4096x1024_02_01_1_2_n_n none a w = d at e ⊢
  rw [← e]
  pointwise [half]

theorem hostGrad_apply (e : FVec Ideal S4096x1024 .f32) (t : Fin 4096) (k : Fin 1024) :
    hostGrad e (ix2 t k) = e (ix2 t k) * Ideal.ofBits .f32 0x3A800000#32 := by
  rw [← div_width]
  pointwise [hostGrad]

theorem hostSquare_apply (e : FVec Ideal S4096x1024 .f32) (r : Fin 8) (q : Fin 128) :
    hostSquare e (ix2 r q) = ∑ t : Fin 4096, ∑ k : Fin 1024, e (ix2 t k) * e (ix2 t k) := by
  pointwise [hostSquare]

end Host

end Cert.Err

end
-- ==== Proof.ErrRun.lean ====
module

public import proofs.«01_k».proof.Proof.Gen.LossIdeal.Value
public import proofs.«01_k».proof.Proof.Err
public import proofs.«01_k».proof.Proof.Fours
public import Idealize.ShloMosaic.Lib.Pipeline.ValueKit

@[expose] public section

/-! # The loss's kernel, point by point

Point `4 i + b` adds half of slice `b` of the product for the 512 rows from `512 i` into the scratch, which starts from the
rows of `x`. At the last of the four the gradient of the rows is stored, once in f32 and once in bf16, and the rows' sum of
squared errors is added to what the blocks before left. -/

noncomputable section

namespace Cert.Err

open Cert.LossIdeal Cert.LossIdeal.Gen
open Idealize.ShloMosaic Idealize.ShloMosaic.TcCoe Idealize.SL.Sem
open scoped BigOperators

variable (m : (ℓ : Loc nD τ sig) → Buf (Elt Ideal) ℓ)

/-- An argument at the launch. -/
abbrev arg (c : Dev nD) (b : Ref sig .tc) : Buf (Elt Ideal) ((c : Thread nD τ).loc b) := m ((c : Thread nD τ).loc b)

/-! ## The blocks -/

theorem lt_points (t : Fin cfg0.N) : t.val < 32 := lt_of_lt_of_eq t.isLt N_0

/-- The slice a point adds. -/
def slot (t : Fin cfg0.N) : Fin 4 := ⟨t.val % 4, Nat.mod_lt _ (by decide)⟩

/-- Row `p` of a point's rows. -/
def place (t : Fin cfg0.N) (p : Fin 512) : Fin 4096 := ⟨512 * (t.val / 4) + p.val, by have := lt_points t; have := p.isLt; omega⟩

theorem index_aw : ∀ t : Fin cfg0.N, (win0_0.index t (0 : Fin 3) = t.val % 4 ∧ win0_0.index t (1 : Fin 3) = t.val / 4
    ∧ win0_0.index t (2 : Fin 3) = 0)
    ∧ win0_1.index t (0 : Fin 3) = t.val % 4 ∧ win0_1.index t (1 : Fin 3) = 0 ∧ win0_1.index t (2 : Fin 3) = 0 := by decide +kernel

theorem index_rows : ∀ t : Fin cfg0.N, (win0_2.index t (0 : Fin 2) = t.val / 4 ∧ win0_2.index t (1 : Fin 2) = 0)
    ∧ (win0_3.index t (0 : Fin 2) = t.val / 4 ∧ win0_3.index t (1 : Fin 2) = 0)
    ∧ (win0_4.index t (0 : Fin 2) = t.val / 4 ∧ win0_4.index t (1 : Fin 2) = 0)
    ∧ (win0_5.index t (0 : Fin 2) = t.val / 4 ∧ win0_5.index t (1 : Fin 2) = 0)
    ∧ win0_6.index t (0 : Fin 2) = 0 ∧ win0_6.index t (1 : Fin 2) = 0 := by decide +kernel

theorem a_block (c : Dev nD) (t : Fin cfg0.N) (p : Fin 512) (f : Fin 704) :
    (iblk m c 0 t : Vec Ideal S1x512x704 .bf16) (ix3 0 p f) = arg m c main_arg0 (ix3 (slot t) (place t p) f) := by
  obtain ⟨⟨e0, e1, e2⟩, -⟩ := index_aw t
  refine congrArg (arg m c main_arg0) (funext fun x => Fin.ext ?_)
  match x with
  | 0 => show win0_0.index t (0 : Fin 3) * 1 + 1 * 0 = t.val % 4; omega
  | 1 => show win0_0.index t (1 : Fin 3) * 512 + 1 * p.val = 512 * (t.val / 4) + p.val; omega
  | 2 => show win0_0.index t (2 : Fin 3) * 704 + 1 * f.val = f.val; omega

theorem w_block (c : Dev nD) (t : Fin cfg0.N) (f : Fin 704) (k : Fin 1024) :
    (iblk m c 1 t : Vec Ideal S1x704x1024 .bf16) (ix3 0 f k) = arg m c main_arg1 (ix3 (slot t) f k) := by
  obtain ⟨-, e0, e1, e2⟩ := index_aw t
  refine congrArg (arg m c main_arg1) (funext fun x => Fin.ext ?_)
  match x with
  | 0 => show win0_1.index t (0 : Fin 3) * 1 + 1 * 0 = t.val % 4; omega
  | 1 => show win0_1.index t (1 : Fin 3) * 704 + 1 * f.val = f.val; omega
  | 2 => show win0_1.index t (2 : Fin 3) * 1024 + 1 * k.val = k.val; omega

theorem x_block (c : Dev nD) (t : Fin cfg0.N) (p : Fin 512) (k : Fin 1024) :
    (iblk m c 2 t : Vec Ideal S512x1024 .f32) (ix2 p k) = arg m c main_arg2 (ix2 (place t p) k) := by
  obtain ⟨⟨e0, e1⟩, -⟩ := index_rows t
  refine congrArg (arg m c main_arg2) (funext fun x => Fin.ext ?_)
  match x with
  | 0 => show win0_2.index t (0 : Fin 2) * 512 + 1 * p.val = 512 * (t.val / 4) + p.val; omega
  | 1 => show win0_2.index t (1 : Fin 2) * 1024 + 1 * k.val = k.val; omega

theorem y_block (c : Dev nD) (t : Fin cfg0.N) (p : Fin 512) (k : Fin 1024) :
    (iblk m c 3 t : Vec Ideal S512x1024 .f32) (ix2 p k) = arg m c main_arg3 (ix2 (place t p) k) := by
  obtain ⟨-, ⟨e0, e1⟩, -⟩ := index_rows t
  refine congrArg (arg m c main_arg3) (funext fun x => Fin.ext ?_)
  match x with
  | 0 => show win0_3.index t (0 : Fin 2) * 512 + 1 * p.val = 512 * (t.val / 4) + p.val; omega
  | 1 => show win0_3.index t (1 : Fin 2) * 1024 + 1 * k.val = k.val; omega

/-! ## The scratch -/

/-- What a point adds to the scratch. -/
def now (c : Dev nD) (t : Fin cfg0.N) : FVec Ideal S512x1024 .f32 := k0_pay1 (F := Ideal) (iblk m c 0 t) (iblk m c 1 t)

theorem now_apply (c : Dev nD) (t : Fin cfg0.N) (p : Fin 512) (k : Fin 1024) :
    now m c t (ix2 p k) = half * slice (arg m c main_arg0) (arg m c main_arg1) (slot t) (place t p) k := by
  refine (product_apply _ _ p k).trans (congrArg (half * ·) (Finset.sum_congr rfl fun f _ => ?_))
  exact congrArg₂ (· * ·) (a_block m c t p f) (w_block m c t f k)

theorem start_eq (v0 v2 : _) (x : Vec Ideal S512x1024 .f32) :
    k0_pay2 (F := Ideal) v0 v2 x = addf x (k0_pay1 (F := Ideal) v0 v2) := shapeCast_self _ _

theorem add_eq (v0 v2 : _) (d : Vec Ideal S512x1024 .f32) :
    k0_pay3 (F := Ideal) v0 v2 d = addf d (k0_pay1 (F := Ideal) v0 v2) := shapeCast_self _ _

/-- The scratch read whole is what was stored into it. -/
theorem stored (h : (Memref.whole cc0_scratch0).IsWhole) (X : Vec Ideal S512x1024 .f32) :
    View.read (Elt Ideal) (View.whole cc0_scratch0) (h.unread X) = X := Memref.IsWhole.read_unread h X

/-- The first of the four points stores the rows of `x` and its half slice. -/
theorem scratch_first (c : Dev nD) (t : Fin cfg0.N) (h : t.val % 4 = 0) :
    (outsAt0 m c t.val t.isLt).2.2.2 = addf (iblk m c 2 t : Vec Ideal S512x1024 .f32) (now m c t) := by
  rw [outsAt0_A m c t h (by omega) (by omega)]
  frame_out
  exact start_eq ..

/-- What the scratch and the results hold before a point. -/
abbrev before (c : Dev nD) (t : Fin cfg0.N) := outsAt0 m c (t.val - 1) (Nat.lt_of_le_of_lt (Nat.sub_le _ _) t.isLt)

/-- The others add theirs to what the point before left. -/
theorem scratch_next (c : Dev nD) (t : Fin cfg0.N) (h : ¬t.val % 4 = 0) :
    (outsAt0 m c t.val t.isLt).2.2.2 = addf (before m c t).2.2.2 (now m c t) := by
  by_cases h3 : t.val % 4 = 3
  · by_cases h4 : t.val < 4
    · rw [outsAt0_C m c t h (by omega) h3 h4 (by omega)]
      frame_out
      rw [stored]
      exact add_eq ..
    · rw [outsAt0_D m c t h (by omega) h3 h4 (by omega)]
      frame_out
      rw [stored]
      exact add_eq ..
  · rw [outsAt0_B m c t h (by omega) h3]
    frame_out
    rw [stored]
    exact add_eq ..

/-- After the fourth point the scratch holds the output's rows. -/
theorem scratch_last (c : Dev nD) (t : Fin cfg0.N) (h : t.val % 4 = 3) (p : Fin 512) (k : Fin 1024) :
    (outsAt0 m c t.val t.isLt).2.2.2 (ix2 p k)
      = out (arg m c main_arg0) (arg m c main_arg1) (arg m c main_arg2) (place t p) k := by
  exact gathered (arg m c main_arg0) (arg m c main_arg1) (arg m c main_arg2) (fun n h => lt_points ⟨n, h⟩) p k
    (fun n h => (outsAt0 m c n h).2.2.2 (ix2 p k))
    (fun n h h0 => (congrFun (scratch_first m c ⟨n, h⟩ h0) _).trans
      (congrArg₂ (· + ·) (x_block m c ⟨n, h⟩ p k) (now_apply m c ⟨n, h⟩ p k)))
    (fun n h h0 => (congrFun (scratch_next m c ⟨n, h⟩ h0) _).trans (congrArg (_ + ·) (now_apply m c ⟨n, h⟩ p k)))
    t.val t.isLt h

/-! ## The three results -/

/-- The fourth point stores the rows' gradient, and in bf16. -/
theorem rows_last (c : Dev nD) (t : Fin cfg0.N) (h : t.val % 4 = 3) :
    (outsAt0 m c t.val t.isLt).1 = k0_pay5 (F := Ideal) (outsAt0 m c t.val t.isLt).2.2.2 (iblk m c 3 t)
      ∧ (outsAt0 m c t.val t.isLt).2.1 = k0_pay6 (F := Ideal) (outsAt0 m c t.val t.isLt).2.2.2 (iblk m c 3 t) := by
  rw [scratch_next m c t (by omega)]
  by_cases h4 : t.val < 4
  · rw [outsAt0_C m c t (by omega) (by omega) h h4 (by omega)]
    constructor
    all_goals
      frame_out
      rw [stored, add_eq]
      rfl
  · rw [outsAt0_D m c t (by omega) (by omega) h h4 (by omega)]
    constructor
    all_goals
      frame_out
      rw [stored, add_eq]
      rfl

/-- The error of a point's rows. -/
theorem err_last (c : Dev nD) (t : Fin cfg0.N) (h : t.val % 4 = 3) (p : Fin 512) (k : Fin 1024) :
    (outsAt0 m c t.val t.isLt).2.2.2 (ix2 p k) - (iblk m c 3 t : Vec Ideal S512x1024 .f32) (ix2 p k)
      = err (arg m c main_arg0) (arg m c main_arg1) (arg m c main_arg2) (arg m c main_arg3) (place t p) k :=
  congrArg₂ (· - ·) (scratch_last m c t h p k) (y_block m c t p k)

theorem rows_apply (c : Dev nD) (t : Fin cfg0.N) (h : t.val % 4 = 3) (p : Fin 512) (k : Fin 1024) :
    (outsAt0 m c t.val t.isLt).1 (ix2 p k)
      = err (arg m c main_arg0) (arg m c main_arg1) (arg m c main_arg2) (arg m c main_arg3) (place t p) k
          * Ideal.ofBits .f32 0x3A800000#32 := by
  rw [(rows_last m c t h).1, grad_apply, err_last m c t h]

theorem casts_apply (c : Dev nD) (t : Fin cfg0.N) (h : t.val % 4 = 3) (p : Fin 512) (k : Fin 1024) :
    (outsAt0 m c t.val t.isLt).2.1 (ix2 p k)
      = err (arg m c main_arg0) (arg m c main_arg1) (arg m c main_arg2) (arg m c main_arg3) (place t p) k
          * Ideal.ofBits .f32 0x3A800000#32 := by
  rw [(rows_last m c t h).2, cast_apply, err_last m c t h]

/-- The first block's fourth point stores its sum of squares. -/
theorem square_first (c : Dev nD) (t : Fin cfg0.N) (h : t.val = 3) :
    (outsAt0 m c t.val t.isLt).2.2.1 = k0_pay7 (F := Ideal) (outsAt0 m c t.val t.isLt).2.2.2 (iblk m c 3 t) := by
  rw [scratch_next m c t (by omega), outsAt0_C m c t (by omega) (by omega) (by omega) (by omega) (by omega)]
  frame_out
  rw [stored, add_eq]
  rfl

/-- The later blocks' add theirs. -/
theorem square_next (c : Dev nD) (t : Fin cfg0.N) (h : t.val % 4 = 3) (h4 : 4 ≤ t.val) :
    (outsAt0 m c t.val t.isLt).2.2.1
      = addf (before m c t).2.2.1 (k0_pay7 (F := Ideal) (outsAt0 m c t.val t.isLt).2.2.2 (iblk m c 3 t)) := by
  rw [scratch_next m c t (by omega), outsAt0_D m c t (by omega) (by omega) h (by omega) h4]
  frame_out
  rw [stored, add_eq]
  exact congrArg (addf · _) (shapeCast_self _ _)

/-- The points between carry it. -/
theorem square_carried (c : Dev nD) (t : Fin cfg0.N) (h : ¬t.val % 4 = 3) :
    (outsAt0 m c t.val t.isLt).2.2.1 = (before m c t).2.2.1 := by
  by_cases h0 : t.val % 4 = 0
  · rw [outsAt0_A m c t h0 (by omega) (by omega)]
    rfl
  · rw [outsAt0_B m c t h0 (by omega) h]
    rfl

/-- A row's sum of squares, by the row's number. -/
def rowPart (c : Dev nD) (n : Nat) : EReal :=
  if h : n < 4096 then
    ∑ k, err (arg m c main_arg0) (arg m c main_arg1) (arg m c main_arg2) (arg m c main_arg3) ⟨n, h⟩ k
      * err (arg m c main_arg0) (arg m c main_arg1) (arg m c main_arg2) (arg m c main_arg3) ⟨n, h⟩ k
  else 0

theorem block_part (c : Dev nD) (t : Fin cfg0.N) (h : t.val % 4 = 3) (r : Fin 8) (q : Fin 128) :
    k0_pay7 (F := Ideal) (outsAt0 m c t.val t.isLt).2.2.2 (iblk m c 3 t) (ix2 r q)
      = ∑ p ∈ Finset.range 512, rowPart m c (512 * (t.val / 4) + p) := by
  rw [square_apply, Finset.sum_range]
  refine Finset.sum_congr rfl fun p _ => ?_
  have h' : 512 * (t.val / 4) + p.val < 4096 := (place t p).isLt
  unfold rowPart
  rw [dif_pos h']
  exact Finset.sum_congr rfl fun k _ => congrArg₂ (· * ·) (err_last m c t h p k) (err_last m c t h p k)

/-- At the last point it is the sum over all rows. -/
theorem square_apply_last (c : Dev nD) (t : Fin cfg0.N) (h : t.val % 32 = 31) (r : Fin 8) (q : Fin 128) :
    (outsAt0 m c t.val t.isLt).2.2.1 (ix2 r q)
      = ∑ n : Fin 4096, ∑ k : Fin 1024,
          err (arg m c main_arg0) (arg m c main_arg1) (arg m c main_arg2) (arg m c main_arg3) n k
            * err (arg m c main_arg0) (arg m c main_arg1) (arg m c main_arg2) (arg m c main_arg3) n k := by
  obtain rfl : t = ⟨31, lt_of_lt_of_eq (by decide) N_0.symm⟩ := Fin.ext (by have := lt_points t; show t.val = 31; omega)
  refine (Fours.carried (fun n h => (outsAt0 m c n h).2.2.1 (ix2 r q)) (rowPart m c) 512
    (fun h => (congrFun (square_first m c ⟨3, h⟩ rfl) _).trans (block_part m c ⟨3, h⟩ rfl r q))
    (fun n h h3 h4 => (congrFun (square_next m c ⟨n, h⟩ h3 h4) _).trans (congrArg (_ + ·) (block_part m c ⟨n, h⟩ h3 r q)))
    (fun n h h3 => congrFun (square_carried m c ⟨n, h⟩ h3) _) 7 _).trans ?_
  rw [Finset.sum_range]
  exact Finset.sum_congr rfl fun n _ => dif_pos n.isLt

end Cert.Err

end
-- ==== Proof.ErrValues.lean ====
module

public import proofs.«01_k».proof.Defs
public import proofs.«01_k».proof.Proof.Gen.Loss
public import proofs.«01_k».proof.Proof.Gen.Loss.Frame
public import proofs.«01_k».proof.Proof.Gen.LossWholeIdeal.Run
public import proofs.«01_k».proof.Proof.ErrRun

@[expose] public section

/-! # The loss: the claims

What the points write back are the blocks of the host's three results, and the blocks cover them. -/

noncomputable section

namespace Cert.Err

open Cert.LossIdeal Cert.LossIdeal.Gen
open Idealize.ShloMosaic Idealize.ShloMosaic.TcCoe Idealize.SL.Sem
open scoped BigOperators

variable (m : (ℓ : Loc nD τ sig) → Buf (Elt Ideal) ℓ)

/-- The host's error of the arguments. -/
abbrev whole (c : Dev nD) : FVec Ideal ⟨2, ![4096, 1024]⟩ .f32 :=
  hostErr (arg m c main_arg0) (arg m c main_arg1) (arg m c main_arg2) (arg m c main_arg3)

/-- The host's gradient in bf16. -/
abbrev cast (e : FVec Ideal ⟨2, ![4096, 1024]⟩ .f32) : FVec Ideal ⟨2, ![4096, 1024]⟩ .bf16 :=
  truncf .bf16 (hostGrad e) Cert.LossWholeIdeal.Gen.bitsLt_bf16_f32

theorem whole_apply (c : Dev nD) (t : Fin 4096) (k : Fin 1024) : whole m c (ix2 t k)
    = err (arg m c main_arg0) (arg m c main_arg1) (arg m c main_arg2) (arg m c main_arg3) t k := hostErr_apply _ _ _ _ t k

theorem flushed_rows (c : Dev nD) (t : Fin cfg0.N) (h : (cfg0.win 4).flush t = true) :
    (dats m 0 c).flushed 4 t = (win0_4.blk t).view.read (Elt Ideal) (hostGrad (whole m c)) := by
  rw [Cert.LossIdeal.Value.flushed4]
  obtain ⟨-, -, ⟨e0, e1⟩, -⟩ := index_rows t
  funext y
  obtain ⟨p, k, rfl⟩ : ∃ (p : Fin 512) (k : Fin 1024), y = ix2 p k := ⟨y 0, y 1, eq_ix2 y⟩
  refine (rows_apply m c t ((flush0_4 t).mp h) p k).trans ?_
  rw [← whole_apply, ← hostGrad_apply]
  refine congrArg (hostGrad _) (funext fun x => Fin.ext ?_)
  match x with
  | 0 => show 512 * (t.val / 4) + p.val = win0_4.index t (0 : Fin 2) * 512 + 1 * p.val; omega
  | 1 => show k.val = win0_4.index t (1 : Fin 2) * 1024 + 1 * k.val; omega

theorem flushed_casts (c : Dev nD) (t : Fin cfg0.N) (h : (cfg0.win 5).flush t = true) :
    (dats m 0 c).flushed 5 t = (win0_5.blk t).view.read (Elt Ideal) (cast (whole m c)) := by
  rw [Cert.LossIdeal.Value.flushed5]
  obtain ⟨-, -, -, ⟨e0, e1⟩, -⟩ := index_rows t
  funext y
  obtain ⟨p, k, rfl⟩ : ∃ (p : Fin 512) (k : Fin 1024), y = ix2 p k := ⟨y 0, y 1, eq_ix2 y⟩
  refine (casts_apply m c t ((flush0_5 t).mp h) p k).trans ?_
  rw [← whole_apply, ← hostGrad_apply]
  refine congrArg (hostGrad _) (funext fun x => Fin.ext ?_)
  match x with
  | 0 => show 512 * (t.val / 4) + p.val = win0_5.index t (0 : Fin 2) * 512 + 1 * p.val; omega
  | 1 => show k.val = win0_5.index t (1 : Fin 2) * 1024 + 1 * k.val; omega

theorem flushed_square (c : Dev nD) (t : Fin cfg0.N) (h : (cfg0.win 6).flush t = true) :
    (dats m 0 c).flushed 6 t = (win0_6.blk t).view.read (Elt Ideal) (hostSquare (whole m c)) := by
  rw [Cert.LossIdeal.Value.flushed6]
  obtain ⟨-, -, -, -, e0, e1⟩ := index_rows t
  funext y
  obtain ⟨r, q, rfl⟩ : ∃ (r : Fin 8) (q : Fin 128), y = ix2 r q := ⟨y 0, y 1, eq_ix2 y⟩
  refine (square_apply_last m c t ((flush0_6 t).mp h) r q).trans ?_
  simp only [← whole_apply]
  rw [← hostSquare_apply _ r q]
  refine congrArg (hostSquare _) (funext fun x => Fin.ext ?_)
  match x with
  | 0 => show r.val = win0_6.index t (0 : Fin 2) * 8 + 1 * r.val; omega
  | 1 => show q.val = win0_6.index t (1 : Fin 2) * 128 + 1 * q.val; omega

/-- The three results' blocks cover them. -/
theorem covers : (cfg0.win 4).Covers ∧ (cfg0.win 5).Covers ∧ (cfg0.win 6).Covers := by decide +kernel

/-! ## The claims -/

theorem frame_kernel : Cert.quiescent_Loss (hLoss := Cert.Loss.Gen.facts) := fun m g _ => Cert.Loss.Gen.frame (F := Bits) m g

theorem frame_ideal : Cert.quiescent_LossIdeal (hLossIdeal := Cert.LossIdeal.Gen.facts) := fun m g _ =>
  Cert.LossIdeal.Gen.frame (F := Ideal) m g

theorem frame_reference : Cert.quiescent_LossWholeIdeal (hLossWholeIdeal := Cert.LossWholeIdeal.Gen.facts) := fun m g _ =>
  (θ_run (Cert.LossWholeIdeal.defs (F := Ideal)) _ _).mono (fun r h => ⟨fun c => (h c).2.2.2, sem_eq_zero_of_no_sems (by decide) r.2⟩)
    (Cert.LossWholeIdeal.Value.run (F := Ideal) m g)

theorem values : Cert.algebraic_LossIdeal_LossWholeIdeal (hLossIdeal := Cert.LossIdeal.Gen.facts)
    (hLossWholeIdeal := Cert.LossWholeIdeal.Gen.facts) := fun m g m' g' _ hm =>
  ⟨fun c => hostGrad (whole m c), fun c => cast (whole m c), fun c => hostSquare (whole m c),
    (θ_run (defs (F := Ideal)) _ _).mono (fun _ h c =>
      ⟨(h c).1.trans ((dats m 0 c).arrAt_eq_of_cover 4 _ (flushed_rows m c) (covers.1.cover _ (Memref.isWhole_whole _))),
        (h c).2.1.trans ((dats m 0 c).arrAt_eq_of_cover 5 _ (flushed_casts m c) (covers.2.1.cover _ (Memref.isWhole_whole _))),
        (h c).2.2.1.trans ((dats m 0 c).arrAt_eq_of_cover 6 _ (flushed_square m c) (covers.2.2.cover _ (Memref.isWhole_whole _))),
        (h c).2.2.2⟩) (Cert.LossIdeal.Value.run_blocks (F := Ideal) m g),
    (θ_run (Cert.LossWholeIdeal.defs (F := Ideal)) _ _).mono (fun _ h c => by
      obtain ⟨e0, e1, e2, e3⟩ := hm c
      obtain ⟨h0, h1, h2, h3⟩ := h c
      rw [e0, e1, e2, e3] at h0 h1 h2
      exact ⟨h0, h1, h2, h3⟩) (Cert.LossWholeIdeal.Value.run (F := Ideal) m' g')⟩

end Cert.Err

end
-- ==== Proof.Tally.lean ====
module

public import Mathlib.Algebra.BigOperators.Fin

@[expose] public section

/-! # Sums over points taken eight by eight

Points `0, 1, …` in groups of eight. A quantity starts anew with every group, and each point of a group collects `b` terms
more of the group's row of terms. -/

namespace Cert.Tally

open scoped BigOperators

variable {N : Nat} {α : Type} [AddCommMonoid α]

/-- What point `n` has collected: the first `b` terms of the row for each point of the group so far. -/
theorem collected (v : (n : Nat) → n < N → α) (s : Nat → Nat → α) (b : Nat)
    (first : ∀ n h, n % 8 = 0 → v n h = ∑ p ∈ Finset.range b, s (n / 8) (b * (n % 8) + p))
    (next : ∀ n h, ¬n % 8 = 0 →
      v n h = v (n - 1) (Nat.lt_of_le_of_lt (Nat.sub_le _ _) h) + ∑ p ∈ Finset.range b, s (n / 8) (b * (n % 8) + p)) :
    ∀ n h, v n h = ∑ x ∈ Finset.range (b * (n % 8 + 1)), s (n / 8) x := by
  intro n
  induction n with
  | zero =>
    intro h
    refine (first 0 h rfl).trans ?_
    simp
  | succ n ih =>
    intro h
    by_cases h0 : (n + 1) % 8 = 0
    · rw [first (n + 1) h h0, h0]
      simp
    · rw [next (n + 1) h h0, show v (n + 1 - 1) _ = _ from ih (by omega), show n / 8 = (n + 1) / 8 by omega,
        show n % 8 + 1 = (n + 1) % 8 by omega, Nat.mul_add b ((n + 1) % 8) 1, Nat.mul_one, Finset.sum_range_add]

theorem row_lt {b : Nat} (n : Nat) (p : Fin b) : b * (n % 8) + p.val < b * 8 :=
  calc b * (n % 8) + p.val < b * (n % 8) + b := Nat.add_lt_add_left p.isLt _
    _ = b * (n % 8 + 1) := (Nat.mul_succ b (n % 8)).symm
    _ ≤ b * 8 := Nat.mul_le_mul_left b (Nat.mod_lt n (by decide))

/-- A table of terms continued by zero over all numbers. -/
def padded {J X : Nat} (f : Fin J → Fin X → α) (j x : Nat) : α := if e : j < J ∧ x < X then f ⟨j, e.1⟩ ⟨x, e.2⟩ else 0

theorem padded_eq {J X : Nat} (f : Fin J → Fin X → α) {j x : Nat} (hj : j < J) (hx : x < X) : padded f j x = f ⟨j, hj⟩ ⟨x, hx⟩ :=
  dif_pos ⟨hj, hx⟩

/-- The last point of a group has collected the whole row. -/
theorem row {J : Nat} (b : Nat) (v : (n : Nat) → n < N → α) (f : Fin J → Fin (b * 8) → α) (hJ : ∀ n, n < N → n / 8 < J)
    (first : ∀ n h, n % 8 = 0 → v n h = ∑ p : Fin b, f ⟨n / 8, hJ n h⟩ ⟨b * (n % 8) + p.val, row_lt n p⟩)
    (next : ∀ n h, ¬n % 8 = 0 → v n h = v (n - 1) (Nat.lt_of_le_of_lt (Nat.sub_le _ _) h)
      + ∑ p : Fin b, f ⟨n / 8, hJ n h⟩ ⟨b * (n % 8) + p.val, row_lt n p⟩)
    (n : Nat) (h : n < N) (h7 : n % 8 = 7) : v n h = ∑ x : Fin (b * 8), f ⟨n / 8, hJ n h⟩ x := by
  have e (n : Nat) (h : n < N) : ∑ p : Fin b, f ⟨n / 8, hJ n h⟩ ⟨b * (n % 8) + p.val, row_lt n p⟩
      = ∑ p ∈ Finset.range b, padded f (n / 8) (b * (n % 8) + p) := by
    rw [Finset.sum_range]
    exact Finset.sum_congr rfl fun p _ => (padded_eq f (hJ n h) (row_lt n p)).symm
  rw [collected v (padded f) b (fun n h h0 => (first n h h0).trans (e n h))
    (fun n h h0 => (next n h h0).trans (congrArg (_ + ·) (e n h))) n h, h7, Finset.sum_range]
  exact Finset.sum_congr rfl fun x _ => padded_eq f (hJ n h) x.isLt

end Cert.Tally
-- ==== Proof.WeightsUp.lean ====
module

public import proofs.«01_k».proof.Defs
public import proofs.«01_k».proof.Proof.Gen.GradUp
public import proofs.«01_k».proof.Proof.Gen.GradUp.Frame
public import proofs.«01_k».proof.Proof.Gen.GradUpIdeal.Value
public import proofs.«01_k».proof.Proof.Gen.GradUpWholeIdeal.Run
public import proofs.«01_k».proof.Proof.Tally
public import Idealize.ShloMosaic.Lib.Pointwise
public import Idealize.ShloMosaic.Lib.Pipeline.ValueKit

@[expose] public section

/-! # The gradient of the up weights

Point `8 j + k` adds to the scratch the product of block `j` of the gradient with the rows from `512 k`, transposed; the
last of the eight stores the block. -/

noncomputable section

namespace Cert.WeightsUp

open Cert.GradUpIdeal Cert.GradUpIdeal.Gen
open Idealize.ShloMosaic Idealize.ShloMosaic.TcCoe Idealize.SL.Sem
open scoped BigOperators

/-! ## The functions -/

theorem product_apply (v0 : Vec Ideal S512x1024 .bf16) (v1 : Vec Ideal S1x512x704 .bf16) (d : Fin 1024) (f : Fin 704) :
    k0_pay1 (F := Ideal) v0 v1 (ix2 d f) = ∑ p : Fin 512, v0 (ix2 p d) * v1 (ix3 0 p f) := by
  pointwise [k0_pay1]

theorem result_apply (v : Vec Ideal S1024x704 .f32) (d : Fin 1024) (f : Fin 704) :
    k0_pay4 (F := Ideal) v (ix3 0 d f) = v (ix2 d f) := by
  pointwise [k0_pay4]

/-- The host's result. -/
def host (h : FVec Ideal ⟨2, ![4096, 1024]⟩ .bf16) (g : FVec Ideal ⟨3, ![8, 4096, 704]⟩ .bf16) :
    FVec Ideal ⟨3, ![8, 1024, 704]⟩ .bf16 :=
  truncf .bf16 (transpose Cert.GradUpWholeIdeal.S8x1024x704 [0, 2, 1]
    (Host.dotGeneral (φ₁ := .bf16) (φ₂ := .bf16)
      Cert.GradUpWholeIdeal.dot_S8x4096x704_S4096x1024_S8x704x1024_1_0_02_1_n_n none g h)
    Cert.GradUpWholeIdeal.Gen.transposes_S8x704x1024_S8x1024x704_0_2_1) Cert.GradUpWholeIdeal.Gen.bitsLt_bf16_f32

theorem host_apply (h : FVec Ideal ⟨2, ![4096, 1024]⟩ .bf16) (g : FVec Ideal ⟨3, ![8, 4096, 704]⟩ .bf16) (j : Fin 8)
    (d : Fin 1024) (f : Fin 704) : host h g (ix3 j d f) = ∑ t : Fin 4096, g (ix3 j t f) * h (ix2 t d) := by
  pointwise [host]

/-! ## The blocks -/

variable (m : (ℓ : Loc nD τ sig) → Buf (Elt Ideal) ℓ)

/-- An argument at the launch. -/
abbrev arg (c : Dev nD) (b : Ref sig .tc) : Buf (Elt Ideal) ((c : Thread nD τ).loc b) := m ((c : Thread nD τ).loc b)

theorem lt_points (t : Fin cfg0.N) : t.val < 64 := lt_of_lt_of_eq t.isLt N_0

/-- The block a point adds to. -/
def slot (t : Fin cfg0.N) : Fin 8 := ⟨t.val / 8, by have := lt_points t; omega⟩

/-- Row `p` of a point's rows. -/
def place (t : Fin cfg0.N) (p : Fin 512) : Fin 4096 := ⟨512 * (t.val % 8) + p.val, by have := p.isLt; omega⟩

theorem index : ∀ t : Fin cfg0.N, (win0_0.index t (0 : Fin 2) = t.val % 8 ∧ win0_0.index t (1 : Fin 2) = 0)
    ∧ (win0_1.index t (0 : Fin 3) = t.val / 8 ∧ win0_1.index t (1 : Fin 3) = t.val % 8 ∧ win0_1.index t (2 : Fin 3) = 0)
    ∧ win0_2.index t (0 : Fin 3) = t.val / 8 ∧ win0_2.index t (1 : Fin 3) = 0 ∧ win0_2.index t (2 : Fin 3) = 0 := by decide +kernel

theorem rows_block (c : Dev nD) (t : Fin cfg0.N) (p : Fin 512) (d : Fin 1024) :
    (iblk m c 0 t : Vec Ideal S512x1024 .bf16) (ix2 p d) = arg m c main_arg0 (ix2 (place t p) d) := by
  obtain ⟨⟨e0, e1⟩, -⟩ := index t
  refine congrArg (arg m c main_arg0) (funext fun x => Fin.ext ?_)
  match x with
  | 0 => show win0_0.index t (0 : Fin 2) * 512 + 1 * p.val = 512 * (t.val % 8) + p.val; omega
  | 1 => show win0_0.index t (1 : Fin 2) * 1024 + 1 * d.val = d.val; omega

theorem grad_block (c : Dev nD) (t : Fin cfg0.N) (p : Fin 512) (f : Fin 704) :
    (iblk m c 1 t : Vec Ideal S1x512x704 .bf16) (ix3 0 p f) = arg m c main_arg1 (ix3 (slot t) (place t p) f) := by
  obtain ⟨-, ⟨e0, e1, e2⟩, -⟩ := index t
  refine congrArg (arg m c main_arg1) (funext fun x => Fin.ext ?_)
  match x with
  | 0 => show win0_1.index t (0 : Fin 3) * 1 + 1 * 0 = t.val / 8; omega
  | 1 => show win0_1.index t (1 : Fin 3) * 512 + 1 * p.val = 512 * (t.val % 8) + p.val; omega
  | 2 => show win0_1.index t (2 : Fin 3) * 704 + 1 * f.val = f.val; omega

/-! ## The scratch -/

/-- What a point adds to the scratch. -/
def now (c : Dev nD) (t : Fin cfg0.N) : FVec Ideal S1024x704 .f32 := k0_pay1 (F := Ideal) (iblk m c 0 t) (iblk m c 1 t)

/-- A row's term of an entry. -/
def term (h : (⟨2, ![4096, 1024]⟩ : Shape).Idx → EReal) (g : (⟨3, ![8, 4096, 704]⟩ : Shape).Idx → EReal) (d : Fin 1024)
    (f : Fin 704) (j : Fin 8) (x : Fin 4096) : EReal := g (ix3 j x f) * h (ix2 x d)

theorem now_apply (c : Dev nD) (t : Fin cfg0.N) (d : Fin 1024) (f : Fin 704) :
    now m c t (ix2 d f) = ∑ p : Fin 512, term (arg m c main_arg0) (arg m c main_arg1) d f (slot t) (place t p) :=
  (product_apply _ _ d f).trans (Finset.sum_congr rfl fun p _ =>
    (mul_comm _ _).trans (congrArg₂ (· * ·) (grad_block m c t p f) (rows_block m c t p d)))

theorem start_eq (v0 v1 : _) : k0_pay2 (F := Ideal) v0 v1 = k0_pay1 (F := Ideal) v0 v1 := shapeCast_self _ _

theorem add_eq (v0 v1 : _) (v : Vec Ideal S1024x704 .f32) :
    k0_pay3 (F := Ideal) v0 v1 v = addf v (k0_pay1 (F := Ideal) v0 v1) := shapeCast_self _ _

/-- The scratch read whole is what was stored into it. -/
theorem stored (h : (Memref.whole cc0_scratch0).IsWhole) (X : Vec Ideal S1024x704 .f32) :
    View.read (Elt Ideal) (View.whole cc0_scratch0) (h.unread X) = X := Memref.IsWhole.read_unread h X

/-- The first of the eight points stores its product. -/
theorem scratch_first (c : Dev nD) (t : Fin cfg0.N) (h : t.val % 8 = 0) : (outsAt0 m c t.val t.isLt).2 = now m c t := by
  rw [outsAt0_A m c t h (by omega) (by omega)]
  frame_out
  exact start_eq ..

/-- What the scratch and the result hold before a point. -/
abbrev before (c : Dev nD) (t : Fin cfg0.N) := outsAt0 m c (t.val - 1) (Nat.lt_of_le_of_lt (Nat.sub_le _ _) t.isLt)

/-- The others add theirs to what the point before left. -/
theorem scratch_next (c : Dev nD) (t : Fin cfg0.N) (h : ¬t.val % 8 = 0) :
    (outsAt0 m c t.val t.isLt).2 = addf (before m c t).2 (now m c t) := by
  by_cases h7 : t.val % 8 = 7
  · rw [outsAt0_C m c t h (by omega) h7]
    frame_out
    rw [stored]
    exact add_eq ..
  · rw [outsAt0_B m c t h (by omega) h7]
    frame_out
    rw [stored]
    exact add_eq ..

/-- The eighth stores the scratch. -/
theorem result_last (c : Dev nD) (t : Fin cfg0.N) (h : t.val % 8 = 7) :
    (outsAt0 m c t.val t.isLt).1 = k0_pay4 (F := Ideal) (outsAt0 m c t.val t.isLt).2 := by
  rw [scratch_next m c t (by omega), outsAt0_C m c t (by omega) (by omega) h]
  frame_out
  rw [stored, add_eq]
  rfl

theorem block_apply (c : Dev nD) (t : Fin cfg0.N) (h : t.val % 8 = 7) (d : Fin 1024) (f : Fin 704) :
    (outsAt0 m c t.val t.isLt).1 (ix3 0 d f) = host (arg m c main_arg0) (arg m c main_arg1) (ix3 (slot t) d f) := by
  rw [result_last m c t h, result_apply, host_apply]
  exact Tally.row (α := EReal) 512 (fun n h => (outsAt0 m c n h).2 (ix2 d f))
    (term (arg m c main_arg0) (arg m c main_arg1) d f) (fun n h => (slot ⟨n, h⟩).isLt)
    (fun n h h0 => (congrFun (scratch_first m c ⟨n, h⟩ h0) _).trans (now_apply m c ⟨n, h⟩ d f))
    (fun n h h0 => (congrFun (scratch_next m c ⟨n, h⟩ h0) _).trans (congrArg (_ + ·) (now_apply m c ⟨n, h⟩ d f)))
    t.val t.isLt h

/-! ## The claims -/

theorem flushed (c : Dev nD) (t : Fin cfg0.N) (h : (cfg0.win 2).flush t = true) :
    (dats m 0 c).flushed 2 t = (win0_2.blk t).view.read (Elt Ideal) (host (arg m c main_arg0) (arg m c main_arg1)) := by
  rw [Cert.GradUpIdeal.Value.flushed2]
  obtain ⟨-, -, e0, e1, e2⟩ := index t
  funext y
  obtain ⟨z, d, f, rfl⟩ : ∃ (z : Fin 1) (d : Fin 1024) (f : Fin 704), y = ix3 z d f := ⟨y 0, y 1, y 2, eq_ix3 y⟩
  obtain rfl : z = 0 := Subsingleton.elim _ _
  refine (block_apply m c t ((flush0_2 t).mp h) d f).trans ?_
  refine congrArg (host _ _) (funext fun x => Fin.ext ?_)
  match x with
  | 0 => show t.val / 8 = win0_2.index t (0 : Fin 3) * 1 + 1 * 0; omega
  | 1 => show d.val = win0_2.index t (1 : Fin 3) * 1024 + 1 * d.val; omega
  | 2 => show f.val = win0_2.index t (2 : Fin 3) * 704 + 1 * f.val; omega

/-- The blocks cover the result. -/
theorem covers : (cfg0.win 2).Covers := by decide +kernel

theorem frame_kernel : Cert.quiescent_GradUp (hGradUp := Cert.GradUp.Gen.facts) := fun m g _ =>
  Cert.GradUp.Gen.frame (F := Bits) m g

theorem frame_ideal : Cert.quiescent_GradUpIdeal (hGradUpIdeal := Cert.GradUpIdeal.Gen.facts) := fun m g _ =>
  Cert.GradUpIdeal.Gen.frame (F := Ideal) m g

theorem frame_reference : Cert.quiescent_GradUpWholeIdeal (hGradUpWholeIdeal := Cert.GradUpWholeIdeal.Gen.facts) := fun m g _ =>
  (θ_run (Cert.GradUpWholeIdeal.defs (F := Ideal)) _ _).mono (fun r h => ⟨fun c => (h c).2, sem_eq_zero_of_no_sems (by decide) r.2⟩)
    (Cert.GradUpWholeIdeal.Value.run (F := Ideal) m g)

theorem values : Cert.algebraic_GradUpIdeal_GradUpWholeIdeal (hGradUpIdeal := Cert.GradUpIdeal.Gen.facts)
    (hGradUpWholeIdeal := Cert.GradUpWholeIdeal.Gen.facts) := fun m g m' g' _ hm =>
  ⟨fun c => host (arg m c main_arg0) (arg m c main_arg1),
    (θ_run (defs (F := Ideal)) _ _).mono (fun _ h c =>
      ⟨(h c).1.trans ((dats m 0 c).arrAt_eq_of_cover 2 _ (flushed m c) (covers.cover _ (Memref.isWhole_whole _))),
        (h c).2⟩) (Cert.GradUpIdeal.Value.run_blocks (F := Ideal) m g),
    (θ_run (Cert.GradUpWholeIdeal.defs (F := Ideal)) _ _).mono (fun _ h c => by
      obtain ⟨e0, e1⟩ := hm c
      obtain ⟨h0, h1⟩ := h c
      rw [e0, e1] at h0
      exact ⟨h0, h1⟩) (Cert.GradUpWholeIdeal.Value.run (F := Ideal) m' g')⟩

end Cert.WeightsUp

end
-- ==== Proof.WeightsDown.lean ====
module

public import proofs.«01_k».proof.Defs
public import proofs.«01_k».proof.Proof.Gen.GradDown
public import proofs.«01_k».proof.Proof.Gen.GradDown.Frame
public import proofs.«01_k».proof.Proof.Gen.GradDownIdeal.Value
public import proofs.«01_k».proof.Proof.Gen.GradDownWholeIdeal.Run
public import proofs.«01_k».proof.Proof.Tally
public import Idealize.ShloMosaic.Lib.Pointwise
public import Idealize.ShloMosaic.Lib.Pipeline.ValueKit

@[expose] public section

/-! # The gradient of the down weights

Point `8 j + k` adds to the scratch the product of block `j` of the activations, transposed, with the gradient's rows from
`512 k`; the last of the eight stores half of the scratch. -/

noncomputable section

namespace Cert.WeightsDown

open Cert.GradDownIdeal Cert.GradDownIdeal.Gen
open Idealize.ShloMosaic Idealize.ShloMosaic.TcCoe Idealize.SL.Sem
open scoped BigOperators

/-! ## The functions -/

theorem product_apply (v0 : Vec Ideal S1x512x704 .bf16) (v2 : Vec Ideal S512x1024 .bf16) (f : Fin 704) (d : Fin 1024) :
    k0_pay1 (F := Ideal) v0 v2 (ix2 f d) = ∑ p : Fin 512, v0 (ix3 0 p f) * v2 (ix2 p d) := by
  pointwise [k0_pay1]

/-- One half, as the literal. -/
def half : EReal := Ideal.ofBits .f32 0x3F000000#32

theorem result_apply (v : Vec Ideal S704x1024 .f32) (f : Fin 704) (d : Fin 1024) :
    k0_pay4 (F := Ideal) v (ix3 0 f d) = v (ix2 f d) * half := by
  pointwise [k0_pay4, half]

/-- The host's result. -/
def host (a : FVec Ideal ⟨3, ![4, 4096, 704]⟩ .bf16) (g : FVec Ideal ⟨2, ![4096, 1024]⟩ .bf16) :
    FVec Ideal ⟨3, ![4, 704, 1024]⟩ .bf16 :=
  truncf .bf16 (mulf (broadcastInDim Cert.GradDownWholeIdeal.S4x704x1024 ![] Cert.GradDownWholeIdeal.Gen.bcast_S_S4x704x1024
      (constant Cert.GradDownWholeIdeal.S_ .f32 0x3F000000#32))
    (Host.dotGeneral (φ₁ := .bf16) (φ₂ := .bf16)
      Cert.GradDownWholeIdeal.dot_S4x4096x704_S4096x1024_S4x704x1024_1_0_02_1_n_n none a g))
    Cert.GradDownWholeIdeal.Gen.bitsLt_bf16_f32

theorem host_apply (a : FVec Ideal ⟨3, ![4, 4096, 704]⟩ .bf16) (g : FVec Ideal ⟨2, ![4096, 1024]⟩ .bf16) (j : Fin 4)
    (f : Fin 704) (d : Fin 1024) : host a g (ix3 j f d) = half * ∑ t : Fin 4096, a (ix3 j t f) * g (ix2 t d) := by
  pointwise [host, half]

/-! ## The blocks -/

variable (m : (ℓ : Loc nD τ sig) → Buf (Elt Ideal) ℓ)

/-- An argument at the launch. -/
abbrev arg (c : Dev nD) (b : Ref sig .tc) : Buf (Elt Ideal) ((c : Thread nD τ).loc b) := m ((c : Thread nD τ).loc b)

theorem lt_points (t : Fin cfg0.N) : t.val < 32 := lt_of_lt_of_eq t.isLt N_0

/-- The block a point adds to. -/
def slot (t : Fin cfg0.N) : Fin 4 := ⟨t.val / 8, by have := lt_points t; omega⟩

/-- Row `p` of a point's rows. -/
def place (t : Fin cfg0.N) (p : Fin 512) : Fin 4096 := ⟨512 * (t.val % 8) + p.val, by have := p.isLt; omega⟩

theorem index : ∀ t : Fin cfg0.N, (win0_0.index t (0 : Fin 3) = t.val / 8 ∧ win0_0.index t (1 : Fin 3) = t.val % 8
    ∧ win0_0.index t (2 : Fin 3) = 0)
    ∧ (win0_1.index t (0 : Fin 2) = t.val % 8 ∧ win0_1.index t (1 : Fin 2) = 0)
    ∧ win0_2.index t (0 : Fin 3) = t.val / 8 ∧ win0_2.index t (1 : Fin 3) = 0 ∧ win0_2.index t (2 : Fin 3) = 0 := by decide +kernel

theorem act_block (c : Dev nD) (t : Fin cfg0.N) (p : Fin 512) (f : Fin 704) :
    (iblk m c 0 t : Vec Ideal S1x512x704 .bf16) (ix3 0 p f) = arg m c main_arg0 (ix3 (slot t) (place t p) f) := by
  obtain ⟨⟨e0, e1, e2⟩, -⟩ := index t
  refine congrArg (arg m c main_arg0) (funext fun x => Fin.ext ?_)
  match x with
  | 0 => show win0_0.index t (0 : Fin 3) * 1 + 1 * 0 = t.val / 8; omega
  | 1 => show win0_0.index t (1 : Fin 3) * 512 + 1 * p.val = 512 * (t.val % 8) + p.val; omega
  | 2 => show win0_0.index t (2 : Fin 3) * 704 + 1 * f.val = f.val; omega

theorem grad_block (c : Dev nD) (t : Fin cfg0.N) (p : Fin 512) (d : Fin 1024) :
    (iblk m c 1 t : Vec Ideal S512x1024 .bf16) (ix2 p d) = arg m c main_arg1 (ix2 (place t p) d) := by
  obtain ⟨-, ⟨e0, e1⟩, -⟩ := index t
  refine congrArg (arg m c main_arg1) (funext fun x => Fin.ext ?_)
  match x with
  | 0 => show win0_1.index t (0 : Fin 2) * 512 + 1 * p.val = 512 * (t.val % 8) + p.val; omega
  | 1 => show win0_1.index t (1 : Fin 2) * 1024 + 1 * d.val = d.val; omega

/-! ## The scratch -/

/-- What a point adds to the scratch. -/
def now (c : Dev nD) (t : Fin cfg0.N) : FVec Ideal S704x1024 .f32 := k0_pay1 (F := Ideal) (iblk m c 0 t) (iblk m c 1 t)

/-- A row's term of an entry. -/
def term (a : (⟨3, ![4, 4096, 704]⟩ : Shape).Idx → EReal) (g : (⟨2, ![4096, 1024]⟩ : Shape).Idx → EReal) (f : Fin 704)
    (d : Fin 1024) (j : Fin 4) (x : Fin 4096) : EReal := a (ix3 j x f) * g (ix2 x d)

theorem now_apply (c : Dev nD) (t : Fin cfg0.N) (f : Fin 704) (d : Fin 1024) :
    now m c t (ix2 f d) = ∑ p : Fin 512, term (arg m c main_arg0) (arg m c main_arg1) f d (slot t) (place t p) :=
  (product_apply _ _ f d).trans (Finset.sum_congr rfl fun p _ =>
    congrArg₂ (· * ·) (act_block m c t p f) (grad_block m c t p d))

theorem start_eq (v0 v1 : _) : k0_pay2 (F := Ideal) v0 v1 = k0_pay1 (F := Ideal) v0 v1 := shapeCast_self _ _

theorem add_eq (v0 v1 : _) (v : Vec Ideal S704x1024 .f32) :
    k0_pay3 (F := Ideal) v0 v1 v = addf v (k0_pay1 (F := Ideal) v0 v1) := shapeCast_self _ _

/-- The scratch read whole is what was stored into it. -/
theorem stored (h : (Memref.whole cc0_scratch0).IsWhole) (X : Vec Ideal S704x1024 .f32) :
    View.read (Elt Ideal) (View.whole cc0_scratch0) (h.unread X) = X := Memref.IsWhole.read_unread h X

/-- The first of the eight points stores its product. -/
theorem scratch_first (c : Dev nD) (t : Fin cfg0.N) (h : t.val % 8 = 0) : (outsAt0 m c t.val t.isLt).2 = now m c t := by
  rw [outsAt0_A m c t h (by omega) (by omega)]
  frame_out
  exact start_eq ..

/-- What the scratch and the result hold before a point. -/
abbrev before (c : Dev nD) (t : Fin cfg0.N) := outsAt0 m c (t.val - 1) (Nat.lt_of_le_of_lt (Nat.sub_le _ _) t.isLt)

/-- The others add theirs to what the point before left. -/
theorem scratch_next (c : Dev nD) (t : Fin cfg0.N) (h : ¬t.val % 8 = 0) :
    (outsAt0 m c t.val t.isLt).2 = addf (before m c t).2 (now m c t) := by
  by_cases h7 : t.val % 8 = 7
  · rw [outsAt0_C m c t h (by omega) h7]
    frame_out
    rw [stored]
    exact add_eq ..
  · rw [outsAt0_B m c t h (by omega) h7]
    frame_out
    rw [stored]
    exact add_eq ..

/-- The eighth stores half of the scratch. -/
theorem result_last (c : Dev nD) (t : Fin cfg0.N) (h : t.val % 8 = 7) :
    (outsAt0 m c t.val t.isLt).1 = k0_pay4 (F := Ideal) (outsAt0 m c t.val t.isLt).2 := by
  rw [scratch_next m c t (by omega), outsAt0_C m c t (by omega) (by omega) h]
  frame_out
  rw [stored, add_eq]
  rfl

theorem block_apply (c : Dev nD) (t : Fin cfg0.N) (h : t.val % 8 = 7) (f : Fin 704) (d : Fin 1024) :
    (outsAt0 m c t.val t.isLt).1 (ix3 0 f d) = host (arg m c main_arg0) (arg m c main_arg1) (ix3 (slot t) f d) := by
  rw [result_last m c t h, result_apply, host_apply, mul_comm]
  exact congrArg (half * ·) (Tally.row (α := EReal) 512 (fun n h => (outsAt0 m c n h).2 (ix2 f d))
    (term (arg m c main_arg0) (arg m c main_arg1) f d) (fun n h => (slot ⟨n, h⟩).isLt)
    (fun n h h0 => (congrFun (scratch_first m c ⟨n, h⟩ h0) _).trans (now_apply m c ⟨n, h⟩ f d))
    (fun n h h0 => (congrFun (scratch_next m c ⟨n, h⟩ h0) _).trans (congrArg (_ + ·) (now_apply m c ⟨n, h⟩ f d)))
    t.val t.isLt h)

/-! ## The claims -/

theorem flushed (c : Dev nD) (t : Fin cfg0.N) (h : (cfg0.win 2).flush t = true) :
    (dats m 0 c).flushed 2 t = (win0_2.blk t).view.read (Elt Ideal) (host (arg m c main_arg0) (arg m c main_arg1)) := by
  rw [Cert.GradDownIdeal.Value.flushed2]
  obtain ⟨-, -, e0, e1, e2⟩ := index t
  funext y
  obtain ⟨z, f, d, rfl⟩ : ∃ (z : Fin 1) (f : Fin 704) (d : Fin 1024), y = ix3 z f d := ⟨y 0, y 1, y 2, eq_ix3 y⟩
  obtain rfl : z = 0 := Subsingleton.elim _ _
  refine (block_apply m c t ((flush0_2 t).mp h) f d).trans ?_
  refine congrArg (host _ _) (funext fun x => Fin.ext ?_)
  match x with
  | 0 => show t.val / 8 = win0_2.index t (0 : Fin 3) * 1 + 1 * 0; omega
  | 1 => show f.val = win0_2.index t (1 : Fin 3) * 704 + 1 * f.val; omega
  | 2 => show d.val = win0_2.index t (2 : Fin 3) * 1024 + 1 * d.val; omega

/-- The blocks cover the result. -/
theorem covers : (cfg0.win 2).Covers := by decide +kernel

theorem frame_kernel : Cert.quiescent_GradDown (hGradDown := Cert.GradDown.Gen.facts) := fun m g _ =>
  Cert.GradDown.Gen.frame (F := Bits) m g

theorem frame_ideal : Cert.quiescent_GradDownIdeal (hGradDownIdeal := Cert.GradDownIdeal.Gen.facts) := fun m g _ =>
  Cert.GradDownIdeal.Gen.frame (F := Ideal) m g

theorem frame_reference : Cert.quiescent_GradDownWholeIdeal (hGradDownWholeIdeal := Cert.GradDownWholeIdeal.Gen.facts) := fun m g _ =>
  (θ_run (Cert.GradDownWholeIdeal.defs (F := Ideal)) _ _).mono (fun r h => ⟨fun c => (h c).2, sem_eq_zero_of_no_sems (by decide) r.2⟩)
    (Cert.GradDownWholeIdeal.Value.run (F := Ideal) m g)

theorem values : Cert.algebraic_GradDownIdeal_GradDownWholeIdeal (hGradDownIdeal := Cert.GradDownIdeal.Gen.facts)
    (hGradDownWholeIdeal := Cert.GradDownWholeIdeal.Gen.facts) := fun m g m' g' _ hm =>
  ⟨fun c => host (arg m c main_arg0) (arg m c main_arg1),
    (θ_run (defs (F := Ideal)) _ _).mono (fun _ h c =>
      ⟨(h c).1.trans ((dats m 0 c).arrAt_eq_of_cover 2 _ (flushed m c) (covers.cover _ (Memref.isWhole_whole _))),
        (h c).2⟩) (Cert.GradDownIdeal.Value.run_blocks (F := Ideal) m g),
    (θ_run (Cert.GradDownWholeIdeal.defs (F := Ideal)) _ _).mono (fun _ h c => by
      obtain ⟨e0, e1⟩ := hm c
      obtain ⟨h0, h1⟩ := h c
      rw [e0, e1] at h0
      exact ⟨h0, h1⟩) (Cert.GradDownWholeIdeal.Value.run (F := Ideal) m' g')⟩

end Cert.WeightsDown

end
-- ==== Proof.Forward.lean ====
module

public import proofs.«01_k».proof.Defs
public import proofs.«01_k».proof.Proof.Gen.Forth
public import proofs.«01_k».proof.Proof.Gen.Forth.Frame
public import proofs.«01_k».proof.Proof.Gen.ForthIdeal.Value
public import proofs.«01_k».proof.Proof.Gen.ForthWholeIdeal.Run
public import proofs.«01_k».proof.Proof.Err
public import Idealize.ShloMosaic.Lib.Pipeline.ValueKit

@[expose] public section

/-! # The first feed-forward's output

Point `4 i + b` adds half of slice `b` of the product for the 512 rows from `512 i` to what the result's block holds; the
first of the four starts it from the rows of `x`. -/

noncomputable section

namespace Cert.Forward

open Cert.ForthIdeal Cert.ForthIdeal.Gen
open Idealize.ShloMosaic Idealize.ShloMosaic.TcCoe Idealize.SL.Sem
open Cert.Err (half slice rowAt quarter)
open scoped BigOperators

variable (m : (ℓ : Loc nD τ sig) → Buf (Elt Ideal) ℓ)

/-- An argument at the launch. -/
abbrev arg (c : Dev nD) (b : Ref sig .tc) : Buf (Elt Ideal) ((c : Thread nD τ).loc b) := m ((c : Thread nD τ).loc b)

/-! ## The functions -/

theorem product_apply (v0 : Vec Ideal S1x512x704 .bf16) (v2 : Vec Ideal S1x704x1024 .bf16) (p : Fin 512) (k : Fin 1024) :
    k0_pay1 (F := Ideal) v0 v2 (ix2 p k) = half * ∑ f : Fin 704, v0 (ix3 0 p f) * v2 (ix3 0 f k) := by
  pointwise [k0_pay1, Cert.Err.half]

/-- The host's result. -/
def host (a : FVec Ideal ⟨3, ![4, 4096, 704]⟩ .bf16) (w : FVec Ideal ⟨3, ![4, 704, 1024]⟩ .bf16)
    (x : FVec Ideal ⟨2, ![4096, 1024]⟩ .f32) : FVec Ideal ⟨2, ![4096, 1024]⟩ .f32 :=
  addf x (mulf (broadcastInDim Cert.ForthWholeIdeal.S4096x1024 ![] Cert.ForthWholeIdeal.Gen.bcast_S_S4096x1024
      (constant Cert.ForthWholeIdeal.S_ .f32 0x3F000000#32))
    (Host.dotGeneral (φ₁ := .bf16) (φ₂ := .bf16)
      Cert.ForthWholeIdeal.dot_S4x4096x704_S4x704x1024_S4096x1024_02_01_1_2_n_n none a w))

theorem host_apply (a : FVec Ideal ⟨3, ![4, 4096, 704]⟩ .bf16) (w : FVec Ideal ⟨3, ![4, 704, 1024]⟩ .bf16)
    (x : FVec Ideal ⟨2, ![4096, 1024]⟩ .f32) (t : Fin 4096) (k : Fin 1024) : host a w x (ix2 t k) = Err.out a w x t k := by
  have e : Host.dotGeneral (φ₁ := .bf16) (φ₂ := .bf16)
      Cert.ForthWholeIdeal.dot_S4x4096x704_S4x704x1024_S4096x1024_02_01_1_2_n_n none a w (ix2 t k) = _ := Err.host_product a w t k
  unfold host Err.out
  generalize Host.dotGeneral (φ₁ := .bf16) (φ₂ := .bf16)
    Cert.ForthWholeIdeal.dot_S4x4096x704_S4x704x1024_S4096x1024_02_01_1_2_n_n none a w = d at e ⊢
  rw [← e]
  pointwise [Cert.Err.half]

/-! ## The blocks -/

theorem lt_points (n : Nat) (h : n < cfg0.N) : n < 32 := lt_of_lt_of_eq h N_0

theorem index : ∀ t : Fin cfg0.N, (win0_0.index t (0 : Fin 3) = t.val % 4 ∧ win0_0.index t (1 : Fin 3) = t.val / 4
    ∧ win0_0.index t (2 : Fin 3) = 0)
    ∧ (win0_1.index t (0 : Fin 3) = t.val % 4 ∧ win0_1.index t (1 : Fin 3) = 0 ∧ win0_1.index t (2 : Fin 3) = 0)
    ∧ (win0_2.index t (0 : Fin 2) = t.val / 4 ∧ win0_2.index t (1 : Fin 2) = 0)
    ∧ win0_3.index t (0 : Fin 2) = t.val / 4 ∧ win0_3.index t (1 : Fin 2) = 0 := by decide +kernel

/-- Row `p` of a point's rows. -/
abbrev place (t : Fin cfg0.N) (p : Fin 512) : Fin 4096 := rowAt t.val (lt_points _ t.isLt) p

theorem a_block (c : Dev nD) (t : Fin cfg0.N) (p : Fin 512) (f : Fin 704) :
    (iblk m c 0 t : Vec Ideal S1x512x704 .bf16) (ix3 0 p f) = arg m c main_arg0 (ix3 (quarter t.val) (place t p) f) := by
  obtain ⟨⟨e0, e1, e2⟩, -⟩ := index t
  refine congrArg (arg m c main_arg0) (funext fun x => Fin.ext ?_)
  match x with
  | 0 => show win0_0.index t (0 : Fin 3) * 1 + 1 * 0 = t.val % 4; omega
  | 1 => show win0_0.index t (1 : Fin 3) * 512 + 1 * p.val = 512 * (t.val / 4) + p.val; omega
  | 2 => show win0_0.index t (2 : Fin 3) * 704 + 1 * f.val = f.val; omega

theorem w_block (c : Dev nD) (t : Fin cfg0.N) (f : Fin 704) (k : Fin 1024) :
    (iblk m c 1 t : Vec Ideal S1x704x1024 .bf16) (ix3 0 f k) = arg m c main_arg1 (ix3 (quarter t.val) f k) := by
  obtain ⟨-, ⟨e0, e1, e2⟩, -⟩ := index t
  refine congrArg (arg m c main_arg1) (funext fun x => Fin.ext ?_)
  match x with
  | 0 => show win0_1.index t (0 : Fin 3) * 1 + 1 * 0 = t.val % 4; omega
  | 1 => show win0_1.index t (1 : Fin 3) * 704 + 1 * f.val = f.val; omega
  | 2 => show win0_1.index t (2 : Fin 3) * 1024 + 1 * k.val = k.val; omega

theorem x_block (c : Dev nD) (t : Fin cfg0.N) (p : Fin 512) (k : Fin 1024) :
    (iblk m c 2 t : Vec Ideal S512x1024 .f32) (ix2 p k) = arg m c main_arg2 (ix2 (place t p) k) := by
  obtain ⟨-, -, ⟨e0, e1⟩, -⟩ := index t
  refine congrArg (arg m c main_arg2) (funext fun x => Fin.ext ?_)
  match x with
  | 0 => show win0_2.index t (0 : Fin 2) * 512 + 1 * p.val = 512 * (t.val / 4) + p.val; omega
  | 1 => show win0_2.index t (1 : Fin 2) * 1024 + 1 * k.val = k.val; omega

/-! ## The result's block -/

/-- What a point adds. -/
def now (c : Dev nD) (t : Fin cfg0.N) : FVec Ideal S512x1024 .f32 := k0_pay1 (F := Ideal) (iblk m c 0 t) (iblk m c 1 t)

theorem now_apply (c : Dev nD) (t : Fin cfg0.N) (p : Fin 512) (k : Fin 1024) :
    now m c t (ix2 p k) = half * slice (arg m c main_arg0) (arg m c main_arg1) (quarter t.val) (place t p) k :=
  (product_apply _ _ p k).trans (congrArg (half * ·) (Finset.sum_congr rfl fun f _ =>
    congrArg₂ (· * ·) (a_block m c t p f) (w_block m c t f k)))

theorem add_eq (v0 v2 : _) (d : Vec Ideal S512x1024 .f32) :
    k0_pay3 (F := Ideal) v0 v2 d = addf d (k0_pay1 (F := Ideal) v0 v2) := congrArg (addf · _) (shapeCast_self _ _)

theorem block_first (c : Dev nD) (t : Fin cfg0.N) (h : t.val % 4 = 0) :
    outsAt0 m c t.val t.isLt = addf (iblk m c 2 t : Vec Ideal S512x1024 .f32) (now m c t) := by
  rw [outsAt0_A m c t h (by omega)]
  frame_out
  rfl

theorem block_next (c : Dev nD) (t : Fin cfg0.N) (h : ¬t.val % 4 = 0) :
    outsAt0 m c t.val t.isLt = addf (outsAt0 m c (t.val - 1) (Nat.lt_of_le_of_lt (Nat.sub_le _ _) t.isLt)) (now m c t) := by
  rw [outsAt0_B m c t h (by omega)]
  frame_out
  exact add_eq ..

/-- The fourth point leaves the output's rows. -/
theorem block_last (c : Dev nD) (t : Fin cfg0.N) (h : t.val % 4 = 3) (p : Fin 512) (k : Fin 1024) :
    outsAt0 m c t.val t.isLt (ix2 p k)
      = Err.out (arg m c main_arg0) (arg m c main_arg1) (arg m c main_arg2) (place t p) k :=
  Err.gathered (arg m c main_arg0) (arg m c main_arg1) (arg m c main_arg2) lt_points p k
    (fun n h => outsAt0 m c n h (ix2 p k))
    (fun n h h0 => (congrFun (block_first m c ⟨n, h⟩ h0) _).trans
      (congrArg₂ (· + ·) (x_block m c ⟨n, h⟩ p k) (now_apply m c ⟨n, h⟩ p k)))
    (fun n h h0 => (congrFun (block_next m c ⟨n, h⟩ h0) _).trans (congrArg (_ + ·) (now_apply m c ⟨n, h⟩ p k)))
    t.val t.isLt h

/-! ## The claims -/

theorem flushed (c : Dev nD) (t : Fin cfg0.N) (h : (cfg0.win 3).flush t = true) : (dats m 0 c).flushed 3 t
    = (win0_3.blk t).view.read (Elt Ideal) (host (arg m c main_arg0) (arg m c main_arg1) (arg m c main_arg2)) := by
  rw [Cert.ForthIdeal.Value.flushed3]
  obtain ⟨-, -, -, e0, e1⟩ := index t
  funext y
  obtain ⟨p, k, rfl⟩ : ∃ (p : Fin 512) (k : Fin 1024), y = ix2 p k := ⟨y 0, y 1, eq_ix2 y⟩
  refine (block_last m c t ((flush0_3 t).mp h) p k).trans ?_
  rw [← host_apply]
  refine congrArg (host _ _ _) (funext fun x => Fin.ext ?_)
  match x with
  | 0 => show 512 * (t.val / 4) + p.val = win0_3.index t (0 : Fin 2) * 512 + 1 * p.val; omega
  | 1 => show k.val = win0_3.index t (1 : Fin 2) * 1024 + 1 * k.val; omega

/-- The blocks cover the result. -/
theorem covers : (cfg0.win 3).Covers := by decide +kernel

theorem frame_kernel : Cert.quiescent_Forth (hForth := Cert.Forth.Gen.facts) := fun m g _ => Cert.Forth.Gen.frame (F := Bits) m g

theorem frame_ideal : Cert.quiescent_ForthIdeal (hForthIdeal := Cert.ForthIdeal.Gen.facts) := fun m g _ =>
  Cert.ForthIdeal.Gen.frame (F := Ideal) m g

theorem frame_reference : Cert.quiescent_ForthWholeIdeal (hForthWholeIdeal := Cert.ForthWholeIdeal.Gen.facts) := fun m g _ =>
  (θ_run (Cert.ForthWholeIdeal.defs (F := Ideal)) _ _).mono (fun r h => ⟨fun c => (h c).2, sem_eq_zero_of_no_sems (by decide) r.2⟩)
    (Cert.ForthWholeIdeal.Value.run (F := Ideal) m g)

theorem values : Cert.algebraic_ForthIdeal_ForthWholeIdeal (hForthIdeal := Cert.ForthIdeal.Gen.facts)
    (hForthWholeIdeal := Cert.ForthWholeIdeal.Gen.facts) := fun m g m' g' _ hm =>
  ⟨fun c => host (arg m c main_arg0) (arg m c main_arg1) (arg m c main_arg2),
    (θ_run (defs (F := Ideal)) _ _).mono (fun _ h c =>
      ⟨(h c).1.trans ((dats m 0 c).arrAt_eq_of_cover 3 _ (flushed m c) (covers.cover _ (Memref.isWhole_whole _))),
        (h c).2⟩) (Cert.ForthIdeal.Value.run_blocks (F := Ideal) m g),
    (θ_run (Cert.ForthWholeIdeal.defs (F := Ideal)) _ _).mono (fun _ h c => by
      obtain ⟨e0, e1, e2⟩ := hm c
      obtain ⟨h0, h1⟩ := h c
      rw [e0, e1, e2] at h0
      exact ⟨h0, h1⟩) (Cert.ForthWholeIdeal.Value.run (F := Ideal) m' g')⟩

end Cert.Forward

end
-- ==== Proof.Project.lean ====
module

public import proofs.«01_k».proof.Defs
public import proofs.«01_k».proof.Proof.Gen.Proj
public import proofs.«01_k».proof.Proof.Gen.Proj.Frame
public import proofs.«01_k».proof.Proof.Gen.ProjIdeal.Value
public import proofs.«01_k».proof.Proof.Gen.ProjWholeIdeal.Run
public import proofs.«01_k».proof.Proof.Back
public import proofs.«01_k».proof.Proof.Step
public import Idealize.ShloMosaic.Lib.Pipeline.ValueKit

@[expose] public section

/-! # The mixer's projection

Each of the sixteen points norms 256 rows, multiplies them by the row of gains and by the whole projection. Both sides take
the same sums, so no rearranging is needed. -/

noncomputable section

namespace Cert.Project

open Idealize.ShloMosaic Idealize.ShloMosaic.TcCoe Idealize.SL.Sem
open Cert.Gradient (Row normed root rowOf width)
open Cert.Step (off2)
open scoped BigOperators

/-! ## The functions -/

/-- The normed row times its gains. -/
def gained (x g : Row) : Row := fun k => normed x k * g k

/-- The projection of a row. -/
def proj (x g : Row) (w : (⟨2, ![1024, 2688]⟩ : Shape).Idx → EReal) (j : Fin 2688) : EReal :=
  ∑ k : Fin 1024, gained x g k * w (ix2 k j)

section Payload

open Cert.ProjIdeal Cert.ProjIdeal.Gen

theorem gained_apply (x : Vec Ideal S256x1024 .f32) (g : Vec Ideal S1x1024 .f32) (p : Fin 256) (k : Fin 1024) :
    k0_pay1 (F := Ideal) x g (ix2 p k) = gained (rowOf x p) (rowOf g 0) k := by
  pointwise [k0_pay1, gained, normed, root, rowOf, width]

theorem proj_apply (x : Vec Ideal S256x1024 .f32) (g : Vec Ideal S1x1024 .f32) (w : Vec Ideal S1024x2688 .bf16) (p : Fin 256)
    (j : Fin 2688) : k0_pay2 (F := Ideal) x g w (ix2 p j) = proj (rowOf x p) (rowOf g 0) w j := by
  pointwise [k0_pay2, k0_pay1, proj, gained, normed, root, rowOf, width]

end Payload

section Host

open Cert.ProjWholeIdeal Cert.ProjWholeIdeal.Gen

/-- The host's normed rows. -/
def hostRows (x : FVec Ideal S4096x1024 .f32) (g : FVec Ideal S1x1024 .f32) : FVec Ideal S4096x1024 .bf16 :=
  truncf .bf16 (mulf (mulf x (broadcastInDim S4096x1024 ![0, 1] bcast_S4096x1_S4096x1024_0_1
    (Host.rsqrt (addf (Host.divf (broadcastInDim S4096x1 ![0] bcast_S4096_S4096x1_0
      (Host.reduceAdd (mulf x x) (constant S_ .f32 0x00000000#32) reducesTo_S4096x1024_S4096_d1 h_S_))
      (broadcastInDim S4096x1 ![] bcast_S_S4096x1 (constant S_ .f32 0x44800000#32)))
      (broadcastInDim S4096x1 ![] bcast_S_S4096x1 (constant S_ .f32 0x358637BD#32))))))
    (broadcastInDim S4096x1024 ![0, 1] bcast_S1x1024_S4096x1024_0_1 g)) bitsLt_bf16_f32

/-- The host's projection. -/
def hostProj (x : FVec Ideal S4096x1024 .f32) (g : FVec Ideal S1x1024 .f32) (w : FVec Ideal S1024x2688 .bf16) :
    FVec Ideal S4096x2688 .f32 :=
  Host.dotGeneral (φ₁ := .bf16) (φ₂ := .bf16) dot_S4096x1024_S1024x2688_S4096x2688_1_0_0_1_n_n none (hostRows x g) w

theorem hostRows_apply (x : FVec Ideal S4096x1024 .f32) (g : FVec Ideal S1x1024 .f32) (t : Fin 4096) (k : Fin 1024) :
    hostRows x g (ix2 t k) = gained (rowOf x t) (rowOf g 0) k := by
  pointwise [hostRows, gained, normed, root, rowOf, width]

theorem hostProj_apply (x : FVec Ideal S4096x1024 .f32) (g : FVec Ideal S1x1024 .f32) (w : FVec Ideal S1024x2688 .bf16)
    (t : Fin 4096) (j : Fin 2688) : hostProj x g w (ix2 t j) = proj (rowOf x t) (rowOf g 0) w j := by
  pointwise [hostProj, hostRows, proj, gained, normed, root, rowOf, width]

end Host

/-! ## The blocks -/

open Cert.ProjIdeal Cert.ProjIdeal.Gen

variable (m : (ℓ : Loc nD τ sig) → Buf (Elt Ideal) ℓ)

/-- An argument at the launch. -/
abbrev arg (c : Dev nD) (b : Ref sig .tc) : Buf (Elt Ideal) ((c : Thread nD τ).loc b) := m ((c : Thread nD τ).loc b)

theorem index : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ win0_4.index t (0 : Fin 2) = t.val ∧ win0_4.index t (1 : Fin 2) = 0 := by decide +kernel

/-- Row `p` of a point's rows. -/
def place (t : Fin cfg0.N) (p : Fin 256) : Fin 4096 :=
  ⟨256 * t.val + p.val, by have h : t.val < 16 := lt_of_lt_of_eq t.isLt N_0; have := p.isLt; omega⟩

theorem x_block (c : Dev nD) (t : Fin cfg0.N) (p : Fin 256) :
    rowOf (iblk m c 0 t : Vec Ideal S256x1024 .f32) p = rowOf (arg m c main_arg0) (place t p) := by
  obtain ⟨⟨e0, e1⟩, -⟩ := index t
  funext k
  refine congrArg (arg m c main_arg0) (funext fun x => Fin.ext ?_)
  match x with
  | 0 => show win0_0.index t (0 : Fin 2) * 256 + 1 * p.val = 256 * t.val + p.val; omega
  | 1 => show win0_0.index t (1 : Fin 2) * 1024 + 1 * k.val = k.val; omega

theorem g_block (c : Dev nD) (t : Fin cfg0.N) :
    rowOf (iblk m c 1 t : Vec Ideal S1x1024 .f32) 0 = rowOf (arg m c main_arg1) 0 := by
  obtain ⟨-, ⟨e0, e1⟩, -⟩ := index t
  funext k
  refine congrArg (arg m c main_arg1) (funext fun x => Fin.ext ?_)
  match x with
  | 0 => show win0_1.index t (0 : Fin 2) * 1 + 1 * 0 = 0; omega
  | 1 => show win0_1.index t (1 : Fin 2) * 1024 + 1 * k.val = k.val; omega

theorem w_block (c : Dev nD) (t : Fin cfg0.N) : (iblk m c 2 t : Vec Ideal S1024x2688 .bf16) = arg m c main_arg2 := by
  obtain ⟨-, -, ⟨e0, e1⟩, -⟩ := index t
  funext y
  refine congrArg (arg m c main_arg2) (funext fun x => Fin.ext ?_)
  match x with
  | 0 => show win0_2.index t (0 : Fin 2) * 1024 + 1 * (y 0).val = (y 0).val; omega
  | 1 => show win0_2.index t (1 : Fin 2) * 2688 + 1 * (y 1).val = (y 1).val; omega

/-! ## The claims -/

theorem flushed3 (c : Dev nD) (t : Fin cfg0.N) : (dats m 0 c).flushed 3 t
    = (win0_3.blk t).view.read (Elt Ideal) (hostProj (arg m c main_arg0) (arg m c main_arg1) (arg m c main_arg2)) := by
  rw [Cert.ProjIdeal.Value.flushed3]
  unfold out0_3
  rw [View.canon_unit_zero off2, View.ld_unit_zero off2, View.ld_unit_zero off2, View.ld_unit_zero off2]
  obtain ⟨-, -, -, ⟨e0, e1⟩, -⟩ := index t
  funext y
  obtain ⟨p, j, rfl⟩ : ∃ (p : Fin 256) (j : Fin 2688), y = ix2 p j := ⟨y 0, y 1, eq_ix2 y⟩
  refine (proj_apply _ _ _ p j).trans ?_
  rw [x_block, g_block, w_block, ← hostProj_apply]
  refine congrArg (hostProj _ _ _) (funext fun x => Fin.ext ?_)
  match x with
  | 0 => show 256 * t.val + p.val = win0_3.index t (0 : Fin 2) * 256 + 1 * p.val; omega
  | 1 => show j.val = win0_3.index t (1 : Fin 2) * 2688 + 1 * j.val; omega

theorem flushed4 (c : Dev nD) (t : Fin cfg0.N) : (dats m 0 c).flushed 4 t
    = (win0_4.blk t).view.read (Elt Ideal) (hostRows (arg m c main_arg0) (arg m c main_arg1)) := by
  rw [Cert.ProjIdeal.Value.flushed4]
  unfold out0_4
  rw [View.canon_unit_zero off2, View.ld_unit_zero off2, View.ld_unit_zero off2]
  obtain ⟨-, -, -, -, e0, e1⟩ := index t
  funext y
  obtain ⟨p, k, rfl⟩ : ∃ (p : Fin 256) (k : Fin 1024), y = ix2 p k := ⟨y 0, y 1, eq_ix2 y⟩
  refine (gained_apply _ _ p k).trans ?_
  rw [x_block, g_block, ← hostRows_apply]
  refine congrArg (hostRows _ _) (funext fun x => Fin.ext ?_)
  match x with
  | 0 => show 256 * t.val + p.val = win0_4.index t (0 : Fin 2) * 256 + 1 * p.val; omega
  | 1 => show k.val = win0_4.index t (1 : Fin 2) * 1024 + 1 * k.val; omega

/-- The blocks cover the two results. -/
theorem covers : (cfg0.win 3).Covers ∧ (cfg0.win 4).Covers := by decide +kernel

theorem frame_kernel : Cert.quiescent_Proj (hProj := Cert.Proj.Gen.facts) := fun m g _ => Cert.Proj.Gen.frame (F := Bits) m g

theorem frame_ideal : Cert.quiescent_ProjIdeal (hProjIdeal := Cert.ProjIdeal.Gen.facts) := fun m g _ =>
  Cert.ProjIdeal.Gen.frame (F := Ideal) m g

theorem frame_reference : Cert.quiescent_ProjWholeIdeal (hProjWholeIdeal := Cert.ProjWholeIdeal.Gen.facts) := fun m g _ =>
  (θ_run (Cert.ProjWholeIdeal.defs (F := Ideal)) _ _).mono (fun r h => ⟨fun c => (h c).2.2, sem_eq_zero_of_no_sems (by decide) r.2⟩)
    (Cert.ProjWholeIdeal.Value.run (F := Ideal) m g)

theorem values : Cert.algebraic_ProjIdeal_ProjWholeIdeal (hProjIdeal := Cert.ProjIdeal.Gen.facts)
    (hProjWholeIdeal := Cert.ProjWholeIdeal.Gen.facts) := fun m g m' g' _ hm =>
  ⟨fun c => hostProj (arg m c main_arg0) (arg m c main_arg1) (arg m c main_arg2),
    fun c => hostRows (arg m c main_arg0) (arg m c main_arg1),
    (θ_run (defs (F := Ideal)) _ _).mono (fun _ h c =>
      ⟨(h c).1.trans ((dats m 0 c).arrAt_eq_of_cover 3 _ (fun t _ => flushed3 m c t) (covers.1.cover _ (Memref.isWhole_whole _))),
        (h c).2.1.trans ((dats m 0 c).arrAt_eq_of_cover 4 _ (fun t _ => flushed4 m c t) (covers.2.cover _ (Memref.isWhole_whole _))),
        (h c).2.2⟩) (Cert.ProjIdeal.Value.run_blocks (F := Ideal) m g),
    (θ_run (Cert.ProjWholeIdeal.defs (F := Ideal)) _ _).mono (fun _ h c => by
      obtain ⟨e0, e1, e2⟩ := hm c
      obtain ⟨h0, h1, h2⟩ := h c
      rw [e0, e1, e2] at h0
      rw [e0, e1] at h1
      exact ⟨h0, h1, h2⟩) (Cert.ProjWholeIdeal.Value.run (F := Ideal) m' g')⟩

end Cert.Project

end
-- ==== Proof.Slope.lean ====
module

public import proofs.«01_k».proof.Defs
public import proofs.«01_k».proof.Proof.Gen.Act
public import proofs.«01_k».proof.Proof.Gen.Act.Frame
public import proofs.«01_k».proof.Proof.Gen.ActIdeal.Value
public import proofs.«01_k».proof.Proof.Gen.ActWholeIdeal.Run
public import proofs.«01_k».proof.Proof.Err
public import proofs.«01_k».proof.Proof.Step
public import Idealize.ShloMosaic.Lib.Pipeline.ValueKit

@[expose] public section

/-! # The gradient through the activation

Point `4 i + b` takes slice `b` and the 512 rows from `512 i`: the gradient of the slice's activation, the slice's two halves
again from the normed rows, and from the three the gradients of the two halves, stored as the two parts of one block. -/

noncomputable section

namespace Cert.Slope

open Idealize.ShloMosaic Idealize.ShloMosaic.TcCoe Idealize.SL.Sem
open Cert.Err (half)
open Cert.Step (off2)
open scoped BigOperators

/-! ## The functions -/

/-- The value of the literal one. -/
def one : EReal := Ideal.ofBits .f32 0x3F800000#32

theorem one_eq : one = 1 := by
  unfold one
  simp [Ideal.ofBits, Ideal.ieee, -EReal.coe_mul]
  norm_cast
  norm_num

/-- The logistic function, as the host writes it. -/
def squash (x : EReal) : EReal := Ideal.div one (one + Ideal.exp (-x))

theorem squash_eq (x : EReal) : Ideal.logistic x = squash x := by
  unfold squash
  rw [one_eq]
  rfl

/-- The gradient of the first half, of the activation's gradient `d` and the halves `g` and `u`. -/
def first (d g u : EReal) : EReal := d * u * (squash g * (one + g * (one - squash g)))

/-- The gradient of the second half. -/
def second (d g : EReal) : EReal := d * (g * squash g)

/-- The activation's gradient. -/
def act (y : (⟨2, ![4096, 1024]⟩ : Shape).Idx → EReal) (w : (⟨3, ![4, 704, 1024]⟩ : Shape).Idx → EReal) (b : Fin 4) (t : Fin 4096)
    (f : Fin 704) : EReal := half * ∑ k : Fin 1024, y (ix2 t k) * w (ix3 b f k)

/-- Half `e` of a slice. -/
def part (h : (⟨2, ![4096, 1024]⟩ : Shape).Idx → EReal) (w : (⟨4, ![2, 4, 1024, 704]⟩ : Shape).Idx → EReal) (e : Fin 2) (b : Fin 4)
    (t : Fin 4096) (f : Fin 704) : EReal := ∑ k : Fin 1024, h (ix2 t k) * w (ix4 e b k f)

section Payload

open Cert.ActIdeal Cert.ActIdeal.Gen

theorem act_apply (v0 : Vec Ideal S512x1024 .bf16) (v1 : Vec Ideal S1x704x1024 .bf16) (p : Fin 512) (f : Fin 704) :
    k0_pay2 (F := Ideal) v0 v1 (ix2 p f) = half * ∑ k : Fin 1024, v0 (ix2 p k) * v1 (ix3 0 f k) := by
  pointwise [k0_pay2, Cert.Err.half]

theorem part_apply (v6 : Vec Ideal S512x1024 .bf16) (v7 : Vec Ideal S1x1x1024x704 .bf16) (p : Fin 512) (f : Fin 704) :
    k0_pay3 (F := Ideal) v6 v7 (ix2 p f) = ∑ k : Fin 1024, v6 (ix2 p k) * v7 (ix4 0 0 k f) := by
  pointwise [k0_pay3]

theorem first_apply (v0 : Vec Ideal S512x1024 .bf16) (v1 : Vec Ideal S1x704x1024 .bf16) (v6 : Vec Ideal S512x1024 .bf16)
    (v7 v10 : Vec Ideal S1x1x1024x704 .bf16) (p : Fin 512) (f : Fin 704) :
    k0_pay5 (F := Ideal) v0 v1 v6 v7 v10 (ix4 0 0 p f)
      = first (k0_pay2 (F := Ideal) v0 v1 (ix2 p f)) (k0_pay3 (F := Ideal) v6 v7 (ix2 p f)) (k0_pay3 (F := Ideal) v6 v10 (ix2 p f)) := by
  unfold first
  rw [← squash_eq]
  pointwise [k0_pay5, k0_pay4, k0_pay3, k0_pay2, one]

theorem second_apply (v0 : Vec Ideal S512x1024 .bf16) (v1 : Vec Ideal S1x704x1024 .bf16) (v6 : Vec Ideal S512x1024 .bf16)
    (v7 : Vec Ideal S1x1x1024x704 .bf16) (p : Fin 512) (f : Fin 704) :
    k0_pay1 (k0_pay6 (F := Ideal) v0 v1 v6 v7) (ix4 0 0 p f)
      = second (k0_pay2 (F := Ideal) v0 v1 (ix2 p f)) (k0_pay3 (F := Ideal) v6 v7 (ix2 p f)) := by
  unfold second
  rw [← squash_eq]
  pointwise [k0_pay1, k0_pay6, k0_pay4, k0_pay3, k0_pay2]

end Payload

section Host

open Cert.ActWholeIdeal Cert.ActWholeIdeal.Gen

/-- A literal at every index. -/
abbrev lit (b : BitVec 32) : FVec Ideal S4x4096x704 .f32 := broadcastInDim S4x4096x704 ![] bcast_S_S4x4096x704 (constant S_ .f32 b)

/-- The host's gradient of the activation. -/
def hostAct (y : FVec Ideal S4096x1024 .bf16) (w : FVec Ideal S4x704x1024 .bf16) : FVec Ideal S4x4096x704 .f32 :=
  mulf (lit 0x3F000000#32) (transpose S4x4096x704 [0, 2, 1] (Host.dotGeneral (φ₁ := .bf16) (φ₂ := .bf16)
    dot_S4x704x1024_S4096x1024_S4x704x4096_2_1_01_0_n_n none w y) transposes_S4x704x4096_S4x4096x704_0_2_1)

/-- The host's two halves together. -/
def hostBoth (h : FVec Ideal S4096x1024 .bf16) (w : FVec Ideal S2x4x1024x704 .bf16) : FVec Ideal S2x4x4096x704 .f32 :=
  transpose S2x4x4096x704 [0, 1, 3, 2] (Host.dotGeneral (φ₁ := .bf16) (φ₂ := .bf16)
    dot_S2x4x1024x704_S4096x1024_S2x4x704x4096_2_1_013_0_n_n none w h) transposes_S2x4x704x4096_S2x4x4096x704_0_1_3_2

/-- The host's first half. -/
def hostGate (v : FVec Ideal S2x4x4096x704 .f32) : FVec Ideal S4x4096x704 .f32 :=
  shapeCast S4x4096x704 (extractStridedSlice S1x4x4096x704 ![0, 0, 0, 0] v slices_S2x4x4096x704_S1x4x4096x704_0_0_0_0)
    shapeCasts_S1x4x4096x704_S4x4096x704

/-- The host's second half. -/
def hostUp (v : FVec Ideal S2x4x4096x704 .f32) : FVec Ideal S4x4096x704 .f32 :=
  shapeCast S4x4096x704 (extractStridedSlice S1x4x4096x704 ![1, 0, 0, 0] v slices_S2x4x4096x704_S1x4x4096x704_1_0_0_0)
    shapeCasts_S1x4x4096x704_S4x4096x704

/-- The host's logistic function. -/
def hostSquash (g : FVec Ideal S4x4096x704 .f32) : FVec Ideal S4x4096x704 .f32 :=
  Host.divf (lit 0x3F800000#32) (addf (lit 0x3F800000#32) (Host.exp (Host.negf g)))

/-- The host's gradient of the first half. -/
def hostFirst (d g u : FVec Ideal S4x4096x704 .f32) : FVec Ideal S4x4096x704 .f32 :=
  mulf (mulf d u) (mulf (hostSquash g) (addf (lit 0x3F800000#32) (mulf g (subf (lit 0x3F800000#32) (hostSquash g)))))

/-- The host's gradient of the second half. -/
def hostSecond (d g : FVec Ideal S4x4096x704 .f32) : FVec Ideal S4x4096x704 .f32 := mulf d (mulf g (hostSquash g))

/-- The two stacked. -/
def stack (a b : FVec Ideal S4x4096x704 .f32) : FVec Ideal S2x4x4096x704 .bf16 :=
  truncf .bf16 (concatenate S2x4x4096x704 0 [⟨S1x4x4096x704, broadcastInDim S1x4x4096x704 ![1, 2, 3] bcast_S4x4096x704_S1x4x4096x704_1_2_3 a⟩,
    ⟨S1x4x4096x704, broadcastInDim S1x4x4096x704 ![1, 2, 3] bcast_S4x4096x704_S1x4x4096x704_1_2_3 b⟩]
    concatenates_S1x4x4096x704_S1x4x4096x704_S2x4x4096x704_d0) bitsLt_bf16_f32

/-- The host's result. -/
def host (y h : FVec Ideal S4096x1024 .bf16) (wu : FVec Ideal S2x4x1024x704 .bf16) (wd : FVec Ideal S4x704x1024 .bf16) :
    FVec Ideal S2x4x4096x704 .bf16 :=
  stack (hostFirst (hostAct y wd) (hostGate (hostBoth h wu)) (hostUp (hostBoth h wu)))
    (hostSecond (hostAct y wd) (hostGate (hostBoth h wu)))

theorem hostAct_apply (y : FVec Ideal S4096x1024 .bf16) (w : FVec Ideal S4x704x1024 .bf16) (b : Fin 4) (t : Fin 4096) (f : Fin 704) :
    hostAct y w (ix3 b t f) = act y w b t f := by
  have e : hostAct y w (ix3 b t f) = half * ∑ k : Fin 1024, w (ix3 b f k) * y (ix2 t k) := by
    pointwise [hostAct, lit, Cert.Err.half]
  exact e.trans (congrArg (half * ·) (Finset.sum_congr rfl fun k _ => mul_comm (w (ix3 b f k) : EReal) (y (ix2 t k))))

theorem hostBoth_apply (h : FVec Ideal S4096x1024 .bf16) (w : FVec Ideal S2x4x1024x704 .bf16) (e : Fin 2) (b : Fin 4) (t : Fin 4096)
    (f : Fin 704) : hostBoth h w (ix4 e b t f) = part h w e b t f := by
  have e' : hostBoth h w (ix4 e b t f) = ∑ k : Fin 1024, w (ix4 e b k f) * h (ix2 t k) := by pointwise [hostBoth]
  exact e'.trans (Finset.sum_congr rfl fun k _ => mul_comm (w (ix4 e b k f) : EReal) (h (ix2 t k)))

theorem hostGate_apply (v : FVec Ideal S2x4x4096x704 .f32) (b : Fin 4) (t : Fin 4096) (f : Fin 704) :
    hostGate v (ix3 b t f) = v (ix4 0 b t f) := by
  pointwise [hostGate]

theorem hostUp_apply (v : FVec Ideal S2x4x4096x704 .f32) (b : Fin 4) (t : Fin 4096) (f : Fin 704) :
    hostUp v (ix3 b t f) = v (ix4 1 b t f) := by
  pointwise [hostUp]

theorem hostFirst_apply (d g u : FVec Ideal S4x4096x704 .f32) (b : Fin 4) (t : Fin 4096) (f : Fin 704) :
    hostFirst d g u (ix3 b t f) = first (d (ix3 b t f)) (g (ix3 b t f)) (u (ix3 b t f)) := by
  pointwise [hostFirst, hostSquash, lit, first, squash, one]

theorem hostSecond_apply (d g : FVec Ideal S4x4096x704 .f32) (b : Fin 4) (t : Fin 4096) (f : Fin 704) :
    hostSecond d g (ix3 b t f) = second (d (ix3 b t f)) (g (ix3 b t f)) := by
  pointwise [hostSecond, hostSquash, lit, second, squash, one]

theorem stack_first (a a' : FVec Ideal S4x4096x704 .f32) (b : Fin 4) (t : Fin 4096) (f : Fin 704) :
    stack a a' (ix4 0 b t f) = a (ix3 b t f) := by
  pointwise [stack]

theorem stack_second (a a' : FVec Ideal S4x4096x704 .f32) (b : Fin 4) (t : Fin 4096) (f : Fin 704) :
    stack a a' (ix4 1 b t f) = a' (ix3 b t f) := by
  pointwise [stack]

theorem host_first (y h : FVec Ideal S4096x1024 .bf16) (wu : FVec Ideal S2x4x1024x704 .bf16) (wd : FVec Ideal S4x704x1024 .bf16)
    (b : Fin 4) (t : Fin 4096) (f : Fin 704) :
    host y h wu wd (ix4 0 b t f) = first (act y wd b t f) (part h wu 0 b t f) (part h wu 1 b t f) := by
  unfold host
  rw [stack_first, hostFirst_apply, hostAct_apply, hostGate_apply, hostUp_apply, hostBoth_apply, hostBoth_apply]

theorem host_second (y h : FVec Ideal S4096x1024 .bf16) (wu : FVec Ideal S2x4x1024x704 .bf16) (wd : FVec Ideal S4x704x1024 .bf16)
    (b : Fin 4) (t : Fin 4096) (f : Fin 704) : host y h wu wd (ix4 1 b t f) = second (act y wd b t f) (part h wu 0 b t f) := by
  unfold host
  rw [stack_second, hostSecond_apply, hostAct_apply, hostGate_apply, hostBoth_apply]

/-- The host's result, by its own name. -/
theorem host_eq (m : (ℓ : Loc nD τ sig) → Buf (Elt Ideal) ℓ) (c : Dev nD) : Cert.ActWholeIdeal.Value.res_main_v29 m c
    = host (m ((c.tc : Thread nD τ).loc main_arg0)) (m ((c.tc : Thread nD τ).loc main_arg1)) (m ((c.tc : Thread nD τ).loc main_arg2))
      (m ((c.tc : Thread nD τ).loc main_arg3)) := rfl

end Host

/-! ## The blocks -/

open Cert.ActIdeal Cert.ActIdeal.Gen

variable (m : (ℓ : Loc nD τ sig) → Buf (Elt Ideal) ℓ)

/-- An argument at the launch. -/
abbrev arg (c : Dev nD) (b : Ref sig .tc) : Buf (Elt Ideal) ((c : Thread nD τ).loc b) := m ((c : Thread nD τ).loc b)

theorem index : ∀ t : Fin cfg0.N, (win0_0.index t (0 : Fin 2) = t.val / 4 ∧ win0_0.index t (1 : Fin 2) = 0)
    ∧ (win0_1.index t (0 : Fin 2) = t.val / 4 ∧ win0_1.index t (1 : Fin 2) = 0)
    ∧ (win0_2.index t (0 : Fin 4) = 0 ∧ win0_2.index t (1 : Fin 4) = t.val % 4 ∧ win0_2.index t (2 : Fin 4) = 0 ∧ win0_2.index t (3 : Fin 4) = 0)
    ∧ (win0_3.index t (0 : Fin 3) = t.val % 4 ∧ win0_3.index t (1 : Fin 3) = 0 ∧ win0_3.index t (2 : Fin 3) = 0)
    ∧ win0_4.index t (0 : Fin 4) = 0 ∧ win0_4.index t (1 : Fin 4) = t.val % 4 ∧ win0_4.index t (2 : Fin 4) = t.val / 4
    ∧ win0_4.index t (3 : Fin 4) = 0 := by decide +kernel

/-- Row `p` of a point's rows. -/
def place (t : Fin cfg0.N) (p : Fin 512) : Fin 4096 :=
  ⟨512 * (t.val / 4) + p.val, by have h : t.val < 32 := lt_of_lt_of_eq t.isLt N_0; have := p.isLt; omega⟩

/-- A point's slice. -/
def slot (t : Fin cfg0.N) : Fin 4 := ⟨t.val % 4, Nat.mod_lt _ (by decide)⟩

theorem y_block (c : Dev nD) (t : Fin cfg0.N) (p : Fin 512) (k : Fin 1024) :
    View.ld (iblk m c 0 t : Vec Ideal S512x1024 .bf16) r0_0 (ix2 p k) = arg m c main_arg0 (ix2 (place t p) k) := by
  obtain ⟨⟨e0, e1⟩, -⟩ := index t
  refine congrArg (arg m c main_arg0) (funext fun x => Fin.ext ?_)
  match x with
  | 0 => show win0_0.index t (0 : Fin 2) * 512 + 1 * (0 + 1 * p.val) = 512 * (t.val / 4) + p.val; omega
  | 1 => show win0_0.index t (1 : Fin 2) * 1024 + 1 * (0 + 1 * k.val) = k.val; omega

theorem h_block (c : Dev nD) (t : Fin cfg0.N) (p : Fin 512) (k : Fin 1024) :
    View.ld (iblk m c 1 t : Vec Ideal S512x1024 .bf16) r0_0 (ix2 p k) = arg m c main_arg1 (ix2 (place t p) k) := by
  obtain ⟨-, ⟨e0, e1⟩, -⟩ := index t
  refine congrArg (arg m c main_arg1) (funext fun x => Fin.ext ?_)
  match x with
  | 0 => show win0_1.index t (0 : Fin 2) * 512 + 1 * (0 + 1 * p.val) = 512 * (t.val / 4) + p.val; omega
  | 1 => show win0_1.index t (1 : Fin 2) * 1024 + 1 * (0 + 1 * k.val) = k.val; omega

theorem gate_block (c : Dev nD) (t : Fin cfg0.N) (k : Fin 1024) (f : Fin 704) :
    View.ld (iblk m c 2 t : Vec Ideal S2x1x1024x704 .bf16) r0_2 (ix4 0 0 k f) = arg m c main_arg2 (ix4 0 (slot t) k f) := by
  obtain ⟨-, -, ⟨e0, e1, e2, e3⟩, -⟩ := index t
  refine congrArg (arg m c main_arg2) (funext fun x => Fin.ext ?_)
  match x with
  | 0 => show win0_2.index t (0 : Fin 4) * 2 + 1 * (0 + 1 * 0) = 0; omega
  | 1 => show win0_2.index t (1 : Fin 4) * 1 + 1 * (0 + 1 * 0) = t.val % 4; omega
  | 2 => show win0_2.index t (2 : Fin 4) * 1024 + 1 * (0 + 1 * k.val) = k.val; omega
  | 3 => show win0_2.index t (3 : Fin 4) * 704 + 1 * (0 + 1 * f.val) = f.val; omega

theorem up_block (c : Dev nD) (t : Fin cfg0.N) (k : Fin 1024) (f : Fin 704) :
    View.ld (iblk m c 2 t : Vec Ideal S2x1x1024x704 .bf16) r0_3 (ix4 0 0 k f) = arg m c main_arg2 (ix4 1 (slot t) k f) := by
  obtain ⟨-, -, ⟨e0, e1, e2, e3⟩, -⟩ := index t
  refine congrArg (arg m c main_arg2) (funext fun x => Fin.ext ?_)
  match x with
  | 0 => show win0_2.index t (0 : Fin 4) * 2 + 1 * (1 + 1 * 0) = 1; omega
  | 1 => show win0_2.index t (1 : Fin 4) * 1 + 1 * (0 + 1 * 0) = t.val % 4; omega
  | 2 => show win0_2.index t (2 : Fin 4) * 1024 + 1 * (0 + 1 * k.val) = k.val; omega
  | 3 => show win0_2.index t (3 : Fin 4) * 704 + 1 * (0 + 1 * f.val) = f.val; omega

theorem w_block (c : Dev nD) (t : Fin cfg0.N) (f : Fin 704) (k : Fin 1024) :
    View.ld (iblk m c 3 t : Vec Ideal S1x704x1024 .bf16) r0_1 (ix3 0 f k) = arg m c main_arg3 (ix3 (slot t) f k) := by
  obtain ⟨-, -, -, ⟨e0, e1, e2⟩, -⟩ := index t
  refine congrArg (arg m c main_arg3) (funext fun x => Fin.ext ?_)
  match x with
  | 0 => show win0_3.index t (0 : Fin 3) * 1 + 1 * (0 + 1 * 0) = t.val % 4; omega
  | 1 => show win0_3.index t (1 : Fin 3) * 704 + 1 * (0 + 1 * f.val) = f.val; omega
  | 2 => show win0_3.index t (2 : Fin 3) * 1024 + 1 * (0 + 1 * k.val) = k.val; omega

/-! ## A point's values -/

theorem act_at (c : Dev nD) (t : Fin cfg0.N) (p : Fin 512) (f : Fin 704) :
    k0_pay2 (F := Ideal) (View.ld (iblk m c 0 t) r0_0) (View.ld (iblk m c 3 t) r0_1) (ix2 p f)
      = act (arg m c main_arg0) (arg m c main_arg3) (slot t) (place t p) f :=
  (act_apply _ _ p f).trans (congrArg (half * ·) (Finset.sum_congr rfl fun k _ =>
    congrArg₂ (· * ·) (y_block m c t p k) (w_block m c t f k)))

theorem gate_at (c : Dev nD) (t : Fin cfg0.N) (p : Fin 512) (f : Fin 704) :
    k0_pay3 (F := Ideal) (View.ld (iblk m c 1 t) r0_0) (View.ld (iblk m c 2 t) r0_2) (ix2 p f)
      = part (arg m c main_arg1) (arg m c main_arg2) 0 (slot t) (place t p) f :=
  (part_apply _ _ p f).trans (Finset.sum_congr rfl fun k _ => congrArg₂ (· * ·) (h_block m c t p k) (gate_block m c t k f))

theorem up_at (c : Dev nD) (t : Fin cfg0.N) (p : Fin 512) (f : Fin 704) :
    k0_pay3 (F := Ideal) (View.ld (iblk m c 1 t) r0_0) (View.ld (iblk m c 2 t) r0_3) (ix2 p f)
      = part (arg m c main_arg1) (arg m c main_arg2) 1 (slot t) (place t p) f :=
  (part_apply _ _ p f).trans (Finset.sum_congr rfl fun k _ => congrArg₂ (· * ·) (h_block m c t p k) (up_block m c t k f))

/-- The host's result of the arguments. -/
abbrev result (c : Dev nD) : FVec Ideal S2x4x4096x704 .bf16 :=
  host (arg m c main_arg0) (arg m c main_arg1) (arg m c main_arg2) (arg m c main_arg3)

/-- Where a block's index lies in the result. -/
theorem place_eq (t : Fin cfg0.N) (e : Fin 2) (p : Fin 512) (f : Fin 704) :
    (win0_4.blk t).view.emb (ix4 e 0 p f : S2x1x512x704.Idx) = (ix4 e (slot t) (place t p) f : S2x4x4096x704.Idx) := by
  obtain ⟨-, -, -, -, e0, e1, e2, e3⟩ := index t
  refine funext fun x => Fin.ext ?_
  match x with
  | 0 => show win0_4.index t (0 : Fin 4) * 2 + 1 * e.val = e.val; omega
  | 1 => show win0_4.index t (1 : Fin 4) * 1 + 1 * 0 = t.val % 4; omega
  | 2 => show win0_4.index t (2 : Fin 4) * 512 + 1 * p.val = 512 * (t.val / 4) + p.val; omega
  | 3 => show win0_4.index t (3 : Fin 4) * 704 + 1 * f.val = f.val; omega

theorem first_idx (p : Fin 512) (f : Fin 704) : r0_4.idx (ix4 0 0 p f : S1x1x512x704.Idx) = (ix4 0 0 p f : S2x1x512x704.Idx) :=
  funext fun x => Fin.ext (match x with
    | 0 => rfl
    | 1 => rfl
    | 2 => by show 0 + 1 * p.val = p.val; omega
    | 3 => by show 0 + 1 * f.val = f.val; omega)

theorem second_idx (p : Fin 512) (f : Fin 704) : r0_5.idx (ix4 0 0 p f : S1x1x512x704.Idx) = (ix4 1 0 p f : S2x1x512x704.Idx) :=
  funext fun x => Fin.ext (match x with
    | 0 => rfl
    | 1 => rfl
    | 2 => by show 0 + 1 * p.val = p.val; omega
    | 3 => by show 0 + 1 * f.val = f.val; omega)

theorem flushed (c : Dev nD) (t : Fin cfg0.N) :
    (dats m 0 c).flushed 4 t = (win0_4.blk t).view.read (Elt Ideal) (result m c) := by
  rw [Cert.ActIdeal.Value.flushed4]
  funext y
  refine View.canon_apply_of_pieces ((win0_4.blk t).view.read (Elt Ideal) (result m c)) _ ?_ y (cover0_4 _ _ y)
  intro pc hpc
  rcases List.mem_cons.mp hpc with rfl | hpc
  · intro x
    obtain ⟨p, f, rfl⟩ : ∃ (p : Fin 512) (f : Fin 704), x = ix4 0 0 p f := ⟨x 2, x 3, funext fun a => match a with
      | 0 => Fin.ext (Nat.lt_one_iff.mp (x 0).isLt) | 1 => Fin.ext (Nat.lt_one_iff.mp (x 1).isLt) | 2 => rfl | 3 => rfl⟩
    refine ((second_apply _ _ _ _ p f).trans (congrArg₂ second (act_at m c t p f) (gate_at m c t p f))).trans ?_
    show _ = result m c ((win0_4.blk t).view.emb (r0_5.idx (ix4 0 0 p f : S1x1x512x704.Idx)))
    rw [second_idx, place_eq]
    exact (host_second ..).symm
  rcases List.mem_cons.mp hpc with rfl | hpc
  · intro x
    obtain ⟨p, f, rfl⟩ : ∃ (p : Fin 512) (f : Fin 704), x = ix4 0 0 p f := ⟨x 2, x 3, funext fun a => match a with
      | 0 => Fin.ext (Nat.lt_one_iff.mp (x 0).isLt) | 1 => Fin.ext (Nat.lt_one_iff.mp (x 1).isLt) | 2 => rfl | 3 => rfl⟩
    refine ((first_apply _ _ _ _ _ p f).trans (congr (congrArg₂ first (act_at m c t p f) (gate_at m c t p f)) (up_at m c t p f))).trans ?_
    show _ = result m c ((win0_4.blk t).view.emb (r0_4.idx (ix4 0 0 p f : S1x1x512x704.Idx)))
    rw [first_idx, place_eq]
    exact (host_first ..).symm
  nomatch hpc

/-- The blocks cover the result. -/
theorem covers : (cfg0.win 4).Covers := by decide +kernel

/-! ## The claims -/

theorem frame_kernel : Cert.quiescent_Act (hAct := Cert.Act.Gen.facts) := fun m g _ => Cert.Act.Gen.frame (F := Bits) m g

theorem frame_ideal : Cert.quiescent_ActIdeal (hActIdeal := Cert.ActIdeal.Gen.facts) := fun m g _ =>
  Cert.ActIdeal.Gen.frame (F := Ideal) m g

theorem frame_reference : Cert.quiescent_ActWholeIdeal (hActWholeIdeal := Cert.ActWholeIdeal.Gen.facts) := fun m g _ =>
  (θ_run (Cert.ActWholeIdeal.defs (F := Ideal)) _ _).mono (fun r h => ⟨fun c => (h c).2, sem_eq_zero_of_no_sems (by decide) r.2⟩)
    (Cert.ActWholeIdeal.Value.run (F := Ideal) m g)

theorem values : Cert.algebraic_ActIdeal_ActWholeIdeal (hActIdeal := Cert.ActIdeal.Gen.facts)
    (hActWholeIdeal := Cert.ActWholeIdeal.Gen.facts) := fun m g m' g' _ hm =>
  ⟨fun c => result m c,
    (θ_run (defs (F := Ideal)) _ _).mono (fun _ h c =>
      ⟨(h c).1.trans ((dats m 0 c).arrAt_eq_of_cover 4 _ (fun t _ => flushed m c t) (covers.cover _ (Memref.isWhole_whole _))),
        (h c).2⟩) (Cert.ActIdeal.Value.run_blocks (F := Ideal) m g),
    (θ_run (Cert.ActWholeIdeal.defs (F := Ideal)) _ _).mono (fun _ h c => by
      obtain ⟨e0, e1, e2, e3⟩ := hm c
      obtain ⟨h0, h1⟩ := h c
      rw [host_eq, e0, e1, e2, e3] at h0
      exact ⟨h0, h1⟩) (Cert.ActWholeIdeal.Value.run (F := Ideal) m' g')⟩

end Cert.Slope

end
-- ==== Proof.Joined.lean ====
module

public import proofs.«01_k».proof.Defs
public import proofs.«01_k».proof.Proof.Gen.Merge
public import proofs.«01_k».proof.Proof.Gen.Merge.Frame
public import proofs.«01_k».proof.Proof.Gen.MergeIdeal.Value
public import proofs.«01_k».proof.Proof.Gen.MergeWholeIdeal.Run
public import proofs.«01_k».proof.Proof.Step
public import Idealize.ShloMosaic.Lib.Pointwise
public import Idealize.ShloMosaic.Lib.IdealHost
public import Idealize.ShloMosaic.Lib.Pipeline.ValueKit
public import Mathlib.Algebra.BigOperators.Fin

@[expose] public section

/-! # The mixer's output

Each of the eight points norms 512 rows of the attention, multiplies them by the upper half of the output weights and the
gated rows by the lower half. The host joins the two rows of 512 and multiplies once: its sum over 1024 is the two. -/

noncomputable section

namespace Cert.Joined

open Idealize.ShloMosaic Idealize.ShloMosaic.TcCoe Idealize.SL.Sem
open Cert.Step (off2)
open scoped BigOperators

/-! ## The functions -/

/-- A row of 512. -/
abbrev Row := Fin 512 → EReal

/-- Row `p` of an array. -/
def rowOf {n : Nat} (x : (⟨2, ![n, 512]⟩ : Shape).Idx → EReal) (p : Fin n) : Row := fun k => x (ix2 p k)

/-- The normed row times its gains. -/
def gained (x g : Row) : Row := fun k =>
  x k * Ideal.rsqrt (Ideal.div (∑ l, x l * x l) (Ideal.ofBits .f32 0x44000000#32) + Ideal.ofBits .f32 0x358637BD#32) * g k

/-- Row `k` of the upper half of the weights. -/
def upper (k : Fin 512) : Fin 1024 := ⟨k.val, by have := k.isLt; omega⟩

/-- Row `k` of the lower half. -/
def lower (k : Fin 512) : Fin 1024 := ⟨512 + k.val, by have := k.isLt; omega⟩

/-- The output's row: `x` and the two products. -/
def out (a y g : Row) (w : (⟨2, ![1024, 1024]⟩ : Shape).Idx → EReal) (x : EReal) (j : Fin 1024) : EReal :=
  x + ∑ k : Fin 512, gained a g k * w (ix2 (upper k) j) + ∑ k : Fin 512, y k * w (ix2 (lower k) j)

/-- A sum over 1024 is the sum over the upper 512 and the lower. -/
theorem halves (f : Fin 1024 → EReal) : ∑ k, f k = ∑ k : Fin 512, f (upper k) + ∑ k : Fin 512, f (lower k) :=
  Fin.sum_univ_add (a := 512) (b := 512) f

section Host

open Cert.MergeWholeIdeal Cert.MergeWholeIdeal.Gen

/-- The host's normed rows. -/
def hostRows (a : FVec Ideal S4096x512 .f32) (g : FVec Ideal S1x512 .f32) : FVec Ideal S4096x512 .bf16 :=
  truncf .bf16 (mulf (mulf a (broadcastInDim S4096x512 ![0, 1] bcast_S4096x1_S4096x512_0_1
    (Host.rsqrt (addf (Host.divf (broadcastInDim S4096x1 ![0] bcast_S4096_S4096x1_0
      (Host.reduceAdd (mulf a a) (constant S_ .f32 0x00000000#32) reducesTo_S4096x512_S4096_d1 h_S_))
      (broadcastInDim S4096x1 ![] bcast_S_S4096x1 (constant S_ .f32 0x44000000#32)))
      (broadcastInDim S4096x1 ![] bcast_S_S4096x1 (constant S_ .f32 0x358637BD#32))))))
    (broadcastInDim S4096x512 ![0, 1] bcast_S1x512_S4096x512_0_1 g)) bitsLt_bf16_f32

/-- The two rows joined. -/
def join (n y : FVec Ideal S4096x512 .bf16) : FVec Ideal S4096x1024 .bf16 :=
  concatenate S4096x1024 1 [⟨S4096x512, n⟩, ⟨S4096x512, y⟩] concatenates_S4096x512_S4096x512_S4096x1024_d1

/-- The host's output, of the joined rows. -/
def hostOut (r : FVec Ideal S4096x1024 .bf16) (w : FVec Ideal S1024x1024 .bf16) (x : FVec Ideal S4096x1024 .f32) :
    FVec Ideal S4096x1024 .f32 :=
  addf x (Host.dotGeneral (φ₁ := .bf16) (φ₂ := .bf16) dot_S4096x1024_S1024x1024_S4096x1024_1_0_0_1_n_n none r w)

/-- The host's result. -/
def host (a : FVec Ideal S4096x512 .f32) (y : FVec Ideal S4096x512 .bf16) (g : FVec Ideal S1x512 .f32)
    (w : FVec Ideal S1024x1024 .bf16) (x : FVec Ideal S4096x1024 .f32) : FVec Ideal S4096x1024 .f32 :=
  hostOut (join (hostRows a g) y) w x

theorem hostRows_apply (a : FVec Ideal S4096x512 .f32) (g : FVec Ideal S1x512 .f32) (t : Fin 4096) (k : Fin 512) :
    hostRows a g (ix2 t k) = gained (rowOf a t) (rowOf g 0) k := by
  pointwise [hostRows, gained, rowOf]

theorem join_upper (n y : FVec Ideal S4096x512 .bf16) (t : Fin 4096) (k : Fin 512) : join n y (ix2 t (upper k)) = n (ix2 t k) := by
  refine concatenate_pair_apply_left (t := S4096x1024) (s₁ := S4096x512) (s₂ := S4096x512) 1 n y
    concatenates_S4096x512_S4096x512_S4096x1024_d1 (ix2 t (upper k)) rfl (ix2 t k) fun b => ?_
  match (b : Fin 2) with
  | 0 => rfl
  | 1 => rfl

theorem join_lower (n y : FVec Ideal S4096x512 .bf16) (t : Fin 4096) (k : Fin 512) : join n y (ix2 t (lower k)) = y (ix2 t k) := by
  refine concatenate_pair_apply_right (t := S4096x1024) (s₁ := S4096x512) (s₂ := S4096x512) 1 n y
    concatenates_S4096x512_S4096x512_S4096x1024_d1 (ix2 t (lower k)) rfl rfl (ix2 t k) (fun b hb => ?_) (Nat.add_comm k.val 512)
  match (b : Fin 2), hb with
  | 0, _ => rfl
  | 1, hb => exact absurd rfl hb

theorem hostOut_apply (r : FVec Ideal S4096x1024 .bf16) (w : FVec Ideal S1024x1024 .bf16) (x : FVec Ideal S4096x1024 .f32)
    (t : Fin 4096) (j : Fin 1024) : hostOut r w x (ix2 t j) = x (ix2 t j) + ∑ k : Fin 1024, r (ix2 t k) * w (ix2 k j) := by
  pointwise [hostOut]

theorem host_apply (a : FVec Ideal S4096x512 .f32) (y : FVec Ideal S4096x512 .bf16) (g : FVec Ideal S1x512 .f32)
    (w : FVec Ideal S1024x1024 .bf16) (x : FVec Ideal S4096x1024 .f32) (t : Fin 4096) (j : Fin 1024) :
    host a y g w x (ix2 t j) = out (rowOf a t) (rowOf y t) (rowOf g 0) w (x (ix2 t j)) j := by
  unfold host out
  rw [hostOut_apply, halves, ← add_assoc]
  simp only [join_upper, join_lower, hostRows_apply]
  rfl

end Host

section Payload

open Cert.MergeIdeal Cert.MergeIdeal.Gen

theorem out_apply (a : Vec Ideal S512x512 .f32) (g : Vec Ideal S1x512 .f32) (x : Vec Ideal S512x1024 .f32)
    (w1 : Vec Ideal S512x1024 .bf16) (y : Vec Ideal S512x512 .bf16) (w2 : Vec Ideal S512x1024 .bf16)
    (p : Fin 512) (j : Fin 1024) : k0_pay1 (F := Ideal) a g x w1 y w2 (ix2 p j)
      = x (ix2 p j) + ∑ k : Fin 512, gained (rowOf a p) (rowOf g 0) k * w1 (ix2 k j) + ∑ k : Fin 512, rowOf y p k * w2 (ix2 k j) := by
  pointwise [k0_pay1, gained, rowOf]

end Payload

/-! ## The blocks -/

open Cert.MergeIdeal Cert.MergeIdeal.Gen

variable (m : (ℓ : Loc nD τ sig) → Buf (Elt Ideal) ℓ)

/-- An argument at the launch. -/
abbrev arg (c : Dev nD) (b : Ref sig .tc) : Buf (Elt Ideal) ((c : Thread nD τ).loc b) := m ((c : Thread nD τ).loc b)

theorem index : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ win0_5.index t (0 : Fin 2) = t.val ∧ win0_5.index t (1 : Fin 2) = 0 := by decide +kernel

/-- Row `p` of a point's rows. -/
def place (t : Fin cfg0.N) (p : Fin 512) : Fin 4096 :=
  ⟨512 * t.val + p.val, by have h : t.val < 8 := lt_of_lt_of_eq t.isLt N_0; have := p.isLt; omega⟩

theorem a_block (c : Dev nD) (t : Fin cfg0.N) (p : Fin 512) :
    rowOf (iblk m c 0 t : Vec Ideal S512x512 .f32) p = rowOf (arg m c main_arg0) (place t p) := by
  obtain ⟨⟨e0, e1⟩, -⟩ := index t
  refine funext fun k => congrArg (arg m c main_arg0) (funext fun x => Fin.ext ?_)
  match x with
  | 0 => show win0_0.index t (0 : Fin 2) * 512 + 1 * p.val = 512 * t.val + p.val; omega
  | 1 => show win0_0.index t (1 : Fin 2) * 512 + 1 * k.val = k.val; omega

theorem y_block (c : Dev nD) (t : Fin cfg0.N) (p : Fin 512) :
    rowOf (iblk m c 1 t : Vec Ideal S512x512 .bf16) p = rowOf (arg m c main_arg1) (place t p) := by
  obtain ⟨-, ⟨e0, e1⟩, -⟩ := index t
  refine funext fun k => congrArg (arg m c main_arg1) (funext fun x => Fin.ext ?_)
  match x with
  | 0 => show win0_1.index t (0 : Fin 2) * 512 + 1 * p.val = 512 * t.val + p.val; omega
  | 1 => show win0_1.index t (1 : Fin 2) * 512 + 1 * k.val = k.val; omega

theorem g_block (c : Dev nD) (t : Fin cfg0.N) :
    rowOf (iblk m c 2 t : Vec Ideal S1x512 .f32) 0 = rowOf (arg m c main_arg2) (0 : Fin 1) := by
  obtain ⟨-, -, ⟨e0, e1⟩, -⟩ := index t
  refine funext fun k => congrArg (arg m c main_arg2) (funext fun x => Fin.ext ?_)
  match x with
  | 0 => show win0_2.index t (0 : Fin 2) * 1 + 1 * 0 = 0; omega
  | 1 => show win0_2.index t (1 : Fin 2) * 512 + 1 * k.val = k.val; omega

theorem upper_block (c : Dev nD) (t : Fin cfg0.N) (k : Fin 512) (j : Fin 1024) :
    View.ld (iblk m c 3 t : Vec Ideal S1024x1024 .bf16) r0_3 (ix2 k j) = arg m c main_arg3 (ix2 (upper k) j) := by
  obtain ⟨-, -, -, ⟨e0, e1⟩, -⟩ := index t
  refine congrArg (arg m c main_arg3) (funext fun x => Fin.ext ?_)
  match x with
  | 0 => show win0_3.index t (0 : Fin 2) * 1024 + 1 * (0 + 1 * k.val) = k.val; omega
  | 1 => show win0_3.index t (1 : Fin 2) * 1024 + 1 * (0 + 1 * j.val) = j.val; omega

theorem lower_block (c : Dev nD) (t : Fin cfg0.N) (k : Fin 512) (j : Fin 1024) :
    View.ld (iblk m c 3 t : Vec Ideal S1024x1024 .bf16) r0_4 (ix2 k j) = arg m c main_arg3 (ix2 (lower k) j) := by
  obtain ⟨-, -, -, ⟨e0, e1⟩, -⟩ := index t
  refine congrArg (arg m c main_arg3) (funext fun x => Fin.ext ?_)
  match x with
  | 0 => show win0_3.index t (0 : Fin 2) * 1024 + 1 * (512 + 1 * k.val) = 512 + k.val; omega
  | 1 => show win0_3.index t (1 : Fin 2) * 1024 + 1 * (0 + 1 * j.val) = j.val; omega

theorem x_block (c : Dev nD) (t : Fin cfg0.N) (p : Fin 512) (j : Fin 1024) :
    (iblk m c 4 t : Vec Ideal S512x1024 .f32) (ix2 p j) = arg m c main_arg4 (ix2 (place t p) j) := by
  obtain ⟨-, -, -, -, ⟨e0, e1⟩, -⟩ := index t
  refine congrArg (arg m c main_arg4) (funext fun x => Fin.ext ?_)
  match x with
  | 0 => show win0_4.index t (0 : Fin 2) * 512 + 1 * p.val = 512 * t.val + p.val; omega
  | 1 => show win0_4.index t (1 : Fin 2) * 1024 + 1 * j.val = j.val; omega

/-! ## The claims -/

/-- The host's result of the arguments. -/
abbrev result (c : Dev nD) : FVec Ideal S4096x1024 .f32 :=
  host (arg m c main_arg0) (arg m c main_arg1) (arg m c main_arg2) (arg m c main_arg3) (arg m c main_arg4)

theorem flushed (c : Dev nD) (t : Fin cfg0.N) :
    (dats m 0 c).flushed 5 t = (win0_5.blk t).view.read (Elt Ideal) (result m c) := by
  rw [Cert.MergeIdeal.Value.flushed5]
  unfold out0_5
  rw [View.canon_unit_zero off2, View.ld_unit_zero off2, View.ld_unit_zero off2, View.ld_unit_zero off2, View.ld_unit_zero off2]
  obtain ⟨-, -, -, -, -, e0, e1⟩ := index t
  funext y
  obtain ⟨p, j, rfl⟩ : ∃ (p : Fin 512) (j : Fin 1024), y = ix2 p j := ⟨y 0, y 1, eq_ix2 y⟩
  refine (out_apply _ _ _ _ _ _ p j).trans ?_
  rw [a_block, y_block, g_block, x_block]
  simp only [upper_block, lower_block]
  refine Eq.trans ?_ (congrArg (result m c) (?_ : ix2 (place t p) j = _))
  · exact (host_apply _ _ _ _ _ _ _).symm
  refine funext fun x => Fin.ext ?_
  match x with
  | 0 => show 512 * t.val + p.val = win0_5.index t (0 : Fin 2) * 512 + 1 * p.val; omega
  | 1 => show j.val = win0_5.index t (1 : Fin 2) * 1024 + 1 * j.val; omega

/-- The blocks cover the result. -/
theorem covers : (cfg0.win 5).Covers := by decide +kernel

theorem frame_kernel : Cert.quiescent_Merge (hMerge := Cert.Merge.Gen.facts) := fun m g _ => Cert.Merge.Gen.frame (F := Bits) m g

theorem frame_ideal : Cert.quiescent_MergeIdeal (hMergeIdeal := Cert.MergeIdeal.Gen.facts) := fun m g _ =>
  Cert.MergeIdeal.Gen.frame (F := Ideal) m g

theorem frame_reference : Cert.quiescent_MergeWholeIdeal (hMergeWholeIdeal := Cert.MergeWholeIdeal.Gen.facts) := fun m g _ =>
  (θ_run (Cert.MergeWholeIdeal.defs (F := Ideal)) _ _).mono (fun r h => ⟨fun c => (h c).2, sem_eq_zero_of_no_sems (by decide) r.2⟩)
    (Cert.MergeWholeIdeal.Value.run (F := Ideal) m g)

theorem values : Cert.algebraic_MergeIdeal_MergeWholeIdeal (hMergeIdeal := Cert.MergeIdeal.Gen.facts)
    (hMergeWholeIdeal := Cert.MergeWholeIdeal.Gen.facts) := fun m g m' g' _ hm =>
  ⟨fun c => result m c,
    (θ_run (defs (F := Ideal)) _ _).mono (fun _ h c =>
      ⟨(h c).1.trans ((dats m 0 c).arrAt_eq_of_cover 5 _ (fun t _ => flushed m c t) (covers.cover _ (Memref.isWhole_whole _))),
        (h c).2⟩) (Cert.MergeIdeal.Value.run_blocks (F := Ideal) m g),
    (θ_run (Cert.MergeWholeIdeal.defs (F := Ideal)) _ _).mono (fun _ h c => by
      obtain ⟨e0, e1, e2, e3, e4⟩ := hm c
      obtain ⟨h0, h1⟩ := h c
      rw [e0, e1, e2, e3, e4] at h0
      exact ⟨h0, h1⟩) (Cert.MergeWholeIdeal.Value.run (F := Ideal) m' g')⟩

end Cert.Joined

end
-- ==== Proof.Rest.lean ====
module

public import proofs.«01_k».proof.Defs
public import proofs.«01_k».proof.Proof.Gen.Tail
public import proofs.«01_k».proof.Proof.Gen.Tail.Frame
public import proofs.«01_k».proof.Proof.Gen.TailIdeal.Value
public import proofs.«01_k».proof.Proof.Gen.TailWholeIdeal.Run
public import proofs.«01_k».proof.Proof.Back
public import Idealize.ShloMosaic.Lib.Pipeline.ValueKit
public import Mathlib.Algebra.BigOperators.Fin

@[expose] public section

/-! # The gradient through the mixer's projection

Each of the sixteen points takes 256 rows: their product with the projection, the gradient of the norm (`Back.lean`), stored in
f32 and in bf16, and the rows' part of the gradient of the norm's weights, added to what the points before left. -/

noncomputable section

namespace Cert.Rest

open Idealize.ShloMosaic Idealize.ShloMosaic.TcCoe Idealize.SL.Sem
open Cert.Gradient (Row back part normed root rowOf width hostBack hostPart hostBack_apply hostPart_apply)
open scoped BigOperators

/-- A quantity that collects at each point the sum of `f` over `b` numbers more. -/
theorem running {N : Nat} (v : (n : Nat) → n < N → EReal) (f : Nat → EReal) (b : Nat)
    (first : ∀ h, v 0 h = ∑ p ∈ Finset.range b, f (b * 0 + p))
    (next : ∀ n h, ¬n = 0 → v n h = v (n - 1) (Nat.lt_of_le_of_lt (Nat.sub_le _ _) h) + ∑ p ∈ Finset.range b, f (b * n + p))
    (n : Nat) : ∀ h : n < N, v n h = ∑ i ∈ Finset.range (b * (n + 1)), f i := by
  induction n with
  | zero =>
    intro h
    refine (first h).trans ?_
    simp
  | succ n ih =>
    intro h
    rw [next (n + 1) h (by omega), show v (n + 1 - 1) _ = _ from ih (by omega), Nat.mul_add b (n + 1) 1, Nat.mul_one,
      Finset.sum_range_add]

/-- The product's row. -/
def product (u : (⟨2, ![4096, 2688]⟩ : Shape).Idx → EReal) (w : (⟨2, ![1024, 2688]⟩ : Shape).Idx → EReal) (t : Fin 4096) : Row :=
  fun k => ∑ j : Fin 2688, u (ix2 t j) * w (ix2 k j)

section Payload

open Cert.TailIdeal Cert.TailIdeal.Gen

theorem product_apply (v0 : Vec Ideal S256x2688 .bf16) (v1 : Vec Ideal S1024x2688 .bf16) (p : Fin 256) (k : Fin 1024) :
    k0_pay3 (F := Ideal) v0 v1 (ix2 p k) = ∑ j : Fin 2688, v0 (ix2 p j) * v1 (ix2 k j) := by
  pointwise [k0_pay3]

theorem back_apply (u : Vec Ideal S256x2688 .bf16) (w : Vec Ideal S1024x2688 .bf16) (x : Vec Ideal S256x1024 .f32)
    (g : Vec Ideal S1x1024 .f32) (y : Vec Ideal S256x1024 .f32) (p : Fin 256) (k : Fin 1024) : k0_pay6 (F := Ideal) u w x g y (ix2 p k)
      = back (rowOf (k0_pay3 (F := Ideal) u w) p) (rowOf x p) (rowOf g 0) (rowOf y p) k := by
  unfold k0_pay6
  generalize k0_pay3 (F := Ideal) u w = d
  pointwise [k0_pay5, k0_pay4, back, normed, root, rowOf, width]

theorem part_apply (u : Vec Ideal S256x2688 .bf16) (w : Vec Ideal S1024x2688 .bf16) (x : Vec Ideal S256x1024 .f32)
    (k : Fin 1024) : k0_pay1 (F := Ideal) (k0_pay8 (F := Ideal) u w x) (ix2 0 k)
      = ∑ p : Fin 256, part (rowOf (k0_pay3 (F := Ideal) u w) p) (rowOf x p) k := by
  unfold k0_pay1 k0_pay8
  generalize k0_pay3 (F := Ideal) u w = d
  pointwise [k0_pay5, k0_pay4, part, normed, root, rowOf, width]

end Payload

section Host

open Cert.TailWholeIdeal Cert.TailWholeIdeal.Gen

/-- The host's product. -/
def whole (u : FVec Ideal S4096x2688 .bf16) (w : FVec Ideal S1024x2688 .bf16) : FVec Ideal S4096x1024 .f32 :=
  Host.dotGeneral (φ₁ := .bf16) (φ₂ := .bf16) dot_S4096x2688_S1024x2688_S4096x1024_1_1_0_0_n_n none u w

theorem whole_row (u : FVec Ideal S4096x2688 .bf16) (w : FVec Ideal S1024x2688 .bf16) (t : Fin 4096) :
    rowOf (whole u w) t = product u w t := by
  funext k
  show whole u w (ix2 t k) = ∑ j : Fin 2688, u (ix2 t j) * w (ix2 k j)
  pointwise [whole]

end Host

/-! ## The blocks -/

open Cert.TailIdeal Cert.TailIdeal.Gen

variable (m : (ℓ : Loc nD τ sig) → Buf (Elt Ideal) ℓ)

/-- An argument at the launch. -/
abbrev arg (c : Dev nD) (b : Ref sig .tc) : Buf (Elt Ideal) ((c : Thread nD τ).loc b) := m ((c : Thread nD τ).loc b)

theorem lt_points (t : Fin cfg0.N) : t.val < 16 := lt_of_lt_of_eq t.isLt N_0

/-- Row `p` of a point's rows. -/
def place (t : Fin cfg0.N) (p : Fin 256) : Fin 4096 := ⟨256 * t.val + p.val, by have := lt_points t; have := p.isLt; omega⟩

theorem index : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ win0_7.index t (0 : Fin 2) = 0 ∧ win0_7.index t (1 : Fin 2) = 0 := by decide +kernel

theorem u_block (c : Dev nD) (t : Fin cfg0.N) (p : Fin 256) (j : Fin 2688) :
    (iblk m c 0 t : Vec Ideal S256x2688 .bf16) (ix2 p j) = arg m c main_arg0 (ix2 (place t p) j) := by
  obtain ⟨⟨e0, e1⟩, -⟩ := index t
  refine congrArg (arg m c main_arg0) (funext fun x => Fin.ext ?_)
  match x with
  | 0 => show win0_0.index t (0 : Fin 2) * 256 + 1 * p.val = 256 * t.val + p.val; omega
  | 1 => show win0_0.index t (1 : Fin 2) * 2688 + 1 * j.val = j.val; omega

theorem w_block (c : Dev nD) (t : Fin cfg0.N) (k : Fin 1024) (j : Fin 2688) :
    (iblk m c 1 t : Vec Ideal S1024x2688 .bf16) (ix2 k j) = arg m c main_arg1 (ix2 k j) := by
  obtain ⟨-, ⟨e0, e1⟩, -⟩ := index t
  refine congrArg (arg m c main_arg1) (funext fun x => Fin.ext ?_)
  match x with
  | 0 => show win0_1.index t (0 : Fin 2) * 1024 + 1 * k.val = k.val; omega
  | 1 => show win0_1.index t (1 : Fin 2) * 2688 + 1 * j.val = j.val; omega

theorem x_row (c : Dev nD) (t : Fin cfg0.N) (p : Fin 256) :
    rowOf (iblk m c 2 t : Vec Ideal S256x1024 .f32) p = rowOf (arg m c main_arg2) (place t p) := by
  obtain ⟨-, -, ⟨e0, e1⟩, -⟩ := index t
  refine funext fun k => congrArg (arg m c main_arg2) (funext fun x => Fin.ext ?_)
  match x with
  | 0 => show win0_2.index t (0 : Fin 2) * 256 + 1 * p.val = 256 * t.val + p.val; omega
  | 1 => show win0_2.index t (1 : Fin 2) * 1024 + 1 * k.val = k.val; omega

theorem g_row (c : Dev nD) (t : Fin cfg0.N) : rowOf (iblk m c 3 t : Vec Ideal S1x1024 .f32) 0 = rowOf (arg m c main_arg3) (0 : Fin 1) := by
  obtain ⟨-, -, -, ⟨e0, e1⟩, -⟩ := index t
  refine funext fun k => congrArg (arg m c main_arg3) (funext fun x => Fin.ext ?_)
  match x with
  | 0 => show win0_3.index t (0 : Fin 2) * 1 + 1 * 0 = 0; omega
  | 1 => show win0_3.index t (1 : Fin 2) * 1024 + 1 * k.val = k.val; omega

theorem y_row (c : Dev nD) (t : Fin cfg0.N) (p : Fin 256) :
    rowOf (iblk m c 4 t : Vec Ideal S256x1024 .f32) p = rowOf (arg m c main_arg4) (place t p) := by
  obtain ⟨-, -, -, -, ⟨e0, e1⟩, -⟩ := index t
  refine funext fun k => congrArg (arg m c main_arg4) (funext fun x => Fin.ext ?_)
  match x with
  | 0 => show win0_4.index t (0 : Fin 2) * 256 + 1 * p.val = 256 * t.val + p.val; omega
  | 1 => show win0_4.index t (1 : Fin 2) * 1024 + 1 * k.val = k.val; omega

/-- A point's product has the product's rows. -/
theorem product_row (c : Dev nD) (t : Fin cfg0.N) (p : Fin 256) : rowOf (k0_pay3 (F := Ideal) (iblk m c 0 t) (iblk m c 1 t)) p
    = product (arg m c main_arg0) (arg m c main_arg1) (place t p) := by
  refine funext fun k => (product_apply _ _ p k).trans (Finset.sum_congr rfl fun j _ => ?_)
  exact congrArg₂ (· * ·) (u_block m c t p j) (w_block m c t k j)

/-! ## The points -/

/-- The rows' gradient, of a point's blocks. -/
abbrev rows (c : Dev nD) (t : Fin cfg0.N) : FVec Ideal S256x1024 .f32 :=
  k0_pay6 (F := Ideal) (iblk m c 0 t) (iblk m c 1 t) (iblk m c 2 t) (iblk m c 3 t) (iblk m c 4 t)

/-- The rows' part of the weights' gradient. -/
abbrev piece (c : Dev nD) (t : Fin cfg0.N) : FVec Ideal S1x1024 .f32 :=
  k0_pay1 (F := Ideal) (k0_pay8 (F := Ideal) (iblk m c 0 t) (iblk m c 1 t) (iblk m c 2 t))

/-- A point stores them, -/
theorem rows_at (c : Dev nD) (t : Fin cfg0.N) : (outsAt0 m c t.val t.isLt).1 = rows m c t := by
  have := lt_points t
  by_cases h : t.val % 16 = 0
  · rw [outsAt0_A m c t h (by omega)]
    frame_out
  · rw [outsAt0_B m c t h (by omega)]
    frame_out

/-- and their copies in bf16. -/
theorem copies_at (c : Dev nD) (t : Fin cfg0.N) : (outsAt0 m c t.val t.isLt).2.1
    = k0_pay7 (F := Ideal) (iblk m c 0 t) (iblk m c 1 t) (iblk m c 2 t) (iblk m c 3 t) (iblk m c 4 t) := by
  have := lt_points t
  by_cases h : t.val % 16 = 0
  · rw [outsAt0_A m c t h (by omega)]
    frame_out
  · rw [outsAt0_B m c t h (by omega)]
    frame_out

theorem rows_apply (c : Dev nD) (t : Fin cfg0.N) (p : Fin 256) (k : Fin 1024) : rows m c t (ix2 p k)
      = back (product (arg m c main_arg0) (arg m c main_arg1) (place t p)) (rowOf (arg m c main_arg2) (place t p))
          (rowOf (arg m c main_arg3) (0 : Fin 1)) (rowOf (arg m c main_arg4) (place t p)) k := by
  refine (back_apply _ _ _ _ _ p k).trans ?_
  rw [product_row, x_row, g_row, y_row]

/-- The first point stores its part of the weights' gradient. -/
theorem weights_first (c : Dev nD) (t : Fin cfg0.N) (h : t.val = 0) : (outsAt0 m c t.val t.isLt).2.2 = piece m c t := by
  rw [outsAt0_A m c t (by omega) (by omega)]
  frame_out

/-- The later ones add theirs. -/
theorem weights_next (c : Dev nD) (t : Fin cfg0.N) (h : ¬t.val = 0) : (outsAt0 m c t.val t.isLt).2.2
    = addf (outsAt0 m c (t.val - 1) (Nat.lt_of_le_of_lt (Nat.sub_le _ _) t.isLt)).2.2 (piece m c t) := by
  have := lt_points t
  rw [outsAt0_B m c t (by omega) (by omega)]
  frame_out
  exact congrArg (addf · _) (shapeCast_self _ _)

/-- A row's part of the weights' gradient, by the row's number. -/
def rowPart (c : Dev nD) (k : Fin 1024) (n : Nat) : EReal :=
  if h : n < 4096 then part (product (arg m c main_arg0) (arg m c main_arg1) ⟨n, h⟩) (rowOf (arg m c main_arg2) (⟨n, h⟩ : Fin 4096)) k
  else 0

theorem block_part (c : Dev nD) (t : Fin cfg0.N) (k : Fin 1024) :
    piece m c t (ix2 (0 : Fin 1) k) = ∑ p ∈ Finset.range 256, rowPart m c k (256 * t.val + p) := by
  refine (part_apply _ _ _ k).trans ?_
  rw [Finset.sum_range]
  refine Finset.sum_congr rfl fun p _ => ?_
  rw [product_row, x_row]
  have h : 256 * t.val + p.val < 4096 := (place t p).isLt
  unfold rowPart
  rw [dif_pos h]
  rfl

/-- At the last point it is the sum over all rows. -/
theorem weights_apply (c : Dev nD) (t : Fin cfg0.N) (h : t.val % 16 = 15) (k : Fin 1024) :
    (outsAt0 m c t.val t.isLt).2.2 (ix2 (0 : Fin 1) k)
      = ∑ n : Fin 4096, part (product (arg m c main_arg0) (arg m c main_arg1) n) (rowOf (arg m c main_arg2) n) k := by
  obtain rfl : t = ⟨15, lt_of_lt_of_eq (by decide) N_0.symm⟩ := Fin.ext (by have := lt_points t; show t.val = 15; omega)
  refine (running (fun n h => (outsAt0 m c n h).2.2 (ix2 (0 : Fin 1) k)) (rowPart m c k) 256
    (fun h => (congrFun (weights_first m c ⟨0, h⟩ rfl) _).trans (block_part m c ⟨0, h⟩ k))
    (fun n h h0 => (congrFun (weights_next m c ⟨n, h⟩ h0) _).trans (congrArg (_ + ·) (block_part m c ⟨n, h⟩ k))) 15 _).trans ?_
  rw [Finset.sum_range]
  exact Finset.sum_congr rfl fun n _ => dif_pos n.isLt

/-! ## The claims -/

/-- The host's gradient of the arguments. -/
abbrev result (c : Dev nD) : FVec Ideal S4096x1024 .f32 :=
  hostBack (whole (arg m c main_arg0) (arg m c main_arg1)) (arg m c main_arg2) (arg m c main_arg3) (arg m c main_arg4)

/-- The host's gradient of the weights. -/
abbrev weights (c : Dev nD) : FVec Ideal S1x1024 .f32 :=
  hostPart (whole (arg m c main_arg0) (arg m c main_arg1)) (arg m c main_arg2)

theorem rows_result (c : Dev nD) (t : Fin cfg0.N) (p : Fin 256) (k : Fin 1024) : rows m c t (ix2 p k) = result m c (ix2 (place t p) k) := by
  rw [rows_apply, ← whole_row]
  exact (hostBack_apply _ _ _ _ _ _).symm

theorem flushed_rows (c : Dev nD) (t : Fin cfg0.N) :
    (dats m 0 c).flushed 5 t = (win0_5.blk t).view.read (Elt Ideal) (result m c) := by
  rw [Cert.TailIdeal.Value.flushed5]
  obtain ⟨-, -, -, -, -, ⟨e0, e1⟩, -⟩ := index t
  funext y
  obtain ⟨p, k, rfl⟩ : ∃ (p : Fin 256) (k : Fin 1024), y = ix2 p k := ⟨y 0, y 1, eq_ix2 y⟩
  refine ((congrFun (rows_at m c t) _).trans (rows_result m c t p k)).trans (congrArg (result m c) (funext fun x => Fin.ext ?_))
  match x with
  | 0 => show 256 * t.val + p.val = win0_5.index t (0 : Fin 2) * 256 + 1 * p.val; omega
  | 1 => show k.val = win0_5.index t (1 : Fin 2) * 1024 + 1 * k.val; omega

theorem flushed_copies (c : Dev nD) (t : Fin cfg0.N) :
    (dats m 0 c).flushed 6 t = (win0_6.blk t).view.read (Elt Ideal) (truncf .bf16 (result m c) bitsLt_bf16_f32) := by
  rw [Cert.TailIdeal.Value.flushed6]
  obtain ⟨-, -, -, -, -, -, ⟨e0, e1⟩, -⟩ := index t
  funext y
  obtain ⟨p, k, rfl⟩ : ∃ (p : Fin 256) (k : Fin 1024), y = ix2 p k := ⟨y 0, y 1, eq_ix2 y⟩
  refine ((congrFun (copies_at m c t) _).trans (rows_result m c t p k)).trans (congrArg (result m c) (funext fun x => Fin.ext ?_))
  match x with
  | 0 => show 256 * t.val + p.val = win0_6.index t (0 : Fin 2) * 256 + 1 * p.val; omega
  | 1 => show k.val = win0_6.index t (1 : Fin 2) * 1024 + 1 * k.val; omega

theorem flushed_weights (c : Dev nD) (t : Fin cfg0.N) (h : (cfg0.win 7).flush t = true) :
    (dats m 0 c).flushed 7 t = (win0_7.blk t).view.read (Elt Ideal) (weights m c) := by
  rw [Cert.TailIdeal.Value.flushed7]
  obtain ⟨-, -, -, -, -, -, -, e0, e1⟩ := index t
  funext y
  obtain ⟨p, k, rfl⟩ : ∃ (p : Fin 1) (k : Fin 1024), y = ix2 p k := ⟨y 0, y 1, eq_ix2 y⟩
  obtain rfl : p = 0 := Subsingleton.elim _ _
  refine (weights_apply m c t ((flush0_7 t).mp h) k).trans ?_
  simp only [← whole_row]
  rw [← hostPart_apply]
  refine congrArg (weights m c) (funext fun x => Fin.ext ?_)
  match x with
  | 0 => show 0 = win0_7.index t (0 : Fin 2) * 1 + 1 * 0; omega
  | 1 => show k.val = win0_7.index t (1 : Fin 2) * 1024 + 1 * k.val; omega

/-- The three results' blocks cover them. -/
theorem covers : (cfg0.win 5).Covers ∧ (cfg0.win 6).Covers ∧ (cfg0.win 7).Covers := by decide +kernel

theorem frame_kernel : Cert.quiescent_Tail (hTail := Cert.Tail.Gen.facts) := fun m g _ => Cert.Tail.Gen.frame (F := Bits) m g

theorem frame_ideal : Cert.quiescent_TailIdeal (hTailIdeal := Cert.TailIdeal.Gen.facts) := fun m g _ =>
  Cert.TailIdeal.Gen.frame (F := Ideal) m g

theorem frame_reference : Cert.quiescent_TailWholeIdeal (hTailWholeIdeal := Cert.TailWholeIdeal.Gen.facts) := fun m g _ =>
  (θ_run (Cert.TailWholeIdeal.defs (F := Ideal)) _ _).mono (fun r h => ⟨fun c => (h c).2.2.2, sem_eq_zero_of_no_sems (by decide) r.2⟩)
    (Cert.TailWholeIdeal.Value.run (F := Ideal) m g)

theorem values : Cert.algebraic_TailIdeal_TailWholeIdeal (hTailIdeal := Cert.TailIdeal.Gen.facts)
    (hTailWholeIdeal := Cert.TailWholeIdeal.Gen.facts) := fun m g m' g' _ hm =>
  ⟨fun c => result m c, fun c => truncf .bf16 (result m c) bitsLt_bf16_f32, fun c => weights m c,
    (θ_run (defs (F := Ideal)) _ _).mono (fun _ h c =>
      ⟨(h c).1.trans ((dats m 0 c).arrAt_eq_of_cover 5 _ (fun t _ => flushed_rows m c t) (covers.1.cover _ (Memref.isWhole_whole _))),
        (h c).2.1.trans ((dats m 0 c).arrAt_eq_of_cover 6 _ (fun t _ => flushed_copies m c t) (covers.2.1.cover _ (Memref.isWhole_whole _))),
        (h c).2.2.1.trans ((dats m 0 c).arrAt_eq_of_cover 7 _ (flushed_weights m c) (covers.2.2.cover _ (Memref.isWhole_whole _))),
        (h c).2.2.2⟩) (Cert.TailIdeal.Value.run_blocks (F := Ideal) m g),
    (θ_run (Cert.TailWholeIdeal.defs (F := Ideal)) _ _).mono (fun _ h c => by
      obtain ⟨e0, e1, e2, e3, e4⟩ := hm c
      obtain ⟨h0, h1, h2, h3⟩ := h c
      rw [e0, e1, e2, e3, e4] at h0 h1
      rw [e0, e1, e2] at h2
      exact ⟨h0, h1, h2, h3⟩) (Cert.TailWholeIdeal.Value.run (F := Ideal) m' g')⟩

end Cert.Rest

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Gather
public import proofs.«01_k».proof.Proof.Gen.Gather.Skeleton
public import proofs.«01_k».proof.Proof.Gen.Gather.Launch
public import proofs.«01_k».proof.Proof.Gen.Gather.Points
public import proofs.«01_k».proof.Proof.Gen.Gather.Frame
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherIdeal.Points
public import proofs.«01_k».proof.Proof.Gen.GatherIdeal.Frame
public import proofs.«01_k».proof.Proof.Gen.WholeIdeal
public import proofs.«01_k».proof.Proof.Gen.WholeIdeal.Run
public import proofs.«01_k».proof.Proof.Gen.Reference
public import proofs.«01_k».proof.Proof.Gen.Reference.Run
public import proofs.«01_k».proof.Proof.Gen.Whole
public import proofs.«01_k».proof.Proof.Gen.Whole.Run
public import proofs.«01_k».proof.Proof.Gen.Back
public import proofs.«01_k».proof.Proof.Gen.Back.Frame
public import proofs.«01_k».proof.Proof.Gen.BackIdeal
public import proofs.«01_k».proof.Proof.Gen.BackIdeal.Value
public import proofs.«01_k».proof.Proof.Gen.BackWholeIdeal
public import proofs.«01_k».proof.Proof.Gen.BackWholeIdeal.Run
public import proofs.«01_k».proof.Proof.Gen.Loss
public import proofs.«01_k».proof.Proof.Gen.Loss.Frame
public import proofs.«01_k».proof.Proof.Gen.LossIdeal
public import proofs.«01_k».proof.Proof.Gen.LossIdeal.Value
public import proofs.«01_k».proof.Proof.Gen.LossWholeIdeal
public import proofs.«01_k».proof.Proof.Gen.LossWholeIdeal.Run
public import proofs.«01_k».proof.Proof.Gen.GradUp
public import proofs.«01_k».proof.Proof.Gen.GradUp.Frame
public import proofs.«01_k».proof.Proof.Gen.GradUpIdeal
public import proofs.«01_k».proof.Proof.Gen.GradUpIdeal.Value
public import proofs.«01_k».proof.Proof.Gen.GradUpWholeIdeal
public import proofs.«01_k».proof.Proof.Gen.GradUpWholeIdeal.Run
public import proofs.«01_k».proof.Proof.Gen.GradDown
public import proofs.«01_k».proof.Proof.Gen.GradDown.Frame
public import proofs.«01_k».proof.Proof.Gen.GradDownIdeal
public import proofs.«01_k».proof.Proof.Gen.GradDownIdeal.Value
public import proofs.«01_k».proof.Proof.Gen.GradDownWholeIdeal
public import proofs.«01_k».proof.Proof.Gen.GradDownWholeIdeal.Run
public import proofs.«01_k».proof.Proof.Gen.Proj
public import proofs.«01_k».proof.Proof.Gen.Proj.Frame
public import proofs.«01_k».proof.Proof.Gen.ProjIdeal
public import proofs.«01_k».proof.Proof.Gen.ProjIdeal.Value
public import proofs.«01_k».proof.Proof.Gen.ProjWholeIdeal
public import proofs.«01_k».proof.Proof.Gen.ProjWholeIdeal.Run
public import proofs.«01_k».proof.Proof.Gen.Act
public import proofs.«01_k».proof.Proof.Gen.Act.Frame
public import proofs.«01_k».proof.Proof.Gen.ActIdeal
public import proofs.«01_k».proof.Proof.Gen.ActIdeal.Value
public import proofs.«01_k».proof.Proof.Gen.ActWholeIdeal
public import proofs.«01_k».proof.Proof.Gen.ActWholeIdeal.Run
public import proofs.«01_k».proof.Proof.Gen.Tail
public import proofs.«01_k».proof.Proof.Gen.Tail.Frame
public import proofs.«01_k».proof.Proof.Gen.TailIdeal
public import proofs.«01_k».proof.Proof.Gen.TailIdeal.Value
public import proofs.«01_k».proof.Proof.Gen.TailWholeIdeal
public import proofs.«01_k».proof.Proof.Gen.TailWholeIdeal.Run
public import proofs.«01_k».proof.Proof.Gen.Merge
public import proofs.«01_k».proof.Proof.Gen.Merge.Frame
public import proofs.«01_k».proof.Proof.Gen.MergeIdeal
public import proofs.«01_k».proof.Proof.Gen.MergeIdeal.Value
public import proofs.«01_k».proof.Proof.Gen.MergeWholeIdeal
public import proofs.«01_k».proof.Proof.Gen.MergeWholeIdeal.Run
public import proofs.«01_k».proof.Proof.Gen.Forth
public import proofs.«01_k».proof.Proof.Gen.Forth.Frame
public import proofs.«01_k».proof.Proof.Gen.ForthIdeal
public import proofs.«01_k».proof.Proof.Gen.ForthIdeal.Value
public import proofs.«01_k».proof.Proof.Gen.ForthWholeIdeal
public import proofs.«01_k».proof.Proof.Gen.ForthWholeIdeal.Run
public import proofs.«01_k».proof.Proof.Run
public import proofs.«01_k».proof.Proof.Values
public import proofs.«01_k».proof.Proof.SpreadRun
public import proofs.«01_k».proof.Proof.SpreadValues
public import proofs.«01_k».proof.Proof.StepUp
public import proofs.«01_k».proof.Proof.StepDown
public import proofs.«01_k».proof.Proof.StepMix
public import proofs.«01_k».proof.Proof.StepOut
public import proofs.«01_k».proof.Proof.StepPair
public import proofs.«01_k».proof.Proof.BackValues
public import proofs.«01_k».proof.Proof.ErrValues
public import proofs.«01_k».proof.Proof.WeightsUp
public import proofs.«01_k».proof.Proof.WeightsDown
public import proofs.«01_k».proof.Proof.Forward
public import proofs.«01_k».proof.Proof.Project
public import proofs.«01_k».proof.Proof.Slope
public import proofs.«01_k».proof.Proof.Joined
public import proofs.«01_k».proof.Proof.Rest
public import Idealize.ShloMosaic.Adequacy
public import Idealize.ShloMosaic.Init

@[expose] public section

noncomputable section

namespace Cert.Exchange

open Idealize.ShloMosaic Idealize.ShloMosaic.TcCoe Idealize.SL.Sem

/-! ## The frames

One run of the kernel, over any values, gives both. -/

theorem frame_kernel : Cert.quiescent_Kernel (hKernel := Cert.Kernel.Gen.facts) := fun m g _ =>
  (θ_run (Cert.KernelIdeal.defs (F := Bits)) _ _).mono (fun _ h => ⟨fun c => ⟨(h.1 c 0).1, (h.1 c 1).1, (h.1 c 2).1, (h.1 c 3).1, (h.1 c 4).1, (h.1 c 5).1, (h.1 c 6).1, (h.1 c 7).1, (h.1 c 8).1⟩, h.2⟩) (run_main (F := Bits) m g)

theorem frame_ideal : Cert.quiescent_KernelIdeal (hKernelIdeal := Cert.KernelIdeal.Gen.facts) := fun m g _ =>
  (θ_run (Cert.KernelIdeal.defs (F := Ideal)) _ _).mono (fun _ h => ⟨fun c => ⟨(h.1 c 0).1, (h.1 c 1).1, (h.1 c 2).1, (h.1 c 3).1, (h.1 c 4).1, (h.1 c 5).1, (h.1 c 6).1, (h.1 c 7).1, (h.1 c 8).1⟩, h.2⟩) (run_main (F := Ideal) m g)

theorem frame_reference : Cert.quiescent_ReferenceIdeal (hReferenceIdeal := Cert.ReferenceIdeal.Gen.facts) := fun m g _ =>
  (θ_run (Cert.ReferenceIdeal.defs (F := Ideal)) _ _).mono (fun r h => ⟨fun c => (h c).2.2.2.2.2.2.2.2.2, sem_eq_zero_of_no_sems (by decide) r.2⟩)
    (Cert.ReferenceIdeal.Value.run (F := Ideal) m g)

theorem frame_bits : Cert.quiescent_Reference (hReference := Cert.Reference.Gen.facts) := fun m g _ =>
  (θ_run (Cert.Reference.defs (F := Bits)) _ _).mono (fun r h => ⟨fun c => (h c).2.2.2.2.2.2.2.2.2, sem_eq_zero_of_no_sems (by decide) r.2⟩)
    (Cert.Reference.Value.run (F := Bits) m g)

/-! ## The values -/

/-- The kernel's result `a` on device `c` is part `c` of the whole array swapped. -/
theorem out_part {F : FTy → Type} [FloatOps F] (m : (ℓ : Loc Cert.KernelIdeal.nD Cert.KernelIdeal.τ Cert.KernelIdeal.sig) → Buf (Elt F) ℓ)
    (a : Fin 9) (c : Dev Cert.KernelIdeal.nD) (x : (Whole (arrs a).n (arrs a).k).Idx → Elt F .bf16)
    (h : (Whole (arrs a).n (arrs a).k).ShapeCasts (Pairs (arrs a).n (arrs a).k))
    (t : (Pairs (arrs a).n (arrs a).k).Transposes [1, 0, 2, 3] (Pairs (arrs a).n (arrs a).k))
    (h' : (Pairs (arrs a).n (arrs a).k).ShapeCasts (Whole (arrs a).n (arrs a).k))
    (tl : Layout.Tiles (Part (arrs a).n (arrs a).k) (Whole (arrs a).n (arrs a).k) 0 8)
    (hx : ∀ p : Dev Cert.KernelIdeal.nD, inAt m a p = Layout.block (Part (arrs a).n (arrs a).k) (Whole (arrs a).n (arrs a).k) 0 8 p x tl) :
    (arrs a).dst.view.read (Elt F) (outAt m a c)
      = Layout.block (Part (arrs a).n (arrs a).k) (Whole (arrs a).n (arrs a).k) 0 8 c (swapped x h t h') tl :=
  (Cert.Net.fill_read _ _ _).trans (funext fun i => (congrFun (hx (i 0)) (Cert.Net.inBlk c i)).trans (swapped_part x h t h' tl c i))

/-- Where the reference keeps a buffer. -/
abbrev at0 (b : Ref Cert.ReferenceIdeal.sig .tc) : Loc Cert.ReferenceIdeal.nD Cert.ReferenceIdeal.τ Cert.ReferenceIdeal.sig :=
  ((0 : Dev Cert.ReferenceIdeal.nD).tc : Thread Cert.ReferenceIdeal.nD Cert.ReferenceIdeal.τ).loc b

/-- Where the kernel keeps a buffer on device `c`. -/
abbrev atDev (c : Dev Cert.KernelIdeal.nD) (b : Ref Cert.KernelIdeal.sig .tc) : Loc Cert.KernelIdeal.nD Cert.KernelIdeal.τ Cert.KernelIdeal.sig :=
  (c.tc : Thread Cert.KernelIdeal.nD Cert.KernelIdeal.τ).loc b

/-- Kernel and reference agree, over the values `F`: the exchange computes nothing, so it holds whatever they are. -/
def Agree (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg)
    (m' : (ℓ : Loc Cert.ReferenceIdeal.nD Cert.ReferenceIdeal.τ Cert.ReferenceIdeal.sig) → Buf (Elt F) ℓ) (g' : Dev Cert.ReferenceIdeal.nD → PrngReg),
    (∀ c : Dev Cert.KernelIdeal.nD,
      m (atDev c Cert.KernelIdeal.main_arg0) = Layout.block ⟨3, ![8, 1024, 704]⟩ ⟨3, ![64, 1024, 704]⟩ 0 8 c (m' (at0 Cert.ReferenceIdeal.main_arg0))
      ∧ m (atDev c Cert.KernelIdeal.main_arg1) = Layout.block ⟨3, ![8, 352, 1024]⟩ ⟨3, ![64, 352, 1024]⟩ 0 8 c (m' (at0 Cert.ReferenceIdeal.main_arg1))
      ∧ m (atDev c Cert.KernelIdeal.main_arg2) = Layout.block ⟨3, ![8, 1024, 321]⟩ ⟨3, ![64, 1024, 321]⟩ 0 8 c (m' (at0 Cert.ReferenceIdeal.main_arg2))
      ∧ m (atDev c Cert.KernelIdeal.main_arg3) = Layout.block ⟨3, ![8, 128, 1024]⟩ ⟨3, ![64, 128, 1024]⟩ 0 8 c (m' (at0 Cert.ReferenceIdeal.main_arg3))
      ∧ m (atDev c Cert.KernelIdeal.main_arg4) = Layout.block ⟨3, ![8, 128, 1024]⟩ ⟨3, ![64, 128, 1024]⟩ 0 8 c (m' (at0 Cert.ReferenceIdeal.main_arg4))
      ∧ m (atDev c Cert.KernelIdeal.main_arg5) = Layout.block ⟨3, ![8, 1024, 256]⟩ ⟨3, ![64, 1024, 256]⟩ 0 8 c (m' (at0 Cert.ReferenceIdeal.main_arg5))
      ∧ m (atDev c Cert.KernelIdeal.main_arg6) = Layout.block ⟨3, ![8, 128, 1024]⟩ ⟨3, ![64, 128, 1024]⟩ 0 8 c (m' (at0 Cert.ReferenceIdeal.main_arg6))
      ∧ m (atDev c Cert.KernelIdeal.main_arg7) = Layout.block ⟨3, ![8, 1024, 704]⟩ ⟨3, ![64, 1024, 704]⟩ 0 8 c (m' (at0 Cert.ReferenceIdeal.main_arg7))
      ∧ m (atDev c Cert.KernelIdeal.main_arg8) = Layout.block ⟨3, ![8, 352, 1024]⟩ ⟨3, ![64, 352, 1024]⟩ 0 8 c (m' (at0 Cert.ReferenceIdeal.main_arg8))) →
    ∃ (v0 : Buf (Elt F) (at0 Cert.ReferenceIdeal.main_v2)) (v1 : Buf (Elt F) (at0 Cert.ReferenceIdeal.main_v5)) (v2 : Buf (Elt F) (at0 Cert.ReferenceIdeal.main_v8)) (v3 : Buf (Elt F) (at0 Cert.ReferenceIdeal.main_v11)) (v4 : Buf (Elt F) (at0 Cert.ReferenceIdeal.main_v14)) (v5 : Buf (Elt F) (at0 Cert.ReferenceIdeal.main_v17)) (v6 : Buf (Elt F) (at0 Cert.ReferenceIdeal.main_v20)) (v7 : Buf (Elt F) (at0 Cert.ReferenceIdeal.main_v23)) (v8 : Buf (Elt F) (at0 Cert.ReferenceIdeal.main_v26)),
      θ_run (Cert.KernelIdeal.defs (F := F)) (onTc (τ := Cert.KernelIdeal.τ) (Cert.KernelIdeal.main (F := F))) ⟨m, fun _ => 0, g⟩ (fun r => ∀ c : Dev Cert.KernelIdeal.nD,
          r.2.mem (atDev c Cert.KernelIdeal.main_v1_0) = Layout.block ⟨3, ![8, 1024, 704]⟩ ⟨3, ![64, 1024, 704]⟩ 0 8 c v0
          ∧ r.2.mem (atDev c Cert.KernelIdeal.main_v1_1) = Layout.block ⟨3, ![8, 352, 1024]⟩ ⟨3, ![64, 352, 1024]⟩ 0 8 c v1
          ∧ r.2.mem (atDev c Cert.KernelIdeal.main_v1_2) = Layout.block ⟨3, ![8, 1024, 321]⟩ ⟨3, ![64, 1024, 321]⟩ 0 8 c v2
          ∧ r.2.mem (atDev c Cert.KernelIdeal.main_v1_3) = Layout.block ⟨3, ![8, 128, 1024]⟩ ⟨3, ![64, 128, 1024]⟩ 0 8 c v3
          ∧ r.2.mem (atDev c Cert.KernelIdeal.main_v1_4) = Layout.block ⟨3, ![8, 128, 1024]⟩ ⟨3, ![64, 128, 1024]⟩ 0 8 c v4
          ∧ r.2.mem (atDev c Cert.KernelIdeal.main_v1_5) = Layout.block ⟨3, ![8, 1024, 256]⟩ ⟨3, ![64, 1024, 256]⟩ 0 8 c v5
          ∧ r.2.mem (atDev c Cert.KernelIdeal.main_v1_6) = Layout.block ⟨3, ![8, 128, 1024]⟩ ⟨3, ![64, 128, 1024]⟩ 0 8 c v6
          ∧ r.2.mem (atDev c Cert.KernelIdeal.main_v1_7) = Layout.block ⟨3, ![8, 1024, 704]⟩ ⟨3, ![64, 1024, 704]⟩ 0 8 c v7
          ∧ r.2.mem (atDev c Cert.KernelIdeal.main_v1_8) = Layout.block ⟨3, ![8, 352, 1024]⟩ ⟨3, ![64, 352, 1024]⟩ 0 8 c v8
          ∧ r.2.mem (atDev c Cert.KernelIdeal.main_arg0) = m (atDev c Cert.KernelIdeal.main_arg0)
          ∧ r.2.mem (atDev c Cert.KernelIdeal.main_arg1) = m (atDev c Cert.KernelIdeal.main_arg1)
          ∧ r.2.mem (atDev c Cert.KernelIdeal.main_arg2) = m (atDev c Cert.KernelIdeal.main_arg2)
          ∧ r.2.mem (atDev c Cert.KernelIdeal.main_arg3) = m (atDev c Cert.KernelIdeal.main_arg3)
          ∧ r.2.mem (atDev c Cert.KernelIdeal.main_arg4) = m (atDev c Cert.KernelIdeal.main_arg4)
          ∧ r.2.mem (atDev c Cert.KernelIdeal.main_arg5) = m (atDev c Cert.KernelIdeal.main_arg5)
          ∧ r.2.mem (atDev c Cert.KernelIdeal.main_arg6) = m (atDev c Cert.KernelIdeal.main_arg6)
          ∧ r.2.mem (atDev c Cert.KernelIdeal.main_arg7) = m (atDev c Cert.KernelIdeal.main_arg7)
          ∧ r.2.mem (atDev c Cert.KernelIdeal.main_arg8) = m (atDev c Cert.KernelIdeal.main_arg8))
      ∧ θ_run (Cert.ReferenceIdeal.defs (F := F)) (onTc (τ := Cert.ReferenceIdeal.τ) (Cert.ReferenceIdeal.main (F := F))) ⟨m', fun _ => 0, g'⟩ (fun r =>
          r.2.mem (at0 Cert.ReferenceIdeal.main_v2) = v0
          ∧ r.2.mem (at0 Cert.ReferenceIdeal.main_v5) = v1
          ∧ r.2.mem (at0 Cert.ReferenceIdeal.main_v8) = v2
          ∧ r.2.mem (at0 Cert.ReferenceIdeal.main_v11) = v3
          ∧ r.2.mem (at0 Cert.ReferenceIdeal.main_v14) = v4
          ∧ r.2.mem (at0 Cert.ReferenceIdeal.main_v17) = v5
          ∧ r.2.mem (at0 Cert.ReferenceIdeal.main_v20) = v6
          ∧ r.2.mem (at0 Cert.ReferenceIdeal.main_v23) = v7
          ∧ r.2.mem (at0 Cert.ReferenceIdeal.main_v26) = v8
          ∧ r.2.mem (at0 Cert.ReferenceIdeal.main_arg0) = m' (at0 Cert.ReferenceIdeal.main_arg0)
          ∧ r.2.mem (at0 Cert.ReferenceIdeal.main_arg1) = m' (at0 Cert.ReferenceIdeal.main_arg1)
          ∧ r.2.mem (at0 Cert.ReferenceIdeal.main_arg2) = m' (at0 Cert.ReferenceIdeal.main_arg2)
          ∧ r.2.mem (at0 Cert.ReferenceIdeal.main_arg3) = m' (at0 Cert.ReferenceIdeal.main_arg3)
          ∧ r.2.mem (at0 Cert.ReferenceIdeal.main_arg4) = m' (at0 Cert.ReferenceIdeal.main_arg4)
          ∧ r.2.mem (at0 Cert.ReferenceIdeal.main_arg5) = m' (at0 Cert.ReferenceIdeal.main_arg5)
          ∧ r.2.mem (at0 Cert.ReferenceIdeal.main_arg6) = m' (at0 Cert.ReferenceIdeal.main_arg6)
          ∧ r.2.mem (at0 Cert.ReferenceIdeal.main_arg7) = m' (at0 Cert.ReferenceIdeal.main_arg7)
          ∧ r.2.mem (at0 Cert.ReferenceIdeal.main_arg8) = m' (at0 Cert.ReferenceIdeal.main_arg8))

theorem agree (F : FTy → Type) [FloatOps F] : Agree F := fun m g m' g' hm =>
  ⟨swapped (n := 1024) (k := 704) (m' (at0 Cert.ReferenceIdeal.main_arg0)) Cert.ReferenceIdeal.Gen.shapeCasts_S64x1024x704_S8x8x1024x704 Cert.ReferenceIdeal.Gen.transposes_S8x8x1024x704_S8x8x1024x704_1_0_2_3 Cert.ReferenceIdeal.Gen.shapeCasts_S8x8x1024x704_S64x1024x704,
    swapped (n := 352) (k := 1024) (m' (at0 Cert.ReferenceIdeal.main_arg1)) Cert.ReferenceIdeal.Gen.shapeCasts_S64x352x1024_S8x8x352x1024 Cert.ReferenceIdeal.Gen.transposes_S8x8x352x1024_S8x8x352x1024_1_0_2_3 Cert.ReferenceIdeal.Gen.shapeCasts_S8x8x352x1024_S64x352x1024,
    swapped (n := 1024) (k := 321) (m' (at0 Cert.ReferenceIdeal.main_arg2)) Cert.ReferenceIdeal.Gen.shapeCasts_S64x1024x321_S8x8x1024x321 Cert.ReferenceIdeal.Gen.transposes_S8x8x1024x321_S8x8x1024x321_1_0_2_3 Cert.ReferenceIdeal.Gen.shapeCasts_S8x8x1024x321_S64x1024x321,
    swapped (n := 128) (k := 1024) (m' (at0 Cert.ReferenceIdeal.main_arg3)) Cert.ReferenceIdeal.Gen.shapeCasts_S64x128x1024_S8x8x128x1024 Cert.ReferenceIdeal.Gen.transposes_S8x8x128x1024_S8x8x128x1024_1_0_2_3 Cert.ReferenceIdeal.Gen.shapeCasts_S8x8x128x1024_S64x128x1024,
    swapped (n := 128) (k := 1024) (m' (at0 Cert.ReferenceIdeal.main_arg4)) Cert.ReferenceIdeal.Gen.shapeCasts_S64x128x1024_S8x8x128x1024 Cert.ReferenceIdeal.Gen.transposes_S8x8x128x1024_S8x8x128x1024_1_0_2_3 Cert.ReferenceIdeal.Gen.shapeCasts_S8x8x128x1024_S64x128x1024,
    swapped (n := 1024) (k := 256) (m' (at0 Cert.ReferenceIdeal.main_arg5)) Cert.ReferenceIdeal.Gen.shapeCasts_S64x1024x256_S8x8x1024x256 Cert.ReferenceIdeal.Gen.transposes_S8x8x1024x256_S8x8x1024x256_1_0_2_3 Cert.ReferenceIdeal.Gen.shapeCasts_S8x8x1024x256_S64x1024x256,
    swapped (n := 128) (k := 1024) (m' (at0 Cert.ReferenceIdeal.main_arg6)) Cert.ReferenceIdeal.Gen.shapeCasts_S64x128x1024_S8x8x128x1024 Cert.ReferenceIdeal.Gen.transposes_S8x8x128x1024_S8x8x128x1024_1_0_2_3 Cert.ReferenceIdeal.Gen.shapeCasts_S8x8x128x1024_S64x128x1024,
    swapped (n := 1024) (k := 704) (m' (at0 Cert.ReferenceIdeal.main_arg7)) Cert.ReferenceIdeal.Gen.shapeCasts_S64x1024x704_S8x8x1024x704 Cert.ReferenceIdeal.Gen.transposes_S8x8x1024x704_S8x8x1024x704_1_0_2_3 Cert.ReferenceIdeal.Gen.shapeCasts_S8x8x1024x704_S64x1024x704,
    swapped (n := 352) (k := 1024) (m' (at0 Cert.ReferenceIdeal.main_arg8)) Cert.ReferenceIdeal.Gen.shapeCasts_S64x352x1024_S8x8x352x1024 Cert.ReferenceIdeal.Gen.transposes_S8x8x352x1024_S8x8x352x1024_1_0_2_3 Cert.ReferenceIdeal.Gen.shapeCasts_S8x8x352x1024_S64x352x1024,
    (θ_run (Cert.KernelIdeal.defs (F := F)) _ _).mono (fun _ h c => ⟨(h.1 c 0).2.trans (out_part m 0 c _ _ _ _ (by decide) fun p => (hm p).1),
      (h.1 c 1).2.trans (out_part m 1 c _ _ _ _ (by decide) fun p => (hm p).2.1),
      (h.1 c 2).2.trans (out_part m 2 c _ _ _ _ (by decide) fun p => (hm p).2.2.1),
      (h.1 c 3).2.trans (out_part m 3 c _ _ _ _ (by decide) fun p => (hm p).2.2.2.1),
      (h.1 c 4).2.trans (out_part m 4 c _ _ _ _ (by decide) fun p => (hm p).2.2.2.2.1),
      (h.1 c 5).2.trans (out_part m 5 c _ _ _ _ (by decide) fun p => (hm p).2.2.2.2.2.1),
      (h.1 c 6).2.trans (out_part m 6 c _ _ _ _ (by decide) fun p => (hm p).2.2.2.2.2.2.1),
      (h.1 c 7).2.trans (out_part m 7 c _ _ _ _ (by decide) fun p => (hm p).2.2.2.2.2.2.2.1),
      (h.1 c 8).2.trans (out_part m 8 c _ _ _ _ (by decide) fun p => (hm p).2.2.2.2.2.2.2.2),
      (h.1 c 0).1, (h.1 c 1).1, (h.1 c 2).1, (h.1 c 3).1, (h.1 c 4).1, (h.1 c 5).1, (h.1 c 6).1, (h.1 c 7).1, (h.1 c 8).1⟩) (run_main (F := F) m g),
    (θ_run (Cert.ReferenceIdeal.defs (F := F)) _ _).mono (fun _ h => h 0) (Cert.ReferenceIdeal.Value.run (F := F) m' g')⟩

theorem values : Cert.algebraic_KernelIdeal_ReferenceIdeal (hKernelIdeal := Cert.KernelIdeal.Gen.facts)
    (hReferenceIdeal := Cert.ReferenceIdeal.Gen.facts) := fun m g m' g' _ hm => agree Ideal m g m' g' hm

theorem bits : Cert.bitexact_Kernel_Reference (hKernel := Cert.Kernel.Gen.facts)
    (hReference := Cert.Reference.Gen.facts) := fun m g m' g' _ hm => agree Bits m g m' g' hm

end Cert.Exchange

namespace Cert.Spread

open Idealize.ShloMosaic Idealize.ShloMosaic.TcCoe Idealize.SL.Sem

/-! ## The gather's frames -/

theorem frame_kernel : Cert.quiescent_Gather (hGather := Cert.Gather.Gen.facts) := fun m g _ =>
  (θ_run (Cert.GatherIdeal.defs (F := Bits)) _ _).mono (fun _ h => ⟨fun c => ⟨(h.1 c 0).1, (h.1 c 1).1, (h.1 c 2).1, (h.1 c 3).1, (h.1 c 4).1, (h.1 c 5).1, (h.1 c 6).1, (h.1 c 7).1, (h.1 c 8).1⟩, h.2⟩) (run_main (F := Bits) m g)

theorem frame_ideal : Cert.quiescent_GatherIdeal (hGatherIdeal := Cert.GatherIdeal.Gen.facts) := fun m g _ =>
  (θ_run (Cert.GatherIdeal.defs (F := Ideal)) _ _).mono (fun _ h => ⟨fun c => ⟨(h.1 c 0).1, (h.1 c 1).1, (h.1 c 2).1, (h.1 c 3).1, (h.1 c 4).1, (h.1 c 5).1, (h.1 c 6).1, (h.1 c 7).1, (h.1 c 8).1⟩, h.2⟩) (run_main (F := Ideal) m g)

theorem frame_reference : Cert.quiescent_WholeIdeal (hWholeIdeal := Cert.WholeIdeal.Gen.facts) := fun m g _ =>
  (θ_run (Cert.WholeIdeal.defs (F := Ideal)) _ _).mono (fun r h => ⟨fun c => (h c).2.2.2.2.2.2.2.2.2, sem_eq_zero_of_no_sems (by decide) r.2⟩)
    (Cert.WholeIdeal.Value.run (F := Ideal) m g)

theorem frame_bits : Cert.quiescent_Whole (hWhole := Cert.Whole.Gen.facts) := fun m g _ =>
  (θ_run (Cert.Whole.defs (F := Bits)) _ _).mono (fun r h => ⟨fun c => (h c).2.2.2.2.2.2.2.2.2, sem_eq_zero_of_no_sems (by decide) r.2⟩)
    (Cert.Whole.Value.run (F := Bits) m g)

/-! ## The gather's values -/

/-- The kernel's result `a`, on any device, is the whole array with its rows cut into eight slots. -/
theorem out_part {F : FTy → Type} [FloatOps F] {N : Nat} (m : (ℓ : Loc Cert.GatherIdeal.nD Cert.GatherIdeal.τ Cert.GatherIdeal.sig) → Buf (Elt F) ℓ)
    (a : Fin 9) (c : Dev Cert.GatherIdeal.nD) (x : (⟨2, ![N, (arrs a).k]⟩ : Shape).Idx → Elt F .bf16)
    (h : (⟨2, ![N, (arrs a).k]⟩ : Shape).ShapeCasts ⟨3, ![8, (arrs a).n, (arrs a).k]⟩)
    (tl : Layout.Tiles ⟨2, ![(arrs a).n, (arrs a).k]⟩ ⟨2, ![N, (arrs a).k]⟩ 0 8)
    (hx : ∀ p : Dev Cert.GatherIdeal.nD, inAt m a p = Layout.block ⟨2, ![(arrs a).n, (arrs a).k]⟩ ⟨2, ![N, (arrs a).k]⟩ 0 8 p x tl) :
    (arrs a).dst.view.read (Elt F) (outAt m a c) = shapeCast ⟨3, ![8, (arrs a).n, (arrs a).k]⟩ x h :=
  (Cert.Net.fill_read _ _ _).trans (funext fun i => (congrFun (hx (i 0)) (Cert.Net.inside i)).trans (gathered_part x h tl i))

/-- Where the reference keeps a buffer. -/
abbrev at0 (b : Ref Cert.WholeIdeal.sig .tc) : Loc Cert.WholeIdeal.nD Cert.WholeIdeal.τ Cert.WholeIdeal.sig :=
  ((0 : Dev Cert.WholeIdeal.nD).tc : Thread Cert.WholeIdeal.nD Cert.WholeIdeal.τ).loc b

/-- Where the kernel keeps a buffer on device `c`. -/
abbrev atDev (c : Dev Cert.GatherIdeal.nD) (b : Ref Cert.GatherIdeal.sig .tc) : Loc Cert.GatherIdeal.nD Cert.GatherIdeal.τ Cert.GatherIdeal.sig :=
  (c.tc : Thread Cert.GatherIdeal.nD Cert.GatherIdeal.τ).loc b

/-- Kernel and reference agree, over the values `F`: the gather computes nothing, so it holds whatever they are. -/
def Agree (F : FTy → Type) [FloatOps F] : Prop :=
  ∀ (m : (ℓ : Loc Cert.GatherIdeal.nD Cert.GatherIdeal.τ Cert.GatherIdeal.sig) → Buf (Elt F) ℓ) (g : Dev Cert.GatherIdeal.nD → PrngReg)
    (m' : (ℓ : Loc Cert.WholeIdeal.nD Cert.WholeIdeal.τ Cert.WholeIdeal.sig) → Buf (Elt F) ℓ) (g' : Dev Cert.WholeIdeal.nD → PrngReg),
    (∀ c : Dev Cert.GatherIdeal.nD,
      m (atDev c Cert.GatherIdeal.main_arg0) = Layout.block ⟨2, ![1024, 704]⟩ ⟨2, ![8192, 704]⟩ 0 8 c (m' (at0 Cert.WholeIdeal.main_arg0))
      ∧ m (atDev c Cert.GatherIdeal.main_arg1) = Layout.block ⟨2, ![352, 1024]⟩ ⟨2, ![2816, 1024]⟩ 0 8 c (m' (at0 Cert.WholeIdeal.main_arg1))
      ∧ m (atDev c Cert.GatherIdeal.main_arg2) = Layout.block ⟨2, ![1024, 321]⟩ ⟨2, ![8192, 321]⟩ 0 8 c (m' (at0 Cert.WholeIdeal.main_arg2))
      ∧ m (atDev c Cert.GatherIdeal.main_arg3) = Layout.block ⟨2, ![128, 1024]⟩ ⟨2, ![1024, 1024]⟩ 0 8 c (m' (at0 Cert.WholeIdeal.main_arg3))
      ∧ m (atDev c Cert.GatherIdeal.main_arg4) = Layout.block ⟨2, ![128, 1024]⟩ ⟨2, ![1024, 1024]⟩ 0 8 c (m' (at0 Cert.WholeIdeal.main_arg4))
      ∧ m (atDev c Cert.GatherIdeal.main_arg5) = Layout.block ⟨2, ![1024, 256]⟩ ⟨2, ![8192, 256]⟩ 0 8 c (m' (at0 Cert.WholeIdeal.main_arg5))
      ∧ m (atDev c Cert.GatherIdeal.main_arg6) = Layout.block ⟨2, ![128, 1024]⟩ ⟨2, ![1024, 1024]⟩ 0 8 c (m' (at0 Cert.WholeIdeal.main_arg6))
      ∧ m (atDev c Cert.GatherIdeal.main_arg7) = Layout.block ⟨2, ![1024, 704]⟩ ⟨2, ![8192, 704]⟩ 0 8 c (m' (at0 Cert.WholeIdeal.main_arg7))
      ∧ m (atDev c Cert.GatherIdeal.main_arg8) = Layout.block ⟨2, ![352, 1024]⟩ ⟨2, ![2816, 1024]⟩ 0 8 c (m' (at0 Cert.WholeIdeal.main_arg8))) →
    ∃ (v0 : Buf (Elt F) (at0 Cert.WholeIdeal.main_v0)) (v1 : Buf (Elt F) (at0 Cert.WholeIdeal.main_v1)) (v2 : Buf (Elt F) (at0 Cert.WholeIdeal.main_v2)) (v3 : Buf (Elt F) (at0 Cert.WholeIdeal.main_v3)) (v4 : Buf (Elt F) (at0 Cert.WholeIdeal.main_v4)) (v5 : Buf (Elt F) (at0 Cert.WholeIdeal.main_v5)) (v6 : Buf (Elt F) (at0 Cert.WholeIdeal.main_v6)) (v7 : Buf (Elt F) (at0 Cert.WholeIdeal.main_v7)) (v8 : Buf (Elt F) (at0 Cert.WholeIdeal.main_v8)),
      θ_run (Cert.GatherIdeal.defs (F := F)) (onTc (τ := Cert.GatherIdeal.τ) (Cert.GatherIdeal.main (F := F))) ⟨m, fun _ => 0, g⟩ (fun r => ∀ c : Dev Cert.GatherIdeal.nD,
          r.2.mem (atDev c Cert.GatherIdeal.main_v1_0) = v0
          ∧ r.2.mem (atDev c Cert.GatherIdeal.main_v1_1) = v1
          ∧ r.2.mem (atDev c Cert.GatherIdeal.main_v1_2) = v2
          ∧ r.2.mem (atDev c Cert.GatherIdeal.main_v1_3) = v3
          ∧ r.2.mem (atDev c Cert.GatherIdeal.main_v1_4) = v4
          ∧ r.2.mem (atDev c Cert.GatherIdeal.main_v1_5) = v5
          ∧ r.2.mem (atDev c Cert.GatherIdeal.main_v1_6) = v6
          ∧ r.2.mem (atDev c Cert.GatherIdeal.main_v1_7) = v7
          ∧ r.2.mem (atDev c Cert.GatherIdeal.main_v1_8) = v8
          ∧ r.2.mem (atDev c Cert.GatherIdeal.main_arg0) = m (atDev c Cert.GatherIdeal.main_arg0)
          ∧ r.2.mem (atDev c Cert.GatherIdeal.main_arg1) = m (atDev c Cert.GatherIdeal.main_arg1)
          ∧ r.2.mem (atDev c Cert.GatherIdeal.main_arg2) = m (atDev c Cert.GatherIdeal.main_arg2)
          ∧ r.2.mem (atDev c Cert.GatherIdeal.main_arg3) = m (atDev c Cert.GatherIdeal.main_arg3)
          ∧ r.2.mem (atDev c Cert.GatherIdeal.main_arg4) = m (atDev c Cert.GatherIdeal.main_arg4)
          ∧ r.2.mem (atDev c Cert.GatherIdeal.main_arg5) = m (atDev c Cert.GatherIdeal.main_arg5)
          ∧ r.2.mem (atDev c Cert.GatherIdeal.main_arg6) = m (atDev c Cert.GatherIdeal.main_arg6)
          ∧ r.2.mem (atDev c Cert.GatherIdeal.main_arg7) = m (atDev c Cert.GatherIdeal.main_arg7)
          ∧ r.2.mem (atDev c Cert.GatherIdeal.main_arg8) = m (atDev c Cert.GatherIdeal.main_arg8))
      ∧ θ_run (Cert.WholeIdeal.defs (F := F)) (onTc (τ := Cert.WholeIdeal.τ) (Cert.WholeIdeal.main (F := F))) ⟨m', fun _ => 0, g'⟩ (fun r =>
          r.2.mem (at0 Cert.WholeIdeal.main_v0) = v0
          ∧ r.2.mem (at0 Cert.WholeIdeal.main_v1) = v1
          ∧ r.2.mem (at0 Cert.WholeIdeal.main_v2) = v2
          ∧ r.2.mem (at0 Cert.WholeIdeal.main_v3) = v3
          ∧ r.2.mem (at0 Cert.WholeIdeal.main_v4) = v4
          ∧ r.2.mem (at0 Cert.WholeIdeal.main_v5) = v5
          ∧ r.2.mem (at0 Cert.WholeIdeal.main_v6) = v6
          ∧ r.2.mem (at0 Cert.WholeIdeal.main_v7) = v7
          ∧ r.2.mem (at0 Cert.WholeIdeal.main_v8) = v8
          ∧ r.2.mem (at0 Cert.WholeIdeal.main_arg0) = m' (at0 Cert.WholeIdeal.main_arg0)
          ∧ r.2.mem (at0 Cert.WholeIdeal.main_arg1) = m' (at0 Cert.WholeIdeal.main_arg1)
          ∧ r.2.mem (at0 Cert.WholeIdeal.main_arg2) = m' (at0 Cert.WholeIdeal.main_arg2)
          ∧ r.2.mem (at0 Cert.WholeIdeal.main_arg3) = m' (at0 Cert.WholeIdeal.main_arg3)
          ∧ r.2.mem (at0 Cert.WholeIdeal.main_arg4) = m' (at0 Cert.WholeIdeal.main_arg4)
          ∧ r.2.mem (at0 Cert.WholeIdeal.main_arg5) = m' (at0 Cert.WholeIdeal.main_arg5)
          ∧ r.2.mem (at0 Cert.WholeIdeal.main_arg6) = m' (at0 Cert.WholeIdeal.main_arg6)
          ∧ r.2.mem (at0 Cert.WholeIdeal.main_arg7) = m' (at0 Cert.WholeIdeal.main_arg7)
          ∧ r.2.mem (at0 Cert.WholeIdeal.main_arg8) = m' (at0 Cert.WholeIdeal.main_arg8))

theorem agree (F : FTy → Type) [FloatOps F] : Agree F := fun m g m' g' hm =>
  ⟨shapeCast ⟨3, ![8, 1024, 704]⟩ (m' (at0 Cert.WholeIdeal.main_arg0)) Cert.WholeIdeal.Gen.shapeCasts_S8192x704_S8x1024x704,
    shapeCast ⟨3, ![8, 352, 1024]⟩ (m' (at0 Cert.WholeIdeal.main_arg1)) Cert.WholeIdeal.Gen.shapeCasts_S2816x1024_S8x352x1024,
    shapeCast ⟨3, ![8, 1024, 321]⟩ (m' (at0 Cert.WholeIdeal.main_arg2)) Cert.WholeIdeal.Gen.shapeCasts_S8192x321_S8x1024x321,
    shapeCast ⟨3, ![8, 128, 1024]⟩ (m' (at0 Cert.WholeIdeal.main_arg3)) Cert.WholeIdeal.Gen.shapeCasts_S1024x1024_S8x128x1024,
    shapeCast ⟨3, ![8, 128, 1024]⟩ (m' (at0 Cert.WholeIdeal.main_arg4)) Cert.WholeIdeal.Gen.shapeCasts_S1024x1024_S8x128x1024,
    shapeCast ⟨3, ![8, 1024, 256]⟩ (m' (at0 Cert.WholeIdeal.main_arg5)) Cert.WholeIdeal.Gen.shapeCasts_S8192x256_S8x1024x256,
    shapeCast ⟨3, ![8, 128, 1024]⟩ (m' (at0 Cert.WholeIdeal.main_arg6)) Cert.WholeIdeal.Gen.shapeCasts_S1024x1024_S8x128x1024,
    shapeCast ⟨3, ![8, 1024, 704]⟩ (m' (at0 Cert.WholeIdeal.main_arg7)) Cert.WholeIdeal.Gen.shapeCasts_S8192x704_S8x1024x704,
    shapeCast ⟨3, ![8, 352, 1024]⟩ (m' (at0 Cert.WholeIdeal.main_arg8)) Cert.WholeIdeal.Gen.shapeCasts_S2816x1024_S8x352x1024,
    (θ_run (Cert.GatherIdeal.defs (F := F)) _ _).mono (fun _ h c => ⟨(h.1 c 0).2.trans (out_part m 0 c _ _ (by decide) fun p => (hm p).1),
      (h.1 c 1).2.trans (out_part m 1 c _ _ (by decide) fun p => (hm p).2.1),
      (h.1 c 2).2.trans (out_part m 2 c _ _ (by decide) fun p => (hm p).2.2.1),
      (h.1 c 3).2.trans (out_part m 3 c _ _ (by decide) fun p => (hm p).2.2.2.1),
      (h.1 c 4).2.trans (out_part m 4 c _ _ (by decide) fun p => (hm p).2.2.2.2.1),
      (h.1 c 5).2.trans (out_part m 5 c _ _ (by decide) fun p => (hm p).2.2.2.2.2.1),
      (h.1 c 6).2.trans (out_part m 6 c _ _ (by decide) fun p => (hm p).2.2.2.2.2.2.1),
      (h.1 c 7).2.trans (out_part m 7 c _ _ (by decide) fun p => (hm p).2.2.2.2.2.2.2.1),
      (h.1 c 8).2.trans (out_part m 8 c _ _ (by decide) fun p => (hm p).2.2.2.2.2.2.2.2),
      (h.1 c 0).1, (h.1 c 1).1, (h.1 c 2).1, (h.1 c 3).1, (h.1 c 4).1, (h.1 c 5).1, (h.1 c 6).1, (h.1 c 7).1, (h.1 c 8).1⟩) (run_main (F := F) m g),
    (θ_run (Cert.WholeIdeal.defs (F := F)) _ _).mono (fun _ h => h 0) (Cert.WholeIdeal.Value.run (F := F) m' g')⟩

theorem values : Cert.algebraic_GatherIdeal_WholeIdeal (hGatherIdeal := Cert.GatherIdeal.Gen.facts)
    (hWholeIdeal := Cert.WholeIdeal.Gen.facts) := fun m g m' g' _ hm => agree Ideal m g m' g' hm

theorem bits : Cert.bitexact_Gather_Whole (hGather := Cert.Gather.Gen.facts)
    (hWhole := Cert.Whole.Gen.facts) := fun m g m' g' _ hm => agree Bits m g m' g' hm

end Cert.Spread

namespace Cert.Proof

open Idealize.ShloMosaic Idealize.SL.Sem Cert.Kernel

theorem claim : Cert.Claim := ⟨Cert.Kernel.Gen.facts, Cert.KernelIdeal.Gen.facts, Cert.ReferenceIdeal.Gen.facts, Cert.Reference.Gen.facts,
  Cert.Gather.Gen.facts, Cert.GatherIdeal.Gen.facts, Cert.WholeIdeal.Gen.facts, Cert.Whole.Gen.facts,
  Cert.Up.Gen.facts, Cert.UpIdeal.Gen.facts, Cert.UpWholeIdeal.Gen.facts,
  Cert.Down.Gen.facts, Cert.DownIdeal.Gen.facts, Cert.DownWholeIdeal.Gen.facts,
  Cert.Mix.Gen.facts, Cert.MixIdeal.Gen.facts, Cert.MixWholeIdeal.Gen.facts,
  Cert.Out.Gen.facts, Cert.OutIdeal.Gen.facts, Cert.OutWholeIdeal.Gen.facts,
  Cert.Pair.Gen.facts, Cert.PairIdeal.Gen.facts, Cert.PairWholeIdeal.Gen.facts,
  Cert.Back.Gen.facts, Cert.BackIdeal.Gen.facts, Cert.BackWholeIdeal.Gen.facts,
  Cert.Loss.Gen.facts, Cert.LossIdeal.Gen.facts, Cert.LossWholeIdeal.Gen.facts,
  Cert.GradUp.Gen.facts, Cert.GradUpIdeal.Gen.facts, Cert.GradUpWholeIdeal.Gen.facts,
  Cert.GradDown.Gen.facts, Cert.GradDownIdeal.Gen.facts, Cert.GradDownWholeIdeal.Gen.facts,
  Cert.Forth.Gen.facts, Cert.ForthIdeal.Gen.facts, Cert.ForthWholeIdeal.Gen.facts,
  Cert.Proj.Gen.facts, Cert.ProjIdeal.Gen.facts, Cert.ProjWholeIdeal.Gen.facts,
  Cert.Act.Gen.facts, Cert.ActIdeal.Gen.facts, Cert.ActWholeIdeal.Gen.facts,
  Cert.Merge.Gen.facts, Cert.MergeIdeal.Gen.facts, Cert.MergeWholeIdeal.Gen.facts,
  Cert.Tail.Gen.facts, Cert.TailIdeal.Gen.facts, Cert.TailWholeIdeal.Gen.facts,
  Cert.Exchange.frame_kernel, Cert.Exchange.frame_ideal, Cert.Exchange.frame_reference, Cert.Exchange.frame_bits,
  Cert.Spread.frame_kernel, Cert.Spread.frame_ideal, Cert.Spread.frame_reference, Cert.Spread.frame_bits,
  Cert.StepUp.frame_kernel, Cert.StepUp.frame_ideal, Cert.StepUp.frame_reference,
  Cert.StepDown.frame_kernel, Cert.StepDown.frame_ideal, Cert.StepDown.frame_reference,
  Cert.StepMix.frame_kernel, Cert.StepMix.frame_ideal, Cert.StepMix.frame_reference,
  Cert.StepOut.frame_kernel, Cert.StepOut.frame_ideal, Cert.StepOut.frame_reference,
  Cert.StepPair.frame_kernel, Cert.StepPair.frame_ideal, Cert.StepPair.frame_reference,
  Cert.Gradient.frame_kernel, Cert.Gradient.frame_ideal, Cert.Gradient.frame_reference,
  Cert.Err.frame_kernel, Cert.Err.frame_ideal, Cert.Err.frame_reference,
  Cert.WeightsUp.frame_kernel, Cert.WeightsUp.frame_ideal, Cert.WeightsUp.frame_reference,
  Cert.WeightsDown.frame_kernel, Cert.WeightsDown.frame_ideal, Cert.WeightsDown.frame_reference,
  Cert.Forward.frame_kernel, Cert.Forward.frame_ideal, Cert.Forward.frame_reference,
  Cert.Project.frame_kernel, Cert.Project.frame_ideal, Cert.Project.frame_reference,
  Cert.Slope.frame_kernel, Cert.Slope.frame_ideal, Cert.Slope.frame_reference,
  Cert.Joined.frame_kernel, Cert.Joined.frame_ideal, Cert.Joined.frame_reference,
  Cert.Rest.frame_kernel, Cert.Rest.frame_ideal, Cert.Rest.frame_reference,
  trivial, Cert.Exchange.values, Cert.Exchange.bits, trivial, Cert.Spread.values, Cert.Spread.bits,
  trivial, Cert.StepUp.values, trivial, Cert.StepDown.values, trivial, Cert.StepMix.values, trivial, Cert.StepOut.values, trivial, Cert.StepPair.values,
  trivial, Cert.Gradient.values, trivial, Cert.Err.values,
  trivial, Cert.WeightsUp.values, trivial, Cert.WeightsDown.values,
  trivial, Cert.Forward.values, trivial, Cert.Project.values, trivial, Cert.Slope.values,
  trivial, Cert.Joined.values, trivial, Cert.Rest.values⟩

end Cert.Proof

end
